-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_off_floor [hPre_finite_inputs_off_floor : Cert.Pre_finite_inputs_off_floor.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_off_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs_off_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs_off_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs_off_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_off_floor [hPre_finite_inputs_off_floor : Cert.Pre_finite_inputs_off_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_off_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs_off_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs_off_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs_off_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_products [hPre_finite_products : Cert.Pre_finite_products.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_products.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_products.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_products.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_products.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_products [hPre_finite_products : Cert.Pre_finite_products.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_products.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_products.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_products.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_products.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_heads [hPre_finite_heads : Cert.Pre_finite_heads.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.2.2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.2.2.2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.2.2.2.2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.2.2.2.2.2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.2.2.2.2.2.2.1 = (fun _ => 1#1)
    ∧ (Cert.Pre_finite_heads.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11))).2.2.2.2.2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_heads [hPre_finite_heads : Cert.Pre_finite_heads.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.2.2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.2.2.2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.2.2.2.2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.2.2.2.2.2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.2.2.2.2.2.2.1 = (fun _ => 1#1)
    ∧ (Cert.Pre_finite_heads.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10)) (m ((c.tc : Thread Cert.Reference11Ideal.nD Cert.Reference11Ideal.τ).loc Cert.Reference11Ideal.main_arg11))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs_off_floor [hKernelIdeal : Cert.KernelIdeal.Facts] [hPre_finite_inputs_off_floor : Cert.Pre_finite_inputs_off_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_off_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs_off_floor [hReferenceIdeal : Cert.ReferenceIdeal.Facts] [hPre_finite_inputs_off_floor : Cert.Pre_finite_inputs_off_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_off_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_products [hKernel4Ideal : Cert.Kernel4Ideal.Facts] [hPre_finite_products : Cert.Pre_finite_products.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_products m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_products [hReference4Ideal : Cert.Reference4Ideal.Facts] [hPre_finite_products : Cert.Pre_finite_products.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_products m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Kernel11Ideal_pre_finite_heads [hKernel11Ideal : Cert.Kernel11Ideal.Facts] [hPre_finite_heads : Cert.Pre_finite_heads.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_heads m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Reference11Ideal_pre_finite_heads [hReference11Ideal : Cert.Reference11Ideal.Facts] [hPre_finite_heads : Cert.Pre_finite_heads.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_heads m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def preserves_Kernel_KernelIdeal : Prop :=
  True

def algebraic_KernelIdeal_ReferenceIdeal_pre_finite_inputs_off_floor [hKernelIdeal : Cert.KernelIdeal.Facts] [hReferenceIdeal : Cert.ReferenceIdeal.Facts] [hPre_finite_inputs_off_floor : Cert.Pre_finite_inputs_off_floor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_off_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite_products [hKernel4Ideal : Cert.Kernel4Ideal.Facts] [hReference4Ideal : Cert.Reference4Ideal.Facts] [hPre_finite_products : Cert.Pre_finite_products.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_products m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v7) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v7) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal_pre_finite_heads [hKernel11Ideal : Cert.Kernel11Ideal.Facts] [hReference11Ideal : Cert.Reference11Ideal.Facts] [hPre_finite_heads : Cert.Pre_finite_heads.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_heads m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v1)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)) (v9 : (c : Dev Cert.Kernel11Ideal.nD) → Buf (Elt Ideal) ((c.tc : Thread Cert.Kernel11Ideal.nD Cert.Kernel11Ideal.τ).loc Cert.Kernel11Ideal.main_v0_9)) (v10 : (c : Dev Cert.Kernel11Ideal.nD) → Buf (Elt Ideal) ((c.tc : Thread Cert.Kernel11Ideal.nD Cert.Kernel11Ideal.τ).loc Cert.Kernel11Ideal.main_v0_10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v1) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_v0_9) = v9 c
          ∧ r.2.mem ((c.tc : Thread Cert.Kernel11Ideal.nD Cert.Kernel11Ideal.τ).loc Cert.Kernel11Ideal.main_v0_10) = v10 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v94) = v0 c
          ∧ r.2.mem ((c.tc : Thread Cert.Reference11Ideal.nD Cert.Reference11Ideal.τ).loc Cert.Reference11Ideal.main_v120) = v1 c
          ∧ r.2.mem ((c.tc : Thread Cert.Reference11Ideal.nD Cert.Reference11Ideal.τ).loc Cert.Reference11Ideal.main_v146) = v2 c
          ∧ r.2.mem ((c.tc : Thread Cert.Reference11Ideal.nD Cert.Reference11Ideal.τ).loc Cert.Reference11Ideal.main_v148) = v3 c
          ∧ r.2.mem ((c.tc : Thread Cert.Reference11Ideal.nD Cert.Reference11Ideal.τ).loc Cert.Reference11Ideal.main_v149) = v4 c
          ∧ r.2.mem ((c.tc : Thread Cert.Reference11Ideal.nD Cert.Reference11Ideal.τ).loc Cert.Reference11Ideal.main_v151) = v5 c
          ∧ r.2.mem ((c.tc : Thread Cert.Reference11Ideal.nD Cert.Reference11Ideal.τ).loc Cert.Reference11Ideal.main_v152) = v6 c
          ∧ r.2.mem ((c.tc : Thread Cert.Reference11Ideal.nD Cert.Reference11Ideal.τ).loc Cert.Reference11Ideal.main_v153) = v7 c
          ∧ r.2.mem ((c.tc : Thread Cert.Reference11Ideal.nD Cert.Reference11Ideal.τ).loc Cert.Reference11Ideal.main_v91) = v8 c
          ∧ r.2.mem ((c.tc : Thread Cert.Reference11Ideal.nD Cert.Reference11Ideal.τ).loc Cert.Reference11Ideal.main_v105) = v9 c
          ∧ r.2.mem ((c.tc : Thread Cert.Reference11Ideal.nD Cert.Reference11Ideal.τ).loc Cert.Reference11Ideal.main_v131) = v10 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_inputs_off_floor : Cert.Pre_finite_inputs_off_floor.Facts) (hPre_finite_products : Cert.Pre_finite_products.Facts) (hPre_finite_heads : Cert.Pre_finite_heads.Facts),
    quiescent_Kernel (hKernel := hKernel)
    ∧ quiescent_KernelIdeal (hKernelIdeal := hKernelIdeal)
    ∧ quiescent_KernelIdeal_pre_finite_inputs_off_floor (hKernelIdeal := hKernelIdeal) (hPre_finite_inputs_off_floor := hPre_finite_inputs_off_floor)
    ∧ quiescent_ReferenceIdeal (hReferenceIdeal := hReferenceIdeal)
    ∧ quiescent_ReferenceIdeal_pre_finite_inputs_off_floor (hReferenceIdeal := hReferenceIdeal) (hPre_finite_inputs_off_floor := hPre_finite_inputs_off_floor)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_products (hKernel4Ideal := hKernel4Ideal) (hPre_finite_products := hPre_finite_products)
    ∧ quiescent_Reference4Ideal (hReference4Ideal := hReference4Ideal)
    ∧ quiescent_Reference4Ideal_pre_finite_products (hReference4Ideal := hReference4Ideal) (hPre_finite_products := hPre_finite_products)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_heads (hKernel11Ideal := hKernel11Ideal) (hPre_finite_heads := hPre_finite_heads)
    ∧ quiescent_Reference11Ideal (hReference11Ideal := hReference11Ideal)
    ∧ quiescent_Reference11Ideal_pre_finite_heads (hReference11Ideal := hReference11Ideal) (hPre_finite_heads := hPre_finite_heads)
    ∧ preserves_Kernel_KernelIdeal
    ∧ algebraic_KernelIdeal_ReferenceIdeal_pre_finite_inputs_off_floor (hKernelIdeal := hKernelIdeal) (hReferenceIdeal := hReferenceIdeal) (hPre_finite_inputs_off_floor := hPre_finite_inputs_off_floor)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_products (hKernel4Ideal := hKernel4Ideal) (hReference4Ideal := hReference4Ideal) (hPre_finite_products := hPre_finite_products)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_heads (hKernel11Ideal := hKernel11Ideal) (hReference11Ideal := hReference11Ideal) (hPre_finite_heads := hPre_finite_heads)
-- ==== Pre_finite_heads.lean ====
abbrev S8192x1024 : Shape := ⟨2, ![8192, 1024]⟩
abbrev S8192x10752 : Shape := ⟨2, ![8192, 10752]⟩
abbrev S8192x512 : Shape := ⟨2, ![8192, 512]⟩
abbrev S1x128 : Shape := ⟨2, ![1, 128]⟩
abbrev S1x3072 : Shape := ⟨2, ![1, 3072]⟩
abbrev S2x512x1024 : Shape := ⟨3, ![2, 512, 1024]⟩
abbrev S2x1024x1024 : Shape := ⟨3, ![2, 1024, 1024]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

class Facts : Prop where
  slices_S8192x10752_S8192x512_0_4608 : S8192x10752.Slices ![0, 4608] S8192x512
  slices_S8192x10752_S8192x1024_0_8192 : S8192x10752.Slices ![0, 8192] S8192x1024
  bcast_S_S8192x1024 : S_.BroadcastsInDim S8192x1024 (![] : Fin 0 → Fin S8192x1024.rank)
  bitsLt_bf16_f32 : FTy.bits .bf16 < FTy.bits .f32
  bcast_S_S8192x512 : S_.BroadcastsInDim S8192x512 (![] : Fin 0 → Fin S8192x512.rank)
  bcast_S_S1x128 : S_.BroadcastsInDim S1x128 (![] : Fin 0 → Fin S1x128.rank)
  slices_S2x512x1024_S1x512x1024_0_0_0 : S2x512x1024.Slices ![0, 0, 0] S1x512x1024
  shapeCasts_S1x512x1024_S512x1024 : S1x512x1024.ShapeCasts S512x1024
  bcast_S_S512x1024 : S_.BroadcastsInDim S512x1024 (![] : Fin 0 → Fin S512x1024.rank)
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)

variable [Facts]

def fn_part2 {F : FTy → Type} [FloatOps F] (main_v4 : IVec S8192x1024 1) (main_v8 : IVec S8192x512 1) (main_v12 : IVec S8192x1024 1) (main_v15 : IVec S8192x512 1) (main_v18 : IVec S8192x1024 1) (main_v21 : IVec S1x128 1) (main_v24 : IVec S1x128 1) (main_v30 : IVec S512x1024 1) (main_v36 : IVec S1024x1024 1) (main_v38 : FVec F S1024x1024 .bf16) : IVec S8192x1024 1 × IVec S8192x512 1 × IVec S8192x1024 1 × IVec S8192x512 1 × IVec S8192x1024 1 × IVec S1x128 1 × IVec S1x128 1 × IVec S512x1024 1 × IVec S1024x1024 1 × IVec S1024x1024 1 :=
  let main_v39 : FVec F S1024x1024 .f32 := (extf .f32 · bitsLt_bf16_f32) main_v38
  let main_v40 : FVec F S1024x1024 .f32 := Host.absf main_v39
  let main_cst_8 : FVec F S_ .f32 := constant S_ .f32 0x7F800000#32
  let main_v41 : FVec F S1024x1024 .f32 := broadcastInDim S1024x1024 ![] bcast_S_S1024x1024 main_cst_8
  let main_v42 : IVec S1024x1024 1 := cmpf .olt main_v40 main_v41
  (main_v4, main_v8, main_v12, main_v15, main_v18, main_v21, main_v24, main_v30, main_v36, main_v42)

def fn_part1 {F : FTy → Type} [FloatOps F] (main_arg5 : FVec F S1x128 .f32) (main_arg6 : FVec F S1x128 .f32) (main_arg9 : FVec F S2x512x1024 .bf16) (main_arg10 : FVec F S2x1024x1024 .bf16) (main_arg11 : FVec F S2x1024x1024 .bf16) (main_v4 : IVec S8192x1024 1) (main_v8 : IVec S8192x512 1) (main_v12 : IVec S8192x1024 1) (main_v15 : IVec S8192x512 1) (main_v18 : IVec S8192x1024 1) : IVec S8192x1024 1 × IVec S8192x512 1 × IVec S8192x1024 1 × IVec S8192x512 1 × IVec S8192x1024 1 × IVec S1x128 1 × IVec S1x128 1 × IVec S512x1024 1 × IVec S1024x1024 1 × IVec S1024x1024 1 :=
  let main_v19 : FVec F S1x128 .f32 := Host.absf main_arg5
  let main_cst_4 : FVec F S_ .f32 := constant S_ .f32 0x7F800000#32
  let main_v20 : FVec F S1x128 .f32 := broadcastInDim S1x128 ![] bcast_S_S1x128 main_cst_4
  let main_v21 : IVec S1x128 1 := cmpf .olt main_v19 main_v20
  let main_v22 : FVec F S1x128 .f32 := Host.absf main_arg6
  let main_cst_5 : FVec F S_ .f32 := constant S_ .f32 0x7F800000#32
  let main_v23 : FVec F S1x128 .f32 := broadcastInDim S1x128 ![] bcast_S_S1x128 main_cst_5
  let main_v24 : IVec S1x128 1 := cmpf .olt main_v22 main_v23
  let main_v25 : FVec F S1x512x1024 .bf16 := (extractStridedSlice S1x512x1024 ![0, 0, 0] · slices_S2x512x1024_S1x512x1024_0_0_0) main_arg9
  let main_v26 : FVec F S512x1024 .bf16 := shapeCast S512x1024 main_v25 shapeCasts_S1x512x1024_S512x1024
  let main_v27 : FVec F S512x1024 .f32 := (extf .f32 · bitsLt_bf16_f32) main_v26
  let main_v28 : FVec F S512x1024 .f32 := Host.absf main_v27
  let main_cst_6 : FVec F S_ .f32 := constant S_ .f32 0x7F800000#32
  let main_v29 : FVec F S512x1024 .f32 := broadcastInDim S512x1024 ![] bcast_S_S512x1024 main_cst_6
  let main_v30 : IVec S512x1024 1 := cmpf .olt main_v28 main_v29
  let main_v31 : FVec F S1x1024x1024 .bf16 := (extractStridedSlice S1x1024x1024 ![0, 0, 0] · slices_S2x1024x1024_S1x1024x1024_0_0_0) main_arg10
  let main_v32 : FVec F S1024x1024 .bf16 := shapeCast S1024x1024 main_v31 shapeCasts_S1x1024x1024_S1024x1024
  let main_v33 : FVec F S1024x1024 .f32 := (extf .f32 · bitsLt_bf16_f32) main_v32
  let main_v34 : FVec F S1024x1024 .f32 := Host.absf main_v33
  let main_cst_7 : FVec F S_ .f32 := constant S_ .f32 0x7F800000#32
  let main_v35 : FVec F S1024x1024 .f32 := broadcastInDim S1024x1024 ![] bcast_S_S1024x1024 main_cst_7
  let main_v36 : IVec S1024x1024 1 := cmpf .olt main_v34 main_v35
  let main_v37 : FVec F S1x1024x1024 .bf16 := (extractStridedSlice S1x1024x1024 ![0, 0, 0] · slices_S2x1024x1024_S1x1024x1024_0_0_0) main_arg11
  let main_v38 : FVec F S1024x1024 .bf16 := shapeCast S1024x1024 main_v37 shapeCasts_S1x1024x1024_S1024x1024
  fn_part2 (F := F) main_v4 main_v8 main_v12 main_v15 main_v18 main_v21 main_v24 main_v30 main_v36 main_v38

def fn {F : FTy → Type} [FloatOps F] (main_arg0 : FVec F S8192x1024 .f32) (main_arg1 : FVec F S8192x10752 .bf16) (main_arg2 : FVec F S8192x512 .bf16) (main_arg3 : FVec F S8192x512 .f32) (main_arg4 : FVec F S8192x1024 .f32) (main_arg5 : FVec F S1x128 .f32) (main_arg6 : FVec F S1x128 .f32) (main_arg7 : FVec F S1x3072 .f32) (main_arg8 : FVec F S2x512x1024 .bf16) (main_arg9 : FVec F S2x512x1024 .bf16) (main_arg10 : FVec F S2x1024x1024 .bf16) (main_arg11 : FVec F S2x1024x1024 .bf16) : IVec S8192x1024 1 × IVec S8192x512 1 × IVec S8192x1024 1 × IVec S8192x512 1 × IVec S8192x1024 1 × IVec S1x128 1 × IVec S1x128 1 × IVec S512x1024 1 × IVec S1024x1024 1 × IVec S1024x1024 1 :=
  let main_v0 : FVec F S8192x512 .bf16 := (extractStridedSlice S8192x512 ![0, 4608] · slices_S8192x10752_S8192x512_0_4608) main_arg1
  let main_v1 : FVec F S8192x1024 .bf16 := (extractStridedSlice S8192x1024 ![0, 8192] · slices_S8192x10752_S8192x1024_0_8192) main_arg1
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x512 .f32 := (extf .f32 · bitsLt_bf16_f32) main_v0
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_v9 : FVec F S8192x1024 .f32 := (extf .f32 · bitsLt_bf16_f32) main_v1
  let main_v10 : FVec F S8192x1024 .f32 := Host.absf main_v9
  let main_cst_1 : FVec F S_ .f32 := constant S_ .f32 0x7F800000#32
  let main_v11 : FVec F S8192x1024 .f32 := broadcastInDim S8192x1024 ![] bcast_S_S8192x1024 main_cst_1
  let main_v12 : IVec S8192x1024 1 := cmpf .olt main_v10 main_v11
  let main_v13 : FVec F S8192x512 .f32 := Host.absf main_arg3
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_v16 : FVec F S8192x1024 .f32 := Host.absf main_arg4
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  fn_part1 (F := F) main_arg5 main_arg6 main_arg9 main_arg10 main_arg11 main_v4 main_v8 main_v12 main_v15 main_v18
-- ==== Pre_finite_inputs_off_floor.lean ====
abbrev S8192x10752 : Shape := ⟨2, ![8192, 10752]⟩
abbrev S1x512 : Shape := ⟨2, ![1, 512]⟩
abbrev S8192x512 : Shape := ⟨2, ![8192, 512]⟩
abbrev S8192x1536 : Shape := ⟨2, ![8192, 1536]⟩
abbrev S8192x4x3x128 : Shape := ⟨4, ![8192, 4, 3, 128]⟩
abbrev S8192x4x1x128 : Shape := ⟨4, ![8192, 4, 1, 128]⟩
abbrev S8192x4x128 : Shape := ⟨3, ![8192, 4, 128]⟩
abbrev S4x128 : Shape := ⟨2, ![4, 128]⟩
abbrev S_ : Shape := ⟨0, ![]⟩
abbrev S1x4x128 : Shape := ⟨3, ![1, 4, 128]⟩

class Facts : Prop where
  slices_S8192x10752_S8192x1536_0_9216 : S8192x10752.Slices ![0, 9216] S8192x1536
  bitsLt_bf16_f32 : FTy.bits .bf16 < FTy.bits .f32
  shapeCasts_S8192x1536_S8192x4x3x128 : S8192x1536.ShapeCasts S8192x4x3x128
  slices_S8192x4x3x128_S8192x4x1x128_0_0_0_0 : S8192x4x3x128.Slices ![0, 0, 0, 0] S8192x4x1x128
  shapeCasts_S8192x4x1x128_S8192x4x128 : S8192x4x1x128.ShapeCasts S8192x4x128
  slices_S8192x4x3x128_S8192x4x1x128_0_0_1_0 : S8192x4x3x128.Slices ![0, 0, 1, 0] S8192x4x1x128
  slices_S8192x4x3x128_S8192x4x1x128_0_0_2_0 : S8192x4x3x128.Slices ![0, 0, 2, 0] S8192x4x1x128
  shapeCasts_S1x512_S4x128 : S1x512.ShapeCasts S4x128
  bcast_S_S8192x1536 : S_.BroadcastsInDim S8192x1536 (![] : Fin 0 → Fin S8192x1536.rank)
  bcast_S_S1x512 : S_.BroadcastsInDim S1x512 (![] : Fin 0 → Fin S1x512.rank)
  bcast_S_S8192x512 : S_.BroadcastsInDim S8192x512 (![] : Fin 0 → Fin S8192x512.rank)
  bcast_S_S4x128 : S_.BroadcastsInDim S4x128 (![] : Fin 0 → Fin S4x128.rank)
  bcast_S_S8192x4x128 : S_.BroadcastsInDim S8192x4x128 (![] : Fin 0 → Fin S8192x4x128.rank)
  bcast_S4x128_S1x4x128_1_2 : S4x128.BroadcastsInDim S1x4x128 (![1, 2] : Fin 2 → Fin S1x4x128.rank)
  bcast_S1x4x128_S8192x4x128_0_1_2 : S1x4x128.BroadcastsInDim S8192x4x128 (![0, 1, 2] : Fin 3 → Fin S8192x4x128.rank)

variable [Facts]

def fn_part1 {F : FTy → Type} [FloatOps F] (main_v6 : FVec F S8192x4x128 .f32) (main_v9 : FVec F S4x128 .f32) (main_v14 : IVec S8192x1536 1) (main_v17 : IVec S1x512 1) (main_v20 : IVec S8192x512 1) : IVec S8192x1536 1 × IVec S1x512 1 × IVec S8192x512 1 × IVec S8192x4x128 1 :=
  let main_cst_2 : FVec F S_ .f32 := constant S_ .f32 0x3F800000#32
  let main_v21 : FVec F S4x128 .f32 := broadcastInDim S4x128 ![] bcast_S_S4x128 main_cst_2
  let main_v22 : FVec F S4x128 .f32 := subf main_v21 main_v9
  let main_v23 : FVec F S8192x4x128 .f32 := Host.negf main_v6
  let main_v24 : FVec F S8192x4x128 .f32 := Host.exp main_v23
  let main_cst_3 : FVec F S_ .f32 := constant S_ .f32 0x3F800000#32
  let main_v25 : FVec F S8192x4x128 .f32 := broadcastInDim S8192x4x128 ![] bcast_S_S8192x4x128 main_cst_3
  let main_v26 : FVec F S8192x4x128 .f32 := addf main_v25 main_v24
  let main_cst_4 : FVec F S_ .f32 := constant S_ .f32 0x3F800000#32
  let main_v27 : FVec F S8192x4x128 .f32 := broadcastInDim S8192x4x128 ![] bcast_S_S8192x4x128 main_cst_4
  let main_v28 : FVec F S8192x4x128 .f32 := Host.divf main_v27 main_v26
  let main_v29 : FVec F S1x4x128 .f32 := broadcastInDim S1x4x128 ![1, 2] bcast_S4x128_S1x4x128_1_2 main_v22
  let main_v30 : FVec F S8192x4x128 .f32 := broadcastInDim S8192x4x128 ![0, 1, 2] bcast_S1x4x128_S8192x4x128_0_1_2 main_v29
  let main_v31 : FVec F S8192x4x128 .f32 := mulf main_v30 main_v28
  let main_v32 : FVec F S1x4x128 .f32 := broadcastInDim S1x4x128 ![1, 2] bcast_S4x128_S1x4x128_1_2 main_v9
  let main_v33 : FVec F S8192x4x128 .f32 := broadcastInDim S8192x4x128 ![0, 1, 2] bcast_S1x4x128_S8192x4x128_0_1_2 main_v32
  let main_v34 : FVec F S8192x4x128 .f32 := addf main_v33 main_v31
  let main_cst_5 : FVec F S_ .f32 := constant S_ .f32 0x0DA24260#32
  let main_v35 : FVec F S8192x4x128 .f32 := broadcastInDim S8192x4x128 ![] bcast_S_S8192x4x128 main_cst_5
  let main_v36 : IVec S8192x4x128 1 := cmpf .une main_v34 main_v35
  (main_v14, main_v17, main_v20, main_v36)

def fn {F : FTy → Type} [FloatOps F] (main_arg0 : FVec F S8192x10752 .bf16) (main_arg1 : FVec F S1x512 .f32) (main_arg2 : FVec F S8192x512 .f32) (main_arg3 : FVec F S8192x10752 .bf16) : IVec S8192x1536 1 × IVec S1x512 1 × IVec S8192x512 1 × IVec S8192x4x128 1 :=
  let main_v0 : FVec F S8192x1536 .bf16 := (extractStridedSlice S8192x1536 ![0, 9216] · slices_S8192x10752_S8192x1536_0_9216) main_arg0
  let main_v1 : FVec F S8192x1536 .f32 := (extf .f32 · bitsLt_bf16_f32) main_v0
  let main_v2 : FVec F S8192x4x3x128 .f32 := shapeCast S8192x4x3x128 main_v1 shapeCasts_S8192x1536_S8192x4x3x128
  let main_v3 : FVec F S8192x4x1x128 .f32 := (extractStridedSlice S8192x4x1x128 ![0, 0, 0, 0] · slices_S8192x4x3x128_S8192x4x1x128_0_0_0_0) main_v2
  let main_v4 : FVec F S8192x4x128 .f32 := shapeCast S8192x4x128 main_v3 shapeCasts_S8192x4x1x128_S8192x4x128
  let main_v5 : FVec F S8192x4x1x128 .f32 := (extractStridedSlice S8192x4x1x128 ![0, 0, 1, 0] · slices_S8192x4x3x128_S8192x4x1x128_0_0_1_0) main_v2
  let main_v6 : FVec F S8192x4x128 .f32 := shapeCast S8192x4x128 main_v5 shapeCasts_S8192x4x1x128_S8192x4x128
  let main_v7 : FVec F S8192x4x1x128 .f32 := (extractStridedSlice S8192x4x1x128 ![0, 0, 2, 0] · slices_S8192x4x3x128_S8192x4x1x128_0_0_2_0) main_v2
  let main_v8 : FVec F S8192x4x128 .f32 := shapeCast S8192x4x128 main_v7 shapeCasts_S8192x4x1x128_S8192x4x128
  let main_v9 : FVec F S4x128 .f32 := shapeCast S4x128 main_arg1 shapeCasts_S1x512_S4x128
  let main_v10 : FVec F S8192x1536 .bf16 := (extractStridedSlice S8192x1536 ![0, 9216] · slices_S8192x10752_S8192x1536_0_9216) main_arg0
  let main_v11 : FVec F S8192x1536 .f32 := (extf .f32 · bitsLt_bf16_f32) main_v10
  let main_v12 : FVec F S8192x1536 .f32 := Host.absf main_v11
  let main_cst : FVec F S_ .f32 := constant S_ .f32 0x7F800000#32
  let main_v13 : FVec F S8192x1536 .f32 := broadcastInDim S8192x1536 ![] bcast_S_S8192x1536 main_cst
  let main_v14 : IVec S8192x1536 1 := cmpf .olt main_v12 main_v13
  let main_v15 : FVec F S1x512 .f32 := Host.absf main_arg1
  let main_cst_0 : FVec F S_ .f32 := constant S_ .f32 0x7F800000#32
  let main_v16 : FVec F S1x512 .f32 := broadcastInDim S1x512 ![] bcast_S_S1x512 main_cst_0
  let main_v17 : IVec S1x512 1 := cmpf .olt main_v15 main_v16
  let main_v18 : FVec F S8192x512 .f32 := Host.absf main_arg2
  let main_cst_1 : FVec F S_ .f32 := constant S_ .f32 0x7F800000#32
  let main_v19 : FVec F S8192x512 .f32 := broadcastInDim S8192x512 ![] bcast_S_S8192x512 main_cst_1
  let main_v20 : IVec S8192x512 1 := cmpf .olt main_v18 main_v19
  fn_part1 (F := F) main_v6 main_v9 main_v14 main_v17 main_v20
-- ==== Pre_finite_products.lean ====
abbrev S8192x10752 : Shape := ⟨2, ![8192, 10752]⟩
abbrev S1024x10752 : Shape := ⟨2, ![1024, 10752]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x10752 : S_.BroadcastsInDim S8192x10752 (![] : Fin 0 → Fin S8192x10752.rank)
  bcast_S_S1024x10752 : S_.BroadcastsInDim S1024x10752 (![] : Fin 0 → Fin S1024x10752.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x10752 .bf16) (main_arg1 : FVec F S1024x10752 .bf16) (main_arg2 : FVec F S8192x1024 .f32) (main_arg3 : FVec F S1x1024 .f32) (main_arg4 : FVec F S8192x1024 .f32) : IVec S8192x10752 1 × IVec S1024x10752 1 × IVec S8192x1024 1 × IVec S1x1024 1 :=
  let main_v0 : FVec F S8192x10752 .f32 := (extf .f32 · bitsLt_bf16_f32) main_arg0
  let main_v1 : FVec F S8192x10752 .f32 := Host.absf main_v0
  let main_cst : FVec F S_ .f32 := constant S_ .f32 0x7F800000#32
  let main_v2 : FVec F S8192x10752 .f32 := broadcastInDim S8192x10752 ![] bcast_S_S8192x10752 main_cst
  let main_v3 : IVec S8192x10752 1 := cmpf .olt main_v1 main_v2
  let main_v4 : FVec F S1024x10752 .f32 := (extf .f32 · bitsLt_bf16_f32) main_arg1
  let main_v5 : FVec F S1024x10752 .f32 := Host.absf main_v4
  let main_cst_0 : FVec F S_ .f32 := constant S_ .f32 0x7F800000#32
  let main_v6 : FVec F S1024x10752 .f32 := broadcastInDim S1024x10752 ![] bcast_S_S1024x10752 main_cst_0
  let main_v7 : IVec S1024x10752 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Kernel.lean ====
abbrev S8192x10752 : Shape := ⟨2, ![8192, 10752]⟩
abbrev S1x512 : Shape := ⟨2, ![1, 512]⟩
abbrev S8192x512 : Shape := ⟨2, ![8192, 512]⟩
abbrev S8192x1536 : Shape := ⟨2, ![8192, 1536]⟩
abbrev S8192x4x3x128 : Shape := ⟨4, ![8192, 4, 3, 128]⟩
abbrev S8192x4x1x128 : Shape := ⟨4, ![8192, 4, 1, 128]⟩
abbrev S8192x4x128 : Shape := ⟨3, ![8192, 4, 128]⟩
abbrev S4x128 : Shape := ⟨2, ![4, 128]⟩
abbrev S_ : Shape := ⟨0, ![]⟩
abbrev S1x4x128 : Shape := ⟨3, ![1, 4, 128]⟩
abbrev S127x4x128 : Shape := ⟨3, ![127, 4, 128]⟩
abbrev S128x4x128 : Shape := ⟨3, ![128, 4, 128]⟩
abbrev S8192 : Shape := ⟨1, ![8192]⟩
abbrev S1x8192 : Shape := ⟨2, ![1, 8192]⟩
abbrev S128 : Shape := ⟨1, ![128]⟩
abbrev S128x1 : Shape := ⟨2, ![128, 1]⟩
abbrev S128x8192 : Shape := ⟨2, ![128, 8192]⟩
abbrev S128x8192x1x1 : Shape := ⟨4, ![128, 8192, 1, 1]⟩
abbrev S128x1x4x128 : Shape := ⟨4, ![128, 1, 4, 128]⟩
abbrev S1x8192x4x128 : Shape := ⟨4, ![1, 8192, 4, 128]⟩
abbrev S128x8192x4x128 : Shape := ⟨4, ![128, 8192, 4, 128]⟩
abbrev S4x128x128x128 : Shape := ⟨4, ![4, 128, 128, 128]⟩
abbrev S256x384 : Shape := ⟨2, ![256, 384]⟩
abbrev S1x128 : Shape := ⟨2, ![1, 128]⟩
abbrev S1x4x128x128 : Shape := ⟨4, ![1, 4, 128, 128]⟩
abbrev S256x128 : Shape := ⟨2, ![256, 128]⟩
abbrev S128x128 : Shape := ⟨2, ![128, 128]⟩
abbrev S4x64x128 : Shape := ⟨3, ![4, 64, 128]⟩
abbrev S4x1x128 : Shape := ⟨3, ![4, 1, 128]⟩
abbrev S4x128x128 : Shape := ⟨3, ![4, 128, 128]⟩
abbrev S1x128x128 : Shape := ⟨3, ![1, 128, 128]⟩
abbrev S1x1x128 : Shape := ⟨3, ![1, 1, 128]⟩
abbrev S4x16x128 : Shape := ⟨3, ![4, 16, 128]⟩
abbrev S4x16x16 : Shape := ⟨3, ![4, 16, 16]⟩
abbrev S4x48x128 : Shape := ⟨3, ![4, 48, 128]⟩
abbrev S4x32x128 : Shape := ⟨3, ![4, 32, 128]⟩
abbrev S4x16x32 : Shape := ⟨3, ![4, 16, 32]⟩
abbrev S4x16x48 : Shape := ⟨3, ![4, 16, 48]⟩
abbrev S16x16x128 : Shape := ⟨3, ![16, 16, 128]⟩
abbrev S16x1x128 : Shape := ⟨3, ![16, 1, 128]⟩
abbrev S16x16 : Shape := ⟨2, ![16, 16]⟩
abbrev S16x16x1 : Shape := ⟨3, ![16, 16, 1]⟩
abbrev S16x128 : Shape := ⟨2, ![16, 128]⟩

abbrev nBuf : Space → Nat
  | .hbm => 91
  | .vmem => 13
  | .smem => 0
  | _ => 0

abbrev bufTy : (tb : Table) → Fin (tcTables nBuf tb) → BufTy
  | .hbm, ⟨0, _⟩ => ⟨S8192x10752, .bf16⟩
  | .hbm, ⟨1, _⟩ => ⟨S1x512, .f32⟩
  | .hbm, ⟨2, _⟩ => ⟨S8192x512, .f32⟩
  | .hbm, ⟨3, _⟩ => ⟨S8192x10752, .bf16⟩
  | .hbm, ⟨4, _⟩ => ⟨S8192x1536, .bf16⟩
  | .hbm, ⟨5, _⟩ => ⟨S8192x1536, .f32⟩
  | .hbm, ⟨6, _⟩ => ⟨S8192x4x3x128, .f32⟩
  | .hbm, ⟨7, _⟩ => ⟨S8192x4x1x128, .f32⟩
  | .hbm, ⟨8, _⟩ => ⟨S8192x4x128, .f32⟩
  | .hbm, ⟨9, _⟩ => ⟨S8192x4x1x128, .f32⟩
  | .hbm, ⟨10, _⟩ => ⟨S8192x4x128, .f32⟩
  | .hbm, ⟨11, _⟩ => ⟨S8192x4x1x128, .f32⟩
  | .hbm, ⟨12, _⟩ => ⟨S8192x4x128, .f32⟩
  | .hbm, ⟨13, _⟩ => ⟨S4x128, .f32⟩
  | .hbm, ⟨14, _⟩ => ⟨S8192x4x128, .f32⟩
  | .hbm, ⟨15, _⟩ => ⟨S8192x4x128, .f32⟩
  | .hbm, ⟨16, _⟩ => ⟨S_, .f32⟩
  | .hbm, ⟨17, _⟩ => ⟨S8192x4x128, .f32⟩
  | .hbm, ⟨18, _⟩ => ⟨S8192x4x128, .f32⟩
  | .hbm, ⟨19, _⟩ => ⟨S_, .f32⟩
  | .hbm, ⟨20, _⟩ => ⟨S8192x4x128, .f32⟩
  | .hbm, ⟨21, _⟩ => ⟨S8192x4x128, .f32⟩
  | .hbm, ⟨22, _⟩ => ⟨S8192x4x128, .f32⟩
  | .hbm, ⟨23, _⟩ => ⟨S_, .f32⟩
  | .hbm, ⟨24, _⟩ => ⟨S8192x4x128, .f32⟩
  | .hbm, ⟨25, _⟩ => ⟨S8192x4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S8192x4x128, .f32⟩
  | .hbm, ⟨30, _⟩ => ⟨S8192x4x128, .f32⟩
  | .hbm, ⟨31, _⟩ => ⟨S_, .f32⟩
  | .hbm, ⟨32, _⟩ => ⟨S8192x4x128, .f32⟩
  | .hbm, ⟨33, _⟩ => ⟨S8192x4x128, .f32⟩
  | .hbm, ⟨34, _⟩ => ⟨S_, .f32⟩
  | .hbm, ⟨35, _⟩ => ⟨S8192x4x128, .f32⟩
  | .hbm, ⟨36, _⟩ => ⟨S8192x4x128, .f32⟩
  | .hbm, ⟨37, _⟩ => ⟨S1x4x128, .f32⟩
  | .hbm, ⟨38, _⟩ => ⟨S8192x4x128, .f32⟩
  | .hbm, ⟨39, _⟩ => ⟨S8192x4x128, .f32⟩
  | .hbm, ⟨40, _⟩ => ⟨S1x4x128, .f32⟩
  | .hbm, ⟨41, _⟩ => ⟨S8192x4x128, .f32⟩
  | .hbm, ⟨42, _⟩ => ⟨S8192x4x128, .f32⟩
  | .hbm, ⟨43, _⟩ => ⟨S_, .f32⟩
  | .hbm, ⟨44, _⟩ => ⟨S8192x4x128, .f32⟩
  | .hbm, ⟨45, _⟩ => ⟨S8192x4x128, .f32⟩
  | .hbm, ⟨46, _⟩ => ⟨S8192x4x128, .f32⟩
  | .hbm, ⟨47, _⟩ => ⟨S_, .f32⟩
  | .hbm, ⟨48, _⟩ => ⟨S8192x4x128, .f32⟩
  | .hbm, ⟨49, _⟩ => ⟨S8192x4x128, .f32⟩
  | .hbm, ⟨50, _⟩ => ⟨S_, .f32⟩
  | .hbm, ⟨51, _⟩ => ⟨S_, .f32⟩
  | .hbm, ⟨52, _⟩ => ⟨S8192x4x128, .f32⟩
  | .hbm, ⟨53, _⟩ => ⟨S_, .f32⟩
  | .hbm, ⟨54, _⟩ => ⟨S1x4x128, .f32⟩
  | .hbm, ⟨55, _⟩ => ⟨S127x4x128, .f32⟩
  | .hbm, ⟨56, _⟩ => ⟨S128x4x128, .f32⟩
  | .hbm, ⟨57, _⟩ => ⟨S8192, .i32⟩
  | .hbm, ⟨58, _⟩ => ⟨S1x8192, .i32⟩
  | .hbm, ⟨59, _⟩ => ⟨S128, .i32⟩
  | .hbm, ⟨60, _⟩ => ⟨S128x1, .i32⟩
  | .hbm, ⟨61, _⟩ => ⟨S_, .i32⟩
  | .hbm, ⟨62, _⟩ => ⟨S128x1, .i32⟩
  | .hbm, ⟨63, _⟩ => ⟨S128x1, .i32⟩
  | .hbm, ⟨64, _⟩ => ⟨S128x8192, .i32⟩
  | .hbm, ⟨65, _⟩ => ⟨S128x8192, .i32⟩
  | .hbm, ⟨66, _⟩ => ⟨S128x8192, .i1⟩
  | .hbm, ⟨67, _⟩ => ⟨S128x8192x1x1, .i1⟩
  | .hbm, ⟨68, _⟩ => ⟨S128x1x4x128, .f32⟩
  | .hbm, ⟨69, _⟩ => ⟨S1x8192x4x128, .f32⟩
  | .hbm, ⟨70, _⟩ => ⟨S128x8192x4x128, .f32⟩
  | .hbm, ⟨71, _⟩ => ⟨S128x8192x4x128, .f32⟩
  | .hbm, ⟨72, _⟩ => ⟨S128x8192x4x128, .f32⟩
  | .hbm, ⟨73, _⟩ => ⟨S_, .f32⟩
  | .hbm, ⟨74, _⟩ => ⟨S_, .f32⟩
  | .hbm, ⟨75, _⟩ => ⟨S128x8192x4x128, .i1⟩
  | .hbm, ⟨76, _⟩ => ⟨S128x8192x4x128, .f32⟩
  | .hbm, ⟨77, _⟩ => ⟨S128x8192x4x128, .f32⟩
  | .hbm, ⟨78, _⟩ => ⟨S128x8192x4x128, .f32⟩
  | .hbm, ⟨79, _⟩ => ⟨S_, .f32⟩
  | .hbm, ⟨80, _⟩ => ⟨S_, .f32⟩
  | .hbm, ⟨81, _⟩ => ⟨S128x8192x4x128, .i1⟩
  | .hbm, ⟨82, _⟩ => ⟨S128x8192x4x128, .f32⟩
  | .hbm, ⟨83, _⟩ => ⟨S128x8192x4x128, .f32⟩
  | .hbm, ⟨84, _⟩ => ⟨S1x8192x4x128, .f32⟩
  | .hbm, ⟨85, _⟩ => ⟨S128x8192x4x128, .f32⟩
  | .hbm, ⟨86, _⟩ => ⟨S128x8192x4x128, .f32⟩
  | .hbm, ⟨87, _⟩ => ⟨S4x128x128x128, .f32⟩
  | .hbm, ⟨88, _⟩ => ⟨S4x128x128x128, .f32⟩
  | .hbm, ⟨89, _⟩ => ⟨S8192x10752, .bf16⟩
  | .hbm, ⟨90, _⟩ => ⟨S1x512, .f32⟩
  | .local _ .vmem, ⟨0, _⟩ => ⟨S256x384, .bf16⟩
  | .local _ .vmem, ⟨1, _⟩ => ⟨S256x384, .bf16⟩
  | .local _ .vmem, ⟨2, _⟩ => ⟨S1x128, .f32⟩
  | .local _ .vmem, ⟨3, _⟩ => ⟨S1x128, .f32⟩
  | .local _ .vmem, ⟨4, _⟩ => ⟨S1x4x128x128, .f32⟩
  | .local _ .vmem, ⟨5, _⟩ => ⟨S1x4x128x128, .f32⟩
  | .local _ .vmem, ⟨6, _⟩ => ⟨S256x128, .f32⟩
  | .local _ .vmem, ⟨7, _⟩ => ⟨S256x128, .f32⟩
  | .local _ .vmem, ⟨8, _⟩ => ⟨S256x384, .bf16⟩
  | .local _ .vmem, ⟨9, _⟩ => ⟨S256x384, .bf16⟩
  | .local _ .vmem, ⟨10, _⟩ => ⟨S1x128, .f32⟩
  | .local _ .vmem, ⟨11, _⟩ => ⟨S1x128, .f32⟩
  | .local _ .vmem, ⟨12, _⟩ => ⟨S128x128, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_call1_call0_cst : Ref sig .tc := ⟨.hbm, 50, rfl⟩
abbrev main_call1_call0_v0 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59_0 : Ref sig .tc := ⟨.hbm, 89, rfl⟩
abbrev main_v59_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c24_i32 : BitVec 32 := 24#32
  let v1 : BitVec 32 := Scalar.addi c24_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c24_i32 : BitVec 32 := 24#32
  let v1 : BitVec 32 := Scalar.addi c24_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x10752 : Shape := ⟨2, ![8192, 10752]⟩
abbrev S1x512 : Shape := ⟨2, ![1, 512]⟩
abbrev S8192x512 : Shape := ⟨2, ![8192, 512]⟩
abbrev S8192x1536 : Shape := ⟨2, ![8192, 1536]⟩
abbrev S8192x4x3x128 : Shape := ⟨4, ![8192, 4, 3, 128]⟩
abbrev S8192x4x1x128 : Shape := ⟨4, ![8192, 4, 1, 128]⟩
abbrev S8192x4x128 : Shape := ⟨3, ![8192, 4, 128]⟩
abbrev S4x128 : Shape := ⟨2, ![4, 128]⟩
abbrev S_ : Shape := ⟨0, ![]⟩
abbrev S1x4x128 : Shape := ⟨3, ![1, 4, 128]⟩
abbrev S8192x8192 : Shape := ⟨2, ![8192, 8192]⟩
abbrev S8192x8192x1x1 : Shape := ⟨4, ![8192, 8192, 1, 1]⟩
abbrev S8192x1x4x128 : Shape := ⟨4, ![8192, 1, 4, 128]⟩
abbrev S1x8192x4x128 : Shape := ⟨4, ![1, 8192, 4, 128]⟩
abbrev S8192x8192x4x128 : Shape := ⟨4, ![8192, 8192, 4, 128]⟩
abbrev S8192x8192x4 : Shape := ⟨3, ![8192, 8192, 4]⟩
abbrev S4x128x8192 : Shape := ⟨3, ![4, 128, 8192]⟩
abbrev S4x8192x8192 : Shape := ⟨3, ![4, 8192, 8192]⟩
abbrev S8192x9216 : Shape := ⟨2, ![8192, 9216]⟩

abbrev nBuf : Space → Nat
  | .hbm => 198
  | .vmem => 0
  | .smem => 0
  | _ => 0

abbrev hbmTy0_0 (i : Nat) : BufTy := match i % 128 with
  | 0 => ⟨S8192x10752, .bf16⟩
  | 1 => ⟨S1x512, .f32⟩
  | 2 => ⟨S8192x512, .f32⟩
  | 3 => ⟨S8192x10752, .bf16⟩
  | 4 => ⟨S8192x1536, .bf16⟩
  | 5 => ⟨S8192x1536, .f32⟩
  | 6 => ⟨S8192x4x3x128, .f32⟩
  | 7 => ⟨S8192x4x1x128, .f32⟩
  | 8 => ⟨S8192x4x128, .f32⟩
  | 9 => ⟨S8192x4x1x128, .f32⟩
  | 10 => ⟨S8192x4x128, .f32⟩
  | 11 => ⟨S8192x4x1x128, .f32⟩
  | 12 => ⟨S8192x4x128, .f32⟩
  | 13 => ⟨S4x128, .f32⟩
  | 14 => ⟨S8192x4x128, .f32⟩
  | 15 => ⟨S8192x4x128, .f32⟩
  | 16 => ⟨S_, .f32⟩
  | 17 => ⟨S8192x4x128, .f32⟩
  | 18 => ⟨S8192x4x128, .f32⟩
  | 19 => ⟨S_, .f32⟩
  | 20 => ⟨S8192x4x128, .f32⟩
  | 21 => ⟨S8192x4x128, .f32⟩
  | 22 => ⟨S_, .f32⟩
  | 23 => ⟨S8192x4x128, .f32⟩
  | 24 => ⟨S8192x4x128, .f32⟩
  | 25 => ⟨S8192x4x128, .f32⟩
  | 26 => ⟨S8192x4x128, .f32⟩
  | 27 => ⟨S_, .f32⟩
  | 28 => ⟨S8192x4x128, .f32⟩
  | 29 => ⟨S8192x4x128, .f32⟩
  | 30 => ⟨S_, .f32⟩
  | 31 => ⟨S4x128, .f32⟩
  | 32 => ⟨S4x128, .f32⟩
  | 33 => ⟨S8192x4x128, .f32⟩
  | 34 => ⟨S8192x4x128, .f32⟩
  | 35 => ⟨S_, .f32⟩
  | 36 => ⟨S8192x4x128, .f32⟩
  | 37 => ⟨S8192x4x128, .f32⟩
  | 38 => ⟨S_, .f32⟩
  | 39 => ⟨S8192x4x128, .f32⟩
  | 40 => ⟨S8192x4x128, .f32⟩
  | 41 => ⟨S_, .f32⟩
  | 42 => ⟨S8192x4x128, .f32⟩
  | 43 => ⟨S8192x4x128, .f32⟩
  | 44 => ⟨S8192x4x128, .f32⟩
  | 45 => ⟨S1x4x128, .f32⟩
  | 46 => ⟨S8192x4x128, .f32⟩
  | 47 => ⟨S8192x4x128, .f32⟩
  | 48 => ⟨S1x4x128, .f32⟩
  | 49 => ⟨S8192x4x128, .f32⟩
  | 50 => ⟨S8192x4x128, .f32⟩
  | 51 => ⟨S_, .f32⟩
  | 52 => ⟨S8192x4x128, .f32⟩
  | 53 => ⟨S8192x4x128, .f32⟩
  | 54 => ⟨S_, .f32⟩
  | 55 => ⟨S8192x4x128, .f32⟩
  | 56 => ⟨S8192x4x128, .i1⟩
  | 57 => ⟨S_, .f32⟩
  | 58 => ⟨S8192x4x128, .f32⟩
  | 59 => ⟨S8192x4x128, .i1⟩
  | 60 => ⟨S_, .f32⟩
  | 61 => ⟨S8192x4x128, .f32⟩
  | 62 => ⟨S_, .f32⟩
  | 63 => ⟨S8192x4x128, .f32⟩
  | 64 => ⟨S_, .f32⟩
  | 65 => ⟨S8192x4x128, .f32⟩
  | 66 => ⟨S8192x4x128, .f32⟩
  | 67 => ⟨S8192x4x128, .f32⟩
  | 68 => ⟨S8192x4x128, .f32⟩
  | 69 => ⟨S_, .f32⟩
  | 70 => ⟨S8192x4x128, .f32⟩
  | 71 => ⟨S8192x4x128, .f32⟩
  | 72 => ⟨S_, .f32⟩
  | 73 => ⟨S_, .f32⟩
  | 74 => ⟨S8192x4x128, .f32⟩
  | 75 => ⟨S_, .i1⟩
  | 76 => ⟨S8192x8192, .i1⟩
  | 77 => ⟨S8192x8192, .i32⟩
  | 78 => ⟨S_, .i32⟩
  | 79 => ⟨S8192x8192, .i32⟩
  | 80 => ⟨S8192x8192, .i32⟩
  | 81 => ⟨S8192x8192, .i32⟩
  | 82 => ⟨S8192x8192, .i1⟩
  | 83 => ⟨S_, .i1⟩
  | 84 => ⟨S8192x8192, .i1⟩
  | 85 => ⟨S8192x8192, .i1⟩
  | 86 => ⟨S8192x8192x1x1, .i1⟩
  | 87 => ⟨S8192x1x4x128, .f32⟩
  | 88 => ⟨S1x8192x4x128, .f32⟩
  | 89 => ⟨S8192x8192x4x128, .f32⟩
  | 90 => ⟨S8192x8192x4x128, .f32⟩
  | 91 => ⟨S8192x8192x4x128, .f32⟩
  | 92 => ⟨S_, .f32⟩
  | 93 => ⟨S_, .f32⟩
  | 94 => ⟨S8192x8192x4x128, .i1⟩
  | 95 => ⟨S8192x8192x4x128, .f32⟩
  | 96 => ⟨S8192x8192x4x128, .f32⟩
  | 97 => ⟨S_, .f32⟩
  | 98 => ⟨S8192x8192x4x128, .f32⟩
  | 99 => ⟨S8192x8192x4x128, .f32⟩
  | 100 => ⟨S_, .f32⟩
  | 101 => ⟨S_, .f32⟩
  | 102 => ⟨S8192x8192x4x128, .i1⟩
  | 103 => ⟨S8192x8192x4x128, .f32⟩
  | 104 => ⟨S8192x8192x4x128, .f32⟩
  | 105 => ⟨S_, .f32⟩
  | 106 => ⟨S8192x8192x4x128, .f32⟩
  | 107 => ⟨S8192x1x4x128, .f32⟩
  | 108 => ⟨S8192x8192x4x128, .f32⟩
  | 109 => ⟨S8192x8192x4x128, .f32⟩
  | 110 => ⟨S1x8192x4x128, .f32⟩
  | 111 => ⟨S8192x8192x4x128, .f32⟩
  | 112 => ⟨S8192x8192x4x128, .f32⟩
  | 113 => ⟨S_, .f32⟩
  | 114 => ⟨S8192x8192x4, .f32⟩
  | 115 => ⟨S4x128x8192, .f32⟩
  | 116 => ⟨S8192x4x128, .f32⟩
  | 117 => ⟨S8192x4x128, .f32⟩
  | 118 => ⟨S4x128x8192, .f32⟩
  | 119 => ⟨S4x8192x8192, .f32⟩
  | 120 => ⟨S8192x8192x4, .f32⟩
  | 121 => ⟨S4x128x8192, .f32⟩
  | 122 => ⟨S8192x4x128, .f32⟩
  | 123 => ⟨S8192x8192x4x128, .f32⟩
  | 124 => ⟨S8192x8192x4x128, .f32⟩
  | 125 => ⟨S_, .f32⟩
  | 126 => ⟨S8192x4x128, .f32⟩
  | 127 => ⟨S1x8192x4x128, .f32⟩
  | _ => ⟨S8192x10752, .bf16⟩

abbrev hbmTy0_1 (i : Nat) : BufTy := match i % 128 with
  | 0 => ⟨S8192x8192x4x128, .f32⟩
  | 1 => ⟨S8192x8192x4x128, .f32⟩
  | 2 => ⟨S_, .f32⟩
  | 3 => ⟨S8192x4x128, .f32⟩
  | 4 => ⟨S8192x8192x4x128, .f32⟩
  | 5 => ⟨S8192x8192x4x128, .f32⟩
  | 6 => ⟨S8192x8192x4x128, .f32⟩
  | 7 => ⟨S_, .f32⟩
  | 8 => ⟨S8192x4x128, .f32⟩
  | 9 => ⟨S8192x1x4x128, .f32⟩
  | 10 => ⟨S_, .f32⟩
  | 11 => ⟨S8192x4x128, .f32⟩
  | 12 => ⟨S_, .f32⟩
  | 13 => ⟨S8192x8192x4x128, .f32⟩
  | 14 => ⟨S8192x8192x4x128, .f32⟩
  | 15 => ⟨S8192x8192x4x128, .f32⟩
  | 16 => ⟨S_, .f32⟩
  | 17 => ⟨S8192x8192x4x128, .f32⟩
  | 18 => ⟨S8192x8192x4x128, .f32⟩
  | 19 => ⟨S_, .f32⟩
  | 20 => ⟨S8192x4x128, .f32⟩
  | 21 => ⟨S8192x1x4x128, .f32⟩
  | 22 => ⟨S8192x8192x4x128, .f32⟩
  | 23 => ⟨S_, .f32⟩
  | 24 => ⟨S8192x4x128, .f32⟩
  | 25 => ⟨S1x8192x4x128, .f32⟩
  | 26 => ⟨S_, .f32⟩
  | 27 => ⟨S8192x4x128, .f32⟩
  | 28 => ⟨S_, .f32⟩
  | 29 => ⟨S8192x4x128, .f32⟩
  | 30 => ⟨S8192x4x128, .f32⟩
  | 31 => ⟨S_, .f32⟩
  | 32 => ⟨S_, .f32⟩
  | 33 => ⟨S8192x4x128, .f32⟩
  | 34 => ⟨S8192x4x128, .f32⟩
  | 35 => ⟨S8192x4x128, .f32⟩
  | 36 => ⟨S8192x4x128, .f32⟩
  | 37 => ⟨S8192x4x128, .f32⟩
  | 38 => ⟨S_, .f32⟩
  | 39 => ⟨S4x128, .f32⟩
  | 40 => ⟨S1x4x128, .f32⟩
  | 41 => ⟨S_, .f32⟩
  | 42 => ⟨S4x128, .f32⟩
  | 43 => ⟨S8192x4x128, .f32⟩
  | 44 => ⟨S8192x4x128, .f32⟩
  | 45 => ⟨S8192x4x128, .f32⟩
  | 46 => ⟨S_, .f32⟩
  | 47 => ⟨S4x128, .f32⟩
  | 48 => ⟨S1x4x128, .f32⟩
  | 49 => ⟨S_, .f32⟩
  | 50 => ⟨S4x128, .f32⟩
  | 51 => ⟨S8192x4x128, .f32⟩
  | 52 => ⟨S4x128, .f32⟩
  | 53 => ⟨S4x128, .f32⟩
  | 54 => ⟨S_, .f32⟩
  | 55 => ⟨S8192x4x128, .f32⟩
  | 56 => ⟨S8192x4x128, .f32⟩
  | 57 => ⟨S8192x4x128, .f32⟩
  | 58 => ⟨S8192x4x128, .f32⟩
  | 59 => ⟨S8192x4x128, .f32⟩
  | 60 => ⟨S8192x4x128, .f32⟩
  | 61 => ⟨S8192x4x1x128, .f32⟩
  | 62 => ⟨S8192x4x1x128, .f32⟩
  | 63 => ⟨S8192x4x1x128, .f32⟩
  | 64 => ⟨S8192x4x3x128, .f32⟩
  | 65 => ⟨S8192x1536, .f32⟩
  | 66 => ⟨S8192x1536, .bf16⟩
  | 67 => ⟨S8192x9216, .bf16⟩
  | 68 => ⟨S8192x10752, .bf16⟩
  | 69 => ⟨S1x512, .f32⟩
  | _ => ⟨S8192x10752, .bf16⟩

abbrev hbmTy (i : Nat) : BufTy := match i / 128 with
  | 0 => hbmTy0_0 i
  | 1 => hbmTy0_1 i
  | _ => ⟨S8192x10752, .bf16⟩

abbrev bufTy : (tb : Table) → Fin (tcTables nBuf tb) → BufTy
  | .hbm, ⟨i, _⟩ => hbmTy i
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v10_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v10_1 : Ref sig .tc := ⟨.hbm, 25, rfl⟩
abbrev main_v10_0 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_call1_call0_cst : Ref sig .tc := ⟨.hbm, 72, rfl⟩
abbrev main_call1_call0_v0 : Ref sig .tc := ⟨.hbm, 73, rfl⟩
abbrev main_v44 : Ref sig .tc := ⟨.hbm, 74, rfl⟩
abbrev main_c : Ref sig .tc := ⟨.hbm, 75, rfl⟩
abbrev main_v45 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_11 : Ref sig .tc := ⟨.hbm, 92, rfl⟩
abbrev main_call3_v0 : Ref sig .tc := ⟨.hbm, 93, rfl⟩
abbrev main_v53_1 : Ref sig .tc := ⟨.hbm, 94, rfl⟩
abbrev main_call3_v2 : Ref sig .tc := ⟨.hbm, 95, rfl⟩
abbrev main_v53_0 : Ref sig .tc := ⟨.hbm, 96, rfl⟩
abbrev main_call3_cst : Ref sig .tc := ⟨.hbm, 97, rfl⟩
abbrev main_v53_2 : Ref sig .tc := ⟨.hbm, 98, rfl⟩
abbrev main_v54 : Ref sig .tc := ⟨.hbm, 99, rfl⟩
abbrev main_cst_12 : Ref sig .tc := ⟨.hbm, 100, rfl⟩
abbrev main_call4_v0 : Ref sig .tc := ⟨.hbm, 101, rfl⟩
abbrev main_v55_1 : Ref sig .tc := ⟨.hbm, 102, rfl⟩
abbrev main_call4_v2 : Ref sig .tc := ⟨.hbm, 103, rfl⟩
abbrev main_v55_0 : Ref sig .tc := ⟨.hbm, 104, rfl⟩
abbrev main_call4_cst : Ref sig .tc := ⟨.hbm, 105, rfl⟩
abbrev main_v55_2 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_13 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_14 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_15 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_16 : Ref sig .tc := ⟨.hbm, 135, rfl⟩
abbrev main_v81 : Ref sig .tc := ⟨.hbm, 136, rfl⟩
abbrev main_v82 : Ref sig .tc := ⟨.hbm, 137, rfl⟩
abbrev main_cst_17 : Ref sig .tc := ⟨.hbm, 138, rfl⟩
abbrev main_v83 : Ref sig .tc := ⟨.hbm, 139, rfl⟩
abbrev main_call5_cst : Ref sig .tc := ⟨.hbm, 140, rfl⟩
abbrev main_call5_v0 : Ref sig .tc := ⟨.hbm, 141, rfl⟩
abbrev main_v84 : Ref sig .tc := ⟨.hbm, 142, rfl⟩
abbrev main_v85 : Ref sig .tc := ⟨.hbm, 143, rfl⟩
abbrev main_call6_cst : Ref sig .tc := ⟨.hbm, 144, rfl⟩
abbrev main_call6_v0 : Ref sig .tc := ⟨.hbm, 145, rfl⟩
abbrev main_v86 : Ref sig .tc := ⟨.hbm, 146, rfl⟩
abbrev main_cst_18 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_19 : Ref sig .tc := ⟨.hbm, 151, rfl⟩
abbrev main_v90 : Ref sig .tc := ⟨.hbm, 152, rfl⟩
abbrev main_v91 : Ref sig .tc := ⟨.hbm, 153, rfl⟩
abbrev main_cst_20 : Ref sig .tc := ⟨.hbm, 154, rfl⟩
abbrev main_v92 : Ref sig .tc := ⟨.hbm, 155, rfl⟩
abbrev main_cst_21 : Ref sig .tc := ⟨.hbm, 156, rfl⟩
abbrev main_v93 : Ref sig .tc := ⟨.hbm, 157, rfl⟩
abbrev main_v94 : Ref sig .tc := ⟨.hbm, 158, rfl⟩
abbrev main_call7_call0_cst : Ref sig .tc := ⟨.hbm, 159, rfl⟩
abbrev main_call7_call0_v0 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_22 : Ref sig .tc := ⟨.hbm, 166, rfl⟩
abbrev main_v100 : Ref sig .tc := ⟨.hbm, 167, rfl⟩
abbrev main_v101 : Ref sig .tc := ⟨.hbm, 168, rfl⟩
abbrev main_cst_23 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_24 : Ref sig .tc := ⟨.hbm, 174, rfl⟩
abbrev main_v106 : Ref sig .tc := ⟨.hbm, 175, rfl⟩
abbrev main_v107 : Ref sig .tc := ⟨.hbm, 176, rfl⟩
abbrev main_cst_25 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_26 : Ref sig .tc := ⟨.hbm, 182, rfl⟩
abbrev main_v112 : Ref sig .tc := ⟨.hbm, 183, rfl⟩
abbrev main_v113 : Ref sig .tc := ⟨.hbm, 184, rfl⟩
abbrev main_call8_v0 : Ref sig .tc := ⟨.hbm, 185, rfl⟩
abbrev main_call8_v1 : Ref sig .tc := ⟨.hbm, 186, rfl⟩
abbrev main_call8_v2 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩

abbrev nD : Nat := 1
abbrev τ : Topo := Topo.v7x

variable {F : FTy → Type} [FloatOps F]
-- ==== Kernel2.lean ====
abbrev S8192x10752 : Shape := ⟨2, ![8192, 10752]⟩
abbrev S1x512 : Shape := ⟨2, ![1, 512]⟩
abbrev S8192x512 : Shape := ⟨2, ![8192, 512]⟩
abbrev S4x128x128x128 : Shape := ⟨4, ![4, 128, 128, 128]⟩
abbrev S1024x384 : Shape := ⟨2, ![1024, 384]⟩
abbrev S1x128 : Shape := ⟨2, ![1, 128]⟩
abbrev S1024x128 : Shape := ⟨2, ![1024, 128]⟩
abbrev S1x16x128x128 : Shape := ⟨4, ![1, 16, 128, 128]⟩
abbrev S128x128 : Shape := ⟨2, ![128, 128]⟩
abbrev S16x64x128 : Shape := ⟨3, ![16, 64, 128]⟩
abbrev S16x1x128 : Shape := ⟨3, ![16, 1, 128]⟩
abbrev S16x16x128 : Shape := ⟨3, ![16, 16, 128]⟩
abbrev S16x16x16 : Shape := ⟨3, ![16, 16, 16]⟩
abbrev S16x32x128 : Shape := ⟨3, ![16, 32, 128]⟩
abbrev S16x16x32 : Shape := ⟨3, ![16, 16, 32]⟩
abbrev S16x48x128 : Shape := ⟨3, ![16, 48, 128]⟩
abbrev S16x16x48 : Shape := ⟨3, ![16, 16, 48]⟩
abbrev S64x16x128 : Shape := ⟨3, ![64, 16, 128]⟩
abbrev S64x1x128 : Shape := ⟨3, ![64, 1, 128]⟩
abbrev S64x16 : Shape := ⟨2, ![64, 16]⟩
abbrev S64x16x1 : Shape := ⟨3, ![64, 16, 1]⟩
abbrev S1x1x128x128 : Shape := ⟨4, ![1, 1, 128, 128]⟩
abbrev S1x64x128 : Shape := ⟨3, ![1, 64, 128]⟩
abbrev S64x128 : Shape := ⟨2, ![64, 128]⟩
abbrev S1x1x128 : Shape := ⟨3, ![1, 1, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x10752, .bf16⟩
  | .hbm, ⟨1, _⟩ => ⟨S1x512, .f32⟩
  | .hbm, ⟨2, _⟩ => ⟨S8192x512, .f32⟩
  | .hbm, ⟨3, _⟩ => ⟨S4x128x128x128, .f32⟩
  | .local _ .vmem, ⟨0, _⟩ => ⟨S1024x384, .bf16⟩
  | .local _ .vmem, ⟨1, _⟩ => ⟨S1024x384, .bf16⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1x16x128x128, .f32⟩
  | .local _ .vmem, ⟨7, _⟩ => ⟨S1x16x128x128, .f32⟩
  | .local _ .vmem, ⟨8, _⟩ => ⟨S128x128, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x10752 : Shape := ⟨2, ![8192, 10752]⟩
abbrev S1x512 : Shape := ⟨2, ![1, 512]⟩
abbrev S8192x1536 : Shape := ⟨2, ![8192, 1536]⟩
abbrev S8192x4x3x128 : Shape := ⟨4, ![8192, 4, 3, 128]⟩
abbrev S8192x4x1x128 : Shape := ⟨4, ![8192, 4, 1, 128]⟩
abbrev S8192x4x128 : Shape := ⟨3, ![8192, 4, 128]⟩
abbrev S4x128 : Shape := ⟨2, ![4, 128]⟩
abbrev S_ : Shape := ⟨0, ![]⟩
abbrev S1x4x128 : Shape := ⟨3, ![1, 4, 128]⟩
abbrev S8192x8192 : Shape := ⟨2, ![8192, 8192]⟩
abbrev S8192x8192x1x1 : Shape := ⟨4, ![8192, 8192, 1, 1]⟩
abbrev S8192x1x4x128 : Shape := ⟨4, ![8192, 1, 4, 128]⟩
abbrev S1x8192x4x128 : Shape := ⟨4, ![1, 8192, 4, 128]⟩
abbrev S8192x8192x4x128 : Shape := ⟨4, ![8192, 8192, 4, 128]⟩
abbrev S8192x8192x4 : Shape := ⟨3, ![8192, 8192, 4]⟩
abbrev S4x128x8192 : Shape := ⟨3, ![4, 128, 8192]⟩
abbrev S8192x512 : Shape := ⟨2, ![8192, 512]⟩
abbrev S127x4x128 : Shape := ⟨3, ![127, 4, 128]⟩
abbrev S128x4x128 : Shape := ⟨3, ![128, 4, 128]⟩
abbrev S8192 : Shape := ⟨1, ![8192]⟩
abbrev S1x8192 : Shape := ⟨2, ![1, 8192]⟩
abbrev S128 : Shape := ⟨1, ![128]⟩
abbrev S128x1 : Shape := ⟨2, ![128, 1]⟩
abbrev S128x8192 : Shape := ⟨2, ![128, 8192]⟩
abbrev S128x8192x1x1 : Shape := ⟨4, ![128, 8192, 1, 1]⟩
abbrev S128x1x4x128 : Shape := ⟨4, ![128, 1, 4, 128]⟩
abbrev S128x8192x4x128 : Shape := ⟨4, ![128, 8192, 4, 128]⟩
abbrev S4x128x128x128 : Shape := ⟨4, ![4, 128, 128, 128]⟩

abbrev nBuf : Space → Nat
  | .hbm => 165
  | .vmem => 0
  | .smem => 0
  | _ => 0

abbrev hbmTy0_0 (i : Nat) : BufTy := match i % 128 with
  | 0 => ⟨S8192x10752, .bf16⟩
  | 1 => ⟨S1x512, .f32⟩
  | 2 => ⟨S8192x1536, .bf16⟩
  | 3 => ⟨S8192x1536, .f32⟩
  | 4 => ⟨S8192x4x3x128, .f32⟩
  | 5 => ⟨S8192x4x1x128, .f32⟩
  | 6 => ⟨S8192x4x128, .f32⟩
  | 7 => ⟨S8192x4x1x128, .f32⟩
  | 8 => ⟨S8192x4x128, .f32⟩
  | 9 => ⟨S8192x4x1x128, .f32⟩
  | 10 => ⟨S8192x4x128, .f32⟩
  | 11 => ⟨S4x128, .f32⟩
  | 12 => ⟨S8192x4x128, .f32⟩
  | 13 => ⟨S8192x4x128, .f32⟩
  | 14 => ⟨S_, .f32⟩
  | 15 => ⟨S8192x4x128, .f32⟩
  | 16 => ⟨S8192x4x128, .f32⟩
  | 17 => ⟨S_, .f32⟩
  | 18 => ⟨S8192x4x128, .f32⟩
  | 19 => ⟨S8192x4x128, .f32⟩
  | 20 => ⟨S8192x4x128, .f32⟩
  | 21 => ⟨S_, .f32⟩
  | 22 => ⟨S8192x4x128, .f32⟩
  | 23 => ⟨S8192x4x128, .f32⟩
  | 24 => ⟨S_, .f32⟩
  | 25 => ⟨S4x128, .f32⟩
  | 26 => ⟨S4x128, .f32⟩
  | 27 => ⟨S8192x4x128, .f32⟩
  | 28 => ⟨S8192x4x128, .f32⟩
  | 29 => ⟨S_, .f32⟩
  | 30 => ⟨S8192x4x128, .f32⟩
  | 31 => ⟨S8192x4x128, .f32⟩
  | 32 => ⟨S_, .f32⟩
  | 33 => ⟨S8192x4x128, .f32⟩
  | 34 => ⟨S8192x4x128, .f32⟩
  | 35 => ⟨S1x4x128, .f32⟩
  | 36 => ⟨S8192x4x128, .f32⟩
  | 37 => ⟨S8192x4x128, .f32⟩
  | 38 => ⟨S1x4x128, .f32⟩
  | 39 => ⟨S8192x4x128, .f32⟩
  | 40 => ⟨S8192x4x128, .f32⟩
  | 41 => ⟨S_, .f32⟩
  | 42 => ⟨S8192x4x128, .f32⟩
  | 43 => ⟨S8192x4x128, .f32⟩
  | 44 => ⟨S8192x4x128, .f32⟩
  | 45 => ⟨S_, .f32⟩
  | 46 => ⟨S8192x4x128, .f32⟩
  | 47 => ⟨S8192x4x128, .f32⟩
  | 48 => ⟨S_, .f32⟩
  | 49 => ⟨S_, .f32⟩
  | 50 => ⟨S8192x4x128, .f32⟩
  | 51 => ⟨S_, .i1⟩
  | 52 => ⟨S8192x8192, .i1⟩
  | 53 => ⟨S8192x8192, .i32⟩
  | 54 => ⟨S_, .i32⟩
  | 55 => ⟨S8192x8192, .i32⟩
  | 56 => ⟨S8192x8192, .i32⟩
  | 57 => ⟨S8192x8192, .i32⟩
  | 58 => ⟨S8192x8192, .i1⟩
  | 59 => ⟨S_, .i1⟩
  | 60 => ⟨S8192x8192, .i1⟩
  | 61 => ⟨S8192x8192, .i1⟩
  | 62 => ⟨S8192x8192x1x1, .i1⟩
  | 63 => ⟨S8192x1x4x128, .f32⟩
  | 64 => ⟨S1x8192x4x128, .f32⟩
  | 65 => ⟨S8192x8192x4x128, .f32⟩
  | 66 => ⟨S8192x8192x4x128, .f32⟩
  | 67 => ⟨S8192x8192x4x128, .f32⟩
  | 68 => ⟨S_, .f32⟩
  | 69 => ⟨S_, .f32⟩
  | 70 => ⟨S8192x8192x4x128, .i1⟩
  | 71 => ⟨S8192x8192x4x128, .f32⟩
  | 72 => ⟨S8192x8192x4x128, .f32⟩
  | 73 => ⟨S8192x8192x4x128, .f32⟩
  | 74 => ⟨S_, .f32⟩
  | 75 => ⟨S_, .f32⟩
  | 76 => ⟨S8192x8192x4x128, .i1⟩
  | 77 => ⟨S8192x8192x4x128, .f32⟩
  | 78 => ⟨S8192x8192x4x128, .f32⟩
  | 79 => ⟨S8192x1x4x128, .f32⟩
  | 80 => ⟨S8192x8192x4x128, .f32⟩
  | 81 => ⟨S8192x8192x4x128, .f32⟩
  | 82 => ⟨S1x8192x4x128, .f32⟩
  | 83 => ⟨S8192x8192x4x128, .f32⟩
  | 84 => ⟨S8192x8192x4x128, .f32⟩
  | 85 => ⟨S_, .f32⟩
  | 86 => ⟨S8192x8192x4, .f32⟩
  | 87 => ⟨S4x128x8192, .f32⟩
  | 88 => ⟨S8192x4x128, .f32⟩
  | 89 => ⟨S8192x512, .f32⟩
  | 90 => ⟨S8192x4x128, .f32⟩
  | 91 => ⟨S8192x4x128, .f32⟩
  | 92 => ⟨S_, .f32⟩
  | 93 => ⟨S8192x4x128, .f32⟩
  | 94 => ⟨S8192x4x128, .f32⟩
  | 95 => ⟨S_, .f32⟩
  | 96 => ⟨S8192x4x128, .f32⟩
  | 97 => ⟨S8192x4x128, .f32⟩
  | 98 => ⟨S8192x4x128, .f32⟩
  | 99 => ⟨S_, .f32⟩
  | 100 => ⟨S8192x4x128, .f32⟩
  | 101 => ⟨S8192x4x128, .f32⟩
  | 102 => ⟨S_, .f32⟩
  | 103 => ⟨S4x128, .f32⟩
  | 104 => ⟨S4x128, .f32⟩
  | 105 => ⟨S8192x4x128, .f32⟩
  | 106 => ⟨S8192x4x128, .f32⟩
  | 107 => ⟨S_, .f32⟩
  | 108 => ⟨S8192x4x128, .f32⟩
  | 109 => ⟨S8192x4x128, .f32⟩
  | 110 => ⟨S_, .f32⟩
  | 111 => ⟨S8192x4x128, .f32⟩
  | 112 => ⟨S8192x4x128, .f32⟩
  | 113 => ⟨S1x4x128, .f32⟩
  | 114 => ⟨S8192x4x128, .f32⟩
  | 115 => ⟨S8192x4x128, .f32⟩
  | 116 => ⟨S1x4x128, .f32⟩
  | 117 => ⟨S8192x4x128, .f32⟩
  | 118 => ⟨S8192x4x128, .f32⟩
  | 119 => ⟨S_, .f32⟩
  | 120 => ⟨S8192x4x128, .f32⟩
  | 121 => ⟨S8192x4x128, .f32⟩
  | 122 => ⟨S8192x4x128, .f32⟩
  | 123 => ⟨S_, .f32⟩
  | 124 => ⟨S8192x4x128, .f32⟩
  | 125 => ⟨S8192x4x128, .f32⟩
  | 126 => ⟨S_, .f32⟩
  | 127 => ⟨S_, .f32⟩
  | _ => ⟨S8192x10752, .bf16⟩

abbrev hbmTy0_1 (i : Nat) : BufTy := match i % 128 with
  | 0 => ⟨S8192x4x128, .f32⟩
  | 1 => ⟨S_, .f32⟩
  | 2 => ⟨S1x4x128, .f32⟩
  | 3 => ⟨S127x4x128, .f32⟩
  | 4 => ⟨S128x4x128, .f32⟩
  | 5 => ⟨S8192, .i32⟩
  | 6 => ⟨S1x8192, .i32⟩
  | 7 => ⟨S128, .i32⟩
  | 8 => ⟨S128x1, .i32⟩
  | 9 => ⟨S_, .i32⟩
  | 10 => ⟨S128x1, .i32⟩
  | 11 => ⟨S128x1, .i32⟩
  | 12 => ⟨S128x8192, .i32⟩
  | 13 => ⟨S128x8192, .i32⟩
  | 14 => ⟨S128x8192, .i1⟩
  | 15 => ⟨S128x8192x1x1, .i1⟩
  | 16 => ⟨S128x1x4x128, .f32⟩
  | 17 => ⟨S1x8192x4x128, .f32⟩
  | 18 => ⟨S128x8192x4x128, .f32⟩
  | 19 => ⟨S128x8192x4x128, .f32⟩
  | 20 => ⟨S128x8192x4x128, .f32⟩
  | 21 => ⟨S_, .f32⟩
  | 22 => ⟨S_, .f32⟩
  | 23 => ⟨S128x8192x4x128, .i1⟩
  | 24 => ⟨S128x8192x4x128, .f32⟩
  | 25 => ⟨S128x8192x4x128, .f32⟩
  | 26 => ⟨S128x8192x4x128, .f32⟩
  | 27 => ⟨S_, .f32⟩
  | 28 => ⟨S_, .f32⟩
  | 29 => ⟨S128x8192x4x128, .i1⟩
  | 30 => ⟨S128x8192x4x128, .f32⟩
  | 31 => ⟨S128x8192x4x128, .f32⟩
  | 32 => ⟨S1x8192x4x128, .f32⟩
  | 33 => ⟨S128x8192x4x128, .f32⟩
  | 34 => ⟨S128x8192x4x128, .f32⟩
  | 35 => ⟨S4x128x128x128, .f32⟩
  | 36 => ⟨S4x128x128x128, .f32⟩
  | _ => ⟨S8192x10752, .bf16⟩

abbrev hbmTy (i : Nat) : BufTy := match i / 128 with
  | 0 => hbmTy0_0 i
  | 1 => hbmTy0_1 i
  | _ => ⟨S8192x10752, .bf16⟩

abbrev bufTy : (tb : Table) → Fin (tcTables nBuf tb) → BufTy
  | .hbm, ⟨i, _⟩ => hbmTy i
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_call1_call0_cst : Ref sig .tc := ⟨.hbm, 48, rfl⟩
abbrev main_call1_call0_v0 : Ref sig .tc := ⟨.hbm, 49, rfl⟩
abbrev main_v32 : Ref sig .tc := ⟨.hbm, 50, rfl⟩
abbrev main_c : Ref sig .tc := ⟨.hbm, 51, rfl⟩
abbrev main_v33 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_0 : Ref sig .tc := ⟨.hbm, 59, rfl⟩
abbrev main_call2_v5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_7 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call5_v0 : Ref sig .tc := ⟨.hbm, 90, rfl⟩
abbrev main_call5_v1 : Ref sig .tc := ⟨.hbm, 91, rfl⟩
abbrev main_call5_cst : Ref sig .tc := ⟨.hbm, 92, rfl⟩
abbrev main_call5_v2 : Ref sig .tc := ⟨.hbm, 93, rfl⟩
abbrev main_call5_v3 : Ref sig .tc := ⟨.hbm, 94, rfl⟩
abbrev main_call5_cst_0 : Ref sig .tc := ⟨.hbm, 95, rfl⟩
abbrev main_call5_v4 : Ref sig .tc := ⟨.hbm, 96, rfl⟩
abbrev main_call5_v5 : Ref sig .tc := ⟨.hbm, 97, rfl⟩
abbrev main_v54 : Ref sig .tc := ⟨.hbm, 98, rfl⟩
abbrev main_cst_8 : Ref sig .tc := ⟨.hbm, 99, rfl⟩
abbrev main_v55 : Ref sig .tc := ⟨.hbm, 100, rfl⟩
abbrev main_v56 : Ref sig .tc := ⟨.hbm, 101, rfl⟩
abbrev main_cst_9 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_10 : Ref sig .tc := ⟨.hbm, 107, rfl⟩
abbrev main_v61 : Ref sig .tc := ⟨.hbm, 108, rfl⟩
abbrev main_v62 : Ref sig .tc := ⟨.hbm, 109, rfl⟩
abbrev main_cst_11 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_12 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_13 : Ref sig .tc := ⟨.hbm, 123, rfl⟩
abbrev main_v74 : Ref sig .tc := ⟨.hbm, 124, rfl⟩
abbrev main_v75 : Ref sig .tc := ⟨.hbm, 125, rfl⟩
abbrev main_call6_call0_cst : Ref sig .tc := ⟨.hbm, 126, rfl⟩
abbrev main_call6_call0_v0 : Ref sig .tc := ⟨.hbm, 127, rfl⟩
abbrev main_v76 : Ref sig .tc := ⟨.hbm, 128, rfl⟩
abbrev main_cst_14 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_15 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_16 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_v95 : Ref sig .tc := ⟨.hbm, 153, rfl⟩
abbrev main_v96 : Ref sig .tc := ⟨.hbm, 154, rfl⟩
abbrev main_cst_17 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩

abbrev nD : Nat := 1
abbrev τ : Topo := Topo.v7x

variable {F : FTy → Type} [FloatOps F]
-- ==== Kernel3.lean ====
abbrev S8192x1024 : Shape := ⟨2, ![8192, 1024]⟩
abbrev S8192x10752 : Shape := ⟨2, ![8192, 10752]⟩
abbrev S1024x10752 : Shape := ⟨2, ![1024, 10752]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x10752, .bf16⟩
  | .hbm, ⟨2, _⟩ => ⟨S1024x10752, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x10752 : Shape := ⟨2, ![8192, 10752]⟩
abbrev S_ : Shape := ⟨0, ![]⟩
abbrev S1024x10752 : Shape := ⟨2, ![1024, 10752]⟩
abbrev S10752x1024 : Shape := ⟨2, ![10752, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10752, .bf16⟩
  | .hbm, ⟨2, _⟩ => ⟨S_, .f32⟩
  | .hbm, ⟨3, _⟩ => ⟨S1024x10752, .f32⟩
  | .hbm, ⟨4, _⟩ => ⟨S8192x1024, .f32⟩
  | .hbm, ⟨5, _⟩ => ⟨S8192x10752, .f32⟩
  | .hbm, ⟨6, _⟩ => ⟨S8192x10752, .f32⟩
  | .hbm, ⟨7, _⟩ => ⟨S10752x1024, .f32⟩
  | .hbm, ⟨8, _⟩ => ⟨S1024x10752, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x10752 : Shape := ⟨2, ![8192, 10752]⟩
abbrev S1024x10752 : Shape := ⟨2, ![1024, 10752]⟩
abbrev S8192x1024 : Shape := ⟨2, ![8192, 1024]⟩
abbrev S1x1024 : Shape := ⟨2, ![1, 1024]⟩
abbrev S1024x2688 : Shape := ⟨2, ![1024, 2688]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x10752, .bf16⟩
  | .hbm, ⟨1, _⟩ => ⟨S1024x10752, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S8192x10752 : Shape := ⟨2, ![8192, 10752]⟩
abbrev S1024x10752 : Shape := ⟨2, ![1024, 10752]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S1024x10752, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x10752, .f32⟩
  | .hbm, ⟨25, _⟩ => ⟨S8192x10752, .f32⟩
  | .hbm, ⟨26, _⟩ => ⟨S8192x10752, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x10752 : Shape := ⟨2, ![1024, 10752]⟩
abbrev S8192x10752 : Shape := ⟨2, ![8192, 10752]⟩
abbrev S2048x1024 : Shape := ⟨2, ![2048, 1024]⟩
abbrev S1024x1536 : Shape := ⟨2, ![1024, 1536]⟩
abbrev S2048x1536 : Shape := ⟨2, ![2048, 1536]⟩
abbrev S2048 : Shape := ⟨1, ![2048]⟩
abbrev S2048x1 : Shape := ⟨2, ![2048, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x10752, .bf16⟩
  | .hbm, ⟨3, _⟩ => ⟨S8192x10752, .bf16⟩
  | .hbm, ⟨4, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S2048x1536, .bf16⟩
  | .local _ .vmem, ⟨6, _⟩ => ⟨S2048x1536, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8192x1024 : Shape := ⟨2, ![8192, 1024]⟩
abbrev S1x1024 : Shape := ⟨2, ![1, 1024]⟩
abbrev S1024x10752 : Shape := ⟨2, ![1024, 10752]⟩
abbrev S_ : Shape := ⟨0, ![]⟩
abbrev S8192 : Shape := ⟨1, ![8192]⟩
abbrev S8192x1 : Shape := ⟨2, ![8192, 1]⟩
abbrev S8192x10752 : Shape := ⟨2, ![8192, 10752]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x10752, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x10752, .f32⟩
  | .hbm, ⟨19, _⟩ => ⟨S8192x10752, .f32⟩
  | .hbm, ⟨20, _⟩ => ⟨S8192x10752, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x512 : Shape := ⟨2, ![8192, 512]⟩
abbrev S8192x3072 : Shape := ⟨2, ![8192, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S512x1024, .f32⟩
  | .hbm, ⟨3, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference7Ideal.lean ====
abbrev S8192x512 : Shape := ⟨2, ![8192, 512]⟩
abbrev S8192x3072 : Shape := ⟨2, ![8192, 3072]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S8192x1024, .bf16⟩
  | .hbm, ⟨3, _⟩ => ⟨S_, .f32⟩
  | .hbm, ⟨4, _⟩ => ⟨S512x1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x512 : Shape := ⟨2, ![8192, 512]⟩
abbrev S8192x3072 : Shape := ⟨2, ![8192, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S512x1024, .f32⟩
  | .hbm, ⟨3, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference8Ideal.lean ====
abbrev S8192x512 : Shape := ⟨2, ![8192, 512]⟩
abbrev S8192x3072 : Shape := ⟨2, ![8192, 3072]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S8192x1024, .bf16⟩
  | .hbm, ⟨3, _⟩ => ⟨S_, .f32⟩
  | .hbm, ⟨4, _⟩ => ⟨S512x1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S8192x3072 : Shape := ⟨2, ![8192, 3072]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference9Ideal.lean ====
abbrev S8192x1024 : Shape := ⟨2, ![8192, 1024]⟩
abbrev S8192x3072 : Shape := ⟨2, ![8192, 3072]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S8192x10752 : Shape := ⟨2, ![8192, 10752]⟩
abbrev S8192x512 : Shape := ⟨2, ![8192, 512]⟩
abbrev S1x128 : Shape := ⟨2, ![1, 128]⟩
abbrev S1x3072 : Shape := ⟨2, ![1, 3072]⟩
abbrev S2x512x1024 : Shape := ⟨3, ![2, 512, 1024]⟩
abbrev S2x1024x1024 : Shape := ⟨3, ![2, 1024, 1024]⟩
abbrev S512x1024 : Shape := ⟨2, ![512, 1024]⟩
abbrev S512x4608 : Shape := ⟨2, ![512, 4608]⟩
abbrev S512x512 : Shape := ⟨2, ![512, 512]⟩
abbrev S1x512x1024 : Shape := ⟨3, ![1, 512, 1024]⟩
abbrev S1x1024x1024 : Shape := ⟨3, ![1, 1024, 1024]⟩
abbrev S512x128 : Shape := ⟨2, ![512, 128]⟩
abbrev S512 : Shape := ⟨1, ![512]⟩
abbrev S512x1 : Shape := ⟨2, ![512, 1]⟩
abbrev S512x3072 : Shape := ⟨2, ![512, 3072]⟩
abbrev S1024x1024 : Shape := ⟨2, ![1024, 1024]⟩

abbrev nBuf : Space → Nat
  | .hbm => 13
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x10752, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S1x128, .f32⟩
  | .hbm, ⟨6, _⟩ => ⟨S1x128, .f32⟩
  | .hbm, ⟨7, _⟩ => ⟨S1x3072, .f32⟩
  | .hbm, ⟨8, _⟩ => ⟨S2x512x1024, .bf16⟩
  | .hbm, ⟨9, _⟩ => ⟨S2x512x1024, .bf16⟩
  | .hbm, ⟨10, _⟩ => ⟨S2x1024x1024, .bf16⟩
  | .hbm, ⟨11, _⟩ => ⟨S2x1024x1024, .bf16⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x4608, .bf16⟩
  | .local _ .vmem, ⟨3, _⟩ => ⟨S512x4608, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x128, .f32⟩
  | .local _ .vmem, ⟨12, _⟩ => ⟨S1x3072, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S512x1024, .f32⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S8192x1024 : Shape := ⟨2, ![8192, 1024]⟩
abbrev S8192x10752 : Shape := ⟨2, ![8192, 10752]⟩
abbrev S8192x512 : Shape := ⟨2, ![8192, 512]⟩
abbrev S1x128 : Shape := ⟨2, ![1, 128]⟩
abbrev S1x3072 : Shape := ⟨2, ![1, 3072]⟩
abbrev S2x512x1024 : Shape := ⟨3, ![2, 512, 1024]⟩
abbrev S2x1024x1024 : Shape := ⟨3, ![2, 1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x4608 : Shape := ⟨2, ![8192, 4608]⟩
abbrev S8192x3072 : Shape := ⟨2, ![8192, 3072]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x10752, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S1x128, .f32⟩
  | .hbm, ⟨6, _⟩ => ⟨S1x128, .f32⟩
  | .hbm, ⟨7, _⟩ => ⟨S1x3072, .f32⟩
  | .hbm, ⟨8, _⟩ => ⟨S2x512x1024, .bf16⟩
  | .hbm, ⟨9, _⟩ => ⟨S2x512x1024, .bf16⟩
  | .hbm, ⟨10, _⟩ => ⟨S2x1024x1024, .bf16⟩
  | .hbm, ⟨11, _⟩ => ⟨S2x1024x1024, .bf16⟩
  | .hbm, ⟨12, _⟩ => ⟨S1x512x1024, .bf16⟩
  | .hbm, ⟨13, _⟩ => ⟨S512x1024, .bf16⟩
  | .hbm, ⟨14, _⟩ => ⟨S1x512x1024, .bf16⟩
  | .hbm, ⟨15, _⟩ => ⟨S512x1024, .bf16⟩
  | .hbm, ⟨16, _⟩ => ⟨S1x1024x1024, .bf16⟩
  | .hbm, ⟨17, _⟩ => ⟨S1024x1024, .bf16⟩
  | .hbm, ⟨18, _⟩ => ⟨S1x1024x1024, .bf16⟩
  | .hbm, ⟨19, _⟩ => ⟨S1024x1024, .bf16⟩
  | .hbm, ⟨20, _⟩ => ⟨S8192x4608, .bf16⟩
  | .hbm, ⟨21, _⟩ => ⟨S8192x4608, .f32⟩
  | .hbm, ⟨22, _⟩ => ⟨S8192x512, .f32⟩
  | .hbm, ⟨23, _⟩ => ⟨S8192x3072, .f32⟩
  | .hbm, ⟨24, _⟩ => ⟨S8192x1024, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S_, .f32⟩
  | .hbm, ⟨30, _⟩ => ⟨S8192x3072, .f32⟩
  | .hbm, ⟨31, _⟩ => ⟨S8192x3072, .f32⟩
  | .hbm, ⟨32, _⟩ => ⟨S_, .f32⟩
  | .hbm, ⟨33, _⟩ => ⟨S8192x3072, .f32⟩
  | .hbm, ⟨34, _⟩ => ⟨S8192x3072, .f32⟩
  | .hbm, ⟨35, _⟩ => ⟨S8192x512, .f32⟩
  | .hbm, ⟨36, _⟩ => ⟨S512x1024, .f32⟩
  | .hbm, ⟨37, _⟩ => ⟨S8192x1024, .f32⟩
  | .hbm, ⟨38, _⟩ => ⟨S8192x4x128, .f32⟩
  | .hbm, ⟨39, _⟩ => ⟨S8192x4x128, .f32⟩
  | .hbm, ⟨40, _⟩ => ⟨S_, .f32⟩
  | .hbm, ⟨41, _⟩ => ⟨S8192x4, .f32⟩
  | .hbm, ⟨42, _⟩ => ⟨S8192x4x1, .f32⟩
  | .hbm, ⟨43, _⟩ => ⟨S_, .f32⟩
  | .hbm, ⟨44, _⟩ => ⟨S8192x4x1, .f32⟩
  | .hbm, ⟨45, _⟩ => ⟨S8192x4x1, .f32⟩
  | .hbm, ⟨46, _⟩ => ⟨S_, .f32⟩
  | .hbm, ⟨47, _⟩ => ⟨S8192x4x1, .f32⟩
  | .hbm, ⟨48, _⟩ => ⟨S8192x4x1, .f32⟩
  | .hbm, ⟨49, _⟩ => ⟨S8192x4x1, .f32⟩
  | .hbm, ⟨50, _⟩ => ⟨S8192x4x128, .f32⟩
  | .hbm, ⟨51, _⟩ => ⟨S8192x4x128, .f32⟩
  | .hbm, ⟨52, _⟩ => ⟨S1x1x128, .f32⟩
  | .hbm, ⟨53, _⟩ => ⟨S8192x4x128, .f32⟩
  | .hbm, ⟨54, _⟩ => ⟨S8192x4x128, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S512x1024, .f32⟩
  | .hbm, ⟨67, _⟩ => ⟨S8192x1024, .f32⟩
  | .hbm, ⟨68, _⟩ => ⟨S8192x8x128, .f32⟩
  | .hbm, ⟨69, _⟩ => ⟨S8192x8x128, .f32⟩
  | .hbm, ⟨70, _⟩ => ⟨S_, .f32⟩
  | .hbm, ⟨71, _⟩ => ⟨S8192x8, .f32⟩
  | .hbm, ⟨72, _⟩ => ⟨S8192x8x1, .f32⟩
  | .hbm, ⟨73, _⟩ => ⟨S_, .f32⟩
  | .hbm, ⟨74, _⟩ => ⟨S8192x8x1, .f32⟩
  | .hbm, ⟨75, _⟩ => ⟨S8192x8x1, .f32⟩
  | .hbm, ⟨76, _⟩ => ⟨S_, .f32⟩
  | .hbm, ⟨77, _⟩ => ⟨S8192x8x1, .f32⟩
  | .hbm, ⟨78, _⟩ => ⟨S8192x8x1, .f32⟩
  | .hbm, ⟨79, _⟩ => ⟨S8192x8x1, .f32⟩
  | .hbm, ⟨80, _⟩ => ⟨S8192x8x128, .f32⟩
  | .hbm, ⟨81, _⟩ => ⟨S8192x8x128, .f32⟩
  | .hbm, ⟨82, _⟩ => ⟨S1x1x128, .f32⟩
  | .hbm, ⟨83, _⟩ => ⟨S8192x8x128, .f32⟩
  | .hbm, ⟨84, _⟩ => ⟨S8192x8x128, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S1024x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S1024x1024, .f32⟩
  | .hbm, ⟨107, _⟩ => ⟨S8192x1024, .f32⟩
  | .hbm, ⟨108, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== Kernel11.lean ====
abbrev S8192x1024 : Shape := ⟨2, ![8192, 1024]⟩
abbrev S8192x10752 : Shape := ⟨2, ![8192, 10752]⟩
abbrev S8192x512 : Shape := ⟨2, ![8192, 512]⟩
abbrev S1x128 : Shape := ⟨2, ![1, 128]⟩
abbrev S1x3072 : Shape := ⟨2, ![1, 3072]⟩
abbrev S2x512x1024 : Shape := ⟨3, ![2, 512, 1024]⟩
abbrev S2x1024x1024 : Shape := ⟨3, ![2, 1024, 1024]⟩
abbrev S8192x3072 : Shape := ⟨2, ![8192, 3072]⟩
abbrev S256x1024 : Shape := ⟨2, ![256, 1024]⟩
abbrev S256x4608 : Shape := ⟨2, ![256, 4608]⟩
abbrev S256x512 : Shape := ⟨2, ![256, 512]⟩
abbrev S1x512x1024 : Shape := ⟨3, ![1, 512, 1024]⟩
abbrev S1x1024x1024 : Shape := ⟨3, ![1, 1024, 1024]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S1024x1024 : Shape := ⟨2, ![1024, 1024]⟩
abbrev S1x1024 : Shape := ⟨2, ![1, 1024]⟩
abbrev S1024 : Shape := ⟨1, ![1024]⟩
abbrev S128 : Shape := ⟨1, ![128]⟩
abbrev S8192x4608 : Shape := ⟨2, ![8192, 4608]⟩

abbrev nBuf : Space → Nat
  | .hbm => 24
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x10752, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S1x128, .f32⟩
  | .hbm, ⟨6, _⟩ => ⟨S1x128, .f32⟩
  | .hbm, ⟨7, _⟩ => ⟨S1x3072, .f32⟩
  | .hbm, ⟨8, _⟩ => ⟨S2x512x1024, .bf16⟩
  | .hbm, ⟨9, _⟩ => ⟨S2x512x1024, .bf16⟩
  | .hbm, ⟨10, _⟩ => ⟨S2x1024x1024, .bf16⟩
  | .hbm, ⟨11, _⟩ => ⟨S2x1024x1024, .bf16⟩
  | .hbm, ⟨12, _⟩ => ⟨S8192x512, .f32⟩
  | .hbm, ⟨13, _⟩ => ⟨S8192x512, .f32⟩
  | .hbm, ⟨14, _⟩ => ⟨S8192x1024, .f32⟩
  | .hbm, ⟨15, _⟩ => ⟨S8192x10752, .bf16⟩
  | .hbm, ⟨16, _⟩ => ⟨S8192x1024, .bf16⟩
  | .hbm, ⟨17, _⟩ => ⟨S8192x3072, .bf16⟩
  | .hbm, ⟨18, _⟩ => ⟨S8192x512, .bf16⟩
  | .hbm, ⟨19, _⟩ => ⟨S8192x1024, .bf16⟩
  | .hbm, ⟨20, _⟩ => ⟨S1x3072, .f32⟩
  | .hbm, ⟨21, _⟩ => ⟨S1x128, .f32⟩
  | .hbm, ⟨22, _⟩ => ⟨S1x128, .f32⟩
  | .hbm, ⟨23, _⟩ => ⟨S8192x4608, .bf16⟩
  | .local _ .vmem, ⟨0, _⟩ => ⟨S256x1024, .f32⟩
  | .local _ .vmem, ⟨1, _⟩ => ⟨S256x1024, .f32⟩
  | .local _ .vmem, ⟨2, _⟩ => ⟨S256x4608, .bf16⟩
  | .local _ .vmem, ⟨3, _⟩ => ⟨S256x4608, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S1x128, .f32⟩
  | .local _ .vmem, ⟨11, _⟩ => ⟨S1x128, .f32⟩
  | .local _ .vmem, ⟨12, _⟩ => ⟨S1x3072, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .f32⟩
  | .local _ .vmem, ⟨22, _⟩ => ⟨S256x1024, .f32⟩
  | .local _ .vmem, ⟨23, _⟩ => ⟨S256x4608, .bf16⟩
  | .local _ .vmem, ⟨24, _⟩ => ⟨S256x4608, .bf16⟩
  | .local _ .vmem, ⟨25, _⟩ => ⟨S256x1024, .bf16⟩
  | .local _ .vmem, ⟨26, _⟩ => ⟨S256x1024, .bf16⟩
  | .local _ .vmem, ⟨27, _⟩ => ⟨S256x3072, .bf16⟩
  | .local _ .vmem, ⟨28, _⟩ => ⟨S256x3072, .bf16⟩
  | .local _ .vmem, ⟨29, _⟩ => ⟨S256x512, .bf16⟩
  | .local _ .vmem, ⟨30, _⟩ => ⟨S256x512, .bf16⟩
  | .local _ .vmem, ⟨31, _⟩ => ⟨S256x1024, .bf16⟩
  | .local _ .vmem, ⟨32, _⟩ => ⟨S256x1024, .bf16⟩
  | .local _ .vmem, ⟨33, _⟩ => ⟨S1x3072, .f32⟩
  | .local _ .vmem, ⟨34, _⟩ => ⟨S1x128, .f32⟩
  | .local _ .vmem, ⟨35, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem21_0 : DmaSem sig := 34
abbrev cc0_sem22_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4608 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x3072 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference11Ideal.lean ====
abbrev S8192x1024 : Shape := ⟨2, ![8192, 1024]⟩
abbrev S8192x10752 : Shape := ⟨2, ![8192, 10752]⟩
abbrev S8192x512 : Shape := ⟨2, ![8192, 512]⟩
abbrev S1x128 : Shape := ⟨2, ![1, 128]⟩
abbrev S1x3072 : Shape := ⟨2, ![1, 3072]⟩
abbrev S2x512x1024 : Shape := ⟨3, ![2, 512, 1024]⟩
abbrev S2x1024x1024 : Shape := ⟨3, ![2, 1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x4608 : Shape := ⟨2, ![8192, 4608]⟩
abbrev S8192x3072 : Shape := ⟨2, ![8192, 3072]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S8192x8x128 : Shape := ⟨3, ![8192, 8, 128]⟩
abbrev S8192x8 : Shape := ⟨2, ![8192, 8]⟩
abbrev S8192x8x1 : Shape := ⟨3, ![8192, 8, 1]⟩
abbrev S3072 : Shape := ⟨1, ![3072]⟩
abbrev S128 : Shape := ⟨1, ![128]⟩

abbrev nBuf : Space → Nat
  | .hbm => 218
  | .vmem => 0
  | .smem => 0
  | _ => 0

abbrev hbmTy0_0 (i : Nat) : BufTy := match i % 128 with
  | 0 => ⟨S8192x1024, .f32⟩
  | 1 => ⟨S8192x10752, .bf16⟩
  | 2 => ⟨S8192x512, .bf16⟩
  | 3 => ⟨S8192x512, .f32⟩
  | 4 => ⟨S8192x1024, .f32⟩
  | 5 => ⟨S1x128, .f32⟩
  | 6 => ⟨S1x128, .f32⟩
  | 7 => ⟨S1x3072, .f32⟩
  | 8 => ⟨S2x512x1024, .bf16⟩
  | 9 => ⟨S2x512x1024, .bf16⟩
  | 10 => ⟨S2x1024x1024, .bf16⟩
  | 11 => ⟨S2x1024x1024, .bf16⟩
  | 12 => ⟨S1x512x1024, .bf16⟩
  | 13 => ⟨S512x1024, .bf16⟩
  | 14 => ⟨S512x1024, .f32⟩
  | 15 => ⟨S1x512x1024, .bf16⟩
  | 16 => ⟨S512x1024, .bf16⟩
  | 17 => ⟨S512x1024, .f32⟩
  | 18 => ⟨S1x1024x1024, .bf16⟩
  | 19 => ⟨S1024x1024, .bf16⟩
  | 20 => ⟨S1024x1024, .f32⟩
  | 21 => ⟨S1x1024x1024, .bf16⟩
  | 22 => ⟨S1024x1024, .bf16⟩
  | 23 => ⟨S1024x1024, .f32⟩
  | 24 => ⟨S8192x4608, .bf16⟩
  | 25 => ⟨S8192x4608, .f32⟩
  | 26 => ⟨S8192x512, .f32⟩
  | 27 => ⟨S8192x3072, .f32⟩
  | 28 => ⟨S8192x1024, .f32⟩
  | 29 => ⟨S8192x4x128, .f32⟩
  | 30 => ⟨S8192x4x128, .f32⟩
  | 31 => ⟨S_, .f32⟩
  | 32 => ⟨S8192x4, .f32⟩
  | 33 => ⟨S8192x4x1, .f32⟩
  | 34 => ⟨S_, .f32⟩
  | 35 => ⟨S8192x4x1, .f32⟩
  | 36 => ⟨S8192x4x1, .f32⟩
  | 37 => ⟨S_, .f32⟩
  | 38 => ⟨S8192x4x1, .f32⟩
  | 39 => ⟨S8192x4x1, .f32⟩
  | 40 => ⟨S8192x4x1, .f32⟩
  | 41 => ⟨S8192x4x1, .f32⟩
  | 42 => ⟨S_, .f32⟩
  | 43 => ⟨S8192x4x1, .f32⟩
  | 44 => ⟨S8192x4x1, .f32⟩
  | 45 => ⟨S8192x4x128, .f32⟩
  | 46 => ⟨S8192x4x128, .f32⟩
  | 47 => ⟨S1x1x128, .f32⟩
  | 48 => ⟨S8192x4x128, .f32⟩
  | 49 => ⟨S8192x4x128, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x8x128, .f32⟩
  | 66 => ⟨S8192x8x128, .f32⟩
  | 67 => ⟨S_, .f32⟩
  | 68 => ⟨S8192x8, .f32⟩
  | 69 => ⟨S8192x8x1, .f32⟩
  | 70 => ⟨S_, .f32⟩
  | 71 => ⟨S8192x8x1, .f32⟩
  | 72 => ⟨S8192x8x1, .f32⟩
  | 73 => ⟨S_, .f32⟩
  | 74 => ⟨S8192x8x1, .f32⟩
  | 75 => ⟨S8192x8x1, .f32⟩
  | 76 => ⟨S8192x8x1, .f32⟩
  | 77 => ⟨S8192x8x1, .f32⟩
  | 78 => ⟨S_, .f32⟩
  | 79 => ⟨S8192x8x1, .f32⟩
  | 80 => ⟨S8192x8x1, .f32⟩
  | 81 => ⟨S8192x8x128, .f32⟩
  | 82 => ⟨S8192x8x128, .f32⟩
  | 83 => ⟨S1x1x128, .f32⟩
  | 84 => ⟨S8192x8x128, .f32⟩
  | 85 => ⟨S8192x8x128, .f32⟩
  | 86 => ⟨S8192x1024, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x512, .f32⟩
  | 102 => ⟨S8192x1024, .f32⟩
  | 103 => ⟨S8192x1024, .f32⟩
  | 104 => ⟨S8192x1024, .f32⟩
  | 105 => ⟨S8192x3072, .f32⟩
  | 106 => ⟨S8192x3072, .f32⟩
  | 107 => ⟨S8192x3072, .f32⟩
  | 108 => ⟨S8192x3072, .f32⟩
  | 109 => ⟨S_, .f32⟩
  | 110 => ⟨S8192x3072, .f32⟩
  | 111 => ⟨S8192x3072, .f32⟩
  | 112 => ⟨S_, .f32⟩
  | 113 => ⟨S8192x3072, .f32⟩
  | 114 => ⟨S8192x3072, .f32⟩
  | 115 => ⟨S_, .f32⟩
  | 116 => ⟨S8192x3072, .f32⟩
  | 117 => ⟨S8192x3072, .f32⟩
  | 118 => ⟨S8192x3072, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x3072, .f32⟩
  | 8 => ⟨S8192x3072, .f32⟩
  | 9 => ⟨S_, .f32⟩
  | 10 => ⟨S3072, .f32⟩
  | 11 => ⟨S1x3072, .f32⟩
  | 12 => ⟨S8192x1024, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x4x128, .f32⟩
  | 22 => ⟨S8192x4x128, .f32⟩
  | 23 => ⟨S_, .f32⟩
  | 24 => ⟨S128, .f32⟩
  | 25 => ⟨S1x1x128, .f32⟩
  | 26 => ⟨S8192x4x128, .f32⟩
  | 27 => ⟨S8192x4x128, .f32⟩
  | 28 => ⟨S_, .f32⟩
  | 29 => ⟨S128, .f32⟩
  | 30 => ⟨S1x128, .f32⟩
  | 31 => ⟨S8192x4x128, .f32⟩
  | 32 => ⟨S_, .f32⟩
  | 33 => ⟨S8192x4, .f32⟩
  | 34 => ⟨S8192x4x1, .f32⟩
  | 35 => ⟨S8192x4x128, .f32⟩
  | 36 => ⟨S8192x4x128, .f32⟩
  | 37 => ⟨S8192x4x1, .f32⟩
  | 38 => ⟨S_, .f32⟩
  | 39 => ⟨S8192x4x1, .f32⟩
  | 40 => ⟨S8192x4x1, .f32⟩
  | 41 => ⟨S_, .f32⟩
  | 42 => ⟨S8192x4, .f32⟩
  | 43 => ⟨S8192x4x128, .f32⟩
  | 44 => ⟨S8192x4x128, .f32⟩
  | 45 => ⟨S8192x4x128, .f32⟩
  | 46 => ⟨S8192x4x128, .f32⟩
  | 47 => ⟨S8192x4x128, .f32⟩
  | 48 => ⟨S8192x512, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x8x128, .f32⟩
  | 56 => ⟨S8192x8x128, .f32⟩
  | 57 => ⟨S_, .f32⟩
  | 58 => ⟨S128, .f32⟩
  | 59 => ⟨S1x1x128, .f32⟩
  | 60 => ⟨S8192x8x128, .f32⟩
  | 61 => ⟨S8192x8x128, .f32⟩
  | 62 => ⟨S_, .f32⟩
  | 63 => ⟨S128, .f32⟩
  | 64 => ⟨S1x128, .f32⟩
  | 65 => ⟨S8192x8x128, .f32⟩
  | 66 => ⟨S_, .f32⟩
  | 67 => ⟨S8192x8, .f32⟩
  | 68 => ⟨S8192x8x1, .f32⟩
  | 69 => ⟨S8192x8x128, .f32⟩
  | 70 => ⟨S8192x8x128, .f32⟩
  | 71 => ⟨S8192x8x1, .f32⟩
  | 72 => ⟨S_, .f32⟩
  | 73 => ⟨S8192x8x1, .f32⟩
  | 74 => ⟨S8192x8x1, .f32⟩
  | 75 => ⟨S_, .f32⟩
  | 76 => ⟨S8192x8, .f32⟩
  | 77 => ⟨S8192x8x128, .f32⟩
  | 78 => ⟨S8192x8x128, .f32⟩
  | 79 => ⟨S8192x8x128, .f32⟩
  | 80 => ⟨S8192x8x128, .f32⟩
  | 81 => ⟨S8192x8x128, .f32⟩
  | 82 => ⟨S8192x1024, .f32⟩
  | 83 => ⟨S8192x4608, .f32⟩
  | 84 => ⟨S8192x4608, .bf16⟩
  | 85 => ⟨S8192x1024, .bf16⟩
  | 86 => ⟨S8192x3072, .f32⟩
  | 87 => ⟨S8192x3072, .bf16⟩
  | 88 => ⟨S8192x512, .bf16⟩
  | 89 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v35_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v35_1 : Ref sig .tc := ⟨.hbm, 62, rfl⟩
abbrev main_v35_0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_cst_4 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_6 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_v55_2 : Ref sig .tc := ⟨.hbm, 94, rfl⟩
abbrev main_call1_cst_1 : Ref sig .tc := ⟨.hbm, 95, rfl⟩
abbrev main_call1_v6 : Ref sig .tc := ⟨.hbm, 96, rfl⟩
abbrev main_call1_v7 : Ref sig .tc := ⟨.hbm, 97, rfl⟩
abbrev main_v55_1 : Ref sig .tc := ⟨.hbm, 98, rfl⟩
abbrev main_v55_0 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_7 : Ref sig .tc := ⟨.hbm, 109, rfl⟩
abbrev main_v65 : Ref sig .tc := ⟨.hbm, 110, rfl⟩
abbrev main_v66 : Ref sig .tc := ⟨.hbm, 111, rfl⟩
abbrev main_cst_8 : Ref sig .tc := ⟨.hbm, 112, rfl⟩
abbrev main_v67 : Ref sig .tc := ⟨.hbm, 113, rfl⟩
abbrev main_v68 : Ref sig .tc := ⟨.hbm, 114, rfl⟩
abbrev main_cst_9 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_10 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_11 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_12 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_13 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_14 : Ref sig .tc := ⟨.hbm, 166, rfl⟩
abbrev main_v112 : Ref sig .tc := ⟨.hbm, 167, rfl⟩
abbrev main_v113 : Ref sig .tc := ⟨.hbm, 168, rfl⟩
abbrev main_cst_15 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_call3_v0 : Ref sig .tc := ⟨.hbm, 179, rfl⟩
abbrev main_call3_v1 : Ref sig .tc := ⟨.hbm, 180, rfl⟩
abbrev main_call3_v2 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_16 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_17 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_18 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_cst_19 : Ref sig .tc := ⟨.hbm, 200, rfl⟩
abbrev main_v138 : Ref sig .tc := ⟨.hbm, 201, rfl⟩
abbrev main_v139 : Ref sig .tc := ⟨.hbm, 202, rfl⟩
abbrev main_cst_20 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩

abbrev nD : Nat := 1
abbrev τ : Topo := Topo.v7x

variable {F : FTy → Type} [FloatOps F]
-- ==== Proof.Lift.lean ====
module

public import Idealize.ShloMosaic.PureOps.Ideal
public import Idealize.ShloMosaic.Lib.Pointwise

@[expose] public section

set_option maxRecDepth 16384

noncomputable section

namespace Cert.Hgrn
open Idealize.ShloMosaic Idealize.SL.Sem

/-! Real-valued contents. `V1`, `V2`, `V3` and `V4` are the contents of an array of rank one to four whose elements are real numbers, given as a
function of the coordinates; `M2`, `M3` are masks given by a Boolean function; `I2` is an integer array given by a natural-number function. -/

/-- A rank-one array of reals. -/
def V1 {d : ℕ} (f : ℕ → ℝ) : (⟨1, ![d]⟩ : Shape).Idx → EReal := fun j => ((f (j 0).val : ℝ) : EReal)
/-- A rank-two array of reals. -/
def V2 {n d : ℕ} (f : ℕ → ℕ → ℝ) : (⟨2, ![n, d]⟩ : Shape).Idx → EReal := fun j => ((f (j 0).val (j 1).val : ℝ) : EReal)
/-- A rank-three array of reals. -/
def V3 {n w d : ℕ} (f : ℕ → ℕ → ℕ → ℝ) : (⟨3, ![n, w, d]⟩ : Shape).Idx → EReal :=
  fun j => ((f (j 0).val (j 1).val (j 2).val : ℝ) : EReal)
/-- A rank-four array of reals. -/
def V4 {m n w d : ℕ} (f : ℕ → ℕ → ℕ → ℕ → ℝ) : (⟨4, ![m, n, w, d]⟩ : Shape).Idx → EReal :=
  fun j => ((f (j 0).val (j 1).val (j 2).val (j 3).val : ℝ) : EReal)
/-- A rank-two mask. -/
def M2 {n d : ℕ} (p : ℕ → ℕ → Bool) : (⟨2, ![n, d]⟩ : Shape).Idx → BitVec 1 := fun j => BitVec.ofBool (p (j 0).val (j 1).val)
/-- A rank-three mask. -/
def M3 {n w d : ℕ} (p : ℕ → ℕ → ℕ → Bool) : (⟨3, ![n, w, d]⟩ : Shape).Idx → BitVec 1 :=
  fun j => BitVec.ofBool (p (j 0).val (j 1).val (j 2).val)
/-- A rank-two array of 32-bit integers. -/
def I2 {n d : ℕ} (f : ℕ → ℕ → ℕ) : (⟨2, ![n, d]⟩ : Shape).Idx → BitVec 32 := fun j => BitVec.ofNat 32 (f (j 0).val (j 1).val)

/-- Two rank-two arrays agree when their functions agree within the bounds. -/
theorem V2_congr {n d : ℕ} {f g : ℕ → ℕ → ℝ} (h : ∀ t < n, ∀ l < d, f t l = g t l) : (V2 f : (⟨2, ![n, d]⟩ : Shape).Idx → EReal) = V2 g := by
  funext j
  exact congrArg _ (h _ (j 0).isLt _ (j 1).isLt)

/-- Two rank-three arrays agree when their functions agree within the bounds. -/
theorem V3_congr {n w d : ℕ} {f g : ℕ → ℕ → ℕ → ℝ} (h : ∀ b < n, ∀ r < w, ∀ l < d, f b r l = g b r l) :
    (V3 f : (⟨3, ![n, w, d]⟩ : Shape).Idx → EReal) = V3 g := by
  funext j
  exact congrArg _ (h _ (j 0).isLt _ (j 1).isLt _ (j 2).isLt)

/-- A finite sum of reals, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over `Fin n` of reals, read in the extended reals, as a sum over the range. -/
theorem sum_fin {n : ℕ} (f : ℕ → ℝ) : (∑ x : Fin n, ((f x.val : ℝ) : EReal)) = ((∑ x ∈ Finset.range n, f x : ℝ) : EReal) := by
  rw [← coe_sum, Fin.sum_univ_eq_sum_range]

/-- The same for a sum of products. -/
theorem sum_fin_mul {n : ℕ} (f g : ℕ → ℝ) :
    (∑ x : Fin n, ((f x.val : ℝ) : EReal) * ((g x.val : ℝ) : EReal)) = ((∑ x ∈ Finset.range n, f x * g x : ℝ) : EReal) := by
  rw [← sum_fin]
  simp only [EReal.coe_mul]

/-- The literal with pattern `0x3DB504F3`, as a real number: the scale of the query. -/
def qk : ℝ := 11863283 * (2 ^ 27)⁻¹
/-- The literal with pattern `0x0DA24260`, as a real number: the floor of the forget gate. -/
def mf : ℝ := 10633824 * (2 ^ 123)⁻¹

theorem qk_eq : Ideal.ofBits .f32 0x3DB504F3#32 = (qk : EReal) := by
  unfold qk
  rw [EReal.coe_mul]
  simp [Ideal.ofBits, Ideal.ieee]

theorem mf_eq : Ideal.ofBits .f32 0x0DA24260#32 = (mf : EReal) := by
  unfold mf
  rw [EReal.coe_mul]
  simp [Ideal.ofBits, Ideal.ieee]

theorem mf_pos : 0 < mf := by
  unfold mf
  positivity

/-- The logistic function. -/
def sgm (x : ℝ) : ℝ := (1 + Real.exp (-x))⁻¹

/-- A quotient of reals by a nonzero real. -/
theorem div_coe (x y : ℝ) (h : y ≠ 0) : Ideal.div (x : EReal) (y : EReal) = ((x / y : ℝ) : EReal) := by
  have h0 : ((y : ℝ) : EReal) ≠ 0 := by exact_mod_cast h
  rw [Ideal.div, if_neg h0, div_eq_mul_inv, EReal.coe_mul, EReal.coe_inv]

/-- The logistic function of a real, as it is spelt out by the host. -/
theorem sgm_eq (x : ℝ) : Ideal.div 1 (1 + Ideal.exp (-(x : EReal))) = ((sgm x : ℝ) : EReal) := by
  have h : (1 + Ideal.exp (-(x : EReal))) = ((1 + Real.exp (-x) : ℝ) : EReal) := by
    rw [← EReal.coe_neg, EReal.coe_add, EReal.coe_one]; rfl
  rw [h, ← EReal.coe_one, div_coe _ _ (by positivity), one_div]; rfl

section
variable {φ ψ : FTy}

theorem mulf_V1 {d : ℕ} (f g : ℕ → ℝ) : mulf (F := Ideal) (φ := φ) (V1 f : FVec Ideal (⟨1, ![d]⟩ : Shape) φ) (V1 g) = V1 (fun l => f l * g l) :=
  funext fun j => (EReal.coe_mul _ _).symm

theorem addf_V1 {d : ℕ} (f g : ℕ → ℝ) : addf (F := Ideal) (φ := φ) (V1 f : FVec Ideal (⟨1, ![d]⟩ : Shape) φ) (V1 g) = V1 (fun l => f l + g l) :=
  funext fun j => (EReal.coe_add _ _).symm

theorem subf_V1 {d : ℕ} (f g : ℕ → ℝ) : subf (F := Ideal) (φ := φ) (V1 f : FVec Ideal (⟨1, ![d]⟩ : Shape) φ) (V1 g) = V1 (fun l => f l - g l) :=
  funext fun j => (EReal.coe_sub _ _).symm

theorem exp_V1 {d : ℕ} (f : ℕ → ℝ) : exp (F := Ideal) (φ := φ) (V1 f : FVec Ideal (⟨1, ![d]⟩ : Shape) φ) = V1 (fun l => Real.exp (f l)) := rfl

theorem truncf_V1 {d : ℕ} (f : ℕ → ℝ) (h) : truncf (F := Ideal) (φ := φ) ψ (V1 f : FVec Ideal (⟨1, ![d]⟩ : Shape) φ) h = V1 f := rfl

theorem extf_V1 {d : ℕ} (f : ℕ → ℝ) (h) : extf (F := Ideal) (φ := φ) ψ (V1 f : FVec Ideal (⟨1, ![d]⟩ : Shape) φ) h = V1 f := rfl

theorem broadcast_zero_V1 {d : ℕ} : broadcast (⟨1, ![d]⟩ : Shape) (Scalar.ofBits (F := Ideal) .f32 0x00000000#32) = V1 (fun _ => 0) :=
  funext fun j => Ideal.ofBits_zero_f32

theorem constant_zero_V1 {d : ℕ} : constant (F := Ideal) (⟨1, ![d]⟩ : Shape) .f32 0x00000000#32 = V1 (fun _ => 0) :=
  funext fun j => Ideal.ofBits_zero_f32

theorem broadcast_one_V1 {d : ℕ} : broadcast (⟨1, ![d]⟩ : Shape) (Scalar.ofBits (F := Ideal) .f32 0x3F800000#32) = V1 (fun _ => 1) :=
  funext fun j => Ideal.ofBits_one_f32

theorem mulf_V2 {n d : ℕ} (f g : ℕ → ℕ → ℝ) : mulf (F := Ideal) (φ := φ) (V2 f : FVec Ideal (⟨2, ![n, d]⟩ : Shape) φ) (V2 g) = V2 (fun t l => f t l * g t l) :=
  funext fun j => (EReal.coe_mul _ _).symm

theorem addf_V2 {n d : ℕ} (f g : ℕ → ℕ → ℝ) : addf (F := Ideal) (φ := φ) (V2 f : FVec Ideal (⟨2, ![n, d]⟩ : Shape) φ) (V2 g) = V2 (fun t l => f t l + g t l) :=
  funext fun j => (EReal.coe_add _ _).symm

theorem subf_V2 {n d : ℕ} (f g : ℕ → ℕ → ℝ) : subf (F := Ideal) (φ := φ) (V2 f : FVec Ideal (⟨2, ![n, d]⟩ : Shape) φ) (V2 g) = V2 (fun t l => f t l - g t l) :=
  funext fun j => (EReal.coe_sub _ _).symm

theorem exp_V2 {n d : ℕ} (f : ℕ → ℕ → ℝ) : exp (F := Ideal) (φ := φ) (V2 f : FVec Ideal (⟨2, ![n, d]⟩ : Shape) φ) = V2 (fun t l => Real.exp (f t l)) := rfl

theorem truncf_V2 {n d : ℕ} (f : ℕ → ℕ → ℝ) (h) : truncf (F := Ideal) (φ := φ) ψ (V2 f : FVec Ideal (⟨2, ![n, d]⟩ : Shape) φ) h = V2 f := rfl

theorem extf_V2 {n d : ℕ} (f : ℕ → ℕ → ℝ) (h) : extf (F := Ideal) (φ := φ) ψ (V2 f : FVec Ideal (⟨2, ![n, d]⟩ : Shape) φ) h = V2 f := rfl

theorem broadcast_zero_V2 {n d : ℕ} : broadcast (⟨2, ![n, d]⟩ : Shape) (Scalar.ofBits (F := Ideal) .f32 0x00000000#32) = V2 (fun _ _ => 0) :=
  funext fun j => Ideal.ofBits_zero_f32

theorem constant_zero_V2 {n d : ℕ} : constant (F := Ideal) (⟨2, ![n, d]⟩ : Shape) .f32 0x00000000#32 = V2 (fun _ _ => 0) :=
  funext fun j => Ideal.ofBits_zero_f32

theorem broadcast_one_V2 {n d : ℕ} : broadcast (⟨2, ![n, d]⟩ : Shape) (Scalar.ofBits (F := Ideal) .f32 0x3F800000#32) = V2 (fun _ _ => 1) :=
  funext fun j => Ideal.ofBits_one_f32

theorem broadcast_qk_V2 {n d : ℕ} : broadcast (⟨2, ![n, d]⟩ : Shape) (Scalar.ofBits (F := Ideal) .f32 0x3DB504F3#32) = V2 (fun _ _ => qk) :=
  funext fun j => qk_eq

theorem broadcast_mf_V2 {n d : ℕ} : broadcast (⟨2, ![n, d]⟩ : Shape) (Scalar.ofBits (F := Ideal) .f32 0x0DA24260#32) = V2 (fun _ _ => mf) :=
  funext fun j => mf_eq

theorem logistic_V2 {n d : ℕ} (f : ℕ → ℕ → ℝ) : logistic (F := Ideal) (φ := φ) (V2 f : FVec Ideal (⟨2, ![n, d]⟩ : Shape) φ) = V2 (fun t l => sgm (f t l)) := by
  funext j
  show Ideal.logistic _ = _
  simpa [V2, Ideal.logistic] using sgm_eq _

theorem maximumf_V2 {n d : ℕ} (f g : ℕ → ℕ → ℝ) : maximumf (F := Ideal) (φ := φ) (V2 f : FVec Ideal (⟨2, ![n, d]⟩ : Shape) φ) (V2 g) = V2 (fun t l => max (f t l) (g t l)) :=
  funext fun j => (EReal.coe_strictMono.monotone.map_max).symm

theorem log_V2 {n d : ℕ} (f : ℕ → ℕ → ℝ) (h : ∀ t l, 0 < f t l) : log (F := Ideal) (φ := φ) (V2 f : FVec Ideal (⟨2, ![n, d]⟩ : Shape) φ) = V2 (fun t l => Real.log (f t l)) :=
  funext fun j => if_neg (not_le.mpr (h _ _))

/-- A division whose result is kept only where the divisor exceeds the positive number `m`. -/
theorem select_div_V2 {n d : ℕ} (a f : ℕ → ℕ → ℝ) :
    select (cmpf (F := Ideal) (φ := .f32) .ogt (V2 f : FVec Ideal (⟨2, ![n, d]⟩ : Shape) .f32) (V2 fun _ _ => mf)) (divf (F := Ideal) (φ := .f32) (V2 a) (V2 f)) (V2 fun _ _ => 0)
      = (V2 fun t l => if mf < f t l then a t l / f t l else 0 : FVec Ideal (⟨2, ![n, d]⟩ : Shape) .f32) := by
  funext j
  show Scalar.select (Ideal.cmp .ogt ((f _ _ : ℝ) : EReal) ((mf : ℝ) : EReal)) (Ideal.div ((a _ _ : ℝ) : EReal) ((f _ _ : ℝ) : EReal)) ((0 : ℝ) : EReal) = _
  by_cases h : mf < f (j 0).val (j 1).val
  · have h' : ((mf : ℝ) : EReal) < ((f (j 0).val (j 1).val : ℝ) : EReal) := EReal.coe_lt_coe_iff.mpr h
    simp only [Ideal.cmp_ogt, h', decide_true, Scalar.select, V2, h, if_true]
    rw [if_pos (by decide), div_coe _ _ (mf_pos.trans h).ne']
  · have h' : ¬ ((mf : ℝ) : EReal) < ((f (j 0).val (j 1).val : ℝ) : EReal) := fun q => h (EReal.coe_lt_coe_iff.mp q)
    simp only [Ideal.cmp_ogt, h', decide_false, Scalar.select, V2, h, if_false]
    rw [if_neg (by decide)]

theorem select_V2 {n d : ℕ} (p : ℕ → ℕ → Bool) (f g : ℕ → ℕ → ℝ) :
    select (M2 p) (V2 f : FVec Ideal (⟨2, ![n, d]⟩ : Shape) φ) (V2 g) = V2 (fun t l => if p t l = true then f t l else g t l) := by
  funext j
  show Scalar.select (BitVec.ofBool _) _ _ = _
  unfold V2
  beta_reduce
  cases p (j 0).val (j 1).val <;> simp [Scalar.select]

theorem mulf_V3 {n w d : ℕ} (f g : ℕ → ℕ → ℕ → ℝ) : mulf (F := Ideal) (φ := φ) (V3 f : FVec Ideal (⟨3, ![n, w, d]⟩ : Shape) φ) (V3 g) = V3 (fun b r l => f b r l * g b r l) :=
  funext fun j => (EReal.coe_mul _ _).symm

theorem addf_V3 {n w d : ℕ} (f g : ℕ → ℕ → ℕ → ℝ) : addf (F := Ideal) (φ := φ) (V3 f : FVec Ideal (⟨3, ![n, w, d]⟩ : Shape) φ) (V3 g) = V3 (fun b r l => f b r l + g b r l) :=
  funext fun j => (EReal.coe_add _ _).symm

theorem subf_V3 {n w d : ℕ} (f g : ℕ → ℕ → ℕ → ℝ) : subf (F := Ideal) (φ := φ) (V3 f : FVec Ideal (⟨3, ![n, w, d]⟩ : Shape) φ) (V3 g) = V3 (fun b r l => f b r l - g b r l) :=
  funext fun j => (EReal.coe_sub _ _).symm

theorem exp_V3 {n w d : ℕ} (f : ℕ → ℕ → ℕ → ℝ) : exp (F := Ideal) (φ := φ) (V3 f : FVec Ideal (⟨3, ![n, w, d]⟩ : Shape) φ) = V3 (fun b r l => Real.exp (f b r l)) := rfl

theorem truncf_V3 {n w d : ℕ} (f : ℕ → ℕ → ℕ → ℝ) (h) : truncf (F := Ideal) (φ := φ) ψ (V3 f : FVec Ideal (⟨3, ![n, w, d]⟩ : Shape) φ) h = V3 f := rfl

theorem extf_V3 {n w d : ℕ} (f : ℕ → ℕ → ℕ → ℝ) (h) : extf (F := Ideal) (φ := φ) ψ (V3 f : FVec Ideal (⟨3, ![n, w, d]⟩ : Shape) φ) h = V3 f := rfl

theorem broadcast_zero_V3 {n w d : ℕ} : broadcast (⟨3, ![n, w, d]⟩ : Shape) (Scalar.ofBits (F := Ideal) .f32 0x00000000#32) = V3 (fun _ _ _ => 0) :=
  funext fun j => Ideal.ofBits_zero_f32

theorem constant_zero_V3 {n w d : ℕ} : constant (F := Ideal) (⟨3, ![n, w, d]⟩ : Shape) .f32 0x00000000#32 = V3 (fun _ _ _ => 0) :=
  funext fun j => Ideal.ofBits_zero_f32

theorem broadcast_one_V3 {n w d : ℕ} : broadcast (⟨3, ![n, w, d]⟩ : Shape) (Scalar.ofBits (F := Ideal) .f32 0x3F800000#32) = V3 (fun _ _ _ => 1) :=
  funext fun j => Ideal.ofBits_one_f32

theorem select_V3 {n w d : ℕ} (p : ℕ → ℕ → ℕ → Bool) (f g : ℕ → ℕ → ℕ → ℝ) :
    select (M3 p) (V3 f : FVec Ideal (⟨3, ![n, w, d]⟩ : Shape) φ) (V3 g) = V3 (fun b r l => if p b r l = true then f b r l else g b r l) := by
  funext j
  show Scalar.select (BitVec.ofBool _) _ _ = _
  unfold V3
  beta_reduce
  cases p (j 0).val (j 1).val (j 2).val <;> simp [Scalar.select]

end

end Cert.Hgrn
-- ==== Proof.Local.lean ====
module

public import proofs.«01_k».proof.Proof.Lift
public import Idealize.ShloMosaic.Lib.Pointwise

@[expose] public section

set_option maxRecDepth 16384

noncomputable section

namespace Cert.Hgrn
open Finset

/-! What one block of rows computes, as functions of real numbers. A block is a number of chunks of sixty-four rows; row `r` of chunk `b` is row
`b * 64 + r` of the block. -/

/-- The query: the gated projection, scaled. -/
def qv (p : ℕ → ℕ → ℝ) (t l : ℕ) : ℝ := p t l * sgm (p t l) * qk
/-- The forget gate. -/
def fv (lb : ℕ → ℝ) (p : ℕ → ℕ → ℝ) (t l : ℕ) : ℝ := lb l + (1 - lb l) * sgm (p t (128 + l))
/-- The key: what the forget gate lets go. -/
def kv (lb : ℕ → ℝ) (p : ℕ → ℕ → ℝ) (t l : ℕ) : ℝ := 1 - fv lb p t l
/-- The value. -/
def vv (p : ℕ → ℕ → ℝ) (t l : ℕ) : ℝ := p t (256 + l)
/-- The logarithm of the forget gate, held above its floor. -/
def lfv (lb : ℕ → ℝ) (p : ℕ → ℕ → ℝ) (t l : ℕ) : ℝ := Real.log (max (fv lb p t l) mf)
/-- The running sum of `f` within each chunk. -/
def gcum (f : ℕ → ℕ → ℝ) (t l : ℕ) : ℝ := ∑ s ∈ range (t % 64 + 1), f (t / 64 * 64 + s) l
/-- The derivative of the query with respect to the projection. -/
def dqv (p : ℕ → ℕ → ℝ) (t l : ℕ) : ℝ := (sgm (p t l) + p t l * sgm (p t l) * (1 - sgm (p t l))) * qk

section
variable (q k v g o : ℕ → ℕ → ℝ)

/-- What chunk `c` adds to the cotangent of the state before it. -/
def ds0 (c x y : ℕ) : ℝ := ∑ r ∈ range 64, o (c * 64 + r) x * (q (c * 64 + r) y * Real.exp (g (c * 64 + r) y))
/-- The cotangent of the state, carried back over the last `n` of four chunks from `D`. -/
def dsn (D : ℕ → ℕ → ℝ) : ℕ → ℕ → ℕ → ℝ
  | 0 => D
  | n + 1 => fun x y => ds0 q g o (3 - n) x y + dsn D n x y * Real.exp (g ((3 - n) * 64 + 63) y)
/-- The cotangent of the state after chunk `b` of four. -/
def dsp (D : ℕ → ℕ → ℝ) (b x y : ℕ) : ℝ := dsn q g o D (3 - b) x y

variable (st ds : ℕ → ℕ → ℕ → ℝ)

/-- What the state gives the query's gradient. -/
def dqt (b r l : ℕ) : ℝ := ∑ x ∈ range 128, o (b * 64 + r) x * st b x l
/-- What the state gives the key's gradient. -/
def dkt (b s l : ℕ) : ℝ := ∑ x ∈ range 128, v (b * 64 + s) x * ds b x l
/-- What the state gives the value's gradient. -/
def dvs (b s l : ℕ) : ℝ := ∑ y ∈ range 128, k (b * 64 + s) y * Real.exp (g (b * 64 + 63) y - g (b * 64 + s) y) * ds b l y
/-- The gradient of a chunk's whole decay. -/
def dgl (b l : ℕ) : ℝ := Real.exp (g (b * 64 + 63) l) * (∑ x ∈ range 128, st b x l * ds b x l)
  + ∑ s ∈ range 64, dkt v ds b s l * (k (b * 64 + s) l * Real.exp (g (b * 64 + 63) l - g (b * 64 + s) l))
/-- The gradient of the query. -/
def dq3 (b r l : ℕ) : ℝ := (∑ s ∈ range 64, if s ≤ r then (∑ x ∈ range 128, o (b * 64 + r) x * v (b * 64 + s) x)
    * (k (b * 64 + s) l * Real.exp (g (b * 64 + r) l - g (b * 64 + s) l)) else 0) + dqt o st b r l * Real.exp (g (b * 64 + r) l)
/-- The gradient of the key. -/
def dk3 (b s l : ℕ) : ℝ := (∑ r ∈ range 64, if s ≤ r then (∑ x ∈ range 128, o (b * 64 + r) x * v (b * 64 + s) x)
    * (q (b * 64 + r) l * Real.exp (g (b * 64 + r) l - g (b * 64 + s) l)) else 0)
      + dkt v ds b s l * Real.exp (g (b * 64 + 63) l - g (b * 64 + s) l)
/-- The gradient of the value. -/
def dv3 (b s l : ℕ) : ℝ := (∑ r ∈ range 64, if s ≤ r then (∑ y ∈ range 128, q (b * 64 + r) y
    * Real.exp (g (b * 64 + r) y - g (b * 64 + s) y) * k (b * 64 + s) y) * o (b * 64 + r) l else 0) + dvs k g ds b s l

end

/-- The gradient of the running sum of the decay. -/
def dg3 (k : ℕ → ℕ → ℝ) (dgl : ℕ → ℕ → ℝ) (qdq dk : ℕ → ℕ → ℕ → ℝ) (b r l : ℕ) : ℝ :=
  qdq b r l - k (b * 64 + r) l * dk b r l + if r = 63 then dgl b l else 0
/-- The gradient of the forget gate, from the gradients `dg` of the running sum and `dk` of the key. -/
def dfv (f : ℕ → ℕ → ℝ) (dg dk : ℕ → ℕ → ℕ → ℝ) (t l : ℕ) : ℝ :=
  (if mf < f t l then (∑ s ∈ range 64, if t % 64 ≤ s then dg (t / 64) s l else 0) / f t l else 0) - dk (t / 64) (t % 64) l

end Cert.Hgrn
-- ==== Proof.Global.lean ====
module

public import proofs.«01_k».proof.Proof.Local
public import Idealize.ShloMosaic.Lib.Pointwise

@[expose] public section

set_option maxRecDepth 16384

noncomputable section

namespace Cert.Hgrn
open Finset

/-! The recurrence over the whole sequence of 8192 rows of one head, as functions of real numbers, and how a chunk of sixty-four rows computes its
share of it from the state before the chunk and the cotangent of the state after it. -/

section
variable (q k v f o : ℕ → ℕ → ℝ)

/-- The sum of `f` over the rows before `n`. -/
def cs (n l : ℕ) : ℝ := ∑ s ∈ range n, f s l
/-- How much of row `s` is left at row `t`. -/
def dec (t s l : ℕ) : ℝ := Real.exp (cs f (t + 1) l - cs f (s + 1) l)
/-- The score of row `s` at row `t`. -/
def sc (t s : ℕ) : ℝ := ∑ y ∈ range 128, q t y * dec f t s y * k s y
/-- The output of the mixer. -/
def out (t l : ℕ) : ℝ := ∑ s ∈ range 8192, if s ≤ t then sc q k f t s * v s l else 0
/-- The state before chunk `n`. -/
def stt (n x y : ℕ) : ℝ := ∑ s ∈ range 8192, if s < 64 * n then v s x * (Real.exp (cs f (64 * n) y - cs f (s + 1) y) * k s y) else 0
/-- The gradient of the score of row `s` at row `t`. -/
def gsc (t s : ℕ) : ℝ := ∑ x ∈ range 128, o t x * v s x
/-- The gradient of the query. -/
def gq (t l : ℕ) : ℝ := ∑ s ∈ range 8192, if s ≤ t then gsc v o t s * (k s l * dec f t s l) else 0
/-- The gradient of the key. -/
def gk (s l : ℕ) : ℝ := ∑ t ∈ range 8192, if s ≤ t then gsc v o t s * (q t l * dec f t s l) else 0
/-- The gradient of the value. -/
def gv (s l : ℕ) : ℝ := ∑ t ∈ range 8192, if s ≤ t then sc q k f t s * o t l else 0
/-- The cotangent of the state before chunk `n`. -/
def gst (n x y : ℕ) : ℝ := ∑ t ∈ range 8192, if 64 * n ≤ t then o t x * (q t y * Real.exp (cs f (t + 1) y - cs f (64 * n) y)) else 0
/-- The gradient of the logarithm of the forget gate. -/
def glf (t l : ℕ) : ℝ := ∑ u ∈ range 8192, if t ≤ u then q u l * gq k v f o u l - k u l * gk q v f o u l else 0

end

/-- The rows before chunk `c`, the rows of chunk `c` and the rows after it. -/
theorem chunk_split (a : ℕ → ℝ) (c : ℕ) (hc : c < 128) : ∑ s ∈ range 8192, a s
    = (∑ s ∈ range 8192, if s < 64 * c then a s else 0) + (∑ r ∈ range 64, a (64 * c + r))
      + ∑ s ∈ range 8192, if 64 * (c + 1) ≤ s then a s else 0 := by
  have e : ∀ n, n ≤ 8192 → ∀ b : ℕ → ℝ, (∑ s ∈ range 8192, if s < n then b s else 0) = ∑ s ∈ range n, b s := fun n hn b => by
    rw [← sum_filter]
    refine sum_congr ?_ fun _ _ => rfl
    ext s; simp only [mem_filter, mem_range]; omega
  have h : ∀ s, a s = (if s < 64 * (c + 1) then a s else 0) + if 64 * (c + 1) ≤ s then a s else 0 := fun s => by
    by_cases q : s < 64 * (c + 1)
    · rw [if_pos q, if_neg (by omega), add_zero]
    · rw [if_neg q, if_pos (by omega), zero_add]
  rw [sum_congr rfl fun s _ => h s, sum_add_distrib, e _ (by omega), e _ (by omega), show 64 * (c + 1) = 64 * c + 64 by ring, sum_range_add]

theorem sum_range_before (a : ℕ → ℝ) (n : ℕ) (hn : n ≤ 8192) : (∑ s ∈ range 8192, if s < n then a s else 0) = ∑ s ∈ range n, a s := by
  rw [← sum_filter]
  refine sum_congr ?_ fun _ _ => rfl
  ext s; simp only [mem_filter, mem_range]; omega

theorem sum_rev (X S T : Finset ℕ) (F : ℕ → ℕ → ℕ → ℝ) : (∑ x ∈ X, ∑ s ∈ S, ∑ t ∈ T, F x s t) = ∑ t ∈ T, ∑ s ∈ S, ∑ x ∈ X, F x s t := by
  rw [sum_comm, sum_congr rfl fun s _ => sum_comm (s := X) (t := T), sum_comm]

section
variable (q k v f o : ℕ → ℕ → ℝ) (c : ℕ) (hc : c < 128)
include hc

/-- A causal sum at row `r` of chunk `c`: the rows before the chunk and the rows of the chunk up to `r`. -/
theorem causal_le (a : ℕ → ℝ) (r : ℕ) (hr : r < 64) : (∑ s ∈ range 8192, if s ≤ 64 * c + r then a s else 0)
    = (∑ s ∈ range 64, if s ≤ r then a (64 * c + s) else 0) + ∑ s ∈ range 8192, if s < 64 * c then a s else 0 := by
  rw [chunk_split _ c hc, add_comm (∑ s ∈ range 64, _)]
  have h : (∑ s ∈ range 8192, if 64 * (c + 1) ≤ s then (if s ≤ 64 * c + r then a s else 0) else 0) = 0 := sum_eq_zero fun s _ => by
    split_ifs <;> first | rfl | omega
  rw [h, add_zero]
  refine congrArg₂ (· + ·) ?_ ?_
  · refine sum_congr rfl fun s _ => ?_
    split_ifs <;> first | rfl | omega
  · refine sum_congr rfl fun s _ => ?_
    split_ifs <;> first | rfl | omega

/-- An anticausal sum at row `r` of chunk `c`: the rows of the chunk from `r` and the rows after the chunk. -/
theorem causal_ge (a : ℕ → ℝ) (r : ℕ) (hr : r < 64) : (∑ s ∈ range 8192, if 64 * c + r ≤ s then a s else 0)
    = (∑ s ∈ range 64, if r ≤ s then a (64 * c + s) else 0) + ∑ s ∈ range 8192, if 64 * (c + 1) ≤ s then a s else 0 := by
  rw [chunk_split _ c hc]
  have h : (∑ s ∈ range 8192, if s < 64 * c then (if 64 * c + r ≤ s then a s else 0) else 0) = 0 := sum_eq_zero fun s _ => by
    split_ifs <;> first | rfl | omega
  rw [h, zero_add]
  refine congrArg₂ (· + ·) ?_ ?_
  · refine sum_congr rfl fun s _ => ?_
    split_ifs <;> first | rfl | omega
  · refine sum_congr rfl fun s _ => ?_
    split_ifs <;> first | rfl | omega

theorem gq_chunk (r l : ℕ) (hr : r < 64) : gq k v f o (64 * c + r) l
    = (∑ s ∈ range 64, if s ≤ r then gsc v o (64 * c + r) (64 * c + s) * (k (64 * c + s) l * dec f (64 * c + r) (64 * c + s) l) else 0)
      + (∑ x ∈ range 128, o (64 * c + r) x * stt k v f c x l) * Real.exp (cs f (64 * c + r + 1) l - cs f (64 * c) l) := by
  rw [gq, causal_le c hc _ r hr]
  refine congrArg₂ (· + ·) rfl ?_
  simp only [stt, mul_sum, sum_mul]
  rw [sum_comm]
  refine sum_congr rfl fun s _ => ?_
  by_cases h : s < 64 * c
  · simp only [if_pos h, gsc, sum_mul]
    refine sum_congr rfl fun x _ => ?_
    rw [dec, show cs f (64 * c + r + 1) l - cs f (s + 1) l
      = (cs f (64 * c + r + 1) l - cs f (64 * c) l) + (cs f (64 * c) l - cs f (s + 1) l) by ring, Real.exp_add]
    ring
  · simp only [if_neg h, mul_zero, zero_mul, sum_const_zero]

theorem out_chunk (r l : ℕ) (hr : r < 64) : out q k v f (64 * c + r) l
    = (∑ s ∈ range 64, if s ≤ r then sc q k f (64 * c + r) (64 * c + s) * v (64 * c + s) l else 0)
      + ∑ y ∈ range 128, (q (64 * c + r) y * Real.exp (cs f (64 * c + r + 1) y - cs f (64 * c) y)) * stt k v f c l y := by
  rw [out, causal_le c hc _ r hr]
  refine congrArg₂ (· + ·) rfl ?_
  simp only [stt, mul_sum]
  rw [sum_comm]
  refine sum_congr rfl fun s _ => ?_
  by_cases h : s < 64 * c
  · simp only [if_pos h, sc, sum_mul]
    refine sum_congr rfl fun y _ => ?_
    rw [dec, show cs f (64 * c + r + 1) y - cs f (s + 1) y
      = (cs f (64 * c + r + 1) y - cs f (64 * c) y) + (cs f (64 * c) y - cs f (s + 1) y) by ring, Real.exp_add]
    ring
  · simp only [if_neg h, mul_zero, sum_const_zero]

theorem gk_chunk (s l : ℕ) (hs : s < 64) : gk q v f o (64 * c + s) l
    = (∑ r ∈ range 64, if s ≤ r then gsc v o (64 * c + r) (64 * c + s) * (q (64 * c + r) l * dec f (64 * c + r) (64 * c + s) l) else 0)
      + (∑ x ∈ range 128, v (64 * c + s) x * gst q f o (c + 1) x l) * Real.exp (cs f (64 * (c + 1)) l - cs f (64 * c + s + 1) l) := by
  rw [gk, causal_ge c hc _ s hs]
  refine congrArg₂ (· + ·) rfl ?_
  simp only [gst, mul_sum, sum_mul]
  rw [sum_comm]
  refine sum_congr rfl fun t _ => ?_
  by_cases h : 64 * (c + 1) ≤ t
  · simp only [if_pos h, gsc, sum_mul]
    refine sum_congr rfl fun x _ => ?_
    rw [dec, show cs f (t + 1) l - cs f (64 * c + s + 1) l
      = (cs f (t + 1) l - cs f (64 * (c + 1)) l) + (cs f (64 * (c + 1)) l - cs f (64 * c + s + 1) l) by ring, Real.exp_add]
    ring
  · simp only [if_neg h, mul_zero, zero_mul, sum_const_zero]

theorem gv_chunk (s l : ℕ) (hs : s < 64) : gv q k f o (64 * c + s) l
    = (∑ r ∈ range 64, if s ≤ r then sc q k f (64 * c + r) (64 * c + s) * o (64 * c + r) l else 0)
      + ∑ y ∈ range 128, k (64 * c + s) y * Real.exp (cs f (64 * (c + 1)) y - cs f (64 * c + s + 1) y) * gst q f o (c + 1) l y := by
  rw [gv, causal_ge c hc _ s hs]
  refine congrArg₂ (· + ·) rfl ?_
  simp only [gst, mul_sum]
  rw [sum_comm]
  refine sum_congr rfl fun t _ => ?_
  by_cases h : 64 * (c + 1) ≤ t
  · simp only [if_pos h, sc, sum_mul]
    refine sum_congr rfl fun y _ => ?_
    rw [dec, show cs f (t + 1) y - cs f (64 * c + s + 1) y
      = (cs f (t + 1) y - cs f (64 * (c + 1)) y) + (cs f (64 * (c + 1)) y - cs f (64 * c + s + 1) y) by ring, Real.exp_add]
    ring
  · simp only [if_neg h, mul_zero, sum_const_zero]

/-- The cotangent of the state, carried back over one chunk. -/
theorem gst_step (x y : ℕ) : gst q f o c x y
    = (∑ r ∈ range 64, o (64 * c + r) x * (q (64 * c + r) y * Real.exp (cs f (64 * c + r + 1) y - cs f (64 * c) y)))
      + gst q f o (c + 1) x y * Real.exp (cs f (64 * (c + 1)) y - cs f (64 * c) y) := by
  rw [gst, ← Nat.add_zero (64 * c), causal_ge c hc _ 0 (by omega), Nat.add_zero]
  refine congrArg₂ (· + ·) (sum_congr rfl fun _ _ => if_pos (Nat.zero_le _)) ?_
  rw [gst, sum_mul]
  refine sum_congr rfl fun t _ => ?_
  by_cases h : 64 * (c + 1) ≤ t
  · simp only [if_pos h]
    rw [show cs f (t + 1) y - cs f (64 * c) y
      = (cs f (t + 1) y - cs f (64 * (c + 1)) y) + (cs f (64 * (c + 1)) y - cs f (64 * c) y) by ring, Real.exp_add]
    ring
  · simp only [if_neg h, zero_mul]

/-- The state, carried over one chunk. -/
theorem stt_step (x y : ℕ) : stt k v f (c + 1) x y
    = stt k v f c x y * Real.exp (cs f (64 * (c + 1)) y - cs f (64 * c) y)
      + ∑ s ∈ range 64, v (64 * c + s) x * (k (64 * c + s) y * Real.exp (cs f (64 * (c + 1)) y - cs f (64 * c + s + 1) y)) := by
  rw [stt, sum_range_before _ _ (by omega), show 64 * (c + 1) = 64 * c + 64 by ring, sum_range_add, stt, sum_range_before _ _ (by omega), sum_mul]
  refine congrArg₂ (· + ·) ?_ ?_
  · refine sum_congr rfl fun s _ => ?_
    rw [show cs f (64 * c + 64) y - cs f (s + 1) y = (cs f (64 * c + 64) y - cs f (64 * c) y) + (cs f (64 * c) y - cs f (s + 1) y) by ring, Real.exp_add]
    ring
  · refine sum_congr rfl fun s _ => ?_
    ring

/-- What the rows after chunk `c` give the gradient of the decay of every row before them. -/
theorem glf_after (l : ℕ) : (∑ u ∈ range 8192, if 64 * (c + 1) ≤ u then q u l * gq k v f o u l - k u l * gk q v f o u l else 0)
    = ∑ x ∈ range 128, stt k v f (c + 1) x l * gst q f o (c + 1) x l := by
  have hx : ∀ t s, (if s ≤ t then gsc v o t s * (k s l * dec f t s l) else 0) * q t l
      = k s l * (if s ≤ t then gsc v o t s * (q t l * dec f t s l) else 0) := fun t s => by
    split_ifs
    · ring
    · ring
  have h1 : (∑ u ∈ range 8192, if 64 * (c + 1) ≤ u then q u l * gq k v f o u l - k u l * gk q v f o u l else 0)
      = ∑ t ∈ range 8192, ∑ s ∈ range 8192, if 64 * (c + 1) ≤ t ∧ s < 64 * (c + 1) then gsc v o t s * (k s l * dec f t s l) * q t l else 0 := by
    have e1 : ∀ u, (if 64 * (c + 1) ≤ u then q u l * gq k v f o u l - k u l * gk q v f o u l else 0)
        = (if 64 * (c + 1) ≤ u then q u l * gq k v f o u l else 0) - (if 64 * (c + 1) ≤ u then k u l * gk q v f o u l else 0) := fun u => by
      split_ifs <;> ring
    rw [sum_congr rfl fun u _ => e1 u, sum_sub_distrib]
    have e2 : (∑ u ∈ range 8192, if 64 * (c + 1) ≤ u then k u l * gk q v f o u l else 0)
        = ∑ t ∈ range 8192, ∑ s ∈ range 8192, if 64 * (c + 1) ≤ s then (if s ≤ t then gsc v o t s * (k s l * dec f t s l) else 0) * q t l else 0 := by
      rw [sum_comm]
      refine sum_congr rfl fun s _ => ?_
      by_cases h : 64 * (c + 1) ≤ s
      · simp only [if_pos h, gk, mul_sum]
        exact sum_congr rfl fun t _ => (hx t s).symm
      · simp only [if_neg h, sum_const_zero]
    rw [e2, ← sum_sub_distrib]
    refine sum_congr rfl fun t _ => ?_
    have e3 : (if 64 * (c + 1) ≤ t then q t l * gq k v f o t l else 0)
        = ∑ s ∈ range 8192, if 64 * (c + 1) ≤ t then (if s ≤ t then gsc v o t s * (k s l * dec f t s l) else 0) * q t l else 0 := by
      by_cases h : 64 * (c + 1) ≤ t
      · simp only [if_pos h, gq, mul_sum]
        exact sum_congr rfl fun s _ => mul_comm _ _
      · simp only [if_neg h, sum_const_zero]
    rw [e3, ← sum_sub_distrib]
    refine sum_congr rfl fun s _ => ?_
    split_ifs <;> first | omega | ring
  rw [h1]
  symm
  simp only [stt, gst, sum_mul_sum]
  rw [sum_rev]
  refine sum_congr rfl fun t _ => sum_congr rfl fun s _ => ?_
  symm
  by_cases ht : 64 * (c + 1) ≤ t
  · by_cases hs : s < 64 * (c + 1)
    · rw [if_pos (And.intro ht hs)]
      simp only [if_pos ht, if_pos hs, gsc, sum_mul]
      refine sum_congr rfl fun x _ => ?_
      rw [dec, show cs f (t + 1) l - cs f (s + 1) l
        = (cs f (t + 1) l - cs f (64 * (c + 1)) l) + (cs f (64 * (c + 1)) l - cs f (s + 1) l) by ring, Real.exp_add]
      ring
    · rw [if_neg fun h => hs h.2]
      simp only [if_neg hs, zero_mul, sum_const_zero]
  · rw [if_neg fun h => ht h.1]
    simp only [if_neg ht, mul_zero, sum_const_zero]

/-- The gradient of the logarithm of the forget gate at a row of chunk `c`. -/
theorem glf_chunk (r l : ℕ) (hr : r < 64) : glf q k v f o (64 * c + r) l
    = (∑ s ∈ range 64, if r ≤ s then q (64 * c + s) l * gq k v f o (64 * c + s) l - k (64 * c + s) l * gk q v f o (64 * c + s) l else 0)
      + ∑ x ∈ range 128, stt k v f (c + 1) x l * gst q f o (c + 1) x l := by
  rw [glf, causal_ge c hc _ r hr, glf_after q k v f o c hc l]

end

/-- No state comes before the first chunk, and no cotangent after the last. -/
theorem stt_zero (k v f : ℕ → ℕ → ℝ) (x y : ℕ) : stt k v f 0 x y = 0 := sum_eq_zero fun s _ => if_neg (by omega)
theorem gst_last (q f o : ℕ → ℕ → ℝ) (x y : ℕ) : gst q f o 128 x y = 0 := sum_eq_zero fun t h => if_neg (by have := mem_range.mp h; omega)

/-! The four heads lie side by side in the columns. -/

/-- The columns of head `h`. -/
def col (p : ℕ → ℕ → ℝ) (h t c : ℕ) : ℝ := p t (h * 384 + c)
/-- The lower bounds of head `h`. -/
def low (L : ℕ → ℝ) (h l : ℕ) : ℝ := L (h * 128 + l)
/-- The cotangent of the output of head `h`. -/
def cot (O : ℕ → ℕ → ℝ) (h t l : ℕ) : ℝ := O t (h * 128 + l)

end Cert.Hgrn
-- ==== Proof.OpsB.lean ====
module

public import proofs.«01_k».proof.Proof.Gen.KernelIdeal.Value
public import proofs.«01_k».proof.Proof.Lift
public import Idealize.ShloMosaic.Lib.Pointwise

@[expose] public section

set_option maxRecDepth 16384

noncomputable section

namespace Cert.Hgrn.Bwd
open Cert.KernelIdeal Cert.KernelIdeal.Gen Idealize.ShloMosaic Idealize.SL.Sem Cert.Hgrn

/-! The structural operations of this program on arrays of reals: each keeps an array of reals and only moves, sums or selects its entries. -/

theorem V2_zero {n d : ℕ} (j : (⟨2, ![n, d]⟩ : Shape).Idx) : V2 (fun _ _ => 0) j = 0 := EReal.coe_zero
theorem V3_zero {n w d : ℕ} (j : (⟨3, ![n, w, d]⟩ : Shape).Idx) : V3 (fun _ _ _ => 0) j = 0 := EReal.coe_zero

theorem bcast_S16x16x1_S16x16x128 (f : ℕ → ℕ → ℕ → ℝ) (h) :
    broadcastTo S16x16x128 (V3 (n := 16) (w := 16) (d := 1) f) h
      = V3 (fun b r _ => f b r 0) := by
  funext j
  pointwise
  rfl

theorem bcast_S16x1x128_S16x16x128 (f : ℕ → ℕ → ℕ → ℝ) (h) :
    broadcastTo S16x16x128 (V3 (n := 16) (w := 1) (d := 128) f) h
      = V3 (fun b _ l => f b 0 l) := by
  funext j
  pointwise
  rfl

theorem bcast_S1x128_S128x128 (f : ℕ → ℕ → ℝ) (h) :
    broadcastTo S128x128 (V2 (n := 1) (d := 128) f) h
      = V2 (fun _ l => f 0 l) := by
  funext j
  pointwise
  rfl

theorem bcast_S1x128_S256x128 (f : ℕ → ℕ → ℝ) (h) :
    broadcastTo S256x128 (V2 (n := 1) (d := 128) f) h
      = V2 (fun _ l => f 0 l) := by
  funext j
  pointwise
  rfl

theorem bcast_S4x1x128_S4x16x128 (f : ℕ → ℕ → ℕ → ℝ) (h) :
    broadcastTo S4x16x128 (V3 (n := 4) (w := 1) (d := 128) f) h
      = V3 (fun b _ l => f b 0 l) := by
  funext j
  pointwise
  rfl

theorem bcast_S4x1x128_S4x32x128 (f : ℕ → ℕ → ℕ → ℝ) (h) :
    broadcastTo S4x32x128 (V3 (n := 4) (w := 1) (d := 128) f) h
      = V3 (fun b _ l => f b 0 l) := by
  funext j
  pointwise
  rfl

theorem bcast_S4x1x128_S4x48x128 (f : ℕ → ℕ → ℕ → ℝ) (h) :
    broadcastTo S4x48x128 (V3 (n := 4) (w := 1) (d := 128) f) h
      = V3 (fun b _ l => f b 0 l) := by
  funext j
  pointwise
  rfl

theorem bcast_S4x1x128_S4x64x128 (f : ℕ → ℕ → ℕ → ℝ) (h) :
    broadcastTo S4x64x128 (V3 (n := 4) (w := 1) (d := 128) f) h
      = V3 (fun b _ l => f b 0 l) := by
  funext j
  pointwise
  rfl

/-- The 4 arrays one after another along axis 0. -/
def cat_S1x128x128_S1x128x128_S1x128x128_S1x128x128 (x₁ : S1x128x128.Idx → EReal) (x₂ : S1x128x128.Idx → EReal) (x₃ : S1x128x128.Idx → EReal) (x₄ : S1x128x128.Idx → EReal) : S4x128x128.Idx → EReal := concatenate S4x128x128 0 [⟨S1x128x128, x₁⟩, ⟨S1x128x128, x₂⟩, ⟨S1x128x128, x₃⟩, ⟨S1x128x128, x₄⟩] concatenates_S1x128x128_S1x128x128_S1x128x128_S1x128x128_S4x128x128_d0

theorem to_cat_S1x128x128_S1x128x128_S1x128x128_S1x128x128 (x₁ : S1x128x128.Idx → EReal) (x₂ : S1x128x128.Idx → EReal) (x₃ : S1x128x128.Idx → EReal) (x₄ : S1x128x128.Idx → EReal) (h) : concatenate S4x128x128 0 [⟨S1x128x128, x₁⟩, ⟨S1x128x128, x₂⟩, ⟨S1x128x128, x₃⟩, ⟨S1x128x128, x₄⟩] h = cat_S1x128x128_S1x128x128_S1x128x128_S1x128x128 x₁ x₂ x₃ x₄ := rfl

theorem concat_S1x128x128_S1x128x128_S1x128x128_S1x128x128_S4x128x128_d0 (f₁ f₂ f₃ f₄ : ℕ → ℕ → ℕ → ℝ) :
    cat_S1x128x128_S1x128x128_S1x128x128_S1x128x128 (V3 (n := 1) (w := 128) (d := 128) f₁) (V3 (n := 1) (w := 128) (d := 128) f₂) (V3 (n := 1) (w := 128) (d := 128) f₃) (V3 (n := 1) (w := 128) (d := 128) f₄)
      = V3 (fun b r l => if b < 1 then f₁ b r l else if b - 1 < 1 then f₂ (b - 1) r l else if b - 1 - 1 < 1 then f₃ (b - 1 - 1) r l else f₄ (b - 1 - 1 - 1) r l) := by
  funext j
  unfold cat_S1x128x128_S1x128x128_S1x128x128_S1x128x128
  pointwise
  simp only [V3]
  split_ifs <;> rfl

/-- The 4 arrays one after another along axis 1. -/
def cat_S4x16x128_S4x16x128_S4x16x128_S4x16x128 (x₁ : S4x16x128.Idx → EReal) (x₂ : S4x16x128.Idx → EReal) (x₃ : S4x16x128.Idx → EReal) (x₄ : S4x16x128.Idx → EReal) : S4x64x128.Idx → EReal := concatenate S4x64x128 1 [⟨S4x16x128, x₁⟩, ⟨S4x16x128, x₂⟩, ⟨S4x16x128, x₃⟩, ⟨S4x16x128, x₄⟩] concatenates_S4x16x128_S4x16x128_S4x16x128_S4x16x128_S4x64x128_d1

theorem to_cat_S4x16x128_S4x16x128_S4x16x128_S4x16x128 (x₁ : S4x16x128.Idx → EReal) (x₂ : S4x16x128.Idx → EReal) (x₃ : S4x16x128.Idx → EReal) (x₄ : S4x16x128.Idx → EReal) (h) : concatenate S4x64x128 1 [⟨S4x16x128, x₁⟩, ⟨S4x16x128, x₂⟩, ⟨S4x16x128, x₃⟩, ⟨S4x16x128, x₄⟩] h = cat_S4x16x128_S4x16x128_S4x16x128_S4x16x128 x₁ x₂ x₃ x₄ := rfl

theorem concat_S4x16x128_S4x16x128_S4x16x128_S4x16x128_S4x64x128_d1 (f₁ f₂ f₃ f₄ : ℕ → ℕ → ℕ → ℝ) :
    cat_S4x16x128_S4x16x128_S4x16x128_S4x16x128 (V3 (n := 4) (w := 16) (d := 128) f₁) (V3 (n := 4) (w := 16) (d := 128) f₂) (V3 (n := 4) (w := 16) (d := 128) f₃) (V3 (n := 4) (w := 16) (d := 128) f₄)
      = V3 (fun b r l => if r < 16 then f₁ b r l else if r - 16 < 16 then f₂ b (r - 16) l else if r - 16 - 16 < 16 then f₃ b (r - 16 - 16) l else f₄ b (r - 16 - 16 - 16) l) := by
  funext j
  unfold cat_S4x16x128_S4x16x128_S4x16x128_S4x16x128
  pointwise
  simp only [V3]
  split_ifs <;> rfl

/-- The 2 arrays one after another along axis 1. -/
def cat_S4x16x128_S4x48x128 (x₁ : S4x16x128.Idx → EReal) (x₂ : S4x48x128.Idx → EReal) : S4x64x128.Idx → EReal := concatenate S4x64x128 1 [⟨S4x16x128, x₁⟩, ⟨S4x48x128, x₂⟩] concatenates_S4x16x128_S4x48x128_S4x64x128_d1

theorem to_cat_S4x16x128_S4x48x128 (x₁ : S4x16x128.Idx → EReal) (x₂ : S4x48x128.Idx → EReal) (h) : concatenate S4x64x128 1 [⟨S4x16x128, x₁⟩, ⟨S4x48x128, x₂⟩] h = cat_S4x16x128_S4x48x128 x₁ x₂ := rfl

theorem concat_S4x16x128_S4x48x128_S4x64x128_d1 (f₁ f₂ : ℕ → ℕ → ℕ → ℝ) :
    cat_S4x16x128_S4x48x128 (V3 (n := 4) (w := 16) (d := 128) f₁) (V3 (n := 4) (w := 48) (d := 128) f₂)
      = V3 (fun b r l => if r < 16 then f₁ b r l else f₂ b (r - 16) l) := by
  funext j
  unfold cat_S4x16x128_S4x48x128
  pointwise
  simp only [V3]
  split_ifs <;> rfl

/-- The 2 arrays one after another along axis 1. -/
def cat_S4x32x128_S4x32x128 (x₁ : S4x32x128.Idx → EReal) (x₂ : S4x32x128.Idx → EReal) : S4x64x128.Idx → EReal := concatenate S4x64x128 1 [⟨S4x32x128, x₁⟩, ⟨S4x32x128, x₂⟩] concatenates_S4x32x128_S4x32x128_S4x64x128_d1

theorem to_cat_S4x32x128_S4x32x128 (x₁ : S4x32x128.Idx → EReal) (x₂ : S4x32x128.Idx → EReal) (h) : concatenate S4x64x128 1 [⟨S4x32x128, x₁⟩, ⟨S4x32x128, x₂⟩] h = cat_S4x32x128_S4x32x128 x₁ x₂ := rfl

theorem concat_S4x32x128_S4x32x128_S4x64x128_d1 (f₁ f₂ : ℕ → ℕ → ℕ → ℝ) :
    cat_S4x32x128_S4x32x128 (V3 (n := 4) (w := 32) (d := 128) f₁) (V3 (n := 4) (w := 32) (d := 128) f₂)
      = V3 (fun b r l => if r < 32 then f₁ b r l else f₂ b (r - 32) l) := by
  funext j
  unfold cat_S4x32x128_S4x32x128
  pointwise
  simp only [V3]
  split_ifs <;> rfl

/-- The 2 arrays one after another along axis 1. -/
def cat_S4x48x128_S4x16x128 (x₁ : S4x48x128.Idx → EReal) (x₂ : S4x16x128.Idx → EReal) : S4x64x128.Idx → EReal := concatenate S4x64x128 1 [⟨S4x48x128, x₁⟩, ⟨S4x16x128, x₂⟩] concatenates_S4x48x128_S4x16x128_S4x64x128_d1

theorem to_cat_S4x48x128_S4x16x128 (x₁ : S4x48x128.Idx → EReal) (x₂ : S4x16x128.Idx → EReal) (h) : concatenate S4x64x128 1 [⟨S4x48x128, x₁⟩, ⟨S4x16x128, x₂⟩] h = cat_S4x48x128_S4x16x128 x₁ x₂ := rfl

theorem concat_S4x48x128_S4x16x128_S4x64x128_d1 (f₁ f₂ : ℕ → ℕ → ℕ → ℝ) :
    cat_S4x48x128_S4x16x128 (V3 (n := 4) (w := 48) (d := 128) f₁) (V3 (n := 4) (w := 16) (d := 128) f₂)
      = V3 (fun b r l => if r < 48 then f₁ b r l else f₂ b (r - 48) l) := by
  funext j
  unfold cat_S4x48x128_S4x16x128
  pointwise
  simp only [V3]
  split_ifs <;> rfl

theorem dotv_S4x16x128_S4x16x128_S4x16x16_2_2_1_1_0_0 (f g : ℕ → ℕ → ℕ → ℝ) (pr) :
    matmul (F := Ideal) (φ₁ := .bf16) (φ₂ := .bf16) dot_S4x16x128_S4x16x128_S4x16x16_2_2_1_1_0_0 pr (V3 (n := 4) (w := 16) (d := 128) f) (V3 (n := 4) (w := 16) (d := 128) g) (V3 (n := 4) (w := 16) (d := 16) fun _ _ _ => 0)
      = V3 (fun b r l => ∑ x ∈ Finset.range 128, f b r x * g b l x) := by
  funext j
  pointwise
  rw [V3_zero]
  rw [zero_add]
  exact sum_fin_mul (fun x => f (j 0).val (j 1).val x) (fun x => g (j 0).val (j 2).val x)

theorem dotv_S4x16x128_S4x32x128_S4x16x32_2_2_1_1_0_0 (f g : ℕ → ℕ → ℕ → ℝ) (pr) :
    matmul (F := Ideal) (φ₁ := .bf16) (φ₂ := .bf16) dot_S4x16x128_S4x32x128_S4x16x32_2_2_1_1_0_0 pr (V3 (n := 4) (w := 16) (d := 128) f) (V3 (n := 4) (w := 32) (d := 128) g) (V3 (n := 4) (w := 16) (d := 32) fun _ _ _ => 0)
      = V3 (fun b r l => ∑ x ∈ Finset.range 128, f b r x * g b l x) := by
  funext j
  pointwise
  rw [V3_zero]
  rw [zero_add]
  exact sum_fin_mul (fun x => f (j 0).val (j 1).val x) (fun x => g (j 0).val (j 2).val x)

theorem dotv_S4x16x128_S4x48x128_S4x16x48_2_2_1_1_0_0 (f g : ℕ → ℕ → ℕ → ℝ) (pr) :
    matmul (F := Ideal) (φ₁ := .bf16) (φ₂ := .bf16) dot_S4x16x128_S4x48x128_S4x16x48_2_2_1_1_0_0 pr (V3 (n := 4) (w := 16) (d := 128) f) (V3 (n := 4) (w := 48) (d := 128) g) (V3 (n := 4) (w := 16) (d := 48) fun _ _ _ => 0)
      = V3 (fun b r l => ∑ x ∈ Finset.range 128, f b r x * g b l x) := by
  funext j
  pointwise
  rw [V3_zero]
  rw [zero_add]
  exact sum_fin_mul (fun x => f (j 0).val (j 1).val x) (fun x => g (j 0).val (j 2).val x)

theorem dotv_S4x16x16_S4x16x128_S4x16x128_1_1_2_2_0_0 (f g : ℕ → ℕ → ℕ → ℝ) (pr) :
    matmul (F := Ideal) (φ₁ := .bf16) (φ₂ := .bf16) dot_S4x16x16_S4x16x128_S4x16x128_1_1_2_2_0_0 pr (V3 (n := 4) (w := 16) (d := 16) f) (V3 (n := 4) (w := 16) (d := 128) g) (V3 (n := 4) (w := 16) (d := 128) fun _ _ _ => 0)
      = V3 (fun b r l => ∑ x ∈ Finset.range 16, f b x r * g b x l) := by
  funext j
  pointwise
  rw [V3_zero]
  rw [zero_add]
  exact sum_fin_mul (fun x => f (j 0).val x (j 1).val) (fun x => g (j 0).val x (j 2).val)

theorem dotv_S4x16x16_S4x16x128_S4x16x128_2_1_1_2_0_0 (f g : ℕ → ℕ → ℕ → ℝ) (pr) :
    matmul (F := Ideal) (φ₁ := .bf16) (φ₂ := .bf16) dot_S4x16x16_S4x16x128_S4x16x128_2_1_1_2_0_0 pr (V3 (n := 4) (w := 16) (d := 16) f) (V3 (n := 4) (w := 16) (d := 128) g) (V3 (n := 4) (w := 16) (d := 128) fun _ _ _ => 0)
      = V3 (fun b r l => ∑ x ∈ Finset.range 16, f b r x * g b x l) := by
  funext j
  pointwise
  rw [V3_zero]
  rw [zero_add]
  exact sum_fin_mul (fun x => f (j 0).val (j 1).val x) (fun x => g (j 0).val x (j 2).val)

theorem dotv_S4x16x32_S4x16x128_S4x32x128_1_1_2_2_0_0 (f g : ℕ → ℕ → ℕ → ℝ) (pr) :
    matmul (F := Ideal) (φ₁ := .bf16) (φ₂ := .bf16) dot_S4x16x32_S4x16x128_S4x32x128_1_1_2_2_0_0 pr (V3 (n := 4) (w := 16) (d := 32) f) (V3 (n := 4) (w := 16) (d := 128) g) (V3 (n := 4) (w := 32) (d := 128) fun _ _ _ => 0)
      = V3 (fun b r l => ∑ x ∈ Finset.range 16, f b x r * g b x l) := by
  funext j
  pointwise
  rw [V3_zero]
  rw [zero_add]
  exact sum_fin_mul (fun x => f (j 0).val x (j 1).val) (fun x => g (j 0).val x (j 2).val)

theorem dotv_S4x16x32_S4x32x128_S4x16x128_2_1_1_2_0_0 (f g : ℕ → ℕ → ℕ → ℝ) (pr) :
    matmul (F := Ideal) (φ₁ := .bf16) (φ₂ := .bf16) dot_S4x16x32_S4x32x128_S4x16x128_2_1_1_2_0_0 pr (V3 (n := 4) (w := 16) (d := 32) f) (V3 (n := 4) (w := 32) (d := 128) g) (V3 (n := 4) (w := 16) (d := 128) fun _ _ _ => 0)
      = V3 (fun b r l => ∑ x ∈ Finset.range 32, f b r x * g b x l) := by
  funext j
  pointwise
  rw [V3_zero]
  rw [zero_add]
  exact sum_fin_mul (fun x => f (j 0).val (j 1).val x) (fun x => g (j 0).val x (j 2).val)

theorem dotv_S4x16x48_S4x16x128_S4x48x128_1_1_2_2_0_0 (f g : ℕ → ℕ → ℕ → ℝ) (pr) :
    matmul (F := Ideal) (φ₁ := .bf16) (φ₂ := .bf16) dot_S4x16x48_S4x16x128_S4x48x128_1_1_2_2_0_0 pr (V3 (n := 4) (w := 16) (d := 48) f) (V3 (n := 4) (w := 16) (d := 128) g) (V3 (n := 4) (w := 48) (d := 128) fun _ _ _ => 0)
      = V3 (fun b r l => ∑ x ∈ Finset.range 16, f b x r * g b x l) := by
  funext j
  pointwise
  rw [V3_zero]
  rw [zero_add]
  exact sum_fin_mul (fun x => f (j 0).val x (j 1).val) (fun x => g (j 0).val x (j 2).val)

theorem dotv_S4x16x48_S4x48x128_S4x16x128_2_1_1_2_0_0 (f g : ℕ → ℕ → ℕ → ℝ) (pr) :
    matmul (F := Ideal) (φ₁ := .bf16) (φ₂ := .bf16) dot_S4x16x48_S4x48x128_S4x16x128_2_1_1_2_0_0 pr (V3 (n := 4) (w := 16) (d := 48) f) (V3 (n := 4) (w := 48) (d := 128) g) (V3 (n := 4) (w := 16) (d := 128) fun _ _ _ => 0)
      = V3 (fun b r l => ∑ x ∈ Finset.range 48, f b r x * g b x l) := by
  funext j
  pointwise
  rw [V3_zero]
  rw [zero_add]
  exact sum_fin_mul (fun x => f (j 0).val (j 1).val x) (fun x => g (j 0).val x (j 2).val)

theorem dotv_S4x64x128_S4x128x128_S4x64x128_2_1_1_2_0_0 (f g : ℕ → ℕ → ℕ → ℝ) (pr) :
    matmul (F := Ideal) (φ₁ := .bf16) (φ₂ := .bf16) dot_S4x64x128_S4x128x128_S4x64x128_2_1_1_2_0_0 pr (V3 (n := 4) (w := 64) (d := 128) f) (V3 (n := 4) (w := 128) (d := 128) g) (V3 (n := 4) (w := 64) (d := 128) fun _ _ _ => 0)
      = V3 (fun b r l => ∑ x ∈ Finset.range 128, f b r x * g b x l) := by
  funext j
  pointwise
  rw [V3_zero]
  rw [zero_add]
  exact sum_fin_mul (fun x => f (j 0).val (j 1).val x) (fun x => g (j 0).val x (j 2).val)

theorem dotv_S4x64x128_S4x128x128_S4x64x128_2_2_1_1_0_0 (f g : ℕ → ℕ → ℕ → ℝ) (pr) :
    matmul (F := Ideal) (φ₁ := .bf16) (φ₂ := .bf16) dot_S4x64x128_S4x128x128_S4x64x128_2_2_1_1_0_0 pr (V3 (n := 4) (w := 64) (d := 128) f) (V3 (n := 4) (w := 128) (d := 128) g) (V3 (n := 4) (w := 64) (d := 128) fun _ _ _ => 0)
      = V3 (fun b r l => ∑ x ∈ Finset.range 128, f b r x * g b l x) := by
  funext j
  pointwise
  rw [V3_zero]
  rw [zero_add]
  exact sum_fin_mul (fun x => f (j 0).val (j 1).val x) (fun x => g (j 0).val (j 2).val x)

theorem dotv_S4x64x128_S4x64x128_S4x128x128_1_1_2_2_0_0 (f g : ℕ → ℕ → ℕ → ℝ) (pr) :
    matmul (F := Ideal) (φ₁ := .bf16) (φ₂ := .bf16) dot_S4x64x128_S4x64x128_S4x128x128_1_1_2_2_0_0 pr (V3 (n := 4) (w := 64) (d := 128) f) (V3 (n := 4) (w := 64) (d := 128) g) (V3 (n := 4) (w := 128) (d := 128) fun _ _ _ => 0)
      = V3 (fun b r l => ∑ x ∈ Finset.range 64, f b x r * g b x l) := by
  funext j
  pointwise
  rw [V3_zero]
  rw [zero_add]
  exact sum_fin_mul (fun x => f (j 0).val x (j 1).val) (fun x => g (j 0).val x (j 2).val)

theorem mask_sge_0 (dims) (hd : dims = [1]) (h) :
    cmpi .sge (iota .tc S16x16x128 32 dims h) (broadcast S16x16x128 0#32) = M3 (fun _ r _ => decide (0 ≤ r)) := by
  subst hd
  funext j
  pointwise
  show _ = BitVec.ofBool (decide _)
  generalize j 1 = x
  revert x
  decide

theorem mask_eq_0 (dims) (hd : dims = [1]) (h) :
    cmpi .eq (iota .tc S16x16x128 32 dims h) (broadcast S16x16x128 0#32) = M3 (fun _ r _ => decide (r = 0)) := by
  subst hd
  funext j
  pointwise
  show _ = BitVec.ofBool (decide _)
  generalize j 1 = x
  revert x
  decide

theorem mask_sge_1 (dims) (hd : dims = [1]) (h) :
    cmpi .sge (iota .tc S16x16x128 32 dims h) (broadcast S16x16x128 1#32) = M3 (fun _ r _ => decide (1 ≤ r)) := by
  subst hd
  funext j
  pointwise
  show _ = BitVec.ofBool (decide _)
  generalize j 1 = x
  revert x
  decide

theorem mask_eq_1 (dims) (hd : dims = [1]) (h) :
    cmpi .eq (iota .tc S16x16x128 32 dims h) (broadcast S16x16x128 1#32) = M3 (fun _ r _ => decide (r = 1)) := by
  subst hd
  funext j
  pointwise
  show _ = BitVec.ofBool (decide _)
  generalize j 1 = x
  revert x
  decide

theorem mask_sge_2 (dims) (hd : dims = [1]) (h) :
    cmpi .sge (iota .tc S16x16x128 32 dims h) (broadcast S16x16x128 2#32) = M3 (fun _ r _ => decide (2 ≤ r)) := by
  subst hd
  funext j
  pointwise
  show _ = BitVec.ofBool (decide _)
  generalize j 1 = x
  revert x
  decide

theorem mask_eq_2 (dims) (hd : dims = [1]) (h) :
    cmpi .eq (iota .tc S16x16x128 32 dims h) (broadcast S16x16x128 2#32) = M3 (fun _ r _ => decide (r = 2)) := by
  subst hd
  funext j
  pointwise
  show _ = BitVec.ofBool (decide _)
  generalize j 1 = x
  revert x
  decide

theorem mask_sge_3 (dims) (hd : dims = [1]) (h) :
    cmpi .sge (iota .tc S16x16x128 32 dims h) (broadcast S16x16x128 3#32) = M3 (fun _ r _ => decide (3 ≤ r)) := by
  subst hd
  funext j
  pointwise
  show _ = BitVec.ofBool (decide _)
  generalize j 1 = x
  revert x
  decide

theorem mask_eq_3 (dims) (hd : dims = [1]) (h) :
    cmpi .eq (iota .tc S16x16x128 32 dims h) (broadcast S16x16x128 3#32) = M3 (fun _ r _ => decide (r = 3)) := by
  subst hd
  funext j
  pointwise
  show _ = BitVec.ofBool (decide _)
  generalize j 1 = x
  revert x
  decide

theorem mask_sge_4 (dims) (hd : dims = [1]) (h) :
    cmpi .sge (iota .tc S16x16x128 32 dims h) (broadcast S16x16x128 4#32) = M3 (fun _ r _ => decide (4 ≤ r)) := by
  subst hd
  funext j
  pointwise
  show _ = BitVec.ofBool (decide _)
  generalize j 1 = x
  revert x
  decide

theorem mask_eq_4 (dims) (hd : dims = [1]) (h) :
    cmpi .eq (iota .tc S16x16x128 32 dims h) (broadcast S16x16x128 4#32) = M3 (fun _ r _ => decide (r = 4)) := by
  subst hd
  funext j
  pointwise
  show _ = BitVec.ofBool (decide _)
  generalize j 1 = x
  revert x
  decide

theorem mask_sge_5 (dims) (hd : dims = [1]) (h) :
    cmpi .sge (iota .tc S16x16x128 32 dims h) (broadcast S16x16x128 5#32) = M3 (fun _ r _ => decide (5 ≤ r)) := by
  subst hd
  funext j
  pointwise
  show _ = BitVec.ofBool (decide _)
  generalize j 1 = x
  revert x
  decide

theorem mask_eq_5 (dims) (hd : dims = [1]) (h) :
    cmpi .eq (iota .tc S16x16x128 32 dims h) (broadcast S16x16x128 5#32) = M3 (fun _ r _ => decide (r = 5)) := by
  subst hd
  funext j
  pointwise
  show _ = BitVec.ofBool (decide _)
  generalize j 1 = x
  revert x
  decide

theorem mask_sge_6 (dims) (hd : dims = [1]) (h) :
    cmpi .sge (iota .tc S16x16x128 32 dims h) (broadcast S16x16x128 6#32) = M3 (fun _ r _ => decide (6 ≤ r)) := by
  subst hd
  funext j
  pointwise
  show _ = BitVec.ofBool (decide _)
  generalize j 1 = x
  revert x
  decide

theorem mask_eq_6 (dims) (hd : dims = [1]) (h) :
    cmpi .eq (iota .tc S16x16x128 32 dims h) (broadcast S16x16x128 6#32) = M3 (fun _ r _ => decide (r = 6)) := by
  subst hd
  funext j
  pointwise
  show _ = BitVec.ofBool (decide _)
  generalize j 1 = x
  revert x
  decide

theorem mask_sge_7 (dims) (hd : dims = [1]) (h) :
    cmpi .sge (iota .tc S16x16x128 32 dims h) (broadcast S16x16x128 7#32) = M3 (fun _ r _ => decide (7 ≤ r)) := by
  subst hd
  funext j
  pointwise
  show _ = BitVec.ofBool (decide _)
  generalize j 1 = x
  revert x
  decide

theorem mask_eq_7 (dims) (hd : dims = [1]) (h) :
    cmpi .eq (iota .tc S16x16x128 32 dims h) (broadcast S16x16x128 7#32) = M3 (fun _ r _ => decide (r = 7)) := by
  subst hd
  funext j
  pointwise
  show _ = BitVec.ofBool (decide _)
  generalize j 1 = x
  revert x
  decide

theorem mask_sge_8 (dims) (hd : dims = [1]) (h) :
    cmpi .sge (iota .tc S16x16x128 32 dims h) (broadcast S16x16x128 8#32) = M3 (fun _ r _ => decide (8 ≤ r)) := by
  subst hd
  funext j
  pointwise
  show _ = BitVec.ofBool (decide _)
  generalize j 1 = x
  revert x
  decide

theorem mask_eq_8 (dims) (hd : dims = [1]) (h) :
    cmpi .eq (iota .tc S16x16x128 32 dims h) (broadcast S16x16x128 8#32) = M3 (fun _ r _ => decide (r = 8)) := by
  subst hd
  funext j
  pointwise
  show _ = BitVec.ofBool (decide _)
  generalize j 1 = x
  revert x
  decide

theorem mask_sge_9 (dims) (hd : dims = [1]) (h) :
    cmpi .sge (iota .tc S16x16x128 32 dims h) (broadcast S16x16x128 9#32) = M3 (fun _ r _ => decide (9 ≤ r)) := by
  subst hd
  funext j
  pointwise
  show _ = BitVec.ofBool (decide _)
  generalize j 1 = x
  revert x
  decide

theorem mask_eq_9 (dims) (hd : dims = [1]) (h) :
    cmpi .eq (iota .tc S16x16x128 32 dims h) (broadcast S16x16x128 9#32) = M3 (fun _ r _ => decide (r = 9)) := by
  subst hd
  funext j
  pointwise
  show _ = BitVec.ofBool (decide _)
  generalize j 1 = x
  revert x
  decide

theorem mask_sge_10 (dims) (hd : dims = [1]) (h) :
    cmpi .sge (iota .tc S16x16x128 32 dims h) (broadcast S16x16x128 10#32) = M3 (fun _ r _ => decide (10 ≤ r)) := by
  subst hd
  funext j
  pointwise
  show _ = BitVec.ofBool (decide _)
  generalize j 1 = x
  revert x
  decide

theorem mask_eq_10 (dims) (hd : dims = [1]) (h) :
    cmpi .eq (iota .tc S16x16x128 32 dims h) (broadcast S16x16x128 10#32) = M3 (fun _ r _ => decide (r = 10)) := by
  subst hd
  funext j
  pointwise
  show _ = BitVec.ofBool (decide _)
  generalize j 1 = x
  revert x
  decide

theorem mask_sge_11 (dims) (hd : dims = [1]) (h) :
    cmpi .sge (iota .tc S16x16x128 32 dims h) (broadcast S16x16x128 11#32) = M3 (fun _ r _ => decide (11 ≤ r)) := by
  subst hd
  funext j
  pointwise
  show _ = BitVec.ofBool (decide _)
  generalize j 1 = x
  revert x
  decide

theorem mask_eq_11 (dims) (hd : dims = [1]) (h) :
    cmpi .eq (iota .tc S16x16x128 32 dims h) (broadcast S16x16x128 11#32) = M3 (fun _ r _ => decide (r = 11)) := by
  subst hd
  funext j
  pointwise
  show _ = BitVec.ofBool (decide _)
  generalize j 1 = x
  revert x
  decide

theorem mask_sge_12 (dims) (hd : dims = [1]) (h) :
    cmpi .sge (iota .tc S16x16x128 32 dims h) (broadcast S16x16x128 12#32) = M3 (fun _ r _ => decide (12 ≤ r)) := by
  subst hd
  funext j
  pointwise
  show _ = BitVec.ofBool (decide _)
  generalize j 1 = x
  revert x
  decide

theorem mask_eq_12 (dims) (hd : dims = [1]) (h) :
    cmpi .eq (iota .tc S16x16x128 32 dims h) (broadcast S16x16x128 12#32) = M3 (fun _ r _ => decide (r = 12)) := by
  subst hd
  funext j
  pointwise
  show _ = BitVec.ofBool (decide _)
  generalize j 1 = x
  revert x
  decide

theorem mask_sge_13 (dims) (hd : dims = [1]) (h) :
    cmpi .sge (iota .tc S16x16x128 32 dims h) (broadcast S16x16x128 13#32) = M3 (fun _ r _ => decide (13 ≤ r)) := by
  subst hd
  funext j
  pointwise
  show _ = BitVec.ofBool (decide _)
  generalize j 1 = x
  revert x
  decide

theorem mask_eq_13 (dims) (hd : dims = [1]) (h) :
    cmpi .eq (iota .tc S16x16x128 32 dims h) (broadcast S16x16x128 13#32) = M3 (fun _ r _ => decide (r = 13)) := by
  subst hd
  funext j
  pointwise
  show _ = BitVec.ofBool (decide _)
  generalize j 1 = x
  revert x
  decide

theorem mask_sge_14 (dims) (hd : dims = [1]) (h) :
    cmpi .sge (iota .tc S16x16x128 32 dims h) (broadcast S16x16x128 14#32) = M3 (fun _ r _ => decide (14 ≤ r)) := by
  subst hd
  funext j
  pointwise
  show _ = BitVec.ofBool (decide _)
  generalize j 1 = x
  revert x
  decide

theorem mask_eq_14 (dims) (hd : dims = [1]) (h) :
    cmpi .eq (iota .tc S16x16x128 32 dims h) (broadcast S16x16x128 14#32) = M3 (fun _ r _ => decide (r = 14)) := by
  subst hd
  funext j
  pointwise
  show _ = BitVec.ofBool (decide _)
  generalize j 1 = x
  revert x
  decide

theorem mask_sge_15 (dims) (hd : dims = [1]) (h) :
    cmpi .sge (iota .tc S16x16x128 32 dims h) (broadcast S16x16x128 15#32) = M3 (fun _ r _ => decide (15 ≤ r)) := by
  subst hd
  funext j
  pointwise
  show _ = BitVec.ofBool (decide _)
  generalize j 1 = x
  revert x
  decide

theorem mask_eq_15 (dims) (hd : dims = [1]) (h) :
    cmpi .eq (iota .tc S16x16x128 32 dims h) (broadcast S16x16x128 15#32) = M3 (fun _ r _ => decide (r = 15)) := by
  subst hd
  funext j
  pointwise
  show _ = BitVec.ofBool (decide _)
  generalize j 1 = x
  revert x
  decide

theorem mask_last (dims) (hd : dims = [1]) (h) :
    cmpi .eq (iota .tc S4x64x128 32 dims h) (broadcast S4x64x128 63#32) = M3 (fun _ r _ => decide (r = 63)) := by
  subst hd
  funext j
  pointwise
  show _ = BitVec.ofBool (decide _)
  generalize j 1 = x
  revert x
  decide

theorem reduce_S16x16x128_S16x128_1 (f : ℕ → ℕ → ℕ → ℝ) (dims) (hd : dims = [1]) (h) :
    FloatOps.reduceAdd (F := Ideal) (φ := .f32) (s := S16x16x128) (t := S16x128) dims h (V3 (n := 16) (w := 16) (d := 128) f)
      = V2 (fun t l => ∑ x ∈ Finset.range 16, f t x l) := by
  subst hd
  funext j
  pointwise
  exact sum_fin fun x => f (j 0).val x (j 1).val

theorem reduce_S16x16x128_S16x16_2 (f : ℕ → ℕ → ℕ → ℝ) (dims) (hd : dims = [2]) (h) :
    FloatOps.reduceAdd (F := Ideal) (φ := .f32) (s := S16x16x128) (t := S16x16) dims h (V3 (n := 16) (w := 16) (d := 128) f)
      = V2 (fun t l => ∑ x ∈ Finset.range 128, f t l x) := by
  subst hd
  funext j
  pointwise
  exact sum_fin fun x => f (j 0).val (j 1).val x

theorem reduce_S256x128_S128_0 (f : ℕ → ℕ → ℝ) (dims) (hd : dims = [0]) (h) :
    FloatOps.reduceAdd (F := Ideal) (φ := .f32) (s := S256x128) (t := S128) dims h (V2 (n := 256) (d := 128) f)
      = V1 (fun l => ∑ x ∈ Finset.range 256, f x l) := by
  subst hd
  funext j
  pointwise
  exact sum_fin fun x => f x (j 0).val

theorem reduce_S4x128x128_S4x128_1 (f : ℕ → ℕ → ℕ → ℝ) (dims) (hd : dims = [1]) (h) :
    FloatOps.reduceAdd (F := Ideal) (φ := .f32) (s := S4x128x128) (t := S4x128) dims h (V3 (n := 4) (w := 128) (d := 128) f)
      = V2 (fun t l => ∑ x ∈ Finset.range 128, f t x l) := by
  subst hd
  funext j
  pointwise
  exact sum_fin fun x => f (j 0).val x (j 1).val

theorem reduce_S4x64x128_S4x128_1 (f : ℕ → ℕ → ℕ → ℝ) (dims) (hd : dims = [1]) (h) :
    FloatOps.reduceAdd (F := Ideal) (φ := .f32) (s := S4x64x128) (t := S4x128) dims h (V3 (n := 4) (w := 64) (d := 128) f)
      = V2 (fun t l => ∑ x ∈ Finset.range 64, f t x l) := by
  subst hd
  funext j
  pointwise
  exact sum_fin fun x => f (j 0).val x (j 1).val

theorem rot_S256x128_1 (f : ℕ → ℕ → ℝ) (a) (ha : a = 0) (h) :
    dynamicRotate (s := S256x128) a 1#32 none (V2 (n := 256) (d := 128) f) h
      = V2 (fun t l => f ((t + 256 - 1) % 256) l) := by
  subst ha
  funext j
  pointwise
  rfl

theorem rot_S256x128_2 (f : ℕ → ℕ → ℝ) (a) (ha : a = 0) (h) :
    dynamicRotate (s := S256x128) a 2#32 none (V2 (n := 256) (d := 128) f) h
      = V2 (fun t l => f ((t + 256 - 2) % 256) l) := by
  subst ha
  funext j
  pointwise
  rfl

theorem rot_S256x128_4 (f : ℕ → ℕ → ℝ) (a) (ha : a = 0) (h) :
    dynamicRotate (s := S256x128) a 4#32 none (V2 (n := 256) (d := 128) f) h
      = V2 (fun t l => f ((t + 256 - 4) % 256) l) := by
  subst ha
  funext j
  pointwise
  rfl

theorem rot_S256x128_8 (f : ℕ → ℕ → ℝ) (a) (ha : a = 0) (h) :
    dynamicRotate (s := S256x128) a 8#32 none (V2 (n := 256) (d := 128) f) h
      = V2 (fun t l => f ((t + 256 - 8) % 256) l) := by
  subst ha
  funext j
  pointwise
  rfl

theorem rot_S256x128_16 (f : ℕ → ℕ → ℝ) (a) (ha : a = 0) (h) :
    dynamicRotate (s := S256x128) a 16#32 none (V2 (n := 256) (d := 128) f) h
      = V2 (fun t l => f ((t + 256 - 16) % 256) l) := by
  subst ha
  funext j
  pointwise
  rfl

theorem rot_S256x128_32 (f : ℕ → ℕ → ℝ) (a) (ha : a = 0) (h) :
    dynamicRotate (s := S256x128) a 32#32 none (V2 (n := 256) (d := 128) f) h
      = V2 (fun t l => f ((t + 256 - 32) % 256) l) := by
  subst ha
  funext j
  pointwise
  rfl

theorem rot_S256x128_224 (f : ℕ → ℕ → ℝ) (a) (ha : a = 0) (h) :
    dynamicRotate (s := S256x128) a 224#32 none (V2 (n := 256) (d := 128) f) h
      = V2 (fun t l => f ((t + 256 - 224) % 256) l) := by
  subst ha
  funext j
  pointwise
  rfl

theorem rot_S256x128_240 (f : ℕ → ℕ → ℝ) (a) (ha : a = 0) (h) :
    dynamicRotate (s := S256x128) a 240#32 none (V2 (n := 256) (d := 128) f) h
      = V2 (fun t l => f ((t + 256 - 240) % 256) l) := by
  subst ha
  funext j
  pointwise
  rfl

theorem rot_S256x128_248 (f : ℕ → ℕ → ℝ) (a) (ha : a = 0) (h) :
    dynamicRotate (s := S256x128) a 248#32 none (V2 (n := 256) (d := 128) f) h
      = V2 (fun t l => f ((t + 256 - 248) % 256) l) := by
  subst ha
  funext j
  pointwise
  rfl

theorem rot_S256x128_252 (f : ℕ → ℕ → ℝ) (a) (ha : a = 0) (h) :
    dynamicRotate (s := S256x128) a 252#32 none (V2 (n := 256) (d := 128) f) h
      = V2 (fun t l => f ((t + 256 - 252) % 256) l) := by
  subst ha
  funext j
  pointwise
  rfl

theorem rot_S256x128_254 (f : ℕ → ℕ → ℝ) (a) (ha : a = 0) (h) :
    dynamicRotate (s := S256x128) a 254#32 none (V2 (n := 256) (d := 128) f) h
      = V2 (fun t l => f ((t + 256 - 254) % 256) l) := by
  subst ha
  funext j
  pointwise
  rfl

theorem rot_S256x128_255 (f : ℕ → ℕ → ℝ) (a) (ha : a = 0) (h) :
    dynamicRotate (s := S256x128) a 255#32 none (V2 (n := 256) (d := 128) f) h
      = V2 (fun t l => f ((t + 256 - 255) % 256) l) := by
  subst ha
  funext j
  pointwise
  rfl

theorem cast_S128_S1x128 (f : ℕ → ℝ) (h) :
    shapeCast S1x128 (V1 (d := 128) f) h
      = V2 (fun _ l => f l) := by
  funext j
  pointwise
  rfl

theorem cast_S128x128_S1x128x128 (f : ℕ → ℕ → ℝ) (h) :
    shapeCast S1x128x128 (V2 (n := 128) (d := 128) f) h
      = V3 (fun _ r l => f r l) := by
  funext j
  pointwise
  rfl

theorem cast_S16x128_S16x1x128 (f : ℕ → ℕ → ℝ) (h) :
    shapeCast S16x1x128 (V2 (n := 16) (d := 128) f) h
      = V3 (fun b _ l => f b l) := by
  funext j
  pointwise
  rfl

theorem cast_S16x16_S16x16x1 (f : ℕ → ℕ → ℝ) (h) :
    shapeCast S16x16x1 (V2 (n := 16) (d := 16) f) h
      = V3 (fun b r _ => f b r) := by
  funext j
  pointwise
  rfl

theorem cast_S16x16x128_S4x64x128 (f : ℕ → ℕ → ℕ → ℝ) (h) :
    shapeCast S4x64x128 (V3 (n := 16) (w := 16) (d := 128) f) h
      = V3 (fun b r l => f (b * 4 + r / 16) (r % 16) l) := by
  funext j
  pointwise
  rfl

theorem cast_S1x128x128_S128x128 (f : ℕ → ℕ → ℕ → ℝ) (h) :
    shapeCast S128x128 (V3 (n := 1) (w := 128) (d := 128) f) h
      = V2 (fun t l => f 0 t l) := by
  funext j
  pointwise
  rfl

theorem cast_S1x1x128_S1x128 (f : ℕ → ℕ → ℕ → ℝ) (h) :
    shapeCast S1x128 (V3 (n := 1) (w := 1) (d := 128) f) h
      = V2 (fun _ l => f 0 0 l) := by
  funext j
  pointwise
  rfl

theorem cast_S1x4x128x128_S4x128x128 (f : ℕ → ℕ → ℕ → ℕ → ℝ) (h) :
    shapeCast S4x128x128 (V4 (m := 1) (n := 4) (w := 128) (d := 128) f) h
      = V3 (fun b r l => f 0 b r l) := by
  funext j
  pointwise
  rfl

theorem cast_S256x128_S4x64x128 (f : ℕ → ℕ → ℝ) (h) :
    shapeCast S4x64x128 (V2 (n := 256) (d := 128) f) h
      = V3 (fun b r l => f (b * 64 + r) l) := by
  funext j
  pointwise
  rfl

theorem cast_S4x128_S4x1x128 (f : ℕ → ℕ → ℝ) (h) :
    shapeCast S4x1x128 (V2 (n := 4) (d := 128) f) h
      = V3 (fun b _ l => f b l) := by
  funext j
  pointwise
  rfl

theorem cast_S4x64x128_S16x16x128 (f : ℕ → ℕ → ℕ → ℝ) (h) :
    shapeCast S16x16x128 (V3 (n := 4) (w := 64) (d := 128) f) h
      = V3 (fun b r l => f (b / 4) (b % 4 * 16 + r) l) := by
  funext j
  pointwise
  rfl

theorem cast_S4x64x128_S256x128 (f : ℕ → ℕ → ℕ → ℝ) (h) :
    shapeCast S256x128 (V3 (n := 4) (w := 64) (d := 128) f) h
      = V2 (fun t l => f (t / 64) (t % 64) l) := by
  funext j
  pointwise
  rfl

theorem slice_S16x16x128_o0_0_0_S16x1x128 (f : ℕ → ℕ → ℕ → ℝ) (h) :
    extractStridedSlice S16x1x128 ![0, 0, 0] (V3 (n := 16) (w := 16) (d := 128) f) h
      = V3 (fun b _ l => f b 0 l) := by
  funext j
  pointwise
  rfl

theorem slice_S16x16x128_o0_10_0_S16x1x128 (f : ℕ → ℕ → ℕ → ℝ) (h) :
    extractStridedSlice S16x1x128 ![0, 10, 0] (V3 (n := 16) (w := 16) (d := 128) f) h
      = V3 (fun b _ l => f b 10 l) := by
  funext j
  pointwise
  rfl

theorem slice_S16x16x128_o0_11_0_S16x1x128 (f : ℕ → ℕ → ℕ → ℝ) (h) :
    extractStridedSlice S16x1x128 ![0, 11, 0] (V3 (n := 16) (w := 16) (d := 128) f) h
      = V3 (fun b _ l => f b 11 l) := by
  funext j
  pointwise
  rfl

theorem slice_S16x16x128_o0_12_0_S16x1x128 (f : ℕ → ℕ → ℕ → ℝ) (h) :
    extractStridedSlice S16x1x128 ![0, 12, 0] (V3 (n := 16) (w := 16) (d := 128) f) h
      = V3 (fun b _ l => f b 12 l) := by
  funext j
  pointwise
  rfl

theorem slice_S16x16x128_o0_13_0_S16x1x128 (f : ℕ → ℕ → ℕ → ℝ) (h) :
    extractStridedSlice S16x1x128 ![0, 13, 0] (V3 (n := 16) (w := 16) (d := 128) f) h
      = V3 (fun b _ l => f b 13 l) := by
  funext j
  pointwise
  rfl

theorem slice_S16x16x128_o0_14_0_S16x1x128 (f : ℕ → ℕ → ℕ → ℝ) (h) :
    extractStridedSlice S16x1x128 ![0, 14, 0] (V3 (n := 16) (w := 16) (d := 128) f) h
      = V3 (fun b _ l => f b 14 l) := by
  funext j
  pointwise
  rfl

theorem slice_S16x16x128_o0_15_0_S16x1x128 (f : ℕ → ℕ → ℕ → ℝ) (h) :
    extractStridedSlice S16x1x128 ![0, 15, 0] (V3 (n := 16) (w := 16) (d := 128) f) h
      = V3 (fun b _ l => f b 15 l) := by
  funext j
  pointwise
  rfl

theorem slice_S16x16x128_o0_1_0_S16x1x128 (f : ℕ → ℕ → ℕ → ℝ) (h) :
    extractStridedSlice S16x1x128 ![0, 1, 0] (V3 (n := 16) (w := 16) (d := 128) f) h
      = V3 (fun b _ l => f b 1 l) := by
  funext j
  pointwise
  rfl

theorem slice_S16x16x128_o0_2_0_S16x1x128 (f : ℕ → ℕ → ℕ → ℝ) (h) :
    extractStridedSlice S16x1x128 ![0, 2, 0] (V3 (n := 16) (w := 16) (d := 128) f) h
      = V3 (fun b _ l => f b 2 l) := by
  funext j
  pointwise
  rfl

theorem slice_S16x16x128_o0_3_0_S16x1x128 (f : ℕ → ℕ → ℕ → ℝ) (h) :
    extractStridedSlice S16x1x128 ![0, 3, 0] (V3 (n := 16) (w := 16) (d := 128) f) h
      = V3 (fun b _ l => f b 3 l) := by
  funext j
  pointwise
  rfl

theorem slice_S16x16x128_o0_4_0_S16x1x128 (f : ℕ → ℕ → ℕ → ℝ) (h) :
    extractStridedSlice S16x1x128 ![0, 4, 0] (V3 (n := 16) (w := 16) (d := 128) f) h
      = V3 (fun b _ l => f b 4 l) := by
  funext j
  pointwise
  rfl

theorem slice_S16x16x128_o0_5_0_S16x1x128 (f : ℕ → ℕ → ℕ → ℝ) (h) :
    extractStridedSlice S16x1x128 ![0, 5, 0] (V3 (n := 16) (w := 16) (d := 128) f) h
      = V3 (fun b _ l => f b 5 l) := by
  funext j
  pointwise
  rfl

theorem slice_S16x16x128_o0_6_0_S16x1x128 (f : ℕ → ℕ → ℕ → ℝ) (h) :
    extractStridedSlice S16x1x128 ![0, 6, 0] (V3 (n := 16) (w := 16) (d := 128) f) h
      = V3 (fun b _ l => f b 6 l) := by
  funext j
  pointwise
  rfl

theorem slice_S16x16x128_o0_7_0_S16x1x128 (f : ℕ → ℕ → ℕ → ℝ) (h) :
    extractStridedSlice S16x1x128 ![0, 7, 0] (V3 (n := 16) (w := 16) (d := 128) f) h
      = V3 (fun b _ l => f b 7 l) := by
  funext j
  pointwise
  rfl

theorem slice_S16x16x128_o0_8_0_S16x1x128 (f : ℕ → ℕ → ℕ → ℝ) (h) :
    extractStridedSlice S16x1x128 ![0, 8, 0] (V3 (n := 16) (w := 16) (d := 128) f) h
      = V3 (fun b _ l => f b 8 l) := by
  funext j
  pointwise
  rfl

theorem slice_S16x16x128_o0_9_0_S16x1x128 (f : ℕ → ℕ → ℕ → ℝ) (h) :
    extractStridedSlice S16x1x128 ![0, 9, 0] (V3 (n := 16) (w := 16) (d := 128) f) h
      = V3 (fun b _ l => f b 9 l) := by
  funext j
  pointwise
  rfl

theorem slice_S256x384_o0_0_S256x128 (f : ℕ → ℕ → ℝ) (h) :
    extractStridedSlice S256x128 ![0, 0] (V2 (n := 256) (d := 384) f) h
      = V2 (fun t l => f t l) := by
  funext j
  pointwise
  rfl

theorem slice_S256x384_o0_128_S256x128 (f : ℕ → ℕ → ℝ) (h) :
    extractStridedSlice S256x128 ![0, 128] (V2 (n := 256) (d := 384) f) h
      = V2 (fun t l => f t (128 + l)) := by
  funext j
  pointwise
  rfl

theorem slice_S256x384_o0_256_S256x128 (f : ℕ → ℕ → ℝ) (h) :
    extractStridedSlice S256x128 ![0, 256] (V2 (n := 256) (d := 384) f) h
      = V2 (fun t l => f t (256 + l)) := by
  funext j
  pointwise
  rfl

theorem slice_S4x128x128_o0_0_0_S1x128x128 (f : ℕ → ℕ → ℕ → ℝ) (h) :
    extractStridedSlice S1x128x128 ![0, 0, 0] (V3 (n := 4) (w := 128) (d := 128) f) h
      = V3 (fun _ r l => f 0 r l) := by
  funext j
  pointwise
  rfl

theorem slice_S4x128x128_o1_0_0_S1x128x128 (f : ℕ → ℕ → ℕ → ℝ) (h) :
    extractStridedSlice S1x128x128 ![1, 0, 0] (V3 (n := 4) (w := 128) (d := 128) f) h
      = V3 (fun _ r l => f 1 r l) := by
  funext j
  pointwise
  rfl

theorem slice_S4x128x128_o2_0_0_S1x128x128 (f : ℕ → ℕ → ℕ → ℝ) (h) :
    extractStridedSlice S1x128x128 ![2, 0, 0] (V3 (n := 4) (w := 128) (d := 128) f) h
      = V3 (fun _ r l => f 2 r l) := by
  funext j
  pointwise
  rfl

theorem slice_S4x128x128_o3_0_0_S1x128x128 (f : ℕ → ℕ → ℕ → ℝ) (h) :
    extractStridedSlice S1x128x128 ![3, 0, 0] (V3 (n := 4) (w := 128) (d := 128) f) h
      = V3 (fun _ r l => f 3 r l) := by
  funext j
  pointwise
  rfl

theorem slice_S4x1x128_o0_0_0_S1x1x128 (f : ℕ → ℕ → ℕ → ℝ) (h) :
    extractStridedSlice S1x1x128 ![0, 0, 0] (V3 (n := 4) (w := 1) (d := 128) f) h
      = V3 (fun _ _ l => f 0 0 l) := by
  funext j
  pointwise
  rfl

theorem slice_S4x1x128_o1_0_0_S1x1x128 (f : ℕ → ℕ → ℕ → ℝ) (h) :
    extractStridedSlice S1x1x128 ![1, 0, 0] (V3 (n := 4) (w := 1) (d := 128) f) h
      = V3 (fun _ _ l => f 1 0 l) := by
  funext j
  pointwise
  rfl

theorem slice_S4x1x128_o2_0_0_S1x1x128 (f : ℕ → ℕ → ℕ → ℝ) (h) :
    extractStridedSlice S1x1x128 ![2, 0, 0] (V3 (n := 4) (w := 1) (d := 128) f) h
      = V3 (fun _ _ l => f 2 0 l) := by
  funext j
  pointwise
  rfl

theorem slice_S4x1x128_o3_0_0_S1x1x128 (f : ℕ → ℕ → ℕ → ℝ) (h) :
    extractStridedSlice S1x1x128 ![3, 0, 0] (V3 (n := 4) (w := 1) (d := 128) f) h
      = V3 (fun _ _ l => f 3 0 l) := by
  funext j
  pointwise
  rfl

theorem slice_S4x64x128_o0_0_0_S4x16x128 (f : ℕ → ℕ → ℕ → ℝ) (h) :
    extractStridedSlice S4x16x128 ![0, 0, 0] (V3 (n := 4) (w := 64) (d := 128) f) h
      = V3 (fun b r l => f b r l) := by
  funext j
  pointwise
  rfl

theorem slice_S4x64x128_o0_0_0_S4x32x128 (f : ℕ → ℕ → ℕ → ℝ) (h) :
    extractStridedSlice S4x32x128 ![0, 0, 0] (V3 (n := 4) (w := 64) (d := 128) f) h
      = V3 (fun b r l => f b r l) := by
  funext j
  pointwise
  rfl

theorem slice_S4x64x128_o0_0_0_S4x48x128 (f : ℕ → ℕ → ℕ → ℝ) (h) :
    extractStridedSlice S4x48x128 ![0, 0, 0] (V3 (n := 4) (w := 64) (d := 128) f) h
      = V3 (fun b r l => f b r l) := by
  funext j
  pointwise
  rfl

theorem slice_S4x64x128_o0_15_0_S4x1x128 (f : ℕ → ℕ → ℕ → ℝ) (h) :
    extractStridedSlice S4x1x128 ![0, 15, 0] (V3 (n := 4) (w := 64) (d := 128) f) h
      = V3 (fun b _ l => f b 15 l) := by
  funext j
  pointwise
  rfl

theorem slice_S4x64x128_o0_16_0_S4x16x128 (f : ℕ → ℕ → ℕ → ℝ) (h) :
    extractStridedSlice S4x16x128 ![0, 16, 0] (V3 (n := 4) (w := 64) (d := 128) f) h
      = V3 (fun b r l => f b (16 + r) l) := by
  funext j
  pointwise
  rfl

theorem slice_S4x64x128_o0_31_0_S4x1x128 (f : ℕ → ℕ → ℕ → ℝ) (h) :
    extractStridedSlice S4x1x128 ![0, 31, 0] (V3 (n := 4) (w := 64) (d := 128) f) h
      = V3 (fun b _ l => f b 31 l) := by
  funext j
  pointwise
  rfl

theorem slice_S4x64x128_o0_32_0_S4x16x128 (f : ℕ → ℕ → ℕ → ℝ) (h) :
    extractStridedSlice S4x16x128 ![0, 32, 0] (V3 (n := 4) (w := 64) (d := 128) f) h
      = V3 (fun b r l => f b (32 + r) l) := by
  funext j
  pointwise
  rfl

theorem slice_S4x64x128_o0_47_0_S4x1x128 (f : ℕ → ℕ → ℕ → ℝ) (h) :
    extractStridedSlice S4x1x128 ![0, 47, 0] (V3 (n := 4) (w := 64) (d := 128) f) h
      = V3 (fun b _ l => f b 47 l) := by
  funext j
  pointwise
  rfl

theorem slice_S4x64x128_o0_48_0_S4x16x128 (f : ℕ → ℕ → ℕ → ℝ) (h) :
    extractStridedSlice S4x16x128 ![0, 48, 0] (V3 (n := 4) (w := 64) (d := 128) f) h
      = V3 (fun b r l => f b (48 + r) l) := by
  funext j
  pointwise
  rfl

theorem slice_S4x64x128_o0_63_0_S4x1x128 (f : ℕ → ℕ → ℕ → ℝ) (h) :
    extractStridedSlice S4x1x128 ![0, 63, 0] (V3 (n := 4) (w := 64) (d := 128) f) h
      = V3 (fun b _ l => f b 63 l) := by
  funext j
  pointwise
  rfl

end Cert.Hgrn.Bwd
-- ==== Proof.Cumsum.lean ====
module

public import proofs.«01_k».proof.Proof.Lift
public import Idealize.ShloMosaic.Lib.Pointwise

@[expose] public section

set_option maxRecDepth 16384

noncomputable section

namespace Cert.Hgrn

/-! The running sums over a chunk of sixty-four rows, taken by doubling. -/

/-- One doubling step of the running sum down the rows of a chunk. -/
def up (m : ℕ) (f : ℕ → ℕ → ℝ) (t l : ℕ) : ℝ := if m ≤ t % 64 then f t l + f (t - m) l else f t l

/-- One doubling step of the running sum from the end of a chunk. -/
def dn (m : ℕ) (f : ℕ → ℕ → ℝ) (t l : ℕ) : ℝ := if t % 64 + m < 64 then f t l + f (t + m) l else f t l

/-- The sum over the last `m` rows of the chunk up to a row. -/
def upSum (m : ℕ) (f : ℕ → ℕ → ℝ) (t l : ℕ) : ℝ := ∑ s ∈ Finset.range m, if s ≤ t % 64 then f (t - s) l else 0

/-- The sum over the next `m` rows of the chunk from a row on. -/
def dnSum (m : ℕ) (f : ℕ → ℕ → ℝ) (t l : ℕ) : ℝ := ∑ s ∈ Finset.range m, if t % 64 + s < 64 then f (t + s) l else 0

theorem up_step (m : ℕ) (f : ℕ → ℕ → ℝ) : up m (upSum m f) = upSum (m + m) f := by
  funext t l
  unfold up upSum
  rw [Finset.sum_range_add]
  split_ifs with h
  · congr 1
    refine Finset.sum_congr rfl fun s _ => ?_
    have e : (t - m) % 64 = t % 64 - m := by omega
    rw [e, Nat.sub_sub]
    by_cases hs : s ≤ t % 64 - m
    · rw [if_pos hs, if_pos (by omega)]
    · rw [if_neg hs, if_neg (by omega)]
  · symm
    rw [add_eq_left]
    exact Finset.sum_eq_zero fun s _ => if_neg (by omega)

theorem dn_step (m : ℕ) (f : ℕ → ℕ → ℝ) : dn m (dnSum m f) = dnSum (m + m) f := by
  funext t l
  unfold dn dnSum
  rw [Finset.sum_range_add]
  split_ifs with h
  · congr 1
    refine Finset.sum_congr rfl fun s _ => ?_
    have e : (t + m) % 64 = t % 64 + m := by omega
    rw [e]
    simp only [add_assoc]
  · symm
    rw [add_eq_left]
    exact Finset.sum_eq_zero fun s _ => if_neg (by omega)

/-- Six doubling steps down the rows give the running sum from the chunk's first row. -/
theorem up_all (f : ℕ → ℕ → ℝ) : up 32 (up 16 (up 8 (up 4 (up 2 (up 1 f)))))
    = fun t l => ∑ s ∈ Finset.range (t % 64 + 1), f (t / 64 * 64 + s) l := by
  have h1 : f = upSum 1 f := by
    funext t l
    simp [upSum]
  conv_lhs => rw [h1]
  rw [up_step, up_step, up_step, up_step, up_step, up_step]
  funext t l
  unfold upSum
  have hr : t % 64 < 64 := Nat.mod_lt _ (by omega)
  have e : t = t / 64 * 64 + t % 64 := by omega
  generalize t % 64 = ρ at *
  rw [← Finset.sum_filter]
  have hf : (Finset.range (32 + 32)).filter (fun s => s ≤ ρ)
      = Finset.range (ρ + 1) := by
    ext s
    simp only [Finset.mem_filter, Finset.mem_range]
    omega
  rw [hf, ← Finset.sum_range_reflect]
  refine Finset.sum_congr rfl fun s hs => ?_
  have := Finset.mem_range.mp hs
  congr 1
  omega

/-- Six doubling steps up the rows give the running sum from the chunk's last row. -/
theorem dn_all (f : ℕ → ℕ → ℝ) : dn 32 (dn 16 (dn 8 (dn 4 (dn 2 (dn 1 f)))))
    = fun t l => ∑ s ∈ Finset.range 64, if t % 64 ≤ s then f (t / 64 * 64 + s) l else 0 := by
  have h1 : f = dnSum 1 f := by
    funext t l
    have := Nat.mod_lt t (show 0 < 64 by omega)
    simp [dnSum, this]
  conv_lhs => rw [h1]
  rw [dn_step, dn_step, dn_step, dn_step, dn_step, dn_step]
  funext t l
  unfold dnSum
  have hr : t % 64 < 64 := Nat.mod_lt _ (by omega)
  have e : t = t / 64 * 64 + t % 64 := by omega
  generalize t % 64 = ρ at *
  rw [← Finset.sum_filter, ← Finset.sum_filter]
  refine Finset.sum_bij (fun s _ => ρ + s) ?_ ?_ ?_ ?_
  · intro s hs
    simp only [Finset.mem_filter, Finset.mem_range] at hs ⊢
    omega
  · intro a _ b _ hab
    exact Nat.add_left_cancel hab
  · intro b hb
    simp only [Finset.mem_filter, Finset.mem_range] at hb
    refine ⟨b - ρ, ?_, by omega⟩
    simp only [Finset.mem_filter, Finset.mem_range]
    omega
  · intro s _
    congr 1
    omega

end Cert.Hgrn
-- ==== Proof.PrepB.lean ====
module

public import proofs.«01_k».proof.Proof.OpsB
public import proofs.«01_k».proof.Proof.Cumsum
public import Idealize.ShloMosaic.Lib.Pointwise

@[expose] public section

set_option maxRecDepth 16384

noncomputable section

namespace Cert.Hgrn.Bwd
open Cert.KernelIdeal Cert.KernelIdeal.Gen Idealize.ShloMosaic Idealize.SL.Sem Cert.Hgrn

/-! The row's place within its chunk, the masks on it, and the running sums over a chunk. -/

/-- The place of each row within its chunk of sixty-four. -/
theorem place : k0_pay14 = I2 (fun t _ => t % 64) := by
  funext j
  unfold k0_pay14
  pointwise
  show _ = BitVec.ofNat 32 ((j 0).val % 64)
  generalize (j 0) = x
  revert x
  decide +kernel

/-- The logarithm of a maximum with the floor. -/
theorem log_max {n d : ℕ} (f : ℕ → ℕ → ℝ) :
    log (F := Ideal) (φ := .f32) (V2 (fun t l => max (f t l) mf) : FVec Ideal (⟨2, ![n, d]⟩ : Shape) .f32)
      = V2 (fun t l => Real.log (max (f t l) mf)) :=
  log_V2 _ fun t l => lt_max_of_lt_right mf_pos

theorem mask_up_1 : cmpi .sge k0_pay14 (broadcast S256x128 1#32) = M2 (fun t _ => decide (1 ≤ t % 64)) := by
  rw [place]
  funext j
  show BitVec.ofBool ((1#32).sle (BitVec.ofNat 32 ((j 0).val % 64))) = BitVec.ofBool (decide _)
  have h : (j 0).val % 64 < 64 := Nat.mod_lt _ (by omega)
  generalize (j 0).val % 64 = x at h
  lift x to Fin 64 using h
  revert x
  decide

theorem up_1 (f : ℕ → ℕ → ℝ) (a) (ha : a = 0) (h) : addf (F := Ideal) (φ := .f32) (V2 f : FVec Ideal S256x128 .f32) (select (cmpi .sge k0_pay14 (broadcast S256x128 1#32))
    (dynamicRotate (s := S256x128) a 1#32 none (V2 f : FVec Ideal S256x128 .f32) h) (broadcast S256x128 (Scalar.ofBits (F := Ideal) .f32 0x00000000#32))) = V2 (up 1 f) := by
  rw [mask_up_1, rot_S256x128_1 _ _ ha, broadcast_zero_V2, select_V2, addf_V2]
  refine V2_congr fun t ht l hl => ?_
  simp only [up, decide_eq_true_eq]
  split_ifs with hm
  · rw [show (t + 256 - 1) % 256 = t - 1 by omega]
  · rw [add_zero]

theorem mask_dn_1 : cmpi .slt (addi k0_pay14 (broadcast S256x128 1#32)) (broadcast S256x128 64#32) = M2 (fun t _ => decide (t % 64 + 1 < 64)) := by
  rw [place]
  funext j
  show BitVec.ofBool ((BitVec.ofNat 32 ((j 0).val % 64) + 1#32).slt 64#32) = BitVec.ofBool (decide _)
  have h : (j 0).val % 64 < 64 := Nat.mod_lt _ (by omega)
  generalize (j 0).val % 64 = x at h
  lift x to Fin 64 using h
  revert x
  decide

theorem dn_1 (f : ℕ → ℕ → ℝ) (a) (ha : a = 0) (h) : addf (F := Ideal) (φ := .f32) (V2 f : FVec Ideal S256x128 .f32) (select (cmpi .slt (addi k0_pay14 (broadcast S256x128 1#32)) (broadcast S256x128 64#32))
    (dynamicRotate (s := S256x128) a 255#32 none (V2 f : FVec Ideal S256x128 .f32) h) (broadcast S256x128 (Scalar.ofBits (F := Ideal) .f32 0x00000000#32))) = V2 (dn 1 f) := by
  rw [mask_dn_1, rot_S256x128_255 _ _ ha, broadcast_zero_V2, select_V2, addf_V2]
  refine V2_congr fun t ht l hl => ?_
  simp only [dn, decide_eq_true_eq]
  split_ifs with hm
  · rw [show (t + 256 - 255) % 256 = t + 1 by omega]
  · rw [add_zero]

theorem mask_up_2 : cmpi .sge k0_pay14 (broadcast S256x128 2#32) = M2 (fun t _ => decide (2 ≤ t % 64)) := by
  rw [place]
  funext j
  show BitVec.ofBool ((2#32).sle (BitVec.ofNat 32 ((j 0).val % 64))) = BitVec.ofBool (decide _)
  have h : (j 0).val % 64 < 64 := Nat.mod_lt _ (by omega)
  generalize (j 0).val % 64 = x at h
  lift x to Fin 64 using h
  revert x
  decide

theorem up_2 (f : ℕ → ℕ → ℝ) (a) (ha : a = 0) (h) : addf (F := Ideal) (φ := .f32) (V2 f : FVec Ideal S256x128 .f32) (select (cmpi .sge k0_pay14 (broadcast S256x128 2#32))
    (dynamicRotate (s := S256x128) a 2#32 none (V2 f : FVec Ideal S256x128 .f32) h) (broadcast S256x128 (Scalar.ofBits (F := Ideal) .f32 0x00000000#32))) = V2 (up 2 f) := by
  rw [mask_up_2, rot_S256x128_2 _ _ ha, broadcast_zero_V2, select_V2, addf_V2]
  refine V2_congr fun t ht l hl => ?_
  simp only [up, decide_eq_true_eq]
  split_ifs with hm
  · rw [show (t + 256 - 2) % 256 = t - 2 by omega]
  · rw [add_zero]

theorem mask_dn_2 : cmpi .slt (addi k0_pay14 (broadcast S256x128 2#32)) (broadcast S256x128 64#32) = M2 (fun t _ => decide (t % 64 + 2 < 64)) := by
  rw [place]
  funext j
  show BitVec.ofBool ((BitVec.ofNat 32 ((j 0).val % 64) + 2#32).slt 64#32) = BitVec.ofBool (decide _)
  have h : (j 0).val % 64 < 64 := Nat.mod_lt _ (by omega)
  generalize (j 0).val % 64 = x at h
  lift x to Fin 64 using h
  revert x
  decide

theorem dn_2 (f : ℕ → ℕ → ℝ) (a) (ha : a = 0) (h) : addf (F := Ideal) (φ := .f32) (V2 f : FVec Ideal S256x128 .f32) (select (cmpi .slt (addi k0_pay14 (broadcast S256x128 2#32)) (broadcast S256x128 64#32))
    (dynamicRotate (s := S256x128) a 254#32 none (V2 f : FVec Ideal S256x128 .f32) h) (broadcast S256x128 (Scalar.ofBits (F := Ideal) .f32 0x00000000#32))) = V2 (dn 2 f) := by
  rw [mask_dn_2, rot_S256x128_254 _ _ ha, broadcast_zero_V2, select_V2, addf_V2]
  refine V2_congr fun t ht l hl => ?_
  simp only [dn, decide_eq_true_eq]
  split_ifs with hm
  · rw [show (t + 256 - 254) % 256 = t + 2 by omega]
  · rw [add_zero]

theorem mask_up_4 : cmpi .sge k0_pay14 (broadcast S256x128 4#32) = M2 (fun t _ => decide (4 ≤ t % 64)) := by
  rw [place]
  funext j
  show BitVec.ofBool ((4#32).sle (BitVec.ofNat 32 ((j 0).val % 64))) = BitVec.ofBool (decide _)
  have h : (j 0).val % 64 < 64 := Nat.mod_lt _ (by omega)
  generalize (j 0).val % 64 = x at h
  lift x to Fin 64 using h
  revert x
  decide

theorem up_4 (f : ℕ → ℕ → ℝ) (a) (ha : a = 0) (h) : addf (F := Ideal) (φ := .f32) (V2 f : FVec Ideal S256x128 .f32) (select (cmpi .sge k0_pay14 (broadcast S256x128 4#32))
    (dynamicRotate (s := S256x128) a 4#32 none (V2 f : FVec Ideal S256x128 .f32) h) (broadcast S256x128 (Scalar.ofBits (F := Ideal) .f32 0x00000000#32))) = V2 (up 4 f) := by
  rw [mask_up_4, rot_S256x128_4 _ _ ha, broadcast_zero_V2, select_V2, addf_V2]
  refine V2_congr fun t ht l hl => ?_
  simp only [up, decide_eq_true_eq]
  split_ifs with hm
  · rw [show (t + 256 - 4) % 256 = t - 4 by omega]
  · rw [add_zero]

theorem mask_dn_4 : cmpi .slt (addi k0_pay14 (broadcast S256x128 4#32)) (broadcast S256x128 64#32) = M2 (fun t _ => decide (t % 64 + 4 < 64)) := by
  rw [place]
  funext j
  show BitVec.ofBool ((BitVec.ofNat 32 ((j 0).val % 64) + 4#32).slt 64#32) = BitVec.ofBool (decide _)
  have h : (j 0).val % 64 < 64 := Nat.mod_lt _ (by omega)
  generalize (j 0).val % 64 = x at h
  lift x to Fin 64 using h
  revert x
  decide

theorem dn_4 (f : ℕ → ℕ → ℝ) (a) (ha : a = 0) (h) : addf (F := Ideal) (φ := .f32) (V2 f : FVec Ideal S256x128 .f32) (select (cmpi .slt (addi k0_pay14 (broadcast S256x128 4#32)) (broadcast S256x128 64#32))
    (dynamicRotate (s := S256x128) a 252#32 none (V2 f : FVec Ideal S256x128 .f32) h) (broadcast S256x128 (Scalar.ofBits (F := Ideal) .f32 0x00000000#32))) = V2 (dn 4 f) := by
  rw [mask_dn_4, rot_S256x128_252 _ _ ha, broadcast_zero_V2, select_V2, addf_V2]
  refine V2_congr fun t ht l hl => ?_
  simp only [dn, decide_eq_true_eq]
  split_ifs with hm
  · rw [show (t + 256 - 252) % 256 = t + 4 by omega]
  · rw [add_zero]

theorem mask_up_8 : cmpi .sge k0_pay14 (broadcast S256x128 8#32) = M2 (fun t _ => decide (8 ≤ t % 64)) := by
  rw [place]
  funext j
  show BitVec.ofBool ((8#32).sle (BitVec.ofNat 32 ((j 0).val % 64))) = BitVec.ofBool (decide _)
  have h : (j 0).val % 64 < 64 := Nat.mod_lt _ (by omega)
  generalize (j 0).val % 64 = x at h
  lift x to Fin 64 using h
  revert x
  decide

theorem up_8 (f : ℕ → ℕ → ℝ) (a) (ha : a = 0) (h) : addf (F := Ideal) (φ := .f32) (V2 f : FVec Ideal S256x128 .f32) (select (cmpi .sge k0_pay14 (broadcast S256x128 8#32))
    (dynamicRotate (s := S256x128) a 8#32 none (V2 f : FVec Ideal S256x128 .f32) h) (broadcast S256x128 (Scalar.ofBits (F := Ideal) .f32 0x00000000#32))) = V2 (up 8 f) := by
  rw [mask_up_8, rot_S256x128_8 _ _ ha, broadcast_zero_V2, select_V2, addf_V2]
  refine V2_congr fun t ht l hl => ?_
  simp only [up, decide_eq_true_eq]
  split_ifs with hm
  · rw [show (t + 256 - 8) % 256 = t - 8 by omega]
  · rw [add_zero]

theorem mask_dn_8 : cmpi .slt (addi k0_pay14 (broadcast S256x128 8#32)) (broadcast S256x128 64#32) = M2 (fun t _ => decide (t % 64 + 8 < 64)) := by
  rw [place]
  funext j
  show BitVec.ofBool ((BitVec.ofNat 32 ((j 0).val % 64) + 8#32).slt 64#32) = BitVec.ofBool (decide _)
  have h : (j 0).val % 64 < 64 := Nat.mod_lt _ (by omega)
  generalize (j 0).val % 64 = x at h
  lift x to Fin 64 using h
  revert x
  decide

theorem dn_8 (f : ℕ → ℕ → ℝ) (a) (ha : a = 0) (h) : addf (F := Ideal) (φ := .f32) (V2 f : FVec Ideal S256x128 .f32) (select (cmpi .slt (addi k0_pay14 (broadcast S256x128 8#32)) (broadcast S256x128 64#32))
    (dynamicRotate (s := S256x128) a 248#32 none (V2 f : FVec Ideal S256x128 .f32) h) (broadcast S256x128 (Scalar.ofBits (F := Ideal) .f32 0x00000000#32))) = V2 (dn 8 f) := by
  rw [mask_dn_8, rot_S256x128_248 _ _ ha, broadcast_zero_V2, select_V2, addf_V2]
  refine V2_congr fun t ht l hl => ?_
  simp only [dn, decide_eq_true_eq]
  split_ifs with hm
  · rw [show (t + 256 - 248) % 256 = t + 8 by omega]
  · rw [add_zero]

theorem mask_up_16 : cmpi .sge k0_pay14 (broadcast S256x128 16#32) = M2 (fun t _ => decide (16 ≤ t % 64)) := by
  rw [place]
  funext j
  show BitVec.ofBool ((16#32).sle (BitVec.ofNat 32 ((j 0).val % 64))) = BitVec.ofBool (decide _)
  have h : (j 0).val % 64 < 64 := Nat.mod_lt _ (by omega)
  generalize (j 0).val % 64 = x at h
  lift x to Fin 64 using h
  revert x
  decide

theorem up_16 (f : ℕ → ℕ → ℝ) (a) (ha : a = 0) (h) : addf (F := Ideal) (φ := .f32) (V2 f : FVec Ideal S256x128 .f32) (select (cmpi .sge k0_pay14 (broadcast S256x128 16#32))
    (dynamicRotate (s := S256x128) a 16#32 none (V2 f : FVec Ideal S256x128 .f32) h) (broadcast S256x128 (Scalar.ofBits (F := Ideal) .f32 0x00000000#32))) = V2 (up 16 f) := by
  rw [mask_up_16, rot_S256x128_16 _ _ ha, broadcast_zero_V2, select_V2, addf_V2]
  refine V2_congr fun t ht l hl => ?_
  simp only [up, decide_eq_true_eq]
  split_ifs with hm
  · rw [show (t + 256 - 16) % 256 = t - 16 by omega]
  · rw [add_zero]

theorem mask_dn_16 : cmpi .slt (addi k0_pay14 (broadcast S256x128 16#32)) (broadcast S256x128 64#32) = M2 (fun t _ => decide (t % 64 + 16 < 64)) := by
  rw [place]
  funext j
  show BitVec.ofBool ((BitVec.ofNat 32 ((j 0).val % 64) + 16#32).slt 64#32) = BitVec.ofBool (decide _)
  have h : (j 0).val % 64 < 64 := Nat.mod_lt _ (by omega)
  generalize (j 0).val % 64 = x at h
  lift x to Fin 64 using h
  revert x
  decide

theorem dn_16 (f : ℕ → ℕ → ℝ) (a) (ha : a = 0) (h) : addf (F := Ideal) (φ := .f32) (V2 f : FVec Ideal S256x128 .f32) (select (cmpi .slt (addi k0_pay14 (broadcast S256x128 16#32)) (broadcast S256x128 64#32))
    (dynamicRotate (s := S256x128) a 240#32 none (V2 f : FVec Ideal S256x128 .f32) h) (broadcast S256x128 (Scalar.ofBits (F := Ideal) .f32 0x00000000#32))) = V2 (dn 16 f) := by
  rw [mask_dn_16, rot_S256x128_240 _ _ ha, broadcast_zero_V2, select_V2, addf_V2]
  refine V2_congr fun t ht l hl => ?_
  simp only [dn, decide_eq_true_eq]
  split_ifs with hm
  · rw [show (t + 256 - 240) % 256 = t + 16 by omega]
  · rw [add_zero]

theorem mask_up_32 : cmpi .sge k0_pay14 (broadcast S256x128 32#32) = M2 (fun t _ => decide (32 ≤ t % 64)) := by
  rw [place]
  funext j
  show BitVec.ofBool ((32#32).sle (BitVec.ofNat 32 ((j 0).val % 64))) = BitVec.ofBool (decide _)
  have h : (j 0).val % 64 < 64 := Nat.mod_lt _ (by omega)
  generalize (j 0).val % 64 = x at h
  lift x to Fin 64 using h
  revert x
  decide

theorem up_32 (f : ℕ → ℕ → ℝ) (a) (ha : a = 0) (h) : addf (F := Ideal) (φ := .f32) (V2 f : FVec Ideal S256x128 .f32) (select (cmpi .sge k0_pay14 (broadcast S256x128 32#32))
    (dynamicRotate (s := S256x128) a 32#32 none (V2 f : FVec Ideal S256x128 .f32) h) (broadcast S256x128 (Scalar.ofBits (F := Ideal) .f32 0x00000000#32))) = V2 (up 32 f) := by
  rw [mask_up_32, rot_S256x128_32 _ _ ha, broadcast_zero_V2, select_V2, addf_V2]
  refine V2_congr fun t ht l hl => ?_
  simp only [up, decide_eq_true_eq]
  split_ifs with hm
  · rw [show (t + 256 - 32) % 256 = t - 32 by omega]
  · rw [add_zero]

theorem mask_dn_32 : cmpi .slt (addi k0_pay14 (broadcast S256x128 32#32)) (broadcast S256x128 64#32) = M2 (fun t _ => decide (t % 64 + 32 < 64)) := by
  rw [place]
  funext j
  show BitVec.ofBool ((BitVec.ofNat 32 ((j 0).val % 64) + 32#32).slt 64#32) = BitVec.ofBool (decide _)
  have h : (j 0).val % 64 < 64 := Nat.mod_lt _ (by omega)
  generalize (j 0).val % 64 = x at h
  lift x to Fin 64 using h
  revert x
  decide

theorem dn_32 (f : ℕ → ℕ → ℝ) (a) (ha : a = 0) (h) : addf (F := Ideal) (φ := .f32) (V2 f : FVec Ideal S256x128 .f32) (select (cmpi .slt (addi k0_pay14 (broadcast S256x128 32#32)) (broadcast S256x128 64#32))
    (dynamicRotate (s := S256x128) a 224#32 none (V2 f : FVec Ideal S256x128 .f32) h) (broadcast S256x128 (Scalar.ofBits (F := Ideal) .f32 0x00000000#32))) = V2 (dn 32 f) := by
  rw [mask_dn_32, rot_S256x128_224 _ _ ha, broadcast_zero_V2, select_V2, addf_V2]
  refine V2_congr fun t ht l hl => ?_
  simp only [dn, decide_eq_true_eq]
  split_ifs with hm
  · rw [show (t + 256 - 224) % 256 = t + 32 by omega]
  · rw [add_zero]

/-- The running sum of the logarithms of the forget gate within each chunk. -/
theorem cumsum (f : ℕ → ℕ → ℝ) : k0_pay15 (F := Ideal) (V2 f : FVec Ideal S256x128 .f32) k0_pay14
    = (V2 (fun t l => ∑ s ∈ Finset.range (t % 64 + 1), f (t / 64 * 64 + s) l) : FVec Ideal S256x128 .f32) := by
  simp only [k0_pay15]
  rw [up_1 _ _ rfl, up_2 _ _ rfl, up_4 _ _ rfl, up_8 _ _ rfl, up_16 _ _ rfl, up_32 _ _ rfl, up_all]

end Cert.Hgrn.Bwd
-- ==== Proof.BlockB.lean ====
module

public import proofs.«01_k».proof.Proof.PrepB
public import proofs.«01_k».proof.Proof.Local
public import Idealize.ShloMosaic.Lib.Pointwise

@[expose] public section

set_option maxRecDepth 16384

noncomputable section

namespace Cert.Hgrn.Bwd
open Cert.KernelIdeal Cert.KernelIdeal.Gen Idealize.ShloMosaic Idealize.SL.Sem Cert.Hgrn

/-! The values of one block that come before and after the three gradients within its chunks, read as functions of real numbers. -/

theorem cast4 (st : ℕ → ℕ → ℕ → ℝ) (h) : shapeCast S4x128x128 (V4 (m := 1) (n := 4) (w := 128) (d := 128) fun _ b x y => st b x y) h = V3 st := by
  funext j
  pointwise
  rfl

theorem b7 (p : ℕ → ℕ → ℝ) :
    k0_pay7 (F := Ideal) (V2 p : FVec Ideal S256x384 .bf16)
      = (V2 (vv p) : FVec Ideal S256x128 .f32) := by
  simp only [k0_pay5, k0_pay6, k0_pay7, k0_pay8, k0_pay9, k0_pay10, k0_pay11, k0_pay12, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S256x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, slice_S256x384_o0_0_S256x128, slice_S256x384_o0_128_S256x128, slice_S256x384_o0_256_S256x128] <;> rfl

theorem b9 (p : ℕ → ℕ → ℝ) :
    k0_pay9 (F := Ideal) (V2 p : FVec Ideal S256x384 .bf16)
      = (V2 (fun t l => p t l * sgm (p t l)) : FVec Ideal S256x128 .f32) := by
  simp only [k0_pay5, k0_pay6, k0_pay8, k0_pay9, k0_pay10, k0_pay11, k0_pay12, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S256x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, slice_S256x384_o0_0_S256x128, slice_S256x384_o0_128_S256x128] <;> rfl

theorem b10 (p : ℕ → ℕ → ℝ) :
    k0_pay10 (F := Ideal) (V2 p : FVec Ideal S256x384 .bf16)
      = (V2 (fun t l => sgm (p t l) + p t l * sgm (p t l) * (1 - sgm (p t l))) : FVec Ideal S256x128 .f32) := by
  simp only [k0_pay5, k0_pay6, k0_pay8, k0_pay9, k0_pay10, k0_pay11, k0_pay12, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S256x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, slice_S256x384_o0_0_S256x128, slice_S256x384_o0_128_S256x128] <;> rfl

theorem b11 (p : ℕ → ℕ → ℝ) :
    k0_pay11 (F := Ideal) (V2 p : FVec Ideal S256x384 .bf16)
      = (V2 (fun t l => sgm (p t (128 + l))) : FVec Ideal S256x128 .f32) := by
  simp only [k0_pay5, k0_pay6, k0_pay8, k0_pay9, k0_pay10, k0_pay11, k0_pay12, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S256x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, slice_S256x384_o0_0_S256x128, slice_S256x384_o0_128_S256x128] <;> rfl

theorem b12 (lb : ℕ → ℝ) (p : ℕ → ℕ → ℝ) :
    k0_pay12 (F := Ideal) (V2 (fun _ l => lb l) : FVec Ideal S1x128 .f32) (V2 p : FVec Ideal S256x384 .bf16)
      = (V2 (fv lb p) : FVec Ideal S256x128 .f32) := by
  simp only [k0_pay5, k0_pay6, k0_pay8, k0_pay9, k0_pay10, k0_pay11, k0_pay12, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S256x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, slice_S256x384_o0_0_S256x128, slice_S256x384_o0_128_S256x128] <;> rfl

theorem b13 (lb : ℕ → ℝ) (p : ℕ → ℕ → ℝ) : k0_pay13 (F := Ideal) (V2 (fun _ l => lb l) : FVec Ideal S1x128 .f32) (V2 p : FVec Ideal S256x384 .bf16) = (V2 (lfv lb p) : FVec Ideal S256x128 .f32) := by
  unfold k0_pay13
  rw [b12]
  simp only [broadcast_mf_V2, maximumf_V2]
  exact log_max _

theorem b15 (f : ℕ → ℕ → ℝ) : k0_pay15 (F := Ideal) (V2 f : FVec Ideal S256x128 .f32) k0_pay14 = (V2 (gcum f) : FVec Ideal S256x128 .f32) := cumsum f

theorem b16 (f : ℕ → ℕ → ℝ) :
    k0_pay16 (F := Ideal) (V2 f : FVec Ideal S256x128 .f32)
      = (V2 (fun t l => f t l * qk) : FVec Ideal S256x128 .f32) := by
  simp only [k0_pay16, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1] <;> rfl

theorem b17 (f : ℕ → ℕ → ℝ) :
    k0_pay17 (F := Ideal) (V2 f : FVec Ideal S256x128 .f32)
      = (V2 (fun t l => 1 - f t l) : FVec Ideal S256x128 .f32) := by
  simp only [k0_pay17, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1] <;> rfl

theorem b18 (f : ℕ → ℕ → ℝ) :
    k0_pay18 (F := Ideal) (V2 f : FVec Ideal S256x128 .f32)
      = (V2 (fun t l => f t l * qk) : FVec Ideal S256x128 .f32) := by
  simp only [k0_pay18, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b19 (f : ℕ → ℕ → ℝ) :
    k0_pay19 (F := Ideal) (V2 f : FVec Ideal S256x128 .f32)
      = (V3 (fun b r l => f (b * 64 + r) l) : FVec Ideal S4x64x128 .f32) := by
  simp only [k0_pay19, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b20 (f : ℕ → ℕ → ℝ) :
    k0_pay20 (F := Ideal) (V2 f : FVec Ideal S256x128 .f32)
      = (V3 (fun b r l => f (b * 64 + r) l) : FVec Ideal S4x64x128 .f32) := by
  simp only [k0_pay20, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, cast_S256x128_S4x64x128] <;> rfl

theorem b21 (f : ℕ → ℕ → ℝ) :
    k0_pay21 (F := Ideal) (V2 f : FVec Ideal S256x128 .f32)
      = (V3 (fun b r l => f (b * 64 + r) l) : FVec Ideal S4x64x128 .f32) := by
  simp only [k0_pay21, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b22 (f : ℕ → ℕ → ℝ) :
    k0_pay22 (F := Ideal) (V2 f : FVec Ideal S256x128 .f32)
      = (V3 (fun b r l => f (b * 64 + r) l) : FVec Ideal S4x64x128 .f32) := by
  simp only [k0_pay22, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b23 (f : ℕ → ℕ → ℝ) :
    k0_pay23 (F := Ideal) (V2 f : FVec Ideal S256x128 .f32)
      = (V3 (fun b r l => f (b * 64 + r) l) : FVec Ideal S4x64x128 .f32) := by
  simp only [k0_pay23, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b24 (f : ℕ → ℕ → ℝ) :
    k0_pay24 (F := Ideal) (V2 f : FVec Ideal S256x128 .f32)
      = (V3 (fun b r l => f (b * 64 + r) l) : FVec Ideal S4x64x128 .bf16) := by
  simp only [k0_pay23, k0_pay24, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b26 (g : ℕ → ℕ → ℝ) :
    k0_pay26 (F := Ideal) (V2 g : FVec Ideal S256x128 .f32)
      = (V3 (fun b _ l => Real.exp (g (b * 64 + 63) l)) : FVec Ideal S4x1x128 .f32) := by
  simp only [k0_pay19, k0_pay20, k0_pay22, k0_pay23, k0_pay24, k0_pay25, k0_pay26, k0_pay27, k0_pay28, k0_pay29, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b27 (g : ℕ → ℕ → ℝ) :
    k0_pay27 (F := Ideal) (V2 g : FVec Ideal S256x128 .f32)
      = (V3 (fun b r l => Real.exp (g (b * 64 + r) l)) : FVec Ideal S4x64x128 .f32) := by
  simp only [k0_pay19, k0_pay20, k0_pay22, k0_pay23, k0_pay24, k0_pay25, k0_pay26, k0_pay27, k0_pay28, k0_pay29, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b28 (g : ℕ → ℕ → ℝ) :
    k0_pay28 (F := Ideal) (V2 g : FVec Ideal S256x128 .f32)
      = (V3 (fun b r l => Real.exp (g (b * 64 + 63) l - g (b * 64 + r) l)) : FVec Ideal S4x64x128 .f32) := by
  simp only [k0_pay19, k0_pay20, k0_pay22, k0_pay23, k0_pay24, k0_pay25, k0_pay26, k0_pay27, k0_pay28, k0_pay29, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b29 (g k : ℕ → ℕ → ℝ) :
    k0_pay29 (F := Ideal) (V2 g : FVec Ideal S256x128 .f32) (V2 k : FVec Ideal S256x128 .f32)
      = (V3 (fun b r l => k (b * 64 + r) l * Real.exp (g (b * 64 + 63) l - g (b * 64 + r) l)) : FVec Ideal S4x64x128 .f32) := by
  simp only [k0_pay19, k0_pay20, k0_pay22, k0_pay23, k0_pay24, k0_pay25, k0_pay26, k0_pay27, k0_pay28, k0_pay29, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b30 (st : ℕ → ℕ → ℕ → ℝ) :
    k0_pay30 (F := Ideal) (V4 (fun _ b x y => st b x y) : FVec Ideal S1x4x128x128 .f32)
      = (V3 st : FVec Ideal S4x128x128 .f32) := by
  simp only [k0_pay30, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S1x4x128x128_S4x128x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b31 (q g o : ℕ → ℕ → ℝ) :
    k0_pay31 (F := Ideal) (V2 g : FVec Ideal S256x128 .f32) (V2 q : FVec Ideal S256x128 .f32) (V2 o : FVec Ideal S256x128 .f32)
      = (V3 (ds0 q g o) : FVec Ideal S4x128x128 .f32) := by
  simp only [k0_pay19, k0_pay20, k0_pay22, k0_pay23, k0_pay24, k0_pay25, k0_pay26, k0_pay27, k0_pay28, k0_pay29, k0_pay31, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128] <;> rfl

theorem b32 (q g o D : ℕ → ℕ → ℝ) : k0_pay32 (F := Ideal) (V2 g : FVec Ideal S256x128 .f32) (V2 q : FVec Ideal S256x128 .f32) (V2 o : FVec Ideal S256x128 .f32) (V2 D : FVec Ideal S128x128 .f32) = (V2 (dsn q g o D 1) : FVec Ideal S128x128 .f32) := by
  unfold k0_pay32
  rw [b31, b26]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128]
  rfl

theorem b33 (q g o D : ℕ → ℕ → ℝ) : k0_pay33 (F := Ideal) (V2 g : FVec Ideal S256x128 .f32) (V2 q : FVec Ideal S256x128 .f32) (V2 o : FVec Ideal S256x128 .f32) (V2 D : FVec Ideal S128x128 .f32) = (V2 (dsn q g o D 2) : FVec Ideal S128x128 .f32) := by
  unfold k0_pay33
  rw [b31, b26, b32]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128]
  rfl

theorem b34 (q g o D : ℕ → ℕ → ℝ) : k0_pay34 (F := Ideal) (V2 g : FVec Ideal S256x128 .f32) (V2 q : FVec Ideal S256x128 .f32) (V2 o : FVec Ideal S256x128 .f32) (V2 D : FVec Ideal S128x128 .f32) = (V2 (dsn q g o D 3) : FVec Ideal S128x128 .f32) := by
  unfold k0_pay34
  rw [b31, b26, b33]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128]
  rfl

theorem b35 (q g o D : ℕ → ℕ → ℝ) : k0_pay35 (F := Ideal) (V2 g : FVec Ideal S256x128 .f32) (V2 q : FVec Ideal S256x128 .f32) (V2 o : FVec Ideal S256x128 .f32) (V2 D : FVec Ideal S128x128 .f32) = (V2 (dsn q g o D 4) : FVec Ideal S128x128 .f32) := by
  unfold k0_pay35
  rw [b31, b26, b34]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S128x128, bcast_S4x1x128_S4x64x128, ↓to_cat_S1x128x128_S1x128x128_S1x128x128_S1x128x128, concat_S1x128x128_S1x128x128_S1x128x128_S1x128x128_S4x128x128_d0, dotv_S4x64x128_S4x64x128_S4x128x128_1_1_2_2_0_0, mask_last, reduce_S256x128_S128_0, reduce_S4x128x128_S4x128_1, reduce_S4x64x128_S4x128_1, cast_S1x128x128_S128x128, cast_S1x1x128_S1x128, cast_S256x128_S4x64x128, slice_S4x128x128_o0_0_0_S1x128x128, slice_S4x128x128_o1_0_0_S1x128x128, slice_S4x128x128_o2_0_0_S1x128x128, slice_S4x128x128_o3_0_0_S1x128x128, slice_S4x1x128_o0_0_0_S1x1x128, slice_S4x1x128_o1_0_0_S1x1x128, slice_S4x1x128_o2_0_0_S1x1x128, slice_S4x1x128_o3_0_0_S1x1x128, slice_S4x64x128_o0_63_0_S4x1x128]
  rfl

theorem b36 (f : ℕ → ℕ → ℝ) :
    k0_pay36 (F := Ideal) (V2 f : FVec Ideal S128x128 .f32)
      = (V2 f : FVec Ideal S128x128 .f32) := by
  simp only [k0_pay36, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, dotv_S4x64x128_S4x128x128_S4x64x128_2_1_1_2_0_0, dotv_S4x64x128_S4x128x128_S4x64x128_2_2_1_1_0_0, mask_last, reduce_S256x128_S128_0, reduce_S4x128x128_S4x128_1, reduce_S4x64x128_S4x128_1, cast_S128x128_S1x128x128, cast_S4x128_S4x1x128]

theorem b37 (q g o D : ℕ → ℕ → ℝ) : k0_pay37 (F := Ideal) (V2 D : FVec Ideal S128x128 .f32) (V2 (dsn q g o D 1) : FVec Ideal S128x128 .f32) (V2 (dsn q g o D 2) : FVec Ideal S128x128 .f32) (V2 (dsn q g o D 3) : FVec Ideal S128x128 .f32) = (V3 (dsp q g o D) : FVec Ideal S4x128x128 .f32) := by
  unfold k0_pay37
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, dotv_S4x64x128_S4x128x128_S4x64x128_2_1_1_2_0_0, dotv_S4x64x128_S4x128x128_S4x64x128_2_2_1_1_0_0, mask_last, reduce_S256x128_S128_0, reduce_S4x128x128_S4x128_1, reduce_S4x64x128_S4x128_1, cast_S128x128_S1x128x128]
  refine V3_congr fun b hb r hr l hl => ?_
  interval_cases b <;> rfl

theorem b38 (q g o D : ℕ → ℕ → ℝ) : k0_pay38 (F := Ideal) (V2 D : FVec Ideal S128x128 .f32) (V2 (dsn q g o D 1) : FVec Ideal S128x128 .f32) (V2 (dsn q g o D 2) : FVec Ideal S128x128 .f32) (V2 (dsn q g o D 3) : FVec Ideal S128x128 .f32) = (V3 (dsp q g o D) : FVec Ideal S4x128x128 .bf16) := by
  unfold k0_pay38
  rw [b37]
  rfl

theorem b39 (o : ℕ → ℕ → ℝ) (st : ℕ → ℕ → ℕ → ℝ) :
    k0_pay39 (F := Ideal) (V3 (fun b r l => o (b * 64 + r) l) : FVec Ideal S4x64x128 .bf16) (V3 st : FVec Ideal S4x128x128 .f32)
      = (V3 (dqt o st) : FVec Ideal S4x64x128 .f32) := by
  simp only [k0_pay39, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, dotv_S4x64x128_S4x128x128_S4x64x128_2_1_1_2_0_0, dotv_S4x64x128_S4x128x128_S4x64x128_2_2_1_1_0_0, mask_last, reduce_S256x128_S128_0, reduce_S4x128x128_S4x128_1, reduce_S4x64x128_S4x128_1, cast_S128x128_S1x128x128, cast_S4x128_S4x1x128] <;> rfl

theorem b40 (q g o D v : ℕ → ℕ → ℝ) :
    k0_pay40 (F := Ideal) (V3 (fun b r l => v (b * 64 + r) l) : FVec Ideal S4x64x128 .f32) (V2 D : FVec Ideal S128x128 .f32) (V2 (dsn q g o D 1) : FVec Ideal S128x128 .f32) (V2 (dsn q g o D 2) : FVec Ideal S128x128 .f32) (V2 (dsn q g o D 3) : FVec Ideal S128x128 .f32)
      = (V3 (dkt v (dsp q g o D)) : FVec Ideal S4x64x128 .f32) := by
  unfold k0_pay40
  rw [b38]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, dotv_S4x64x128_S4x128x128_S4x64x128_2_1_1_2_0_0, dotv_S4x64x128_S4x128x128_S4x64x128_2_2_1_1_0_0, mask_last, reduce_S256x128_S128_0, reduce_S4x128x128_S4x128_1, reduce_S4x64x128_S4x128_1, cast_S128x128_S1x128x128]
  rfl

theorem b41 (q g o D k : ℕ → ℕ → ℝ) :
    k0_pay41 (F := Ideal) (V3 (fun b r l => k (b * 64 + r) l * Real.exp (g (b * 64 + 63) l - g (b * 64 + r) l)) : FVec Ideal S4x64x128 .f32) (V2 D : FVec Ideal S128x128 .f32) (V2 (dsn q g o D 1) : FVec Ideal S128x128 .f32) (V2 (dsn q g o D 2) : FVec Ideal S128x128 .f32) (V2 (dsn q g o D 3) : FVec Ideal S128x128 .f32)
      = (V3 (dvs k g (dsp q g o D)) : FVec Ideal S4x64x128 .f32) := by
  unfold k0_pay41
  rw [b38]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, dotv_S4x64x128_S4x128x128_S4x64x128_2_1_1_2_0_0, dotv_S4x64x128_S4x128x128_S4x64x128_2_2_1_1_0_0, mask_last, reduce_S256x128_S128_0, reduce_S4x128x128_S4x128_1, reduce_S4x64x128_S4x128_1, cast_S128x128_S1x128x128]
  rfl

theorem b42 (q g o D k v : ℕ → ℕ → ℝ) (st : ℕ → ℕ → ℕ → ℝ) :
    k0_pay42 (F := Ideal) (V3 (fun b r l => v (b * 64 + r) l) : FVec Ideal S4x64x128 .f32) (V3 (fun b _ l => Real.exp (g (b * 64 + 63) l)) : FVec Ideal S4x1x128 .f32) (V3 (fun b r l => k (b * 64 + r) l * Real.exp (g (b * 64 + 63) l - g (b * 64 + r) l)) : FVec Ideal S4x64x128 .f32) (V3 st : FVec Ideal S4x128x128 .f32) (V2 D : FVec Ideal S128x128 .f32) (V2 (dsn q g o D 1) : FVec Ideal S128x128 .f32) (V2 (dsn q g o D 2) : FVec Ideal S128x128 .f32) (V2 (dsn q g o D 3) : FVec Ideal S128x128 .f32)
      = (V3 (fun b _ l => dgl k v g st (dsp q g o D) b l) : FVec Ideal S4x1x128 .f32) := by
  unfold k0_pay42
  rw [b37, b40]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, dotv_S4x64x128_S4x128x128_S4x64x128_2_1_1_2_0_0, dotv_S4x64x128_S4x128x128_S4x64x128_2_2_1_1_0_0, mask_last, reduce_S256x128_S128_0, reduce_S4x128x128_S4x128_1, reduce_S4x64x128_S4x128_1, cast_S128x128_S1x128x128, cast_S4x128_S4x1x128]
  rfl

/-- The gradient of the forget gate. -/
theorem df_eq (f k dgl : ℕ → ℕ → ℝ) (dk qdq : ℕ → ℕ → ℕ → ℝ) :
    k0_pay229 (F := Ideal) (V2 f : FVec Ideal S256x128 .f32) k0_pay14 (V3 dk : FVec Ideal S4x64x128 .f32) (k0_pay228 (F := Ideal) k0_pay14 (V3 (fun b r l => k (b * 64 + r) l) : FVec Ideal S4x64x128 .f32) (V3 (fun b _ l => dgl b l) : FVec Ideal S4x1x128 .f32)
      (V3 dk : FVec Ideal S4x64x128 .f32) (iota .tc S4x64x128 32 [1] iota_S4x64x128_d1_w32) (V3 qdq : FVec Ideal S4x64x128 .f32))
      = (V2 (dfv f (dg3 k dgl qdq dk) dk) : FVec Ideal S256x128 .f32) := by
  simp only [k0_pay228, mulf_V2, addf_V2, subf_V2, exp_V2, truncf_V2, extf_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S4x1x128_S4x64x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, cast_S128_S1x128, cast_S4x64x128_S256x128]
  rw [dn_1 _ _ rfl, dn_2 _ _ rfl, dn_4 _ _ rfl, dn_8 _ _ rfl]
  simp only [k0_pay229]
  rw [dn_16 _ _ rfl, dn_32 _ _ rfl, dn_all]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S4x1x128_S4x64x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, cast_S128_S1x128, cast_S4x64x128_S256x128]
  refine V2_congr fun t ht l hl => ?_
  simp only [dfv, dg3, decide_eq_true_eq]
  have e : ∀ s ∈ Finset.range 64, (t / 64 * 64 + s) / 64 = t / 64 ∧ (t / 64 * 64 + s) % 64 = s := fun s hs => by
    have h := Finset.mem_range.mp hs
    omega
  rw [Finset.sum_congr rfl fun s hs => ?_]
  rw [(e s hs).1, (e s hs).2]

theorem dlb_eq (f sg x : ℕ → ℕ → ℝ) (y : Vec Ideal S256x128 .f32) (dk : ℕ → ℕ → ℕ → ℝ) (df : ℕ → ℕ → ℝ)
    (h : k0_pay229 (F := Ideal) (V2 f : FVec Ideal S256x128 .f32) k0_pay14 (V3 dk : FVec Ideal S4x64x128 .f32) y = (V2 df : FVec Ideal S256x128 .f32)) :
    k0_pay230 (F := Ideal) (V2 sg : FVec Ideal S256x128 .f32) (V2 f : FVec Ideal S256x128 .f32) k0_pay14 (V3 dk : FVec Ideal S4x64x128 .f32) y (V2 x : FVec Ideal S1x128 .f32)
      = (V2 (fun _ l => x 0 l + ∑ t ∈ Finset.range 256, df t l * (1 - sg t l)) : FVec Ideal S1x128 .f32) := by
  unfold k0_pay230
  rw [h]
  simp only [mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, cast_S128_S1x128, cast_S4x64x128_S256x128]
  refine V2_congr fun t ht l hl => ?_
  rw [show t = 0 by omega]

theorem b231 (f : ℕ → ℕ → ℝ) (y : ℕ → ℕ → ℕ → ℝ) :
    k0_pay231 (F := Ideal) (V2 f : FVec Ideal S256x128 .f32) (V3 y : FVec Ideal S4x64x128 .f32)
      = (V2 (fun t l => y (t / 64) (t % 64) l * f t l) : FVec Ideal S256x128 .bf16) := by
  simp only [k0_pay231, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, cast_S4x64x128_S256x128]

theorem b232 (lb : ℕ → ℝ) :
    k0_pay232 (F := Ideal) (V2 (fun _ l => lb l) : FVec Ideal S1x128 .f32)
      = (V2 (fun _ l => 1 - lb l) : FVec Ideal S256x128 .f32) := by
  simp only [k0_pay232, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, bcast_S1x128_S256x128, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1]

theorem b1 (sg a b : ℕ → ℕ → ℝ) :
    k0_pay1 (F := Ideal) (V2 sg : FVec Ideal S256x128 .f32) (V2 a : FVec Ideal S256x128 .f32) (V2 b : FVec Ideal S256x128 .f32)
      = (V2 (fun t l => a t l * b t l * sg t l * (1 - sg t l)) : FVec Ideal S256x128 .bf16) := by
  simp only [k0_pay1, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1]

theorem b2 (y : ℕ → ℕ → ℕ → ℝ) :
    k0_pay2 (F := Ideal) (V3 y : FVec Ideal S4x64x128 .f32)
      = (V2 (fun t l => y (t / 64) (t % 64) l) : FVec Ideal S256x128 .bf16) := by
  simp only [k0_pay2, mulf_V2, addf_V2, subf_V2, exp_V2, truncf_V2, extf_V2, broadcast_zero_V2, constant_zero_V2, broadcast_one_V2, select_V2, mulf_V3, addf_V3, subf_V3, exp_V3, truncf_V3, extf_V3, broadcast_zero_V3, constant_zero_V3, broadcast_one_V3, select_V3, broadcast_qk_V2, broadcast_mf_V2, logistic_V2, maximumf_V2, select_div_V2, cast4, multiReductionOpen, shapeCast_self, ↓to_cat_S1x128x128_S1x128x128_S1x128x128_S1x128x128, concat_S1x128x128_S1x128x128_S1x128x128_S1x128x128_S4x128x128_d0, mask_last, reduce_S256x128_S128_0, reduce_S4x128x128_S4x128_1, reduce_S4x64x128_S4x128_1, cast_S4x64x128_S256x128]

end Cert.Hgrn.Bwd
-- ==== Proof.Intra.lean ====
module

public import proofs.«01_k».proof.Proof.Lift
public import Idealize.ShloMosaic.Lib.Pointwise

@[expose] public section

set_option maxRecDepth 16384

noncomputable section

namespace Cert.Hgrn

/-! The sums over one chunk of sixty-four rows, split in sub-blocks of sixteen. -/

/-- Sixteen terms written out are a sum. -/
theorem sum16 (G : ℕ → ℝ) : 0 + G 0 + G 1 + G 2 + G 3 + G 4 + G 5 + G 6 + G 7 + G 8 + G 9 + G 10 + G 11 + G 12 + G 13 + G 14 + G 15 = ∑ j ∈ Finset.range 16, G j := by
  simp only [Finset.sum_range_succ, Finset.sum_range_zero]

/-- Of sixteen terms written out, each kept for one row, the row's own remains. -/
theorem pick16 (G : ℕ → ℝ) (ρ : ℕ) (h : ρ < 16) :
    0 + (if decide (ρ = 0) = true then G 0 else 0) + (if decide (ρ = 1) = true then G 1 else 0) + (if decide (ρ = 2) = true then G 2 else 0) + (if decide (ρ = 3) = true then G 3 else 0) + (if decide (ρ = 4) = true then G 4 else 0) + (if decide (ρ = 5) = true then G 5 else 0) + (if decide (ρ = 6) = true then G 6 else 0) + (if decide (ρ = 7) = true then G 7 else 0) + (if decide (ρ = 8) = true then G 8 else 0) + (if decide (ρ = 9) = true then G 9 else 0) + (if decide (ρ = 10) = true then G 10 else 0) + (if decide (ρ = 11) = true then G 11 else 0) + (if decide (ρ = 12) = true then G 12 else 0) + (if decide (ρ = 13) = true then G 13 else 0) + (if decide (ρ = 14) = true then G 14 else 0) + (if decide (ρ = 15) = true then G 15 else 0) = G ρ := by
  rw [sum16 fun j => if decide (ρ = j) = true then G j else 0]
  simp only [decide_eq_true_eq]
  rw [Finset.sum_ite_eq, if_pos (Finset.mem_range.mpr h)]

/-- The sum over the columns up to row `w + ρ`, split at the start of the row's sub-block. -/
theorem row_split (F : ℕ → ℝ) (w ρ : ℕ) (hw : w + 16 ≤ 64) (hρ : ρ < 16) :
    (∑ s ∈ Finset.range 64, if s ≤ w + ρ then F s else 0)
      = (∑ j ∈ Finset.range 16, if j ≤ ρ then F (w + j) else 0) + ∑ s ∈ Finset.range w, F s := by
  obtain ⟨d, hd⟩ := Nat.exists_eq_add_of_le hw
  rw [hd, Finset.sum_range_add, Finset.sum_range_add]
  have h3 : (∑ x ∈ Finset.range d, if w + 16 + x ≤ w + ρ then F (w + 16 + x) else 0) = 0 :=
    Finset.sum_eq_zero fun x _ => if_neg (by omega)
  have h1 : (∑ x ∈ Finset.range w, if x ≤ w + ρ then F x else 0) = ∑ s ∈ Finset.range w, F s :=
    Finset.sum_congr rfl fun x hx => if_pos (by have := Finset.mem_range.mp hx; omega)
  rw [h3, h1, add_zero, add_comm]
  simp only [add_le_add_iff_left]

/-- The sum over the rows from `w + ρ` on, split at the end of its sub-block. -/
theorem col_split (F : ℕ → ℝ) (w ρ d : ℕ) (hw : w + 16 + d = 64) (hρ : ρ < 16) :
    (∑ r ∈ Finset.range 64, if w + ρ ≤ r then F r else 0)
      = (∑ x ∈ Finset.range 16, if ρ ≤ x then F (w + x) else 0) + ∑ x ∈ Finset.range d, F (w + 16 + x) := by
  rw [← hw, Finset.sum_range_add, Finset.sum_range_add]
  have h3 : (∑ x ∈ Finset.range d, if w + ρ ≤ w + 16 + x then F (w + 16 + x) else 0) = ∑ x ∈ Finset.range d, F (w + 16 + x) :=
    Finset.sum_congr rfl fun x _ => if_pos (by omega)
  have h1 : (∑ x ∈ Finset.range w, if w + ρ ≤ x then F x else 0) = 0 :=
    Finset.sum_eq_zero fun x hx => if_neg (by have := Finset.mem_range.mp hx; omega)
  rw [h3, h1, zero_add]
  simp only [add_le_add_iff_left]

theorem exp_split (a b c : ℝ) : Real.exp (a - c) * Real.exp (c - b) = Real.exp (a - b) := by
  rw [← Real.exp_add]
  congr 1
  ring

/-- The gradient of the queries within a chunk, from the sixteen terms of the sub-block and the product with the columns before it. -/
theorem dq_row (A K γ : ℕ → ℝ) (gr gc : ℝ) (w ρ : ℕ) (hw : w + 16 ≤ 64) (hρ : ρ < 16) :
    0 + A (w + 0) * K (w + 0) * (if decide (0 ≤ ρ) = true then Real.exp (gr - γ (w + 0)) else 0) + A (w + 1) * K (w + 1) * (if decide (1 ≤ ρ) = true then Real.exp (gr - γ (w + 1)) else 0) + A (w + 2) * K (w + 2) * (if decide (2 ≤ ρ) = true then Real.exp (gr - γ (w + 2)) else 0) + A (w + 3) * K (w + 3) * (if decide (3 ≤ ρ) = true then Real.exp (gr - γ (w + 3)) else 0) + A (w + 4) * K (w + 4) * (if decide (4 ≤ ρ) = true then Real.exp (gr - γ (w + 4)) else 0) + A (w + 5) * K (w + 5) * (if decide (5 ≤ ρ) = true then Real.exp (gr - γ (w + 5)) else 0) + A (w + 6) * K (w + 6) * (if decide (6 ≤ ρ) = true then Real.exp (gr - γ (w + 6)) else 0) + A (w + 7) * K (w + 7) * (if decide (7 ≤ ρ) = true then Real.exp (gr - γ (w + 7)) else 0) + A (w + 8) * K (w + 8) * (if decide (8 ≤ ρ) = true then Real.exp (gr - γ (w + 8)) else 0) + A (w + 9) * K (w + 9) * (if decide (9 ≤ ρ) = true then Real.exp (gr - γ (w + 9)) else 0) + A (w + 10) * K (w + 10) * (if decide (10 ≤ ρ) = true then Real.exp (gr - γ (w + 10)) else 0) + A (w + 11) * K (w + 11) * (if decide (11 ≤ ρ) = true then Real.exp (gr - γ (w + 11)) else 0) + A (w + 12) * K (w + 12) * (if decide (12 ≤ ρ) = true then Real.exp (gr - γ (w + 12)) else 0) + A (w + 13) * K (w + 13) * (if decide (13 ≤ ρ) = true then Real.exp (gr - γ (w + 13)) else 0) + A (w + 14) * K (w + 14) * (if decide (14 ≤ ρ) = true then Real.exp (gr - γ (w + 14)) else 0) + A (w + 15) * K (w + 15) * (if decide (15 ≤ ρ) = true then Real.exp (gr - γ (w + 15)) else 0)
        + (∑ x ∈ Finset.range w, A x * (K x * Real.exp (gc - γ x))) * Real.exp (gr - gc)
      = ∑ s ∈ Finset.range 64, if s ≤ w + ρ then A s * (K s * Real.exp (gr - γ s)) else 0 := by
  rw [row_split _ w ρ hw hρ, Finset.sum_mul]
  congr 1
  · rw [sum16 fun j => A (w + j) * K (w + j) * (if decide (j ≤ ρ) = true then Real.exp (gr - γ (w + j)) else 0)]
    refine Finset.sum_congr rfl fun j _ => ?_
    simp only [decide_eq_true_eq, mul_ite, mul_zero, mul_assoc]
  · refine Finset.sum_congr rfl fun x _ => ?_
    rw [← exp_split gr (γ x) gc]
    ring

/-- The same for the first sub-block, which has no columns before it. -/
theorem dq_row0 (A K γ : ℕ → ℝ) (gr : ℝ) (ρ : ℕ) (hρ : ρ < 16) :
    0 + A (0 + 0) * K (0 + 0) * (if decide (0 ≤ ρ) = true then Real.exp (gr - γ (0 + 0)) else 0) + A (0 + 1) * K (0 + 1) * (if decide (1 ≤ ρ) = true then Real.exp (gr - γ (0 + 1)) else 0) + A (0 + 2) * K (0 + 2) * (if decide (2 ≤ ρ) = true then Real.exp (gr - γ (0 + 2)) else 0) + A (0 + 3) * K (0 + 3) * (if decide (3 ≤ ρ) = true then Real.exp (gr - γ (0 + 3)) else 0) + A (0 + 4) * K (0 + 4) * (if decide (4 ≤ ρ) = true then Real.exp (gr - γ (0 + 4)) else 0) + A (0 + 5) * K (0 + 5) * (if decide (5 ≤ ρ) = true then Real.exp (gr - γ (0 + 5)) else 0) + A (0 + 6) * K (0 + 6) * (if decide (6 ≤ ρ) = true then Real.exp (gr - γ (0 + 6)) else 0) + A (0 + 7) * K (0 + 7) * (if decide (7 ≤ ρ) = true then Real.exp (gr - γ (0 + 7)) else 0) + A (0 + 8) * K (0 + 8) * (if decide (8 ≤ ρ) = true then Real.exp (gr - γ (0 + 8)) else 0) + A (0 + 9) * K (0 + 9) * (if decide (9 ≤ ρ) = true then Real.exp (gr - γ (0 + 9)) else 0) + A (0 + 10) * K (0 + 10) * (if decide (10 ≤ ρ) = true then Real.exp (gr - γ (0 + 10)) else 0) + A (0 + 11) * K (0 + 11) * (if decide (11 ≤ ρ) = true then Real.exp (gr - γ (0 + 11)) else 0) + A (0 + 12) * K (0 + 12) * (if decide (12 ≤ ρ) = true then Real.exp (gr - γ (0 + 12)) else 0) + A (0 + 13) * K (0 + 13) * (if decide (13 ≤ ρ) = true then Real.exp (gr - γ (0 + 13)) else 0) + A (0 + 14) * K (0 + 14) * (if decide (14 ≤ ρ) = true then Real.exp (gr - γ (0 + 14)) else 0) + A (0 + 15) * K (0 + 15) * (if decide (15 ≤ ρ) = true then Real.exp (gr - γ (0 + 15)) else 0)
      = ∑ s ∈ Finset.range 64, if s ≤ 0 + ρ then A s * (K s * Real.exp (gr - γ s)) else 0 := by
  have h := dq_row A K γ gr 0 0 ρ (by omega) hρ
  rw [Finset.sum_range_zero, zero_mul] at h
  exact (add_zero _).symm.trans h

/-- The output within a chunk, from the sixteen terms of the sub-block and the product with the columns before it. -/
theorem od_row (Q gr gc : ℕ → ℝ) (K γ : ℕ → ℕ → ℝ) (V : ℕ → ℝ) (w ρ : ℕ) (hw : w + 16 ≤ 64) (hρ : ρ < 16) :
    0 + (∑ y ∈ Finset.range 128, Q y * (if decide (0 ≤ ρ) = true then Real.exp (gr y - γ (w + 0) y) else 0) * K (w + 0) y) * V (w + 0) + (∑ y ∈ Finset.range 128, Q y * (if decide (1 ≤ ρ) = true then Real.exp (gr y - γ (w + 1) y) else 0) * K (w + 1) y) * V (w + 1) + (∑ y ∈ Finset.range 128, Q y * (if decide (2 ≤ ρ) = true then Real.exp (gr y - γ (w + 2) y) else 0) * K (w + 2) y) * V (w + 2) + (∑ y ∈ Finset.range 128, Q y * (if decide (3 ≤ ρ) = true then Real.exp (gr y - γ (w + 3) y) else 0) * K (w + 3) y) * V (w + 3) + (∑ y ∈ Finset.range 128, Q y * (if decide (4 ≤ ρ) = true then Real.exp (gr y - γ (w + 4) y) else 0) * K (w + 4) y) * V (w + 4) + (∑ y ∈ Finset.range 128, Q y * (if decide (5 ≤ ρ) = true then Real.exp (gr y - γ (w + 5) y) else 0) * K (w + 5) y) * V (w + 5) + (∑ y ∈ Finset.range 128, Q y * (if decide (6 ≤ ρ) = true then Real.exp (gr y - γ (w + 6) y) else 0) * K (w + 6) y) * V (w + 6) + (∑ y ∈ Finset.range 128, Q y * (if decide (7 ≤ ρ) = true then Real.exp (gr y - γ (w + 7) y) else 0) * K (w + 7) y) * V (w + 7) + (∑ y ∈ Finset.range 128, Q y * (if decide (8 ≤ ρ) = true then Real.exp (gr y - γ (w + 8) y) else 0) * K (w + 8) y) * V (w + 8) + (∑ y ∈ Finset.range 128, Q y * (if decide (9 ≤ ρ) = true then Real.exp (gr y - γ (w + 9) y) else 0) * K (w + 9) y) * V (w + 9) + (∑ y ∈ Finset.range 128, Q y * (if decide (10 ≤ ρ) = true then Real.exp (gr y - γ (w + 10) y) else 0) * K (w + 10) y) * V (w + 10) + (∑ y ∈ Finset.range 128, Q y * (if decide (11 ≤ ρ) = true then Real.exp (gr y - γ (w + 11) y) else 0) * K (w + 11) y) * V (w + 11) + (∑ y ∈ Finset.range 128, Q y * (if decide (12 ≤ ρ) = true then Real.exp (gr y - γ (w + 12) y) else 0) * K (w + 12) y) * V (w + 12) + (∑ y ∈ Finset.range 128, Q y * (if decide (13 ≤ ρ) = true then Real.exp (gr y - γ (w + 13) y) else 0) * K (w + 13) y) * V (w + 13) + (∑ y ∈ Finset.range 128, Q y * (if decide (14 ≤ ρ) = true then Real.exp (gr y - γ (w + 14) y) else 0) * K (w + 14) y) * V (w + 14) + (∑ y ∈ Finset.range 128, Q y * (if decide (15 ≤ ρ) = true then Real.exp (gr y - γ (w + 15) y) else 0) * K (w + 15) y) * V (w + 15)
        + (∑ x ∈ Finset.range w, (∑ y ∈ Finset.range 128, Q y * Real.exp (gr y - gc y) * (K x y * Real.exp (gc y - γ x y))) * V x)
      = ∑ s ∈ Finset.range 64, if s ≤ w + ρ then (∑ y ∈ Finset.range 128, Q y * Real.exp (gr y - γ s y) * K s y) * V s else 0 := by
  rw [row_split _ w ρ hw hρ]
  congr 1
  · rw [sum16 fun j => (∑ y ∈ Finset.range 128, Q y * (if decide (j ≤ ρ) = true then Real.exp (gr y - γ (w + j) y) else 0) * K (w + j) y) * V (w + j)]
    refine Finset.sum_congr rfl fun j _ => ?_
    simp only [decide_eq_true_eq]
    split_ifs
    · rfl
    · simp only [mul_zero, zero_mul, Finset.sum_const_zero]
  · refine Finset.sum_congr rfl fun x _ => ?_
    congr 1
    refine Finset.sum_congr rfl fun y _ => ?_
    rw [← exp_split (gr y) (γ x y) (gc y)]
    ring

/-- The same for the first sub-block. -/
theorem od_row0 (Q gr : ℕ → ℝ) (K γ : ℕ → ℕ → ℝ) (V : ℕ → ℝ) (ρ : ℕ) (hρ : ρ < 16) :
    0 + (∑ y ∈ Finset.range 128, Q y * (if decide (0 ≤ ρ) = true then Real.exp (gr y - γ (0 + 0) y) else 0) * K (0 + 0) y) * V (0 + 0) + (∑ y ∈ Finset.range 128, Q y * (if decide (1 ≤ ρ) = true then Real.exp (gr y - γ (0 + 1) y) else 0) * K (0 + 1) y) * V (0 + 1) + (∑ y ∈ Finset.range 128, Q y * (if decide (2 ≤ ρ) = true then Real.exp (gr y - γ (0 + 2) y) else 0) * K (0 + 2) y) * V (0 + 2) + (∑ y ∈ Finset.range 128, Q y * (if decide (3 ≤ ρ) = true then Real.exp (gr y - γ (0 + 3) y) else 0) * K (0 + 3) y) * V (0 + 3) + (∑ y ∈ Finset.range 128, Q y * (if decide (4 ≤ ρ) = true then Real.exp (gr y - γ (0 + 4) y) else 0) * K (0 + 4) y) * V (0 + 4) + (∑ y ∈ Finset.range 128, Q y * (if decide (5 ≤ ρ) = true then Real.exp (gr y - γ (0 + 5) y) else 0) * K (0 + 5) y) * V (0 + 5) + (∑ y ∈ Finset.range 128, Q y * (if decide (6 ≤ ρ) = true then Real.exp (gr y - γ (0 + 6) y) else 0) * K (0 + 6) y) * V (0 + 6) + (∑ y ∈ Finset.range 128, Q y * (if decide (7 ≤ ρ) = true then Real.exp (gr y - γ (0 + 7) y) else 0) * K (0 + 7) y) * V (0 + 7) + (∑ y ∈ Finset.range 128, Q y * (if decide (8 ≤ ρ) = true then Real.exp (gr y - γ (0 + 8) y) else 0) * K (0 + 8) y) * V (0 + 8) + (∑ y ∈ Finset.range 128, Q y * (if decide (9 ≤ ρ) = true then Real.exp (gr y - γ (0 + 9) y) else 0) * K (0 + 9) y) * V (0 + 9) + (∑ y ∈ Finset.range 128, Q y * (if decide (10 ≤ ρ) = true then Real.exp (gr y - γ (0 + 10) y) else 0) * K (0 + 10) y) * V (0 + 10) + (∑ y ∈ Finset.range 128, Q y * (if decide (11 ≤ ρ) = true then Real.exp (gr y - γ (0 + 11) y) else 0) * K (0 + 11) y) * V (0 + 11) + (∑ y ∈ Finset.range 128, Q y * (if decide (12 ≤ ρ) = true then Real.exp (gr y - γ (0 + 12) y) else 0) * K (0 + 12) y) * V (0 + 12) + (∑ y ∈ Finset.range 128, Q y * (if decide (13 ≤ ρ) = true then Real.exp (gr y - γ (0 + 13) y) else 0) * K (0 + 13) y) * V (0 + 13) + (∑ y ∈ Finset.range 128, Q y * (if decide (14 ≤ ρ) = true then Real.exp (gr y - γ (0 + 14) y) else 0) * K (0 + 14) y) * V (0 + 14) + (∑ y ∈ Finset.range 128, Q y * (if decide (15 ≤ ρ) = true then Real.exp (gr y - γ (0 + 15) y) else 0) * K (0 + 15) y) * V (0 + 15)
      = ∑ s ∈ Finset.range 64, if s ≤ 0 + ρ then (∑ y ∈ Finset.range 128, Q y * Real.exp (gr y - γ s y) * K s y) * V s else 0 := by
  have h := od_row Q gr gr K γ V 0 ρ (by omega) hρ
  rw [Finset.sum_range_zero] at h
  exact (add_zero _).symm.trans h

/-- One product with the rows of a later sub-block, in the gradient of the keys. -/
theorem dk_off (A Q γ : ℕ → ℝ) (gs gc : ℝ) (o : ℕ) :
    (∑ x ∈ Finset.range 16, A (o + x) * (Q (o + x) * Real.exp (γ (o + x) - gc))) * Real.exp (gc - gs)
      = ∑ x ∈ Finset.range 16, A (o + x) * (Q (o + x) * Real.exp (γ (o + x) - gs)) := by
  rw [Finset.sum_mul]
  refine Finset.sum_congr rfl fun x _ => ?_
  rw [← exp_split (γ (o + x)) gs gc]
  ring

/-- One product with the rows of a later sub-block, in the gradient of the values. -/
theorem dv_off (Q γ : ℕ → ℕ → ℝ) (K gs gc : ℕ → ℝ) (O : ℕ → ℝ) (o : ℕ) :
    (∑ x ∈ Finset.range 16, (∑ y ∈ Finset.range 128, Q (o + x) y * Real.exp (γ (o + x) y - gc y) * (K y * Real.exp (gc y - gs y))) * O (o + x))
      = ∑ x ∈ Finset.range 16, (∑ y ∈ Finset.range 128, Q (o + x) y * Real.exp (γ (o + x) y - gs y) * K y) * O (o + x) := by
  refine Finset.sum_congr rfl fun x _ => ?_
  congr 1
  refine Finset.sum_congr rfl fun y _ => ?_
  rw [← exp_split (γ (o + x) y) (gs y) (gc y)]
  ring

/-- The gradient of the keys from its own sub-block. -/
theorem dk_diag (A Q γ : ℕ → ℝ) (w ρ : ℕ) (hρ : ρ < 16) :
    (∑ x ∈ Finset.range 16, A (w + x) * (Q (w + x) * if decide (ρ ≤ x) = true then Real.exp (γ (w + x) - γ (w + ρ)) else 0))
      = ∑ x ∈ Finset.range 16, if ρ ≤ x then A (w + x) * (Q (w + x) * Real.exp (γ (w + x) - γ (w + ρ))) else 0 := by
  simp only [decide_eq_true_eq, mul_ite, mul_zero]

/-- The gradient of the values from its own sub-block. -/
theorem dv_diag (Q γ : ℕ → ℕ → ℝ) (K gs : ℕ → ℝ) (O : ℕ → ℝ) (w ρ : ℕ) :
    (∑ x ∈ Finset.range 16, (∑ y ∈ Finset.range 128, (Q (w + x) y * if decide (ρ ≤ x) = true then Real.exp (γ (w + x) y - gs y) else 0) * K y) * O (w + x))
      = ∑ x ∈ Finset.range 16, if ρ ≤ x then (∑ y ∈ Finset.range 128, Q (w + x) y * Real.exp (γ (w + x) y - gs y) * K y) * O (w + x) else 0 := by
  refine Finset.sum_congr rfl fun x _ => ?_
  simp only [decide_eq_true_eq]
  split_ifs
  · rfl
  · simp only [mul_zero, zero_mul, Finset.sum_const_zero]

theorem tail48 (F : ℕ → ℝ) : (∑ x ∈ Finset.range 48, F (0 + 16 + x))
    = (∑ x ∈ Finset.range 16, F (16 + x)) + (∑ x ∈ Finset.range 16, F (32 + x)) + ∑ x ∈ Finset.range 16, F (48 + x) := by
  rw [show 48 = 16 + 16 + 16 by rfl, Finset.sum_range_add, Finset.sum_range_add]
  simp only [← add_assoc, zero_add, Nat.reduceAdd]

theorem tail32 (F : ℕ → ℝ) : (∑ x ∈ Finset.range 32, F (16 + 16 + x))
    = (∑ x ∈ Finset.range 16, F (32 + x)) + ∑ x ∈ Finset.range 16, F (48 + x) := by
  rw [show 32 = 16 + 16 by rfl, Finset.sum_range_add]
  simp only [← add_assoc, Nat.reduceAdd]

end Cert.Hgrn
-- ==== Proof.IntraB.lean ====
module

public import proofs.«01_k».proof.Proof.OpsB
public import proofs.«01_k».proof.Proof.Intra
public import Idealize.ShloMosaic.Lib.Pointwise

@[expose] public section

set_option maxRecDepth 16384

noncomputable section

namespace Cert.Hgrn.Bwd
open Cert.KernelIdeal Cert.KernelIdeal.Gen Idealize.ShloMosaic Idealize.ShloMosaic.TcCoe Idealize.SL.Sem Cert.Hgrn

/-! The gradients of queries, keys and values of one block, as real numbers. -/

/-- The gradient of the queries of a block of four chunks: the part within the chunk and the part from the state before it. -/
theorem dq_eq (q k v g o eg dqt : ℕ → ℕ → ℕ → ℝ) : k0_pay224 (F := Ideal) (V3 eg : FVec Ideal S4x64x128 .f32) (V3 dqt : FVec Ideal S4x64x128 .f32)
    (k0_pay53 (F := Ideal) (k0_pay46 (F := Ideal) (V3 g : FVec Ideal S4x64x128 .f32)) (k0_pay49 (F := Ideal) (V3 k : FVec Ideal S4x64x128 .f32) (V3 g
      : FVec Ideal S4x64x128 .f32)) (k0_pay52 (F := Ideal) (V3 v : FVec Ideal S4x64x128 .f32) (V3 o : FVec Ideal S4x64x128 .f32)) (constant S4x16x128
        FTy.f32 0#32)) (k0_pay62 (F := Ideal) (V3 k : FVec Ideal S4x64x128 .f32) (V3 v : FVec Ideal S4x64x128 .f32) (V3 g : FVec Ideal S4x64x128
          .f32) (V3 o : FVec Ideal S4x64x128 .f32)) (k0_pay75 (F := Ideal) (V3 k : FVec Ideal S4x64x128 .f32) (V3 v : FVec Ideal S4x64x128 .f32) (V3
    o : FVec Ideal S4x64x128 .f32) (k0_pay67 (F := Ideal) (V3 g : FVec Ideal S4x64x128 .f32)) (k0_pay68 (F := Ideal) (V3 g : FVec Ideal
    S4x64x128 .f32)) (k0_pay69 (F := Ideal) (V3 g : FVec Ideal S4x64x128 .f32))) (k0_pay83 (F := Ideal) (V3 o : FVec Ideal S4x64x128 .f32))
    (k0_pay215 (F := Ideal) (k0_pay83 (F := Ideal) (V3 o : FVec Ideal S4x64x128 .f32)) (k0_pay207 (F := Ideal) (k0_pay83 (F := Ideal) (V3
    o : FVec Ideal S4x64x128 .f32)) (k0_pay197 (F := Ideal) (k0_pay82 (F := Ideal) (V3 g : FVec Ideal S4x64x128 .f32)) (iota Kind.tc
    S16x16x128 32 [1] iota_S16x16x128_d1_w32) (k0_pay83 (F := Ideal) (V3 o : FVec Ideal S4x64x128 .f32)) (k0_pay188 (F := Ideal)
    (k0_pay80 (F := Ideal) (V3 k : FVec Ideal S4x64x128 .f32)) (k0_pay81 (F := Ideal) (V3 v : FVec Ideal S4x64x128 .f32)) (k0_pay82
    (F := Ideal) (V3 g : FVec Ideal S4x64x128 .f32)) (iota Kind.tc S16x16x128 32 [1] iota_S16x16x128_d1_w32) (k0_pay83 (F :=
    Ideal) (V3 o : FVec Ideal S4x64x128 .f32)) (k0_pay181 (F := Ideal) (k0_pay80 (F := Ideal) (V3 k : FVec Ideal S4x64x128
    .f32)) (k0_pay81 (F := Ideal) (V3 v : FVec Ideal S4x64x128 .f32)) (k0_pay82 (F := Ideal) (V3 g : FVec Ideal S4x64x128
    .f32)) (iota Kind.tc S16x16x128 32 [1] iota_S16x16x128_d1_w32) (k0_pay83 (F := Ideal) (V3 o : FVec Ideal S4x64x128
    .f32)) (k0_pay173 (F := Ideal) (k0_pay80 (F := Ideal) (V3 k : FVec Ideal S4x64x128 .f32)) (k0_pay81 (F := Ideal) (V3
    v : FVec Ideal S4x64x128 .f32)) (k0_pay82 (F := Ideal) (V3 g : FVec Ideal S4x64x128 .f32)) (iota Kind.tc S16x16x128
    32 [1] iota_S16x16x128_d1_w32) (k0_pay83 (F := Ideal) (V3 o : FVec Ideal S4x64x128 .f32)) (k0_pay164 (F := Ideal)
    (k0_pay80 (F := Ideal) (V3 k : FVec Ideal S4x64x128 .f32)) (k0_pay81 (F := Ideal) (V3 v : FVec Ideal S4x64x128
    .f32)) (k0_pay82 (F := Ideal) (V3 g : FVec Ideal S4x64x128 .f32)) (iota Kind.tc S16x16x128 32 [1]
    iota_S16x16x128_d1_w32) (k0_pay83 (F := Ideal) (V3 o : FVec Ideal S4x64x128 .f32)) (k0_pay156 (F := Ideal)
    (k0_pay80 (F := Ideal) (V3 k : FVec Ideal S4x64x128 .f32)) (k0_pay81 (F := Ideal) (V3 v : FVec Ideal
    S4x64x128 .f32)) (k0_pay82 (F := Ideal) (V3 g : FVec Ideal S4x64x128 .f32)) (iota Kind.tc S16x16x128 32
    [1] iota_S16x16x128_d1_w32) (k0_pay83 (F := Ideal) (V3 o : FVec Ideal S4x64x128 .f32)) (k0_pay146 (F
    := Ideal) (k0_pay80 (F := Ideal) (V3 k : FVec Ideal S4x64x128 .f32)) (k0_pay81 (F := Ideal) (V3 v :
    FVec Ideal S4x64x128 .f32)) (k0_pay82 (F := Ideal) (V3 g : FVec Ideal S4x64x128 .f32)) (iota
    Kind.tc S16x16x128 32 [1] iota_S16x16x128_d1_w32) (k0_pay83 (F := Ideal) (V3 o : FVec Ideal
    S4x64x128 .f32)) (k0_pay136 (F := Ideal) (k0_pay80 (F := Ideal) (V3 k : FVec Ideal S4x64x128
    .f32)) (k0_pay81 (F := Ideal) (V3 v : FVec Ideal S4x64x128 .f32)) (k0_pay82 (F := Ideal)
    (V3 g : FVec Ideal S4x64x128 .f32)) (iota Kind.tc S16x16x128 32 [1]
    iota_S16x16x128_d1_w32) (k0_pay83 (F := Ideal) (V3 o : FVec Ideal S4x64x128 .f32))
    (k0_pay126 (F := Ideal) (k0_pay80 (F := Ideal) (V3 k : FVec Ideal S4x64x128 .f32))
    (k0_pay81 (F := Ideal) (V3 v : FVec Ideal S4x64x128 .f32)) (k0_pay82 (F := Ideal)
    (V3 g : FVec Ideal S4x64x128 .f32)) (iota Kind.tc S16x16x128 32 [1]
    iota_S16x16x128_d1_w32) (k0_pay83 (F := Ideal) (V3 o : FVec Ideal S4x64x128
    .f32)) (k0_pay118 (F := Ideal) (k0_pay80 (F := Ideal) (V3 k : FVec Ideal
    S4x64x128 .f32)) (k0_pay81 (F := Ideal) (V3 v : FVec Ideal S4x64x128 .f32))
    (k0_pay82 (F := Ideal) (V3 g : FVec Ideal S4x64x128 .f32)) (iota Kind.tc
    S16x16x128 32 [1] iota_S16x16x128_d1_w32) (k0_pay83 (F := Ideal) (V3 o
    : FVec Ideal S4x64x128 .f32)) (k0_pay102 (F := Ideal) (k0_pay93 (F :=
    Ideal) (k0_pay83 (F := Ideal) (V3 o : FVec Ideal S4x64x128 .f32))
    (k0_pay84 (F := Ideal)) (k0_pay87 (F := Ideal) (V3 k : FVec Ideal
    S4x64x128 .f32)) (k0_pay88 (F := Ideal) (V3 v : FVec Ideal
    S4x64x128 .f32)) (k0_pay89 (F := Ideal) (V3 g : FVec Ideal
    S4x64x128 .f32))) (k0_pay96 (F := Ideal) (k0_pay80 (F :=
    Ideal) (V3 k : FVec Ideal S4x64x128 .f32))) (k0_pay97 (F
    := Ideal) (k0_pay82 (F := Ideal) (V3 g : FVec Ideal
    S4x64x128 .f32)) (iota Kind.tc S16x16x128 32 [1]
    iota_S16x16x128_d1_w32)) (k0_pay100 (F := Ideal)
    (k0_pay81 (F := Ideal) (V3 v : FVec Ideal
    S4x64x128 .f32)) (k0_pay83 (F := Ideal) (V3 o :
    FVec Ideal S4x64x128 .f32)))) (k0_pay105 (F
    := Ideal) (k0_pay80 (F := Ideal) (V3 k :
    FVec Ideal S4x64x128 .f32))) (k0_pay106
    (F := Ideal) (k0_pay82 (F := Ideal) (V3
    g : FVec Ideal S4x64x128 .f32)) (iota
    Kind.tc S16x16x128 32 [1]
    iota_S16x16x128_d1_w32))
    (k0_pay110 (F := Ideal)
    (k0_pay81 (F := Ideal) (V3 v
    : FVec Ideal S4x64x128
    .f32)) (k0_pay83 (F :=
    Ideal) (V3 o : FVec
    Ideal S4x64x128
    .f32))))))))))))
    (k0_pay191 (F :=
    Ideal)
    (k0_pay82 (F
    := Ideal)
    (V3 g :
    FVec Ideal S4x64x128 .f32))) (k0_pay192 (F := Ideal) (k0_pay80 (F := Ideal) (V3 k : FVec Ideal S4x64x128 .f32))) (k0_pay193 (F := Ideal) (k0_pay81 (F := Ideal) (V3 v : FVec Ideal S4x64x128 .f32))) 12#32) (k0_pay200 (F := Ideal) (k0_pay80 (F := Ideal) (V3 k : FVec Ideal S4x64x128 .f32))) (k0_pay201 (F := Ideal) (k0_pay81 (F := Ideal) (V3 v : FVec Ideal S4x64x128 .f32))) (k0_pay202 (iota Kind.tc S16x16x128 32 [1] iota_S16x16x128_d1_w32)) (k0_pay203 (F := Ideal) (k0_pay82 (F := Ideal) (V3 g : FVec Ideal S4x64x128 .f32)))) (k0_pay210 (F := Ideal) (k0_pay80 (F := Ideal) (V3 k : FVec Ideal S4x64x128 .f32))) (k0_pay211 (F := Ideal) (k0_pay81 (F := Ideal) (V3 v : FVec Ideal S4x64x128 .f32))) (k0_pay212 (F := Ideal) (k0_pay82 (F := Ideal) (V3 g : FVec Ideal S4x64x128 .f32)) (iota Kind.tc S16x16x128 32 [1] iota_S16x16x128_d1_w32))) (k0_pay218 (F := Ideal) (k0_pay80 (F := Ideal) (V3 k : FVec Ideal S4x64x128 .f32))) (k0_pay219 (F := Ideal) (k0_pay81 (F := Ideal) (V3 v : FVec Ideal S4x64x128 .f32))) (k0_pay220 (F := Ideal) (k0_pay82 (F := Ideal) (V3 g : FVec Ideal S4x64x128 .f32)) (iota Kind.tc S16x16x128 32 [1] iota_S16x16x128_d1_w32)) = (V3 (fun b r l => (∑ s ∈ Finset.range 64, if s ≤ r then (∑ x ∈ Finset.range 128, o b r x * v b s x) * (k b s l * Real.exp (g b r l - g b s l)) else 0) + dqt b r l * eg b r l) : FVec Ideal S4x64x128 .f32) := by
  simp only [k0_pay45, k0_pay46, k0_pay47, k0_pay49, k0_pay51, k0_pay52, k0_pay53, k0_pay55, k0_pay56, k0_pay57, k0_pay59, k0_pay60, k0_pay61,
    k0_pay62, k0_pay66, k0_pay67, k0_pay68, k0_pay69, k0_pay70, k0_pay72, k0_pay73, k0_pay74, k0_pay75, k0_pay80, k0_pay81, k0_pay82, k0_pay83,
      k0_pay84, k0_pay87, k0_pay88, k0_pay89, k0_pay92, k0_pay93, k0_pay96, k0_pay97, k0_pay100, k0_pay101, k0_pay102, k0_pay105, k0_pay106,
        k0_pay109, k0_pay110, k0_pay113, k0_pay114, k0_pay117, k0_pay118, k0_pay121, k0_pay122, k0_pay125, k0_pay126, k0_pay131, k0_pay132,
          k0_pay135, k0_pay136, k0_pay141, k0_pay142, k0_pay145, k0_pay146, k0_pay151, k0_pay152, k0_pay155, k0_pay156, k0_pay160, k0_pay161,
    k0_pay163, k0_pay164, k0_pay169, k0_pay170, k0_pay172, k0_pay173, k0_pay177, k0_pay178, k0_pay180, k0_pay181, k0_pay184, k0_pay185,
    k0_pay187, k0_pay188, k0_pay191, k0_pay192, k0_pay193, k0_pay194, k0_pay196, k0_pay197, k0_pay200, k0_pay201, k0_pay202, k0_pay203,
    k0_pay204, k0_pay206, k0_pay207, k0_pay210, k0_pay211, k0_pay212, k0_pay214, k0_pay215, k0_pay218, k0_pay219, k0_pay220, k0_pay223,
    k0_pay224, mulf_V2, addf_V2, subf_V2, exp_V2, truncf_V2, extf_V2, broadcast_zero_V2, constant_zero_V2, broadcast_one_V2, select_V2,
    mulf_V3, addf_V3, subf_V3, exp_V3, truncf_V3, extf_V3, broadcast_zero_V3, constant_zero_V3, broadcast_one_V3, select_V3,
    multiReductionOpen, shapeCast_self, bcast_S16x16x1_S16x16x128, bcast_S16x1x128_S16x16x128, bcast_S1x128_S128x128,
    bcast_S1x128_S256x128, bcast_S4x1x128_S4x16x128, bcast_S4x1x128_S4x32x128, bcast_S4x1x128_S4x48x128,
    bcast_S4x1x128_S4x64x128, ↓to_cat_S1x128x128_S1x128x128_S1x128x128_S1x128x128,
    concat_S1x128x128_S1x128x128_S1x128x128_S1x128x128_S4x128x128_d0, ↓to_cat_S4x16x128_S4x16x128_S4x16x128_S4x16x128,
    concat_S4x16x128_S4x16x128_S4x16x128_S4x16x128_S4x64x128_d1, ↓to_cat_S4x16x128_S4x48x128,
    concat_S4x16x128_S4x48x128_S4x64x128_d1, ↓to_cat_S4x32x128_S4x32x128, concat_S4x32x128_S4x32x128_S4x64x128_d1,
    ↓to_cat_S4x48x128_S4x16x128, concat_S4x48x128_S4x16x128_S4x64x128_d1,
    dotv_S4x16x128_S4x16x128_S4x16x16_2_2_1_1_0_0, dotv_S4x16x128_S4x32x128_S4x16x32_2_2_1_1_0_0,
    dotv_S4x16x128_S4x48x128_S4x16x48_2_2_1_1_0_0, dotv_S4x16x16_S4x16x128_S4x16x128_1_1_2_2_0_0,
    dotv_S4x16x16_S4x16x128_S4x16x128_2_1_1_2_0_0, dotv_S4x16x32_S4x16x128_S4x32x128_1_1_2_2_0_0,
    dotv_S4x16x32_S4x32x128_S4x16x128_2_1_1_2_0_0, dotv_S4x16x48_S4x16x128_S4x48x128_1_1_2_2_0_0,
    dotv_S4x16x48_S4x48x128_S4x16x128_2_1_1_2_0_0, dotv_S4x64x128_S4x128x128_S4x64x128_2_1_1_2_0_0,
    dotv_S4x64x128_S4x128x128_S4x64x128_2_2_1_1_0_0, dotv_S4x64x128_S4x64x128_S4x128x128_1_1_2_2_0_0,
    mask_sge_0, mask_eq_0, mask_sge_1, mask_eq_1, mask_sge_2, mask_eq_2, mask_sge_3, mask_eq_3,
    mask_sge_4, mask_eq_4, mask_sge_5, mask_eq_5, mask_sge_6, mask_eq_6, mask_sge_7, mask_eq_7,
    mask_sge_8, mask_eq_8, mask_sge_9, mask_eq_9, mask_sge_10, mask_eq_10, mask_sge_11, mask_eq_11,
    mask_sge_12, mask_eq_12, mask_sge_13, mask_eq_13, mask_sge_14, mask_eq_14, mask_sge_15,
    mask_eq_15, mask_last, reduce_S16x16x128_S16x128_1, reduce_S16x16x128_S16x16_2,
    reduce_S256x128_S128_0, reduce_S4x128x128_S4x128_1, reduce_S4x64x128_S4x128_1,
    rot_S256x128_1, rot_S256x128_2, rot_S256x128_4, rot_S256x128_8, rot_S256x128_16,
    rot_S256x128_32, rot_S256x128_224, rot_S256x128_240, rot_S256x128_248,
    rot_S256x128_252, rot_S256x128_254, rot_S256x128_255, cast_S128_S1x128,
    cast_S128x128_S1x128x128, cast_S16x128_S16x1x128, cast_S16x16_S16x16x1,
    cast_S16x16x128_S4x64x128, cast_S1x128x128_S128x128, cast_S1x1x128_S1x128,
    cast_S1x4x128x128_S4x128x128, cast_S256x128_S4x64x128, cast_S4x128_S4x1x128,
    cast_S4x64x128_S16x16x128, cast_S4x64x128_S256x128,
    slice_S16x16x128_o0_0_0_S16x1x128, slice_S16x16x128_o0_10_0_S16x1x128,
    slice_S16x16x128_o0_11_0_S16x1x128, slice_S16x16x128_o0_12_0_S16x1x128,
    slice_S16x16x128_o0_13_0_S16x1x128, slice_S16x16x128_o0_14_0_S16x1x128,
    slice_S16x16x128_o0_15_0_S16x1x128,
    slice_S16x16x128_o0_1_0_S16x1x128,
    slice_S16x16x128_o0_2_0_S16x1x128,
    slice_S16x16x128_o0_3_0_S16x1x128,
    slice_S16x16x128_o0_4_0_S16x1x128,
    slice_S16x16x128_o0_5_0_S16x1x128,
    slice_S16x16x128_o0_6_0_S16x1x128,
    slice_S16x16x128_o0_7_0_S16x1x128,
    slice_S16x16x128_o0_8_0_S16x1x128,
    slice_S16x16x128_o0_9_0_S16x1x128,
    slice_S256x384_o0_0_S256x128,
    slice_S256x384_o0_128_S256x128,
    slice_S256x384_o0_256_S256x128,
    slice_S4x128x128_o0_0_0_S1x128x128,
    slice_S4x128x128_o1_0_0_S1x128x128,
    slice_S4x128x128_o2_0_0_S1x128x128,
    slice_S4x128x128_o3_0_0_S1x128x128,
    slice_S4x1x128_o0_0_0_S1x1x128,
    slice_S4x1x128_o1_0_0_S1x1x128,
    slice_S4x1x128_o2_0_0_S1x1x128,
    slice_S4x1x128_o3_0_0_S1x1x128, slice_S4x64x128_o0_0_0_S4x16x128, slice_S4x64x128_o0_0_0_S4x32x128, slice_S4x64x128_o0_0_0_S4x48x128, slice_S4x64x128_o0_15_0_S4x1x128, slice_S4x64x128_o0_16_0_S4x16x128, slice_S4x64x128_o0_31_0_S4x1x128, slice_S4x64x128_o0_32_0_S4x16x128, slice_S4x64x128_o0_47_0_S4x1x128, slice_S4x64x128_o0_48_0_S4x16x128, slice_S4x64x128_o0_63_0_S4x1x128]
  refine V3_congr fun b hb r hr l hl => ?_
  refine congrArg (· + dqt b r l * eg b r l) ?_
  by_cases c0 : r < 16
  · rw [if_pos c0]
    have e1 : (b * 4 + (r) / 16) / 4 = b := by omega
    have e2 : (b * 4 + (r) / 16) % 4 * 16 = 0 := by omega
    have e3 : r % 16 = r := by omega
    simp only [e1, e2, e3]
    have h := dq_row0 (fun s => ∑ x ∈ Finset.range 128, o b r x * v b s x) (fun s => k b s l) (fun s => g b s l) (g b r l) r (by omega)
    simp only [zero_add] at h ⊢
    exact h
  rw [if_neg c0]
  by_cases c1 : r - 16 < 16
  · rw [if_pos c1]
    have e1 : (b * 4 + (16 + (r - 16)) / 16) / 4 = b := by omega
    have e2 : (b * 4 + (16 + (r - 16)) / 16) % 4 * 16 = 16 := by omega
    have e3 : (16 + (r - 16)) % 16 = r - 16 := by omega
    have e4 : r = 16 + (r - 16) := by omega
    simp only [e1, e2, e3]
    have hρ : r - 16 < 16 := by omega
    generalize r - 16 = ρ at hρ e4 ⊢
    subst e4
    exact dq_row (fun s => ∑ x ∈ Finset.range 128, o b (16 + ρ) x * v b s x) (fun s => k b s l) (fun s => g b s l) (g b (16 + ρ) l) (g b 15 l) 16 ρ
      (by omega) hρ
  rw [if_neg c1]
  by_cases c2 : r - 16 - 16 < 16
  · rw [if_pos c2]
    have e1 : (b * 4 + (32 + (r - 16 - 16)) / 16) / 4 = b := by omega
    have e2 : (b * 4 + (32 + (r - 16 - 16)) / 16) % 4 * 16 = 32 := by omega
    have e3 : (32 + (r - 16 - 16)) % 16 = r - 16 - 16 := by omega
    have e4 : r = 32 + (r - 16 - 16) := by omega
    simp only [e1, e2, e3]
    have hρ : r - 16 - 16 < 16 := by omega
    generalize r - 16 - 16 = ρ at hρ e4 ⊢
    subst e4
    exact dq_row (fun s => ∑ x ∈ Finset.range 128, o b (32 + ρ) x * v b s x) (fun s => k b s l) (fun s => g b s l) (g b (32 + ρ) l) (g b 31 l) 32 ρ
      (by omega) hρ
  rw [if_neg c2]
  have e1 : (b * 4 + (48 + (r - 16 - 16 - 16)) / 16) / 4 = b := by omega
  have e2 : (b * 4 + (48 + (r - 16 - 16 - 16)) / 16) % 4 * 16 = 48 := by omega
  have e3 : (48 + (r - 16 - 16 - 16)) % 16 = r - 16 - 16 - 16 := by omega
  have e4 : r = 48 + (r - 16 - 16 - 16) := by omega
  simp only [e1, e2, e3]
  have hρ : r - 16 - 16 - 16 < 16 := by omega
  generalize r - 16 - 16 - 16 = ρ at hρ e4 ⊢
  subst e4
  exact dq_row (fun s => ∑ x ∈ Finset.range 128, o b (48 + ρ) x * v b s x) (fun s => k b s l) (fun s => g b s l) (g b (48 + ρ) l) (g b 47 l) 48 ρ (by
    omega) hρ

/-- The gradient of the keys of a block of four chunks: the part within the chunk and the part from the state gradient after it. -/
theorem dk_eq (q k v g o egr dkt : ℕ → ℕ → ℕ → ℝ) : k0_pay225 (F := Ideal) (V3 egr : FVec Ideal S4x64x128 .f32) (V3 dkt : FVec Ideal S4x64x128 .f32)
    (k0_pay77 (F := Ideal) (V3 q : FVec Ideal S4x64x128 .f32) (V3 v : FVec Ideal S4x64x128 .f32) (V3 o : FVec Ideal S4x64x128 .f32) (k0_pay64 (F :=
      Ideal) (V3 q : FVec Ideal S4x64x128 .f32) (V3 v : FVec Ideal S4x64x128 .f32) (V3 g : FVec Ideal S4x64x128 .f32) (V3 o : FVec Ideal S4x64x128
        .f32) (k0_pay43 (F := Ideal)) (k0_pay47 (F := Ideal) (V3 g : FVec Ideal S4x64x128 .f32)) (k0_pay48 (F := Ideal) (V3 q : FVec Ideal S4x64x128
          .f32) (V3 g : FVec Ideal S4x64x128 .f32)) (k0_pay52 (F := Ideal) (V3 v : FVec Ideal S4x64x128 .f32) (V3 o : FVec Ideal S4x64x128 .f32)))
    (k0_pay67 (F := Ideal) (V3 g : FVec Ideal S4x64x128 .f32)) (k0_pay68 (F := Ideal) (V3 g : FVec Ideal S4x64x128 .f32)) (k0_pay69 (F :=
    Ideal) (V3 g : FVec Ideal S4x64x128 .f32))) (iota Kind.tc S16x16x128 32 [1] iota_S16x16x128_d1_w32) (k0_pay83 (F := Ideal) (V3 o : FVec
    Ideal S4x64x128 .f32)) (k0_pay216 (F := Ideal) (k0_pay79 (F := Ideal) (V3 q : FVec Ideal S4x64x128 .f32)) (iota Kind.tc S16x16x128 32
    [1] iota_S16x16x128_d1_w32) (k0_pay83 (F := Ideal) (V3 o : FVec Ideal S4x64x128 .f32)) (k0_pay208 (F := Ideal) (k0_pay79 (F :=
    Ideal) (V3 q : FVec Ideal S4x64x128 .f32)) (iota Kind.tc S16x16x128 32 [1] iota_S16x16x128_d1_w32) (k0_pay83 (F := Ideal) (V3 o :
    FVec Ideal S4x64x128 .f32)) (k0_pay198 (F := Ideal) (k0_pay79 (F := Ideal) (V3 q : FVec Ideal S4x64x128 .f32)) (k0_pay82 (F :=
    Ideal) (V3 g : FVec Ideal S4x64x128 .f32)) (iota Kind.tc S16x16x128 32 [1] iota_S16x16x128_d1_w32) (k0_pay83 (F := Ideal) (V3
    o : FVec Ideal S4x64x128 .f32)) (k0_pay189 (F := Ideal) (k0_pay79 (F := Ideal) (V3 q : FVec Ideal S4x64x128 .f32))
    (k0_pay81 (F := Ideal) (V3 v : FVec Ideal S4x64x128 .f32)) (k0_pay82 (F := Ideal) (V3 g : FVec Ideal S4x64x128 .f32))
    (iota Kind.tc S16x16x128 32 [1] iota_S16x16x128_d1_w32) (k0_pay83 (F := Ideal) (V3 o : FVec Ideal S4x64x128 .f32))
    (k0_pay182 (F := Ideal) (k0_pay79 (F := Ideal) (V3 q : FVec Ideal S4x64x128 .f32)) (k0_pay81 (F := Ideal) (V3 v :
    FVec Ideal S4x64x128 .f32)) (k0_pay82 (F := Ideal) (V3 g : FVec Ideal S4x64x128 .f32)) (iota Kind.tc S16x16x128 32
    [1] iota_S16x16x128_d1_w32) (k0_pay83 (F := Ideal) (V3 o : FVec Ideal S4x64x128 .f32)) (k0_pay174 (F := Ideal)
    (k0_pay79 (F := Ideal) (V3 q : FVec Ideal S4x64x128 .f32)) (k0_pay81 (F := Ideal) (V3 v : FVec Ideal S4x64x128
    .f32)) (k0_pay82 (F := Ideal) (V3 g : FVec Ideal S4x64x128 .f32)) (iota Kind.tc S16x16x128 32 [1]
    iota_S16x16x128_d1_w32) (k0_pay83 (F := Ideal) (V3 o : FVec Ideal S4x64x128 .f32)) (k0_pay165 (F := Ideal)
    (k0_pay79 (F := Ideal) (V3 q : FVec Ideal S4x64x128 .f32)) (k0_pay81 (F := Ideal) (V3 v : FVec Ideal
    S4x64x128 .f32)) (k0_pay82 (F := Ideal) (V3 g : FVec Ideal S4x64x128 .f32)) (iota Kind.tc S16x16x128 32
    [1] iota_S16x16x128_d1_w32) (k0_pay83 (F := Ideal) (V3 o : FVec Ideal S4x64x128 .f32)) (k0_pay157 (F
    := Ideal) (k0_pay79 (F := Ideal) (V3 q : FVec Ideal S4x64x128 .f32)) (k0_pay81 (F := Ideal) (V3 v :
    FVec Ideal S4x64x128 .f32)) (k0_pay82 (F := Ideal) (V3 g : FVec Ideal S4x64x128 .f32)) (iota
    Kind.tc S16x16x128 32 [1] iota_S16x16x128_d1_w32) (k0_pay83 (F := Ideal) (V3 o : FVec Ideal
    S4x64x128 .f32)) (k0_pay139 (F := Ideal) (k0_pay129 (F := Ideal) (k0_pay119 (F := Ideal)
    (iota Kind.tc S16x16x128 32 [1] iota_S16x16x128_d1_w32) (k0_pay111 (F := Ideal) (iota
    Kind.tc S16x16x128 32 [1] iota_S16x16x128_d1_w32) (k0_pay103 (F := Ideal) (iota Kind.tc
    S16x16x128 32 [1] iota_S16x16x128_d1_w32) (k0_pay94 (F := Ideal) (iota Kind.tc
    S16x16x128 32 [1] iota_S16x16x128_d1_w32) (k0_pay83 (F := Ideal) (V3 o : FVec Ideal
    S4x64x128 .f32)) (k0_pay85 (F := Ideal)) (k0_pay88 (F := Ideal) (V3 v : FVec Ideal
    S4x64x128 .f32)) (k0_pay90 (F := Ideal) (V3 q : FVec Ideal S4x64x128 .f32) (V3 g
    : FVec Ideal S4x64x128 .f32))) (k0_pay98 (F := Ideal) (k0_pay79 (F := Ideal)
    (V3 q : FVec Ideal S4x64x128 .f32)) (k0_pay82 (F := Ideal) (V3 g : FVec Ideal
    S4x64x128 .f32)) (iota Kind.tc S16x16x128 32 [1] iota_S16x16x128_d1_w32))
    (k0_pay100 (F := Ideal) (k0_pay81 (F := Ideal) (V3 v : FVec Ideal
    S4x64x128 .f32)) (k0_pay83 (F := Ideal) (V3 o : FVec Ideal S4x64x128
    .f32)))) (k0_pay107 (F := Ideal) (k0_pay79 (F := Ideal) (V3 q : FVec
    Ideal S4x64x128 .f32)) (k0_pay82 (F := Ideal) (V3 g : FVec Ideal
    S4x64x128 .f32)) (iota Kind.tc S16x16x128 32 [1]
    iota_S16x16x128_d1_w32)) (k0_pay109 (F := Ideal) (k0_pay81 (F
    := Ideal) (V3 v : FVec Ideal S4x64x128 .f32)) (k0_pay83 (F :=
    Ideal) (V3 o : FVec Ideal S4x64x128 .f32)))) (k0_pay115 (F
    := Ideal) (k0_pay79 (F := Ideal) (V3 q : FVec Ideal
    S4x64x128 .f32)) (k0_pay82 (F := Ideal) (V3 g : FVec
    Ideal S4x64x128 .f32)) (iota Kind.tc S16x16x128 32
    [1] iota_S16x16x128_d1_w32)) (k0_pay117 (F :=
    Ideal) (k0_pay81 (F := Ideal) (V3 v : FVec Ideal
    S4x64x128 .f32)) (k0_pay83 (F := Ideal) (V3 o :
    FVec Ideal S4x64x128 .f32)))) (k0_pay123 (F
    := Ideal) (k0_pay79 (F := Ideal) (V3 q :
    FVec Ideal S4x64x128 .f32)) (k0_pay82 (F
    := Ideal) (V3 g : FVec Ideal S4x64x128
    .f32)) (iota Kind.tc S16x16x128 32
    [1] iota_S16x16x128_d1_w32))
    (k0_pay127 (iota Kind.tc
    S16x16x128 32 [1]
    iota_S16x16x128_d1_w32))
    (k0_pay128 (F := Ideal)
    (k0_pay81 (F := Ideal)
    (V3 v : FVec Ideal
    S4x64x128 .f32))
    (k0_pay83 (F :=
    Ideal) (V3 o :
    FVec Ideal
    S4x64x128
    .f32))))
    (k0_pay137 (iota Kind.tc S16x16x128 32 [1] iota_S16x16x128_d1_w32)) (k0_pay138 (F := Ideal) (k0_pay79 (F := Ideal) (V3 q : FVec Ideal S4x64x128 .f32)) (k0_pay81 (F := Ideal) (V3 v : FVec Ideal S4x64x128 .f32)) (k0_pay82 (F := Ideal) (V3 g : FVec Ideal S4x64x128 .f32)) (iota Kind.tc S16x16x128 32 [1] iota_S16x16x128_d1_w32) (k0_pay83 (F := Ideal) (V3 o : FVec Ideal S4x64x128 .f32)))) (k0_pay147 (iota Kind.tc S16x16x128 32 [1] iota_S16x16x128_d1_w32)) (k0_pay148 (F := Ideal) (k0_pay79 (F := Ideal) (V3 q : FVec Ideal S4x64x128 .f32)) (k0_pay81 (F := Ideal) (V3 v : FVec Ideal S4x64x128 .f32)) (k0_pay82 (F := Ideal) (V3 g : FVec Ideal S4x64x128 .f32)) (iota Kind.tc S16x16x128 32 [1] iota_S16x16x128_d1_w32) (k0_pay83 (F := Ideal) (V3 o : FVec Ideal S4x64x128 .f32))) (k0_pay149 (F := Ideal))))))) (k0_pay191 (F := Ideal) (k0_pay82 (F := Ideal) (V3 g : FVec Ideal S4x64x128 .f32))) (k0_pay193 (F := Ideal) (k0_pay81 (F := Ideal) (V3 v : FVec Ideal S4x64x128 .f32))) 12#32) (k0_pay201 (F := Ideal) (k0_pay81 (F := Ideal) (V3 v : FVec Ideal S4x64x128 .f32))) (k0_pay202 (iota Kind.tc S16x16x128 32 [1] iota_S16x16x128_d1_w32)) (k0_pay203 (F := Ideal) (k0_pay82 (F := Ideal) (V3 g : FVec Ideal S4x64x128 .f32)))) (k0_pay211 (F := Ideal) (k0_pay81 (F := Ideal) (V3 v : FVec Ideal S4x64x128 .f32))) (k0_pay212 (F := Ideal) (k0_pay82 (F := Ideal) (V3 g : FVec Ideal S4x64x128 .f32)) (iota Kind.tc S16x16x128 32 [1] iota_S16x16x128_d1_w32))) (k0_pay219 (F := Ideal) (k0_pay81 (F := Ideal) (V3 v : FVec Ideal S4x64x128 .f32))) (k0_pay221 (F := Ideal) (k0_pay79 (F := Ideal) (V3 q : FVec Ideal S4x64x128 .f32)) (k0_pay82 (F := Ideal) (V3 g : FVec Ideal S4x64x128 .f32)) (iota Kind.tc S16x16x128 32 [1] iota_S16x16x128_d1_w32)) = (V3 (fun b s l => (∑ r ∈ Finset.range 64, if s ≤ r then (∑ x ∈ Finset.range 128, o b r x * v b s x) * (q b r l * Real.exp (g b r l - g b s l)) else 0) + dkt b s l * egr b s l) : FVec Ideal S4x64x128 .f32) := by
  simp only [k0_pay43, k0_pay45, k0_pay46, k0_pay47, k0_pay48, k0_pay51, k0_pay52, k0_pay54, k0_pay55, k0_pay56, k0_pay57, k0_pay58, k0_pay60,
    k0_pay61, k0_pay63, k0_pay64, k0_pay66, k0_pay67, k0_pay68, k0_pay69, k0_pay70, k0_pay71, k0_pay73, k0_pay74, k0_pay76, k0_pay77, k0_pay79,
      k0_pay81, k0_pay82, k0_pay83, k0_pay85, k0_pay88, k0_pay89, k0_pay90, k0_pay92, k0_pay94, k0_pay97, k0_pay98, k0_pay100, k0_pay101, k0_pay103,
        k0_pay106, k0_pay107, k0_pay109, k0_pay111, k0_pay114, k0_pay115, k0_pay117, k0_pay119, k0_pay122, k0_pay123, k0_pay125, k0_pay127,
          k0_pay128, k0_pay129, k0_pay132, k0_pay133, k0_pay135, k0_pay137, k0_pay138, k0_pay139, k0_pay142, k0_pay143, k0_pay145, k0_pay147,
    k0_pay148, k0_pay149, k0_pay152, k0_pay153, k0_pay155, k0_pay157, k0_pay161, k0_pay162, k0_pay163, k0_pay165, k0_pay170, k0_pay171,
    k0_pay172, k0_pay174, k0_pay178, k0_pay179, k0_pay180, k0_pay182, k0_pay185, k0_pay186, k0_pay187, k0_pay189, k0_pay191, k0_pay193,
    k0_pay194, k0_pay195, k0_pay196, k0_pay198, k0_pay201, k0_pay202, k0_pay203, k0_pay204, k0_pay205, k0_pay206, k0_pay208, k0_pay211,
    k0_pay212, k0_pay213, k0_pay214, k0_pay216, k0_pay219, k0_pay220, k0_pay221, k0_pay223, k0_pay225, mulf_V2, addf_V2, subf_V2,
    exp_V2, truncf_V2, extf_V2, broadcast_zero_V2, constant_zero_V2, broadcast_one_V2, select_V2, mulf_V3, addf_V3, subf_V3, exp_V3,
    truncf_V3, extf_V3, broadcast_zero_V3, constant_zero_V3, broadcast_one_V3, select_V3, multiReductionOpen, shapeCast_self,
    bcast_S16x16x1_S16x16x128, bcast_S16x1x128_S16x16x128, bcast_S1x128_S128x128, bcast_S1x128_S256x128,
    bcast_S4x1x128_S4x16x128, bcast_S4x1x128_S4x32x128, bcast_S4x1x128_S4x48x128, bcast_S4x1x128_S4x64x128,
    ↓to_cat_S1x128x128_S1x128x128_S1x128x128_S1x128x128, concat_S1x128x128_S1x128x128_S1x128x128_S1x128x128_S4x128x128_d0,
    ↓to_cat_S4x16x128_S4x16x128_S4x16x128_S4x16x128, concat_S4x16x128_S4x16x128_S4x16x128_S4x16x128_S4x64x128_d1,
    ↓to_cat_S4x16x128_S4x48x128, concat_S4x16x128_S4x48x128_S4x64x128_d1, ↓to_cat_S4x32x128_S4x32x128,
    concat_S4x32x128_S4x32x128_S4x64x128_d1, ↓to_cat_S4x48x128_S4x16x128, concat_S4x48x128_S4x16x128_S4x64x128_d1,
    dotv_S4x16x128_S4x16x128_S4x16x16_2_2_1_1_0_0, dotv_S4x16x128_S4x32x128_S4x16x32_2_2_1_1_0_0,
    dotv_S4x16x128_S4x48x128_S4x16x48_2_2_1_1_0_0, dotv_S4x16x16_S4x16x128_S4x16x128_1_1_2_2_0_0,
    dotv_S4x16x16_S4x16x128_S4x16x128_2_1_1_2_0_0, dotv_S4x16x32_S4x16x128_S4x32x128_1_1_2_2_0_0,
    dotv_S4x16x32_S4x32x128_S4x16x128_2_1_1_2_0_0, dotv_S4x16x48_S4x16x128_S4x48x128_1_1_2_2_0_0,
    dotv_S4x16x48_S4x48x128_S4x16x128_2_1_1_2_0_0, dotv_S4x64x128_S4x128x128_S4x64x128_2_1_1_2_0_0,
    dotv_S4x64x128_S4x128x128_S4x64x128_2_2_1_1_0_0, dotv_S4x64x128_S4x64x128_S4x128x128_1_1_2_2_0_0,
    mask_sge_0, mask_eq_0, mask_sge_1, mask_eq_1, mask_sge_2, mask_eq_2, mask_sge_3, mask_eq_3,
    mask_sge_4, mask_eq_4, mask_sge_5, mask_eq_5, mask_sge_6, mask_eq_6, mask_sge_7, mask_eq_7,
    mask_sge_8, mask_eq_8, mask_sge_9, mask_eq_9, mask_sge_10, mask_eq_10, mask_sge_11, mask_eq_11,
    mask_sge_12, mask_eq_12, mask_sge_13, mask_eq_13, mask_sge_14, mask_eq_14, mask_sge_15,
    mask_eq_15, mask_last, reduce_S16x16x128_S16x128_1, reduce_S16x16x128_S16x16_2,
    reduce_S256x128_S128_0, reduce_S4x128x128_S4x128_1, reduce_S4x64x128_S4x128_1,
    rot_S256x128_1, rot_S256x128_2, rot_S256x128_4, rot_S256x128_8, rot_S256x128_16,
    rot_S256x128_32, rot_S256x128_224, rot_S256x128_240, rot_S256x128_248,
    rot_S256x128_252, rot_S256x128_254, rot_S256x128_255, cast_S128_S1x128,
    cast_S128x128_S1x128x128, cast_S16x128_S16x1x128, cast_S16x16_S16x16x1,
    cast_S16x16x128_S4x64x128, cast_S1x128x128_S128x128, cast_S1x1x128_S1x128,
    cast_S1x4x128x128_S4x128x128, cast_S256x128_S4x64x128, cast_S4x128_S4x1x128,
    cast_S4x64x128_S16x16x128, cast_S4x64x128_S256x128,
    slice_S16x16x128_o0_0_0_S16x1x128, slice_S16x16x128_o0_10_0_S16x1x128,
    slice_S16x16x128_o0_11_0_S16x1x128, slice_S16x16x128_o0_12_0_S16x1x128,
    slice_S16x16x128_o0_13_0_S16x1x128, slice_S16x16x128_o0_14_0_S16x1x128,
    slice_S16x16x128_o0_15_0_S16x1x128,
    slice_S16x16x128_o0_1_0_S16x1x128,
    slice_S16x16x128_o0_2_0_S16x1x128,
    slice_S16x16x128_o0_3_0_S16x1x128,
    slice_S16x16x128_o0_4_0_S16x1x128,
    slice_S16x16x128_o0_5_0_S16x1x128,
    slice_S16x16x128_o0_6_0_S16x1x128,
    slice_S16x16x128_o0_7_0_S16x1x128,
    slice_S16x16x128_o0_8_0_S16x1x128,
    slice_S16x16x128_o0_9_0_S16x1x128,
    slice_S256x384_o0_0_S256x128,
    slice_S256x384_o0_128_S256x128,
    slice_S256x384_o0_256_S256x128,
    slice_S4x128x128_o0_0_0_S1x128x128,
    slice_S4x128x128_o1_0_0_S1x128x128,
    slice_S4x128x128_o2_0_0_S1x128x128,
    slice_S4x128x128_o3_0_0_S1x128x128,
    slice_S4x1x128_o0_0_0_S1x1x128,
    slice_S4x1x128_o1_0_0_S1x1x128,
    slice_S4x1x128_o2_0_0_S1x1x128,
    slice_S4x1x128_o3_0_0_S1x1x128, slice_S4x64x128_o0_0_0_S4x16x128, slice_S4x64x128_o0_0_0_S4x32x128, slice_S4x64x128_o0_0_0_S4x48x128, slice_S4x64x128_o0_15_0_S4x1x128, slice_S4x64x128_o0_16_0_S4x16x128, slice_S4x64x128_o0_31_0_S4x1x128, slice_S4x64x128_o0_32_0_S4x16x128, slice_S4x64x128_o0_47_0_S4x1x128, slice_S4x64x128_o0_48_0_S4x16x128, slice_S4x64x128_o0_63_0_S4x1x128]
  refine V3_congr fun b hb s hs l hl => ?_
  refine congrArg (· + dkt b s l * egr b s l) ?_
  by_cases c0 : s < 16
  · rw [if_pos (show s < 16 by omega)]
    rw [if_pos (show s < 32 by omega)]
    rw [if_pos (show s < 48 by omega)]
    have e1 : (b * 4 + s / 16) / 4 = b := by omega
    have e2 : (b * 4 + s / 16) % 4 * 16 = 0 := by omega
    obtain ⟨ρ, hρ⟩ : ∃ ρ, s % 16 = ρ := ⟨_, rfl⟩
    have hlt : ρ < 16 := by omega
    have e4 : s = 0 + ρ := by omega
    simp only [e1, e2, hρ]
    subst e4
    have hp := pick16 (fun j => ∑ x ∈ Finset.range 16, (∑ y ∈ Finset.range 128, o b (0 + x) y * v b (0 + j) y) * (q b (0 + x) l * if decide (j ≤ x) =
      true then Real.exp (g b (0 + x) l - g b (0 + j) l) else 0)) ρ hlt
    have hd := dk_diag (fun r => ∑ x ∈ Finset.range 128, o b r x * v b (0 + ρ) x) (fun r => q b r l) (fun r => g b r l) 0 ρ hlt
    have h16 := dk_off (fun r => ∑ x ∈ Finset.range 128, o b r x * v b (0 + ρ) x) (fun r => q b r l) (fun r => g b r l) (g b (0 + ρ) l) (g b 15 l) 16
    have h32 := dk_off (fun r => ∑ x ∈ Finset.range 128, o b r x * v b (0 + ρ) x) (fun r => q b r l) (fun r => g b r l) (g b (0 + ρ) l) (g b 31 l) 32
    have h48 := dk_off (fun r => ∑ x ∈ Finset.range 128, o b r x * v b (0 + ρ) x) (fun r => q b r l) (fun r => g b r l) (g b (0 + ρ) l) (g b 47 l) 48
    have hc := col_split (fun r => (∑ x ∈ Finset.range 128, o b r x * v b (0 + ρ) x) * (q b r l * Real.exp (g b r l - g b (0 + ρ) l))) 0 ρ 48 rfl hlt
    have ht := tail48 (fun r => (∑ x ∈ Finset.range 128, o b r x * v b (0 + ρ) x) * (q b r l * Real.exp (g b r l - g b (0 + ρ) l)))
    beta_reduce at hp hd hc h16 h32 h48 ht
    rw [hp, hd, h16, h32, h48, hc, ht]
    ring
  by_cases c1 : s < 32
  · rw [if_neg (show ¬ s < 16 by omega)]
    rw [if_pos (show s < 32 by omega)]
    rw [if_pos (show s < 48 by omega)]
    have e1 : (b * 4 + s / 16) / 4 = b := by omega
    have e2 : (b * 4 + s / 16) % 4 * 16 = 16 := by omega
    obtain ⟨ρ, hρ⟩ : ∃ ρ, s % 16 = ρ := ⟨_, rfl⟩
    have hlt : ρ < 16 := by omega
    have e4 : s = 16 + ρ := by omega
    simp only [e1, e2, hρ]
    subst e4
    have hp := pick16 (fun j => ∑ x ∈ Finset.range 16, (∑ y ∈ Finset.range 128, o b (16 + x) y * v b (16 + j) y) * (q b (16 + x) l * if decide (j ≤
      x) = true then Real.exp (g b (16 + x) l - g b (16 + j) l) else 0)) ρ hlt
    have hd := dk_diag (fun r => ∑ x ∈ Finset.range 128, o b r x * v b (16 + ρ) x) (fun r => q b r l) (fun r => g b r l) 16 ρ hlt
    have h32 := dk_off (fun r => ∑ x ∈ Finset.range 128, o b r x * v b (16 + ρ) x) (fun r => q b r l) (fun r => g b r l) (g b (16 + ρ) l) (g b 31 l)
      32
    have h48 := dk_off (fun r => ∑ x ∈ Finset.range 128, o b r x * v b (16 + ρ) x) (fun r => q b r l) (fun r => g b r l) (g b (16 + ρ) l) (g b 47 l)
      48
    have hc := col_split (fun r => (∑ x ∈ Finset.range 128, o b r x * v b (16 + ρ) x) * (q b r l * Real.exp (g b r l - g b (16 + ρ) l))) 16 ρ 32 rfl
      hlt
    have ht := tail32 (fun r => (∑ x ∈ Finset.range 128, o b r x * v b (16 + ρ) x) * (q b r l * Real.exp (g b r l - g b (16 + ρ) l)))
    beta_reduce at hp hd hc h32 h48 ht
    rw [hp, hd, h32, h48, hc, ht]
    ring
  by_cases c2 : s < 48
  · rw [if_neg (show ¬ s < 16 by omega)]
    rw [if_neg (show ¬ s < 32 by omega)]
    rw [if_pos (show s < 48 by omega)]
    have e1 : (b * 4 + s / 16) / 4 = b := by omega
    have e2 : (b * 4 + s / 16) % 4 * 16 = 32 := by omega
    obtain ⟨ρ, hρ⟩ : ∃ ρ, s % 16 = ρ := ⟨_, rfl⟩
    have hlt : ρ < 16 := by omega
    have e4 : s = 32 + ρ := by omega
    simp only [e1, e2, hρ]
    subst e4
    have hp := pick16 (fun j => ∑ x ∈ Finset.range 16, (∑ y ∈ Finset.range 128, o b (32 + x) y * v b (32 + j) y) * (q b (32 + x) l * if decide (j ≤
      x) = true then Real.exp (g b (32 + x) l - g b (32 + j) l) else 0)) ρ hlt
    have hd := dk_diag (fun r => ∑ x ∈ Finset.range 128, o b r x * v b (32 + ρ) x) (fun r => q b r l) (fun r => g b r l) 32 ρ hlt
    have h48 := dk_off (fun r => ∑ x ∈ Finset.range 128, o b r x * v b (32 + ρ) x) (fun r => q b r l) (fun r => g b r l) (g b (32 + ρ) l) (g b 47 l)
      48
    have hc := col_split (fun r => (∑ x ∈ Finset.range 128, o b r x * v b (32 + ρ) x) * (q b r l * Real.exp (g b r l - g b (32 + ρ) l))) 32 ρ 16 rfl
      hlt
    beta_reduce at hp hd hc h48
    rw [hp, hd, h48, hc]
    ring
  rw [if_neg (show ¬ s < 16 by omega)]
  rw [if_neg (show ¬ s < 32 by omega)]
  rw [if_neg (show ¬ s < 48 by omega)]
  have e1 : (b * 4 + s / 16) / 4 = b := by omega
  have e2 : (b * 4 + s / 16) % 4 * 16 = 48 := by omega
  obtain ⟨ρ, hρ⟩ : ∃ ρ, s % 16 = ρ := ⟨_, rfl⟩
  have hlt : ρ < 16 := by omega
  have e4 : s = 48 + ρ := by omega
  simp only [e1, e2, hρ]
  subst e4
  have hp := pick16 (fun j => ∑ x ∈ Finset.range 16, (∑ y ∈ Finset.range 128, o b (48 + x) y * v b (48 + j) y) * (q b (48 + x) l * if decide (j ≤ x)
    = true then Real.exp (g b (48 + x) l - g b (48 + j) l) else 0)) ρ hlt
  have hd := dk_diag (fun r => ∑ x ∈ Finset.range 128, o b r x * v b (48 + ρ) x) (fun r => q b r l) (fun r => g b r l) 48 ρ hlt
  have hc := col_split (fun r => (∑ x ∈ Finset.range 128, o b r x * v b (48 + ρ) x) * (q b r l * Real.exp (g b r l - g b (48 + ρ) l))) 48 ρ 0 rfl hlt
  beta_reduce at hp hd hc
  rw [hp, hd, hc]
  rw [Finset.sum_range_zero]
  ring

/-- The gradient of the values of a block of four chunks: the part within the chunk and the part from the state gradient after it. -/
theorem dv_eq (q k v g o dvs : ℕ → ℕ → ℕ → ℝ) : k0_pay226 (F := Ideal) (V3 dvs : FVec Ideal S4x64x128 .f32) (k0_pay78 (F := Ideal) (V3 q : FVec Ideal
    S4x64x128 .f32) (V3 k : FVec Ideal S4x64x128 .f32) (V3 o : FVec Ideal S4x64x128 .f32) (k0_pay65 (F := Ideal) (V3 q : FVec Ideal S4x64x128 .f32)
      (V3 k : FVec Ideal S4x64x128 .f32) (V3 g : FVec Ideal S4x64x128 .f32) (V3 o : FVec Ideal S4x64x128 .f32) (k0_pay44 (F := Ideal)) (k0_pay50 (F
        := Ideal) (V3 q : FVec Ideal S4x64x128 .f32) (V3 k : FVec Ideal S4x64x128 .f32) (V3 g : FVec Ideal S4x64x128 .f32)) (k0_pay51 (F := Ideal)
          (V3 o : FVec Ideal S4x64x128 .f32))) (k0_pay67 (F := Ideal) (V3 g : FVec Ideal S4x64x128 .f32)) (k0_pay68 (F := Ideal) (V3 g : FVec Ideal
    S4x64x128 .f32)) (k0_pay69 (F := Ideal) (V3 g : FVec Ideal S4x64x128 .f32))) (iota Kind.tc S16x16x128 32 [1] iota_S16x16x128_d1_w32)
    (k0_pay83 (F := Ideal) (V3 o : FVec Ideal S4x64x128 .f32)) (k0_pay217 (F := Ideal) (k0_pay79 (F := Ideal) (V3 q : FVec Ideal S4x64x128
    .f32)) (iota Kind.tc S16x16x128 32 [1] iota_S16x16x128_d1_w32) (k0_pay83 (F := Ideal) (V3 o : FVec Ideal S4x64x128 .f32)) (k0_pay209
    (F := Ideal) (k0_pay79 (F := Ideal) (V3 q : FVec Ideal S4x64x128 .f32)) (iota Kind.tc S16x16x128 32 [1] iota_S16x16x128_d1_w32)
    (k0_pay83 (F := Ideal) (V3 o : FVec Ideal S4x64x128 .f32)) (k0_pay199 (F := Ideal) (k0_pay79 (F := Ideal) (V3 q : FVec Ideal
    S4x64x128 .f32)) (k0_pay82 (F := Ideal) (V3 g : FVec Ideal S4x64x128 .f32)) (iota Kind.tc S16x16x128 32 [1]
    iota_S16x16x128_d1_w32) (k0_pay83 (F := Ideal) (V3 o : FVec Ideal S4x64x128 .f32)) (k0_pay190 (F := Ideal) (k0_pay79 (F :=
    Ideal) (V3 q : FVec Ideal S4x64x128 .f32)) (k0_pay80 (F := Ideal) (V3 k : FVec Ideal S4x64x128 .f32)) (k0_pay82 (F :=
    Ideal) (V3 g : FVec Ideal S4x64x128 .f32)) (iota Kind.tc S16x16x128 32 [1] iota_S16x16x128_d1_w32) (k0_pay83 (F := Ideal)
    (V3 o : FVec Ideal S4x64x128 .f32)) (k0_pay183 (F := Ideal) (k0_pay79 (F := Ideal) (V3 q : FVec Ideal S4x64x128 .f32))
    (k0_pay80 (F := Ideal) (V3 k : FVec Ideal S4x64x128 .f32)) (k0_pay82 (F := Ideal) (V3 g : FVec Ideal S4x64x128 .f32))
    (iota Kind.tc S16x16x128 32 [1] iota_S16x16x128_d1_w32) (k0_pay83 (F := Ideal) (V3 o : FVec Ideal S4x64x128 .f32))
    (k0_pay168 (F := Ideal) (k0_pay159 (F := Ideal) (iota Kind.tc S16x16x128 32 [1] iota_S16x16x128_d1_w32) (k0_pay83
    (F := Ideal) (V3 o : FVec Ideal S4x64x128 .f32)) (k0_pay150 (F := Ideal) (iota Kind.tc S16x16x128 32 [1]
    iota_S16x16x128_d1_w32) (k0_pay83 (F := Ideal) (V3 o : FVec Ideal S4x64x128 .f32)) (k0_pay140 (F := Ideal)
    (iota Kind.tc S16x16x128 32 [1] iota_S16x16x128_d1_w32) (k0_pay83 (F := Ideal) (V3 o : FVec Ideal S4x64x128
    .f32)) (k0_pay130 (F := Ideal) (iota Kind.tc S16x16x128 32 [1] iota_S16x16x128_d1_w32) (k0_pay83 (F :=
    Ideal) (V3 o : FVec Ideal S4x64x128 .f32)) (k0_pay120 (F := Ideal) (iota Kind.tc S16x16x128 32 [1]
    iota_S16x16x128_d1_w32) (k0_pay83 (F := Ideal) (V3 o : FVec Ideal S4x64x128 .f32)) (k0_pay112 (F :=
    Ideal) (iota Kind.tc S16x16x128 32 [1] iota_S16x16x128_d1_w32) (k0_pay83 (F := Ideal) (V3 o : FVec
    Ideal S4x64x128 .f32)) (k0_pay104 (F := Ideal) (iota Kind.tc S16x16x128 32 [1]
    iota_S16x16x128_d1_w32) (k0_pay83 (F := Ideal) (V3 o : FVec Ideal S4x64x128 .f32)) (k0_pay95 (F
    := Ideal) (iota Kind.tc S16x16x128 32 [1] iota_S16x16x128_d1_w32) (k0_pay83 (F := Ideal) (V3
    o : FVec Ideal S4x64x128 .f32)) (k0_pay86 (F := Ideal)) (k0_pay91 (F := Ideal) (V3 q : FVec
    Ideal S4x64x128 .f32) (V3 k : FVec Ideal S4x64x128 .f32) (V3 g : FVec Ideal S4x64x128
    .f32))) (k0_pay99 (F := Ideal) (k0_pay79 (F := Ideal) (V3 q : FVec Ideal S4x64x128
    .f32)) (k0_pay80 (F := Ideal) (V3 k : FVec Ideal S4x64x128 .f32)) (k0_pay82 (F :=
    Ideal) (V3 g : FVec Ideal S4x64x128 .f32)) (iota Kind.tc S16x16x128 32 [1]
    iota_S16x16x128_d1_w32))) (k0_pay108 (F := Ideal) (k0_pay79 (F := Ideal) (V3 q :
    FVec Ideal S4x64x128 .f32)) (k0_pay80 (F := Ideal) (V3 k : FVec Ideal S4x64x128
    .f32)) (k0_pay82 (F := Ideal) (V3 g : FVec Ideal S4x64x128 .f32)) (iota
    Kind.tc S16x16x128 32 [1] iota_S16x16x128_d1_w32))) (k0_pay116 (F := Ideal)
    (k0_pay79 (F := Ideal) (V3 q : FVec Ideal S4x64x128 .f32)) (k0_pay80 (F
    := Ideal) (V3 k : FVec Ideal S4x64x128 .f32)) (k0_pay82 (F := Ideal)
    (V3 g : FVec Ideal S4x64x128 .f32)) (iota Kind.tc S16x16x128 32 [1]
    iota_S16x16x128_d1_w32))) (k0_pay124 (F := Ideal) (k0_pay79 (F :=
    Ideal) (V3 q : FVec Ideal S4x64x128 .f32)) (k0_pay80 (F := Ideal)
    (V3 k : FVec Ideal S4x64x128 .f32)) (k0_pay82 (F := Ideal) (V3
    g : FVec Ideal S4x64x128 .f32)) (iota Kind.tc S16x16x128 32
    [1] iota_S16x16x128_d1_w32))) (k0_pay134 (F := Ideal)
    (k0_pay79 (F := Ideal) (V3 q : FVec Ideal S4x64x128
    .f32)) (k0_pay80 (F := Ideal) (V3 k : FVec Ideal
    S4x64x128 .f32)) (k0_pay82 (F := Ideal) (V3 g : FVec
    Ideal S4x64x128 .f32)) (iota Kind.tc S16x16x128 32
    [1] iota_S16x16x128_d1_w32))) (k0_pay144 (F :=
    Ideal) (k0_pay79 (F := Ideal) (V3 q : FVec
    Ideal S4x64x128 .f32)) (k0_pay80 (F := Ideal)
    (V3 k : FVec Ideal S4x64x128 .f32))
    (k0_pay82 (F := Ideal) (V3 g : FVec Ideal
    S4x64x128 .f32)) (iota Kind.tc
    S16x16x128 32 [1]
    iota_S16x16x128_d1_w32)))
    (k0_pay154 (F := Ideal) (k0_pay79
    (F := Ideal) (V3 q : FVec Ideal
    S4x64x128 .f32)) (k0_pay80 (F
    := Ideal) (V3 k : FVec
    Ideal S4x64x128 .f32))
    (k0_pay82 (F := Ideal)
    (V3 g : FVec Ideal
    S4x64x128 .f32))
    (iota Kind.tc
    S16x16x128 32
    [1] iota_S16x16x128_d1_w32)) k0_pay158) (k0_pay166 (iota Kind.tc S16x16x128 32 [1] iota_S16x16x128_d1_w32)) (k0_pay167 (F := Ideal) (k0_pay79 (F := Ideal) (V3 q : FVec Ideal S4x64x128 .f32)) (k0_pay80 (F := Ideal) (V3 k : FVec Ideal S4x64x128 .f32)) (k0_pay82 (F := Ideal) (V3 g : FVec Ideal S4x64x128 .f32)) (iota Kind.tc S16x16x128 32 [1] iota_S16x16x128_d1_w32) (k0_pay83 (F := Ideal) (V3 o : FVec Ideal S4x64x128 .f32)))) (k0_pay175 (iota Kind.tc S16x16x128 32 [1] iota_S16x16x128_d1_w32)) (FloatOps.ofBits FTy.f32 0#32) (k0_pay176 (F := Ideal) (k0_pay79 (F := Ideal) (V3 q : FVec Ideal S4x64x128 .f32)) (k0_pay80 (F := Ideal) (V3 k : FVec Ideal S4x64x128 .f32)) (k0_pay82 (F := Ideal) (V3 g : FVec Ideal S4x64x128 .f32)) (iota Kind.tc S16x16x128 32 [1] iota_S16x16x128_d1_w32) (k0_pay83 (F := Ideal) (V3 o : FVec Ideal S4x64x128 .f32))))) (k0_pay191 (F := Ideal) (k0_pay82 (F := Ideal) (V3 g : FVec Ideal S4x64x128 .f32))) (k0_pay192 (F := Ideal) (k0_pay80 (F := Ideal) (V3 k : FVec Ideal S4x64x128 .f32))) 12#32) (k0_pay200 (F := Ideal) (k0_pay80 (F := Ideal) (V3 k : FVec Ideal S4x64x128 .f32))) (k0_pay202 (iota Kind.tc S16x16x128 32 [1] iota_S16x16x128_d1_w32)) (k0_pay203 (F := Ideal) (k0_pay82 (F := Ideal) (V3 g : FVec Ideal S4x64x128 .f32)))) (k0_pay210 (F := Ideal) (k0_pay80 (F := Ideal) (V3 k : FVec Ideal S4x64x128 .f32))) (k0_pay212 (F := Ideal) (k0_pay82 (F := Ideal) (V3 g : FVec Ideal S4x64x128 .f32)) (iota Kind.tc S16x16x128 32 [1] iota_S16x16x128_d1_w32))) (k0_pay222 (F := Ideal) (k0_pay79 (F := Ideal) (V3 q : FVec Ideal S4x64x128 .f32)) (k0_pay80 (F := Ideal) (V3 k : FVec Ideal S4x64x128 .f32)) (k0_pay82 (F := Ideal) (V3 g : FVec Ideal S4x64x128 .f32)) (iota Kind.tc S16x16x128 32 [1] iota_S16x16x128_d1_w32)) = (V3 (fun b s l => (∑ r ∈ Finset.range 64, if s ≤ r then (∑ y ∈ Finset.range 128, q b r y * Real.exp (g b r y - g b s y) * k b s y) * o b r l else 0) + dvs b s l) : FVec Ideal S4x64x128 .f32) := by
  simp only [k0_pay44, k0_pay45, k0_pay46, k0_pay47, k0_pay48, k0_pay49, k0_pay50, k0_pay51, k0_pay54, k0_pay55, k0_pay56, k0_pay57, k0_pay58,
    k0_pay59, k0_pay60, k0_pay63, k0_pay65, k0_pay66, k0_pay67, k0_pay68, k0_pay69, k0_pay70, k0_pay71, k0_pay72, k0_pay73, k0_pay76, k0_pay78,
      k0_pay79, k0_pay80, k0_pay82, k0_pay83, k0_pay86, k0_pay87, k0_pay89, k0_pay90, k0_pay91, k0_pay95, k0_pay96, k0_pay97, k0_pay98, k0_pay99,
        k0_pay104, k0_pay105, k0_pay106, k0_pay107, k0_pay108, k0_pay112, k0_pay113, k0_pay114, k0_pay115, k0_pay116, k0_pay120, k0_pay121,
          k0_pay122, k0_pay123, k0_pay124, k0_pay130, k0_pay131, k0_pay132, k0_pay133, k0_pay134, k0_pay140, k0_pay141, k0_pay142, k0_pay143,
    k0_pay144, k0_pay150, k0_pay151, k0_pay152, k0_pay153, k0_pay154, k0_pay158, k0_pay159, k0_pay160, k0_pay161, k0_pay162, k0_pay166,
    k0_pay167, k0_pay168, k0_pay169, k0_pay170, k0_pay171, k0_pay175, k0_pay176, k0_pay177, k0_pay178, k0_pay179, k0_pay183, k0_pay184,
    k0_pay185, k0_pay186, k0_pay190, k0_pay191, k0_pay192, k0_pay194, k0_pay195, k0_pay199, k0_pay200, k0_pay202, k0_pay203, k0_pay204,
    k0_pay205, k0_pay209, k0_pay210, k0_pay212, k0_pay213, k0_pay217, k0_pay218, k0_pay220, k0_pay221, k0_pay222, k0_pay226, mulf_V2,
    addf_V2, subf_V2, exp_V2, truncf_V2, extf_V2, broadcast_zero_V2, constant_zero_V2, broadcast_one_V2, select_V2, mulf_V3, addf_V3,
    subf_V3, exp_V3, truncf_V3, extf_V3, broadcast_zero_V3, constant_zero_V3, broadcast_one_V3, select_V3, multiReductionOpen,
    shapeCast_self, bcast_S16x16x1_S16x16x128, bcast_S16x1x128_S16x16x128, bcast_S1x128_S128x128, bcast_S1x128_S256x128,
    bcast_S4x1x128_S4x16x128, bcast_S4x1x128_S4x32x128, bcast_S4x1x128_S4x48x128, bcast_S4x1x128_S4x64x128,
    ↓to_cat_S1x128x128_S1x128x128_S1x128x128_S1x128x128, concat_S1x128x128_S1x128x128_S1x128x128_S1x128x128_S4x128x128_d0,
    ↓to_cat_S4x16x128_S4x16x128_S4x16x128_S4x16x128, concat_S4x16x128_S4x16x128_S4x16x128_S4x16x128_S4x64x128_d1,
    ↓to_cat_S4x16x128_S4x48x128, concat_S4x16x128_S4x48x128_S4x64x128_d1, ↓to_cat_S4x32x128_S4x32x128,
    concat_S4x32x128_S4x32x128_S4x64x128_d1, ↓to_cat_S4x48x128_S4x16x128, concat_S4x48x128_S4x16x128_S4x64x128_d1,
    dotv_S4x16x128_S4x16x128_S4x16x16_2_2_1_1_0_0, dotv_S4x16x128_S4x32x128_S4x16x32_2_2_1_1_0_0,
    dotv_S4x16x128_S4x48x128_S4x16x48_2_2_1_1_0_0, dotv_S4x16x16_S4x16x128_S4x16x128_1_1_2_2_0_0,
    dotv_S4x16x16_S4x16x128_S4x16x128_2_1_1_2_0_0, dotv_S4x16x32_S4x16x128_S4x32x128_1_1_2_2_0_0,
    dotv_S4x16x32_S4x32x128_S4x16x128_2_1_1_2_0_0, dotv_S4x16x48_S4x16x128_S4x48x128_1_1_2_2_0_0,
    dotv_S4x16x48_S4x48x128_S4x16x128_2_1_1_2_0_0, dotv_S4x64x128_S4x128x128_S4x64x128_2_1_1_2_0_0,
    dotv_S4x64x128_S4x128x128_S4x64x128_2_2_1_1_0_0, dotv_S4x64x128_S4x64x128_S4x128x128_1_1_2_2_0_0,
    mask_sge_0, mask_eq_0, mask_sge_1, mask_eq_1, mask_sge_2, mask_eq_2, mask_sge_3, mask_eq_3,
    mask_sge_4, mask_eq_4, mask_sge_5, mask_eq_5, mask_sge_6, mask_eq_6, mask_sge_7, mask_eq_7,
    mask_sge_8, mask_eq_8, mask_sge_9, mask_eq_9, mask_sge_10, mask_eq_10, mask_sge_11, mask_eq_11,
    mask_sge_12, mask_eq_12, mask_sge_13, mask_eq_13, mask_sge_14, mask_eq_14, mask_sge_15,
    mask_eq_15, mask_last, reduce_S16x16x128_S16x128_1, reduce_S16x16x128_S16x16_2,
    reduce_S256x128_S128_0, reduce_S4x128x128_S4x128_1, reduce_S4x64x128_S4x128_1,
    rot_S256x128_1, rot_S256x128_2, rot_S256x128_4, rot_S256x128_8, rot_S256x128_16,
    rot_S256x128_32, rot_S256x128_224, rot_S256x128_240, rot_S256x128_248,
    rot_S256x128_252, rot_S256x128_254, rot_S256x128_255, cast_S128_S1x128,
    cast_S128x128_S1x128x128, cast_S16x128_S16x1x128, cast_S16x16_S16x16x1,
    cast_S16x16x128_S4x64x128, cast_S1x128x128_S128x128, cast_S1x1x128_S1x128,
    cast_S1x4x128x128_S4x128x128, cast_S256x128_S4x64x128, cast_S4x128_S4x1x128,
    cast_S4x64x128_S16x16x128, cast_S4x64x128_S256x128,
    slice_S16x16x128_o0_0_0_S16x1x128, slice_S16x16x128_o0_10_0_S16x1x128,
    slice_S16x16x128_o0_11_0_S16x1x128, slice_S16x16x128_o0_12_0_S16x1x128,
    slice_S16x16x128_o0_13_0_S16x1x128, slice_S16x16x128_o0_14_0_S16x1x128,
    slice_S16x16x128_o0_15_0_S16x1x128,
    slice_S16x16x128_o0_1_0_S16x1x128,
    slice_S16x16x128_o0_2_0_S16x1x128,
    slice_S16x16x128_o0_3_0_S16x1x128,
    slice_S16x16x128_o0_4_0_S16x1x128,
    slice_S16x16x128_o0_5_0_S16x1x128,
    slice_S16x16x128_o0_6_0_S16x1x128,
    slice_S16x16x128_o0_7_0_S16x1x128,
    slice_S16x16x128_o0_8_0_S16x1x128,
    slice_S16x16x128_o0_9_0_S16x1x128,
    slice_S256x384_o0_0_S256x128,
    slice_S256x384_o0_128_S256x128,
    slice_S256x384_o0_256_S256x128,
    slice_S4x128x128_o0_0_0_S1x128x128,
    slice_S4x128x128_o1_0_0_S1x128x128,
    slice_S4x128x128_o2_0_0_S1x128x128,
    slice_S4x128x128_o3_0_0_S1x128x128,
    slice_S4x1x128_o0_0_0_S1x1x128,
    slice_S4x1x128_o1_0_0_S1x1x128,
    slice_S4x1x128_o2_0_0_S1x1x128,
    slice_S4x1x128_o3_0_0_S1x1x128, slice_S4x64x128_o0_0_0_S4x16x128, slice_S4x64x128_o0_0_0_S4x32x128, slice_S4x64x128_o0_0_0_S4x48x128, slice_S4x64x128_o0_15_0_S4x1x128, slice_S4x64x128_o0_16_0_S4x16x128, slice_S4x64x128_o0_31_0_S4x1x128, slice_S4x64x128_o0_32_0_S4x16x128, slice_S4x64x128_o0_47_0_S4x1x128, slice_S4x64x128_o0_48_0_S4x16x128, slice_S4x64x128_o0_63_0_S4x1x128]
  refine V3_congr fun b hb s hs l hl => ?_
  refine congrArg (· + dvs b s l) ?_
  by_cases c0 : s < 16
  · rw [if_pos (show s < 16 by omega)]
    rw [if_pos (show s < 32 by omega)]
    rw [if_pos (show s < 48 by omega)]
    have e1 : (b * 4 + s / 16) / 4 = b := by omega
    have e2 : (b * 4 + s / 16) % 4 * 16 = 0 := by omega
    obtain ⟨ρ, hρ⟩ : ∃ ρ, s % 16 = ρ := ⟨_, rfl⟩
    have hlt : ρ < 16 := by omega
    have e4 : s = 0 + ρ := by omega
    simp only [e1, e2, hρ]
    subst e4
    have hp := pick16 (fun j => ∑ x ∈ Finset.range 16, (∑ y ∈ Finset.range 128, (q b (0 + x) y * if decide (j ≤ x) = true then Real.exp (g b (0 + x)
      y - g b (0 + j) y) else 0) * k b (0 + j) y) * o b (0 + x) l) ρ hlt
    have hd := dv_diag (fun r y => q b r y) (fun r y => g b r y) (fun y => k b (0 + ρ) y) (fun y => g b (0 + ρ) y) (fun r => o b r l) 0 ρ
    have h16 := dv_off (fun r y => q b r y) (fun r y => g b r y) (fun y => k b (0 + ρ) y) (fun y => g b (0 + ρ) y) (fun y => g b 15 y) (fun r => o b
      r l) 16
    have h32 := dv_off (fun r y => q b r y) (fun r y => g b r y) (fun y => k b (0 + ρ) y) (fun y => g b (0 + ρ) y) (fun y => g b 31 y) (fun r => o b
      r l) 32
    have h48 := dv_off (fun r y => q b r y) (fun r y => g b r y) (fun y => k b (0 + ρ) y) (fun y => g b (0 + ρ) y) (fun y => g b 47 y) (fun r => o b
      r l) 48
    have hc := col_split (fun r => (∑ y ∈ Finset.range 128, q b r y * Real.exp (g b r y - g b (0 + ρ) y) * k b (0 + ρ) y) * o b r l) 0 ρ 48 rfl hlt
    have ht := tail48 (fun r => (∑ y ∈ Finset.range 128, q b r y * Real.exp (g b r y - g b (0 + ρ) y) * k b (0 + ρ) y) * o b r l)
    beta_reduce at hp hd hc h16 h32 h48 ht
    rw [hp, hd, h16, h32, h48, hc, ht]
    ring
  by_cases c1 : s < 32
  · rw [if_neg (show ¬ s < 16 by omega)]
    rw [if_pos (show s < 32 by omega)]
    rw [if_pos (show s < 48 by omega)]
    have e1 : (b * 4 + s / 16) / 4 = b := by omega
    have e2 : (b * 4 + s / 16) % 4 * 16 = 16 := by omega
    obtain ⟨ρ, hρ⟩ : ∃ ρ, s % 16 = ρ := ⟨_, rfl⟩
    have hlt : ρ < 16 := by omega
    have e4 : s = 16 + ρ := by omega
    simp only [e1, e2, hρ]
    subst e4
    have hp := pick16 (fun j => ∑ x ∈ Finset.range 16, (∑ y ∈ Finset.range 128, (q b (16 + x) y * if decide (j ≤ x) = true then Real.exp (g b (16 +
      x) y - g b (16 + j) y) else 0) * k b (16 + j) y) * o b (16 + x) l) ρ hlt
    have hd := dv_diag (fun r y => q b r y) (fun r y => g b r y) (fun y => k b (16 + ρ) y) (fun y => g b (16 + ρ) y) (fun r => o b r l) 16 ρ
    have h32 := dv_off (fun r y => q b r y) (fun r y => g b r y) (fun y => k b (16 + ρ) y) (fun y => g b (16 + ρ) y) (fun y => g b 31 y) (fun r => o
      b r l) 32
    have h48 := dv_off (fun r y => q b r y) (fun r y => g b r y) (fun y => k b (16 + ρ) y) (fun y => g b (16 + ρ) y) (fun y => g b 47 y) (fun r => o
      b r l) 48
    have hc := col_split (fun r => (∑ y ∈ Finset.range 128, q b r y * Real.exp (g b r y - g b (16 + ρ) y) * k b (16 + ρ) y) * o b r l) 16 ρ 32 rfl hlt
    have ht := tail32 (fun r => (∑ y ∈ Finset.range 128, q b r y * Real.exp (g b r y - g b (16 + ρ) y) * k b (16 + ρ) y) * o b r l)
    beta_reduce at hp hd hc h32 h48 ht
    rw [hp, hd, h32, h48, hc, ht]
    ring
  by_cases c2 : s < 48
  · rw [if_neg (show ¬ s < 16 by omega)]
    rw [if_neg (show ¬ s < 32 by omega)]
    rw [if_pos (show s < 48 by omega)]
    have e1 : (b * 4 + s / 16) / 4 = b := by omega
    have e2 : (b * 4 + s / 16) % 4 * 16 = 32 := by omega
    obtain ⟨ρ, hρ⟩ : ∃ ρ, s % 16 = ρ := ⟨_, rfl⟩
    have hlt : ρ < 16 := by omega
    have e4 : s = 32 + ρ := by omega
    simp only [e1, e2, hρ]
    subst e4
    have hp := pick16 (fun j => ∑ x ∈ Finset.range 16, (∑ y ∈ Finset.range 128, (q b (32 + x) y * if decide (j ≤ x) = true then Real.exp (g b (32 +
      x) y - g b (32 + j) y) else 0) * k b (32 + j) y) * o b (32 + x) l) ρ hlt
    have hd := dv_diag (fun r y => q b r y) (fun r y => g b r y) (fun y => k b (32 + ρ) y) (fun y => g b (32 + ρ) y) (fun r => o b r l) 32 ρ
    have h48 := dv_off (fun r y => q b r y) (fun r y => g b r y) (fun y => k b (32 + ρ) y) (fun y => g b (32 + ρ) y) (fun y => g b 47 y) (fun r => o
      b r l) 48
    have hc := col_split (fun r => (∑ y ∈ Finset.range 128, q b r y * Real.exp (g b r y - g b (32 + ρ) y) * k b (32 + ρ) y) * o b r l) 32 ρ 16 rfl hlt
    beta_reduce at hp hd hc h48
    rw [hp, hd, h48, hc]
    ring
  rw [if_neg (show ¬ s < 16 by omega)]
  rw [if_neg (show ¬ s < 32 by omega)]
  rw [if_neg (show ¬ s < 48 by omega)]
  have e1 : (b * 4 + s / 16) / 4 = b := by omega
  have e2 : (b * 4 + s / 16) % 4 * 16 = 48 := by omega
  obtain ⟨ρ, hρ⟩ : ∃ ρ, s % 16 = ρ := ⟨_, rfl⟩
  have hlt : ρ < 16 := by omega
  have e4 : s = 48 + ρ := by omega
  simp only [e1, e2, hρ]
  subst e4
  have hp := pick16 (fun j => ∑ x ∈ Finset.range 16, (∑ y ∈ Finset.range 128, (q b (48 + x) y * if decide (j ≤ x) = true then Real.exp (g b (48 + x)
    y - g b (48 + j) y) else 0) * k b (48 + j) y) * o b (48 + x) l) ρ hlt
  have hd := dv_diag (fun r y => q b r y) (fun r y => g b r y) (fun y => k b (48 + ρ) y) (fun y => g b (48 + ρ) y) (fun r => o b r l) 48 ρ
  have hc := col_split (fun r => (∑ y ∈ Finset.range 128, q b r y * Real.exp (g b r y - g b (48 + ρ) y) * k b (48 + ρ) y) * o b r l) 48 ρ 0 rfl hlt
  beta_reduce at hp hd hc
  rw [hp, hd, hc]
  rw [Finset.sum_range_zero]
  ring

end Cert.Hgrn.Bwd
-- ==== Proof.OutB.lean ====
module

public import proofs.«01_k».proof.Proof.BlockB
public import proofs.«01_k».proof.Proof.IntraB
public import Idealize.ShloMosaic.Lib.Pipeline.ValueKit
public import Idealize.ShloMosaic.Lib.Pointwise

@[expose] public section

set_option maxRecDepth 16384

noncomputable section

namespace Cert.Hgrn

/-! The four results of one block, from its columns `p`, the lower bounds `lb`, the states `st` before its four chunks, the cotangent `o` of its
output and the cotangent `D` of the state after it. -/

section
variable (lb : ℕ → ℝ) (p : ℕ → ℕ → ℝ) (st : ℕ → ℕ → ℕ → ℝ) (o D : ℕ → ℕ → ℝ)

/-- The gradient of the query. -/
def blkq : ℕ → ℕ → ℕ → ℝ := dq3 (kv lb p) (vv p) (gcum (lfv lb p)) o st
/-- The cotangent of the state after each chunk. -/
def blks : ℕ → ℕ → ℕ → ℝ := dsp (qv p) (gcum (lfv lb p)) o D
/-- The gradient of the key. -/
def blkk : ℕ → ℕ → ℕ → ℝ := dk3 (qv p) (vv p) (gcum (lfv lb p)) o (blks lb p o D)
/-- The gradient of the value. -/
def blkv : ℕ → ℕ → ℕ → ℝ := dv3 (qv p) (kv lb p) (gcum (lfv lb p)) o (blks lb p o D)
/-- The gradient of the running sum of the decay. -/
def blkg : ℕ → ℕ → ℕ → ℝ := dg3 (kv lb p) (dgl (kv lb p) (vv p) (gcum (lfv lb p)) st (blks lb p o D))
  (fun b r l => qv p (b * 64 + r) l * blkq lb p st o b r l) (blkk lb p o D)
/-- The gradient of the forget gate. -/
def blkf : ℕ → ℕ → ℝ := dfv (fv lb p) (blkg lb p st o D) (blkk lb p o D)
/-- The gradient of the block's columns. -/
def blkp (t c : ℕ) : ℝ := if c < 128 then blkq lb p st o (t / 64) (t % 64) c * dqv p t c
  else if c < 256 then blkf lb p st o D t (c - 128) * (1 - lb (c - 128)) * sgm (p t (128 + (c - 128))) * (1 - sgm (p t (128 + (c - 128))))
  else blkv lb p o D (t / 64) (t % 64) (c - 256)
/-- What the block adds to the gradient of the lower bounds. -/
def blkl (l : ℕ) : ℝ := ∑ t ∈ Finset.range 256, blkf lb p st o D t l * (1 - sgm (p t (128 + l)))
/-- Zeros, two coordinates. -/
def zero2 (_ _ : ℕ) : ℝ := 0
/-- Zeros, one coordinate. -/
def zero1 (_ : ℕ) : ℝ := 0
/-- The cotangent of the state before the block. -/
def blkd : ℕ → ℕ → ℝ := dsn (qv p) (gcum (lfv lb p)) o D 4

end
end Cert.Hgrn

namespace Cert.Hgrn.Bwd
open Cert.KernelIdeal Cert.KernelIdeal.Gen Idealize.ShloMosaic Idealize.ShloMosaic.TcCoe Idealize.SL.Sem Cert.Hgrn

variable (lb : ℕ → ℝ) (p : ℕ → ℕ → ℝ)

theorem bq : k0_pay16 (F := Ideal) (k0_pay9 (F := Ideal) (V2 p : FVec Ideal S256x384 .bf16)) = (V2 (qv p) : FVec Ideal S256x128 .f32) := by
  rw [b9, b16]; rfl
theorem bk : k0_pay17 (F := Ideal) (V2 (fv lb p) : FVec Ideal S256x128 .f32) = (V2 (kv lb p) : FVec Ideal S256x128 .f32) := by
  rw [b17]; rfl
theorem bg : k0_pay15 (F := Ideal) (k0_pay13 (F := Ideal) (V2 (fun _ l => lb l) : FVec Ideal S1x128 .f32) (V2 p : FVec Ideal S256x384 .bf16)) k0_pay14 = (V2 (gcum (lfv lb p)) : FVec Ideal S256x128 .f32) := by
  rw [b13, b15]
theorem bdq : k0_pay18 (F := Ideal) (k0_pay10 (F := Ideal) (V2 p : FVec Ideal S256x384 .bf16)) = (V2 (dqv p) : FVec Ideal S256x128 .f32) := by
  rw [b10, b18]; rfl

/-- The cotangent of the state that a block passes on. -/
theorem sout_B (st : ℕ → ℕ → ℕ → ℝ) (o D : ℕ → ℕ → ℝ) (x : ℕ → ℝ)
    (c : Dev nD) (i : grid0.Coords) (arg2 : Memref sig .tc .vmem S256x384 .bf16) (harg2 : arg2.IsWhole) (arg3 : Memref sig .tc .vmem S1x128 .f32) (harg3 : arg3.IsWhole) (arg4 : Memref sig .tc .vmem S1x4x128x128 .f32) (harg4 : arg4.IsWhole) (arg5 : Memref sig .tc .vmem S256x128 .f32) (harg5 : arg5.IsWhole) (arg7 : Memref sig .tc .vmem S256x384 .bf16) (harg7 : arg7.IsWhole) (arg8 : Memref sig .tc .vmem S1x128 .f32) (harg8 : arg8.IsWhole) (arg9 : Memref sig .tc .vmem S128x128 .f32) (harg9 : arg9.IsWhole) (hc0 : ¬cond0_0 i) :
    sout0_B_0 (F := Ideal) c i arg2 harg2 arg3 harg3 arg4 harg4 arg5 harg5 arg7 harg7 arg8 harg8 arg9 harg9 hc0 (V2 p : FVec Ideal S256x384 .bf16) (V2 (fun _ l => lb l) : FVec Ideal S1x128 .f32) (V4 (fun _ b x y => st b x y) : FVec Ideal S1x4x128x128 .f32) (V2 o : FVec Ideal S256x128 .f32) (V2 (fun _ l => x l) : FVec Ideal S1x128 .f32) (V2 D : FVec Ideal S128x128 .f32)
      = (V2 (blkd lb p o D) : FVec Ideal S128x128 .f32) := by
  frame_out
  simp only [bq, bg]
  rw [b35, b36]
  rfl

/-- The gradient of the lower bounds once a block has been added. -/
theorem out5_B (st : ℕ → ℕ → ℕ → ℝ) (o D : ℕ → ℕ → ℝ) (x : ℕ → ℝ)
    (c : Dev nD) (i : grid0.Coords) (arg2 : Memref sig .tc .vmem S256x384 .bf16) (harg2 : arg2.IsWhole) (arg3 : Memref sig .tc .vmem S1x128 .f32) (harg3 : arg3.IsWhole) (arg4 : Memref sig .tc .vmem S1x4x128x128 .f32) (harg4 : arg4.IsWhole) (arg5 : Memref sig .tc .vmem S256x128 .f32) (harg5 : arg5.IsWhole) (arg7 : Memref sig .tc .vmem S256x384 .bf16) (harg7 : arg7.IsWhole) (arg8 : Memref sig .tc .vmem S1x128 .f32) (harg8 : arg8.IsWhole) (arg9 : Memref sig .tc .vmem S128x128 .f32) (harg9 : arg9.IsWhole) (hc0 : ¬cond0_0 i) :
    out0_B_5 (F := Ideal) c i arg2 harg2 arg3 harg3 arg4 harg4 arg5 harg5 arg7 harg7 arg8 harg8 arg9 harg9 hc0 (V2 p : FVec Ideal S256x384 .bf16) (V2 (fun _ l => lb l) : FVec Ideal S1x128 .f32) (V4 (fun _ b x y => st b x y) : FVec Ideal S1x4x128x128 .f32) (V2 o : FVec Ideal S256x128 .f32) (V2 (fun _ l => x l) : FVec Ideal S1x128 .f32) (V2 D : FVec Ideal S128x128 .f32)
      = (V2 (fun _ l => x l + blkl lb p st o D l) : FVec Ideal S1x128 .f32) := by
  frame_out
  simp only [bq, bk, bg, b7, b12, b11, b19, b20, b21, b22, b23, b24, b26, b27, b28, b29, b30, b32, b33, b34, b35, b39, b40, b41, b42]
  simp only [k0_pay227]
  rw [dk_eq _ (fun _ _ _ => 0), dq_eq (fun _ _ _ => 0)]
  simp only [mulf_V3]
  unfold blkl blkf blkg blkk blkq blks dq3 dk3
  exact dlb_eq _ _ _ _ _ _ (df_eq _ _ _ _ _)

/-- The gradient of a block's columns. -/
theorem out4_B (st : ℕ → ℕ → ℕ → ℝ) (o D : ℕ → ℕ → ℝ) (x : ℕ → ℝ)
    (c : Dev nD) (i : grid0.Coords) (arg2 : Memref sig .tc .vmem S256x384 .bf16) (harg2 : arg2.IsWhole) (arg3 : Memref sig .tc .vmem S1x128 .f32) (harg3 : arg3.IsWhole) (arg4 : Memref sig .tc .vmem S1x4x128x128 .f32) (harg4 : arg4.IsWhole) (arg5 : Memref sig .tc .vmem S256x128 .f32) (harg5 : arg5.IsWhole) (arg7 : Memref sig .tc .vmem S256x384 .bf16) (harg7 : arg7.IsWhole) (arg8 : Memref sig .tc .vmem S1x128 .f32) (harg8 : arg8.IsWhole) (arg9 : Memref sig .tc .vmem S128x128 .f32) (harg9 : arg9.IsWhole) (hc0 : ¬cond0_0 i) :
    out0_B_4 (F := Ideal) c i arg2 harg2 arg3 harg3 arg4 harg4 arg5 harg5 arg7 harg7 arg8 harg8 arg9 harg9 hc0 (V2 p : FVec Ideal S256x384 .bf16) (V2 (fun _ l => lb l) : FVec Ideal S1x128 .f32) (V4 (fun _ b x y => st b x y) : FVec Ideal S1x4x128x128 .f32) (V2 o : FVec Ideal S256x128 .f32) (V2 (fun _ l => x l) : FVec Ideal S1x128 .f32) (V2 D : FVec Ideal S128x128 .f32)
      = (V2 (blkp lb p st o D) : FVec Ideal S256x384 .bf16) := by
  frame_out
  funext y
  canon_tiles i h
  · simp only [bq, bk, bg, b7, b12, b11, b19, b20, b21, b22, b23, b24, b26, b27, b28, b29, b30, b32, b33, b34, b35, b39, b40, b41, b42]
    rw [dv_eq _ _ (fun _ _ _ => 0), b2]
    show ((_ : ℝ) : EReal) = ((blkp lb p st o D (y 0).val (y 1).val : ℝ) : EReal)
    rw [h0, h1, blkp, if_neg (by omega), if_neg (by omega), Nat.add_sub_cancel_left]
    rfl
  · simp only [bq, bk, bg, b7, b12, b11, b19, b20, b21, b22, b23, b24, b26, b27, b28, b29, b30, b32, b33, b34, b35, b39, b40, b41, b42]
    simp only [k0_pay227]
    rw [dk_eq _ (fun _ _ _ => 0), dq_eq (fun _ _ _ => 0)]
    simp only [mulf_V3]
    rw [df_eq, b232, b1]
    show ((_ : ℝ) : EReal) = ((blkp lb p st o D (y 0).val (y 1).val : ℝ) : EReal)
    rw [h0, h1, blkp, if_neg (by omega), if_pos (by omega), Nat.add_sub_cancel_left]
    unfold blkf blkg blkk blkq blks dq3 dk3
    rfl
  · simp only [bq, bk, bg, b7, b12, b11, b19, b20, b21, b22, b23, b24, b26, b27, b28, b29, b30, b32, b33, b34, b35, b39, b40, b41, b42]
    rw [dq_eq (fun _ _ _ => 0), bdq, b231]
    show ((_ : ℝ) : EReal) = ((blkp lb p st o D (y 0).val (y 1).val : ℝ) : EReal)
    rw [h0, h1, blkp, if_pos (by omega)]
    rfl

theorem pays3 : k0_pay3 (F := Ideal) = (V2 zero2 : FVec Ideal S128x128 .f32) := by
  simp only [k0_pay3, broadcast_zero_V2, shapeCast_self]
  rfl
theorem pays4 : k0_pay4 (F := Ideal) = (V2 (fun _ l => zero1 l) : FVec Ideal S1x128 .f32) := by
  simp only [k0_pay4, broadcast_zero_V2]
  rfl

/-- The cotangent of the state that a block passes on. -/
theorem sout_A (st : ℕ → ℕ → ℕ → ℝ) (o : ℕ → ℕ → ℝ)
    (c : Dev nD) (i : grid0.Coords) (arg2 : Memref sig .tc .vmem S256x384 .bf16) (harg2 : arg2.IsWhole) (arg3 : Memref sig .tc .vmem S1x128 .f32) (harg3 : arg3.IsWhole) (arg4 : Memref sig .tc .vmem S1x4x128x128 .f32) (harg4 : arg4.IsWhole) (arg5 : Memref sig .tc .vmem S256x128 .f32) (harg5 : arg5.IsWhole) (arg7 : Memref sig .tc .vmem S256x384 .bf16) (harg7 : arg7.IsWhole) (arg8 : Memref sig .tc .vmem S1x128 .f32) (harg8 : arg8.IsWhole) (arg9 : Memref sig .tc .vmem S128x128 .f32) (harg9 : arg9.IsWhole) (hc0 : cond0_0 i) :
    sout0_A_0 (F := Ideal) c i arg2 harg2 arg3 harg3 arg4 harg4 arg5 harg5 arg7 harg7 arg8 harg8 arg9 harg9 hc0 (V2 p : FVec Ideal S256x384 .bf16) (V2 (fun _ l => lb l) : FVec Ideal S1x128 .f32) (V4 (fun _ b x y => st b x y) : FVec Ideal S1x4x128x128 .f32) (V2 o : FVec Ideal S256x128 .f32)
      = (V2 (blkd lb p o zero2) : FVec Ideal S128x128 .f32) := by
  frame_out
  simp only [pays3, pays4, bq, bg]
  rw [b35, b36]
  rfl

/-- The gradient of the lower bounds once a block has been added. -/
theorem out5_A (st : ℕ → ℕ → ℕ → ℝ) (o : ℕ → ℕ → ℝ)
    (c : Dev nD) (i : grid0.Coords) (arg2 : Memref sig .tc .vmem S256x384 .bf16) (harg2 : arg2.IsWhole) (arg3 : Memref sig .tc .vmem S1x128 .f32) (harg3 : arg3.IsWhole) (arg4 : Memref sig .tc .vmem S1x4x128x128 .f32) (harg4 : arg4.IsWhole) (arg5 : Memref sig .tc .vmem S256x128 .f32) (harg5 : arg5.IsWhole) (arg7 : Memref sig .tc .vmem S256x384 .bf16) (harg7 : arg7.IsWhole) (arg8 : Memref sig .tc .vmem S1x128 .f32) (harg8 : arg8.IsWhole) (arg9 : Memref sig .tc .vmem S128x128 .f32) (harg9 : arg9.IsWhole) (hc0 : cond0_0 i) :
    out0_A_5 (F := Ideal) c i arg2 harg2 arg3 harg3 arg4 harg4 arg5 harg5 arg7 harg7 arg8 harg8 arg9 harg9 hc0 (V2 p : FVec Ideal S256x384 .bf16) (V2 (fun _ l => lb l) : FVec Ideal S1x128 .f32) (V4 (fun _ b x y => st b x y) : FVec Ideal S1x4x128x128 .f32) (V2 o : FVec Ideal S256x128 .f32)
      = (V2 (fun _ l => zero1 l + blkl lb p st o zero2 l) : FVec Ideal S1x128 .f32) := by
  frame_out
  simp only [pays3, pays4, bq, bk, bg, b7, b12, b11, b19, b20, b21, b22, b23, b24, b26, b27, b28, b29, b30, b32, b33, b34, b35, b39, b40, b41, b42]
  simp only [k0_pay227]
  rw [dk_eq _ (fun _ _ _ => 0), dq_eq (fun _ _ _ => 0)]
  simp only [mulf_V3]
  generalize zero2 = D
  unfold blkl blkf blkg blkk blkq blks dq3 dk3
  exact dlb_eq _ _ _ _ _ _ (df_eq _ _ _ _ _)

/-- The gradient of a block's columns. -/
theorem out4_A (st : ℕ → ℕ → ℕ → ℝ) (o : ℕ → ℕ → ℝ)
    (c : Dev nD) (i : grid0.Coords) (arg2 : Memref sig .tc .vmem S256x384 .bf16) (harg2 : arg2.IsWhole) (arg3 : Memref sig .tc .vmem S1x128 .f32) (harg3 : arg3.IsWhole) (arg4 : Memref sig .tc .vmem S1x4x128x128 .f32) (harg4 : arg4.IsWhole) (arg5 : Memref sig .tc .vmem S256x128 .f32) (harg5 : arg5.IsWhole) (arg7 : Memref sig .tc .vmem S256x384 .bf16) (harg7 : arg7.IsWhole) (arg8 : Memref sig .tc .vmem S1x128 .f32) (harg8 : arg8.IsWhole) (arg9 : Memref sig .tc .vmem S128x128 .f32) (harg9 : arg9.IsWhole) (hc0 : cond0_0 i) :
    out0_A_4 (F := Ideal) c i arg2 harg2 arg3 harg3 arg4 harg4 arg5 harg5 arg7 harg7 arg8 harg8 arg9 harg9 hc0 (V2 p : FVec Ideal S256x384 .bf16) (V2 (fun _ l => lb l) : FVec Ideal S1x128 .f32) (V4 (fun _ b x y => st b x y) : FVec Ideal S1x4x128x128 .f32) (V2 o : FVec Ideal S256x128 .f32)
      = (V2 (blkp lb p st o zero2) : FVec Ideal S256x384 .bf16) := by
  frame_out
  funext y
  canon_tiles i h
  · simp only [pays3, pays4, bq, bk, bg, b7, b12, b11, b19, b20, b21, b22, b23, b24, b26, b27, b28, b29, b30, b32, b33, b34, b35, b39, b40, b41, b42]
    rw [dv_eq _ _ (fun _ _ _ => 0), b2]
    generalize zero2 = D
    show ((_ : ℝ) : EReal) = ((blkp lb p st o D (y 0).val (y 1).val : ℝ) : EReal)
    rw [h0, h1, blkp, if_neg (by omega), if_neg (by omega), Nat.add_sub_cancel_left]
    rfl
  · simp only [pays3, pays4, bq, bk, bg, b7, b12, b11, b19, b20, b21, b22, b23, b24, b26, b27, b28, b29, b30, b32, b33, b34, b35, b39, b40, b41, b42]
    simp only [k0_pay227]
    rw [dk_eq _ (fun _ _ _ => 0), dq_eq (fun _ _ _ => 0)]
    simp only [mulf_V3]
    rw [df_eq, b232, b1]
    generalize zero2 = D
    show ((_ : ℝ) : EReal) = ((blkp lb p st o D (y 0).val (y 1).val : ℝ) : EReal)
    rw [h0, h1, blkp, if_neg (by omega), if_pos (by omega), Nat.add_sub_cancel_left]
    unfold blkf blkg blkk blkq blks dq3 dk3
    rfl
  · simp only [pays3, pays4, bq, bk, bg, b7, b12, b11, b19, b20, b21, b22, b23, b24, b26, b27, b28, b29, b30, b32, b33, b34, b35, b39, b40, b41, b42]
    rw [dq_eq (fun _ _ _ => 0), bdq, b231]
    generalize zero2 = D
    show ((_ : ℝ) : EReal) = ((blkp lb p st o D (y 0).val (y 1).val : ℝ) : EReal)
    rw [h0, h1, blkp, if_pos (by omega)]
    rfl

end Cert.Hgrn.Bwd
-- ==== Proof.Chunks.lean ====
module

public import proofs.«01_k».proof.Proof.Global
public import proofs.«01_k».proof.Proof.OutB
public import Idealize.ShloMosaic.Lib.Pointwise

@[expose] public section

set_option maxRecDepth 16384

noncomputable section

namespace Cert.Hgrn
open Finset

/-! A block of four chunks, given the states of its chunks and the cotangent after it, computes its share of the gradients of the whole sequence. -/

section
variable (lb : ℕ → ℝ) (P O : ℕ → ℕ → ℝ)

/-- The gradient of the forget gate, over the whole sequence. -/
def gff (t l : ℕ) : ℝ := (if mf < fv lb P t l then glf (qv P) (kv lb P) (vv P) (lfv lb P) O t l / fv lb P t l else 0)
  - gk (qv P) (vv P) (lfv lb P) O t l
/-- The gradient of the columns of one head. -/
def gpp (t c : ℕ) : ℝ := if c < 128 then gq (kv lb P) (vv P) (lfv lb P) O t c * dqv P t c
  else if c < 256 then gff lb P O t (c - 128) * (1 - lb (c - 128)) * sgm (P t (128 + (c - 128))) * (1 - sgm (P t (128 + (c - 128))))
  else gv (qv P) (kv lb P) (lfv lb P) O t (c - 256)
/-- What row `t` gives the gradient of the lower bounds. -/
def glb (t l : ℕ) : ℝ := gff lb P O t l * (1 - sgm (P t (128 + l)))

variable (n : ℕ)

/-- The rows of block `n`. -/
def rows (a : ℕ → ℕ → ℝ) (t c : ℕ) : ℝ := a (256 * n + t) c
/-- The states before the chunks of block `n`. -/
def sts (b x y : ℕ) : ℝ := stt (kv lb P) (vv P) (lfv lb P) (4 * n + b) x y
/-- The cotangent of the state after block `n`. -/
def ctg : ℕ → ℕ → ℝ := gst (qv P) (lfv lb P) O (4 * n + 4)

theorem row_at (b r : ℕ) : 256 * n + (b * 64 + r) = 64 * (4 * n + b) + r := by ring

theorem gcum_rows (b r l : ℕ) (hr : r < 64) : gcum (lfv lb (rows n P)) (b * 64 + r) l
    = cs (lfv lb P) (64 * (4 * n + b) + r + 1) l - cs (lfv lb P) (64 * (4 * n + b)) l := by
  rw [gcum, show (b * 64 + r) % 64 = r by omega, show (b * 64 + r) / 64 = b by omega, add_assoc, cs, cs, sum_range_add (fun s => lfv lb P s l) (64 * (4 * n + b)) (r + 1), add_sub_cancel_left]
  exact sum_congr rfl fun s _ => by rw [← row_at]; rfl

theorem gcum_last (b l : ℕ) : gcum (lfv lb (rows n P)) (b * 64 + 63) l
    = cs (lfv lb P) (64 * (4 * n + b + 1)) l - cs (lfv lb P) (64 * (4 * n + b)) l := gcum_rows lb P n b 63 l (by omega)

theorem rows_at (a : ℕ → ℕ → ℝ) (b r c : ℕ) : rows n a (b * 64 + r) c = a (64 * (4 * n + b) + r) c := by rw [rows, row_at]
theorem qv_at (b r c : ℕ) : qv (rows n P) (b * 64 + r) c = qv P (64 * (4 * n + b) + r) c := by rw [← row_at]; rfl
theorem kv_at (b r c : ℕ) : kv lb (rows n P) (b * 64 + r) c = kv lb P (64 * (4 * n + b) + r) c := by rw [← row_at]; rfl
theorem vv_at (b r c : ℕ) : vv (rows n P) (b * 64 + r) c = vv P (64 * (4 * n + b) + r) c := by rw [← row_at]; rfl

theorem ctg_last : ctg lb P O 31 = zero2 := by
  funext x y; exact gst_last _ _ _ x y

variable (hn : n < 32)
include hn

/-- The cotangents of the states of a block. -/
theorem dsn_eq (m : ℕ) (hm : m ≤ 4) : dsn (qv (rows n P)) (gcum (lfv lb (rows n P))) (rows n O) (ctg lb P O n) m
    = gst (qv P) (lfv lb P) O (4 * n + (4 - m)) := by
  induction m with
  | zero => rfl
  | succ m ih =>
    funext x y
    rw [dsn]
    beta_reduce
    rw [ih (by omega), gst_step _ _ _ (4 * n + (4 - (m + 1))) (by omega), show 4 - (m + 1) = 3 - m by omega, gcum_last, show 4 * n + (4 - m) = 4 * n + (3 - m) + 1 by omega, ds0]
    refine congrArg₂ (· + ·) (sum_congr rfl fun r hr => ?_) rfl
    rw [rows_at, qv_at, gcum_rows _ _ _ _ _ _ (mem_range.mp hr)]

theorem blks_eq (b : ℕ) (hb : b < 4) : blks lb (rows n P) (rows n O) (ctg lb P O n) b = gst (qv P) (lfv lb P) O (4 * n + b + 1) := by
  funext x y
  rw [blks, dsp, dsn_eq lb P O n hn _ (by omega), show 4 * n + (4 - (3 - b)) = 4 * n + b + 1 by omega]

theorem blkd_eq : blkd lb (rows n P) (rows n O) (ctg lb P O n) = gst (qv P) (lfv lb P) O (4 * n) := dsn_eq lb P O n hn 4 (by omega)

theorem blkd_ctg (h : 0 < n) : blkd lb (rows n P) (rows n O) (ctg lb P O n) = ctg lb P O (n - 1) := by
  rw [blkd_eq lb P O n hn, ctg, show 4 * (n - 1) + 4 = 4 * n by omega]

variable (b r l : ℕ) (hb : b < 4) (hr : r < 64)
include hb hr

theorem blkq_eq : blkq lb (rows n P) (sts lb P n) (rows n O) b r l = gq (kv lb P) (vv P) (lfv lb P) O (64 * (4 * n + b) + r) l := by
  rw [blkq, dq3, gq_chunk _ _ _ _ _ (by omega) _ _ hr, gcum_rows _ _ _ _ _ _ hr]
  refine congrArg₂ (· + ·) (sum_congr rfl fun s hs => ?_) ?_
  · rw [gcum_rows _ _ _ _ _ _ (mem_range.mp hs)]
    simp only [rows_at, kv_at, vv_at, gsc, dec, sub_sub_sub_cancel_right]
  · simp only [dqt, rows_at, sts]

theorem blkk_eq : blkk lb (rows n P) (rows n O) (ctg lb P O n) b r l = gk (qv P) (vv P) (lfv lb P) O (64 * (4 * n + b) + r) l := by
  rw [blkk, dk3, gk_chunk _ _ _ _ _ (by omega) _ _ hr, gcum_last, gcum_rows _ _ _ _ _ _ hr, sub_sub_sub_cancel_right]
  refine congrArg₂ (· + ·) (sum_congr rfl fun s hs => ?_) ?_
  · rw [gcum_rows _ _ _ _ _ _ (mem_range.mp hs)]
    simp only [rows_at, qv_at, vv_at, gsc, dec, sub_sub_sub_cancel_right]
  · simp only [dkt, vv_at, blks_eq lb P O n hn b hb]

theorem blkv_eq : blkv lb (rows n P) (rows n O) (ctg lb P O n) b r l = gv (qv P) (kv lb P) (lfv lb P) O (64 * (4 * n + b) + r) l := by
  rw [blkv, dv3, gv_chunk _ _ _ _ _ (by omega) _ _ hr]
  refine congrArg₂ (· + ·) (sum_congr rfl fun s hs => ?_) ?_
  · refine if_congr Iff.rfl ?_ rfl
    rw [rows_at, sc]
    refine congrArg (· * _) (sum_congr rfl fun y _ => ?_)
    rw [gcum_rows _ _ _ _ _ _ (mem_range.mp hs), gcum_rows _ _ _ _ _ _ hr, qv_at, kv_at, sub_sub_sub_cancel_right]
    rfl
  · rw [dvs]
    refine sum_congr rfl fun y _ => ?_
    rw [kv_at, gcum_last, gcum_rows _ _ _ _ _ _ hr, sub_sub_sub_cancel_right, blks_eq lb P O n hn b hb]

omit hr
theorem dgl_eq : dgl (kv lb (rows n P)) (vv (rows n P)) (gcum (lfv lb (rows n P))) (sts lb P n) (blks lb (rows n P) (rows n O) (ctg lb P O n)) b l
    = ∑ x ∈ range 128, stt (kv lb P) (vv P) (lfv lb P) (4 * n + b + 1) x l * gst (qv P) (lfv lb P) O (4 * n + b + 1) x l := by
  rw [dgl, blks_eq lb P O n hn b hb, gcum_last]
  simp only [stt_step _ _ _ _ (show 4 * n + b < 128 by omega), add_mul, sum_add_distrib]
  refine congrArg₂ (· + ·) ?_ ?_
  · rw [mul_sum]
    exact sum_congr rfl fun x _ => by rw [sts]; ring
  · simp only [sum_mul]
    rw [sum_comm]
    refine sum_congr rfl fun s hs => ?_
    rw [kv_at, gcum_rows _ _ _ _ _ _ (mem_range.mp hs), sub_sub_sub_cancel_right, dkt, sum_mul, blks_eq lb P O n hn b hb]
    exact sum_congr rfl fun x _ => by rw [vv_at]; ring

include hr
theorem blkf_eq : blkf lb (rows n P) (sts lb P n) (rows n O) (ctg lb P O n) (b * 64 + r) l = gff lb P O (64 * (4 * n + b) + r) l := by
  rw [blkf, dfv, gff, show (b * 64 + r) % 64 = r by omega, show (b * 64 + r) / 64 = b by omega, blkk_eq lb P O n hn b r l hb hr,
    show fv lb (rows n P) (b * 64 + r) l = fv lb P (64 * (4 * n + b) + r) l by rw [← row_at]; rfl, glf_chunk _ _ _ _ _ _ (by omega) _ _ hr]
  refine congrArg (· - _) (if_congr Iff.rfl (congrArg (· / _) ?_) rfl)
  rw [← dgl_eq lb P O n hn b l hb]
  have h : ∀ s ∈ range 64, (if r ≤ s then blkg lb (rows n P) (sts lb P n) (rows n O) (ctg lb P O n) b s l else 0)
      = (if r ≤ s then qv P (64 * (4 * n + b) + s) l * gq (kv lb P) (vv P) (lfv lb P) O (64 * (4 * n + b) + s) l
          - kv lb P (64 * (4 * n + b) + s) l * gk (qv P) (vv P) (lfv lb P) O (64 * (4 * n + b) + s) l else 0)
        + if s = 63 then dgl (kv lb (rows n P)) (vv (rows n P)) (gcum (lfv lb (rows n P))) (sts lb P n) (blks lb (rows n P) (rows n O) (ctg lb P O n)) b l else 0 := fun s hs => by
    have hs := mem_range.mp hs
    rw [blkg, dg3, blkq_eq lb P O n hn b s l hb hs, blkk_eq lb P O n hn b s l hb hs, qv_at, kv_at]
    by_cases h : r ≤ s
    · rw [if_pos h, if_pos h]
    · rw [if_neg h, if_neg h, if_neg (by omega), add_zero]
  rw [sum_congr rfl h, sum_add_distrib, sum_ite_eq_of_mem' _ _ _ (mem_range.mpr (by omega))]

omit hb hr
/-- The gradient of a block's columns is the block's part of the gradient of the columns. -/
theorem blkp_eq (t c : ℕ) (ht : t < 256) : blkp lb (rows n P) (sts lb P n) (rows n O) (ctg lb P O n) t c = gpp lb P O (256 * n + t) c := by
  have e : t = t / 64 * 64 + t % 64 := by omega
  have e' : 256 * n + t = 64 * (4 * n + t / 64) + t % 64 := by omega
  have hb : t / 64 < 4 := by omega
  have hr : t % 64 < 64 := by omega
  rw [blkp, gpp, blkq_eq lb P O n hn _ _ c hb hr, blkv_eq lb P O n hn _ _ _ hb hr, ← e']
  have hf := blkf_eq lb P O n hn (t / 64) (t % 64) (c - 128) hb hr
  rw [← e, ← e'] at hf
  rw [hf]
  rfl

/-- What a block gives the gradient of the lower bounds. -/
theorem blkl_eq (l : ℕ) : blkl lb (rows n P) (sts lb P n) (rows n O) (ctg lb P O n) l = ∑ t ∈ range 256, glb lb P O (256 * n + t) l := by
  refine sum_congr rfl fun t h => ?_
  have ht := mem_range.mp h
  have e : t = t / 64 * 64 + t % 64 := by omega
  have e' : 256 * n + t = 64 * (4 * n + t / 64) + t % 64 := by omega
  have hf := blkf_eq lb P O n hn (t / 64) (t % 64) l (by omega) (by omega)
  rw [← e, ← e'] at hf
  rw [hf]
  rfl

end
end Cert.Hgrn
-- ==== Proof.ArrB.lean ====
module

public import proofs.«01_k».proof.Proof.Chunks
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.Hgrn.Bwd
open Cert.KernelIdeal Cert.KernelIdeal.Gen Cert.KernelIdeal.Value Idealize.ShloMosaic Idealize.ShloMosaic.TcCoe Idealize.SL.Sem Cert.Hgrn
open Idealize.ShloMosaic.Pipeline (Dat)

/-! The two result arrays of the backward call, when its arguments are arrays of reals: the last columns of the gradient of the projection, over the first
columns as they were given, and the gradient of the lower bounds. -/

/-- Where each window's block lies at step `t`: head `t / 32`, block of rows `31 - t % 32`. -/
theorem wins : ∀ t : Fin cfg0.N, win0_0.index t = ![31 - t.val % 32, 24 + t.val / 32] ∧ win0_1.index t = ![0, t.val / 32]
    ∧ win0_2.index t = ![t.val / 32, 31 - t.val % 32, 0, 0] ∧ win0_3.index t = ![31 - t.val % 32, t.val / 32]
    ∧ win0_4.index t = ![31 - t.val % 32, 24 + t.val / 32] ∧ win0_5.index t = ![0, t.val / 32] :=
  (by decide +kernel : ∀ t : Fin grid0.N, _)

section
variable (m : (ℓ : Loc nD τ sig) → Buf (Elt Ideal) ℓ) (c : Dev nD)
variable (p : ℕ → ℕ → ℝ) (L : ℕ → ℝ) (O : ℕ → ℕ → ℝ)
variable (hp : ∀ i : S8192x10752.Idx, 9216 ≤ (i 1 : ℕ) → (m ((c : Thread nD τ).loc main_arg0) : FVec Ideal S8192x10752 .bf16) i = ((p (i 0) (i 1 - 9216) : ℝ) : EReal))
variable (hL : (m ((c : Thread nD τ).loc main_arg1) : FVec Ideal S1x512 .f32) = V2 (fun _ l => L l))
variable (hO : (m ((c : Thread nD τ).loc main_arg2) : FVec Ideal S8192x512 .f32) = V2 O)
variable (hS : (V m c main_v58 : FVec Ideal S4x128x128x128 .f32)
  = V4 fun h n x y => stt (kv (low L h) (col p h)) (vv (col p h)) (lfv (low L h) (col p h)) n x y)

include hp in
/-- The block of columns at step `t`. -/
theorem blk0 (t : Fin cfg0.N) : (iblk m c 0 t : FVec Ideal S256x384 .bf16) = V2 (rows (31 - t.val % 32) (col p (t.val / 32))) := by
  have ht : t.val < 128 := lt_of_lt_of_eq t.isLt N_0
  funext y
  have e0 : ((((cfg0.win 0).blk t).view.emb y) 0 : ℕ) = 256 * (31 - t.val % 32) + (y 0 : ℕ) := by blk_simp [(wins t).1]; omega
  have e1 : ((((cfg0.win 0).blk t).view.emb y) 1 : ℕ) = (24 + t.val / 32) * 384 + (y 1 : ℕ) := by blk_simp [(wins t).1]
  blk_simp [iblk]
  rw [V_main_arg0]
  refine (hp _ (by rw [e1]; omega)).trans ?_
  rw [e0, e1, show (24 + t.val / 32) * 384 + (y 1 : ℕ) - 9216 = t.val / 32 * 384 + (y 1 : ℕ) by omega]
  rfl

include hL in
/-- The block of lower bounds at step `t`. -/
theorem blk1 (t : Fin cfg0.N) : (iblk m c 1 t : FVec Ideal S1x128 .f32) = V2 (fun _ l => low L (t.val / 32) l) := by
  funext y
  have e1 : ((((cfg0.win 1).blk t).view.emb y) 1 : ℕ) = t.val / 32 * 128 + (y 1 : ℕ) := by blk_simp [(wins t).2.1]
  blk_simp [iblk]
  rw [V_main_arg1]
  refine (congrFun hL _).trans ?_
  show ((L _ : ℝ) : EReal) = _
  rw [e1]
  rfl

include hS in
/-- The states at step `t`. -/
theorem blk2 (t : Fin cfg0.N) : (iblk m c 2 t : FVec Ideal S1x4x128x128 .f32)
    = V4 (fun _ b x y => sts (low L (t.val / 32)) (col p (t.val / 32)) (31 - t.val % 32) b x y) := by
  funext y
  have y0 : (y 0 : ℕ) < 1 := (y 0).isLt
  have e0 : ((((cfg0.win 2).blk t).view.emb y) 0 : ℕ) = t.val / 32 := by blk_simp [(wins t).2.2.1] <;> omega
  have e1 : ((((cfg0.win 2).blk t).view.emb y) 1 : ℕ) = 4 * (31 - t.val % 32) + (y 1 : ℕ) := by blk_simp [(wins t).2.2.1]; omega
  have e2 : ((((cfg0.win 2).blk t).view.emb y) 2 : ℕ) = (y 2 : ℕ) := by blk_simp [(wins t).2.2.1] <;> omega
  have e3 : ((((cfg0.win 2).blk t).view.emb y) 3 : ℕ) = (y 3 : ℕ) := by blk_simp [(wins t).2.2.1] <;> omega
  blk_simp [iblk]
  refine (congrFun hS _).trans ?_
  show ((stt _ _ _ _ _ _ : ℝ) : EReal) = _
  rw [e0, e1, e2, e3]
  rfl

include hO in
/-- The block of the cotangent of the output at step `t`. -/
theorem blk3 (t : Fin cfg0.N) : (iblk m c 3 t : FVec Ideal S256x128 .f32) = V2 (rows (31 - t.val % 32) (cot O (t.val / 32))) := by
  funext y
  have e0 : ((((cfg0.win 3).blk t).view.emb y) 0 : ℕ) = 256 * (31 - t.val % 32) + (y 0 : ℕ) := by blk_simp [(wins t).2.2.2.1]; omega
  have e1 : ((((cfg0.win 3).blk t).view.emb y) 1 : ℕ) = t.val / 32 * 128 + (y 1 : ℕ) := by blk_simp [(wins t).2.2.2.1]
  blk_simp [iblk]
  rw [V_main_arg2]
  refine (congrFun hO _).trans ?_
  show ((O _ _ : ℝ) : EReal) = _
  rw [e0, e1]
  rfl

/-- What the gradient of the lower bounds of head `h` has gathered once the rows from block `n` on are done. -/
def gath (p : ℕ → ℕ → ℝ) (L : ℕ → ℝ) (O : ℕ → ℕ → ℝ) (h n l : ℕ) : ℝ :=
  ∑ t ∈ Finset.range (256 * (32 - n)), glb (low L h) (col p h) (cot O h) (256 * n + t) l

theorem gath_last (h l : ℕ) : zero1 l + ∑ t ∈ Finset.range 256, glb (low L h) (col p h) (cot O h) (256 * 31 + t) l = gath p L O h 31 l := zero_add _

theorem gath_step (h n l : ℕ) (hn : n + 1 < 32) : gath p L O h (n + 1) l + ∑ t ∈ Finset.range 256, glb (low L h) (col p h) (cot O h) (256 * n + t) l
    = gath p L O h n l := by
  rw [gath, gath, show 256 * (32 - n) = 256 + 256 * (32 - (n + 1)) by omega, Finset.sum_range_add, add_comm]
  refine congrArg₂ (· + ·) rfl (Finset.sum_congr rfl fun t _ => ?_)
  rw [show 256 * (n + 1) + t = 256 * n + (256 + t) by ring]

include hp hL hO hS in
/-- What the first step of a head leaves: the block's gradients, the share of the lower bounds, the cotangent of the state before the block. -/
theorem at_first (t : Fin cfg0.N) (h0 : t.val % 32 = 0) : outsAt0 m c t.val t.isLt
    = ((V2 fun s j => gpp (low L (t.val / 32)) (col p (t.val / 32)) (cot O (t.val / 32)) (256 * (31 - t.val % 32) + s) j : FVec Ideal S256x384 .bf16),
      (V2 fun _ l => gath p L O (t.val / 32) (31 - t.val % 32) l : FVec Ideal S1x128 .f32),
      (V2 (ctg (low L (t.val / 32)) (col p (t.val / 32)) (cot O (t.val / 32)) (30 - t.val % 32)) : FVec Ideal S128x128 .f32)) := by
  rw [outsAt0_A m c t h0, blk0 m c p hp t, blk1 m c L hL t, blk2 m c p L hS t, blk3 m c O hO t, out4_A, out5_A, sout_A, h0]
  rw [← ctg_last (low L (t.val / 32)) (col p (t.val / 32)) (cot O (t.val / 32))]
  refine Prod.ext ?_ (Prod.ext ?_ ?_) <;> dsimp only
  · refine V2_congr fun s hs j hj => ?_
    exact blkp_eq _ _ _ 31 (by omega) s j hs
  · refine V2_congr fun s hs l hl => ?_
    exact (congrArg (_ + ·) (blkl_eq _ _ _ 31 (by omega) l)).trans (gath_last p L O _ l)
  · exact congrArg V2 (blkd_ctg _ _ _ 31 (by omega) (by omega))

include hp hL hO hS in
/-- What a later step leaves, over what the step before it left. -/
theorem at_later (t : Fin cfg0.N) (h0 : ¬ t.val % 32 = 0)
    (h5 : (outsAt0 m c (t.val - 1) (Nat.lt_of_le_of_lt (Nat.sub_le _ _) t.isLt)).2.1 = (V2 fun _ l => gath p L O (t.val / 32) (31 - t.val % 32 + 1) l : FVec Ideal S1x128 .f32))
    (h9 : (outsAt0 m c (t.val - 1) (Nat.lt_of_le_of_lt (Nat.sub_le _ _) t.isLt)).2.2
      = (V2 (ctg (low L (t.val / 32)) (col p (t.val / 32)) (cot O (t.val / 32)) (31 - t.val % 32)) : FVec Ideal S128x128 .f32)) : outsAt0 m c t.val t.isLt
    = ((V2 fun s j => gpp (low L (t.val / 32)) (col p (t.val / 32)) (cot O (t.val / 32)) (256 * (31 - t.val % 32) + s) j : FVec Ideal S256x384 .bf16),
      (V2 fun _ l => gath p L O (t.val / 32) (31 - t.val % 32) l : FVec Ideal S1x128 .f32),
      (V2 (blkd (low L (t.val / 32)) (rows (31 - t.val % 32) (col p (t.val / 32))) (rows (31 - t.val % 32) (cot O (t.val / 32)))
        (ctg (low L (t.val / 32)) (col p (t.val / 32)) (cot O (t.val / 32)) (31 - t.val % 32))) : FVec Ideal S128x128 .f32)) := by
  rw [outsAt0_B m c t h0, blk0 m c p hp t, blk1 m c L hL t, blk2 m c p L hS t, blk3 m c O hO t, h5, h9, out4_B, out5_B, sout_B]
  refine Prod.ext ?_ (Prod.ext ?_ rfl) <;> dsimp only
  · refine V2_congr fun s hs j hj => ?_
    exact blkp_eq _ _ _ _ (by omega) s j hs
  · refine V2_congr fun s hs l hl => ?_
    exact (congrArg (_ + ·) (blkl_eq _ _ _ _ (by omega) l)).trans (gath_step p L O _ _ l (by omega))

include hp hL hO hS in
/-- What every step leaves. -/
theorem at_step (k : ℕ) (hk : k < cfg0.N) :
    (outsAt0 m c k hk).1 = (V2 fun s j => gpp (low L (k / 32)) (col p (k / 32)) (cot O (k / 32)) (256 * (31 - k % 32) + s) j : FVec Ideal S256x384 .bf16)
    ∧ (outsAt0 m c k hk).2.1 = (V2 fun _ l => gath p L O (k / 32) (31 - k % 32) l : FVec Ideal S1x128 .f32)
    ∧ (k % 32 < 31 → (outsAt0 m c k hk).2.2 = (V2 (ctg (low L (k / 32)) (col p (k / 32)) (cot O (k / 32)) (30 - k % 32)) : FVec Ideal S128x128 .f32)) := by
  induction k with
  | zero =>
    have e := at_first m c p L O hp hL hO hS ⟨0, hk⟩ rfl
    exact ⟨congrArg Prod.fst e, congrArg (·.2.1) e, fun _ => congrArg (·.2.2) e⟩
  | succ k ih =>
    by_cases h0 : (k + 1) % 32 = 0
    · have e := at_first m c p L O hp hL hO hS ⟨k + 1, hk⟩ h0
      exact ⟨congrArg Prod.fst e, congrArg (·.2.1) e, fun _ => congrArg (·.2.2) e⟩
    · obtain ⟨_, i5, i9⟩ := ih (by omega)
      have d : k / 32 = (k + 1) / 32 := by omega
      rw [d, show 31 - k % 32 = 31 - (k + 1) % 32 + 1 by omega] at i5
      rw [d, show 30 - k % 32 = 31 - (k + 1) % 32 by omega] at i9
      have e := at_later m c p L O hp hL hO hS ⟨k + 1, hk⟩ h0 i5 (i9 (by omega))
      refine ⟨congrArg Prod.fst e, congrArg (·.2.1) e, fun hl => (congrArg (·.2.2) e).trans ?_⟩
      refine congrArg V2 ((blkd_ctg _ _ _ _ (by omega) (by show 0 < 31 - (k + 1) % 32; omega)).trans ?_)
      show ctg _ _ _ (31 - (k + 1) % 32 - 1) = _
      rw [show 31 - (k + 1) % 32 - 1 = 30 - (k + 1) % 32 by omega]

include hp hL hO hS in
/-- The gradient of the lower bounds after the run. -/
theorem arr5 : (dats m 0 c).arrAt 5 (cfgs 0).N
    = (V2 fun _ j => ∑ t ∈ Finset.range 8192, glb (low L (j / 128)) (col p (j / 128)) (cot O (j / 128)) t (j % 128) : FVec Ideal S1x512 .f32) := by
  refine (dats m 0 c).arrAt_eq_of_covers 5 _ (by decide +kernel) fun t hf y => ?_
  have hm := (flush0_5 t).mp hf
  have ht : t.val < 128 := lt_of_lt_of_eq t.isLt N_0
  have h1 : (y 1 : ℕ) < 128 := (y 1).isLt
  have e1 : ((((cfg0.win 5).blk t).view.emb y) 1 : ℕ) = t.val / 32 * 128 + (y 1 : ℕ) := by blk_simp [(wins t).2.2.2.2.2]
  blk_simp
  rw [after0_5, (at_step m c p L O hp hL hO hS t.val t.isLt).2.1]
  show ((gath p L O (t.val / 32) (31 - t.val % 32) (y 1 : ℕ) : ℝ) : EReal) = ((_ : ℝ) : EReal)
  rw [e1, hm]
  beta_reduce
  rw [show (t.val / 32 * 128 + (y 1 : ℕ)) / 128 = t.val / 32 by omega, show (t.val / 32 * 128 + (y 1 : ℕ)) % 128 = (y 1 : ℕ) by omega, gath]
  refine congrArg _ (Finset.sum_congr rfl fun s _ => ?_)
  rw [show 256 * (31 - 31) + s = s by omega]

theorem row4 (t : Fin cfg0.N) (y : ℕ) : win0_4.index t 0 * 256 + y = 256 * (31 - t.val % 32) + y := by
  rw [(wins t).2.2.2.2.1]
  show (31 - t.val % 32) * 256 + y = _
  omega
theorem col4 (t : Fin cfg0.N) (y : ℕ) : win0_4.index t 1 * 384 + y - 9216 = t.val / 32 * 384 + y := by
  rw [(wins t).2.2.2.2.1]
  show (24 + t.val / 32) * 384 + y - 9216 = _
  omega

include hp hL hO hS in
/-- The gradient of the projection after the run. -/
theorem arr4 : (dats m 0 c).arrAt 4 (cfgs 0).N
    = (fun i => if 9216 ≤ (i 1 : ℕ) then ((gpp (low L (((i 1 : ℕ) - 9216) / 384)) (col p (((i 1 : ℕ) - 9216) / 384)) (cot O (((i 1 : ℕ) - 9216) / 384)) (i 0) (((i 1 : ℕ) - 9216) % 384) : ℝ) : EReal)
      else (m ((c : Thread nD τ).loc main_arg3) : FVec Ideal S8192x10752 .bf16) i : FVec Ideal S8192x10752 .bf16) := by
  have eV : V m c main_v59_0 = m ((c : Thread nD τ).loc main_arg3) := by entry_read; try rfl
  rw [← eV]
  refine (dats m 0 c).arrAt_eq_of_coversWhere 4 _ (fun β => 24 ≤ β 1) (by decide +kernel) (fun t hf y => ?_)
    (fun j => by blk_simp [Pipeline.Window.cell_apply]; omega)
  have ht : t.val < 128 := lt_of_lt_of_eq t.isLt N_0
  have h1 : (y 1 : ℕ) < 384 := (y 1).isLt
  blk_simp
  rw [after0_4, (at_step m c p L O hp hL hO hS t.val t.isLt).1]
  rw [row4, col4, show (t.val / 32 * 384 + (y 1 : ℕ)) / 384 = t.val / 32 by omega, show (t.val / 32 * 384 + (y 1 : ℕ)) % 384 = (y 1 : ℕ) by omega]
  rfl

end
end Cert.Hgrn.Bwd
-- ==== Proof.HostOps.lean ====
module

public import proofs.«01_k».proof.Proof.Lift
public import Idealize.ShloMosaic.Lib.Pipeline.ValueKit
public import Idealize.ShloMosaic.Lib.Pointwise

@[expose] public section

set_option maxRecDepth 16384

noncomputable section

namespace Cert.Hgrn
open Idealize.ShloMosaic Idealize.SL.Sem

/-! The host operations on arrays of reals: each keeps an array of reals and only moves, sums or selects its entries. -/

/-- A rank-four mask. -/
def M4 {m n w d : ℕ} (p : ℕ → ℕ → ℕ → ℕ → Bool) : (⟨4, ![m, n, w, d]⟩ : Shape).Idx → BitVec 1 :=
  fun j => BitVec.ofBool (p (j 0).val (j 1).val (j 2).val (j 3).val)
/-- Two rank-four arrays agree when their functions agree within the bounds. -/
theorem V4_congr {m n w d : ℕ} {f g : ℕ → ℕ → ℕ → ℕ → ℝ} (h : ∀ a < m, ∀ b < n, ∀ r < w, ∀ l < d, f a b r l = g a b r l) :
    (V4 f : (⟨4, ![m, n, w, d]⟩ : Shape).Idx → EReal) = V4 g := by
  funext j
  exact congrArg _ (h _ (j 0).isLt _ (j 1).isLt _ (j 2).isLt _ (j 3).isLt)
/-- Zero, without coordinates. -/
def ZR : (⟨0, ![]⟩ : Shape).Idx → EReal := constant (F := Ideal) ⟨0, ![]⟩ .f32 0x00000000#32
theorem ZR_apply (i) : ZR i = 0 := Ideal.ofBits_zero_f32
theorem half_eq : Ideal.ofBits .f32 0x3F000000#32 = ((1 / 2 : ℝ) : EReal) := by
  rw [show ((1 / 2 : ℝ)) = 8388608 * (2 ^ 24)⁻¹ by norm_num, EReal.coe_mul]
  simp [Ideal.ofBits, Ideal.ieee]

theorem h_exp_V2 {n d : ℕ} (f : ℕ → ℕ → ℝ) : Host.exp (F := Ideal) (φ := .f32) (V2 f : FVec Ideal ((⟨2, ![n, d]⟩) : Shape) .f32) = V2 (fun t l => Real.exp (f t l)) := rfl
theorem h_neg_V2 {n d : ℕ} (f : ℕ → ℕ → ℝ) : Host.negf (F := Ideal) (φ := .f32) (V2 f : FVec Ideal ((⟨2, ![n, d]⟩) : Shape) .f32) = V2 (fun t l => -f t l) :=
  funext fun _ => (EReal.coe_neg _).symm
theorem h_log_V2 {n d : ℕ} (f : ℕ → ℕ → ℝ) :
    Host.log (F := Ideal) (φ := .f32) (V2 (fun t l => max (f t l) mf) : FVec Ideal ((⟨2, ![n, d]⟩) : Shape) .f32) = V2 (fun t l => Real.log (max (f t l) mf)) :=
  funext fun _ => if_neg (not_le.mpr (lt_max_of_lt_right mf_pos))
theorem h_div_V2 {n d : ℕ} (num f : ℕ → ℕ → ℝ) :
    Host.divf (F := Ideal) (φ := .f32) (V2 num : FVec Ideal ((⟨2, ![n, d]⟩) : Shape) .f32) (V2 (fun t l => max (f t l) mf)) = V2 (fun t l => num t l / max (f t l) mf) :=
  funext fun _ => div_coe _ _ (lt_max_of_lt_right mf_pos).ne'
theorem h_sgm_V2 {n d : ℕ} (f : ℕ → ℕ → ℝ) :
    Host.divf (F := Ideal) (φ := .f32) (V2 (fun _ _ => 1) : FVec Ideal ((⟨2, ![n, d]⟩) : Shape) .f32) (V2 (fun t l => 1 + Real.exp (-f t l))) = V2 (fun t l => sgm (f t l)) :=
  funext fun _ => (div_coe _ _ (by positivity)).trans (congrArg _ (one_div _))
theorem h_max_V2 {n d : ℕ} (f g : ℕ → ℕ → ℝ) : maximumf (F := Ideal) (φ := .f32) (V2 f : FVec Ideal ((⟨2, ![n, d]⟩) : Shape) .f32) (V2 g) = V2 (fun t l => max (f t l) (g t l)) :=
  funext fun _ => (EReal.coe_strictMono.monotone.map_max).symm
theorem h_zero_V2 {n d : ℕ} (dims) (h) : broadcastInDim ((⟨2, ![n, d]⟩) : Shape) dims h (constant (F := Ideal) ⟨0, ![]⟩ .f32 0x00000000#32) = V2 (fun _ _ => 0) :=
  funext fun _ => Ideal.ofBits_zero_f32
theorem h_one_V2 {n d : ℕ} (dims) (h) : broadcastInDim ((⟨2, ![n, d]⟩) : Shape) dims h (constant (F := Ideal) ⟨0, ![]⟩ .f32 0x3F800000#32) = V2 (fun _ _ => 1) :=
  funext fun _ => Ideal.ofBits_one_f32
theorem h_half_V2 {n d : ℕ} (dims) (h) : broadcastInDim ((⟨2, ![n, d]⟩) : Shape) dims h (constant (F := Ideal) ⟨0, ![]⟩ .f32 0x3F000000#32) = V2 (fun _ _ => (1 / 2 : ℝ)) :=
  funext fun _ => half_eq
theorem h_qk_V2 {n d : ℕ} (dims) (h) : broadcastInDim ((⟨2, ![n, d]⟩) : Shape) dims h (constant (F := Ideal) ⟨0, ![]⟩ .f32 0x3DB504F3#32) = V2 (fun _ _ => qk) :=
  funext fun _ => qk_eq
theorem h_mf_V2 {n d : ℕ} (dims) (h) : broadcastInDim ((⟨2, ![n, d]⟩) : Shape) dims h (constant (F := Ideal) ⟨0, ![]⟩ .f32 0x0DA24260#32) = V2 (fun _ _ => mf) :=
  funext fun _ => mf_eq

theorem h_exp_V3 {n w d : ℕ} (f : ℕ → ℕ → ℕ → ℝ) : Host.exp (F := Ideal) (φ := .f32) (V3 f : FVec Ideal ((⟨3, ![n, w, d]⟩) : Shape) .f32) = V3 (fun b r l => Real.exp (f b r l)) := rfl
theorem h_neg_V3 {n w d : ℕ} (f : ℕ → ℕ → ℕ → ℝ) : Host.negf (F := Ideal) (φ := .f32) (V3 f : FVec Ideal ((⟨3, ![n, w, d]⟩) : Shape) .f32) = V3 (fun b r l => -f b r l) :=
  funext fun _ => (EReal.coe_neg _).symm
theorem h_log_V3 {n w d : ℕ} (f : ℕ → ℕ → ℕ → ℝ) :
    Host.log (F := Ideal) (φ := .f32) (V3 (fun b r l => max (f b r l) mf) : FVec Ideal ((⟨3, ![n, w, d]⟩) : Shape) .f32) = V3 (fun b r l => Real.log (max (f b r l) mf)) :=
  funext fun _ => if_neg (not_le.mpr (lt_max_of_lt_right mf_pos))
theorem h_div_V3 {n w d : ℕ} (num f : ℕ → ℕ → ℕ → ℝ) :
    Host.divf (F := Ideal) (φ := .f32) (V3 num : FVec Ideal ((⟨3, ![n, w, d]⟩) : Shape) .f32) (V3 (fun b r l => max (f b r l) mf)) = V3 (fun b r l => num b r l / max (f b r l) mf) :=
  funext fun _ => div_coe _ _ (lt_max_of_lt_right mf_pos).ne'
theorem h_sgm_V3 {n w d : ℕ} (f : ℕ → ℕ → ℕ → ℝ) :
    Host.divf (F := Ideal) (φ := .f32) (V3 (fun _ _ _ => 1) : FVec Ideal ((⟨3, ![n, w, d]⟩) : Shape) .f32) (V3 (fun b r l => 1 + Real.exp (-f b r l))) = V3 (fun b r l => sgm (f b r l)) :=
  funext fun _ => (div_coe _ _ (by positivity)).trans (congrArg _ (one_div _))
theorem h_max_V3 {n w d : ℕ} (f g : ℕ → ℕ → ℕ → ℝ) : maximumf (F := Ideal) (φ := .f32) (V3 f : FVec Ideal ((⟨3, ![n, w, d]⟩) : Shape) .f32) (V3 g) = V3 (fun b r l => max (f b r l) (g b r l)) :=
  funext fun _ => (EReal.coe_strictMono.monotone.map_max).symm
theorem h_zero_V3 {n w d : ℕ} (dims) (h) : broadcastInDim ((⟨3, ![n, w, d]⟩) : Shape) dims h (constant (F := Ideal) ⟨0, ![]⟩ .f32 0x00000000#32) = V3 (fun _ _ _ => 0) :=
  funext fun _ => Ideal.ofBits_zero_f32
theorem h_one_V3 {n w d : ℕ} (dims) (h) : broadcastInDim ((⟨3, ![n, w, d]⟩) : Shape) dims h (constant (F := Ideal) ⟨0, ![]⟩ .f32 0x3F800000#32) = V3 (fun _ _ _ => 1) :=
  funext fun _ => Ideal.ofBits_one_f32
theorem h_half_V3 {n w d : ℕ} (dims) (h) : broadcastInDim ((⟨3, ![n, w, d]⟩) : Shape) dims h (constant (F := Ideal) ⟨0, ![]⟩ .f32 0x3F000000#32) = V3 (fun _ _ _ => (1 / 2 : ℝ)) :=
  funext fun _ => half_eq
theorem h_qk_V3 {n w d : ℕ} (dims) (h) : broadcastInDim ((⟨3, ![n, w, d]⟩) : Shape) dims h (constant (F := Ideal) ⟨0, ![]⟩ .f32 0x3DB504F3#32) = V3 (fun _ _ _ => qk) :=
  funext fun _ => qk_eq
theorem h_mf_V3 {n w d : ℕ} (dims) (h) : broadcastInDim ((⟨3, ![n, w, d]⟩) : Shape) dims h (constant (F := Ideal) ⟨0, ![]⟩ .f32 0x0DA24260#32) = V3 (fun _ _ _ => mf) :=
  funext fun _ => mf_eq

theorem h_exp_V4 {m n w d : ℕ} (f : ℕ → ℕ → ℕ → ℕ → ℝ) : Host.exp (F := Ideal) (φ := .f32) (V4 f : FVec Ideal ((⟨4, ![m, n, w, d]⟩) : Shape) .f32) = V4 (fun a b r l => Real.exp (f a b r l)) := rfl
theorem h_neg_V4 {m n w d : ℕ} (f : ℕ → ℕ → ℕ → ℕ → ℝ) : Host.negf (F := Ideal) (φ := .f32) (V4 f : FVec Ideal ((⟨4, ![m, n, w, d]⟩) : Shape) .f32) = V4 (fun a b r l => -f a b r l) :=
  funext fun _ => (EReal.coe_neg _).symm
theorem h_log_V4 {m n w d : ℕ} (f : ℕ → ℕ → ℕ → ℕ → ℝ) :
    Host.log (F := Ideal) (φ := .f32) (V4 (fun a b r l => max (f a b r l) mf) : FVec Ideal ((⟨4, ![m, n, w, d]⟩) : Shape) .f32) = V4 (fun a b r l => Real.log (max (f a b r l) mf)) :=
  funext fun _ => if_neg (not_le.mpr (lt_max_of_lt_right mf_pos))
theorem h_div_V4 {m n w d : ℕ} (num f : ℕ → ℕ → ℕ → ℕ → ℝ) :
    Host.divf (F := Ideal) (φ := .f32) (V4 num : FVec Ideal ((⟨4, ![m, n, w, d]⟩) : Shape) .f32) (V4 (fun a b r l => max (f a b r l) mf)) = V4 (fun a b r l => num a b r l / max (f a b r l) mf) :=
  funext fun _ => div_coe _ _ (lt_max_of_lt_right mf_pos).ne'
theorem h_sgm_V4 {m n w d : ℕ} (f : ℕ → ℕ → ℕ → ℕ → ℝ) :
    Host.divf (F := Ideal) (φ := .f32) (V4 (fun _ _ _ _ => 1) : FVec Ideal ((⟨4, ![m, n, w, d]⟩) : Shape) .f32) (V4 (fun a b r l => 1 + Real.exp (-f a b r l))) = V4 (fun a b r l => sgm (f a b r l)) :=
  funext fun _ => (div_coe _ _ (by positivity)).trans (congrArg _ (one_div _))
theorem h_max_V4 {m n w d : ℕ} (f g : ℕ → ℕ → ℕ → ℕ → ℝ) : maximumf (F := Ideal) (φ := .f32) (V4 f : FVec Ideal ((⟨4, ![m, n, w, d]⟩) : Shape) .f32) (V4 g) = V4 (fun a b r l => max (f a b r l) (g a b r l)) :=
  funext fun _ => (EReal.coe_strictMono.monotone.map_max).symm
theorem h_zero_V4 {m n w d : ℕ} (dims) (h) : broadcastInDim ((⟨4, ![m, n, w, d]⟩) : Shape) dims h (constant (F := Ideal) ⟨0, ![]⟩ .f32 0x00000000#32) = V4 (fun _ _ _ _ => 0) :=
  funext fun _ => Ideal.ofBits_zero_f32
theorem h_one_V4 {m n w d : ℕ} (dims) (h) : broadcastInDim ((⟨4, ![m, n, w, d]⟩) : Shape) dims h (constant (F := Ideal) ⟨0, ![]⟩ .f32 0x3F800000#32) = V4 (fun _ _ _ _ => 1) :=
  funext fun _ => Ideal.ofBits_one_f32
theorem h_half_V4 {m n w d : ℕ} (dims) (h) : broadcastInDim ((⟨4, ![m, n, w, d]⟩) : Shape) dims h (constant (F := Ideal) ⟨0, ![]⟩ .f32 0x3F000000#32) = V4 (fun _ _ _ _ => (1 / 2 : ℝ)) :=
  funext fun _ => half_eq
theorem h_qk_V4 {m n w d : ℕ} (dims) (h) : broadcastInDim ((⟨4, ![m, n, w, d]⟩) : Shape) dims h (constant (F := Ideal) ⟨0, ![]⟩ .f32 0x3DB504F3#32) = V4 (fun _ _ _ _ => qk) :=
  funext fun _ => qk_eq
theorem h_mf_V4 {m n w d : ℕ} (dims) (h) : broadcastInDim ((⟨4, ![m, n, w, d]⟩) : Shape) dims h (constant (F := Ideal) ⟨0, ![]⟩ .f32 0x0DA24260#32) = V4 (fun _ _ _ _ => mf) :=
  funext fun _ => mf_eq

theorem mulf_V4 {m n w d : ℕ} (f g : ℕ → ℕ → ℕ → ℕ → ℝ) :
    mulf (F := Ideal) (φ := .f32) (V4 f : FVec Ideal (⟨4, ![m, n, w, d]⟩ : Shape) .f32) (V4 g) = V4 (fun a b r l => f a b r l * g a b r l) :=
  funext fun _ => (EReal.coe_mul _ _).symm
theorem subf_V4 {m n w d : ℕ} (f g : ℕ → ℕ → ℕ → ℕ → ℝ) :
    subf (F := Ideal) (φ := .f32) (V4 f : FVec Ideal (⟨4, ![m, n, w, d]⟩ : Shape) .f32) (V4 g) = V4 (fun a b r l => f a b r l - g a b r l) :=
  funext fun _ => (EReal.coe_sub _ _).symm
theorem select_V4 {m n w d : ℕ} (p : ℕ → ℕ → ℕ → ℕ → Bool) (f g : ℕ → ℕ → ℕ → ℕ → ℝ) :
    select (M4 p) (V4 f : FVec Ideal (⟨4, ![m, n, w, d]⟩ : Shape) .f32) (V4 g) = V4 (fun a b r l => if p a b r l = true then f a b r l else g a b r l) := by
  funext j
  show Scalar.select (BitVec.ofBool _) _ _ = _
  unfold V4
  beta_reduce
  cases p (j 0).val (j 1).val (j 2).val (j 3).val <;> simp [Scalar.select]
theorem extf_V4 {m n w d : ℕ} {φ ψ : FTy} (f : ℕ → ℕ → ℕ → ℕ → ℝ) (h) : extf (F := Ideal) (φ := φ) ψ (V4 f : FVec Ideal (⟨4, ![m, n, w, d]⟩ : Shape) φ) h = V4 f := rfl
/-- Comparisons of arrays of reals. -/
theorem h_ogt_V3 {n w d : ℕ} (f g : ℕ → ℕ → ℕ → ℝ) :
    cmpf (F := Ideal) (φ := .f32) .ogt (V3 f : FVec Ideal (⟨3, ![n, w, d]⟩ : Shape) .f32) (V3 g) = M3 (fun b r l => decide (g b r l < f b r l)) := by
  funext j
  show Ideal.cmp .ogt _ _ = _
  simp only [Ideal.cmp_ogt, V3, EReal.coe_lt_coe_iff]
  rfl
theorem h_oeq_V3 {n w d : ℕ} (f g : ℕ → ℕ → ℕ → ℝ) :
    cmpf (F := Ideal) (φ := .f32) .oeq (V3 f : FVec Ideal (⟨3, ![n, w, d]⟩ : Shape) .f32) (V3 g) = M3 (fun b r l => decide (f b r l = g b r l)) := by
  funext j
  show Ideal.cmp .oeq _ _ = _
  simp only [Ideal.cmp_oeq, V3, EReal.coe_eq_coe_iff]
  rfl

theorem sle_ofNat (a b : ℕ) (ha : a < 2147483648) (hb : b < 2147483648) : (BitVec.ofNat 32 a).sle (BitVec.ofNat 32 b) = decide (a ≤ b) := by
  have h : ∀ n : ℕ, n < 2147483648 → (BitVec.ofNat 32 n).toInt = (n : ℤ) := fun n hn => by
    rw [BitVec.toInt_eq_toNat_cond, BitVec.toNat_ofNat, Nat.mod_eq_of_lt (by omega), if_pos (by omega)]
  rw [BitVec.sle_eq_decide, h a ha, h b hb]
  exact decide_eq_decide.mpr Int.ofNat_le
theorem slt_ofNat (a b : ℕ) (ha : a < 2147483648) (hb : b < 2147483648) : (BitVec.ofNat 32 a).slt (BitVec.ofNat 32 b) = decide (a < b) := by
  have h : ∀ n : ℕ, n < 2147483648 → (BitVec.ofNat 32 n).toInt = (n : ℤ) := fun n hn => by
    rw [BitVec.toInt_eq_toNat_cond, BitVec.toNat_ofNat, Nat.mod_eq_of_lt (by omega), if_pos (by omega)]
  rw [BitVec.slt_eq_decide, h a ha, h b hb]
  exact decide_eq_decide.mpr Int.ofNat_lt

/-- The mask of the rows up to each row. -/
theorem h_tril (d0 d1) (h0 : d0 = 0) (h1 : d1 = 1) (e e' e'') (h h' h'') :
    select (cmpi .sge (addi (iotaInDim ⟨2, ![8192, 8192]⟩ 32 d0) (broadcastInDim ⟨2, ![8192, 8192]⟩ e h (constantI ⟨0, ![]⟩ 32 0#32))) (iotaInDim ⟨2, ![8192, 8192]⟩ 32 d1))
      (broadcastInDim ⟨2, ![8192, 8192]⟩ e' h' (constantI ⟨0, ![]⟩ 1 1#1)) (broadcastInDim ⟨2, ![8192, 8192]⟩ e'' h'' (constantI ⟨0, ![]⟩ 1 0#1))
      = M2 (fun t s => decide (s ≤ t)) := by
  subst h0 h1
  funext j
  have a0 : (j 0).val < 8192 := (j 0).isLt
  have a1 : (j 1).val < 8192 := (j 1).isLt
  show Scalar.select (BitVec.ofBool ((BitVec.ofNat 32 (j 1).val).sle (BitVec.ofNat 32 (j 0).val + 0#32))) 1#1 0#1 = BitVec.ofBool (decide _)
  rw [BitVec.add_zero, sle_ofNat _ _ (by omega) (by omega)]
  cases decide ((j 1).val ≤ (j 0).val) <;> rfl
/-- The mask of the rows before each chunk. -/
theorem h_before (d0 d1) (h0 : d0 = 0) (h1 : d1 = 0) (e1 e2 e3 e4 e5) (he1 : e1 = ![0, 1]) (he2 : e2 = ![1]) (he3 : e3 = ![0, 1]) (he5 : e5 = ![0]) (h h' h'' hh k) :
    cmpi .slt (broadcastInDim ⟨2, ![128, 8192]⟩ e1 h (broadcastInDim ⟨2, ![1, 8192]⟩ e2 h' (iotaInDim ⟨1, ![8192]⟩ 32 d0)))
      (broadcastInDim ⟨2, ![128, 8192]⟩ e3 h'' (muli (broadcastInDim ⟨2, ![128, 1]⟩ e4 hh (constantI ⟨0, ![]⟩ 32 64#32)) (broadcastInDim ⟨2, ![128, 1]⟩ e5 k (iotaInDim ⟨1, ![128]⟩ 32 d1))))
      = M2 (fun n s => decide (s < 64 * n)) := by
  subst h0 h1 he1 he2 he3 he5
  funext j
  have a0 : (j 0).val < 128 := (j 0).isLt
  have a1 : (j 1).val < 8192 := (j 1).isLt
  show BitVec.ofBool ((BitVec.ofNat 32 (j 1).val).slt (BitVec.ofNat 32 64 * BitVec.ofNat 32 (j 0).val)) = BitVec.ofBool (decide _)
  rw [← BitVec.ofNat_mul, slt_ofNat _ _ (by omega) (by omega)]

theorem hb_S128x1x4x128_S128x8192x4x128_0_1_2_3 (f : ℕ → ℕ → ℕ → ℕ → ℝ) (dims) (hd : dims = ![0, 1, 2, 3]) (h) :
    broadcastInDim ⟨4, ![128, 8192, 4, 128]⟩ dims h (V4 (m := 128) (n := 1) (w := 4) (d := 128) f) = V4 (fun a _ r l => f a 0 r l) := by
  subst hd
  funext j
  pointwise
  rfl

theorem hb_S128x4x128_S128x1x4x128_0_2_3 (f : ℕ → ℕ → ℕ → ℝ) (dims) (hd : dims = ![0, 2, 3]) (h) :
    broadcastInDim ⟨4, ![128, 1, 4, 128]⟩ dims h (V3 (n := 128) (w := 4) (d := 128) f) = V4 (fun a _ r l => f a r l) := by
  subst hd
  funext j
  pointwise
  rfl

theorem hbm_S128x8192_S128x8192x1x1_0_1 (f : ℕ → ℕ → Bool) (dims) (hd : dims = ![0, 1]) (h) :
    broadcastInDim ⟨4, ![128, 8192, 1, 1]⟩ dims h (M2 (n := 128) (d := 8192) f) = M4 (fun a b _ _ => f a b) := by
  subst hd
  funext j
  pointwise
  rfl

theorem hbm_S128x8192x1x1_S128x8192x4x128_0_1_2_3 (f : ℕ → ℕ → ℕ → ℕ → Bool) (dims) (hd : dims = ![0, 1, 2, 3]) (h) :
    broadcastInDim ⟨4, ![128, 8192, 4, 128]⟩ dims h (M4 (m := 128) (n := 8192) (w := 1) (d := 1) f) = M4 (fun a b _ _ => f a b 0 0) := by
  subst hd
  funext j
  pointwise
  rfl

theorem hb_S1x4x128_S8192x4x128_0_1_2 (f : ℕ → ℕ → ℕ → ℝ) (dims) (hd : dims = ![0, 1, 2]) (h) :
    broadcastInDim ⟨3, ![8192, 4, 128]⟩ dims h (V3 (n := 1) (w := 4) (d := 128) f) = V3 (fun _ r l => f 0 r l) := by
  subst hd
  funext j
  pointwise
  rfl

theorem hb_S1x8192x4x128_S128x8192x4x128_0_1_2_3 (f : ℕ → ℕ → ℕ → ℕ → ℝ) (dims) (hd : dims = ![0, 1, 2, 3]) (h) :
    broadcastInDim ⟨4, ![128, 8192, 4, 128]⟩ dims h (V4 (m := 1) (n := 8192) (w := 4) (d := 128) f) = V4 (fun _ b r l => f 0 b r l) := by
  subst hd
  funext j
  pointwise
  rfl

theorem hb_S1x8192x4x128_S8192x8192x4x128_0_1_2_3 (f : ℕ → ℕ → ℕ → ℕ → ℝ) (dims) (hd : dims = ![0, 1, 2, 3]) (h) :
    broadcastInDim ⟨4, ![8192, 8192, 4, 128]⟩ dims h (V4 (m := 1) (n := 8192) (w := 4) (d := 128) f) = V4 (fun _ b r l => f 0 b r l) := by
  subst hd
  funext j
  pointwise
  rfl

theorem hb_S4x128_S1x4x128_1_2 (f : ℕ → ℕ → ℝ) (dims) (hd : dims = ![1, 2]) (h) :
    broadcastInDim ⟨3, ![1, 4, 128]⟩ dims h (V2 (n := 4) (d := 128) f) = V3 (fun _ r l => f r l) := by
  subst hd
  funext j
  pointwise
  rfl

theorem hb_S8192x1x4x128_S8192x8192x4x128_0_1_2_3 (f : ℕ → ℕ → ℕ → ℕ → ℝ) (dims) (hd : dims = ![0, 1, 2, 3]) (h) :
    broadcastInDim ⟨4, ![8192, 8192, 4, 128]⟩ dims h (V4 (m := 8192) (n := 1) (w := 4) (d := 128) f) = V4 (fun a _ r l => f a 0 r l) := by
  subst hd
  funext j
  pointwise
  rfl

theorem hb_S8192x4x128_S1x8192x4x128_1_2_3 (f : ℕ → ℕ → ℕ → ℝ) (dims) (hd : dims = ![1, 2, 3]) (h) :
    broadcastInDim ⟨4, ![1, 8192, 4, 128]⟩ dims h (V3 (n := 8192) (w := 4) (d := 128) f) = V4 (fun _ b r l => f b r l) := by
  subst hd
  funext j
  pointwise
  rfl

theorem hb_S8192x4x128_S8192x1x4x128_0_2_3 (f : ℕ → ℕ → ℕ → ℝ) (dims) (hd : dims = ![0, 2, 3]) (h) :
    broadcastInDim ⟨4, ![8192, 1, 4, 128]⟩ dims h (V3 (n := 8192) (w := 4) (d := 128) f) = V4 (fun a _ r l => f a r l) := by
  subst hd
  funext j
  pointwise
  rfl

theorem hb_S8192x4x128_S8192x4x1x128_0_1_3 (f : ℕ → ℕ → ℕ → ℝ) (dims) (hd : dims = ![0, 1, 3]) (h) :
    broadcastInDim ⟨4, ![8192, 4, 1, 128]⟩ dims h (V3 (n := 8192) (w := 4) (d := 128) f) = V4 (fun a b _ l => f a b l) := by
  subst hd
  funext j
  pointwise
  rfl

theorem hbm_S8192x8192_S8192x8192x1x1_0_1 (f : ℕ → ℕ → Bool) (dims) (hd : dims = ![0, 1]) (h) :
    broadcastInDim ⟨4, ![8192, 8192, 1, 1]⟩ dims h (M2 (n := 8192) (d := 8192) f) = M4 (fun a b _ _ => f a b) := by
  subst hd
  funext j
  pointwise
  rfl

theorem hbm_S8192x8192x1x1_S8192x8192x4x128_0_1_2_3 (f : ℕ → ℕ → ℕ → ℕ → Bool) (dims) (hd : dims = ![0, 1, 2, 3]) (h) :
    broadcastInDim ⟨4, ![8192, 8192, 4, 128]⟩ dims h (M4 (m := 8192) (n := 8192) (w := 1) (d := 1) f) = M4 (fun a b _ _ => f a b 0 0) := by
  subst hd
  funext j
  pointwise
  rfl

theorem hb_S8192x8192x4_S8192x8192x4x128_0_1_2 (f : ℕ → ℕ → ℕ → ℝ) (dims) (hd : dims = ![0, 1, 2]) (h) :
    broadcastInDim ⟨4, ![8192, 8192, 4, 128]⟩ dims h (V3 (n := 8192) (w := 8192) (d := 4) f) = V4 (fun a b r _ => f a b r) := by
  subst hd
  funext j
  pointwise
  rfl

theorem hr_S1x4x128_S4x128_d0 (f : ℕ → ℕ → ℕ → ℝ) (axes) (ha : axes = [0]) (h : Shape.ReducesTo ⟨3, ![1, 4, 128]⟩ axes ⟨2, ![4, 128]⟩) (hu) :
    Host.reduceAdd (F := Ideal) (φ := .f32) (s := ⟨3, ![1, 4, 128]⟩) (t := ⟨2, ![4, 128]⟩) (u := ⟨0, ![]⟩) (V3 (n := 1) (w := 4) (d := 128) f) (constant (F := Ideal) ⟨0, ![]⟩ .f32 0x00000000#32) h hu = V2 (fun t l => ∑ x ∈ Finset.range 1, f x t l) := by
  subst ha
  funext j
  pointwise
  exact sum_fin fun x => f x (j 0).val (j 1).val

theorem hr_S1x8192x4x128_S8192x4x128_d0 (f : ℕ → ℕ → ℕ → ℕ → ℝ) (axes) (ha : axes = [0]) (h : Shape.ReducesTo ⟨4, ![1, 8192, 4, 128]⟩ axes ⟨3, ![8192, 4, 128]⟩) (hu) :
    Host.reduceAdd (F := Ideal) (φ := .f32) (s := ⟨4, ![1, 8192, 4, 128]⟩) (t := ⟨3, ![8192, 4, 128]⟩) (u := ⟨0, ![]⟩) (V4 (m := 1) (n := 8192) (w := 4) (d := 128) f) (constant (F := Ideal) ⟨0, ![]⟩ .f32 0x00000000#32) h hu = V3 (fun b r l => ∑ x ∈ Finset.range 1, f x b r l) := by
  subst ha
  funext j
  pointwise
  exact sum_fin fun x => f x (j 0).val (j 1).val (j 2).val

theorem hr_S8192x1x4x128_S8192x4x128_d1 (f : ℕ → ℕ → ℕ → ℕ → ℝ) (axes) (ha : axes = [1]) (h : Shape.ReducesTo ⟨4, ![8192, 1, 4, 128]⟩ axes ⟨3, ![8192, 4, 128]⟩) (hu) :
    Host.reduceAdd (F := Ideal) (φ := .f32) (s := ⟨4, ![8192, 1, 4, 128]⟩) (t := ⟨3, ![8192, 4, 128]⟩) (u := ⟨0, ![]⟩) (V4 (m := 8192) (n := 1) (w := 4) (d := 128) f) (constant (F := Ideal) ⟨0, ![]⟩ .f32 0x00000000#32) h hu = V3 (fun b r l => ∑ x ∈ Finset.range 1, f b x r l) := by
  subst ha
  funext j
  pointwise
  exact sum_fin fun x => f (j 0).val x (j 1).val (j 2).val

theorem hr_S8192x4x128_S4x128_d0 (f : ℕ → ℕ → ℕ → ℝ) (axes) (ha : axes = [0]) (h : Shape.ReducesTo ⟨3, ![8192, 4, 128]⟩ axes ⟨2, ![4, 128]⟩) (hu) :
    Host.reduceAdd (F := Ideal) (φ := .f32) (s := ⟨3, ![8192, 4, 128]⟩) (t := ⟨2, ![4, 128]⟩) (u := ⟨0, ![]⟩) (V3 (n := 8192) (w := 4) (d := 128) f) (constant (F := Ideal) ⟨0, ![]⟩ .f32 0x00000000#32) h hu = V2 (fun t l => ∑ x ∈ Finset.range 8192, f x t l) := by
  subst ha
  funext j
  pointwise
  exact sum_fin fun x => f x (j 0).val (j 1).val

theorem hr_S8192x8192x4x128_S8192x4x128_d0 (f : ℕ → ℕ → ℕ → ℕ → ℝ) (axes) (ha : axes = [0]) (h : Shape.ReducesTo ⟨4, ![8192, 8192, 4, 128]⟩ axes ⟨3, ![8192, 4, 128]⟩) (hu) :
    Host.reduceAdd (F := Ideal) (φ := .f32) (s := ⟨4, ![8192, 8192, 4, 128]⟩) (t := ⟨3, ![8192, 4, 128]⟩) (u := ⟨0, ![]⟩) (V4 (m := 8192) (n := 8192) (w := 4) (d := 128) f) (constant (F := Ideal) ⟨0, ![]⟩ .f32 0x00000000#32) h hu = V3 (fun b r l => ∑ x ∈ Finset.range 8192, f x b r l) := by
  subst ha
  funext j
  pointwise
  exact sum_fin fun x => f x (j 0).val (j 1).val (j 2).val

theorem hr_S8192x8192x4x128_S8192x4x128_d1 (f : ℕ → ℕ → ℕ → ℕ → ℝ) (axes) (ha : axes = [1]) (h : Shape.ReducesTo ⟨4, ![8192, 8192, 4, 128]⟩ axes ⟨3, ![8192, 4, 128]⟩) (hu) :
    Host.reduceAdd (F := Ideal) (φ := .f32) (s := ⟨4, ![8192, 8192, 4, 128]⟩) (t := ⟨3, ![8192, 4, 128]⟩) (u := ⟨0, ![]⟩) (V4 (m := 8192) (n := 8192) (w := 4) (d := 128) f) (constant (F := Ideal) ⟨0, ![]⟩ .f32 0x00000000#32) h hu = V3 (fun b r l => ∑ x ∈ Finset.range 8192, f b x r l) := by
  subst ha
  funext j
  pointwise
  exact sum_fin fun x => f (j 0).val x (j 1).val (j 2).val

theorem hr_S8192x8192x4x128_S8192x8192x4_d3 (f : ℕ → ℕ → ℕ → ℕ → ℝ) (axes) (ha : axes = [3]) (h : Shape.ReducesTo ⟨4, ![8192, 8192, 4, 128]⟩ axes ⟨3, ![8192, 8192, 4]⟩) (hu) :
    Host.reduceAdd (F := Ideal) (φ := .f32) (s := ⟨4, ![8192, 8192, 4, 128]⟩) (t := ⟨3, ![8192, 8192, 4]⟩) (u := ⟨0, ![]⟩) (V4 (m := 8192) (n := 8192) (w := 4) (d := 128) f) (constant (F := Ideal) ⟨0, ![]⟩ .f32 0x00000000#32) h hu = V3 (fun b r l => ∑ x ∈ Finset.range 128, f b r l x) := by
  subst ha
  funext j
  pointwise
  exact sum_fin fun x => f (j 0).val (j 1).val (j 2).val x

theorem hc_S1x512_S4x128 (f : ℕ → ℕ → ℝ) (h) :
    shapeCast ⟨2, ![4, 128]⟩ (V2 (n := 1) (d := 512) f) h = V2 (fun t l => f 0 ((t * 128 + l))) := by
  funext j
  pointwise
  first | rfl | (simp only [V2, V3, V4]; congr 2 <;> omega) | (simp only [V2, V3, V4]; congr 1; congr 1; omega)

theorem hc_S4x128_S1x4x128 (f : ℕ → ℕ → ℝ) (h) :
    shapeCast ⟨3, ![1, 4, 128]⟩ (V2 (n := 4) (d := 128) f) h = V3 (fun _ r l => f r l) := by
  funext j
  pointwise
  first | rfl | (simp only [V2, V3, V4]; congr 2 <;> omega) | (simp only [V2, V3, V4]; congr 1; congr 1; omega)

theorem hc_S4x128_S1x512 (f : ℕ → ℕ → ℝ) (h) :
    shapeCast ⟨2, ![1, 512]⟩ (V2 (n := 4) (d := 128) f) h = V2 (fun _ l => f (l / 128) (l % 128)) := by
  funext j
  pointwise
  first | rfl | (simp only [V2, V3, V4]; congr 2 <;> omega) | (simp only [V2, V3, V4]; congr 1; congr 1; omega)

theorem hc_S8192x1536_S8192x4x3x128 (f : ℕ → ℕ → ℝ) (h) :
    shapeCast ⟨4, ![8192, 4, 3, 128]⟩ (V2 (n := 8192) (d := 1536) f) h = V4 (fun a b r l => f a (b * 384 + r * 128 + l)) := by
  funext j
  pointwise
  first | rfl | (simp only [V2, V3, V4]; congr 2 <;> omega) | (simp only [V2, V3, V4]; congr 1; congr 1; omega)

theorem hc_S8192x4x128_S1x8192x4x128 (f : ℕ → ℕ → ℕ → ℝ) (h) :
    shapeCast ⟨4, ![1, 8192, 4, 128]⟩ (V3 (n := 8192) (w := 4) (d := 128) f) h = V4 (fun _ b r l => f b r l) := by
  funext j
  pointwise
  first | rfl | (simp only [V2, V3, V4]; congr 2 <;> omega) | (simp only [V2, V3, V4]; congr 1; congr 1; omega)

theorem hc_S8192x4x128_S8192x1x4x128 (f : ℕ → ℕ → ℕ → ℝ) (h) :
    shapeCast ⟨4, ![8192, 1, 4, 128]⟩ (V3 (n := 8192) (w := 4) (d := 128) f) h = V4 (fun a _ r l => f a r l) := by
  funext j
  pointwise
  first | rfl | (simp only [V2, V3, V4]; congr 2 <;> omega) | (simp only [V2, V3, V4]; congr 1; congr 1; omega)

theorem hc_S8192x4x128_S8192x512 (f : ℕ → ℕ → ℕ → ℝ) (h) :
    shapeCast ⟨2, ![8192, 512]⟩ (V3 (n := 8192) (w := 4) (d := 128) f) h = V2 (fun t l => f t (l / 128) (l % 128)) := by
  funext j
  pointwise
  first | rfl | (simp only [V2, V3, V4]; congr 2 <;> omega) | (simp only [V2, V3, V4]; congr 1; congr 1; omega)

theorem hc_S8192x4x1x128_S8192x4x128 (f : ℕ → ℕ → ℕ → ℕ → ℝ) (h) :
    shapeCast ⟨3, ![8192, 4, 128]⟩ (V4 (m := 8192) (n := 4) (w := 1) (d := 128) f) h = V3 (fun b r l => f b r 0 l) := by
  funext j
  pointwise
  first | rfl | (simp only [V2, V3, V4]; congr 2 <;> omega) | (simp only [V2, V3, V4]; congr 1; congr 1; omega)

theorem hc_S8192x4x3x128_S8192x1536 (f : ℕ → ℕ → ℕ → ℕ → ℝ) (h) :
    shapeCast ⟨2, ![8192, 1536]⟩ (V4 (m := 8192) (n := 4) (w := 3) (d := 128) f) h = V2 (fun t l => f t (l / 384) ((l / 128) % 3) (l % 128)) := by
  funext j
  pointwise
  first | rfl | (simp only [V2, V3, V4]; congr 2 <;> omega) | (simp only [V2, V3, V4]; congr 1; congr 1; omega)

theorem hc_S8192x512_S8192x4x128 (f : ℕ → ℕ → ℝ) (h) :
    shapeCast ⟨3, ![8192, 4, 128]⟩ (V2 (n := 8192) (d := 512) f) h = V3 (fun b r l => f b (r * 128 + l)) := by
  funext j
  pointwise
  first | rfl | (simp only [V2, V3, V4]; congr 2 <;> omega) | (simp only [V2, V3, V4]; congr 1; congr 1; omega)

theorem hsb (f : ℕ → ℕ → ℕ → ℝ) (o q) (ho : o = ![63, 0, 0]) (hq : q = ![64, 1, 1]) (h) :
    Host.slice ⟨3, ![127, 4, 128]⟩ o q (V3 (n := 8192) (w := 4) (d := 128) f) h = V3 (fun b r l => f (63 + 64 * b) r l) := by
  subst ho hq
  funext j
  pointwise
  rfl

theorem hs_S8192x4x3x128_S8192x4x1x128_0_0_0_0 (f : ℕ → ℕ → ℕ → ℕ → ℝ) (o) (ho : o = ![0, 0, 0, 0]) (h) :
    extractStridedSlice ⟨4, ![8192, 4, 1, 128]⟩ o (V4 (m := 8192) (n := 4) (w := 3) (d := 128) f) h = V4 (fun a b _ l => f a b 0 l) := by
  subst ho
  funext j
  pointwise
  rfl

theorem hs_S8192x4x3x128_S8192x4x1x128_0_0_1_0 (f : ℕ → ℕ → ℕ → ℕ → ℝ) (o) (ho : o = ![0, 0, 1, 0]) (h) :
    extractStridedSlice ⟨4, ![8192, 4, 1, 128]⟩ o (V4 (m := 8192) (n := 4) (w := 3) (d := 128) f) h = V4 (fun a b _ l => f a b 1 l) := by
  subst ho
  funext j
  pointwise
  rfl

theorem hs_S8192x4x3x128_S8192x4x1x128_0_0_2_0 (f : ℕ → ℕ → ℕ → ℕ → ℝ) (o) (ho : o = ![0, 0, 2, 0]) (h) :
    extractStridedSlice ⟨4, ![8192, 4, 1, 128]⟩ o (V4 (m := 8192) (n := 4) (w := 3) (d := 128) f) h = V4 (fun a b _ l => f a b 2 l) := by
  subst ho
  funext j
  pointwise
  rfl

theorem ht_S4x128x128x128_S4x128x128x128_0_1_3_2 (f : ℕ → ℕ → ℕ → ℕ → ℝ) (q) (hq : q = [0, 1, 3, 2]) (h) :
    transpose ⟨4, ![4, 128, 128, 128]⟩ q (V4 (m := 4) (n := 128) (w := 128) (d := 128) f) h = V4 (fun a b r l => f a b l r) := by
  subst hq
  funext j
  pointwise
  rfl

theorem ht_S4x128x8192_S8192x4x128_2_0_1 (f : ℕ → ℕ → ℕ → ℝ) (q) (hq : q = [2, 0, 1]) (h) :
    transpose ⟨3, ![8192, 4, 128]⟩ q (V3 (n := 4) (w := 128) (d := 8192) f) h = V3 (fun b r l => f r l b) := by
  subst hq
  funext j
  pointwise
  rfl

theorem ht_S4x8192x8192_S8192x8192x4_1_2_0 (f : ℕ → ℕ → ℕ → ℝ) (q) (hq : q = [1, 2, 0]) (h) :
    transpose ⟨3, ![8192, 8192, 4]⟩ q (V3 (n := 4) (w := 8192) (d := 8192) f) h = V3 (fun b r l => f l b r) := by
  subst hq
  funext j
  pointwise
  rfl

theorem ht_S8192x4x128_S4x128x8192_1_2_0 (f : ℕ → ℕ → ℕ → ℝ) (q) (hq : q = [1, 2, 0]) (h) :
    transpose ⟨3, ![4, 128, 8192]⟩ q (V3 (n := 8192) (w := 4) (d := 128) f) h = V3 (fun b r l => f l b r) := by
  subst hq
  funext j
  pointwise
  rfl

end Cert.Hgrn
-- ==== Proof.Window.lean ====
module

public import proofs.«01_k».proof.Proof.HostOps
public import Idealize.ShloMosaic.Lib.Pipeline.ValueKit
public import Idealize.ShloMosaic.Lib.Pointwise

@[expose] public section

set_option maxRecDepth 16384

noncomputable section

namespace Cert.Hgrn
open Idealize.ShloMosaic Idealize.SL.Sem

/-! Running sums as the host spells them: a sum over windows of the whole height. -/

/-- A fold of additions is a sum. -/
theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A sum over windows of the whole height and width one, over an array of reals: the rows the window meets. -/
theorem window_sum (N W D L H : ℕ) (f : ℕ → ℕ → ℕ → ℝ) (z) (hz : z = ZR)
    (h : Shape.ReduceWindows ⟨3, ![N, W, D]⟩ ![N, 1, 1] ![1, 1, 1] ![L, 0, 0] ![H, 0, 0] ⟨3, ![N, W, D]⟩) (hu) :
    Host.reduceWindowAdd (F := Ideal) (φ := .f32) (s := ⟨3, ![N, W, D]⟩) (t := ⟨3, ![N, W, D]⟩) (u := ⟨0, ![]⟩) ![N, 1, 1] ![1, 1, 1] ![L, 0, 0] ![H, 0, 0] (V3 f) z h hu
      = V3 (fun t b l => ∑ n ∈ Finset.range N, if L ≤ t + n ∧ t + n - L < N then f (t + n - L) b l else 0) := by
  subst hz
  funext j
  show Host.reduceWindow _ _ _ _ _ _ _ h _ j = _
  unfold Host.reduceWindow
  dsimp only
  rw [foldl_sum, ← Fin.sum_univ_def]
  have hN : (⟨3, ![N, 1, 1]⟩ : Shape).numel = N := by simp [Shape.numel, Fin.prod_univ_three]
  have e : ∀ n : Fin (⟨3, ![N, 1, 1]⟩ : Shape).numel, ((⟨3, ![N, 1, 1]⟩ : Shape).rowMajor.symm n 0).val = n.val := fun n => by
    have q := Shape.rowMajor_val_three ((⟨3, ![N, 1, 1]⟩ : Shape).rowMajor.symm n)
    rw [Equiv.apply_symm_apply] at q
    have q1 : ((⟨3, ![N, 1, 1]⟩ : Shape).rowMajor.symm n 1).val < 1 := ((⟨3, ![N, 1, 1]⟩ : Shape).rowMajor.symm n 1).isLt
    have q2 : ((⟨3, ![N, 1, 1]⟩ : Shape).rowMajor.symm n 2).val < 1 := ((⟨3, ![N, 1, 1]⟩ : Shape).rowMajor.symm n 2).isLt
    have q3 : n.val = ((⟨3, ![N, 1, 1]⟩ : Shape).rowMajor.symm n 0).val * (1 * 1) + (((⟨3, ![N, 1, 1]⟩ : Shape).rowMajor.symm n 1).val * 1 + ((⟨3, ![N, 1, 1]⟩ : Shape).rowMajor.symm n 2).val) := by
      refine q.trans ?_
      first | rfl | (simp; ring) | simp
    omega
  have e1 : ∀ n : Fin (⟨3, ![N, 1, 1]⟩ : Shape).numel, ((⟨3, ![N, 1, 1]⟩ : Shape).rowMajor.symm n 1).val = 0 := fun n =>
    Nat.lt_one_iff.mp ((⟨3, ![N, 1, 1]⟩ : Shape).rowMajor.symm n 1).isLt
  have e2 : ∀ n : Fin (⟨3, ![N, 1, 1]⟩ : Shape).numel, ((⟨3, ![N, 1, 1]⟩ : Shape).rowMajor.symm n 2).val = 0 := fun n =>
    Nat.lt_one_iff.mp ((⟨3, ![N, 1, 1]⟩ : Shape).rowMajor.symm n 2).isLt
  refine Eq.trans (congrArg₂ (· + ·) (show ZR _ = 0 from ZR_apply _) (Finset.sum_congr rfl fun n _ => ?_)) (Eq.trans (zero_add _) ((sum_fin (fun n =>
    if L ≤ (j 0).val + n ∧ (j 0).val + n - L < N then f ((j 0).val + n - L) (j 1).val (j 2).val else 0)).trans (by rw [hN]; rfl)))
  have i1 : (j 1).val < W := (j 1).isLt
  have i2 : (j 2).val < D := (j 2).isLt
  split
  · next hin =>
    have h0 := hin 0
    change L ≤ (j 0).val * 1 + ((⟨3, ![N, 1, 1]⟩ : Shape).rowMajor.symm n 0).val
      ∧ (j 0).val * 1 + ((⟨3, ![N, 1, 1]⟩ : Shape).rowMajor.symm n 0).val - L < N at h0
    rw [e, mul_one] at h0
    rw [if_pos h0]
    show ((f ((j 0).val * 1 + ((⟨3, ![N, 1, 1]⟩ : Shape).rowMajor.symm n 0).val - L) ((j 1).val * 1 + ((⟨3, ![N, 1, 1]⟩ : Shape).rowMajor.symm n 1).val - 0)
      ((j 2).val * 1 + ((⟨3, ![N, 1, 1]⟩ : Shape).rowMajor.symm n 2).val - 0) : ℝ) : EReal) = _
    rw [e, e1, e2, mul_one, mul_one, mul_one, add_zero, add_zero, Nat.sub_zero, Nat.sub_zero]
  · next hin =>
    rw [if_neg fun h0 => hin fun a => by
      match a with
      | ⟨0, _⟩ =>
        show L ≤ (j 0).val * 1 + ((⟨3, ![N, 1, 1]⟩ : Shape).rowMajor.symm n 0).val
          ∧ (j 0).val * 1 + ((⟨3, ![N, 1, 1]⟩ : Shape).rowMajor.symm n 0).val - L < N
        rw [e, mul_one]
        exact h0
      | ⟨1, _⟩ =>
        show 0 ≤ (j 1).val * 1 + ((⟨3, ![N, 1, 1]⟩ : Shape).rowMajor.symm n 1).val ∧ (j 1).val * 1 + ((⟨3, ![N, 1, 1]⟩ : Shape).rowMajor.symm n 1).val - 0 < W
        rw [e1]
        omega
      | ⟨2, _⟩ =>
        show 0 ≤ (j 2).val * 1 + ((⟨3, ![N, 1, 1]⟩ : Shape).rowMajor.symm n 2).val ∧ (j 2).val * 1 + ((⟨3, ![N, 1, 1]⟩ : Shape).rowMajor.symm n 2).val - 0 < D
        rw [e2]
        omega]
    exact (show ZR _ = 0 from ZR_apply _).trans EReal.coe_zero.symm

/-- The running sum down the rows. -/
theorem cumsum_down (f : ℕ → ℕ → ℕ → ℝ) (z) (hz : z = ZR)
    (h : Shape.ReduceWindows ⟨3, ![8192, 4, 128]⟩ ![8192, 1, 1] ![1, 1, 1] ![8191, 0, 0] ![0, 0, 0] ⟨3, ![8192, 4, 128]⟩) (hu) :
    Host.reduceWindowAdd (F := Ideal) (φ := .f32) (s := ⟨3, ![8192, 4, 128]⟩) (t := ⟨3, ![8192, 4, 128]⟩) (u := ⟨0, ![]⟩) ![8192, 1, 1] ![1, 1, 1] ![8191, 0, 0] ![0, 0, 0] (V3 f) z h hu
      = V3 (fun t b l => ∑ s ∈ Finset.range (t + 1), f s b l) := by
  rw [window_sum 8192 4 128 8191 0 f z hz]
  refine V3_congr fun t ht b _ l _ => ?_
  rw [← Finset.sum_filter]
  refine Finset.sum_bij' (fun n _ => t + n - 8191) (fun s _ => s + 8191 - t) ?_ ?_ ?_ ?_ ?_
  · intro n hn; simp only [Finset.mem_filter, Finset.mem_range] at hn ⊢; omega
  · intro s hs; simp only [Finset.mem_filter, Finset.mem_range] at hs ⊢; omega
  · intro n hn; simp only [Finset.mem_filter, Finset.mem_range] at hn; omega
  · intro s hs; simp only [Finset.mem_range] at hs; omega
  · intro n _; rfl

/-- The running sum up the rows. -/
theorem cumsum_up (f : ℕ → ℕ → ℕ → ℝ) (z) (hz : z = ZR)
    (h : Shape.ReduceWindows ⟨3, ![8192, 4, 128]⟩ ![8192, 1, 1] ![1, 1, 1] ![0, 0, 0] ![8191, 0, 0] ⟨3, ![8192, 4, 128]⟩) (hu) :
    Host.reduceWindowAdd (F := Ideal) (φ := .f32) (s := ⟨3, ![8192, 4, 128]⟩) (t := ⟨3, ![8192, 4, 128]⟩) (u := ⟨0, ![]⟩) ![8192, 1, 1] ![1, 1, 1] ![0, 0, 0] ![8191, 0, 0] (V3 f) z h hu
      = V3 (fun t b l => ∑ u ∈ Finset.range 8192, if t ≤ u then f u b l else 0) := by
  rw [window_sum 8192 4 128 0 8191 f z hz]
  refine V3_congr fun t ht b _ l _ => ?_
  rw [← Finset.sum_filter, ← Finset.sum_filter]
  refine Finset.sum_bij' (fun n _ => t + n - 0) (fun u _ => u - t) ?_ ?_ ?_ ?_ ?_
  · intro n hn; simp only [Finset.mem_filter, Finset.mem_range] at hn ⊢; omega
  · intro s hs; simp only [Finset.mem_filter, Finset.mem_range] at hs ⊢; omega
  · intro n hn; simp only [Finset.mem_filter, Finset.mem_range] at hn; omega
  · intro s hs; simp only [Finset.mem_filter, Finset.mem_range] at hs; omega
  · intro n _; rfl

end Cert.Hgrn
-- ==== Proof.StatesB.lean ====
module

public import proofs.«01_k».proof.Proof.Window
public import proofs.«01_k».proof.Proof.Global
public import proofs.«01_k».proof.Proof.Intra
public import proofs.«01_k».proof.Proof.Gen.KernelIdeal.Frame
public import Idealize.ShloMosaic.Lib.Pointwise
public import Idealize.ShloMosaic.Lib.Claim

@[expose] public section

set_option maxRecDepth 16384

noncomputable section

namespace Cert.Hgrn.Bwd
open Cert.KernelIdeal Cert.KernelIdeal.Gen Idealize.ShloMosaic Idealize.ShloMosaic.TcCoe Idealize.SL.Sem Cert.Hgrn

/-! The states before every chunk, computed from the columns and the lower bounds in host lines. -/

theorem dot_states (f : ℕ → ℕ → ℕ → ℕ → ℝ) (e : ℕ → ℕ → ℕ → ℝ) (q) :
    Host.dotGeneral (F := Ideal) (φ₁ := .f32) (φ₂ := .f32) dot_S128x8192x4x128_S8192x4x128_S4x128x128x128_1_0_03_2_2_1 q (V4 f) (V3 e)
      = (V4 (fun h n l x => ∑ s ∈ Finset.range 8192, f n s h l * e s h x) : FVec Ideal S4x128x128x128 .f32) := by
  funext j
  pointwise
  exact sum_fin_mul (fun s => f (j 1).val s (j 0).val (j 2).val) (fun s => e s (j 0).val (j 3).val)

/-- One array, then another, along axis zero. -/
def cat2 (x : S1x4x128.Idx → EReal) (y : S127x4x128.Idx → EReal) : S128x4x128.Idx → EReal :=
  concatenate S128x4x128 0 [⟨S1x4x128, x⟩, ⟨S127x4x128, y⟩] concatenates_S1x4x128_S127x4x128_S128x4x128_d0
theorem to_cat2 (x : S1x4x128.Idx → EReal) (y : S127x4x128.Idx → EReal) (h) :
    concatenate S128x4x128 0 [⟨S1x4x128, x⟩, ⟨S127x4x128, y⟩] h = cat2 x y := rfl
theorem cat2_V3 (f g : ℕ → ℕ → ℕ → ℝ) : cat2 (V3 f) (V3 g) = V3 (fun n h l => if n < 1 then f n h l else g (n - 1) h l) := by
  funext j
  unfold cat2
  pointwise
  simp only [V3]
  split_ifs <;> rfl

/-- The states, from the projection `A0` and the lower bounds `A1`. -/
def hostStates (A0 : FVec Ideal S8192x10752 .bf16) (A1 : FVec Ideal S1x512 .f32) : FVec Ideal S4x128x128x128 .f32 :=
  transpose S4x128x128x128 [0, 1, 3, 2] (Host.dotGeneral (F := Ideal) (φ₁ := .f32) (φ₂ := .f32) dot_S128x8192x4x128_S8192x4x128_S4x128x128x128_1_0_03_2_2_1 none (mulf (select (broadcastInDim S128x8192x4x128 ![0, 1, 2, 3] bcast_S128x8192x1x1_S128x8192x4x128_0_1_2_3 (broadcastInDim S128x8192x1x1 ![0, 1] bcast_S128x8192_S128x8192x1x1_0_1 (cmpi .slt (broadcastInDim S128x8192 ![0, 1] bcast_S1x8192_S128x8192_0_1 (broadcastInDim S1x8192 ![1] bcast_S8192_S1x8192_1 (iotaInDim S8192 32 0))) (broadcastInDim S128x8192 ![0, 1] bcast_S128x1_S128x8192_0_1 (muli (broadcastInDim S128x1 ![] bcast_S_S128x1 (constantI S_ 32 64#32)) (broadcastInDim S128x1 ![0] bcast_S128_S128x1_0 (iotaInDim S128 32 0))))))) (Host.exp (select (broadcastInDim S128x8192x4x128 ![0, 1, 2, 3] bcast_S128x8192x1x1_S128x8192x4x128_0_1_2_3 (broadcastInDim S128x8192x1x1 ![0, 1] bcast_S128x8192_S128x8192x1x1_0_1 (cmpi .slt (broadcastInDim S128x8192 ![0, 1] bcast_S1x8192_S128x8192_0_1 (broadcastInDim S1x8192 ![1] bcast_S8192_S1x8192_1 (iotaInDim S8192 32 0))) (broadcastInDim S128x8192 ![0, 1] bcast_S128x1_S128x8192_0_1 (muli (broadcastInDim S128x1 ![] bcast_S_S128x1 (constantI S_ 32 64#32)) (broadcastInDim S128x1 ![0] bcast_S128_S128x1_0 (iotaInDim S128 32 0))))))) (subf (broadcastInDim S128x8192x4x128 ![0, 1, 2, 3] bcast_S128x1x4x128_S128x8192x4x128_0_1_2_3 (broadcastInDim S128x1x4x128 ![0, 2, 3] bcast_S128x4x128_S128x1x4x128_0_2_3 (concatenate S128x4x128 0 [⟨S1x4x128, (broadcastInDim S1x4x128 ![] bcast_S_S1x4x128 (constant (F := Ideal) S_ .f32 0x00000000#32))⟩, ⟨S127x4x128, (Host.slice S127x4x128 ![63, 0, 0] ![64, 1, 1] (Host.reduceWindowAdd ![8192, 1, 1] ![1, 1, 1] ![8191, 0, 0] ![0, 0, 0] (Host.log (maximumf (addf (broadcastInDim S8192x4x128 ![0, 1, 2] bcast_S1x4x128_S8192x4x128_0_1_2 (broadcastInDim S1x4x128 ![1, 2] bcast_S4x128_S1x4x128_1_2 (shapeCast S4x128 A1 shapeCasts_S1x512_S4x128))) (mulf (broadcastInDim S8192x4x128 ![0, 1, 2] bcast_S1x4x128_S8192x4x128_0_1_2 (broadcastInDim S1x4x128 ![1, 2] bcast_S4x128_S1x4x128_1_2 (subf (broadcastInDim S4x128 ![] bcast_S_S4x128 (constant (F := Ideal) S_ .f32 0x3F800000#32)) (shapeCast S4x128 A1 shapeCasts_S1x512_S4x128)))) (Host.divf (broadcastInDim S8192x4x128 ![] bcast_S_S8192x4x128 (constant (F := Ideal) S_ .f32 0x3F800000#32)) (addf (broadcastInDim S8192x4x128 ![] bcast_S_S8192x4x128 (constant (F := Ideal) S_ .f32 0x3F800000#32)) (Host.exp (Host.negf (shapeCast S8192x4x128 (extractStridedSlice S8192x4x1x128 ![0, 0, 1, 0] (shapeCast S8192x4x3x128 (extf .f32 (extractStridedSlice S8192x1536 ![0, 9216] A0 slices_S8192x10752_S8192x1536_0_9216) bitsLt_bf16_f32) shapeCasts_S8192x1536_S8192x4x3x128) slices_S8192x4x3x128_S8192x4x1x128_0_0_1_0) shapeCasts_S8192x4x1x128_S8192x4x128))))))) (broadcastInDim S8192x4x128 ![] bcast_S_S8192x4x128 (constant (F := Ideal) S_ .f32 0x0DA24260#32)))) (broadcastInDim S_ ![] bcast_S_S_ (constant (F := Ideal) S_ .f32 0x00000000#32)) reduceWindows_S8192x4x128_S8192x4x128_w8192s1p8191_0_w1s1p0_0_w1s1p0_0 h_S_) slicesBy_S8192x4x128_S127x4x128_63s64_0s1_0s1)⟩] concatenates_S1x4x128_S127x4x128_S128x4x128_d0))) (broadcastInDim S128x8192x4x128 ![0, 1, 2, 3] bcast_S1x8192x4x128_S128x8192x4x128_0_1_2_3 (broadcastInDim S1x8192x4x128 ![1, 2, 3] bcast_S8192x4x128_S1x8192x4x128_1_2_3 (Host.reduceWindowAdd ![8192, 1, 1] ![1, 1, 1] ![8191, 0, 0] ![0, 0, 0] (Host.log (maximumf (addf (broadcastInDim S8192x4x128 ![0, 1, 2] bcast_S1x4x128_S8192x4x128_0_1_2 (broadcastInDim S1x4x128 ![1, 2] bcast_S4x128_S1x4x128_1_2 (shapeCast S4x128 A1 shapeCasts_S1x512_S4x128))) (mulf (broadcastInDim S8192x4x128 ![0, 1, 2] bcast_S1x4x128_S8192x4x128_0_1_2 (broadcastInDim S1x4x128 ![1, 2] bcast_S4x128_S1x4x128_1_2 (subf (broadcastInDim S4x128 ![] bcast_S_S4x128 (constant (F := Ideal) S_ .f32 0x3F800000#32)) (shapeCast S4x128 A1 shapeCasts_S1x512_S4x128)))) (Host.divf (broadcastInDim S8192x4x128 ![] bcast_S_S8192x4x128 (constant (F := Ideal) S_ .f32 0x3F800000#32)) (addf (broadcastInDim S8192x4x128 ![] bcast_S_S8192x4x128 (constant (F := Ideal) S_ .f32 0x3F800000#32)) (Host.exp (Host.negf (shapeCast S8192x4x128 (extractStridedSlice S8192x4x1x128 ![0, 0, 1, 0] (shapeCast S8192x4x3x128 (extf .f32 (extractStridedSlice S8192x1536 ![0, 9216] A0 slices_S8192x10752_S8192x1536_0_9216) bitsLt_bf16_f32) shapeCasts_S8192x1536_S8192x4x3x128) slices_S8192x4x3x128_S8192x4x1x128_0_0_1_0) shapeCasts_S8192x4x1x128_S8192x4x128))))))) (broadcastInDim S8192x4x128 ![] bcast_S_S8192x4x128 (constant (F := Ideal) S_ .f32 0x0DA24260#32)))) (broadcastInDim S_ ![] bcast_S_S_ (constant (F := Ideal) S_ .f32 0x00000000#32)) reduceWindows_S8192x4x128_S8192x4x128_w8192s1p8191_0_w1s1p0_0_w1s1p0_0 h_S_)))) (broadcastInDim S128x8192x4x128 ![] bcast_S_S128x8192x4x128 (id (constant (F := Ideal) S_ .f32 0x00000000#32))))) (broadcastInDim S128x8192x4x128 ![] bcast_S_S128x8192x4x128 (id (constant (F := Ideal) S_ .f32 0x00000000#32)))) (broadcastInDim S128x8192x4x128 ![0, 1, 2, 3] bcast_S1x8192x4x128_S128x8192x4x128_0_1_2_3 (broadcastInDim S1x8192x4x128 ![1, 2, 3] bcast_S8192x4x128_S1x8192x4x128_1_2_3 (subf (broadcastInDim S8192x4x128 ![] bcast_S_S8192x4x128 (constant (F := Ideal) S_ .f32 0x3F800000#32)) (addf (broadcastInDim S8192x4x128 ![0, 1, 2] bcast_S1x4x128_S8192x4x128_0_1_2 (broadcastInDim S1x4x128 ![1, 2] bcast_S4x128_S1x4x128_1_2 (shapeCast S4x128 A1 shapeCasts_S1x512_S4x128))) (mulf (broadcastInDim S8192x4x128 ![0, 1, 2] bcast_S1x4x128_S8192x4x128_0_1_2 (broadcastInDim S1x4x128 ![1, 2] bcast_S4x128_S1x4x128_1_2 (subf (broadcastInDim S4x128 ![] bcast_S_S4x128 (constant (F := Ideal) S_ .f32 0x3F800000#32)) (shapeCast S4x128 A1 shapeCasts_S1x512_S4x128)))) (Host.divf (broadcastInDim S8192x4x128 ![] bcast_S_S8192x4x128 (constant (F := Ideal) S_ .f32 0x3F800000#32)) (addf (broadcastInDim S8192x4x128 ![] bcast_S_S8192x4x128 (constant (F := Ideal) S_ .f32 0x3F800000#32)) (Host.exp (Host.negf (shapeCast S8192x4x128 (extractStridedSlice S8192x4x1x128 ![0, 0, 1, 0] (shapeCast S8192x4x3x128 (extf .f32 (extractStridedSlice S8192x1536 ![0, 9216] A0 slices_S8192x10752_S8192x1536_0_9216) bitsLt_bf16_f32) shapeCasts_S8192x1536_S8192x4x3x128) slices_S8192x4x3x128_S8192x4x1x128_0_0_1_0) shapeCasts_S8192x4x1x128_S8192x4x128))))))))))) (shapeCast S8192x4x128 (extractStridedSlice S8192x4x1x128 ![0, 0, 2, 0] (shapeCast S8192x4x3x128 (extf .f32 (extractStridedSlice S8192x1536 ![0, 9216] A0 slices_S8192x10752_S8192x1536_0_9216) bitsLt_bf16_f32) shapeCasts_S8192x1536_S8192x4x3x128) slices_S8192x4x3x128_S8192x4x1x128_0_0_2_0) shapeCasts_S8192x4x1x128_S8192x4x128)) transposes_S4x128x128x128_S4x128x128x128_0_1_3_2

variable (p : ℕ → ℕ → ℝ) (L : ℕ → ℝ) (A0 : FVec Ideal S8192x10752 .bf16) (A1 : FVec Ideal S1x512 .f32)

set_option maxHeartbeats 1000000 in
/-- For real inputs they are the sums of decayed products. -/
theorem hostStates_eq (h0 : extractStridedSlice S8192x1536 ![0, 9216] A0 slices_S8192x10752_S8192x1536_0_9216 = (V2 p : FVec Ideal S8192x1536 .bf16))
    (h1 : A1 = V2 (fun _ l => L l)) : hostStates A0 A1
    = V4 fun h n x y => stt (kv (low L h) (col p h)) (vv (col p h)) (lfv (low L h) (col p h)) n x y := by
  unfold hostStates
  rw [h0, h1]
  simp only [↓to_cat2, mulf_V4, subf_V4, mulf_V3, addf_V3, subf_V3, mulf_V2, addf_V2, subf_V2, select_V3, truncf_V2, extf_V2, mulf_V1, id, h_tril, h_before, hb_S128x1x4x128_S128x8192x4x128_0_1_2_3, hb_S128x4x128_S128x1x4x128_0_2_3, hbm_S128x8192_S128x8192x1x1_0_1, hbm_S128x8192x1x1_S128x8192x4x128_0_1_2_3, hb_S1x4x128_S8192x4x128_0_1_2, hb_S1x8192x4x128_S128x8192x4x128_0_1_2_3, hb_S1x8192x4x128_S8192x8192x4x128_0_1_2_3, hb_S4x128_S1x4x128_1_2, hb_S8192x1x4x128_S8192x8192x4x128_0_1_2_3, hb_S8192x4x128_S1x8192x4x128_1_2_3, hb_S8192x4x128_S8192x1x4x128_0_2_3, hb_S8192x4x128_S8192x4x1x128_0_1_3, hbm_S8192x8192_S8192x8192x1x1_0_1, hbm_S8192x8192x1x1_S8192x8192x4x128_0_1_2_3, hb_S8192x8192x4_S8192x8192x4x128_0_1_2, hr_S1x4x128_S4x128_d0, hr_S1x8192x4x128_S8192x4x128_d0, hr_S8192x1x4x128_S8192x4x128_d1, hr_S8192x4x128_S4x128_d0, hr_S8192x8192x4x128_S8192x4x128_d0, hr_S8192x8192x4x128_S8192x4x128_d1, hr_S8192x8192x4x128_S8192x8192x4_d3, hc_S1x512_S4x128, hc_S4x128_S1x4x128, hc_S4x128_S1x512, hc_S8192x1536_S8192x4x3x128, hc_S8192x4x128_S1x8192x4x128, hc_S8192x4x128_S8192x1x4x128, hc_S8192x4x128_S8192x512, hc_S8192x4x1x128_S8192x4x128, hc_S8192x4x3x128_S8192x1536, hc_S8192x512_S8192x4x128, hsb, hs_S8192x4x3x128_S8192x4x1x128_0_0_0_0, hs_S8192x4x3x128_S8192x4x1x128_0_0_1_0, hs_S8192x4x3x128_S8192x4x1x128_0_0_2_0, ht_S4x128x128x128_S4x128x128x128_0_1_3_2, ht_S4x128x8192_S8192x4x128_2_0_1, ht_S4x8192x8192_S8192x8192x4_1_2_0, ht_S8192x4x128_S4x128x8192_1_2_0, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, mulf_V4, subf_V4, select_V4, extf_V4, h_ogt_V3, h_oeq_V3]
  rw [show broadcastInDim S_ ![] bcast_S_S_ (constant (F := Ideal) S_ .f32 0x00000000#32) = ZR from rfl, cumsum_down _ _ rfl]
  simp only [↓to_cat2, mulf_V4, subf_V4, mulf_V3, addf_V3, subf_V3, mulf_V2, addf_V2, subf_V2, select_V3, truncf_V2, extf_V2, mulf_V1, id, h_tril, h_before, hb_S128x1x4x128_S128x8192x4x128_0_1_2_3, hb_S128x4x128_S128x1x4x128_0_2_3, hbm_S128x8192_S128x8192x1x1_0_1, hbm_S128x8192x1x1_S128x8192x4x128_0_1_2_3, hb_S1x4x128_S8192x4x128_0_1_2, hb_S1x8192x4x128_S128x8192x4x128_0_1_2_3, hb_S1x8192x4x128_S8192x8192x4x128_0_1_2_3, hb_S4x128_S1x4x128_1_2, hb_S8192x1x4x128_S8192x8192x4x128_0_1_2_3, hb_S8192x4x128_S1x8192x4x128_1_2_3, hb_S8192x4x128_S8192x1x4x128_0_2_3, hb_S8192x4x128_S8192x4x1x128_0_1_3, hbm_S8192x8192_S8192x8192x1x1_0_1, hbm_S8192x8192x1x1_S8192x8192x4x128_0_1_2_3, hb_S8192x8192x4_S8192x8192x4x128_0_1_2, hr_S1x4x128_S4x128_d0, hr_S1x8192x4x128_S8192x4x128_d0, hr_S8192x1x4x128_S8192x4x128_d1, hr_S8192x4x128_S4x128_d0, hr_S8192x8192x4x128_S8192x4x128_d0, hr_S8192x8192x4x128_S8192x4x128_d1, hr_S8192x8192x4x128_S8192x8192x4_d3, hc_S1x512_S4x128, hc_S4x128_S1x4x128, hc_S4x128_S1x512, hc_S8192x1536_S8192x4x3x128, hc_S8192x4x128_S1x8192x4x128, hc_S8192x4x128_S8192x1x4x128, hc_S8192x4x128_S8192x512, hc_S8192x4x1x128_S8192x4x128, hc_S8192x4x3x128_S8192x1536, hc_S8192x512_S8192x4x128, hsb, hs_S8192x4x3x128_S8192x4x1x128_0_0_0_0, hs_S8192x4x3x128_S8192x4x1x128_0_0_1_0, hs_S8192x4x3x128_S8192x4x1x128_0_0_2_0, ht_S4x128x128x128_S4x128x128x128_0_1_3_2, ht_S4x128x8192_S8192x4x128_2_0_1, ht_S4x8192x8192_S8192x8192x4_1_2_0, ht_S8192x4x128_S4x128x8192_1_2_0, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, mulf_V4, subf_V4, select_V4, extf_V4, h_ogt_V3, h_oeq_V3, cat2_V3]
  rw [dot_states, ht_S4x128x128x128_S4x128x128x128_0_1_3_2 _ _ rfl]
  refine V4_congr fun h hh n hn x hx y hy => ?_
  refine Finset.sum_congr rfl fun s hs => ?_
  by_cases q : s < 64 * n
  · rw [if_pos (decide_eq_true q), if_pos (decide_eq_true q), if_neg (show ¬ n < 1 by omega), show 63 + 64 * (n - 1) + 1 = 64 * n by omega]
    refine Eq.trans ?_ (if_pos q).symm
    rw [mul_comm]
    simp only [vv, kv, lfv, fv, col, low, cs, add_assoc, one_mul, show 2 * 128 = 256 from rfl]
  · rw [if_neg (by simpa using q), if_neg q, zero_mul, zero_mul]

set_option maxHeartbeats 2000000 in
/-- The states that the backward call is given. -/
theorem states (m : (ℓ : Loc nD τ sig) → Buf (Elt Ideal) ℓ) (c : Dev nD)
    (h0 : extractStridedSlice S8192x1536 ![0, 9216] (m ((c : Thread nD τ).loc main_arg0) : FVec Ideal S8192x10752 .bf16) slices_S8192x10752_S8192x1536_0_9216 = (V2 p : FVec Ideal S8192x1536 .bf16))
    (h1 : (m ((c : Thread nD τ).loc main_arg1) : FVec Ideal S1x512 .f32) = V2 (fun _ l => L l)) : (V m c main_v58 : FVec Ideal S4x128x128x128 .f32)
    = V4 fun h n x y => stt (kv (low L h) (col p h)) (vv (col p h)) (lfv (low L h) (col p h)) n x y := by
  refine Eq.trans ?_ (hostStates_eq p L (m ((c : Thread nD τ).loc main_arg0)) (m ((c : Thread nD τ).loc main_arg1)) h0 h1)
  show StableHlo.after [hostOps0, hostOps0_1, hostOps0_2, hostOps0_3, hostOps0_4, hostOps0_5, hostOps0_6, hostOps0_7, hostOps0_8].flatten _ (Proc.devRef .tc main_v58) = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.Hgrn.Bwd
-- ==== Proof.RefB.lean ====
module

public import proofs.«01_k».proof.Proof.Gen.ReferenceIdeal.Run
public import proofs.«01_k».proof.Proof.Window
public import proofs.«01_k».proof.Proof.Chunks
public import Idealize.ShloMosaic.Lib.Pointwise

@[expose] public section

set_option maxRecDepth 16384

noncomputable section

namespace Cert.Hgrn
open Idealize.ShloMosaic Idealize.SL.Sem

open Finset in
/-- The gradient of the forget gate as the reference writes it. -/
theorem df_global (lb : ℕ → ℝ) (P O : ℕ → ℕ → ℝ) (t l : ℕ) (hf : fv lb P t l ≠ mf) :
    -(∑ u ∈ range 8192, (qv P u l * if t ≤ u then dec (lfv lb P) u t l else 0) * gsc (vv P) O u t)
      + (∑ u ∈ range 8192, if t ≤ u then
          (∑ w ∈ range 8192, -(if u ≤ w then gsc (vv P) O w u * (kv lb P u l * dec (lfv lb P) w u l) * qv P w l else 0))
            + ∑ s ∈ range 8192, (if s ≤ u then gsc (vv P) O u s * (kv lb P s l * dec (lfv lb P) u s l) * qv P u l else 0) else 0)
        / max (fv lb P t l) mf * (if mf < fv lb P t l then 1 else if fv lb P t l = mf then (1 / 2 : ℝ) else 0)
      = gff lb P O t l := by
  have hk : (∑ u ∈ range 8192, (qv P u l * if t ≤ u then dec (lfv lb P) u t l else 0) * gsc (vv P) O u t)
      = gk (qv P) (vv P) (lfv lb P) O t l := sum_congr rfl fun u _ => by
    split_ifs <;> ring
  rw [hk, gff]
  by_cases h : mf < fv lb P t l
  · rw [if_pos h, if_pos h, max_eq_left h.le, mul_one, neg_add_eq_sub]
    refine congrArg (· / _ - _) (sum_congr rfl fun u _ => if_congr Iff.rfl ?_ rfl)
    rw [sum_neg_distrib, neg_add_eq_sub, gq, gk, mul_sum, mul_sum]
    refine congrArg₂ (· - ·) (sum_congr rfl fun s _ => ?_) (sum_congr rfl fun w _ => ?_)
    · split_ifs <;> ring
    · split_ifs <;> ring
  · rw [if_neg h, if_neg h, if_neg hf, mul_zero, add_zero, zero_sub]

end Cert.Hgrn

namespace Cert.Hgrn.Ref
open Cert.ReferenceIdeal Cert.ReferenceIdeal.Gen Cert.ReferenceIdeal.Value Idealize.ShloMosaic Idealize.ShloMosaic.TcCoe Idealize.SL.Sem Cert.Hgrn

/-! The reference's arrays, for inputs that are real numbers. -/

theorem dot_scores (f g : ℕ → ℕ → ℕ → ℝ) (q) :
    Host.dotGeneral (F := Ideal) (φ₁ := .f32) (φ₂ := .f32) dot_S4x128x8192_S8192x4x128_S4x8192x8192_1_2_2_0_0_1 q (V3 f) (V3 g)
      = (V3 (fun h t s => ∑ x ∈ Finset.range 128, f h x t * g s h x) : FVec Ideal S4x8192x8192 .f32) := by
  funext j
  pointwise
  exact sum_fin_mul (fun x => f (j 0).val x (j 1).val) (fun x => g (j 2).val (j 0).val x)
theorem dot_values (f g : ℕ → ℕ → ℕ → ℝ) (q) :
    Host.dotGeneral (F := Ideal) (φ₁ := .f32) (φ₂ := .f32) dot_S4x128x8192_S8192x8192x4_S4x128x8192_2_0_1_1_0_2 q (V3 f) (V3 g)
      = (V3 (fun h l s => ∑ x ∈ Finset.range 8192, f h l x * g x s h) : FVec Ideal S4x128x8192 .f32) := by
  funext j
  pointwise
  exact sum_fin_mul (fun x => f (j 0).val (j 1).val x) (fun x => g x (j 2).val (j 0).val)

/-- Three arrays one after another along axis two. -/
def cat3 (x y z : S8192x4x1x128.Idx → EReal) : S8192x4x3x128.Idx → EReal :=
  concatenate S8192x4x3x128 2 [⟨S8192x4x1x128, x⟩, ⟨S8192x4x1x128, y⟩, ⟨S8192x4x1x128, z⟩] concatenates_S8192x4x1x128_S8192x4x1x128_S8192x4x1x128_S8192x4x3x128_d2
theorem to_cat3 (x y z : S8192x4x1x128.Idx → EReal) (h) :
    concatenate S8192x4x3x128 2 [⟨S8192x4x1x128, x⟩, ⟨S8192x4x1x128, y⟩, ⟨S8192x4x1x128, z⟩] h = cat3 x y z := rfl
theorem cat3_V4 (f g e : ℕ → ℕ → ℕ → ℕ → ℝ) : cat3 (V4 f) (V4 g) (V4 e)
    = V4 (fun t h j l => if j < 1 then f t h j l else if j - 1 < 1 then g t h (j - 1) l else e t h (j - 1 - 1) l) := by
  funext j
  unfold cat3
  pointwise
  simp only [V4]
  split_ifs <;> rfl

section
variable (V0 : Valuation τ sig (Elt Ideal)) (p : ℕ → ℕ → ℝ) (L : ℕ → ℝ) (O : ℕ → ℕ → ℝ)
  (h0 : extractStridedSlice S8192x1536 ![0, 9216] (V0 (Proc.devRef .tc main_arg0) : FVec Ideal S8192x10752 .bf16) slices_S8192x10752_S8192x1536_0_9216 = (V2 p : FVec Ideal S8192x1536 .bf16))
  (h1 : V0 (Proc.devRef .tc main_arg1) = (V2 (fun _ l => L l) : FVec Ideal S1x512 .f32))
  (h2 : V0 (Proc.devRef .tc main_arg2) = (V2 O : FVec Ideal S8192x512 .f32))
  (hf : ∀ t < 8192, ∀ h < 4, ∀ l < 128, fv (low L h) (col p h) t l ≠ mf)
include h0 h1 h2
theorem rv2 : res_main_v2 (F := Ideal) V0 = (V4 (fun t h j l => col p h t (j * 128 + l)) : FVec Ideal S8192x4x3x128 .f32) := by
  show (shapeCast S8192x4x3x128 (extf .f32 (extractStridedSlice S8192x1536 ![0, 9216] (V0 (Proc.devRef .tc main_arg0) : FVec Ideal S8192x10752 .bf16) slices_S8192x10752_S8192x1536_0_9216) bitsLt_bf16_f32) shapeCasts_S8192x1536_S8192x4x3x128 : FVec Ideal S8192x4x3x128 .f32) = _
  rw [h0]
  simp only [mulf_V4, subf_V4, mulf_V3, addf_V3, subf_V3, mulf_V2, addf_V2, subf_V2, select_V3, truncf_V2, extf_V2, mulf_V1, id, h_tril, h_before, hc_S8192x1536_S8192x4x3x128, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V4_congr fun t _ h _ j _ l _ => ?_
  first | rfl | (simp only [col]; refine congrArg (p t) ?_; omega)

theorem rv4 : res_main_v4 (F := Ideal) V0 = (V3 (fun t h l => col p h t l) : FVec Ideal S8192x4x128 .f32) := by
  show (shapeCast S8192x4x128 (extractStridedSlice S8192x4x1x128 ![0, 0, 0, 0] (res_main_v2 V0) slices_S8192x4x3x128_S8192x4x1x128_0_0_0_0) shapeCasts_S8192x4x1x128_S8192x4x128 : FVec Ideal S8192x4x128 .f32) = _
  simp only [rv2 V0 p L O h0 h1 h2, mulf_V4, subf_V4, mulf_V3, addf_V3, subf_V3, mulf_V2, addf_V2, subf_V2, select_V3, truncf_V2, extf_V2, mulf_V1, id, h_tril, h_before, hc_S8192x4x1x128_S8192x4x128, hsb, hs_S8192x4x3x128_S8192x4x1x128_0_0_0_0, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V3_congr fun t _ h _ l _ => ?_
  first | rfl | (simp only [vv, col]; refine congrArg (p t) ?_; omega)

theorem rv8 : res_main_v8 (F := Ideal) V0 = (V3 (fun t h l => vv (col p h) t l) : FVec Ideal S8192x4x128 .f32) := by
  show (shapeCast S8192x4x128 (extractStridedSlice S8192x4x1x128 ![0, 0, 2, 0] (res_main_v2 V0) slices_S8192x4x3x128_S8192x4x1x128_0_0_2_0) shapeCasts_S8192x4x1x128_S8192x4x128 : FVec Ideal S8192x4x128 .f32) = _
  simp only [rv2 V0 p L O h0 h1 h2, mulf_V4, subf_V4, mulf_V3, addf_V3, subf_V3, mulf_V2, addf_V2, subf_V2, select_V3, truncf_V2, extf_V2, mulf_V1, id, h_tril, h_before, hc_S8192x4x1x128_S8192x4x128, hsb, hs_S8192x4x3x128_S8192x4x1x128_0_0_2_0, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V3_congr fun t _ h _ l _ => ?_
  first | rfl | (simp only [vv, col]; refine congrArg (p t) ?_; omega)

theorem rv9 : res_main_v9 (F := Ideal) V0 = (V2 (fun h l => low L h l) : FVec Ideal S4x128 .f32) := by
  show (shapeCast S4x128 (V0 (Proc.devRef .tc main_arg1) : FVec Ideal S1x512 .f32) shapeCasts_S1x512_S4x128 : FVec Ideal S4x128 .f32) = _
  rw [h1]
  simp only [mulf_V4, subf_V4, mulf_V3, addf_V3, subf_V3, mulf_V2, addf_V2, subf_V2, select_V3, truncf_V2, extf_V2, mulf_V1, id, h_tril, h_before, hc_S1x512_S4x128, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rfl

theorem rv10_2 : res_main_v10_2 (F := Ideal) V0 = (V3 (fun t h l => sgm (col p h t l)) : FVec Ideal S8192x4x128 .f32) := by
  show (Host.divf (broadcastInDim S8192x4x128 ![] bcast_S_S8192x4x128 (constant S_ .f32 0x3F800000#32)) (addf (broadcastInDim S8192x4x128 ![] bcast_S_S8192x4x128 (constant S_ .f32 0x3F800000#32)) (Host.exp (Host.negf (res_main_v4 V0)))) : FVec Ideal S8192x4x128 .f32) = _
  simp only [rv4 V0 p L O h0 h1 h2, mulf_V4, subf_V4, mulf_V3, addf_V3, subf_V3, mulf_V2, addf_V2, subf_V2, select_V3, truncf_V2, extf_V2, mulf_V1, id, h_tril, h_before, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv20 : res_main_v20 (F := Ideal) V0 = (V3 (fun t h l => sgm (col p h t (128 + l))) : FVec Ideal S8192x4x128 .f32) := by
  show (Host.divf (broadcastInDim S8192x4x128 ![] bcast_S_S8192x4x128 (constant S_ .f32 0x3F800000#32)) (addf (broadcastInDim S8192x4x128 ![] bcast_S_S8192x4x128 (constant S_ .f32 0x3F800000#32)) (Host.exp (Host.negf (shapeCast S8192x4x128 (extractStridedSlice S8192x4x1x128 ![0, 0, 1, 0] (res_main_v2 V0) slices_S8192x4x3x128_S8192x4x1x128_0_0_1_0) shapeCasts_S8192x4x1x128_S8192x4x128)))) : FVec Ideal S8192x4x128 .f32) = _
  simp only [rv2 V0 p L O h0 h1 h2, mulf_V4, subf_V4, mulf_V3, addf_V3, subf_V3, mulf_V2, addf_V2, subf_V2, select_V3, truncf_V2, extf_V2, mulf_V1, id, h_tril, h_before, hc_S8192x4x1x128_S8192x4x128, hsb, hs_S8192x4x3x128_S8192x4x1x128_0_0_1_0, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv24 : res_main_v24 (F := Ideal) V0 = (V3 (fun _ h l => 1 - low L h l) : FVec Ideal S1x4x128 .f32) := by
  show (broadcastInDim S1x4x128 ![1, 2] bcast_S4x128_S1x4x128_1_2 (subf (broadcastInDim S4x128 ![] bcast_S_S4x128 (constant S_ .f32 0x3F800000#32)) (res_main_v9 V0)) : FVec Ideal S1x4x128 .f32) = _
  simp only [rv9 V0 p L O h0 h1 h2, mulf_V4, subf_V4, mulf_V3, addf_V3, subf_V3, mulf_V2, addf_V2, subf_V2, select_V3, truncf_V2, extf_V2, mulf_V1, id, h_tril, h_before, hb_S4x128_S1x4x128_1_2, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv29 : res_main_v29 (F := Ideal) V0 = (V3 (fun t h l => fv (low L h) (col p h) t l) : FVec Ideal S8192x4x128 .f32) := by
  show (addf (broadcastInDim S8192x4x128 ![0, 1, 2] bcast_S1x4x128_S8192x4x128_0_1_2 (broadcastInDim S1x4x128 ![1, 2] bcast_S4x128_S1x4x128_1_2 (res_main_v9 V0))) (mulf (broadcastInDim S8192x4x128 ![0, 1, 2] bcast_S1x4x128_S8192x4x128_0_1_2 (res_main_v24 V0)) (res_main_v20 V0)) : FVec Ideal S8192x4x128 .f32) = _
  simp only [rv9 V0 p L O h0 h1 h2, rv24 V0 p L O h0 h1 h2, rv20 V0 p L O h0 h1 h2, mulf_V4, subf_V4, mulf_V3, addf_V3, subf_V3, mulf_V2, addf_V2, subf_V2, select_V3, truncf_V2, extf_V2, mulf_V1, id, h_tril, h_before, hb_S1x4x128_S8192x4x128_0_1_2, hb_S4x128_S1x4x128_1_2, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rfl

theorem rv31 : res_main_v31 (F := Ideal) V0 = (V3 (fun t h l => max (fv (low L h) (col p h) t l) mf) : FVec Ideal S8192x4x128 .f32) := by
  show (maximumf (res_main_v29 V0) (broadcastInDim S8192x4x128 ![] bcast_S_S8192x4x128 (constant S_ .f32 0x0DA24260#32)) : FVec Ideal S8192x4x128 .f32) = _
  simp only [rv29 V0 p L O h0 h1 h2, mulf_V4, subf_V4, mulf_V3, addf_V3, subf_V3, mulf_V2, addf_V2, subf_V2, select_V3, truncf_V2, extf_V2, mulf_V1, id, h_tril, h_before, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv44 : res_main_v44 (F := Ideal) V0 = (V3 (fun t h l => cs (lfv (low L h) (col p h)) (t + 1) l) : FVec Ideal S8192x4x128 .f32) := by
  show (Host.reduceWindowAdd ![8192, 1, 1] ![1, 1, 1] ![8191, 0, 0] ![0, 0, 0] (Host.log (res_main_v31 V0)) (broadcastInDim S_ ![] bcast_S_S_ (constant S_ .f32 0x00000000#32)) reduceWindows_S8192x4x128_S8192x4x128_w8192s1p8191_0_w1s1p0_0_w1s1p0_0 h_S_ : FVec Ideal S8192x4x128 .f32) = _
  simp only [rv31 V0 p L O h0 h1 h2, mulf_V4, subf_V4, mulf_V3, addf_V3, subf_V3, mulf_V2, addf_V2, subf_V2, select_V3, truncf_V2, extf_V2, mulf_V1, id, h_tril, h_before, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rw [show broadcastInDim S_ ![] bcast_S_S_ (constant (F := Ideal) S_ .f32 0x00000000#32) = ZR from rfl, cumsum_down _ _ rfl]
  rfl

theorem rv47 : res_main_v47 (F := Ideal) V0 = (M4 (fun t s _ _ => decide (s ≤ t)) : S8192x8192x1x1.Idx → BitVec 1) := by
  show (broadcastInDim S8192x8192x1x1 ![0, 1] bcast_S8192x8192_S8192x8192x1x1_0_1 (select (cmpi .sge (addi (iotaInDim S8192x8192 32 0) (broadcastInDim S8192x8192 ![] bcast_S_S8192x8192 (constantI S_ 32 0#32))) (iotaInDim S8192x8192 32 1)) (broadcastInDim S8192x8192 ![] bcast_S_S8192x8192 (constantI S_ 1 1#1)) (broadcastInDim S8192x8192 ![] bcast_S_S8192x8192 (constantI S_ 1 0#1))) : S8192x8192x1x1.Idx → BitVec 1) = _
  simp only [mulf_V4, subf_V4, mulf_V3, addf_V3, subf_V3, mulf_V2, addf_V2, subf_V2, select_V3, truncf_V2, extf_V2, mulf_V1, id, h_tril, h_before, hbm_S8192x8192_S8192x8192x1x1_0_1, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv53_1 : res_main_v53_1 (F := Ideal) V0 = (M4 (fun t s _ _ => decide (s ≤ t)) : S8192x8192x4x128.Idx → BitVec 1) := by
  show (broadcastInDim S8192x8192x4x128 ![0, 1, 2, 3] bcast_S8192x8192x1x1_S8192x8192x4x128_0_1_2_3 (res_main_v47 V0) : S8192x8192x4x128.Idx → BitVec 1) = _
  simp only [rv47 V0 p L O h0 h1 h2, mulf_V4, subf_V4, mulf_V3, addf_V3, subf_V3, mulf_V2, addf_V2, subf_V2, select_V3, truncf_V2, extf_V2, mulf_V1, id, h_tril, h_before, hbm_S8192x8192x1x1_S8192x8192x4x128_0_1_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv55_1 : res_main_v55_1 (F := Ideal) V0 = (M4 (fun t s _ _ => decide (s ≤ t)) : S8192x8192x4x128.Idx → BitVec 1) := by
  show (broadcastInDim S8192x8192x4x128 ![0, 1, 2, 3] bcast_S8192x8192x1x1_S8192x8192x4x128_0_1_2_3 (res_main_v47 V0) : S8192x8192x4x128.Idx → BitVec 1) = _
  simp only [rv47 V0 p L O h0 h1 h2, mulf_V4, subf_V4, mulf_V3, addf_V3, subf_V3, mulf_V2, addf_V2, subf_V2, select_V3, truncf_V2, extf_V2, mulf_V1, id, h_tril, h_before, hbm_S8192x8192x1x1_S8192x8192x4x128_0_1_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv54 : res_main_v54 (F := Ideal) V0 = (V4 (fun t s h l => Real.exp (if s ≤ t then cs (lfv (low L h) (col p h)) (t + 1) l - cs (lfv (low L h) (col p h)) (s + 1) l else 0)) : FVec Ideal S8192x8192x4x128 .f32) := by
  show (Host.exp (select (res_main_v53_1 V0) (subf (broadcastInDim S8192x8192x4x128 ![0, 1, 2, 3] bcast_S8192x1x4x128_S8192x8192x4x128_0_1_2_3 (broadcastInDim S8192x1x4x128 ![0, 2, 3] bcast_S8192x4x128_S8192x1x4x128_0_2_3 (res_main_v44 V0))) (broadcastInDim S8192x8192x4x128 ![0, 1, 2, 3] bcast_S1x8192x4x128_S8192x8192x4x128_0_1_2_3 (broadcastInDim S1x8192x4x128 ![1, 2, 3] bcast_S8192x4x128_S1x8192x4x128_1_2_3 (res_main_v44 V0)))) (broadcastInDim S8192x8192x4x128 ![] bcast_S_S8192x8192x4x128 (id (constant S_ .f32 0x00000000#32)))) : FVec Ideal S8192x8192x4x128 .f32) = _
  simp only [rv53_1 V0 p L O h0 h1 h2, rv44 V0 p L O h0 h1 h2, mulf_V4, subf_V4, mulf_V3, addf_V3, subf_V3, mulf_V2, addf_V2, subf_V2, select_V3, truncf_V2, extf_V2, mulf_V1, id, h_tril, h_before, hb_S1x8192x4x128_S8192x8192x4x128_0_1_2_3, hb_S8192x1x4x128_S8192x8192x4x128_0_1_2_3, hb_S8192x4x128_S1x8192x4x128_1_2_3, hb_S8192x4x128_S8192x1x4x128_0_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  simp only [decide_eq_true_eq]

theorem rv55_0 : res_main_v55_0 (F := Ideal) V0 = (V4 (fun t s h l => if s ≤ t then dec (lfv (low L h) (col p h)) t s l else 0) : FVec Ideal S8192x8192x4x128 .f32) := by
  show (select (res_main_v55_1 V0) (res_main_v54 V0) (broadcastInDim S8192x8192x4x128 ![] bcast_S_S8192x8192x4x128 (id (constant S_ .f32 0x00000000#32))) : FVec Ideal S8192x8192x4x128 .f32) = _
  simp only [rv55_1 V0 p L O h0 h1 h2, rv54 V0 p L O h0 h1 h2, mulf_V4, subf_V4, mulf_V3, addf_V3, subf_V3, mulf_V2, addf_V2, subf_V2, select_V3, truncf_V2, extf_V2, mulf_V1, id, h_tril, h_before, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V4_congr fun t _ s _ h _ l _ => ?_
  by_cases q : s ≤ t
  · rw [if_pos (decide_eq_true q), if_pos q, if_pos q]
    rfl
  · rw [if_neg (by simpa using q), if_neg q]

theorem rv56 : res_main_v56 (F := Ideal) V0 = (V4 (fun t _ h l => qv (col p h) t l) : FVec Ideal S8192x1x4x128 .f32) := by
  show (broadcastInDim S8192x1x4x128 ![0, 2, 3] bcast_S8192x4x128_S8192x1x4x128_0_2_3 (mulf (mulf (res_main_v4 V0) (res_main_v10_2 V0)) (broadcastInDim S8192x4x128 ![] bcast_S_S8192x4x128 (constant S_ .f32 0x3DB504F3#32))) : FVec Ideal S8192x1x4x128 .f32) = _
  simp only [rv4 V0 p L O h0 h1 h2, rv10_2 V0 p L O h0 h1 h2, mulf_V4, subf_V4, mulf_V3, addf_V3, subf_V3, mulf_V2, addf_V2, subf_V2, select_V3, truncf_V2, extf_V2, mulf_V1, id, h_tril, h_before, hb_S8192x4x128_S8192x1x4x128_0_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rfl

theorem rv58 : res_main_v58 (F := Ideal) V0 = (V4 (fun t s h l => qv (col p h) t l * if s ≤ t then dec (lfv (low L h) (col p h)) t s l else 0) : FVec Ideal S8192x8192x4x128 .f32) := by
  show (mulf (broadcastInDim S8192x8192x4x128 ![0, 1, 2, 3] bcast_S8192x1x4x128_S8192x8192x4x128_0_1_2_3 (res_main_v56 V0)) (res_main_v55_0 V0) : FVec Ideal S8192x8192x4x128 .f32) = _
  simp only [rv56 V0 p L O h0 h1 h2, rv55_0 V0 p L O h0 h1 h2, mulf_V4, subf_V4, mulf_V3, addf_V3, subf_V3, mulf_V2, addf_V2, subf_V2, select_V3, truncf_V2, extf_V2, mulf_V1, id, h_tril, h_before, hb_S8192x1x4x128_S8192x8192x4x128_0_1_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv59 : res_main_v59 (F := Ideal) V0 = (V4 (fun _ s h l => kv (low L h) (col p h) s l) : FVec Ideal S1x8192x4x128 .f32) := by
  show (broadcastInDim S1x8192x4x128 ![1, 2, 3] bcast_S8192x4x128_S1x8192x4x128_1_2_3 (subf (broadcastInDim S8192x4x128 ![] bcast_S_S8192x4x128 (constant S_ .f32 0x3F800000#32)) (res_main_v29 V0)) : FVec Ideal S1x8192x4x128 .f32) = _
  simp only [rv29 V0 p L O h0 h1 h2, mulf_V4, subf_V4, mulf_V3, addf_V3, subf_V3, mulf_V2, addf_V2, subf_V2, select_V3, truncf_V2, extf_V2, mulf_V1, id, h_tril, h_before, hb_S8192x4x128_S1x8192x4x128_1_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rfl

theorem rv62 : res_main_v62 (F := Ideal) V0 = (V3 (fun t s h => if s ≤ t then sc (qv (col p h)) (kv (low L h) (col p h)) (lfv (low L h) (col p h)) t s else 0) : FVec Ideal S8192x8192x4 .f32) := by
  show (Host.reduceAdd (mulf (res_main_v58 V0) (broadcastInDim S8192x8192x4x128 ![0, 1, 2, 3] bcast_S1x8192x4x128_S8192x8192x4x128_0_1_2_3 (res_main_v59 V0))) (constant S_ .f32 0x00000000#32) reducesTo_S8192x8192x4x128_S8192x8192x4_d3 h_S_ : FVec Ideal S8192x8192x4 .f32) = _
  simp only [rv58 V0 p L O h0 h1 h2, rv59 V0 p L O h0 h1 h2, mulf_V4, subf_V4, mulf_V3, addf_V3, subf_V3, mulf_V2, addf_V2, subf_V2, select_V3, truncf_V2, extf_V2, mulf_V1, id, h_tril, h_before, hb_S1x8192x4x128_S8192x8192x4x128_0_1_2_3, hr_S8192x8192x4x128_S8192x8192x4_d3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V3_congr fun t _ s _ h _ => ?_
  by_cases q : s ≤ t
  · simp only [if_pos q]
    rfl
  · simp only [if_neg q, mul_zero, zero_mul, Finset.sum_const_zero]

theorem rv66 : res_main_v66 (F := Ideal) V0 = (V3 (fun h l t => cot O h t l) : FVec Ideal S4x128x8192 .f32) := by
  show (transpose S4x128x8192 [1, 2, 0] (shapeCast S8192x4x128 (V0 (Proc.devRef .tc main_arg2) : FVec Ideal S8192x512 .f32) shapeCasts_S8192x512_S8192x4x128) transposes_S8192x4x128_S4x128x8192_1_2_0 : FVec Ideal S4x128x8192 .f32) = _
  rw [h2]
  simp only [mulf_V4, subf_V4, mulf_V3, addf_V3, subf_V3, mulf_V2, addf_V2, subf_V2, select_V3, truncf_V2, extf_V2, mulf_V1, id, h_tril, h_before, hc_S8192x512_S8192x4x128, hsb, ht_S8192x4x128_S4x128x8192_1_2_0, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rfl

theorem rv71 : res_main_v71 (F := Ideal) V0 = (V4 (fun t s h _ => gsc (vv (col p h)) (cot O h) t s) : FVec Ideal S8192x8192x4x128 .f32) := by
  show (broadcastInDim S8192x8192x4x128 ![0, 1, 2] bcast_S8192x8192x4_S8192x8192x4x128_0_1_2 (transpose S8192x8192x4 [1, 2, 0] (Host.dotGeneral dot_S4x128x8192_S8192x4x128_S4x8192x8192_1_2_2_0_0_1 none (res_main_v66 V0) (res_main_v8 V0)) transposes_S4x8192x8192_S8192x8192x4_1_2_0) : FVec Ideal S8192x8192x4x128 .f32) = _
  simp only [rv66 V0 p L O h0 h1 h2, rv8 V0 p L O h0 h1 h2, mulf_V4, subf_V4, mulf_V3, addf_V3, subf_V3, mulf_V2, addf_V2, subf_V2, select_V3, truncf_V2, extf_V2, mulf_V1, id, h_tril, h_before, hb_S8192x8192x4_S8192x8192x4x128_0_1_2, hsb, ht_S4x8192x8192_S8192x8192x4_1_2_0, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rfl

theorem rv76 : res_main_v76 (F := Ideal) V0 = (V4 (fun t s h l => gsc (vv (col p h)) (cot O h) t s * kv (low L h) (col p h) s l) : FVec Ideal S8192x8192x4x128 .f32) := by
  show (mulf (res_main_v71 V0) (broadcastInDim S8192x8192x4x128 ![0, 1, 2, 3] bcast_S1x8192x4x128_S8192x8192x4x128_0_1_2_3 (res_main_v59 V0)) : FVec Ideal S8192x8192x4x128 .f32) = _
  simp only [rv71 V0 p L O h0 h1 h2, rv59 V0 p L O h0 h1 h2, mulf_V4, subf_V4, mulf_V3, addf_V3, subf_V3, mulf_V2, addf_V2, subf_V2, select_V3, truncf_V2, extf_V2, mulf_V1, id, h_tril, h_before, hb_S1x8192x4x128_S8192x8192x4x128_0_1_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]

theorem rv86 : res_main_v86 (F := Ideal) V0 = (V4 (fun t s h l => if s ≤ t then gsc (vv (col p h)) (cot O h) t s * (kv (low L h) (col p h) s l * dec (lfv (low L h) (col p h)) t s l) * qv (col p h) t l else 0) : FVec Ideal S8192x8192x4x128 .f32) := by
  show (select (res_main_v53_1 V0) (mulf (select (res_main_v55_1 V0) (mulf (broadcastInDim S8192x8192x4x128 ![0, 1, 2, 3] bcast_S8192x1x4x128_S8192x8192x4x128_0_1_2_3 (res_main_v56 V0)) (res_main_v76 V0)) (broadcastInDim S8192x8192x4x128 ![] bcast_S_S8192x8192x4x128 (constant S_ .f32 0x00000000#32))) (res_main_v54 V0)) (broadcastInDim S8192x8192x4x128 ![] bcast_S_S8192x8192x4x128 (constant S_ .f32 0x00000000#32)) : FVec Ideal S8192x8192x4x128 .f32) = _
  simp only [rv53_1 V0 p L O h0 h1 h2, rv55_1 V0 p L O h0 h1 h2, rv56 V0 p L O h0 h1 h2, rv76 V0 p L O h0 h1 h2, rv54 V0 p L O h0 h1 h2, mulf_V4, subf_V4, mulf_V3, addf_V3, subf_V3, mulf_V2, addf_V2, subf_V2, select_V3, truncf_V2, extf_V2, mulf_V1, id, h_tril, h_before, hb_S8192x1x4x128_S8192x8192x4x128_0_1_2_3, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V4_congr fun t _ s _ h _ l _ => ?_
  by_cases q : s ≤ t
  · rw [if_pos (decide_eq_true q), if_pos (decide_eq_true q), if_pos q, if_pos q, dec]
    ring
  · rw [if_neg (by simpa using q), if_neg q]

theorem rv113 : res_main_v113 (F := Ideal) V0 = (V3 (fun t h l => gq (kv (low L h) (col p h)) (vv (col p h)) (lfv (low L h) (col p h)) (cot O h) t l * qk) : FVec Ideal S8192x4x128 .f32) := by
  show (mulf (Host.reduceAdd (shapeCast S8192x1x4x128 (Host.reduceAdd (mulf (res_main_v76 V0) (res_main_v55_0 V0)) (constant S_ .f32 0x00000000#32) reducesTo_S8192x8192x4x128_S8192x4x128_d1 h_S_) shapeCasts_S8192x4x128_S8192x1x4x128) (constant S_ .f32 0x00000000#32) reducesTo_S8192x1x4x128_S8192x4x128_d1 h_S_) (broadcastInDim S8192x4x128 ![] bcast_S_S8192x4x128 (constant S_ .f32 0x3DB504F3#32)) : FVec Ideal S8192x4x128 .f32) = _
  simp only [rv76 V0 p L O h0 h1 h2, rv55_0 V0 p L O h0 h1 h2, mulf_V4, subf_V4, mulf_V3, addf_V3, subf_V3, mulf_V2, addf_V2, subf_V2, select_V3, truncf_V2, extf_V2, mulf_V1, id, h_tril, h_before, hr_S8192x1x4x128_S8192x4x128_d1, hr_S8192x8192x4x128_S8192x4x128_d1, hc_S8192x4x128_S8192x1x4x128, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V3_congr fun t _ h _ l _ => congrArg (· * qk) ?_
  rw [Finset.sum_range_one]
  refine Finset.sum_congr rfl fun s _ => ?_
  by_cases q : s ≤ t
  · rw [if_pos q, if_pos q, mul_assoc]
  · rw [if_neg q, if_neg q, mul_zero]

include hf in
theorem rv99 : res_main_v99 (F := Ideal) V0 = (V3 (fun t h l => gff (low L h) (col p h) (cot O h) t l) : FVec Ideal S8192x4x128 .f32) := by
  show (addf (Host.negf (Host.reduceAdd (shapeCast S1x8192x4x128 (Host.reduceAdd (mulf (res_main_v58 V0) (res_main_v71 V0)) (constant S_ .f32 0x00000000#32) reducesTo_S8192x8192x4x128_S8192x4x128_d0 h_S_) shapeCasts_S8192x4x128_S1x8192x4x128) (constant S_ .f32 0x00000000#32) reducesTo_S1x8192x4x128_S8192x4x128_d0 h_S_)) (mulf (Host.divf (Host.reduceWindowAdd ![8192, 1, 1] ![1, 1, 1] ![0, 0, 0] ![8191, 0, 0] (addf (Host.reduceAdd (shapeCast S1x8192x4x128 (Host.reduceAdd (Host.negf (res_main_v86 V0)) (constant S_ .f32 0x00000000#32) reducesTo_S8192x8192x4x128_S8192x4x128_d0 h_S_) shapeCasts_S8192x4x128_S1x8192x4x128) (constant S_ .f32 0x00000000#32) reducesTo_S1x8192x4x128_S8192x4x128_d0 h_S_) (Host.reduceAdd (shapeCast S8192x1x4x128 (Host.reduceAdd (res_main_v86 V0) (constant S_ .f32 0x00000000#32) reducesTo_S8192x8192x4x128_S8192x4x128_d1 h_S_) shapeCasts_S8192x4x128_S8192x1x4x128) (constant S_ .f32 0x00000000#32) reducesTo_S8192x1x4x128_S8192x4x128_d1 h_S_)) (broadcastInDim S_ ![] bcast_S_S_ (constant S_ .f32 0x00000000#32)) reduceWindows_S8192x4x128_S8192x4x128_w8192s1p0_8191_w1s1p0_0_w1s1p0_0 h_S_) (res_main_v31 V0)) (select (cmpf .ogt (res_main_v29 V0) (broadcastInDim S8192x4x128 ![] bcast_S_S8192x4x128 (constant S_ .f32 0x0DA24260#32))) (broadcastInDim S8192x4x128 ![] bcast_S_S8192x4x128 (constant S_ .f32 0x3F800000#32)) (select (cmpf .oeq (res_main_v29 V0) (broadcastInDim S8192x4x128 ![] bcast_S_S8192x4x128 (constant S_ .f32 0x0DA24260#32))) (broadcastInDim S8192x4x128 ![] bcast_S_S8192x4x128 (constant S_ .f32 0x3F000000#32)) (broadcastInDim S8192x4x128 ![] bcast_S_S8192x4x128 (constant S_ .f32 0x00000000#32))))) : FVec Ideal S8192x4x128 .f32) = _
  simp only [rv58 V0 p L O h0 h1 h2, rv71 V0 p L O h0 h1 h2, rv86 V0 p L O h0 h1 h2, rv31 V0 p L O h0 h1 h2, rv29 V0 p L O h0 h1 h2, mulf_V4, subf_V4, mulf_V3, addf_V3, subf_V3, mulf_V2, addf_V2, subf_V2, select_V3, truncf_V2, extf_V2, mulf_V1, id, h_tril, h_before, hr_S1x8192x4x128_S8192x4x128_d0, hr_S8192x1x4x128_S8192x4x128_d1, hr_S8192x8192x4x128_S8192x4x128_d0, hr_S8192x8192x4x128_S8192x4x128_d1, hc_S8192x4x128_S1x8192x4x128, hc_S8192x4x128_S8192x1x4x128, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  rw [show broadcastInDim S_ ![] bcast_S_S_ (constant (F := Ideal) S_ .f32 0x00000000#32) = ZR from rfl, cumsum_up _ _ rfl]
  simp only [mulf_V4, subf_V4, mulf_V3, addf_V3, subf_V3, mulf_V2, addf_V2, subf_V2, select_V3, truncf_V2, extf_V2, mulf_V1, id, h_tril, h_before, hr_S1x8192x4x128_S8192x4x128_d0, hr_S8192x1x4x128_S8192x4x128_d1, hr_S8192x8192x4x128_S8192x4x128_d0, hr_S8192x8192x4x128_S8192x4x128_d1, hc_S8192x4x128_S1x8192x4x128, hc_S8192x4x128_S8192x1x4x128, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V3_congr fun t ht h hh l hl => ?_
  simp only [Finset.sum_range_one, decide_eq_true_eq]
  rw [df_global _ _ _ t l (hf t ht h hh l hl)]

include hf in
/-- The gradient of the columns. -/
theorem rdp : ((truncf .bf16 (shapeCast S8192x1536 ((concatenate S8192x4x3x128 2 [⟨S8192x4x1x128, ((broadcastInDim S8192x4x1x128 ![0, 1, 3] bcast_S8192x4x128_S8192x4x1x128_0_1_3 (addf (mulf (res_main_v113 V0) (res_main_v10_2 V0)) (mulf (mulf (res_main_v4 V0) (res_main_v113 V0)) (mulf (res_main_v10_2 V0) (subf (broadcastInDim S8192x4x128 ![] bcast_S_S8192x4x128 (constant S_ .f32 0x3F800000#32)) (res_main_v10_2 V0)))))) : (⟨S8192x4x1x128, .f32⟩ : BufTy).Contents (Elt Ideal))⟩, ⟨S8192x4x1x128, ((broadcastInDim S8192x4x1x128 ![0, 1, 3] bcast_S8192x4x128_S8192x4x1x128_0_1_3 (mulf (mulf (broadcastInDim S8192x4x128 ![0, 1, 2] bcast_S1x4x128_S8192x4x128_0_1_2 (res_main_v24 V0)) (res_main_v99 V0)) (mulf (res_main_v20 V0) (subf (broadcastInDim S8192x4x128 ![] bcast_S_S8192x4x128 (constant S_ .f32 0x3F800000#32)) (res_main_v20 V0))))) : (⟨S8192x4x1x128, .f32⟩ : BufTy).Contents (Elt Ideal))⟩, ⟨S8192x4x1x128, ((broadcastInDim S8192x4x1x128 ![0, 1, 3] bcast_S8192x4x128_S8192x4x1x128_0_1_3 (transpose S8192x4x128 [2, 0, 1] (Host.dotGeneral (F := Ideal) (φ₁ := .f32) (φ₂ := .f32) dot_S4x128x8192_S8192x8192x4_S4x128x8192_2_0_1_1_0_2 none (res_main_v66 V0) (res_main_v62 V0)) transposes_S4x128x8192_S8192x4x128_2_0_1)) : (⟨S8192x4x1x128, .f32⟩ : BufTy).Contents (Elt Ideal))⟩] concatenates_S8192x4x1x128_S8192x4x1x128_S8192x4x1x128_S8192x4x3x128_d2 : (⟨S8192x4x3x128, .f32⟩ : BufTy).Contents (Elt Ideal))) shapeCasts_S8192x4x3x128_S8192x1536) bitsLt_bf16_f32) : FVec Ideal S8192x1536 .bf16)
    = (V2 (fun t c => gpp (low L (c / 384)) (col p (c / 384)) (cot O (c / 384)) t (c % 384)) : FVec Ideal S8192x1536 .bf16) := by
  simp only [↓to_cat3, rv113 V0 p L O h0 h1 h2, rv10_2 V0 p L O h0 h1 h2, rv4 V0 p L O h0 h1 h2, rv24 V0 p L O h0 h1 h2, rv99 V0 p L O h0 h1 h2 hf, rv20 V0 p L O h0 h1 h2, rv66 V0 p L O h0 h1 h2, rv62 V0 p L O h0 h1 h2, mulf_V4, subf_V4, mulf_V3, addf_V3, subf_V3, mulf_V2, addf_V2, subf_V2, select_V3, truncf_V2, extf_V2, mulf_V1, id, h_tril, h_before, hb_S1x4x128_S8192x4x128_0_1_2, hb_S8192x4x128_S8192x4x1x128_0_1_3, hc_S8192x4x3x128_S8192x1536, hsb, ht_S4x128x8192_S8192x4x128_2_0_1, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values, cat3_V4]
  refine V2_congr fun t ht c hc => ?_
  rw [gpp]
  have e1 : c / 128 / 3 = c / 384 := by omega
  have e2 : (c / 128) % 3 = c % 384 / 128 := by omega
  have e3 : c % 128 = c % 384 % 128 := by omega
  simp only [e1, e2, e3]
  generalize hx : c % 384 = x
  have hx3 : x < 384 := by omega
  by_cases q : x < 128
  · rw [if_pos (by omega), if_pos q, Nat.mod_eq_of_lt q, dqv]
    ring
  · by_cases q' : x < 256
    · rw [if_neg (by omega), if_pos (by omega), if_neg q, if_pos q', show x % 128 = x - 128 by omega]
      ring
    · rw [if_neg (by omega), if_neg (by omega), if_neg q, if_neg q', show x % 128 = x - 256 by omega, gv]
      refine Finset.sum_congr rfl fun u _ => ?_
      split_ifs <;> ring
include hf in
/-- The gradient of the lower bounds. -/
theorem rdlb : (shapeCast S1x512 (addf (Host.reduceAdd (shapeCast S1x4x128 (Host.reduceAdd (res_main_v99 V0) (constant S_ .f32 0x00000000#32) reducesTo_S8192x4x128_S4x128_d0 h_S_) shapeCasts_S4x128_S1x4x128) (constant S_ .f32 0x00000000#32) reducesTo_S1x4x128_S4x128_d0 h_S_) (Host.negf (Host.reduceAdd (shapeCast S1x4x128 (Host.reduceAdd (mulf (res_main_v99 V0) (res_main_v20 V0)) (constant S_ .f32 0x00000000#32) reducesTo_S8192x4x128_S4x128_d0 h_S_) shapeCasts_S4x128_S1x4x128) (constant S_ .f32 0x00000000#32) reducesTo_S1x4x128_S4x128_d0 h_S_))) shapeCasts_S4x128_S1x512 : FVec Ideal S1x512 .f32)
    = (V2 (fun _ c => ∑ t ∈ Finset.range 8192, glb (low L (c / 128)) (col p (c / 128)) (cot O (c / 128)) t (c % 128)) : FVec Ideal S1x512 .f32) := by
  simp only [rv99 V0 p L O h0 h1 h2 hf, rv20 V0 p L O h0 h1 h2, mulf_V4, subf_V4, mulf_V3, addf_V3, subf_V3, mulf_V2, addf_V2, subf_V2, select_V3, truncf_V2, extf_V2, mulf_V1, id, h_tril, h_before, hr_S1x4x128_S4x128_d0, hr_S8192x4x128_S4x128_d0, hc_S4x128_S1x4x128, hc_S4x128_S1x512, hsb, h_sgm_V2, h_exp_V2, h_neg_V2, h_log_V2, h_div_V2, h_max_V2, h_zero_V2, h_one_V2, h_half_V2, h_qk_V2, h_mf_V2, h_sgm_V3, h_exp_V3, h_neg_V3, h_log_V3, h_div_V3, h_max_V3, h_zero_V3, h_one_V3, h_half_V3, h_qk_V3, h_mf_V3, h_sgm_V4, h_exp_V4, h_neg_V4, h_log_V4, h_div_V4, h_max_V4, h_zero_V4, h_one_V4, h_half_V4, h_qk_V4, h_mf_V4, select_V4, extf_V4, h_ogt_V3, h_oeq_V3, dot_scores, dot_values]
  refine V2_congr fun _ _ c hc => ?_
  simp only [Finset.sum_range_one, glb]
  rw [← sub_eq_add_neg, ← Finset.sum_sub_distrib]
  refine Finset.sum_congr rfl fun t _ => ?_
  ring
end
end Cert.Hgrn.Ref
-- ==== Proof.PreB.lean ====
module

public import proofs.«01_k».proof.Proof.Window
public import proofs.«01_k».proof.Proof.Global
public import proofs.«01_k».proof.Pre_finite_inputs_off_floor
public import proofs.«01_k».proof.Proof.Gen.ReferenceIdeal
public import Idealize.ShloMosaic.Lib.Pointwise

@[expose] public section

set_option maxRecDepth 16384

noncomputable section

namespace Cert.Hgrn.Pre
open Idealize.ShloMosaic Idealize.SL.Sem Cert.Hgrn

/-! What the preconditions say: the arrays hold real numbers, and the forget gate does not lie exactly on its floor. -/

/-- The number with pattern `0x7F800000` is infinity. -/
theorem inf_eq : Ideal.ofBits .f32 0x7F800000#32 = ⊤ := by simp [Ideal.ofBits, Ideal.ieee]

/-- A value of magnitude under infinity is a real number. -/
theorem real_of {s : Shape} (x : FVec Ideal s .f32) (dims) (h)
    (e : cmpf (F := Ideal) .olt (Host.absf x) (broadcastInDim s dims h (constant (F := Ideal) ⟨0, ![]⟩ .f32 0x7F800000#32)) = fun _ => 1#1) (i : s.Idx) :
    x i = (((x i : EReal).toReal : ℝ) : EReal) := by
  have e1 := congrFun e i
  replace e1 : Ideal.cmp .olt (max (x i : EReal) (-(x i : EReal))) (Ideal.ofBits .f32 0x7F800000#32) = 1#1 := e1
  rw [inf_eq] at e1
  unfold Ideal.cmp at e1
  have hlt : max (x i : EReal) (-(x i : EReal)) < ⊤ := by
    by_contra hn
    simp [hn] at e1
  rw [max_lt_iff] at hlt
  refine (EReal.coe_toReal hlt.1.ne fun hb => ?_).symm
  have := hlt.2
  rw [hb] at this
  simp at this

/-- The reals of an array of rank two, by number of row and column. -/
def realsOf {n d : ℕ} (x : (⟨2, ![n, d]⟩ : Shape).Idx → EReal) (t c : ℕ) : ℝ :=
  if h : t < n ∧ c < d then (x (fun | ⟨0, _⟩ => ⟨t, h.1⟩ | ⟨1, _⟩ => ⟨c, h.2⟩)).toReal else 0

/-- An array of real numbers is the array of its reals. -/
theorem eq_V2 {n d : ℕ} (x : (⟨2, ![n, d]⟩ : Shape).Idx → EReal) (e : ∀ i, x i = (((x i).toReal : ℝ) : EReal)) : x = V2 (realsOf x) := by
  funext i
  refine (e i).trans ?_
  unfold V2 realsOf
  rw [dif_pos ⟨(i 0).isLt, (i 1).isLt⟩]
  refine congrArg (fun j => ((x j).toReal : EReal)) ?_
  funext a
  match a with
  | ⟨0, _⟩ => rfl
  | ⟨1, _⟩ => rfl

/-- No two entries that a comparison finds apart are equal. -/
theorem ne_of {n w d : ℕ} (f g : ℕ → ℕ → ℕ → ℝ)
    (e : cmpf (F := Ideal) (φ := .f32) .une (V3 f : FVec Ideal (⟨3, ![n, w, d]⟩ : Shape) .f32) (V3 g) = fun _ => 1#1)
    (t : ℕ) (ht : t < n) (h : ℕ) (hh : h < w) (l : ℕ) (hl : l < d) : f t h l ≠ g t h l := by
  have e1 := congrFun e (fun | ⟨0, _⟩ => ⟨t, ht⟩ | ⟨1, _⟩ => ⟨h, hh⟩ | ⟨2, _⟩ => ⟨l, hl⟩)
  replace e1 : Ideal.cmp .une ((f t h l : ℝ) : EReal) ((g t h l : ℝ) : EReal) = 1#1 := e1
  intro q
  rw [q] at e1
  simp [Ideal.cmp] at e1

section
open Cert.ReferenceIdeal Cert.ReferenceIdeal.Gen

/-- A real array of columns is read off the projection from column 9216 on. -/
theorem cols_read (A0 : FVec Ideal S8192x10752 .bf16) (p : ℕ → ℕ → ℝ)
    (h0 : extractStridedSlice S8192x1536 ![0, 9216] A0 slices_S8192x10752_S8192x1536_0_9216 = (V2 p : FVec Ideal S8192x1536 .bf16))
    (i : S8192x10752.Idx) (hi : 9216 ≤ (i 1 : ℕ)) : A0 i = ((p (i 0) (i 1 - 9216) : ℝ) : EReal) := by
  have h1 : (i 1 : ℕ) < 10752 := (i 1).isLt
  have e := congrFun h0 (fun | ⟨0, _⟩ => (i 0 : Fin 8192) | ⟨1, _⟩ => (⟨i 1 - 9216, by omega⟩ : Fin 1536))
  refine Eq.trans (congrArg A0 ?_) e
  funext a
  match a with
  | ⟨0, _⟩ => exact Fin.ext (by show (i 0 : ℕ) = 0 + (i 0 : ℕ); omega)
  | ⟨1, _⟩ => exact Fin.ext (by show (i 1 : ℕ) = 9216 + ((i 1 : ℕ) - 9216); omega)

/-- The gate, over real columns and lower bounds, off its floor. -/
theorem off_floor (A0 : FVec Ideal S8192x10752 .bf16) (A1 : FVec Ideal S1x512 .f32) (p : ℕ → ℕ → ℝ) (L : ℕ → ℝ)
    (h0 : extractStridedSlice S8192x1536 ![0, 9216] A0 slices_S8192x10752_S8192x1536_0_9216 = (V2 p : FVec Ideal S8192x1536 .bf16))
    (h1 : A1 = V2 (fun _ l => L l))
    (e : cmpf (F := Ideal) (φ := .f32) .une (addf (broadcastInDim S8192x4x128 ![0, 1, 2] bcast_S1x4x128_S8192x4x128_0_1_2 (broadcastInDim S1x4x128 ![1, 2] bcast_S4x128_S1x4x128_1_2 (shapeCast S4x128 A1 shapeCasts_S1x512_S4x128)))
      (mulf (broadcastInDim S8192x4x128 ![0, 1, 2] bcast_S1x4x128_S8192x4x128_0_1_2 (broadcastInDim S1x4x128 ![1, 2] bcast_S4x128_S1x4x128_1_2 (subf (broadcastInDim S4x128 ![] bcast_S_S4x128 (constant (F := Ideal) S_ .f32 0x3F800000#32)) (shapeCast S4x128 A1 shapeCasts_S1x512_S4x128))))
        (Host.divf (broadcastInDim S8192x4x128 ![] bcast_S_S8192x4x128 (constant (F := Ideal) S_ .f32 0x3F800000#32)) (addf (broadcastInDim S8192x4x128 ![] bcast_S_S8192x4x128 (constant (F := Ideal) S_ .f32 0x3F800000#32)) (Host.exp (Host.negf (shapeCast S8192x4x128 (extractStridedSlice S8192x4x1x128 ![0, 0, 1, 0] (shapeCast S8192x4x3x128 (extf .f32 (extractStridedSlice S8192x1536 ![0, 9216] A0 slices_S8192x10752_S8192x1536_0_9216) bitsLt_bf16_f32) shapeCasts_S8192x1536_S8192x4x3x128) slices_S8192x4x3x128_S8192x4x1x128_0_0_1_0) shapeCasts_S8192x4x1x128_S8192x4x128)))))))
      (broadcastInDim S8192x4x128 ![] bcast_S_S8192x4x128 (constant (F := Ideal) S_ .f32 0x0DA24260#32)) = fun _ => 1#1)
    (t : ℕ) (ht : t < 8192) (h : ℕ) (hh : h < 4) (l : ℕ) (hl : l < 128) : fv (low L h) (col p h) t l ≠ mf := by
  rw [h0, h1] at e
  simp only [mulf_V3, addf_V3, subf_V2, extf_V2, id, hb_S1x4x128_S8192x4x128_0_1_2, hb_S4x128_S1x4x128_1_2, hc_S1x512_S4x128, hc_S8192x1536_S8192x4x3x128, hc_S8192x4x1x128_S8192x4x128, hs_S8192x4x3x128_S8192x4x1x128_0_0_1_0, h_sgm_V3, h_exp_V3, h_neg_V3, h_one_V2, h_one_V3, h_mf_V3] at e
  have := ne_of _ _ e t ht h hh l hl
  refine fun q => this (Eq.trans ?_ q)
  simp only [fv, low, col]
  refine congrArg (fun c => L (h * 128 + l) + (1 - L (h * 128 + l)) * sgm (p t c)) ?_
  omega

/-- The side conditions that the gradient's precondition takes. -/
theorem facts : Cert.Pre_finite_inputs_off_floor.Facts where
  slices_S8192x10752_S8192x1536_0_9216 := by decide
  bitsLt_bf16_f32 := by decide
  shapeCasts_S8192x1536_S8192x4x3x128 := by decide
  slices_S8192x4x3x128_S8192x4x1x128_0_0_0_0 := by decide
  shapeCasts_S8192x4x1x128_S8192x4x128 := by decide
  slices_S8192x4x3x128_S8192x4x1x128_0_0_1_0 := by decide
  slices_S8192x4x3x128_S8192x4x1x128_0_0_2_0 := by decide
  shapeCasts_S1x512_S4x128 := by decide
  bcast_S_S8192x1536 := by decide
  bcast_S_S1x512 := by decide
  bcast_S_S8192x512 := by decide
  bcast_S_S4x128 := by decide
  bcast_S_S8192x4x128 := by decide
  bcast_S4x128_S1x4x128_1_2 := by decide
  bcast_S1x4x128_S8192x4x128_0_1_2 := by decide

/-- What the gradient's precondition says of the arrays it is given. -/
theorem of_pre [Cert.Pre_finite_inputs_off_floor.Facts] (A0 : FVec Ideal S8192x10752 .bf16) (A1 : FVec Ideal S1x512 .f32) (A2 : FVec Ideal S8192x512 .f32) (A3 : FVec Ideal S8192x10752 .bf16)
    (e : (Cert.Pre_finite_inputs_off_floor.fn (F := Ideal) A0 A1 A2 A3).1 = (fun _ => 1#1)
      ∧ (Cert.Pre_finite_inputs_off_floor.fn (F := Ideal) A0 A1 A2 A3).2.1 = (fun _ => 1#1)
      ∧ (Cert.Pre_finite_inputs_off_floor.fn (F := Ideal) A0 A1 A2 A3).2.2.1 = (fun _ => 1#1)
      ∧ (Cert.Pre_finite_inputs_off_floor.fn (F := Ideal) A0 A1 A2 A3).2.2.2 = (fun _ => 1#1)) :
    ∃ (p : ℕ → ℕ → ℝ) (L : ℕ → ℝ) (O : ℕ → ℕ → ℝ),
      extractStridedSlice S8192x1536 ![0, 9216] A0 slices_S8192x10752_S8192x1536_0_9216 = (V2 p : FVec Ideal S8192x1536 .bf16)
      ∧ A1 = V2 (fun _ l => L l) ∧ A2 = V2 O
      ∧ ∀ t < 8192, ∀ h < 4, ∀ l < 128, fv (low L h) (col p h) t l ≠ mf := by
  obtain ⟨e0, e1, e2, e3⟩ := e
  replace e0 : cmpf (F := Ideal) .olt (Host.absf (extf .f32 (extractStridedSlice S8192x1536 ![0, 9216] A0 slices_S8192x10752_S8192x1536_0_9216) bitsLt_bf16_f32)) (broadcastInDim S8192x1536 ![] (by decide) (constant (F := Ideal) ⟨0, ![]⟩ .f32 0x7F800000#32)) = fun _ => 1#1 := e0
  replace e1 : cmpf (F := Ideal) .olt (Host.absf A1) (broadcastInDim S1x512 ![] (by decide) (constant (F := Ideal) ⟨0, ![]⟩ .f32 0x7F800000#32)) = fun _ => 1#1 := e1
  replace e2 : cmpf (F := Ideal) .olt (Host.absf A2) (broadcastInDim S8192x512 ![] (by decide) (constant (F := Ideal) ⟨0, ![]⟩ .f32 0x7F800000#32)) = fun _ => 1#1 := e2
  have h0 := eq_V2 _ (real_of (extf .f32 (extractStridedSlice S8192x1536 ![0, 9216] A0 slices_S8192x10752_S8192x1536_0_9216) bitsLt_bf16_f32) _ _ e0)
  have h1 := eq_V2 _ (real_of A1 _ _ e1)
  have h2 := eq_V2 _ (real_of A2 _ _ e2)
  replace h1 : A1 = V2 (fun _ l => realsOf A1 0 l) := h1.trans (V2_congr fun t ht l hl => by rw [Nat.lt_one_iff.mp ht])
  exact ⟨_, _, _, h0, h1, h2, fun t ht h hh l hl => off_floor A0 A1 _ _ h0 h1 e3 t ht h hh l hl⟩

end
end Cert.Hgrn.Pre
-- ==== Proof.AlgB.lean ====
module

public import proofs.«01_k».proof.Defs
public import proofs.«01_k».proof.Proof.ArrB
public import proofs.«01_k».proof.Proof.StatesB
public import proofs.«01_k».proof.Proof.RefB
public import proofs.«01_k».proof.Proof.PreB
public import Idealize.ShloMosaic.Adequacy

@[expose] public section

set_option maxRecDepth 16384

noncomputable section

namespace Cert.Hgrn.Alg
open Idealize.ShloMosaic Idealize.ShloMosaic.TcCoe Idealize.SL.Sem Cert.Hgrn

/-! The backward call's two results are the reference's. -/

section
open Cert.ReferenceIdeal Cert.ReferenceIdeal.Gen

/-- The reference's first result, read at an index: the given array in the first columns, the gradient in the last. -/
theorem cat_cols (A3 : FVec Ideal S8192x10752 .bf16) (f : ℕ → ℕ → ℝ) (y : FVec Ideal S8192x1536 .bf16) (hy : y = V2 f) (h) (h') :
    (concatenate S8192x10752 1 [⟨S8192x9216, extractStridedSlice S8192x9216 ![0, 0] A3 h⟩, ⟨S8192x1536, y⟩] h' : FVec Ideal S8192x10752 .bf16)
      = fun i => if 9216 ≤ (i 1 : ℕ) then ((f (i 0) ((i 1 : ℕ) - 9216) : ℝ) : EReal) else A3 i := by
  subst hy
  funext i
  pointwise
  by_cases q : (i 1 : ℕ) < 9216
  · rw [if_neg (by omega : ¬ 9216 ≤ (i 1 : ℕ))]
    simp only [q, if_true, dif_pos]
  · rw [if_pos (by omega : 9216 ≤ (i 1 : ℕ))]
    simp only [q, if_false, dif_neg, not_false_eq_true]
    rfl
end

/-- From arguments that agree, hold real numbers, and keep the forget gate off its floor, the kernel and the
    reference end with the same gradient of the projection and the same gradient of the lower bounds. -/
theorem algebraic : @Cert.algebraic_KernelIdeal_ReferenceIdeal_pre_finite_inputs_off_floor Cert.KernelIdeal.Gen.facts Cert.ReferenceIdeal.Gen.facts Pre.facts := by
  intro m g m' g' hpre hagree
  refine ⟨fun c => (Cert.KernelIdeal.Gen.dats m 0 c).arrAt 4 (Cert.KernelIdeal.cfgs 0).N, fun c => (Cert.KernelIdeal.Gen.dats m 0 c).arrAt 5 (Cert.KernelIdeal.cfgs 0).N,
    Cert.KernelIdeal.Value.run_blocks m g, ?_⟩
  refine (θ_run _ _ _).mono (fun r h c => ?_) (Cert.ReferenceIdeal.Value.run m' g')
  haveI := Pre.facts
  obtain ⟨p, L, O, h0, h1, h2, hf⟩ := Pre.of_pre _ _ _ _ (hpre c)
  obtain ⟨a0, a1, a2, a3⟩ := hagree c
  have hS := Bwd.states p L m c h0 h1
  have e0 : (StableHlo.launchContents m' c (Proc.devRef .tc Cert.ReferenceIdeal.main_arg0) : FVec Ideal Cert.ReferenceIdeal.S8192x10752 .bf16) = m ((c.tc : Thread Cert.KernelIdeal.nD Cert.KernelIdeal.τ).loc Cert.KernelIdeal.main_arg0) := a0
  have e1 : (StableHlo.launchContents m' c (Proc.devRef .tc Cert.ReferenceIdeal.main_arg1) : FVec Ideal Cert.ReferenceIdeal.S1x512 .f32) = m ((c.tc : Thread Cert.KernelIdeal.nD Cert.KernelIdeal.τ).loc Cert.KernelIdeal.main_arg1) := a1
  have e2 : (StableHlo.launchContents m' c (Proc.devRef .tc Cert.ReferenceIdeal.main_arg2) : FVec Ideal Cert.ReferenceIdeal.S8192x512 .f32) = m ((c.tc : Thread Cert.KernelIdeal.nD Cert.KernelIdeal.τ).loc Cert.KernelIdeal.main_arg2) := a2
  have e3 : (StableHlo.launchContents m' c (Proc.devRef .tc Cert.ReferenceIdeal.main_arg3) : FVec Ideal Cert.ReferenceIdeal.S8192x10752 .bf16) = m ((c.tc : Thread Cert.KernelIdeal.nD Cert.KernelIdeal.τ).loc Cert.KernelIdeal.main_arg3) := a3
  have b0 : extractStridedSlice Cert.ReferenceIdeal.S8192x1536 ![0, 9216] (StableHlo.launchContents m' c (Proc.devRef .tc Cert.ReferenceIdeal.main_arg0) : FVec Ideal Cert.ReferenceIdeal.S8192x10752 .bf16) Cert.ReferenceIdeal.Gen.slices_S8192x10752_S8192x1536_0_9216 = (V2 p : FVec Ideal Cert.ReferenceIdeal.S8192x1536 .bf16) := by rw [e0]; exact h0
  have b1 := e1.trans h1
  have b2 := e2.trans h2
  have k0 := (h c).1.trans (cat_cols _ _ _ (Ref.rdp (StableHlo.launchContents m' c) p L O b0 b1 b2 hf) _ _)
  have k1 := (h c).2.1.trans (Ref.rdlb (StableHlo.launchContents m' c) p L O b0 b1 b2 hf)
  have k2 := (h c).2.2
  clear h
  rw [e3] at k0
  exact ⟨k0.trans (Bwd.arr4 m c p L O (Pre.cols_read _ p h0) h1 h2 hS).symm, k1.trans (Bwd.arr5 m c p L O (Pre.cols_read _ p h0) h1 h2 hS).symm, k2⟩

end Cert.Hgrn.Alg
-- ==== Proof.MatB.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

noncomputable section

namespace Cert.Mat3
open Cert.Kernel3Ideal Cert.Kernel3Ideal.Gen Cert.Kernel3Ideal.Value Idealize.ShloMosaic Idealize.ShloMosaic.TcCoe Idealize.SL.Sem
open Idealize.ShloMosaic.Pipeline (Dat)

/-! The gradient of the weight of the input projection: the call adds up, over four blocks of rows, the products of the normed activations'
columns with the columns of the projection's gradient, which is their product summed over all the rows. -/

/-- The block starts at zero. -/
theorem zero (j) : k0_pay1 (F := Ideal) j = 0 := by pointwise [k0_pay1]

/-- One step adds the products over its block of rows. -/
theorem step (acc : Vec Ideal S1024x1536 .f32) (a : Vec Ideal S2048x1024 .bf16) (b : Vec Ideal S2048x1536 .bf16) (j) :
    k0_pay2 acc a b j = acc j + ∑ k : Fin 2048, a (ix2 k (j 0)) * b (ix2 k (j 1)) := by pointwise [k0_pay2]

/-- The product over all the rows. -/
def prod (h : FVec Ideal S8192x1024 .bf16) (d : FVec Ideal S8192x10752 .bf16) : FVec Ideal S1024x10752 .f32 :=
  fun j => ∑ l : Fin 8192, h (ix2 l (j 0)) * d (ix2 l (j 1))

/-- Where each window's block lies. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The call's result. -/
theorem arr (m : (ℓ : Loc nD τ sig) → Buf (Elt Ideal) ℓ) (c : Dev nD) :
    (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step, zero]) (fun t h j => by rw [outsAt0_B m c t h]; frame_out; rw [step])
    t ((flush0_2 t).mp hf) _, zero_add]
  unfold prod
  refine Fin.sum_mul_add_congr fun s k hl => ?_
  refine congrArg₂ (fun a b : EReal => a * b) ?_ ?_
  · blk_ext [iblk, V, idx t, idx ⟨_, Pipeline.run_point_lt_of_flush t ((flush0_2 t).mp hf) s⟩]
  · blk_ext [iblk, V, idx t, idx ⟨_, Pipeline.run_point_lt_of_flush t ((flush0_2 t).mp hf) s⟩]

/-- The reference's result. -/
theorem ref (h : FVec Ideal S8192x1024 .bf16) (d : FVec Ideal S8192x10752 .bf16) :
    (transpose Cert.Reference3Ideal.S1024x10752 [1, 0] (Host.dotGeneral Cert.Reference3Ideal.dot_S8192x10752_S8192x1024_S10752x1024_0_0_1_1_n_n none (extf (F := Ideal) .f32 d Cert.Reference3Ideal.Gen.facts.toFacts₀.bitsLt_bf16_f32)
      (extf (F := Ideal) .f32 h Cert.Reference3Ideal.Gen.facts.toFacts₀.bitsLt_bf16_f32)) Cert.Reference3Ideal.Gen.facts.toFacts₀.transposes_S10752x1024_S1024x10752_1_0 : FVec Ideal S1024x10752 .f32) = prod h d := by
  funext j
  pointwise [prod]
  exact Finset.sum_congr rfl fun k _ => mul_comm _ _

/-- On arguments that agree, the call and the reference end with the same gradient. -/
theorem algebraic : @Cert.algebraic_Kernel3Ideal_Reference3Ideal Cert.Kernel3Ideal.Gen.facts Cert.Reference3Ideal.Gen.facts := by
  intro m g m' g' hpre hagree
  refine ⟨fun c => (dats m 0 c).arrAt 2 (cfgs 0).N, Cert.Kernel3Ideal.Value.run_blocks m g, ?_⟩
  refine (θ_run _ _ _).mono (fun r h c => ?_) (Cert.Reference3Ideal.Value.run m' g')
  obtain ⟨k0, k1⟩ := h c
  obtain ⟨e0, e1⟩ := hagree c
  refine ⟨k0.trans ?_, k1⟩
  rw [e0, e1]
  exact (ref _ _).trans (arr m c).symm

end Cert.Mat3

end
-- ==== Proof.Rms.lean ====
module

public import proofs.«01_k».proof.Proof.Lift

@[expose] public section

noncomputable section

namespace Cert.Rms
open Idealize.ShloMosaic Idealize.SL.Sem Cert.Hgrn

/-! One row of the norm over the root mean square, and the two forms of the gradient with respect to the row. -/

/-- The literal with pattern `0x358637BD`, as a real number: the norm's epsilon. -/
def eps : ℝ := 8796093 * (2 ^ 43)⁻¹

theorem eps_eq : Ideal.ofBits .f32 0x358637BD#32 = (eps : EReal) := by
  unfold eps
  rw [EReal.coe_mul]
  simp [Ideal.ofBits, Ideal.ieee]

theorem eps_pos : 0 < eps := by
  unfold eps
  positivity

theorem width_eq : Ideal.ofBits .f32 0x44800000#32 = ((1024 : ℝ) : EReal) := by
  rw [show (1024 : ℝ) = 8388608 * (2 ^ 13)⁻¹ by norm_num, EReal.coe_mul]
  simp [Ideal.ofBits, Ideal.ieee]

theorem half_eq : Ideal.ofBits .f32 0xBF000000#32 = ((-(1 / 2) : ℝ) : EReal) := by
  rw [show (-(1 / 2) : ℝ) = -8388608 * (2 ^ 24)⁻¹ by norm_num, EReal.coe_mul]
  simp [Ideal.ofBits, Ideal.ieee]

/-- The mean square of a row, plus epsilon. -/
def ms (x : Fin 1024 → EReal) : EReal := Ideal.div (∑ k, x k * x k) (Ideal.ofBits .f32 0x44800000#32) + Ideal.ofBits .f32 0x358637BD#32

/-- The reciprocal root mean square of a row. -/
def rs (x : Fin 1024 → EReal) : EReal := Ideal.rsqrt (ms x)

/-- The gradient of the row, as the kernel puts it: from the row, the gradient of the norm's output, the weight and the residual's gradient. -/
def dxK (x y n : Fin 1024 → EReal) (r : EReal) (d : Fin 1024) : EReal :=
  rs x * (y d * n d - x d * rs x * Ideal.div (∑ k, y k * n k * (x k * rs x)) (Ideal.ofBits .f32 0x44800000#32)) + r

/-- The derivative of the reciprocal root with respect to the squares, as reverse differentiation puts it. -/
def dvR (x y n : Fin 1024 → EReal) : EReal :=
  ∑ _e : Fin 1, Ideal.div ((∑ k, x k * (y k * n k)) * (Ideal.ofBits .f32 0xBF000000#32 * Ideal.div (rs x) (ms x))) (Ideal.ofBits .f32 0x44800000#32)

/-- The gradient of the row, as reverse differentiation puts it. -/
def dxR (x y n : Fin 1024 → EReal) (r : EReal) (d : Fin 1024) : EReal :=
  r + y d * n d * rs x + x d * dvR x y n + dvR x y n * x d

/-- The reciprocal root of a positive real. -/
theorem rsqrt_coe (z : ℝ) (h : 0 < z) : Ideal.rsqrt (z : EReal) = (((Real.sqrt z)⁻¹ : ℝ) : EReal) := by
  show (if z < 0 then ⊥ else if z = 0 then ⊤ else (((Real.sqrt z)⁻¹ : ℝ) : EReal)) = _
  rw [if_neg (not_lt.2 h.le), if_neg h.ne']

/-- The mean square of a row of reals. -/
def msr (x : Fin 1024 → ℝ) : ℝ := (∑ k, x k * x k) / 1024 + eps

theorem msr_pos (x : Fin 1024 → ℝ) : 0 < msr x := by
  unfold msr
  have : 0 ≤ ∑ k, x k * x k := Finset.sum_nonneg fun k _ => mul_self_nonneg _
  have := eps_pos
  positivity

theorem ms_coe (x : Fin 1024 → ℝ) : ms (fun k => (x k : EReal)) = (msr x : EReal) := by
  unfold ms msr
  rw [width_eq, eps_eq]
  simp only [← EReal.coe_mul]
  rw [← coe_sum, div_coe _ _ (by norm_num), ← EReal.coe_add]

theorem rs_coe (x : Fin 1024 → ℝ) : rs (fun k => (x k : EReal)) = (((Real.sqrt (msr x))⁻¹ : ℝ) : EReal) := by
  unfold rs
  rw [ms_coe, rsqrt_coe _ (msr_pos x)]

/-- On rows of reals the two forms agree, whatever the residual's gradient. -/
theorem dx_eq (x y n : Fin 1024 → ℝ) (r : EReal) (d : Fin 1024) :
    dxK (fun k => (x k : EReal)) (fun k => (y k : EReal)) (fun k => (n k : EReal)) r d
      = dxR (fun k => (x k : EReal)) (fun k => (y k : EReal)) (fun k => (n k : EReal)) r d := by
  have hz := msr_pos x
  have hq : (Real.sqrt (msr x))⁻¹ / msr x = (Real.sqrt (msr x))⁻¹ * (Real.sqrt (msr x))⁻¹ * (Real.sqrt (msr x))⁻¹ := by
    have e : msr x = Real.sqrt (msr x) * Real.sqrt (msr x) := (Real.mul_self_sqrt hz.le).symm
    have hs : Real.sqrt (msr x) ≠ 0 := (Real.sqrt_pos.2 hz).ne'
    rw [div_eq_mul_inv]
    conv_lhs => rw [show (msr x)⁻¹ = (Real.sqrt (msr x) * Real.sqrt (msr x))⁻¹ by rw [← e]]
    rw [mul_inv]
    ring
  unfold dxK dxR dvR
  simp only [rs_coe, ms_coe, width_eq, half_eq, Fintype.sum_unique, div_coe _ _ hz.ne']
  rw [hq]
  generalize (Real.sqrt (msr x))⁻¹ = ρ
  simp only [← EReal.coe_mul, ← coe_sum, div_coe _ _ (show (1024 : ℝ) ≠ 0 by norm_num), ← EReal.coe_sub]
  rw [add_assoc, add_assoc, ← EReal.coe_add, ← EReal.coe_add, add_comm]
  congr 2
  have e1 : ∑ k, y k * n k * (x k * ρ) = ρ * ∑ k, x k * (y k * n k) := by
    rw [Finset.mul_sum]
    exact Finset.sum_congr rfl fun k _ => by ring
  rw [e1]
  ring

end Cert.Rms

end
-- ==== Proof.InB.lean ====
module

public import proofs.«01_k».proof.Proof.Rms
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

noncomputable section

namespace Cert.Mat4
open Cert.Kernel4Ideal Cert.Kernel4Ideal.Gen Cert.Kernel4Ideal.Value Idealize.ShloMosaic Idealize.ShloMosaic.TcCoe Idealize.SL.Sem
open Idealize.ShloMosaic.Pipeline (Dat)
open Cert.Rms (rs dxK)

/-! The gradient of the projection's input and of the norm's weight, as the call computes them: the gradient of the normed rows is added up
over four blocks of columns, and at the fourth the norm's own gradient follows. -/

/-- The running product of a block of rows starts at zero. -/
theorem zero2 (j) : k0_pay2 (F := Ideal) j = 0 := by pointwise [k0_pay2]

/-- The gradient of the norm's weight starts at zero. -/
theorem zero1 (j) : k0_pay1 (F := Ideal) j = 0 := by pointwise [k0_pay1]

/-- One step adds the products over its block of columns. -/
theorem step (acc : Vec Ideal S1024x1024 .f32) (a : Vec Ideal S1024x2688 .bf16) (b : Vec Ideal S1024x2688 .bf16) (j) :
    k0_pay3 acc a b j = acc j + ∑ k : Fin 2688, a (ix2 (j 0) k) * b (ix2 (j 1) k) := by pointwise [k0_pay3]

/-- The fourth step's gradient of a block of rows. -/
theorem dx_step (x : Vec Ideal S1024x1024 .f32) (dy : Vec Ideal S1024x1024 .f32) (nw : Vec Ideal S1x1024 .f32) (dres : Vec Ideal S1024x1024 .f32)
    (r d : Fin 1024) :
    k0_pay6 x dy nw dres (ix2 r d) = dxK (fun k => x (ix2 r k)) (fun k => dy (ix2 r k)) (fun k => nw (ix2 0 k)) (dres (ix2 r d)) d := by
  pointwise [k0_pay6, k0_pay5, k0_pay4]
  rfl

/-- The fourth step adds to the gradient of the norm's weight what its block of rows gives. -/
theorem dnw_step (x : Vec Ideal S1024x1024 .f32) (dy : Vec Ideal S1024x1024 .f32) (acc : Vec Ideal S1x1024 .f32) (d : Fin 1024) :
    k0_pay7 x dy acc (ix2 0 d) = acc (ix2 0 d) + ∑ r : Fin 1024, dy (ix2 r d) * (x (ix2 r d) * rs (fun k => x (ix2 r k))) := by
  pointwise [k0_pay7, k0_pay5, k0_pay4]
  rfl

/-- The gradient of the normed rows. -/
def dyf (dp : FVec Ideal S8192x10752 .bf16) (w : FVec Ideal S1024x10752 .bf16) (r : Fin 8192) (d : Fin 1024) : EReal :=
  ∑ k : Fin 10752, dp (ix2 r k) * w (ix2 d k)

/-- The gradient of the rows. -/
def dxA (dp : FVec Ideal S8192x10752 .bf16) (w : FVec Ideal S1024x10752 .bf16) (x : FVec Ideal S8192x1024 .f32) (nw : FVec Ideal S1x1024 .f32)
    (dres : FVec Ideal S8192x1024 .f32) : FVec Ideal S8192x1024 .f32 :=
  fun j => dxK (fun k => x (ix2 (j 0) k)) (fun k => dyf dp w (j 0) k) (fun k => nw (ix2 0 k)) (dres j) (j 1)

/-- The gradient of the norm's weight. -/
def dnwA (dp : FVec Ideal S8192x10752 .bf16) (w : FVec Ideal S1024x10752 .bf16) (x : FVec Ideal S8192x1024 .f32) : FVec Ideal S1x1024 .f32 :=
  fun j => ∑ r : Fin 8192, dyf dp w r (j 1) * (x (ix2 r (j 1)) * rs (fun k => x (ix2 r k)))

/-- Where each window's block lies. -/
theorem idx : ∀ t : Fin cfg0.N, win0_0.index t = ![t.val / 4, t.val % 4] ∧ win0_1.index t = ![0, t.val % 4] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

variable (m : (ℓ : Loc nD τ sig) → Buf (Elt Ideal) ℓ) (c : Dev nD)

/-- The arguments. -/
abbrev aDp : FVec Ideal S8192x10752 .bf16 := m ((c : Thread nD τ).loc main_arg0)
abbrev aW : FVec Ideal S1024x10752 .bf16 := m ((c : Thread nD τ).loc main_arg1)
abbrev aX : FVec Ideal S8192x1024 .f32 := m ((c : Thread nD τ).loc main_arg2)
abbrev aN : FVec Ideal S1x1024 .f32 := m ((c : Thread nD τ).loc main_arg3)
abbrev aR : FVec Ideal S8192x1024 .f32 := m ((c : Thread nD τ).loc main_arg4)

/-- The row of the whole array that a row of a point's block is. -/
def row (t : Fin cfg0.N) (r : Fin 1024) : Fin 8192 := ⟨1024 * (t.val / 4) + r.val, by have : t.val < 32 := lt_of_lt_of_eq t.isLt N_0; have := r.isLt; omega⟩

theorem blk2 (t : Fin cfg0.N) (r k : Fin 1024) : (iblk m c 2 t : Vec Ideal S1024x1024 .f32) (ix2 r k) = aX m c (ix2 (row t r) k) := by
  blk_ext [iblk, V, idx t, row]

theorem blk3 (t : Fin cfg0.N) (k : Fin 1024) : (iblk m c 3 t : Vec Ideal S1x1024 .f32) (ix2 0 k) = aN m c (ix2 0 k) := by
  blk_ext [iblk, V, idx t]

theorem blk4 (t : Fin cfg0.N) (r k : Fin 1024) : (iblk m c 4 t : Vec Ideal S1024x1024 .f32) (ix2 r k) = aR m c (ix2 (row t r) k) := by
  blk_ext [iblk, V, idx t, row]

/-- At a block of rows' fourth step the running product is the gradient of the normed rows. -/
theorem scr (t : Fin cfg0.N) (h3 : t.val % 4 = 3) (r d : Fin 1024) :
    (outsAt0 m c t.val t.isLt).2.2 (ix2 r d) = dyf (aDp m c) (aW m c) (row t r) d := by
  rw [Pipeline.eq_sum_fin_of_reset_step_apply_of_flush (fun n h => (outsAt0 m c n h).2.2) 4 (fun _ => 0) _
    (fun t h j => by
      by_cases h0 : t.val % 32 = 0
      · rw [outsAt0_A m c t h0 h (by omega)]; frame_out; rw [step, zero2]
      · rw [outsAt0_D m c t h0 h (by omega)]; frame_out; rw [step, zero2])
    (fun t h j => by
      by_cases h2 : t.val % 4 = 3
      · rw [outsAt0_C m c t (by omega) h h2]; frame_out; rw [step, read_unread_whole]
      · rw [outsAt0_B m c t (by omega) h h2]; frame_out; rw [step, read_unread_whole])
    t h3 _, zero_add]
  unfold dyf
  refine Fin.sum_mul_add_congr fun s k hl => ?_
  refine congrArg₂ (fun a b : EReal => a * b) ?_ ?_
  · blk_ext [iblk, V, idx t, row, idx ⟨_, Pipeline.run_point_lt_of_flush t h3 s⟩]
  · blk_ext [iblk, V, idx t, row, idx ⟨_, Pipeline.run_point_lt_of_flush t h3 s⟩]

/-- What a block of rows' fourth step leaves in the first result's block. -/
theorem out5 (t : Fin cfg0.N) (h3 : t.val % 4 = 3) (r d : Fin 1024) :
    (outsAt0 m c t.val t.isLt).1 (ix2 r d) = dxA (aDp m c) (aW m c) (aX m c) (aN m c) (aR m c) (ix2 (row t r) d) := by
  have hs := scr m c t h3
  rw [outsAt0_C m c t (by omega) (by omega) h3] at hs ⊢
  frame_out
  frame_out at hs
  rw [dx_step]
  simp only [hs, blk2, blk3, blk4]
  rfl

/-- What a block of rows' fourth step adds to the second result. -/
theorem out6 (t : Fin cfg0.N) (h3 : t.val % 4 = 3) (d : Fin 1024) :
    (outsAt0 m c t.val t.isLt).2.1 (ix2 0 d) = (outsAt0 m c (t.val - 1) (Nat.lt_of_le_of_lt (Nat.sub_le _ _) t.isLt)).2.1 (ix2 0 d)
      + ∑ r : Fin 1024, dyf (aDp m c) (aW m c) (row t r) d * (aX m c (ix2 (row t r) d) * rs (fun k => aX m c (ix2 (row t r) k))) := by
  have hs := scr m c t h3
  rw [outsAt0_C m c t (by omega) (by omega) h3] at hs ⊢
  frame_out
  frame_out at hs
  rw [dnw_step]
  simp only [hs, blk2]

/-- The call's first result. -/
theorem arr5 : (dats m 0 c).arrAt 5 (cfgs 0).N = dxA (aDp m c) (aW m c) (aX m c) (aN m c) (aR m c) := by
  refine (dats m 0 c).arrAt_eq_of_covers 5 _ (by decide +kernel) fun t hf y => ?_
  have h3 := (flush0_5 t).mp hf
  blk_simp
  rw [after0_5]
  obtain ⟨r, d, rfl⟩ : ∃ r d : Fin 1024, y = (ix2 r d : S1024x1024.Idx) :=
    ⟨y 0, y 1, by funext a; match a with | ⟨0, _⟩ => rfl | ⟨1, _⟩ => rfl⟩
  refine (out5 m c t h3 r d).trans ?_
  refine congrArg (dxA _ _ _ _ _) ?_
  blk_ext [row, idx t]

/-- What a row gives to the gradient of the norm's weight. -/
def rowTerm (d : Fin 1024) (l : ℕ) : EReal :=
  if h : l < 8192 then dyf (aDp m c) (aW m c) ⟨l, h⟩ d * (aX m c (ix2 ⟨l, h⟩ d) * rs (fun k => aX m c (ix2 ⟨l, h⟩ k))) else 0

theorem rowTerm_fin (d : Fin 1024) (l : Fin 8192) :
    rowTerm m c d l.val = dyf (aDp m c) (aW m c) l d * (aX m c (ix2 l d) * rs (fun k => aX m c (ix2 l k))) := dif_pos l.isLt

/-- Of thirty-two steps every fourth adds something. -/
theorem fourths (G : ℕ → EReal) : ∑ p : Fin 32, (if p.val % 4 = 3 then G p.val else 0) = ∑ i : Fin 8, G (4 * i.val + 3) := by
  rw [Fin.sum_univ_eq_sum_range (fun p => if p % 4 = 3 then G p else 0) 32, Fin.sum_univ_eq_sum_range (fun i => G (4 * i + 3)) 8]
  simp [Finset.sum_range_succ]

/-- The call's second result. -/
theorem arr6 : (dats m 0 c).arrAt 6 (cfgs 0).N = dnwA (aDp m c) (aW m c) (aX m c) := by
  refine (dats m 0 c).arrAt_eq_of_covers 6 _ (by decide +kernel) fun t hf y => ?_
  have h3 := (flush0_6 t).mp hf
  blk_simp
  rw [after0_6]
  have hN : cfg0.N = 32 := N_0
  obtain ⟨d, rfl⟩ : ∃ d : Fin 1024, y = (ix2 0 d : S1x1024.Idx) :=
    ⟨y 1, by funext a; match a with | ⟨0, _⟩ => exact Subsingleton.elim (α := Fin 1) _ _ | ⟨1, _⟩ => rfl⟩
  rw [Pipeline.eq_sum_fin_of_reset_step_apply_last (fun n h => (outsAt0 m c n h).2.1) 32 (fun _ => 0)
    (fun t j => if t.val % 4 = 3 then ∑ r : Fin 1024, dyf (aDp m c) (aW m c) (row t r) (j 1) * (aX m c (ix2 (row t r) (j 1)) * rs (fun k => aX m c (ix2 (row t r) k))) else 0)
    (fun t h j => by
      have h1 : ¬ t.val % 4 = 3 := by omega
      rw [if_neg h1, outsAt0_A m c t h (by omega) h1]; frame_out; rw [zero1, add_zero])
    (fun t h j => by
      by_cases h3 : t.val % 4 = 3
      · have e : j = ix2 0 (j 1) := by funext a; match a with | ⟨0, _⟩ => exact Subsingleton.elim (α := Fin 1) _ _ | ⟨1, _⟩ => rfl
        rw [if_pos h3, e]
        exact out6 m c t h3 (j 1)
      · rw [if_neg h3, add_zero]
        by_cases h1 : t.val % 4 = 0
        · rw [outsAt0_D m c t h h1 h3]; frame_out; rfl
        · rw [outsAt0_B m c t h h1 h3]; frame_out; rfl)
    (le_of_eq N_0) t (by omega) _, zero_add]
  refine (Fintype.sum_equiv (finCongr hN) _ (fun p : Fin 32 => if p.val % 4 = 3 then ∑ r : Fin 1024, rowTerm m c d (1024 * (p.val / 4) + r.val) else 0) fun p => ?_).trans ?_
  · refine if_congr Iff.rfl (Finset.sum_congr rfl fun r _ => ?_) rfl
    exact (rowTerm_fin m c d (row p r)).symm
  rw [fourths (fun n => ∑ r : Fin 1024, rowTerm m c d (1024 * (n / 4) + r.val))]
  refine Eq.trans ?_ (congrArg (dnwA (aDp m c) (aW m c) (aX m c)) (show (ix2 0 d : S1x1024.Idx) = _ by blk_ext [idx t]))
  refine Fin.sum_mul_add_congr fun s k hl => ?_
  rw [show 1024 * ((4 * s.val + 3) / 4) + k.val = s.val * 1024 + k.val by omega]
  exact rowTerm_fin m c d ⟨_, hl⟩

end Cert.Mat4

end
-- ==== Proof.InR.lean ====
module

public import proofs.«01_k».proof.Proof.Rms
public import proofs.«01_k».proof.Proof.Gen.Reference4Ideal.Run
public import Idealize.ShloMosaic.Lib.Pointwise

@[expose] public section

noncomputable section

namespace Cert.Mat4.Ref
open Cert.Reference4Ideal Cert.Reference4Ideal.Gen Idealize.ShloMosaic Idealize.ShloMosaic.TcCoe Idealize.SL.Sem
open Cert.Rms (rs dxR)

/-! What the reference's two results are, entry by entry. -/

variable (m : (ℓ : Loc nD τ sig) → Buf (Elt Ideal) ℓ) (c : Dev nD) (dp : FVec Ideal S8192x10752 .bf16) (w : FVec Ideal S1024x10752 .bf16)
  (x : FVec Ideal S8192x1024 .f32) (nw : FVec Ideal S1x1024 .f32) (dres : FVec Ideal S8192x1024 .f32)

/-- The gradient of the rows. -/
theorem dx (e0 : m ((c.tc : Thread nD τ).loc main_arg0) = dp) (e1 : m ((c.tc : Thread nD τ).loc main_arg1) = w)
    (e2 : m ((c.tc : Thread nD τ).loc main_arg2) = x) (e3 : m ((c.tc : Thread nD τ).loc main_arg3) = nw)
    (e4 : m ((c.tc : Thread nD τ).loc main_arg4) = dres) (r : Fin 8192) (d : Fin 1024) :
    (Cert.Reference4Ideal.Value.res_main_v38 m c : FVec Ideal S8192x1024 .f32) (ix2 r d)
      = dxR (fun k => x (ix2 r k)) (fun k => ∑ l : Fin 10752, dp (ix2 r l) * w (ix2 k l)) (fun k => nw (ix2 0 k)) (dres (ix2 r d)) d := by
  unfold Cert.Reference4Ideal.Value.res_main_v38
  rw [e0, e1, e2, e3, e4]
  pointwise []
  rfl

/-- The gradient of the norm's weight. -/
theorem dnw (j : S1x1024.Idx) :
    (shapeCast S1x1024 (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x10752_S1024x10752_S8192x1024_1_1_0_0_n_n none (extf .f32 dp bitsLt_bf16_f32) (extf .f32 w bitsLt_bf16_f32))) (constant S_ .f32 0x00000000#32) reducesTo_S8192x1024_S1024_d0 h_S_) shapeCasts_S1024_S1x1024 : FVec Ideal S1x1024 .f32) j
      = ∑ r : Fin 8192, x (ix2 r (j 1)) * rs (fun k => x (ix2 r k)) * ∑ l : Fin 10752, dp (ix2 r l) * w (ix2 (j 1) l) := by
  pointwise []
  rfl

end Cert.Mat4.Ref

end
-- ==== Proof.InA.lean ====
module

public import proofs.«01_k».proof.Defs
public import proofs.«01_k».proof.Proof.InB
public import proofs.«01_k».proof.Proof.InR
public import proofs.«01_k».proof.Proof.PreB
public import Idealize.ShloMosaic.Lib.Claim

@[expose] public section

noncomputable section

namespace Cert.Mat4
open Idealize.ShloMosaic Idealize.ShloMosaic.TcCoe Idealize.SL.Sem Cert.Hgrn

/-! The call that computes the gradient of the projection's input ends with its reference's results. -/

/-- The side conditions that the precondition takes. -/
theorem preFacts : Cert.Pre_finite_products.Facts where
  bitsLt_bf16_f32 := by decide
  bcast_S_S8192x10752 := by decide
  bcast_S_S1024x10752 := by decide
  bcast_S_S8192x1024 := by decide
  bcast_S_S1x1024 := by decide

section
open Cert.Kernel4Ideal

variable (dp : FVec Ideal S8192x10752 .bf16) (w : FVec Ideal S1024x10752 .bf16) (x : FVec Ideal S8192x1024 .f32) (nw : FVec Ideal S1x1024 .f32)
  (dres : FVec Ideal S8192x1024 .f32)

/-- What the precondition says: four of the arrays hold real numbers. -/
theorem of_pre [Cert.Pre_finite_products.Facts]
    (e : (Cert.Pre_finite_products.fn (F := Ideal) dp w x nw dres).1 = (fun _ => 1#1)
      ∧ (Cert.Pre_finite_products.fn (F := Ideal) dp w x nw dres).2.1 = (fun _ => 1#1)
      ∧ (Cert.Pre_finite_products.fn (F := Ideal) dp w x nw dres).2.2.1 = (fun _ => 1#1)
      ∧ (Cert.Pre_finite_products.fn (F := Ideal) dp w x nw dres).2.2.2 = (fun _ => 1#1)) :
    (∀ i, dp i = (((dp i : EReal).toReal : ℝ) : EReal)) ∧ (∀ i, w i = (((w i : EReal).toReal : ℝ) : EReal))
      ∧ (∀ i, x i = (((x i : EReal).toReal : ℝ) : EReal)) ∧ (∀ i, nw i = (((nw i : EReal).toReal : ℝ) : EReal)) := by
  obtain ⟨e0, e1, e2, e3⟩ := e
  exact ⟨Pre.real_of (extf .f32 dp Cert.Pre_finite_products.Facts.bitsLt_bf16_f32) _ _ e0,
    Pre.real_of (extf .f32 w Cert.Pre_finite_products.Facts.bitsLt_bf16_f32) _ _ e1, Pre.real_of x _ _ e2, Pre.real_of nw _ _ e3⟩

/-- On real numbers the gradient of the rows is what reverse differentiation gives. -/
theorem dxA_eq (hd : ∀ i, dp i = (((dp i : EReal).toReal : ℝ) : EReal)) (hw : ∀ i, w i = (((w i : EReal).toReal : ℝ) : EReal))
    (hx : ∀ i, x i = (((x i : EReal).toReal : ℝ) : EReal)) (hn : ∀ i, nw i = (((nw i : EReal).toReal : ℝ) : EReal)) (r : Fin 8192) (d : Fin 1024) :
    dxA dp w x nw dres (ix2 r d)
      = Cert.Rms.dxR (fun k => x (ix2 r k)) (fun k => ∑ l : Fin 10752, dp (ix2 r l) * w (ix2 k l)) (fun k => nw (ix2 0 k)) (dres (ix2 r d)) d := by
  have q0 : (fun k : Fin 1024 => (x (ix2 r k) : EReal)) = fun k => (((x (ix2 r k) : EReal).toReal : ℝ) : EReal) := funext fun k => hx _
  have q1 : (fun k : Fin 1024 => ∑ l : Fin 10752, (dp (ix2 r l) * w (ix2 k l) : EReal))
      = fun k => ((∑ l : Fin 10752, (dp (ix2 r l) : EReal).toReal * (w (ix2 k l) : EReal).toReal : ℝ) : EReal) := by
    funext k
    rw [coe_sum]
    refine Finset.sum_congr rfl fun l _ => ?_
    rw [EReal.coe_mul, ← hd, ← hw]
  have q2 : (fun k : Fin 1024 => (nw (ix2 0 k) : EReal)) = fun k => (((nw (ix2 0 k) : EReal).toReal : ℝ) : EReal) := funext fun k => hn _
  show Cert.Rms.dxK (fun k => x (ix2 r k)) (fun k => ∑ l : Fin 10752, dp (ix2 r l) * w (ix2 k l)) (fun k => nw (ix2 0 k)) (dres (ix2 r d)) d = _
  rw [q0, q1, q2]
  exact Cert.Rms.dx_eq _ _ _ _ _

end

/-- On arguments that agree and hold real numbers, the call and the reference end with the same two gradients. -/
theorem algebraic : @Cert.algebraic_Kernel4Ideal_Reference4Ideal_pre_finite_products Cert.Kernel4Ideal.Gen.facts Cert.Reference4Ideal.Gen.facts preFacts := by
  intro m g m' g' hpre hagree
  refine ⟨fun c => (Cert.Kernel4Ideal.Gen.dats m 0 c).arrAt 5 (Cert.Kernel4Ideal.cfgs 0).N, fun c => (Cert.Kernel4Ideal.Gen.dats m 0 c).arrAt 6 (Cert.Kernel4Ideal.cfgs 0).N,
    Cert.Kernel4Ideal.Value.run_blocks m g, ?_⟩
  refine (θ_run _ _ _).mono (fun r h c => ?_) (Cert.Reference4Ideal.Value.run m' g')
  haveI := preFacts
  obtain ⟨hd, hw, hx, hn⟩ := of_pre _ _ _ _ _ (hpre c)
  obtain ⟨k0, k1, k2⟩ := h c
  obtain ⟨a0, a1, a2, a3, a4⟩ := hagree c
  refine ⟨k0.trans ?_, k1.trans ?_, k2⟩
  · refine Eq.trans ?_ (arr5 m c).symm
    funext j
    obtain ⟨r, d, rfl⟩ : ∃ (r : Fin 8192) (d : Fin 1024), j = (ix2 r d : Cert.Kernel4Ideal.S8192x1024.Idx) :=
      ⟨j 0, j 1, by funext a; match a with | ⟨0, _⟩ => rfl | ⟨1, _⟩ => rfl⟩
    exact (Ref.dx m' c _ _ _ _ _ a0 a1 a2 a3 a4 r d).trans (dxA_eq _ _ _ _ _ hd hw hx hn r d).symm
  · rw [a0, a1, a2]
    refine Eq.trans ?_ (arr6 m c).symm
    funext j
    refine (Ref.dnw _ _ _ j).trans (Finset.sum_congr rfl fun l _ => mul_comm _ _)

end Cert.Mat4

end
-- ==== Proof.FwdI.lean ====
module

public import proofs.«01_k».proof.Proof.Gen.Kernel5Ideal.Frame
public import Idealize.ShloMosaic.Lib.Claim
public import Idealize.ShloMosaic.Lib.Pipeline.TableIdle
public import Idealize.ShloMosaic.Lib.Pipeline.ReadBack
public import Idealize.ShloMosaic.Lib.Pipeline.ValueKit

@[expose] public section

set_option maxRecDepth 16384

noncomputable section

namespace Cert.FwdI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The input projection of a layer. Its grid has four blocks of rows, and for each of them seven blocks of columns. At a row block's first
point the body norms the rows, keeps them in its scratch buffer and stores them into its second result; at every point it multiplies what the
scratch buffer holds with the point's block of weights. The second result's block is written back at the last of the seven points, six points
after it was stored. -/

variable {F : FTy → Type} [FloatOps F]

/-- The normed rows of a block. -/
def hPay (x : Vec F S2048x1024 .f32) (nw : Vec F S1x1024 .f32) : FVec F S2048x1024 .bf16 :=
  truncf .bf16 (mulf (mulf x (broadcastTo S2048x1024 (rsqrt (addf (divf (shapeCast S2048x1 (multiReduction .add [1] S2048 (mulf x x)
    0x00000000#32 reduces_S2048x1024_S2048 (.inl rfl) rfl) shapeCasts_S2048_S2048x1) (broadcast S2048x1 (Scalar.ofBits .f32 0x44800000#32)))
    (broadcast S2048x1 (Scalar.ofBits .f32 0x358637BD#32)))) broadcasts_S2048x1_S2048x1024)) (broadcastTo S2048x1024 nw broadcasts_S1x1024_S2048x1024))
    bitsLt_bf16_f32

/-- The same as stored into the scratch buffer. -/
def sPay (x : Vec F S2048x1024 .f32) (nw : Vec F S1x1024 .f32) : FVec F S2048x1024 .bf16 :=
  shapeCast S2048x1024 (hPay x nw) shapeCasts_S2048x1024_S2048x1024

theorem sPay_eq (x : Vec F S2048x1024 .f32) (nw : Vec F S1x1024 .f32) : sPay x nw = hPay x nw := shapeCast_self _ _

/-- A block of normed rows multiplied with a block of weights. -/
def pPay (h : Vec F S2048x1024 .bf16) (w : Vec F S1024x1536 .bf16) : FVec F S2048x1536 .bf16 :=
  truncf .bf16 (matmul dot_S2048x1024_S1024x1536_S2048x1536_1_0_0_1_n_n none h w (constant S2048x1536 .f32 0x00000000#32)) bitsLt_bf16_f32

/-- The body as its loads and stores, with the stored values named. -/
def skel (i : grid0.Coords) (arg2 : Memref sig .tc .vmem S2048x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S2048x1536 .bf16) (harg5 : arg5.IsWhole) (arg6 : Memref sig .tc .vmem S2048x1024 .bf16) (harg6 : arg6.IsWhole) (arg7 : Memref sig .tc .vmem S2048x1024 .bf16) (harg7 : arg7.IsWhole) :
    Prog (TpuEff nD τ sig (Elt F) Λ₀ .tc) PUnit := do
  if k0_h1 : k0_cond1 i = 1#1 then do
    let v8 : Vec F S2048x1024 .f32 ← Prog.lift (.load arg2 (Rect.unit (s := S2048x1024) ![0, 0] S2048x1024.size inb_S2048x1024_S2048x1024_0_0).toLoadRect (View.loadsAt_vmem h_S2048x1024))
    let v19 : Vec F S1x1024 .f32 ← Prog.lift (.load arg3 (Rect.unit (s := S1x1024) ![0, 0] S1x1024.size inb_S1x1024_S1x1024_0_0).toLoadRect (View.loadsAt_vmem h_S1x1024))
    let v23 : Vec F S2048x1024 .bf16 ← Prog.lift (.load arg7 (Rect.unit (s := S2048x1024) ![0, 0] S2048x1024.size inb_S2048x1024_S2048x1024_0_0).toLoadRect (View.loadsAt_vmem h_S2048x1024))
    Prog.lift (.store arg7 (Rect.unit (s := S2048x1024) ![0, 0] S2048x1024.size inb_S2048x1024_S2048x1024_0_0) (sPay v8 v19) Finset.univ (View.stores_vmem h_S2048x1024 (harg7.storeExact_slice rfl _ packedbf16_S2048x1024_S2048x1024_0_0) (fun _ => rfl)) (.inl rfl))
    let v26 : Vec F S2048x1024 .bf16 ← Prog.lift (.load arg6 (Rect.unit (s := S2048x1024) ![0, 0] S2048x1024.size inb_S2048x1024_S2048x1024_0_0).toLoadRect (View.loadsAt_vmem h_S2048x1024))
    Prog.lift (.store arg6 (Rect.unit (s := S2048x1024) ![0, 0] S2048x1024.size inb_S2048x1024_S2048x1024_0_0) (hPay v8 v19) Finset.univ (View.stores_vmem h_S2048x1024 (harg6.storeExact_slice rfl _ packedbf16_S2048x1024_S2048x1024_0_0) (fun _ => rfl)) (.inl rfl))
    pure ⟨⟩
  else do
    pure ⟨⟩
  let v3 : Vec F S2048x1024 .bf16 ← Prog.lift (.load arg7 (Rect.unit (s := S2048x1024) ![0, 0] S2048x1024.size inb_S2048x1024_S2048x1024_0_0).toLoadRect (View.loadsAt_vmem h_S2048x1024))
  let v4 : Vec F S1024x1536 .bf16 ← Prog.lift (.load arg4 (Rect.unit (s := S1024x1536) ![0, 0] S1024x1536.size inb_S1024x1536_S1024x1536_0_0).toLoadRect (View.loadsAt_vmem h_S1024x1536))
  let v7 : Vec F S2048x1536 .bf16 ← Prog.lift (.load arg5 (Rect.unit (s := S2048x1536) ![0, 0] S2048x1536.size inb_S2048x1536_S2048x1536_0_0).toLoadRect (View.loadsAt_vmem h_S2048x1536))
  Prog.lift (.store arg5 (Rect.unit (s := S2048x1536) ![0, 0] S2048x1536.size inb_S2048x1536_S2048x1536_0_0) (pPay v3 v4) Finset.univ (View.stores_vmem h_S2048x1536 (harg5.storeExact_slice rfl _ packedbf16_S2048x1536_S2048x1536_0_0) (fun _ => rfl)) (.inl rfl))
  pure ⟨⟩

set_option maxRecDepth 65536 in
theorem body_eq_skel : cc0_inproj_fwd (F := F) = skel (F := F) := rfl

/-- What one store of a whole block leaves is what was stored. -/
theorem read_store {Val : EltTy → Type} {κ : Kind} {sp : Space} {S : Shape} {e : EltTy} (v : View sig κ sp S e) (f : v.ty.Contents Val)
    {off : Fin S.rank → ℕ} (inb : ∀ a, off a + S.size a ≤ S.size a) (w : S.Idx → Val e) (h : ∀ a, off a = 0) :
    v.read Val (v.writes Val f [(⟨Rect.unit off S.size inb, w⟩ : View.Piece Val S e)]) = w := by
  funext y
  have e : (Rect.unit off S.size inb).emb y = y := by
    funext a; apply Fin.ext
    rw [Rect.emb_apply]
    show off a + 1 * (y a).val = (y a).val
    rw [h a]; omega
  conv_lhs => rw [← e]
  exact View.read_writes_cons_emb _ _ _ _ _ _

set_option maxHeartbeats 1000000 in
/-- The body at a row block's first point, on whole buffers: the scratch buffer and the second result end at the normed rows, the first
result at their product with the block of weights. -/
theorem run_first (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S2048x1536 .bf16) (harg5 : arg5.IsWhole) (arg6 : Memref sig .tc .vmem S2048x1024 .bf16) (harg6 : arg6.IsWhole) (arg7 : Memref sig .tc .vmem S2048x1024 .bf16) (harg7 : arg7.IsWhole)
    (hc : k0_cond1 i = 1#1) (x0 : Vec F S2048x1024 .f32) (x1 : Vec F S1x1024 .f32) (x2 : Vec F S1024x1536 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (pPay (hPay x0 x1) x2) ∗ owns (c : Thread nD τ) arg6 fullShare (hPay x0 x1)
            ∗ owns (c : Thread nD τ) arg7 fullShare (hPay x0 x1)) -∗ K ⟨⟩))
      ⊢ wp frame (wpE (defs₀ (F := F)) Variants.none c none) E (cc0_inproj_fwd i arg2 harg2 arg3 harg3 arg4 harg4 arg5 harg5 arg6 harg6 arg7 harg7) K := by
  simp only [body_eq_skel]; unfold skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    frame_out
    refine (read_store _ _ _ _ (by decide)).trans ?_
    try simp only [sPay_eq]
  isplitl [H4]
  · iexists _; isplitr
    swap; · iexact H4
    ipureintro
    frame_out
    refine (read_store _ _ _ _ (by decide)).trans ?_
    try simp only [sPay_eq]
  iexists _; isplitr
  swap; · iexact HS
  ipureintro
  frame_out
  exact (read_store _ _ _ _ (by decide)).trans (sPay_eq _ _)

set_option maxHeartbeats 1000000 in
/-- The body at any other point: the scratch buffer and the second result's buffer keep what they hold, the first result ends at the product of
the scratch buffer with the block of weights. -/
theorem run_later (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S2048x1536 .bf16) (harg5 : arg5.IsWhole) (arg6 : Memref sig .tc .vmem S2048x1024 .bf16) (harg6 : arg6.IsWhole) (arg7 : Memref sig .tc .vmem S2048x1024 .bf16) (harg7 : arg7.IsWhole)
    (hc : ¬k0_cond1 i = 1#1) (x0 : Vec F S2048x1024 .f32) (x1 : Vec F S1x1024 .f32) (x2 : Vec F S1024x1536 .bf16) (h4 h5 : Vec F S2048x1024 .bf16)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare h4 ∗ owns (c : Thread nD τ) arg7 fullShare h5
        ∗ (iprop(owns (c : Thread nD τ) arg2 fullShare x0 ∗ owns (c : Thread nD τ) arg3 fullShare x1 ∗ owns (c : Thread nD τ) arg4 fullShare x2
            ∗ owns (c : Thread nD τ) arg5 fullShare (pPay h5 x2) ∗ owns (c : Thread nD τ) arg6 fullShare h4
            ∗ owns (c : Thread nD τ) arg7 fullShare h5) -∗ K ⟨⟩))
      ⊢ wp frame (wpE (defs₀ (F := F)) Variants.none c none) E (cc0_inproj_fwd i arg2 harg2 arg3 harg3 arg4 harg4 arg5 harg5 arg6 harg6 arg7 harg7) K := by
  simp only [body_eq_skel]; unfold skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2
  obtain rfl := harg6.eq_unread hf4; obtain rfl := harg7.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    frame_out
    exact read_store _ _ _ _ (by decide)
  isplitl [H4]
  · iexists _; isplitr; · ipureintro; exact harg6.read_unread _
    iexact H4
  iexists _; isplitr; · ipureintro; exact harg7.read_unread _
  iexact HS

/-! ## Where the points lie -/

/-- The condition holds at a row block's first point. -/
theorem hcond : ∀ t : Fin cfg0.N, k0_cond1 (grid0.coords t) = 1#1 ↔ t.val % 7 = 0 :=
  (fun t => by
    have ht : t.val < 28 := Nat.lt_of_lt_of_eq t.isLt N_0
    have e0 : (grid0.coords t 0).val = t.val / 7 % 4 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 7 = 0)

/-- The second result is stored at those points only. -/
theorem live4 : ∀ t : Fin cfg0.N, t.val % 7 = 0 → cfg0.idle 4 (grid0.coords t) = false := by decide +kernel
theorem idle4 : ∀ t : Fin cfg0.N, ¬t.val % 7 = 0 → cfg0.idle 4 (grid0.coords t) = true := by decide +kernel
theorem flush4 : ∀ t : Fin cfg0.N, ¬t.val % 7 = 6 → (cfg0.win 4).flush t = false := by decide +kernel
theorem flush4' : ∀ t : Fin cfg0.N, t.val % 7 = 6 → (cfg0.win 4).flush t = true := by decide +kernel

/-- Its buffer holds nothing stored exactly before a row block's first point. -/
theorem fresh4 : ∀ t : Fin cfg0.N, cfg0.fresh 4 t.val = decide (t.val % 7 = 0) := fun t =>
  cfg0.fresh_tab 4 (fun n => decide (n % 7 = 0)) rfl (by decide +kernel) t.val (Nat.le_of_lt t.isLt)

/-- A row block's first point. -/
def first (n : ℕ) (h : n < cfg0.N) : Fin cfg0.N := ⟨7 * (n / 7), by omega⟩

theorem first_pred (n : ℕ) (h : n < cfg0.N) (h0 : ¬n % 7 = 0) : first n h = first (n - 1) (Nat.lt_of_le_of_lt (Nat.sub_le _ _) h) :=
  Fin.ext (by show 7 * (n / 7) = 7 * ((n - 1) / 7); omega)

theorem first_self (t : Fin cfg0.N) (h0 : t.val % 7 = 0) : first t.val t.isLt = t := Fin.ext (by show 7 * (t.val / 7) = t.val; omega)

variable (m : (ℓ : Loc nD τ sig) → Buf (Elt F) ℓ) (ρ : Dev nD → PrngReg)

/-- The normed rows a point works on: those of its row block's first point. -/
def hAt (c : Dev nD) (n : ℕ) (h : n < cfg0.N) : Vec F S2048x1024 .bf16 := hPay (iblk m c 0 (first n h)) (iblk m c 1 (first n h))

theorem hAt_pred (c : Dev nD) (n : ℕ) (h : n < cfg0.N) (h0 : ¬n % 7 = 0) :
    hAt m c n h = hAt m c (n - 1) (Nat.lt_of_le_of_lt (Nat.sub_le _ _) h) := by
  unfold hAt; rw [first_pred n h h0]

theorem hAt_first (c : Dev nD) (t : Fin cfg0.N) (h0 : t.val % 7 = 0) : hAt m c t.val t.isLt = hPay (iblk m c 0 t) (iblk m c 1 t) := by
  unfold hAt; rw [first_self t h0]

/-! ## The pipeline's proof data -/

/-- The scratch buffer. -/
abbrev scr : Memref sig .tc .vmem S2048x1024 .bf16 := Memref.whole cc0_scratch0

theorem ΦA_eq (c : Dev nD) :
    (Pipeline.ΦA spec0 c : sProp (MT nD τ sig Unit (Elt F) ℕ (UR sig nD τ) ℕ)) = iprop(iprop((∃ d, owns (c : Thread nD τ) scr fullShare d)) ∗ (∃ r, prngReg c r)) := by
  unfold Pipeline.ΦA; rw [scopedRest0_eq]; simp only [scr, owns_whole]; try rfl

/-- Between points the scratch buffer holds the normed rows of the point before. -/
def Phi (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scr fullShare (hAt m c n hn)) ∗ (∃ r, prngReg c r))

theorem Phi_zero (c : Dev nD) (n : ℕ) (h : n ≤ cfg0.N) (hz : n = 0) : Phi m c n h = Pipeline.ΦA spec0 c := by subst hz; rfl

theorem Phi_pos (c : Dev nD) (n : ℕ) (h : n ≤ cfg0.N) (hz : n ≠ 0) :
    Phi m c n h = iprop(iprop(owns (c : Thread nD τ) scr fullShare (hAt m c (n - 1) (by omega))) ∗ (∃ r, prngReg c r)) := by
  cases n with
  | zero => exact absurd rfl hz
  | succ n => rfl

/-- What every buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pPay (hAt m c t.val t.isLt) (iblk m c 2 t)
    | ⟨4, _⟩ => hAt m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = pPay (hAt m c t.val t.isLt) (iblk m c 2 t) := by dsimp only [dats]
theorem after4 (c : Dev nD) (t : Fin cfg0.N) : (dats m 0 c).after 4 t = hAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a later point of a row block the second result's buffer still holds the normed rows. -/
theorem before4 (c : Dev nD) (t : Fin cfg0.N) (h0 : ¬t.val % 7 = 0) (d) : (dats m 0 c).before 4 t d = hAt m c t.val t.isLt := by
  rw [(dats m 0 c).before_out_traj 4 rfl (fun _ _ => rfl) (fun t' ht' hi _ => by
    rw [after4, after4]
    exact hAt_pred m c t'.val t'.isLt (fun h => by rw [live4 t' h] at hi; exact Bool.false_ne_true hi)) t.val t rfl d,
    fresh4 t, if_neg (by simp only [h0, decide_false]; exact Bool.false_ne_true), after4]
  exact (hAt_pred m c t.val t.isLt h0).symm

/-! ## The body at a point -/

theorem leaves0 (c : Dev nD) (t : Fin cfg0.N) : (dats m 0 c).leavesExact 0 t = owns (c : Thread nD τ) (st0_0 t) fullShare (iblk m c 0 t) := by
  rw [← after0 m c t]
theorem leaves1 (c : Dev nD) (t : Fin cfg0.N) : (dats m 0 c).leavesExact 1 t = owns (c : Thread nD τ) (st0_1 t) fullShare (iblk m c 1 t) := by
  rw [← after1 m c t]
theorem leaves2 (c : Dev nD) (t : Fin cfg0.N) : (dats m 0 c).leavesExact 2 t = owns (c : Thread nD τ) (st0_2 t) fullShare (iblk m c 2 t) := by
  rw [← after2 m c t]
theorem leaves3 (c : Dev nD) (t : Fin cfg0.N) :
    (dats m 0 c).leavesExact 3 t = owns (c : Thread nD τ) (st0_3 t) fullShare (pPay (hAt m c t.val t.isLt) (iblk m c 2 t)) := by
  rw [← after3 m c t]

/-- Whether the point stores it, writes it back or neither, the second result's buffer may be left at the normed rows. -/
theorem leaves4 (c : Dev nD) (t : Fin cfg0.N) :
    owns (c : Thread nD τ) (st0_4 t) fullShare (hAt m c t.val t.isLt) ⊢ ((dats m 0 c).leavesExact 4 t : sProp (MT nD τ sig Unit (Elt F) ℕ (UR sig nD τ) ℕ)) := by
  by_cases h0 : t.val % 7 = 0
  · have e : (dats m 0 c).leavesExact 4 t = owns (c : Thread nD τ) (st0_4 t) fullShare ((dats m 0 c).after 4 t) := by
      unfold Dat.leavesExact; rw [live4 t h0]
    rw [e, after4]
  · by_cases h6 : t.val % 7 = 6
    · have e : (dats m 0 c).leavesExact 4 t = owns (c : Thread nD τ) (st0_4 t) fullShare ((dats m 0 c).after 4 t) := by
        unfold Dat.leavesExact; rw [idle4 t h0, flush4' t h6]
      rw [e, after4]
    · rw [Dat.leavesExact_idle (dats m 0 c) 4 t (idle4 t h0) (flush4 t h6)]
      simp only [before4 m c t h0]
      iintro H
      iexists (fun _ => Classical.choice inferInstance); iexact H

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ ∗ (dats m 0 c).leavesExact 0 t ∗ (dats m 0 c).leavesExact 1 t
    ∗ (dats m 0 c).leavesExact 2 t ∗ (dats m 0 c).leavesExact 3 t ∗ (dats m 0 c).leavesExact 4 t)

set_option maxHeartbeats 1200000 in
/-- The body at any point takes the buffers from what they hold before it to what the proof data says of them after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [leaves0, leaves1, leaves2, leaves3, show (dats m 0 c).owesAt () t.succ = (dats m 0 c).owesAt () t.castSucc from rfl,
    show (dats m 0 c).Φ t.succ = Phi m c (t.val + 1) t.isLt from rfl, Phi_pos m c (t.val + 1) _ (Nat.succ_ne_zero _), Phi_castSucc m c t]
  by_cases h0 : t.val % 7 = 0
  · have hΦ : Phi m c t.val (Nat.le_of_lt t.isLt) ⊢ iprop(iprop((∃ d, owns (c : Thread nD τ) scr fullShare d)) ∗ (∃ r, prngReg c r)) := by
      by_cases hz : t.val = 0
      · rw [Phi_zero m c _ _ hz, ΦA_eq]
      · rw [Phi_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩⟩
    ihave ⟨HS, Hg⟩ := hΦ $$ HΦ
    iapply (run_first c (grid0.coords t) _ _ _ _ _ _ _ _ _ _ _ _ ((hcond t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    rw [← hAt_first m c t h0]
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves4 m c t); iexact H4
  · rw [Phi_pos m c t.val _ (fun h => h0 (by rw [h])), ← hAt_pred m c t.val t.isLt h0]
    simp only [before4 m c t h0]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (fun h => h0 ((hcond t).mp h)) (iblk m c 0 t) (iblk m c 1 t) (iblk m c 2 t)
      (hAt m c t.val t.isLt) (hAt m c t.val t.isLt) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves4 m c t); iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  rw [show (dats m 0 c).Φ (Fin.last cfg0.N) = Phi m c cfg0.N le_rfl from rfl, Phi_pos m c _ _ (by have : cfg0.N = 28 := N_0; omega), ΦA_eq]
  iintro ⟨HS, Hg⟩
  isplitl [HS]; · iexists _; iexact HS
  iexact Hg

/-! ## The run and the frame -/

set_option backward.isDefEq.respectTransparency.types false in
/-- Every run ends with the windows' arrays at what the proof data gives, every other array as it was, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.FwdI

end
-- ==== Proof.FwdV.lean ====
module

public import proofs.«01_k».proof.Defs
public import proofs.«01_k».proof.Proof.Rms
public import proofs.«01_k».proof.Proof.FwdI
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.FwdI

section
open Cert.Kernel5Ideal Cert.Kernel5Ideal.Gen
open Idealize.ShloMosaic Idealize.ShloMosaic.TcCoe Idealize.SL.Sem
open Idealize.ShloMosaic.Pipeline (Dat)
open Cert.Rms (rs)

/-! The layer's normed rows and their projection, as the call computes them. -/

/-- A normed row. -/
theorem hPay_at (x : Vec Ideal S2048x1024 .f32) (nw : Vec Ideal S1x1024 .f32) (r : Fin 2048) (d : Fin 1024) :
    hPay x nw (ix2 r d) = x (ix2 r d) * rs (fun k => x (ix2 r k)) * nw (ix2 0 d) := by
  pointwise [hPay]
  rfl

/-- A block of rows multiplied with a block of weights. -/
theorem pPay_at (h : Vec Ideal S2048x1024 .bf16) (w : Vec Ideal S1024x1536 .bf16) (r : Fin 2048) (d : Fin 1536) :
    pPay h w (ix2 r d) = ∑ k : Fin 1024, h (ix2 r k) * w (ix2 k d) := by
  pointwise [pPay]

/-- The normed rows. -/
def hA (x : FVec Ideal S8192x1024 .f32) (nw : FVec Ideal S1x1024 .f32) : FVec Ideal S8192x1024 .bf16 :=
  fun j => x j * rs (fun k => x (ix2 (j 0) k)) * nw (ix2 0 (j 1))

/-- Their projection. -/
def pA (x : FVec Ideal S8192x1024 .f32) (nw : FVec Ideal S1x1024 .f32) (w : FVec Ideal S1024x10752 .bf16) : FVec Ideal S8192x10752 .bf16 :=
  fun j => ∑ k : Fin 1024, hA x nw (ix2 (j 0) k) * w (ix2 k (j 1))

/-- Where each window's block lies. -/
theorem idx : ∀ t : Fin cfg0.N, win0_0.index t = ![t.val / 7, 0] ∧ win0_1.index t = ![0, 0] ∧ win0_2.index t = ![0, t.val % 7]
    ∧ win0_3.index t = ![t.val / 7, t.val % 7] ∧ win0_4.index t = ![t.val / 7, 0] :=
  (by decide +kernel : ∀ t : Fin grid0.N, _)

variable (m : (ℓ : Loc nD τ sig) → Buf (Elt Ideal) ℓ) (g : Dev nD → PrngReg) (c : Dev nD)

/-- The arguments. -/
abbrev aX : FVec Ideal S8192x1024 .f32 := m ((c : Thread nD τ).loc main_arg0)
abbrev aN : FVec Ideal S1x1024 .f32 := m ((c : Thread nD τ).loc main_arg1)
abbrev aW : FVec Ideal S1024x10752 .bf16 := m ((c : Thread nD τ).loc main_arg2)

/-- The row of the whole array that a row of a point's block is, and the column of the projection. -/
def row (t : Fin cfg0.N) (r : Fin 2048) : Fin 8192 := ⟨2048 * (t.val / 7) + r.val, by have : t.val < 28 := lt_of_lt_of_eq t.isLt N_0; have := r.isLt; omega⟩
def col (t : Fin cfg0.N) (d : Fin 1536) : Fin 10752 := ⟨1536 * (t.val % 7) + d.val, by have := d.isLt; omega⟩

theorem row_first (t : Fin cfg0.N) (r : Fin 2048) : row (first t.val t.isLt) r = row t r :=
  Fin.ext (by show 2048 * (7 * (t.val / 7) / 7) + r.val = 2048 * (t.val / 7) + r.val; omega)

theorem blk0 (t : Fin cfg0.N) (r : Fin 2048) (k : Fin 1024) : (iblk m c 0 t : Vec Ideal S2048x1024 .f32) (ix2 r k) = aX m c (ix2 (row t r) k) := by
  blk_ext [iblk, V, idx t, row]

theorem blk1 (t : Fin cfg0.N) (k : Fin 1024) : (iblk m c 1 t : Vec Ideal S1x1024 .f32) (ix2 0 k) = aN m c (ix2 0 k) := by
  blk_ext [iblk, V, idx t]

theorem blk2 (t : Fin cfg0.N) (k : Fin 1024) (d : Fin 1536) : (iblk m c 2 t : Vec Ideal S1024x1536 .bf16) (ix2 k d) = aW m c (ix2 k (col t d)) := by
  blk_ext [iblk, V, idx t, col]

/-- The scratch buffer holds the normed rows of the point's block of rows. -/
theorem hAt_at (t : Fin cfg0.N) (r : Fin 2048) (d : Fin 1024) : hAt m c t.val t.isLt (ix2 r d) = hA (aX m c) (aN m c) (ix2 (row t r) d) := by
  unfold hAt
  rw [hPay_at, blk1]
  simp only [blk0, row_first]
  rfl

/-- The first result's block at a point. -/
theorem p_at (t : Fin cfg0.N) (r : Fin 2048) (d : Fin 1536) :
    pPay (hAt m c t.val t.isLt) (iblk m c 2 t) (ix2 r d) = pA (aX m c) (aN m c) (aW m c) (ix2 (row t r) (col t d)) := by
  rw [pPay_at]
  exact Finset.sum_congr rfl fun k _ => congrArg₂ (fun a b : EReal => a * b) (hAt_at m c t r k) (blk2 m c t k d)

/-- The call's first result. -/
theorem arr3 : (dats m 0 c).arrAt 3 (cfgs 0).N = pA (aX m c) (aN m c) (aW m c) := by
  refine (dats m 0 c).arrAt_eq_of_covers 3 _ (by decide +kernel) fun t hf y => ?_
  blk_simp
  rw [after3]
  obtain ⟨r, d, rfl⟩ : ∃ (r : Fin 2048) (d : Fin 1536), y = (ix2 r d : S2048x1536.Idx) :=
    ⟨y 0, y 1, by funext a; match a with | ⟨0, _⟩ => rfl | ⟨1, _⟩ => rfl⟩
  refine (p_at m c t r d).trans ?_
  refine congrArg (pA _ _ _) ?_
  blk_ext [row, col, idx t]

/-- The call's second result. -/
theorem arr4 : (dats m 0 c).arrAt 4 (cfgs 0).N = hA (aX m c) (aN m c) := by
  refine (dats m 0 c).arrAt_eq_of_covers 4 _ (by decide +kernel) fun t hf y => ?_
  blk_simp
  rw [after4]
  obtain ⟨r, d, rfl⟩ : ∃ (r : Fin 2048) (d : Fin 1024), y = (ix2 r d : S2048x1024.Idx) :=
    ⟨y 0, y 1, by funext a; match a with | ⟨0, _⟩ => rfl | ⟨1, _⟩ => rfl⟩
  refine (hAt_at m c t r d).trans ?_
  refine congrArg (hA _ _) ?_
  blk_ext [row, idx t]

/-- Every run ends with these results, and the arguments unchanged. -/
theorem run_results : θ_run defs (onTc (τ := τ) (main (F := Ideal))) ⟨m, fun _ => 0, g⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3, (h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (run_quiescent m g)

end

section
open Cert.Reference5Ideal Cert.Reference5Ideal.Gen Cert.Reference5Ideal.Value
open Idealize.ShloMosaic Idealize.ShloMosaic.TcCoe Idealize.SL.Sem

variable (x : FVec Ideal S8192x1024 .f32) (nw : FVec Ideal S1x1024 .f32) (w : FVec Ideal S1024x10752 .bf16)

/-- The reference's normed rows. -/
theorem ref_h (r : Fin 8192) (d : Fin 1024) :
    (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 nw) : FVec Ideal S8192x1024 .f32) (ix2 r d)
      = hA x nw (ix2 r d) := by
  pointwise []
  rfl

/-- The reference's projection. -/
theorem ref_p (h : FVec Ideal S8192x1024 .f32) (r : Fin 8192) (d : Fin 10752) :
    (Host.dotGeneral dot_S8192x1024_S1024x10752_S8192x10752_1_0_0_1_n_n none h (extf (F := Ideal) .f32 w bitsLt_bf16_f32) : FVec Ideal S8192x10752 .f32) (ix2 r d)
      = ∑ k : Fin 1024, h (ix2 r k) * w (ix2 k d) := by
  pointwise []

end

open Idealize.ShloMosaic Idealize.ShloMosaic.TcCoe Idealize.SL.Sem

/-- On arguments that agree, the call and the reference end with the same projection and the same normed rows. -/
theorem algebraic : @Cert.algebraic_Kernel5Ideal_Reference5Ideal Cert.Kernel5Ideal.Gen.facts Cert.Reference5Ideal.Gen.facts := by
  intro m g m' g' hpre hagree
  refine ⟨fun c => (dats m 0 c).arrAt 3 (Cert.Kernel5Ideal.cfgs 0).N, fun c => (dats m 0 c).arrAt 4 (Cert.Kernel5Ideal.cfgs 0).N, run_results m g, ?_⟩
  refine (θ_run _ _ _).mono (fun r h c => ?_) (Cert.Reference5Ideal.Value.run m' g')
  obtain ⟨k0, k1, k2⟩ := h c
  obtain ⟨e0, e1, e2⟩ := hagree c
  refine ⟨k0.trans ?_, k1.trans ?_, k2⟩
  · rw [e0, e1, e2]
    refine Eq.trans ?_ (arr3 m c).symm
    funext j
    obtain ⟨r, d, rfl⟩ : ∃ (r : Fin 8192) (d : Fin 10752), j = (ix2 r d : Cert.Kernel5Ideal.S8192x10752.Idx) :=
      ⟨j 0, j 1, by funext a; match a with | ⟨0, _⟩ => rfl | ⟨1, _⟩ => rfl⟩
    exact (ref_p (aW m c) _ r d).trans (Finset.sum_congr rfl fun k _ => congrArg (fun a : EReal => a * _) (ref_h (aX m c) (aN m c) r k))
  · rw [e0, e1]
    refine Eq.trans ?_ (arr4 m c).symm
    funext j
    obtain ⟨r, d, rfl⟩ : ∃ (r : Fin 8192) (d : Fin 1024), j = (ix2 r d : Cert.Kernel5Ideal.S8192x1024.Idx) :=
      ⟨j 0, j 1, by funext a; match a with | ⟨0, _⟩ => rfl | ⟨1, _⟩ => rfl⟩
    exact ref_h (aX m c) (aN m c) r d

end Cert.FwdI

end
-- ==== Proof.MatO.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

noncomputable section

namespace Cert.Mat6
open Cert.Kernel6Ideal Cert.Kernel6Ideal.Gen Cert.Kernel6Ideal.Value Idealize.ShloMosaic Idealize.ShloMosaic.TcCoe Idealize.SL.Sem
open Idealize.ShloMosaic.Pipeline (Dat)

/-! The gradient of the weight of the output projection. The call adds up, over four blocks of rows, the products of the columns, and at the last block it also
writes the sum in the narrower format; over the reals both results are the product summed over all the rows. -/

/-- The sum starts at zero. -/
theorem zero (j) : k0_pay1 (F := Ideal) j = 0 := by pointwise [k0_pay1]

/-- One step adds the products over its block of rows. -/
theorem step (acc : Vec Ideal S1024x1024 .f32) (a : Vec Ideal S2048x1024 .bf16) (b : Vec Ideal S2048x1024 .f32) (j) :
    k0_pay2 acc a b j = acc j + ∑ k : Fin 2048, a (ix2 k (j 0)) * b (ix2 k (j 1)) := by pointwise [k0_pay2]

/-- The narrower copy holds the same numbers. -/
theorem copy (acc : Vec Ideal S1024x1024 .f32) (j) : k0_pay3 acc j = acc j := by pointwise [k0_pay3]

/-- The product over all the rows. -/
def prod (a : FVec Ideal S8192x1024 .bf16) (b : FVec Ideal S8192x1024 .f32) : S1024x1024.Idx → EReal :=
  fun j => ∑ l : Fin 8192, a (ix2 l (j 0)) * b (ix2 l (j 1))

/-- Where each window's block lies. -/
theorem idx : ∀ t : Fin cfg0.N, win0_0.index t = ![t.val % 4, 0] ∧ win0_1.index t = ![t.val % 4, 0] ∧ win0_2.index t = ![0, 0] ∧ win0_3.index t = ![0, 0] :=
  (by decide +kernel : ∀ t : Fin grid0.N, _)

/-- The sum after the last block. -/
theorem sum (m : (ℓ : Loc nD τ sig) → Buf (Elt Ideal) ℓ) (c : Dev nD) (t : Fin cfg0.N) (h3 : t.val % 4 = 3) (y : S1024x1024.Idx) :
    (outsAt0 m c t.val t.isLt).1 y = prod (m ((c : Thread nD τ).loc main_arg0)) (m ((c : Thread nD τ).loc main_arg1)) y := by
  rw [Pipeline.eq_sum_fin_of_reset_step_apply_of_flush (fun n h => (outsAt0 m c n h).1) 4 (fun _ => 0) _
    (fun t h j => by rw [outsAt0_A m c t h (by omega)]; frame_out; rw [step, zero])
    (fun t h j => by
      by_cases h1 : t.val % 4 = 3
      · rw [outsAt0_C m c t h h1]; frame_out; rw [step]
      · rw [outsAt0_B m c t h h1]; frame_out; rw [step])
    t h3 _, zero_add]
  unfold prod
  refine Fin.sum_mul_add_congr fun s k hl => ?_
  refine congrArg₂ (fun a b : EReal => a * b) ?_ ?_
  · blk_ext [iblk, V, idx t, idx ⟨_, Pipeline.run_point_lt_of_flush t h3 s⟩]
  · blk_ext [iblk, V, idx t, idx ⟨_, Pipeline.run_point_lt_of_flush t h3 s⟩]

/-- The copy after the last block. -/
theorem sum_copy (m : (ℓ : Loc nD τ sig) → Buf (Elt Ideal) ℓ) (c : Dev nD) (t : Fin cfg0.N) (h3 : t.val % 4 = 3) (y : S1024x1024.Idx) :
    (outsAt0 m c t.val t.isLt).2 y = prod (m ((c : Thread nD τ).loc main_arg0)) (m ((c : Thread nD τ).loc main_arg1)) y := by
  rw [← sum m c t h3 y, outsAt0_C m c t (by omega) h3]
  frame_out
  rw [copy]

/-- The call's results. -/
theorem arr2 (m : (ℓ : Loc nD τ sig) → Buf (Elt Ideal) ℓ) (c : Dev nD) :
    (dats m 0 c).arrAt 2 (cfgs 0).N = (prod (m ((c : Thread nD τ).loc main_arg0)) (m ((c : Thread nD τ).loc main_arg1)) : FVec Ideal S1024x1024 .f32) := by
  refine (dats m 0 c).arrAt_eq_of_covers 2 _ (by decide +kernel) fun t hf y => ?_
  blk_simp
  rw [after0_2]
  refine (sum m c t ((flush0_2 t).mp hf) y).trans (congrArg (prod _ _) ?_)
  blk_ext [idx t]

theorem arr3 (m : (ℓ : Loc nD τ sig) → Buf (Elt Ideal) ℓ) (c : Dev nD) :
    (dats m 0 c).arrAt 3 (cfgs 0).N = (prod (m ((c : Thread nD τ).loc main_arg0)) (m ((c : Thread nD τ).loc main_arg1)) : FVec Ideal S1024x1024 .bf16) := by
  refine (dats m 0 c).arrAt_eq_of_covers 3 _ (by decide +kernel) fun t hf y => ?_
  blk_simp
  rw [after0_3]
  refine (sum_copy m c t ((flush0_3 t).mp hf) y).trans (congrArg (prod _ _) ?_)
  blk_ext [idx t]

/-- The reference's result. -/
theorem ref (a : FVec Ideal S8192x1024 .bf16) (b : FVec Ideal S8192x1024 .f32) :
    (transpose Cert.Reference6Ideal.S1024x1024 [1, 0] (Host.dotGeneral Cert.Reference6Ideal.dot_S8192x1024_S8192x1024_S1024x1024_0_0_1_1_n_n none b
      (extf (F := Ideal) .f32 a Cert.Reference6Ideal.Gen.facts.toFacts₀.bitsLt_bf16_f32)) Cert.Reference6Ideal.Gen.facts.toFacts₀.transposes_S1024x1024_S1024x1024_1_0 : FVec Ideal S1024x1024 .f32) = prod a b := by
  funext j
  pointwise [prod]
  exact Finset.sum_congr rfl fun k _ => mul_comm _ _

/-- On arguments that agree, the call and the reference end with the same gradient and the same copy of it. -/
theorem algebraic : @Cert.algebraic_Kernel6Ideal_Reference6Ideal Cert.Kernel6Ideal.Gen.facts Cert.Reference6Ideal.Gen.facts := by
  intro m g m' g' hpre hagree
  refine ⟨fun c => (dats m 0 c).arrAt 2 (cfgs 0).N, fun c => (dats m 0 c).arrAt 3 (cfgs 0).N, Cert.Kernel6Ideal.Value.run_blocks m g, ?_⟩
  refine (θ_run _ _ _).mono (fun r h c => ?_) (Cert.Reference6Ideal.Value.run m' g')
  obtain ⟨k0, k1, k2⟩ := h c
  obtain ⟨e0, e1⟩ := hagree c
  refine ⟨k0.trans ?_, k1.trans ?_, k2⟩
  · rw [e0, e1]
    exact (ref _ _).trans (arr2 m c).symm
  · rw [e0, e1]
    exact (ref _ _).trans (arr3 m c).symm

end Cert.Mat6

end
-- ==== Proof.MrgK.lean ====
module

public import proofs.«01_k».proof.Proof.Gen.Kernel10Ideal.Value
public import Idealize.ShloMosaic.Lib.Pipeline.ValueKit
public import Idealize.ShloMosaic.Lib.Pipeline.ReadBack
public import Idealize.ShloMosaic.Lib.Pointwise

@[expose] public section

noncomputable section

namespace Cert.Merge
open Idealize.ShloMosaic Idealize.SL.Sem

/-! The merge of a layer's three mixers, as the call computes it: each head of two of them normed and gated, three
products with gates, their sum's product added to the layer's input. -/

/-- The reciprocal root mean square of a head of 128. -/
def rs128 (x : Fin 128 → EReal) : EReal :=
  Ideal.rsqrt (Ideal.div (∑ k, x k * x k) (Ideal.ofBits .f32 0x43000000#32) + Ideal.ofBits .f32 0x358637BD#32)

/-- Column `k` of the head that column `j` lies in. -/
def hcol {n : ℕ} (hn : n % 128 = 0) (j : Fin n) (k : Fin 128) : Fin n := ⟨j.val / 128 * 128 + k.val, by have := k.isLt; have := j.isLt; omega⟩

/-- The entry at column `j` of a row of `n / 128` heads: normed, times the weight, times its gate `z · logistic z`. -/
def hd {n : ℕ} (hn : n % 128 = 0) (x z : Fin n → EReal) (w : Fin 128 → EReal) (j : Fin n) : EReal :=
  x j * rs128 (fun k => x (hcol hn j k)) * w ⟨j.val % 128, Nat.mod_lt _ (by decide)⟩ * (z j * Ideal.logistic (z j))

/-- The entry of the head that starts at column `o`, at the head's column `e`. -/
theorem hd_eq {n : ℕ} (hn : n % 128 = 0) (x z : Fin n → EReal) (w : Fin 128 → EReal) (o : ℕ) (ho : o % 128 = 0) (j : Fin n) (e : ℕ) (he : e < 128)
    (hj : j.val = o + e) (c : Fin n) (hc : c.val = o + e) (f : Fin 128 → Fin n) (hf : ∀ k, (f k).val = o + k.val) (s : EReal) (hs : s = rs128 fun k => x (f k)) :
    x c * s * w ⟨e, he⟩ * (z c * Ideal.logistic (z c)) = hd hn x z w j := by
  have h1 : c = j := Fin.ext (by omega)
  have h2 : f = hcol hn j := funext fun k => Fin.ext (by rw [hf]; show o + k.val = j.val / 128 * 128 + k.val; omega)
  have h3 : (⟨e, he⟩ : Fin 128) = ⟨j.val % 128, Nat.mod_lt _ (by decide)⟩ := Fin.ext (by show e = j.val % 128; omega)
  rw [h1, h3, hs, h2]
  rfl

section
open Cert.Kernel10Ideal Cert.Kernel10Ideal.Gen Cert.Kernel10Ideal.Value
open Idealize.ShloMosaic.TcCoe
open Idealize.ShloMosaic.Pipeline (Dat)

/-- The second mixer's four heads, normed and gated. -/
theorem yb_at (x : Vec Ideal S512x512 .f32) (z : Vec Ideal S512x512 .bf16) (w : Vec Ideal S1x128 .f32) (r : Fin 512) (j : Fin 512) :
    k0_pay7 x (k0_pay2 z) w (k0_pay3 x z w) (k0_pay4 x z w) (k0_pay5 x) (k0_pay6 x) (FloatOps.ofBits FTy.f32 897988541#32) (ix2 r j)
      = hd (n := 512) (by decide) (fun k => x (ix2 r k)) (fun k => z (ix2 r k)) (fun k => w (ix2 0 k)) j := by
  have hj := j.isLt
  pointwise [k0_pay7, k0_pay2, k0_pay3, k0_pay4, k0_pay5, k0_pay6]
  by_cases h0 : j.val < 128
  · rw [dif_pos h0]
    exact hd_eq (by decide) (fun k => x (ix2 r k)) (fun k => z (ix2 r k)) (fun k => w (ix2 0 k)) 0 (by decide) j (j.val) (by omega) (by omega)
      ⟨j.val, by omega⟩ (by show j.val = 0 + j.val; omega) (fun k => ⟨k.val, by have := k.isLt; omega⟩) (fun k => by show k.val = 0 + k.val; omega) _ rfl
  rw [dif_neg h0]
  by_cases h1 : j.val - 128 < 128
  · rw [dif_pos h1]
    exact hd_eq (by decide) (fun k => x (ix2 r k)) (fun k => z (ix2 r k)) (fun k => w (ix2 0 k)) 128 (by decide) j (j.val - 128) (by omega) (by omega)
      ⟨128 + (j.val - 128), by omega⟩ (by show 128 + (j.val - 128) = 128 + (j.val - 128); rfl) (fun k => ⟨128 + k.val, by have := k.isLt; omega⟩) (fun k => rfl) _ rfl
  rw [dif_neg h1]
  by_cases h2 : j.val - 128 - 128 < 128
  · rw [dif_pos h2]
    exact hd_eq (by decide) (fun k => x (ix2 r k)) (fun k => z (ix2 r k)) (fun k => w (ix2 0 k)) 256 (by decide) j (j.val - 128 - 128) (by omega) (by omega)
      ⟨256 + (j.val - 128 - 128), by omega⟩ (by show 256 + (j.val - 128 - 128) = 256 + (j.val - 128 - 128); rfl) (fun k => ⟨256 + k.val, by have := k.isLt; omega⟩) (fun k => rfl) _ rfl
  rw [dif_neg h2]
  exact hd_eq (by decide) (fun k => x (ix2 r k)) (fun k => z (ix2 r k)) (fun k => w (ix2 0 k)) 384 (by decide) j (j.val - 128 - 128 - 128) (by omega) (by omega)
    ⟨384 + (j.val - 128 - 128 - 128), by omega⟩ (by show 384 + (j.val - 128 - 128 - 128) = 384 + (j.val - 128 - 128 - 128); rfl) (fun k => ⟨384 + k.val, by have := k.isLt; omega⟩) (fun k => rfl) _ rfl

theorem yc_at (x : Vec Ideal S512x1024 .f32) (z : Vec Ideal S512x1024 .bf16) (w : Vec Ideal S1x128 .f32) (r : Fin 512) (j : Fin 1024) :
    k0_pay21 x (k0_pay8 z) w (k0_pay11 w (k0_pay9 x) (k0_pay10 z)) (k0_pay12 x (k0_pay8 z) w) (k0_pay13 x (k0_pay8 z) w)
        (k0_pay16 w (k0_pay14 x) (k0_pay15 (k0_pay8 z))) (k0_pay17 x (k0_pay8 z) w) (k0_pay18 x (k0_pay8 z) w) (k0_pay19 x) (k0_pay20 (k0_pay8 z)) (ix2 r j)
      = hd (n := 1024) (by decide) (fun k => x (ix2 r k)) (fun k => z (ix2 r k)) (fun k => w (ix2 0 k)) j := by
  have hj := j.isLt
  pointwise [k0_pay21, k0_pay8, k0_pay9, k0_pay10, k0_pay11, k0_pay12, k0_pay13, k0_pay14, k0_pay15, k0_pay16, k0_pay17, k0_pay18, k0_pay19, k0_pay20]
  by_cases h0 : j.val < 128
  · rw [dif_pos h0]
    exact hd_eq (by decide) (fun k => x (ix2 r k)) (fun k => z (ix2 r k)) (fun k => w (ix2 0 k)) 0 (by decide) j (j.val) (by omega) (by omega)
      ⟨j.val, by omega⟩ (by show j.val = 0 + j.val; omega) (fun k => ⟨k.val, by have := k.isLt; omega⟩) (fun k => by show k.val = 0 + k.val; omega) _ rfl
  rw [dif_neg h0]
  by_cases h1 : j.val - 128 < 128
  · rw [dif_pos h1]
    exact hd_eq (by decide) (fun k => x (ix2 r k)) (fun k => z (ix2 r k)) (fun k => w (ix2 0 k)) 128 (by decide) j (j.val - 128) (by omega) (by omega)
      ⟨128 + (j.val - 128), by omega⟩ (by show 128 + (j.val - 128) = 128 + (j.val - 128); rfl) (fun k => ⟨128 + k.val, by have := k.isLt; omega⟩) (fun k => rfl) _ rfl
  rw [dif_neg h1]
  by_cases h2 : j.val - 128 - 128 < 128
  · rw [dif_pos h2]
    exact hd_eq (by decide) (fun k => x (ix2 r k)) (fun k => z (ix2 r k)) (fun k => w (ix2 0 k)) 256 (by decide) j (j.val - 128 - 128) (by omega) (by omega)
      ⟨256 + (j.val - 128 - 128), by omega⟩ (by show 256 + (j.val - 128 - 128) = 256 + (j.val - 128 - 128); rfl) (fun k => ⟨256 + k.val, by have := k.isLt; omega⟩) (fun k => rfl) _ rfl
  rw [dif_neg h2]
  by_cases h3 : j.val - 128 - 128 - 128 < 128
  · rw [dif_pos h3]
    exact hd_eq (by decide) (fun k => x (ix2 r k)) (fun k => z (ix2 r k)) (fun k => w (ix2 0 k)) 384 (by decide) j (j.val - 128 - 128 - 128) (by omega) (by omega)
      ⟨384 + (j.val - 128 - 128 - 128), by omega⟩ (by show 384 + (j.val - 128 - 128 - 128) = 384 + (j.val - 128 - 128 - 128); rfl) (fun k => ⟨384 + k.val, by have := k.isLt; omega⟩) (fun k => rfl) _ rfl
  rw [dif_neg h3]
  by_cases h4 : j.val - 128 - 128 - 128 - 128 < 128
  · rw [dif_pos h4]
    exact hd_eq (by decide) (fun k => x (ix2 r k)) (fun k => z (ix2 r k)) (fun k => w (ix2 0 k)) 512 (by decide) j (j.val - 128 - 128 - 128 - 128) (by omega) (by omega)
      ⟨512 + (j.val - 128 - 128 - 128 - 128), by omega⟩ (by show 512 + (j.val - 128 - 128 - 128 - 128) = 512 + (j.val - 128 - 128 - 128 - 128); rfl) (fun k => ⟨512 + k.val, by have := k.isLt; omega⟩) (fun k => rfl) _ rfl
  rw [dif_neg h4]
  by_cases h5 : j.val - 128 - 128 - 128 - 128 - 128 < 128
  · rw [dif_pos h5]
    exact hd_eq (by decide) (fun k => x (ix2 r k)) (fun k => z (ix2 r k)) (fun k => w (ix2 0 k)) 640 (by decide) j (j.val - 128 - 128 - 128 - 128 - 128) (by omega) (by omega)
      ⟨640 + (j.val - 128 - 128 - 128 - 128 - 128), by omega⟩ (by show 640 + (j.val - 128 - 128 - 128 - 128 - 128) = 640 + (j.val - 128 - 128 - 128 - 128 - 128); rfl) (fun k => ⟨640 + k.val, by have := k.isLt; omega⟩) (fun k => rfl) _ rfl
  rw [dif_neg h5]
  by_cases h6 : j.val - 128 - 128 - 128 - 128 - 128 - 128 < 128
  · rw [dif_pos h6]
    exact hd_eq (by decide) (fun k => x (ix2 r k)) (fun k => z (ix2 r k)) (fun k => w (ix2 0 k)) 768 (by decide) j (j.val - 128 - 128 - 128 - 128 - 128 - 128) (by omega) (by omega)
      ⟨768 + (j.val - 128 - 128 - 128 - 128 - 128 - 128), by omega⟩ (by show 768 + (j.val - 128 - 128 - 128 - 128 - 128 - 128) = 768 + (j.val - 128 - 128 - 128 - 128 - 128 - 128); rfl) (fun k => ⟨768 + k.val, by have := k.isLt; omega⟩) (fun k => rfl) _ rfl
  rw [dif_neg h6]
  exact hd_eq (by decide) (fun k => x (ix2 r k)) (fun k => z (ix2 r k)) (fun k => w (ix2 0 k)) 896 (by decide) j (j.val - 128 - 128 - 128 - 128 - 128 - 128 - 128) (by omega) (by omega)
    ⟨896 + (j.val - 128 - 128 - 128 - 128 - 128 - 128 - 128), by omega⟩ (by show 896 + (j.val - 128 - 128 - 128 - 128 - 128 - 128 - 128) = 896 + (j.val - 128 - 128 - 128 - 128 - 128 - 128 - 128); rfl) (fun k => ⟨896 + k.val, by have := k.isLt; omega⟩) (fun k => rfl) _ rfl

/-- The sum of the first two gated products. -/
theorem ab_at (yb : FVec Ideal S512x512 .bf16) (p : Vec Ideal S512x3072 .bf16) (b : Vec Ideal S1x3072 .f32) (ya : Vec Ideal S512x512 .bf16)
    (wa wb : Vec Ideal S1x512x1024 .bf16) (r : Fin 512) (d : Fin 1024) :
    k0_pay23 yb p b ya wa wb (ix2 r d)
      = Ideal.logistic (p (ix2 r ⟨d.val, by omega⟩) + b (ix2 0 ⟨d.val, by omega⟩)) * (∑ k : Fin 512, ya (ix2 r k) * wa (ix3 0 k d))
        + Ideal.logistic (p (ix2 r ⟨1024 + d.val, by omega⟩) + b (ix2 0 ⟨1024 + d.val, by omega⟩)) * (∑ k : Fin 512, yb (ix2 r k) * wb (ix3 0 k d)) := by
  pointwise [k0_pay23, k0_pay22]

/-- The third gate. -/
theorem gc_at (p : Vec Ideal S512x3072 .bf16) (b : Vec Ideal S1x3072 .f32) (r : Fin 512) (d : Fin 1024) :
    k0_pay24 p b (ix2 r d) = Ideal.logistic (p (ix2 r ⟨2048 + d.val, by omega⟩) + b (ix2 0 ⟨2048 + d.val, by omega⟩)) := by
  pointwise [k0_pay24, k0_pay22]

/-- The stored value. -/
theorem out_at (yc : FVec Ideal S512x1024 .bf16) (ab gc : FVec Ideal S512x1024 .f32) (wc : Vec Ideal S1x1024x1024 .bf16) (x : Vec Ideal S512x1024 .f32)
    (wo : Vec Ideal S1x1024x1024 .bf16) (r : Fin 512) (d : Fin 1024) :
    k0_pay1 yc ab gc wc x wo (ix2 r d)
      = x (ix2 r d) + ∑ k : Fin 1024, (ab (ix2 r k) + gc (ix2 r k) * ∑ l : Fin 1024, yc (ix2 r l) * wc (ix3 0 l k)) * wo (ix3 0 k d) := by
  pointwise [k0_pay1]

/-- Columns of the projection: the second mixer's gates, the third's, and the three merge gates. -/
def zbcol (k : Fin 512) : Fin 10752 := ⟨4608 + k.val, by have := k.isLt; omega⟩
def zccol (k : Fin 1024) : Fin 10752 := ⟨4608 + (3584 + k.val), by have := k.isLt; omega⟩
def gcol (k : Fin 3072) : Fin 10752 := ⟨4608 + (512 + k.val), by have := k.isLt; omega⟩
def ga (k : Fin 1024) : Fin 3072 := ⟨k.val, by have := k.isLt; omega⟩
def gb (k : Fin 1024) : Fin 3072 := ⟨1024 + k.val, by have := k.isLt; omega⟩
def gc (k : Fin 1024) : Fin 3072 := ⟨2048 + k.val, by have := k.isLt; omega⟩

variable (x : FVec Ideal S8192x1024 .f32) (p : FVec Ideal S8192x10752 .bf16) (ya : FVec Ideal S8192x512 .bf16) (ob : FVec Ideal S8192x512 .f32)
    (oc : FVec Ideal S8192x1024 .f32) (hw gw : FVec Ideal S1x128 .f32) (bg : FVec Ideal S1x3072 .f32) (woa wob : FVec Ideal S2x512x1024 .bf16)
    (woc wo : FVec Ideal S2x1024x1024 .bf16)

/-- The second and the third mixer's row of heads. -/
def yB (r : Fin 8192) (l : Fin 512) : EReal :=
  hd (n := 512) (by decide) (fun k => ob (ix2 r k)) (fun k => p (ix2 r (zbcol k))) (fun k => hw (ix2 0 k)) l
def yC (r : Fin 8192) (l : Fin 1024) : EReal :=
  hd (n := 1024) (by decide) (fun k => oc (ix2 r k)) (fun k => p (ix2 r (zccol k))) (fun k => gw (ix2 0 k)) l

/-- A merge gate. -/
def gate (r : Fin 8192) (k : Fin 3072) : EReal := Ideal.logistic (p (ix2 r (gcol k)) + bg (ix2 0 k))

/-- The gated sum of the three mixers' products. -/
def mg (r : Fin 8192) (k : Fin 1024) : EReal :=
  gate p bg r (ga k) * (∑ l : Fin 512, ya (ix2 r l) * woa (ix3 0 l k)) + gate p bg r (gb k) * (∑ l : Fin 512, yB p ob hw r l * wob (ix3 0 l k))
    + gate p bg r (gc k) * ∑ l : Fin 1024, yC p oc gw r l * woc (ix3 0 l k)

/-- The layer's output. -/
def mrg : FVec Ideal S8192x1024 .f32 :=
  fun j => x j + ∑ k : Fin 1024, mg p ya ob oc hw gw bg woa wob woc (j 0) k * wo (ix3 0 k (j 1))

/-- Where each window's block lies. -/
theorem idx : ∀ t : Fin cfg0.N, win0_0.index t = ![t.val, 0] ∧ win0_1.index t = ![t.val, 1] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0, 0]
    ∧ win0_9.index t = ![0, 0, 0] ∧ win0_10.index t = ![0, 0, 0] ∧ win0_11.index t = ![0, 0, 0] ∧ win0_12.index t = ![t.val, 0] :=
  (by decide +kernel : ∀ t : Fin grid0.N, _)

variable (m : (ℓ : Loc nD τ sig) → Buf (Elt Ideal) ℓ) (c : Dev nD)

/-- The arguments. -/
abbrev aX : FVec Ideal S8192x1024 .f32 := m ((c : Thread nD τ).loc main_arg0)
abbrev aP : FVec Ideal S8192x10752 .bf16 := m ((c : Thread nD τ).loc main_arg1)
abbrev aYa : FVec Ideal S8192x512 .bf16 := m ((c : Thread nD τ).loc main_arg2)
abbrev aOb : FVec Ideal S8192x512 .f32 := m ((c : Thread nD τ).loc main_arg3)
abbrev aOc : FVec Ideal S8192x1024 .f32 := m ((c : Thread nD τ).loc main_arg4)
abbrev aHw : FVec Ideal S1x128 .f32 := m ((c : Thread nD τ).loc main_arg5)
abbrev aGw : FVec Ideal S1x128 .f32 := m ((c : Thread nD τ).loc main_arg6)
abbrev aBg : FVec Ideal S1x3072 .f32 := m ((c : Thread nD τ).loc main_arg7)
abbrev aWa : FVec Ideal S2x512x1024 .bf16 := m ((c : Thread nD τ).loc main_arg8)
abbrev aWb : FVec Ideal S2x512x1024 .bf16 := m ((c : Thread nD τ).loc main_arg9)
abbrev aWc : FVec Ideal S2x1024x1024 .bf16 := m ((c : Thread nD τ).loc main_arg10)
abbrev aWo : FVec Ideal S2x1024x1024 .bf16 := m ((c : Thread nD τ).loc main_arg11)

/-- The row of the whole array that a row of a point's block is. -/
def row (t : Fin cfg0.N) (r : Fin 512) : Fin 8192 := ⟨512 * t.val + r.val, by have : t.val < 16 := lt_of_lt_of_eq t.isLt N_0; have := r.isLt; omega⟩

theorem blk0 (t : Fin cfg0.N) (r : Fin 512) (k : Fin 1024) : (iblk m c 0 t : Vec Ideal S512x1024 .f32) (ix2 r k) = aX m c (ix2 (row t r) k) := by
  blk_ext [iblk, V, idx t, row]

/-- The projection's block, which the whole of is fetched at every point. -/
theorem blk1 (t : Fin cfg0.N) (r : Fin 512) (k : Fin 4608) :
    (X0_1 m c t : Vec Ideal S512x4608 .bf16) (ix2 r k) = aP m c (ix2 (row t r) ⟨4608 + k.val, by omega⟩) := by
  unfold X0_1 Pipeline.Window.fill
  rw [dif_pos (moved0_1 t _)]
  blk_ext [iblk, V, idx t, row]

theorem blk2 (t : Fin cfg0.N) (r : Fin 512) (k : Fin 512) : (iblk m c 2 t : Vec Ideal S512x512 .bf16) (ix2 r k) = aYa m c (ix2 (row t r) k) := by
  blk_ext [iblk, V, idx t, row]

theorem blk3 (t : Fin cfg0.N) (r : Fin 512) (k : Fin 512) : (iblk m c 3 t : Vec Ideal S512x512 .f32) (ix2 r k) = aOb m c (ix2 (row t r) k) := by
  blk_ext [iblk, V, idx t, row]

theorem blk4 (t : Fin cfg0.N) (r : Fin 512) (k : Fin 1024) : (iblk m c 4 t : Vec Ideal S512x1024 .f32) (ix2 r k) = aOc m c (ix2 (row t r) k) := by
  blk_ext [iblk, V, idx t, row]

theorem blk5 (t : Fin cfg0.N) (k : Fin 128) : (iblk m c 5 t : Vec Ideal S1x128 .f32) (ix2 0 k) = aHw m c (ix2 0 k) := by
  blk_ext [iblk, V, idx t]

theorem blk6 (t : Fin cfg0.N) (k : Fin 128) : (iblk m c 6 t : Vec Ideal S1x128 .f32) (ix2 0 k) = aGw m c (ix2 0 k) := by
  blk_ext [iblk, V, idx t]

theorem blk7 (t : Fin cfg0.N) (k : Fin 3072) : (iblk m c 7 t : Vec Ideal S1x3072 .f32) (ix2 0 k) = aBg m c (ix2 0 k) := by
  blk_ext [iblk, V, idx t]

theorem blk8 (t : Fin cfg0.N) (l : Fin 512) (k : Fin 1024) : (iblk m c 8 t : Vec Ideal S1x512x1024 .bf16) (ix3 0 l k) = aWa m c (ix3 0 l k) := by
  blk_ext [iblk, V, idx t]

theorem blk9 (t : Fin cfg0.N) (l : Fin 512) (k : Fin 1024) : (iblk m c 9 t : Vec Ideal S1x512x1024 .bf16) (ix3 0 l k) = aWb m c (ix3 0 l k) := by
  blk_ext [iblk, V, idx t]

theorem blk10 (t : Fin cfg0.N) (l : Fin 1024) (k : Fin 1024) : (iblk m c 10 t : Vec Ideal S1x1024x1024 .bf16) (ix3 0 l k) = aWc m c (ix3 0 l k) := by
  blk_ext [iblk, V, idx t]

theorem blk11 (t : Fin cfg0.N) (l : Fin 1024) (k : Fin 1024) : (iblk m c 11 t : Vec Ideal S1x1024x1024 .bf16) (ix3 0 l k) = aWo m c (ix3 0 l k) := by
  blk_ext [iblk, V, idx t]

/-- The three parts of the projection's block that the body loads. -/
theorem ldb (t : Fin cfg0.N) (r : Fin 512) (k : Fin 512) :
    (View.ld (X0_1 m c t) (Rect.unit ![0, 0] ![512, 512] inb_S512x4608_S512x512_0_0) : Vec Ideal S512x512 .bf16) (ix2 r k) = aP m c (ix2 (row t r) (zbcol k)) := by
  refine Eq.trans (congrArg (X0_1 m c t : Vec Ideal S512x4608 .bf16) ?_) (blk1 m c t r ⟨k.val, by omega⟩)
  funext a
  match a with
  | ⟨0, _⟩ => exact Fin.ext (by show 0 + 1 * r.val = r.val; omega)
  | ⟨1, _⟩ => exact Fin.ext (by show 0 + 1 * k.val = k.val; omega)

theorem ldg (t : Fin cfg0.N) (r : Fin 512) (k : Fin 3072) :
    (View.ld (X0_1 m c t) (Rect.unit ![0, 512] ![512, 3072] inb_S512x4608_S512x3072_0_512) : Vec Ideal S512x3072 .bf16) (ix2 r k) = aP m c (ix2 (row t r) (gcol k)) := by
  refine Eq.trans (congrArg (X0_1 m c t : Vec Ideal S512x4608 .bf16) ?_) (blk1 m c t r ⟨512 + k.val, by omega⟩)
  funext a
  match a with
  | ⟨0, _⟩ => exact Fin.ext (by show 0 + 1 * r.val = r.val; omega)
  | ⟨1, _⟩ => exact Fin.ext (by show 512 + 1 * k.val = 512 + k.val; omega)

theorem ldc (t : Fin cfg0.N) (r : Fin 512) (k : Fin 1024) :
    (View.ld (X0_1 m c t) (Rect.unit ![0, 3584] ![512, 1024] inb_S512x4608_S512x1024_0_3584) : Vec Ideal S512x1024 .bf16) (ix2 r k) = aP m c (ix2 (row t r) (zccol k)) := by
  refine Eq.trans (congrArg (X0_1 m c t : Vec Ideal S512x4608 .bf16) ?_) (blk1 m c t r ⟨3584 + k.val, by omega⟩)
  funext a
  match a with
  | ⟨0, _⟩ => exact Fin.ext (by show 0 + 1 * r.val = r.val; omega)
  | ⟨1, _⟩ => exact Fin.ext (by show 3584 + 1 * k.val = 3584 + k.val; omega)

/-- The block stored at a point. -/
theorem after_at (t : Fin cfg0.N) (r : Fin 512) (d : Fin 1024) :
    (outsAt0 m c t : Vec Ideal S512x1024 .f32) (ix2 r d)
      = mrg (aX m c) (aP m c) (aYa m c) (aOb m c) (aOc m c) (aHw m c) (aGw m c) (aBg m c) (aWa m c) (aWb m c) (aWc m c) (aWo m c) (ix2 (row t r) d) := by
  unfold outsAt0 out0_A_12
  frame_out
  refine (out_at _ _ _ _ _ _ r d).trans ?_
  refine congrArg₂ (fun a b : EReal => a + b) (blk0 m c t r d) (Finset.sum_congr rfl fun k _ => congrArg₂ (fun a b : EReal => a * b) ?_ (blk11 m c t k d))
  refine congrArg₂ (fun a b : EReal => a + b) ((ab_at _ _ _ _ _ _ r k).trans (congrArg₂ (fun a b : EReal => a + b) ?_ ?_)) ?_
  · refine congrArg₂ (fun a b : EReal => a * b) (congrArg Ideal.logistic (congrArg₂ (fun a b : EReal => a + b) (ldg m c t r _) (blk7 m c t _))) ?_
    exact Finset.sum_congr rfl fun l _ => congrArg₂ (fun a b : EReal => a * b) (blk2 m c t r l) (blk8 m c t l k)
  · refine congrArg₂ (fun a b : EReal => a * b) (congrArg Ideal.logistic (congrArg₂ (fun a b : EReal => a + b) (ldg m c t r _) (blk7 m c t _))) ?_
    refine Finset.sum_congr rfl fun l _ => congrArg₂ (fun a b : EReal => a * b) ((yb_at _ _ _ r l).trans ?_) (blk9 m c t l k)
    simp only [blk3, blk5, ldb]
    rfl
  · refine congrArg₂ (fun a b : EReal => a * b) ((gc_at _ _ r k).trans (congrArg Ideal.logistic (congrArg₂ (fun a b : EReal => a + b) (ldg m c t r _) (blk7 m c t _)))) ?_
    refine Finset.sum_congr rfl fun l _ => congrArg₂ (fun a b : EReal => a * b) ((yc_at _ _ _ r l).trans ?_) (blk10 m c t l k)
    simp only [blk4, blk6, ldc]
    rfl

/-- The call's result. -/
theorem arr12 : (dats m 0 c).arrAt 12 (cfgs 0).N
    = mrg (aX m c) (aP m c) (aYa m c) (aOb m c) (aOc m c) (aHw m c) (aGw m c) (aBg m c) (aWa m c) (aWb m c) (aWc m c) (aWo m c) := by
  refine (dats m 0 c).arrAt_eq_of_covers 12 _ (by decide +kernel) fun t hf y => ?_
  blk_simp
  rw [after0_12]
  obtain ⟨r, d, rfl⟩ : ∃ (r : Fin 512) (d : Fin 1024), y = (ix2 r d : S512x1024.Idx) :=
    ⟨y 0, y 1, by funext a; match a with | ⟨0, _⟩ => rfl | ⟨1, _⟩ => rfl⟩
  refine (after_at m c t r d).trans ?_
  refine congrArg (mrg _ _ _ _ _ _ _ _ _ _ _ _) ?_
  blk_ext [row, idx t]

end
end Cert.Merge

end
-- ==== Proof.MrgR.lean ====
module

public import proofs.«01_k».proof.Defs
public import proofs.«01_k».proof.Proof.MrgK
public import proofs.«01_k».proof.Proof.Gen.Reference10Ideal.Run
public import Idealize.ShloMosaic.Lib.Pointwise
public import Idealize.ShloMosaic.Lib.Claim

@[expose] public section

noncomputable section

namespace Cert.Merge

section
open Cert.Reference10Ideal Cert.Reference10Ideal.Gen Cert.Reference10Ideal.Value
open Idealize.ShloMosaic Idealize.ShloMosaic.TcCoe Idealize.SL.Sem

/-- The reference's result at an index, for a reference run on the same arguments. -/
theorem ref_at (m : (ℓ : Loc nD τ sig) → Buf (Elt Ideal) ℓ) (c : Dev nD) (r : Fin 8192) (d : Fin 1024) :
    (res_main_v72 m c : FVec Ideal S8192x1024 .f32) (ix2 r d)
      = mrg (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (ix2 r d) := by
  unfold res_main_v72
  pointwise []
  rfl

end

open Idealize.ShloMosaic Idealize.ShloMosaic.TcCoe Idealize.SL.Sem

/-- On arguments that agree, the call and the reference end with the same output of the layer. -/
theorem algebraic : @Cert.algebraic_Kernel10Ideal_Reference10Ideal Cert.Kernel10Ideal.Gen.facts Cert.Reference10Ideal.Gen.facts := by
  intro m g m' g' hpre hagree
  refine ⟨fun c => (Cert.Kernel10Ideal.Gen.dats m 0 c).arrAt 12 (Cert.Kernel10Ideal.cfgs 0).N, Cert.Kernel10Ideal.Value.run_blocks m g, ?_⟩
  refine (θ_run _ _ _).mono (fun r h c => ?_) (Cert.Reference10Ideal.Value.run m' g')
  obtain ⟨k0, k1⟩ := h c
  obtain ⟨e0, e1, e2, e3, e4, e5, e6, e7, e8, e9, e10, e11⟩ := hagree c
  refine ⟨k0.trans ?_, k1⟩
  refine Eq.trans ?_ (arr12 m c).symm
  funext j
  obtain ⟨r, d, rfl⟩ : ∃ (r : Fin 8192) (d : Fin 1024), j = (ix2 r d : Cert.Kernel10Ideal.S8192x1024.Idx) :=
    ⟨j 0, j 1, by funext a; match a with | ⟨0, _⟩ => rfl | ⟨1, _⟩ => rfl⟩
  refine (ref_at m' c r d).trans ?_
  rw [e0, e1, e2, e3, e4, e5, e6, e7, e8, e9, e10, e11]

end Cert.Merge

end
-- ==== Proof.MrgM.lean ====
module

public import proofs.«01_k».proof.Proof.MrgK
public import proofs.«01_k».proof.Proof.Rms

@[expose] public section

noncomputable section

namespace Cert.Merge
open Idealize.ShloMosaic Idealize.SL.Sem Cert.Hgrn

/-! The gradient of one normed and gated head, as the call puts it and as reverse differentiation puts it. -/

/-- A real number. -/
def Re (a : EReal) : Prop := ∃ r : ℝ, a = (r : EReal)

theorem Re.mul {a b : EReal} : Re a → Re b → Re (a * b) := fun ⟨x, hx⟩ ⟨y, hy⟩ => ⟨x * y, by rw [hx, hy, EReal.coe_mul]⟩

theorem Re.sum {n : ℕ} {f : Fin n → EReal} (h : ∀ i, Re (f i)) : Re (∑ i, f i) := by
  choose g hg using h
  exact ⟨∑ i, g i, by rw [coe_sum]; exact Finset.sum_congr rfl fun i _ => hg i⟩

/-- The logistic of anything is a real number. -/
theorem logistic_real (a : EReal) : Re (Ideal.logistic a) := by
  induction a using EReal.rec with
  | bot =>
    refine ⟨0, ?_⟩
    show Ideal.div 1 (1 + (⊤ : EReal)) = _
    rw [EReal.add_top_of_ne_bot (by decide)]
    simp [Ideal.div]
  | top =>
    refine ⟨1, ?_⟩
    show Ideal.div 1 (1 + (0 : EReal)) = _
    simp [Ideal.div]
  | coe r => exact ⟨sgm r, sgm_eq r⟩

/-- The width of a head, 128. -/
theorem width128 : Ideal.ofBits .f32 0x43000000#32 = ((128 : ℝ) : EReal) := by
  rw [show (128 : ℝ) = 8388608 * (2 ^ 16)⁻¹ by norm_num, EReal.coe_mul]
  simp [Ideal.ofBits, Ideal.ieee]

/-- The mean square of a head, plus epsilon. -/
def ms128 (x : Fin 128 → EReal) : EReal := Ideal.div (∑ k, x k * x k) (Ideal.ofBits .f32 0x43000000#32) + Ideal.ofBits .f32 0x358637BD#32

/-- The derivative of the reciprocal root with respect to the squares, from the head and the gradient of its normed entries. -/
def dv128 (x d : Fin 128 → EReal) : EReal :=
  ∑ _e : Fin 1, Ideal.div ((∑ k, x k * d k) * (Ideal.ofBits .f32 0xBF000000#32 * Ideal.div (rs128 x) (ms128 x))) (Ideal.ofBits .f32 0x43000000#32)

/-- On real numbers the two forms of the gradient of an entry `a` of a head, whose normed entry has the gradient `b`, agree. -/
theorem norm_bwd {x d : Fin 128 → EReal} {a b : EReal} (hx : ∀ k, Re (x k)) (hd : ∀ k, Re (d k)) (ha : Re a) (hb : Re b) :
    rs128 x * (b - a * rs128 x * Ideal.div (∑ k, d k * (x k * rs128 x)) (Ideal.ofBits .f32 0x43000000#32))
      = b * rs128 x + a * dv128 x d + dv128 x d * a := by
  choose x' hx using hx
  choose d' hd using hd
  obtain ⟨a', rfl⟩ := ha
  obtain ⟨b', rfl⟩ := hb
  obtain rfl : x = fun k => (x' k : EReal) := funext hx
  obtain rfl : d = fun k => (d' k : EReal) := funext hd
  have hm : ms128 (fun k => (x' k : EReal)) = (((∑ k, x' k * x' k) / 128 + Cert.Rms.eps : ℝ) : EReal) := by
    unfold ms128
    rw [width128, Cert.Rms.eps_eq]
    simp only [← EReal.coe_mul]
    rw [← coe_sum, div_coe _ _ (by norm_num), ← EReal.coe_add]
  have hz : 0 < (∑ k, x' k * x' k) / 128 + Cert.Rms.eps := by
    have : 0 ≤ ∑ k, x' k * x' k := Finset.sum_nonneg fun k _ => mul_self_nonneg _
    have := Cert.Rms.eps_pos
    positivity
  have hr : rs128 (fun k => (x' k : EReal)) = (((Real.sqrt ((∑ k, x' k * x' k) / 128 + Cert.Rms.eps))⁻¹ : ℝ) : EReal) := by
    show Ideal.rsqrt (ms128 (fun k => (x' k : EReal))) = _
    rw [hm, Cert.Rms.rsqrt_coe _ hz]
  generalize (∑ k, x' k * x' k) / 128 + Cert.Rms.eps = z at hm hz hr
  have hq : (Real.sqrt z)⁻¹ / z = (Real.sqrt z)⁻¹ * (Real.sqrt z)⁻¹ * (Real.sqrt z)⁻¹ := by
    have e : z = Real.sqrt z * Real.sqrt z := (Real.mul_self_sqrt hz.le).symm
    rw [div_eq_mul_inv]
    conv_lhs => rw [show z⁻¹ = (Real.sqrt z * Real.sqrt z)⁻¹ by rw [← e]]
    rw [mul_inv]
    ring
  unfold dv128
  simp only [hr, hm, width128, Cert.Rms.half_eq, Fintype.sum_unique, div_coe _ _ hz.ne']
  rw [hq]
  generalize (Real.sqrt z)⁻¹ = ρ
  simp only [← EReal.coe_mul, ← coe_sum, div_coe _ _ (show (128 : ℝ) ≠ 0 by norm_num), ← EReal.coe_sub, ← EReal.coe_add]
  congr 1
  have e1 : ∑ k, d' k * (x' k * ρ) = ρ * ∑ k, x' k * d' k := by
    rw [Finset.mul_sum]
    exact Finset.sum_congr rfl fun k _ => by ring
  rw [e1]
  ring

/-- On real numbers the two forms of the gradient of a gate `z`, whose silu multiplies `n`, agree; `y` is the gradient of the product. -/
theorem gate_bwd {n y z : EReal} (hn : Re n) (hy : Re y) (hz : Re z) :
    y * n * (Ideal.logistic z + z * Ideal.logistic z * (1 - Ideal.logistic z))
      = n * y * Ideal.logistic z + z * (n * y) * (Ideal.logistic z * (1 - Ideal.logistic z)) := by
  obtain ⟨s, hs⟩ := logistic_real z
  rw [hs]
  obtain ⟨n, rfl⟩ := hn
  obtain ⟨y, rfl⟩ := hy
  obtain ⟨z, rfl⟩ := hz
  rw [show (1 : EReal) = ((1 : ℝ) : EReal) from rfl]
  simp only [← EReal.coe_mul, ← EReal.coe_sub, ← EReal.coe_add]
  congr 1
  ring

end Cert.Merge

end
-- ==== Proof.MrgB.lean ====
module

public import proofs.«01_k».proof.Proof.MrgM
public import proofs.«01_k».proof.Proof.Gen.Kernel11Ideal.Frame
public import Idealize.ShloMosaic.Lib.Pipeline.ValueKit
public import Idealize.ShloMosaic.Lib.Pointwise

@[expose] public section

noncomputable section

namespace Cert.Merge
open Idealize.ShloMosaic Idealize.SL.Sem

/-! What the body of the call for the gradient of the merge computes from its blocks, entry by entry. -/

/-- A head given by its columns is the head that any of its columns lies in. -/
theorem head_eq {n : ℕ} (hn : n % 128 = 0) {α : Type} (G : (Fin 128 → Fin n) → Fin 128 → α) (o : ℕ) (f : Fin 128 → Fin n) (hf : ∀ k, (f k).val = o + k.val)
    (j : Fin n) (e : Fin 128) (hj : j.val = o + e.val) (ho : o % 128 = 0) : G f e = G (hcol hn j) ⟨j.val % 128, Nat.mod_lt _ (by decide)⟩ := by
  have he := e.isLt
  have h1 : f = hcol hn j := funext fun k => Fin.ext (by rw [hf]; show o + k.val = j.val / 128 * 128 + k.val; omega)
  have h2 : e = ⟨j.val % 128, Nat.mod_lt _ (by decide)⟩ := Fin.ext (by show e.val = j.val % 128; omega)
  rw [h1, ← h2]

/-- 4 heads side by side: the entry at column `j` is that of the head `j` lies in. -/
theorem cat4 {α : Type} (G : (Fin 128 → Fin 512) → Fin 128 → α) (j : Fin 512) :
    (if _h0 : j.val < 128 then G (fun k => ⟨k.val, by omega⟩) ⟨j.val, by omega⟩
      else if _h1 : j.val - 128 < 128 then G (fun k => ⟨128 + k.val, by omega⟩) ⟨j.val - 128, by omega⟩
      else if _h2 : j.val - 128 - 128 < 128 then G (fun k => ⟨256 + k.val, by omega⟩) ⟨j.val - 128 - 128, by omega⟩
      else G (fun k => ⟨384 + k.val, by omega⟩) ⟨j.val - 128 - 128 - 128, by omega⟩)
      = G (hcol (by decide) j) ⟨j.val % 128, Nat.mod_lt _ (by decide)⟩ := by
  by_cases h0 : j.val < 128
  · rw [dif_pos h0]
    exact head_eq _ G 0 _ (fun k => (Nat.zero_add _).symm) j _ (by show j.val = 0 + (j.val); omega) (by decide)
  rw [dif_neg h0]
  by_cases h1 : j.val - 128 < 128
  · rw [dif_pos h1]
    exact head_eq _ G 128 _ (fun k => rfl) j _ (by show j.val = 128 + (j.val - 128); omega) (by decide)
  rw [dif_neg h1]
  by_cases h2 : j.val - 128 - 128 < 128
  · rw [dif_pos h2]
    exact head_eq _ G 256 _ (fun k => rfl) j _ (by show j.val = 256 + (j.val - 128 - 128); omega) (by decide)
  rw [dif_neg h2]
  exact head_eq _ G 384 _ (fun k => rfl) j _ (by show j.val = 384 + (j.val - 128 - 128 - 128); omega) (by decide)

/-- 8 heads side by side: the entry at column `j` is that of the head `j` lies in. -/
theorem cat8 {α : Type} (G : (Fin 128 → Fin 1024) → Fin 128 → α) (j : Fin 1024) :
    (if _h0 : j.val < 128 then G (fun k => ⟨k.val, by omega⟩) ⟨j.val, by omega⟩
      else if _h1 : j.val - 128 < 128 then G (fun k => ⟨128 + k.val, by omega⟩) ⟨j.val - 128, by omega⟩
      else if _h2 : j.val - 128 - 128 < 128 then G (fun k => ⟨256 + k.val, by omega⟩) ⟨j.val - 128 - 128, by omega⟩
      else if _h3 : j.val - 128 - 128 - 128 < 128 then G (fun k => ⟨384 + k.val, by omega⟩) ⟨j.val - 128 - 128 - 128, by omega⟩
      else if _h4 : j.val - 128 - 128 - 128 - 128 < 128 then G (fun k => ⟨512 + k.val, by omega⟩) ⟨j.val - 128 - 128 - 128 - 128, by omega⟩
      else if _h5 : j.val - 128 - 128 - 128 - 128 - 128 < 128 then G (fun k => ⟨640 + k.val, by omega⟩) ⟨j.val - 128 - 128 - 128 - 128 - 128, by omega⟩
      else if _h6 : j.val - 128 - 128 - 128 - 128 - 128 - 128 < 128 then G (fun k => ⟨768 + k.val, by omega⟩) ⟨j.val - 128 - 128 - 128 - 128 - 128 - 128, by omega⟩
      else G (fun k => ⟨896 + k.val, by omega⟩) ⟨j.val - 128 - 128 - 128 - 128 - 128 - 128 - 128, by omega⟩)
      = G (hcol (by decide) j) ⟨j.val % 128, Nat.mod_lt _ (by decide)⟩ := by
  by_cases h0 : j.val < 128
  · rw [dif_pos h0]
    exact head_eq _ G 0 _ (fun k => (Nat.zero_add _).symm) j _ (by show j.val = 0 + (j.val); omega) (by decide)
  rw [dif_neg h0]
  by_cases h1 : j.val - 128 < 128
  · rw [dif_pos h1]
    exact head_eq _ G 128 _ (fun k => rfl) j _ (by show j.val = 128 + (j.val - 128); omega) (by decide)
  rw [dif_neg h1]
  by_cases h2 : j.val - 128 - 128 < 128
  · rw [dif_pos h2]
    exact head_eq _ G 256 _ (fun k => rfl) j _ (by show j.val = 256 + (j.val - 128 - 128); omega) (by decide)
  rw [dif_neg h2]
  by_cases h3 : j.val - 128 - 128 - 128 < 128
  · rw [dif_pos h3]
    exact head_eq _ G 384 _ (fun k => rfl) j _ (by show j.val = 384 + (j.val - 128 - 128 - 128); omega) (by decide)
  rw [dif_neg h3]
  by_cases h4 : j.val - 128 - 128 - 128 - 128 < 128
  · rw [dif_pos h4]
    exact head_eq _ G 512 _ (fun k => rfl) j _ (by show j.val = 512 + (j.val - 128 - 128 - 128 - 128); omega) (by decide)
  rw [dif_neg h4]
  by_cases h5 : j.val - 128 - 128 - 128 - 128 - 128 < 128
  · rw [dif_pos h5]
    exact head_eq _ G 640 _ (fun k => rfl) j _ (by show j.val = 640 + (j.val - 128 - 128 - 128 - 128 - 128); omega) (by decide)
  rw [dif_neg h5]
  by_cases h6 : j.val - 128 - 128 - 128 - 128 - 128 - 128 < 128
  · rw [dif_pos h6]
    exact head_eq _ G 768 _ (fun k => rfl) j _ (by show j.val = 768 + (j.val - 128 - 128 - 128 - 128 - 128 - 128); omega) (by decide)
  rw [dif_neg h6]
  exact head_eq _ G 896 _ (fun k => rfl) j _ (by show j.val = 896 + (j.val - 128 - 128 - 128 - 128 - 128 - 128 - 128); omega) (by decide)

/-- The columns of head `h`. -/
def hc {n H : ℕ} (hn : H * 128 = n) (h : Fin H) (k : Fin 128) : Fin n := ⟨h.val * 128 + k.val, by have := h.isLt; have := k.isLt; omega⟩

/-- The sum over rows and heads, head after head. -/
theorem sum4 (G : Fin 256 → (Fin 128 → Fin 512) → EReal) :
    (∑ r, G r (fun k => ⟨k.val, by omega⟩)) + (∑ r, G r (fun k => ⟨128 + k.val, by omega⟩)) + (∑ r, G r (fun k => ⟨256 + k.val, by omega⟩)) + (∑ r, G r (fun k => ⟨384 + k.val, by omega⟩)) = ∑ r, ∑ h : Fin 4, G r (hc (by decide) h) := by
  simp only [Fin.sum_univ_four, Finset.sum_add_distrib]
  have e : (hc (by decide) (0 : Fin 4) : Fin 128 → Fin 512) = (fun k => ⟨k.val, by omega⟩) := funext fun k => Fin.ext (Nat.zero_add k.val)
  rw [e]
  rfl

/-- The sum over rows and heads, head after head. -/
theorem sum8 (G : Fin 256 → (Fin 128 → Fin 1024) → EReal) :
    (∑ r, G r (fun k => ⟨k.val, by omega⟩)) + (∑ r, G r (fun k => ⟨128 + k.val, by omega⟩)) + (∑ r, G r (fun k => ⟨256 + k.val, by omega⟩)) + (∑ r, G r (fun k => ⟨384 + k.val, by omega⟩)) + (∑ r, G r (fun k => ⟨512 + k.val, by omega⟩)) + (∑ r, G r (fun k => ⟨640 + k.val, by omega⟩)) + (∑ r, G r (fun k => ⟨768 + k.val, by omega⟩)) + (∑ r, G r (fun k => ⟨896 + k.val, by omega⟩)) = ∑ r, ∑ h : Fin 8, G r (hc (by decide) h) := by
  simp only [Fin.sum_univ_eight, Finset.sum_add_distrib]
  have e : (hc (by decide) (0 : Fin 8) : Fin 128 → Fin 1024) = (fun k => ⟨k.val, by omega⟩) := funext fun k => Fin.ext (Nat.zero_add k.val)
  rw [e]
  rfl

/-- A column is the one it says of its head. -/
theorem hcol_self {n : ℕ} (hn : n % 128 = 0) (j : Fin n) : hcol hn j ⟨j.val % 128, Nat.mod_lt _ (by decide)⟩ = j :=
  Fin.ext (by show j.val / 128 * 128 + j.val % 128 = j.val; omega)

section
variable {n : ℕ} (x z : Fin n → EReal) (w : Fin 128 → EReal) (y : Fin n → EReal) (f : Fin 128 → Fin n) (e : Fin 128)

/-- Entries of the head with columns `f`: the normed entry. -/
def gOn : EReal := x (f e) * rs128 fun k => x (f k)

/-- The gated normed entry. -/
def gY : EReal := gOn x f e * w e * (z (f e) * Ideal.logistic (z (f e)))

/-- The gradient of the normed entry, from the gradient `y` of the gated one. -/
def gN : EReal := y (f e) * (z (f e) * Ideal.logistic (z (f e))) * w e

/-- The gradient of the entry. -/
def gX : EReal :=
  (rs128 fun k => x (f k)) * (gN z w y f e - gOn x f e * Ideal.div (∑ k, gN z w y f k * gOn x f k) (Ideal.ofBits .f32 0x43000000#32))

/-- The gradient of the gate. -/
def gZ : EReal :=
  y (f e) * gOn x f e * w e * (Ideal.logistic (z (f e)) + z (f e) * Ideal.logistic (z (f e)) * (1 - Ideal.logistic (z (f e))))

/-- The part of the gradient of the weight. -/
def gW : EReal := y (f e) * (z (f e) * Ideal.logistic (z (f e))) * gOn x f e
end

section
open Cert.Kernel11Ideal Cert.Kernel11Ideal.Gen
open Idealize.ShloMosaic.TcCoe

section
variable (x : Vec Ideal S256x512 .f32) (z : Vec Ideal S256x512 .bf16) (w : Vec Ideal S1x128 .f32) (v : FVec Ideal S256x1024 .bf16) (u : Vec Ideal S1x512x1024 .bf16) (r : Fin 256)

/-- The second mixer's gated heads. -/
def kYb : FVec Ideal S256x512 .bf16 :=
  k0_pay106 (k0_pay42 w (k0_pay17 x z w) (k0_pay26 (k0_pay8 z) w (k0_pay18 x) (k0_pay19 x)) (k0_pay34 x (k0_pay8 z) w) (k0_pay37 x) (k0_pay40 (k0_pay8 z)))

theorem kYb_at (j : Fin 512) : kYb x z w (ix2 r j)
    = gY (fun k : Fin 512 => x (ix2 r k)) (fun k => z (ix2 r k)) (fun k => w (ix2 0 k))
      (hcol (by decide) j) ⟨j.val % 128, Nat.mod_lt _ (by decide)⟩ := by
  unfold kYb
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay106]
  exact cat4 (gY (fun k : Fin 512 => x (ix2 r k)) (fun k => z (ix2 r k)) (fun k => w (ix2 0 k))) j

/-- The gradient of the second mixer's heads. -/
def kDob : FVec Ideal S256x512 .f32 :=
  k0_pay151 (k0_pay135 w (k0_pay11 x) (k0_pay12 x) (k0_pay15 z) v u)
    (k0_pay141 (k0_pay20 (k0_pay19 x)) (k0_pay21 (k0_pay18 x) (k0_pay19 x)) (k0_pay139 w (k0_pay24 (k0_pay8 z)) v u)
      (k0_pay140 w (k0_pay21 (k0_pay18 x) (k0_pay19 x)) (k0_pay24 (k0_pay8 z)) v u))
    (k0_pay144 w (k0_pay28 x) (k0_pay29 x) (k0_pay32 (k0_pay8 z)) (k0_pay133 v u))
    (k0_pay148 w (k0_pay37 x) (k0_pay40 (k0_pay8 z)) (k0_pay133 v u)) (k0_pay149 (k0_pay36 x))

theorem kDob_at (j : Fin 512) : kDob x z w v u (ix2 r j)
    = gX (fun k : Fin 512 => x (ix2 r k)) (fun k => z (ix2 r k)) (fun k => w (ix2 0 k)) (fun k => ∑ l : Fin 1024, v (ix2 r l) * u (ix3 0 k l))
      (hcol (by decide) j) ⟨j.val % 128, Nat.mod_lt _ (by decide)⟩ := by
  unfold kDob
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay106, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
  exact cat4 (gX (fun k : Fin 512 => x (ix2 r k)) (fun k => z (ix2 r k)) (fun k => w (ix2 0 k)) (fun k => ∑ l : Fin 1024, v (ix2 r l) * u (ix3 0 k l))) j

/-- The gradient of the second mixer's gates. -/
def kDbz : FVec Ideal S256x512 .bf16 :=
  k0_pay1 (k0_pay152 w (k0_pay37 x) (k0_pay41 (k0_pay39 (k0_pay8 z)) (k0_pay40 (k0_pay8 z)) (FloatOps.ofBits FTy.f32 1065353216#32))
    (k0_pay136 w (k0_pay12 x) (k0_pay16 z) v u) (k0_pay142 w (k0_pay21 (k0_pay18 x) (k0_pay19 x)) (k0_pay25 (k0_pay8 z)) (k0_pay138 v u))
    (k0_pay145 w (k0_pay29 x) (k0_pay33 (k0_pay8 z)) (k0_pay133 v u)) (k0_pay147 (k0_pay133 v u)))

theorem kDbz_at (j : Fin 512) : kDbz x z w v u (ix2 r j)
    = gZ (fun k : Fin 512 => x (ix2 r k)) (fun k => z (ix2 r k)) (fun k => w (ix2 0 k)) (fun k => ∑ l : Fin 1024, v (ix2 r l) * u (ix3 0 k l))
      (hcol (by decide) j) ⟨j.val % 128, Nat.mod_lt _ (by decide)⟩ := by
  unfold kDbz
  pointwise [k0_pay1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay106, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
  exact cat4 (gZ (fun k : Fin 512 => x (ix2 r k)) (fun k => z (ix2 r k)) (fun k => w (ix2 0 k)) (fun k => ∑ l : Fin 1024, v (ix2 r l) * u (ix3 0 k l))) j

/-- The gradient of the second mixer's weight, added to. -/
def kDhw (acc : Vec Ideal S1x128 .f32) : FVec Ideal S1x128 .f32 :=
  k0_pay3 (k0_pay150 (k0_pay37 x) (k0_pay40 (k0_pay8 z))
    (k0_pay146 (k0_pay21 (k0_pay18 x) (k0_pay19 x)) (k0_pay24 (k0_pay8 z)) (k0_pay29 x) (k0_pay32 (k0_pay8 z)) (k0_pay133 v u)
      (k0_pay137 (k0_pay12 x) (k0_pay15 z) v u) (k0_pay138 v u)) (k0_pay147 (k0_pay133 v u))) acc

theorem kDhw_at (acc : Vec Ideal S1x128 .f32) (e : Fin 128) : kDhw x z v u acc (ix2 0 e)
    = acc (ix2 0 e) + ∑ r : Fin 256, ∑ h : Fin 4, gW (fun k : Fin 512 => x (ix2 r k)) (fun k => z (ix2 r k)) (fun k => ∑ l : Fin 1024, v (ix2 r l) * u (ix3 0 k l)) (hc (by decide) h) e := by
  unfold kDhw
  pointwise [k0_pay3, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay106, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
  exact congrArg (acc (ix2 0 e) + ·) (sum4 fun r f => gW (fun k : Fin 512 => x (ix2 r k)) (fun k => z (ix2 r k)) (fun k => ∑ l : Fin 1024, v (ix2 r l) * u (ix3 0 k l)) f e)
end

section
variable (x : Vec Ideal S256x1024 .f32) (z : Vec Ideal S256x1024 .bf16) (w : Vec Ideal S1x128 .f32) (v : FVec Ideal S256x1024 .bf16) (u : Vec Ideal S1x1024x1024 .bf16) (r : Fin 256)

/-- The third mixer's gated heads. -/
def kYc : FVec Ideal S256x1024 .bf16 :=
  k0_pay107 x (k0_pay9 z) w (k0_pay50 x (k0_pay9 z) w) (k0_pay58 x (k0_pay9 z) w) (k0_pay67 (k0_pay9 z) w (k0_pay59 x) (k0_pay60 x)) (k0_pay75 x (k0_pay9 z) w)
    (k0_pay83 (k0_pay9 z) w (k0_pay76 x) (k0_pay77 x)) (k0_pay91 x (k0_pay9 z) w) (k0_pay94 x) (k0_pay97 (k0_pay9 z))

theorem kYc_at (j : Fin 1024) : kYc x z w (ix2 r j)
    = gY (fun k : Fin 1024 => x (ix2 r k)) (fun k => z (ix2 r k)) (fun k => w (ix2 0 k))
      (hcol (by decide) j) ⟨j.val % 128, Nat.mod_lt _ (by decide)⟩ := by
  unfold kYc
  pointwise [k0_pay9, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay107]
  exact cat8 (gY (fun k : Fin 1024 => x (ix2 r k)) (fun k => z (ix2 r k)) (fun k => w (ix2 0 k))) j

/-- The gradient of the third mixer's heads. -/
def kDoc : FVec Ideal S256x1024 .f32 :=
  k0_pay181 w (k0_pay93 x) (k0_pay94 x) (k0_pay100 x) (k0_pay101 x) (k0_pay104 (k0_pay9 z)) (k0_pay153 v u)
    (k0_pay155 w (k0_pay44 x) (k0_pay45 x) (k0_pay48 (k0_pay9 z)) v u)
    (k0_pay161 (k0_pay52 x) (k0_pay53 x) (k0_pay159 w (k0_pay56 (k0_pay9 z)) v u) (k0_pay160 w (k0_pay53 x) (k0_pay56 (k0_pay9 z)) v u))
    (k0_pay164 w (k0_pay61 (k0_pay60 x)) (k0_pay62 (k0_pay59 x) (k0_pay60 x)) (k0_pay65 (k0_pay9 z)) (k0_pay153 v u))
    (k0_pay168 w (k0_pay69 x) (k0_pay70 x) (k0_pay73 (k0_pay9 z)) (k0_pay153 v u))
    (k0_pay171 w (k0_pay77 x) (k0_pay78 (k0_pay76 x) (k0_pay77 x)) (k0_pay81 (k0_pay9 z)) (k0_pay153 v u))
    (k0_pay174 w (k0_pay85 x) (k0_pay86 x) (k0_pay89 (k0_pay9 z)) (k0_pay153 v u)) (k0_pay178 (k0_pay97 (k0_pay9 z)) (k0_pay153 v u))

theorem kDoc_at (j : Fin 1024) : kDoc x z w v u (ix2 r j)
    = gX (fun k : Fin 1024 => x (ix2 r k)) (fun k => z (ix2 r k)) (fun k => w (ix2 0 k)) (fun k => ∑ l : Fin 1024, v (ix2 r l) * u (ix3 0 k l))
      (hcol (by decide) j) ⟨j.val % 128, Nat.mod_lt _ (by decide)⟩ := by
  unfold kDoc
  pointwise [k0_pay9, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182]
  exact cat8 (gX (fun k : Fin 1024 => x (ix2 r k)) (fun k => z (ix2 r k)) (fun k => w (ix2 0 k)) (fun k => ∑ l : Fin 1024, v (ix2 r l) * u (ix3 0 k l))) j

/-- The gradient of the third mixer's gates. -/
def kDcz : FVec Ideal S256x1024 .bf16 :=
  k0_pay2 (k0_pay182 w (k0_pay94 x) (k0_pay98 (k0_pay9 z)) (k0_pay101 x) (k0_pay105 (k0_pay9 z)) (k0_pay153 v u)
    (k0_pay156 w (k0_pay45 x) (k0_pay49 (k0_pay9 z)) v u) (k0_pay162 w (k0_pay53 x) (k0_pay57 (k0_pay9 z)) (k0_pay158 v u))
    (k0_pay165 w (k0_pay62 (k0_pay59 x) (k0_pay60 x)) (k0_pay66 (k0_pay9 z)) (k0_pay153 v u)) (k0_pay169 w (k0_pay70 x) (k0_pay74 (k0_pay9 z)) (k0_pay153 v u))
    (k0_pay172 w (k0_pay78 (k0_pay76 x) (k0_pay77 x)) (k0_pay82 (k0_pay9 z)) (k0_pay153 v u)) (k0_pay175 w (k0_pay86 x) (k0_pay90 (k0_pay9 z)) (k0_pay153 v u))
    (k0_pay177 (k0_pay153 v u)))

theorem kDcz_at (j : Fin 1024) : kDcz x z w v u (ix2 r j)
    = gZ (fun k : Fin 1024 => x (ix2 r k)) (fun k => z (ix2 r k)) (fun k => w (ix2 0 k)) (fun k => ∑ l : Fin 1024, v (ix2 r l) * u (ix3 0 k l))
      (hcol (by decide) j) ⟨j.val % 128, Nat.mod_lt _ (by decide)⟩ := by
  unfold kDcz
  pointwise [k0_pay2, k0_pay9, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182]
  exact cat8 (gZ (fun k : Fin 1024 => x (ix2 r k)) (fun k => z (ix2 r k)) (fun k => w (ix2 0 k)) (fun k => ∑ l : Fin 1024, v (ix2 r l) * u (ix3 0 k l))) j

/-- The gradient of the third mixer's weight, added to. -/
def kDgw (acc : Vec Ideal S1x128 .f32) : FVec Ideal S1x128 .f32 :=
  k0_pay4 (k0_pay180 (k0_pay94 x) (k0_pay97 (k0_pay9 z)) (k0_pay101 x) (k0_pay104 (k0_pay9 z)) (k0_pay153 v u)
    (k0_pay176 (k0_pay70 x) (k0_pay73 (k0_pay9 z)) (k0_pay78 (k0_pay76 x) (k0_pay77 x)) (k0_pay81 (k0_pay9 z)) (k0_pay86 x) (k0_pay89 (k0_pay9 z)) (k0_pay153 v u)
      (k0_pay166 (k0_pay53 x) (k0_pay56 (k0_pay9 z)) (k0_pay62 (k0_pay59 x) (k0_pay60 x)) (k0_pay65 (k0_pay9 z)) (k0_pay153 v u)
        (k0_pay157 (k0_pay45 x) (k0_pay48 (k0_pay9 z)) v u) (k0_pay158 v u)) (k0_pay167 (k0_pay153 v u))) (k0_pay177 (k0_pay153 v u))) acc

theorem kDgw_at (acc : Vec Ideal S1x128 .f32) (e : Fin 128) : kDgw x z v u acc (ix2 0 e)
    = acc (ix2 0 e) + ∑ r : Fin 256, ∑ h : Fin 8, gW (fun k : Fin 1024 => x (ix2 r k)) (fun k => z (ix2 r k)) (fun k => ∑ l : Fin 1024, v (ix2 r l) * u (ix3 0 k l)) (hc (by decide) h) e := by
  unfold kDgw
  pointwise [k0_pay4, k0_pay9, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182]
  exact congrArg (acc (ix2 0 e) + ·) (sum8 fun r f => gW (fun k : Fin 1024 => x (ix2 r k)) (fun k => z (ix2 r k)) (fun k => ∑ l : Fin 1024, v (ix2 r l) * u (ix3 0 k l)) f e)
end

end
end Cert.Merge

end
-- ==== Proof.MrgG.lean ====
module

public import proofs.«01_k».proof.Proof.MrgB

@[expose] public section

noncomputable section

namespace Cert.Merge
open Idealize.ShloMosaic Idealize.SL.Sem

/-! The gates and the products of the body of the call for the gradient of the merge, entry by entry. -/

section
open Cert.Kernel11Ideal Cert.Kernel11Ideal.Gen
open Idealize.ShloMosaic.TcCoe

section
variable (dx : Vec Ideal S256x1024 .f32) (g : Vec Ideal S256x3072 .bf16) (ya : Vec Ideal S256x512 .bf16) (yb : FVec Ideal S256x512 .bf16) (yc : FVec Ideal S256x1024 .bf16)
  (bg : Vec Ideal S1x3072 .f32) (wa wb : Vec Ideal S1x512x1024 .bf16) (wc wo : Vec Ideal S1x1024x1024 .bf16) (r : Fin 256) (k : Fin 1024)

/-- A gate, the product it multiplies, and the gradient of the gated sum, at an entry of a row. -/
def eG (r : Fin 256) (k : Fin 3072) : EReal := Ideal.logistic (g (ix2 r k) + bg (ix2 0 k))
def eA (r : Fin 256) (k : Fin 1024) : EReal := ∑ l : Fin 512, ya (ix2 r l) * wa (ix3 0 l k)
def eB (r : Fin 256) (k : Fin 1024) : EReal := ∑ l : Fin 512, yb (ix2 r l) * wb (ix3 0 l k)
def eC (r : Fin 256) (k : Fin 1024) : EReal := ∑ l : Fin 1024, yc (ix2 r l) * wc (ix3 0 l k)
def eD (r : Fin 256) (k : Fin 1024) : EReal := ∑ l : Fin 1024, dx (ix2 r l) * wo (ix3 0 k l)

/-- The gradients of the three products. -/
def kA : FVec Ideal S256x1024 .bf16 := k0_pay115 (k0_pay108 g bg) dx wo
def kB : FVec Ideal S256x1024 .bf16 := k0_pay121 (k0_pay112 dx wo) (k0_pay119 (k0_pay108 g bg))
def kC : FVec Ideal S256x1024 .bf16 := k0_pay127 (k0_pay108 g bg) (k0_pay112 dx wo)

theorem kA_at : kA dx g bg wo (ix2 r k) = eD dx wo r k * eG g bg r (ga k) := by
  unfold kA
  pointwise [k0_pay115, k0_pay108, k0_pay112, k0_pay113]
  rfl

theorem kB_at : kB dx g bg wo (ix2 r k) = eD dx wo r k * eG g bg r (gb k) := by
  unfold kB
  pointwise [k0_pay121, k0_pay108, k0_pay112, k0_pay119]
  rfl

theorem kC_at : kC dx g bg wo (ix2 r k) = eD dx wo r k * eG g bg r (gc k) := by
  unfold kC
  pointwise [k0_pay127, k0_pay108, k0_pay112, k0_pay125]
  rfl

/-- The gradient of the first mixer's output. -/
theorem dya_at (v : FVec Ideal S256x1024 .bf16) (j : Fin 512) : k0_pay132 v wa (ix2 r j) = ∑ l : Fin 1024, v (ix2 r l) * wa (ix3 0 j l) := by
  pointwise [k0_pay132]

/-- The gated sum. -/
theorem mg_at : k0_pay131 (k0_pay126 (k0_pay108 g bg) (k0_pay111 yc wc) (k0_pay114 (k0_pay108 g bg) (k0_pay109 ya wa)) (k0_pay120 yb (k0_pay108 g bg) wb)) (ix2 r k)
    = eG g bg r (ga k) * eA ya wa r k + eG g bg r (gb k) * eB yb wb r k + eG g bg r (gc k) * eC yc wc r k := by
  pointwise [k0_pay131, k0_pay126, k0_pay108, k0_pay111, k0_pay114, k0_pay109, k0_pay120, k0_pay110, k0_pay113, k0_pay119, k0_pay125]
  rfl

/-- The gradient of what a gate takes, from the gradient `d` of the sum, the product `y` and the gate `s`. -/
def gG (d y s : EReal) : EReal := d * y * s * (1 - s)

theorem dga_at : k0_pay117 (k0_pay108 g bg) (k0_pay109 ya wa) dx wo (ix2 r k) = gG (eD dx wo r k) (eA ya wa r k) (eG g bg r (ga k)) := by
  pointwise [k0_pay117, k0_pay116, k0_pay113, k0_pay108, k0_pay109, k0_pay112]
  rfl

theorem dgb_at : k0_pay123 (k0_pay110 yb wb) (k0_pay112 dx wo) (k0_pay119 (k0_pay108 g bg)) (ix2 r k) = gG (eD dx wo r k) (eB yb wb r k) (eG g bg r (gb k)) := by
  pointwise [k0_pay123, k0_pay122, k0_pay119, k0_pay108, k0_pay110, k0_pay112]
  rfl

theorem dgc_at : k0_pay129 (k0_pay108 g bg) (k0_pay111 yc wc) (k0_pay112 dx wo) (ix2 r k) = gG (eD dx wo r k) (eC yc wc r k) (eG g bg r (gc k)) := by
  pointwise [k0_pay129, k0_pay128, k0_pay125, k0_pay108, k0_pay111, k0_pay112]
  rfl

/-- The sums of those over the rows, added to. -/
theorem dba_at (acc : Vec Ideal S1x1024 .f32) : k0_pay118 (k0_pay108 g bg) (k0_pay109 ya wa) dx wo acc (ix2 0 k)
    = acc (ix2 0 k) + ∑ r : Fin 256, gG (eD dx wo r k) (eA ya wa r k) (eG g bg r (ga k)) := by
  pointwise [k0_pay118, k0_pay116, k0_pay113, k0_pay108, k0_pay109, k0_pay112]
  rfl

theorem dbb_at (acc : Vec Ideal S1x1024 .f32) : k0_pay124 (k0_pay110 yb wb) (k0_pay112 dx wo) (k0_pay119 (k0_pay108 g bg)) acc (ix2 0 k)
    = acc (ix2 0 k) + ∑ r : Fin 256, gG (eD dx wo r k) (eB yb wb r k) (eG g bg r (gb k)) := by
  pointwise [k0_pay124, k0_pay122, k0_pay119, k0_pay108, k0_pay110, k0_pay112]
  rfl

theorem dbc_at (acc : Vec Ideal S1x1024 .f32) : k0_pay130 (k0_pay108 g bg) (k0_pay111 yc wc) (k0_pay112 dx wo) acc (ix2 0 k)
    = acc (ix2 0 k) + ∑ r : Fin 256, gG (eD dx wo r k) (eC yc wc r k) (eG g bg r (gc k)) := by
  pointwise [k0_pay130, k0_pay128, k0_pay125, k0_pay108, k0_pay111, k0_pay112]
  rfl

/-- The sums start at zero. -/
theorem zero3 (j) : k0_pay5 (F := Ideal) j = 0 := by pointwise [k0_pay5]
theorem zeroB (j) : k0_pay6 (F := Ideal) j = 0 := by pointwise [k0_pay6]
theorem zeroC (j) : k0_pay7 (F := Ideal) j = 0 := by pointwise [k0_pay7]
end
end
end Cert.Merge

end
-- ==== Proof.MrgD.lean ====
module

public import proofs.«01_k».proof.Proof.MrgG

@[expose] public section

noncomputable section

namespace Cert.MrgB
open Idealize.ShloMosaic Idealize.ShloMosaic.TcCoe Idealize.SL.Sem
open Cert.Kernel11Ideal Cert.Kernel11Ideal.Gen
open Cert.Merge (hcol hc gY gX gZ gW gG gOn gN eG eA eB eC eD kA kB kC kYb kYc kDob kDoc kDbz kDcz kDhw kDgw ga gb gc zbcol zccol gcol gate yB yC hd)

/-! The results of the call for the gradient of the merge, as functions of its arguments. -/

/-- The arguments. -/
structure Args where
  dx : FVec Ideal S8192x1024 .f32
  p : FVec Ideal S8192x10752 .bf16
  ya : FVec Ideal S8192x512 .bf16
  ob : FVec Ideal S8192x512 .f32
  oc : FVec Ideal S8192x1024 .f32
  hw : FVec Ideal S1x128 .f32
  gw : FVec Ideal S1x128 .f32
  bg : FVec Ideal S1x3072 .f32
  wa : FVec Ideal S2x512x1024 .bf16
  wb : FVec Ideal S2x512x1024 .bf16
  wc : FVec Ideal S2x1024x1024 .bf16
  wo : FVec Ideal S2x1024x1024 .bf16

section
variable (A : Args)

/-- The rows of heads, of their gates, and the weights of the two normed mixers. -/
def xB (r : Fin 8192) (k : Fin 512) : EReal := A.ob (ix2 r k)
def zB (r : Fin 8192) (k : Fin 512) : EReal := A.p (ix2 r (zbcol k))
def wB (k : Fin 128) : EReal := A.hw (ix2 0 k)
def xC (r : Fin 8192) (k : Fin 1024) : EReal := A.oc (ix2 r k)
def zC (r : Fin 8192) (k : Fin 1024) : EReal := A.p (ix2 r (zccol k))
def wC (k : Fin 128) : EReal := A.gw (ix2 0 k)

/-- The gradient of the gated sum, and a gate. -/
def tD (r : Fin 8192) (k : Fin 1024) : EReal := ∑ l : Fin 1024, A.dx (ix2 r l) * A.wo (ix3 0 k l)
def gt (r : Fin 8192) (k : Fin 3072) : EReal := Ideal.logistic (A.p (ix2 r (gcol k)) + A.bg (ix2 0 k))

/-- The gated heads. -/
def ybS (r : Fin 8192) (j : Fin 512) : EReal := gY (xB A r) (zB A r) (wB A) (hcol (by decide) j) ⟨j.val % 128, Nat.mod_lt _ (by decide)⟩
def ycS (r : Fin 8192) (j : Fin 1024) : EReal := gY (xC A r) (zC A r) (wC A) (hcol (by decide) j) ⟨j.val % 128, Nat.mod_lt _ (by decide)⟩

/-- The three products. -/
def pA (r : Fin 8192) (k : Fin 1024) : EReal := ∑ l : Fin 512, A.ya (ix2 r l) * A.wa (ix3 0 l k)
def pB (r : Fin 8192) (k : Fin 1024) : EReal := ∑ l : Fin 512, ybS A r l * A.wb (ix3 0 l k)
def pC (r : Fin 8192) (k : Fin 1024) : EReal := ∑ l : Fin 1024, ycS A r l * A.wc (ix3 0 l k)

/-- Their gradients. -/
def dA (r : Fin 8192) (k : Fin 1024) : EReal := tD A r k * gt A r (ga k)
def dB (r : Fin 8192) (k : Fin 1024) : EReal := tD A r k * gt A r (gb k)
def dC (r : Fin 8192) (k : Fin 1024) : EReal := tD A r k * gt A r (gc k)

/-- The gradients of the three mixers' gated rows. -/
def dyA (r : Fin 8192) (j : Fin 512) : EReal := ∑ l : Fin 1024, dA A r l * A.wa (ix3 0 j l)
def dyB (r : Fin 8192) (k : Fin 512) : EReal := ∑ l : Fin 1024, dB A r l * A.wb (ix3 0 k l)
def dyC (r : Fin 8192) (k : Fin 1024) : EReal := ∑ l : Fin 1024, dC A r l * A.wc (ix3 0 k l)

/-- The gradients of the heads, of their gates and of the weights. -/
def dob (r : Fin 8192) (j : Fin 512) : EReal := gX (xB A r) (zB A r) (wB A) (dyB A r) (hcol (by decide) j) ⟨j.val % 128, Nat.mod_lt _ (by decide)⟩
def doc (r : Fin 8192) (j : Fin 1024) : EReal := gX (xC A r) (zC A r) (wC A) (dyC A r) (hcol (by decide) j) ⟨j.val % 128, Nat.mod_lt _ (by decide)⟩
def dbz (r : Fin 8192) (j : Fin 512) : EReal := gZ (xB A r) (zB A r) (wB A) (dyB A r) (hcol (by decide) j) ⟨j.val % 128, Nat.mod_lt _ (by decide)⟩
def dcz (r : Fin 8192) (j : Fin 1024) : EReal := gZ (xC A r) (zC A r) (wC A) (dyC A r) (hcol (by decide) j) ⟨j.val % 128, Nat.mod_lt _ (by decide)⟩
def dhw (e : Fin 128) : EReal := ∑ r : Fin 8192, ∑ h : Fin 4, gW (xB A r) (zB A r) (dyB A r) (hc (by decide) h) e
def dgw (e : Fin 128) : EReal := ∑ r : Fin 8192, ∑ h : Fin 8, gW (xC A r) (zC A r) (dyC A r) (hc (by decide) h) e

/-- The gated sum. -/
def mgS (r : Fin 8192) (k : Fin 1024) : EReal := gt A r (ga k) * pA A r k + gt A r (gb k) * pB A r k + gt A r (gc k) * pC A r k

/-- The three gradients of the products side by side, and those of the gates. -/
def dy3 (r : Fin 8192) (k : Fin 3072) : EReal :=
  if h : k.val < 1024 then dA A r ⟨k.val, h⟩ else if h' : k.val - 1024 < 1024 then dB A r ⟨k.val - 1024, h'⟩ else dC A r ⟨k.val - 1024 - 1024, by omega⟩
def dgt (r : Fin 8192) (k : Fin 3072) : EReal :=
  if h : k.val < 1024 then gG (tD A r ⟨k.val, h⟩) (pA A r ⟨k.val, h⟩) (gt A r k)
  else if h' : k.val - 1024 < 1024 then gG (tD A r ⟨k.val - 1024, h'⟩) (pB A r ⟨k.val - 1024, h'⟩) (gt A r k)
  else gG (tD A r ⟨k.val - 1024 - 1024, by omega⟩) (pC A r ⟨k.val - 1024 - 1024, by omega⟩) (gt A r k)
def dbg (k : Fin 3072) : EReal := ∑ r : Fin 8192, dgt A r k

/-- The gradient of the columns of the projection that the merge reads. -/
def dpS (r : Fin 8192) (j : Fin 4608) : EReal :=
  if h : j.val < 512 then dbz A r ⟨j.val, h⟩ else if h' : j.val - 512 < 3072 then dgt A r ⟨j.val - 512, h'⟩ else dcz A r ⟨j.val - 512 - 3072, by omega⟩

theorem dy3_a (r : Fin 8192) (k : Fin 3072) (l : Fin 1024) (e : k.val = l.val) : dy3 A r k = dA A r l := by
  unfold dy3
  rw [dif_pos (by omega)]
  exact congrArg (dA A r) (Fin.ext e)

theorem dy3_b (r : Fin 8192) (k : Fin 3072) (l : Fin 1024) (e : k.val = 1024 + l.val) : dy3 A r k = dB A r l := by
  unfold dy3
  rw [dif_neg (by omega), dif_pos (by omega)]
  exact congrArg (dB A r) (Fin.ext (by show k.val - 1024 = l.val; omega))

theorem dy3_c (r : Fin 8192) (k : Fin 3072) (l : Fin 1024) (e : k.val = 2048 + l.val) : dy3 A r k = dC A r l := by
  unfold dy3
  rw [dif_neg (by omega), dif_neg (by omega)]
  exact congrArg (dC A r) (Fin.ext (by show k.val - 1024 - 1024 = l.val; omega))

theorem dgt_a (r : Fin 8192) (k : Fin 3072) (l : Fin 1024) (e : k.val = l.val) : dgt A r k = gG (tD A r l) (pA A r l) (gt A r (ga l)) := by
  unfold dgt
  rw [dif_pos (by omega)]
  obtain rfl : k = ga l := Fin.ext e
  rfl

theorem dgt_b (r : Fin 8192) (k : Fin 3072) (l : Fin 1024) (e : k.val = 1024 + l.val) : dgt A r k = gG (tD A r l) (pB A r l) (gt A r (gb l)) := by
  unfold dgt
  rw [dif_neg (by omega), dif_pos (by omega)]
  obtain rfl : k = gb l := Fin.ext e
  have q : (⟨(gb l).val - 1024, by omega⟩ : Fin 1024) = l := Fin.ext (by show (gb l).val - 1024 = l.val; omega)
  rw [q]

theorem dgt_c (r : Fin 8192) (k : Fin 3072) (l : Fin 1024) (e : k.val = 2048 + l.val) : dgt A r k = gG (tD A r l) (pC A r l) (gt A r (gc l)) := by
  unfold dgt
  rw [dif_neg (by omega), dif_neg (by omega)]
  obtain rfl : k = gc l := Fin.ext e
  have q : (⟨(gc l).val - 1024 - 1024, by omega⟩ : Fin 1024) = l := Fin.ext (by show (gc l).val - 1024 - 1024 = l.val; omega)
  rw [q]

theorem dpS_b (r : Fin 8192) (j : Fin 4608) (l : Fin 512) (e : j.val = l.val) : dpS A r j = dbz A r l := by
  unfold dpS
  rw [dif_pos (by omega)]
  exact congrArg (dbz A r) (Fin.ext e)

theorem dpS_g (r : Fin 8192) (j : Fin 4608) (l : Fin 3072) (e : j.val = 512 + l.val) : dpS A r j = dgt A r l := by
  unfold dpS
  rw [dif_neg (by omega), dif_pos (by omega)]
  exact congrArg (dgt A r) (Fin.ext (by show j.val - 512 = l.val; omega))

theorem dpS_c (r : Fin 8192) (j : Fin 4608) (l : Fin 1024) (e : j.val = 3584 + l.val) : dpS A r j = dcz A r l := by
  unfold dpS
  rw [dif_neg (by omega), dif_neg (by omega)]
  exact congrArg (dcz A r) (Fin.ext (by show j.val - 512 - 3072 = l.val; omega))
end

/-- Where each window's block lies. -/
theorem idx : ∀ t : Fin cfg0.N, win0_0.index t = ![t.val, 0] ∧ win0_1.index t = ![t.val, 1] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0, 0]
    ∧ win0_9.index t = ![0, 0, 0] ∧ win0_10.index t = ![0, 0, 0] ∧ win0_11.index t = ![0, 0, 0] ∧ win0_12.index t = ![t.val, 0] ∧ win0_13.index t = ![t.val, 0]
    ∧ win0_14.index t = ![t.val, 0] ∧ win0_15.index t = ![t.val, 1] ∧ win0_16.index t = ![t.val, 0] ∧ win0_17.index t = ![t.val, 0]
    ∧ win0_18.index t = ![t.val, 0] ∧ win0_19.index t = ![t.val, 0] ∧ win0_20.index t = ![0, 0] ∧ win0_21.index t = ![0, 0] ∧ win0_22.index t = ![0, 0] :=
  (by decide +kernel : ∀ t : Fin grid0.N, _)

variable (m : (ℓ : Loc nD τ sig) → Buf (Elt Ideal) ℓ) (c : Dev nD)

/-- The arguments in memory. -/
def args : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11)⟩

/-- The row of the whole array that a row of a point's block is. -/
def row (t : Fin cfg0.N) (r : Fin 256) : Fin 8192 := ⟨256 * t.val + r.val, by have : t.val < 32 := lt_of_lt_of_eq t.isLt N_0; have := r.isLt; omega⟩

theorem blk0 (t : Fin cfg0.N) (r : Fin 256) (k : Fin 1024) : (iblk m c 0 t : Vec Ideal S256x1024 .f32) (ix2 r k) = (args m c).dx (ix2 (row t r) k) := by
  show _ = m ((c : Thread nD τ).loc main_arg0) _
  blk_ext [iblk, V, idx t, row]

/-- The projection's block, which the whole of is fetched at every point. -/
theorem blk1 (t : Fin cfg0.N) (r : Fin 256) (k : Fin 4608) :
    (X0_1 m c t : Vec Ideal S256x4608 .bf16) (ix2 r k) = (args m c).p (ix2 (row t r) ⟨4608 + k.val, by omega⟩) := by
  show _ = m ((c : Thread nD τ).loc main_arg1) _
  unfold X0_1 Pipeline.Window.fill
  rw [dif_pos (moved0_1 t _)]
  blk_ext [iblk, V, idx t, row]

theorem blk2 (t : Fin cfg0.N) (r : Fin 256) (k : Fin 512) : (iblk m c 2 t : Vec Ideal S256x512 .bf16) (ix2 r k) = (args m c).ya (ix2 (row t r) k) := by
  show _ = m ((c : Thread nD τ).loc main_arg2) _
  blk_ext [iblk, V, idx t, row]

theorem blk3 (t : Fin cfg0.N) (r : Fin 256) (k : Fin 512) : (iblk m c 3 t : Vec Ideal S256x512 .f32) (ix2 r k) = (args m c).ob (ix2 (row t r) k) := by
  show _ = m ((c : Thread nD τ).loc main_arg3) _
  blk_ext [iblk, V, idx t, row]

theorem blk4 (t : Fin cfg0.N) (r : Fin 256) (k : Fin 1024) : (iblk m c 4 t : Vec Ideal S256x1024 .f32) (ix2 r k) = (args m c).oc (ix2 (row t r) k) := by
  show _ = m ((c : Thread nD τ).loc main_arg4) _
  blk_ext [iblk, V, idx t, row]

theorem blk5 (t : Fin cfg0.N) (k : Fin 128) : (iblk m c 5 t : Vec Ideal S1x128 .f32) (ix2 0 k) = (args m c).hw (ix2 0 k) := by
  show _ = m ((c : Thread nD τ).loc main_arg5) _
  blk_ext [iblk, V, idx t, row]

theorem blk6 (t : Fin cfg0.N) (k : Fin 128) : (iblk m c 6 t : Vec Ideal S1x128 .f32) (ix2 0 k) = (args m c).gw (ix2 0 k) := by
  show _ = m ((c : Thread nD τ).loc main_arg6) _
  blk_ext [iblk, V, idx t, row]

theorem blk7 (t : Fin cfg0.N) (k : Fin 3072) : (iblk m c 7 t : Vec Ideal S1x3072 .f32) (ix2 0 k) = (args m c).bg (ix2 0 k) := by
  show _ = m ((c : Thread nD τ).loc main_arg7) _
  blk_ext [iblk, V, idx t, row]

theorem blk8 (t : Fin cfg0.N) (l : Fin 512) (k : Fin 1024) : (iblk m c 8 t : Vec Ideal S1x512x1024 .bf16) (ix3 0 l k) = (args m c).wa (ix3 0 l k) := by
  show _ = m ((c : Thread nD τ).loc main_arg8) _
  blk_ext [iblk, V, idx t, row]

theorem blk9 (t : Fin cfg0.N) (l : Fin 512) (k : Fin 1024) : (iblk m c 9 t : Vec Ideal S1x512x1024 .bf16) (ix3 0 l k) = (args m c).wb (ix3 0 l k) := by
  show _ = m ((c : Thread nD τ).loc main_arg9) _
  blk_ext [iblk, V, idx t, row]

theorem blk10 (t : Fin cfg0.N) (l : Fin 1024) (k : Fin 1024) : (iblk m c 10 t : Vec Ideal S1x1024x1024 .bf16) (ix3 0 l k) = (args m c).wc (ix3 0 l k) := by
  show _ = m ((c : Thread nD τ).loc main_arg10) _
  blk_ext [iblk, V, idx t, row]

theorem blk11 (t : Fin cfg0.N) (l : Fin 1024) (k : Fin 1024) : (iblk m c 11 t : Vec Ideal S1x1024x1024 .bf16) (ix3 0 l k) = (args m c).wo (ix3 0 l k) := by
  show _ = m ((c : Thread nD τ).loc main_arg11) _
  blk_ext [iblk, V, idx t, row]

/-- The three parts of the projection's block that the body loads. -/
def ldb (t : Fin cfg0.N) : Vec Ideal S256x512 .bf16 := View.ld (X0_1 m c t) (Rect.unit ![0, 0] ![256, 512] inb_S256x4608_S256x512_0_0)

theorem ldb_at (t : Fin cfg0.N) (r : Fin 256) (k : Fin 512) : ldb m c t (ix2 r k) = (args m c).p (ix2 (row t r) (zbcol k)) := by
  refine Eq.trans (congrArg (X0_1 m c t : Vec Ideal S256x4608 .bf16) ?_) ((blk1 m c t r ⟨0 + k.val, by omega⟩).trans (congrArg (fun q => (args m c).p (ix2 (row t r) q)) (Fin.ext (by show 4608 + (0 + k.val) = (zbcol k).val; simp [zbcol]))))
  funext a
  match a with
  | ⟨0, _⟩ => exact Fin.ext (by show 0 + 1 * r.val = r.val; omega)
  | ⟨1, _⟩ => exact Fin.ext (by show 0 + 1 * k.val = 0 + k.val; omega)

def ldg (t : Fin cfg0.N) : Vec Ideal S256x3072 .bf16 := View.ld (X0_1 m c t) (Rect.unit ![0, 512] ![256, 3072] inb_S256x4608_S256x3072_0_512)

theorem ldg_at (t : Fin cfg0.N) (r : Fin 256) (k : Fin 3072) : ldg m c t (ix2 r k) = (args m c).p (ix2 (row t r) (gcol k)) := by
  refine Eq.trans (congrArg (X0_1 m c t : Vec Ideal S256x4608 .bf16) ?_) ((blk1 m c t r ⟨512 + k.val, by omega⟩).trans (congrArg (fun q => (args m c).p (ix2 (row t r) q)) (Fin.ext (by show 4608 + (512 + k.val) = (gcol k).val; simp [gcol]))))
  funext a
  match a with
  | ⟨0, _⟩ => exact Fin.ext (by show 0 + 1 * r.val = r.val; omega)
  | ⟨1, _⟩ => exact Fin.ext (by show 512 + 1 * k.val = 512 + k.val; omega)

def ldc (t : Fin cfg0.N) : Vec Ideal S256x1024 .bf16 := View.ld (X0_1 m c t) (Rect.unit ![0, 3584] ![256, 1024] inb_S256x4608_S256x1024_0_3584)

theorem ldc_at (t : Fin cfg0.N) (r : Fin 256) (k : Fin 1024) : ldc m c t (ix2 r k) = (args m c).p (ix2 (row t r) (zccol k)) := by
  refine Eq.trans (congrArg (X0_1 m c t : Vec Ideal S256x4608 .bf16) ?_) ((blk1 m c t r ⟨3584 + k.val, by omega⟩).trans (congrArg (fun q => (args m c).p (ix2 (row t r) q)) (Fin.ext (by show 4608 + (3584 + k.val) = (zccol k).val; simp [zccol]))))
  funext a
  match a with
  | ⟨0, _⟩ => exact Fin.ext (by show 0 + 1 * r.val = r.val; omega)
  | ⟨1, _⟩ => exact Fin.ext (by show 3584 + 1 * k.val = 3584 + k.val; omega)

end Cert.MrgB

end
-- ==== Proof.MrgE.lean ====
module

public import proofs.«01_k».proof.Proof.MrgD

@[expose] public section

noncomputable section

namespace Cert.MrgB
open Idealize.ShloMosaic Idealize.ShloMosaic.TcCoe Idealize.SL.Sem
open Cert.Kernel11Ideal Cert.Kernel11Ideal.Gen
open Cert.Merge (hcol hc gY gX gZ gW gG gOn gN eG eA eB eC eD kA kB kC kYb kYc kDob kDoc kDbz kDcz kDhw kDgw ga gb gc zbcol zccol gcol)

/-! What the call for the gradient of the merge leaves in each output's block at a point. -/

variable (m : (ℓ : Loc nD τ sig) → Buf (Elt Ideal) ℓ) (c : Dev nD) (t : Fin cfg0.N)

/-- The body's intermediate rows at a point. -/
def vYb : FVec Ideal S256x512 .bf16 := kYb (iblk m c 3 t) (ldb m c t) (iblk m c 5 t)
def vYc : FVec Ideal S256x1024 .bf16 := kYc (iblk m c 4 t) (ldc m c t) (iblk m c 6 t)
def vA : FVec Ideal S256x1024 .bf16 := kA (iblk m c 0 t) (ldg m c t) (iblk m c 7 t) (iblk m c 11 t)
def vB : FVec Ideal S256x1024 .bf16 := kB (iblk m c 0 t) (ldg m c t) (iblk m c 7 t) (iblk m c 11 t)
def vC : FVec Ideal S256x1024 .bf16 := kC (iblk m c 0 t) (ldg m c t) (iblk m c 7 t) (iblk m c 11 t)

theorem rxB (r : Fin 256) : (fun k : Fin 512 => ((iblk m c 3 t : Vec Ideal S256x512 .f32) (ix2 r k) : EReal)) = xB (args m c) (row t r) := funext fun k => blk3 m c t r k
theorem rzB (r : Fin 256) : (fun k : Fin 512 => (ldb m c t (ix2 r k) : EReal)) = zB (args m c) (row t r) := funext fun k => ldb_at m c t r k
theorem rwB : (fun k : Fin 128 => ((iblk m c 5 t : Vec Ideal S1x128 .f32) (ix2 0 k) : EReal)) = wB (args m c) := funext fun k => blk5 m c t k
theorem rxC (r : Fin 256) : (fun k : Fin 1024 => ((iblk m c 4 t : Vec Ideal S256x1024 .f32) (ix2 r k) : EReal)) = xC (args m c) (row t r) := funext fun k => blk4 m c t r k
theorem rzC (r : Fin 256) : (fun k : Fin 1024 => (ldc m c t (ix2 r k) : EReal)) = zC (args m c) (row t r) := funext fun k => ldc_at m c t r k
theorem rwC : (fun k : Fin 128 => ((iblk m c 6 t : Vec Ideal S1x128 .f32) (ix2 0 k) : EReal)) = wC (args m c) := funext fun k => blk6 m c t k

theorem rD (r : Fin 256) (k : Fin 1024) : eD (iblk m c 0 t) (iblk m c 11 t) r k = tD (args m c) (row t r) k :=
  Finset.sum_congr rfl fun l _ => congrArg₂ (fun a b : EReal => a * b) (blk0 m c t r l) (blk11 m c t k l)
theorem rG (r : Fin 256) (k : Fin 3072) : eG (ldg m c t) (iblk m c 7 t) r k = gt (args m c) (row t r) k :=
  congrArg Ideal.logistic (congrArg₂ (fun a b : EReal => a + b) (ldg_at m c t r k) (blk7 m c t k))

theorem vYb_at (r : Fin 256) (j : Fin 512) : vYb m c t (ix2 r j) = ybS (args m c) (row t r) j := by
  refine (Cert.Merge.kYb_at _ _ _ r j).trans ?_
  rw [rxB, rzB, rwB]
  rfl
theorem vYc_at (r : Fin 256) (j : Fin 1024) : vYc m c t (ix2 r j) = ycS (args m c) (row t r) j := by
  refine (Cert.Merge.kYc_at _ _ _ r j).trans ?_
  rw [rxC, rzC, rwC]
  rfl

theorem rA (r : Fin 256) (k : Fin 1024) : eA (iblk m c 2 t) (iblk m c 8 t) r k = pA (args m c) (row t r) k :=
  Finset.sum_congr rfl fun l _ => congrArg₂ (fun a b : EReal => a * b) (blk2 m c t r l) (blk8 m c t l k)
theorem rB (r : Fin 256) (k : Fin 1024) : eB (vYb m c t) (iblk m c 9 t) r k = pB (args m c) (row t r) k :=
  Finset.sum_congr rfl fun l _ => congrArg₂ (fun a b : EReal => a * b) (vYb_at m c t r l) (blk9 m c t l k)
theorem rC (r : Fin 256) (k : Fin 1024) : eC (vYc m c t) (iblk m c 10 t) r k = pC (args m c) (row t r) k :=
  Finset.sum_congr rfl fun l _ => congrArg₂ (fun a b : EReal => a * b) (vYc_at m c t r l) (blk10 m c t l k)

theorem vA_at (r : Fin 256) (k : Fin 1024) : vA m c t (ix2 r k) = dA (args m c) (row t r) k := by
  refine (Cert.Merge.kA_at _ _ _ _ r k).trans ?_
  rw [rD, rG]
  rfl
theorem vB_at (r : Fin 256) (k : Fin 1024) : vB m c t (ix2 r k) = dB (args m c) (row t r) k := by
  refine (Cert.Merge.kB_at _ _ _ _ r k).trans ?_
  rw [rD, rG]
  rfl
theorem vC_at (r : Fin 256) (k : Fin 1024) : vC m c t (ix2 r k) = dC (args m c) (row t r) k := by
  refine (Cert.Merge.kC_at _ _ _ _ r k).trans ?_
  rw [rD, rG]
  rfl

theorem ryB (r : Fin 256) : (fun k : Fin 512 => (∑ l : Fin 1024, vB m c t (ix2 r l) * (iblk m c 9 t : Vec Ideal S1x512x1024 .bf16) (ix3 0 k l) : EReal)) = dyB (args m c) (row t r) :=
  funext fun k => Finset.sum_congr rfl fun l _ => congrArg₂ (fun a b : EReal => a * b) (vB_at m c t r l) (blk9 m c t k l)
theorem ryC (r : Fin 256) : (fun k : Fin 1024 => (∑ l : Fin 1024, vC m c t (ix2 r l) * (iblk m c 10 t : Vec Ideal S1x1024x1024 .bf16) (ix3 0 k l) : EReal)) = dyC (args m c) (row t r) :=
  funext fun k => Finset.sum_congr rfl fun l _ => congrArg₂ (fun a b : EReal => a * b) (vC_at m c t r l) (blk10 m c t k l)

theorem s12 (r : Fin 256) (j : Fin 512) : k0_pay132 (vA m c t) (iblk m c 8 t) (ix2 r j) = dyA (args m c) (row t r) j :=
by
  refine (Cert.Merge.dya_at ..).trans ?_
  exact (Finset.sum_congr rfl fun l _ => congrArg₂ (fun a b : EReal => a * b) (vA_at m c t r l) (blk8 m c t j l))
theorem s13 (r : Fin 256) (j : Fin 512) : kDob (iblk m c 3 t) (ldb m c t) (iblk m c 5 t) (vB m c t) (iblk m c 9 t) (ix2 r j) = dob (args m c) (row t r) j := by
  refine (Cert.Merge.kDob_at _ _ _ _ _ r j).trans ?_
  rw [rxB, rzB, rwB, ryB]
  rfl
theorem s14 (r : Fin 256) (j : Fin 1024) : kDoc (iblk m c 4 t) (ldc m c t) (iblk m c 6 t) (vC m c t) (iblk m c 10 t) (ix2 r j) = doc (args m c) (row t r) j := by
  refine (Cert.Merge.kDoc_at _ _ _ _ _ r j).trans ?_
  rw [rxC, rzC, rwC, ryC]
  rfl
theorem s15b (r : Fin 256) (j : Fin 512) : kDbz (iblk m c 3 t) (ldb m c t) (iblk m c 5 t) (vB m c t) (iblk m c 9 t) (ix2 r j) = dbz (args m c) (row t r) j := by
  refine (Cert.Merge.kDbz_at _ _ _ _ _ r j).trans ?_
  rw [rxB, rzB, rwB, ryB]
  rfl
theorem s15c (r : Fin 256) (j : Fin 1024) : kDcz (iblk m c 4 t) (ldc m c t) (iblk m c 6 t) (vC m c t) (iblk m c 10 t) (ix2 r j) = dcz (args m c) (row t r) j := by
  refine (Cert.Merge.kDcz_at _ _ _ _ _ r j).trans ?_
  rw [rxC, rzC, rwC, ryC]
  rfl
theorem s15x (r : Fin 256) (k : Fin 1024) : k0_pay117 (k0_pay108 (ldg m c t) (iblk m c 7 t)) (k0_pay109 (iblk m c 2 t) (iblk m c 8 t)) (iblk m c 0 t) (iblk m c 11 t) (ix2 r k)
    = gG (tD (args m c) (row t r) k) (pA (args m c) (row t r) k) (gt (args m c) (row t r) (ga k)) := by
  refine (Cert.Merge.dga_at _ _ _ _ _ _ r k).trans ?_
  rw [rD, rA, rG]
theorem s15y (r : Fin 256) (k : Fin 1024) : k0_pay123 (k0_pay110 (vYb m c t) (iblk m c 9 t)) (k0_pay112 (iblk m c 0 t) (iblk m c 11 t)) (k0_pay119 (k0_pay108 (ldg m c t) (iblk m c 7 t))) (ix2 r k)
    = gG (tD (args m c) (row t r) k) (pB (args m c) (row t r) k) (gt (args m c) (row t r) (gb k)) := by
  refine (Cert.Merge.dgb_at _ _ _ _ _ _ r k).trans ?_
  rw [rD, rB, rG]
theorem s15z (r : Fin 256) (k : Fin 1024) : k0_pay129 (k0_pay108 (ldg m c t) (iblk m c 7 t)) (k0_pay111 (vYc m c t) (iblk m c 10 t)) (k0_pay112 (iblk m c 0 t) (iblk m c 11 t)) (ix2 r k)
    = gG (tD (args m c) (row t r) k) (pC (args m c) (row t r) k) (gt (args m c) (row t r) (gc k)) := by
  refine (Cert.Merge.dgc_at _ _ _ _ _ _ r k).trans ?_
  rw [rD, rC, rG]
theorem s16 (r : Fin 256) (k : Fin 1024) : k0_pay131 (k0_pay126 (k0_pay108 (ldg m c t) (iblk m c 7 t)) (k0_pay111 (vYc m c t) (iblk m c 10 t))
      (k0_pay114 (k0_pay108 (ldg m c t) (iblk m c 7 t)) (k0_pay109 (iblk m c 2 t) (iblk m c 8 t))) (k0_pay120 (vYb m c t) (k0_pay108 (ldg m c t) (iblk m c 7 t)) (iblk m c 9 t))) (ix2 r k)
    = mgS (args m c) (row t r) k := by
  refine (Cert.Merge.mg_at _ _ _ _ _ _ _ _ r k).trans ?_
  rw [rA, rB, rC, rG, rG, rG]
  rfl

theorem o12 (r : Fin 256) (j : Fin 512) : ((outsAt0 m c t.val t.isLt).1 : Vec Ideal S256x512 .f32) (ix2 r j) = dyA (args m c) (row t r) j := by
  by_cases h : t.val % 32 = 0
  · rw [outsAt0_A m c t h]
    frame_out
    exact s12 m c t r j
  · rw [outsAt0_B m c t h]
    frame_out
    exact s12 m c t r j

theorem o13 (r : Fin 256) (j : Fin 512) : ((outsAt0 m c t.val t.isLt).2.1 : Vec Ideal S256x512 .f32) (ix2 r j) = dob (args m c) (row t r) j := by
  by_cases h : t.val % 32 = 0
  · rw [outsAt0_A m c t h]
    frame_out
    exact s13 m c t r j
  · rw [outsAt0_B m c t h]
    frame_out
    exact s13 m c t r j

theorem o14 (r : Fin 256) (j : Fin 1024) : ((outsAt0 m c t.val t.isLt).2.2.1 : Vec Ideal S256x1024 .f32) (ix2 r j) = doc (args m c) (row t r) j := by
  by_cases h : t.val % 32 = 0
  · rw [outsAt0_A m c t h]
    frame_out
    exact s14 m c t r j
  · rw [outsAt0_B m c t h]
    frame_out
    exact s14 m c t r j

theorem o16 (r : Fin 256) (j : Fin 1024) : ((outsAt0 m c t.val t.isLt).2.2.2.2.1 : Vec Ideal S256x1024 .bf16) (ix2 r j) = mgS (args m c) (row t r) j := by
  by_cases h : t.val % 32 = 0
  · rw [outsAt0_A m c t h]
    frame_out
    exact s16 m c t r j
  · rw [outsAt0_B m c t h]
    frame_out
    exact s16 m c t r j

theorem o18 (r : Fin 256) (j : Fin 512) : ((outsAt0 m c t.val t.isLt).2.2.2.2.2.2.1 : Vec Ideal S256x512 .bf16) (ix2 r j) = ybS (args m c) (row t r) j := by
  by_cases h : t.val % 32 = 0
  · rw [outsAt0_A m c t h]
    frame_out
    exact vYb_at m c t r j
  · rw [outsAt0_B m c t h]
    frame_out
    exact vYb_at m c t r j

theorem o19 (r : Fin 256) (j : Fin 1024) : ((outsAt0 m c t.val t.isLt).2.2.2.2.2.2.2.1 : Vec Ideal S256x1024 .bf16) (ix2 r j) = ycS (args m c) (row t r) j := by
  by_cases h : t.val % 32 = 0
  · rw [outsAt0_A m c t h]
    frame_out
    exact vYc_at m c t r j
  · rw [outsAt0_B m c t h]
    frame_out
    exact vYc_at m c t r j

theorem o17 (r : Fin 256) (j : Fin 3072) : ((outsAt0 m c t.val t.isLt).2.2.2.2.2.1 : Vec Ideal S256x3072 .bf16) (ix2 r j) = dy3 (args m c) (row t r) j := by
  by_cases h : t.val % 32 = 0
  · rw [outsAt0_A m c t h]
    frame_out
    canon_tiles x q
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (vC_at m c t r l).trans (dy3_c _ _ j l q1).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (vB_at m c t r l).trans (dy3_b _ _ j l q1).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (vA_at m c t r l).trans (dy3_a _ _ j l q1).symm
  · rw [outsAt0_B m c t h]
    frame_out
    canon_tiles x q
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (vC_at m c t r l).trans (dy3_c _ _ j l q1).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (vB_at m c t r l).trans (dy3_b _ _ j l q1).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (vA_at m c t r l).trans (dy3_a _ _ j l q1).symm

theorem o15 (r : Fin 256) (j : Fin 4608) : ((outsAt0 m c t.val t.isLt).2.2.2.1 : Vec Ideal S256x4608 .bf16) (ix2 r j) = dpS (args m c) (row t r) j := by
  by_cases h : t.val % 32 = 0
  · rw [outsAt0_A m c t h]
    frame_out
    canon_tiles x q using (View.cover_of_tiledBy _ ![256, 512] (by sl_kernel_rfl) _)
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15c m c t r l).trans (dpS_c _ _ j l q1).symm
    · obtain ⟨r', l, rfl⟩ : ∃ (r' : Fin 256) (l : Fin 512), x = (ix2 r' l : S256x512.Idx) := ⟨x 0, x 1, by funext a; match a with | ⟨0, _⟩ => rfl | ⟨1, _⟩ => rfl⟩
      obtain rfl : r = r' := Fin.ext q0
      exact (s15b m c t r l).trans (dpS_b _ _ j l q1).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15z m c t r l).trans ((dpS_g _ _ j (gc l) ((q1 : j.val = 2560 + l.val).trans (by show 2560 + l.val = 512 + (gc l).val; simp only [gc]; omega))).trans (dgt_c _ _ _ l rfl)).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15y m c t r l).trans ((dpS_g _ _ j (gb l) ((q1 : j.val = 1536 + l.val).trans (by show 1536 + l.val = 512 + (gb l).val; simp only [gb]; omega))).trans (dgt_b _ _ _ l rfl)).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15x m c t r l).trans ((dpS_g _ _ j (ga l) ((q1 : j.val = 512 + l.val).trans (by show 512 + l.val = 512 + (ga l).val; simp only [ga]))).trans (dgt_a _ _ _ l rfl)).symm
  · rw [outsAt0_B m c t h]
    frame_out
    canon_tiles x q using (View.cover_of_tiledBy _ ![256, 512] (by sl_kernel_rfl) _)
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15c m c t r l).trans (dpS_c _ _ j l q1).symm
    · obtain ⟨r', l, rfl⟩ : ∃ (r' : Fin 256) (l : Fin 512), x = (ix2 r' l : S256x512.Idx) := ⟨x 0, x 1, by funext a; match a with | ⟨0, _⟩ => rfl | ⟨1, _⟩ => rfl⟩
      obtain rfl : r = r' := Fin.ext q0
      exact (s15b m c t r l).trans (dpS_b _ _ j l q1).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15z m c t r l).trans ((dpS_g _ _ j (gc l) ((q1 : j.val = 2560 + l.val).trans (by show 2560 + l.val = 512 + (gc l).val; simp only [gc]; omega))).trans (dgt_c _ _ _ l rfl)).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15y m c t r l).trans ((dpS_g _ _ j (gb l) ((q1 : j.val = 1536 + l.val).trans (by show 1536 + l.val = 512 + (gb l).val; simp only [gb]; omega))).trans (dgt_b _ _ _ l rfl)).symm
    · obtain ⟨r', l, rfl⟩ : ∃ (r' : Fin 256) (l : Fin 1024), x = (ix2 r' l : S256x1024.Idx) := ⟨x 0, x 1, by funext a; match a with | ⟨0, _⟩ => rfl | ⟨1, _⟩ => rfl⟩
      obtain rfl : r = r' := Fin.ext q0
      exact (s15x m c t r l).trans ((dpS_g _ _ j (ga l) ((q1 : j.val = 512 + l.val).trans (by show 512 + l.val = 512 + (ga l).val; simp only [ga]))).trans (dgt_a _ _ _ l rfl)).symm

/-! The accumulated gradients. -/

/-- A box of columns in a row, placed. -/
theorem canon_at {n w : ℕ} (o : ℕ) (inb : ∀ a, (![0, o] : Fin 2 → ℕ) a + (![1, w] : Fin 2 → ℕ) a ≤ (⟨2, ![1, n]⟩ : Shape).size a)
    (v : (⟨2, ![1, w]⟩ : Shape).Idx → EReal) (L : List (View.Piece (Elt Ideal) (⟨2, ![1, n]⟩ : Shape) .f32)) (e : Fin n) (l : Fin w) (q : e.val = o + l.val) :
    View.canon ((⟨Rect.unit ![0, o] ![1, w] inb, v⟩ : View.Piece (Elt Ideal) (⟨2, ![1, n]⟩ : Shape) .f32) :: L) (ix2 0 e) = v (ix2 0 l) := by
  have hy : (Rect.unit (s := (⟨2, ![1, n]⟩ : Shape)) ![0, o] ![1, w] inb).emb (ix2 0 l) = ix2 0 e := by
    funext a
    apply Fin.ext
    match a with
    | ⟨0, _⟩ => rfl
    | ⟨1, _⟩ => show o + 1 * l.val = e.val; omega
  rw [← hy]
  exact View.canon_cons_emb _ _ _ _

theorem canon_off {n w : ℕ} (o : ℕ) (inb : ∀ a, (![0, o] : Fin 2 → ℕ) a + (![1, w] : Fin 2 → ℕ) a ≤ (⟨2, ![1, n]⟩ : Shape).size a)
    (v : (⟨2, ![1, w]⟩ : Shape).Idx → EReal) (L : List (View.Piece (Elt Ideal) (⟨2, ![1, n]⟩ : Shape) .f32)) (e : Fin n) (q : e.val < o ∨ o + w ≤ e.val) :
    View.canon ((⟨Rect.unit ![0, o] ![1, w] inb, v⟩ : View.Piece (Elt Ideal) (⟨2, ![1, n]⟩ : Shape) .f32) :: L) (ix2 0 e) = View.canon L (ix2 0 e) := by
  refine View.canon_cons_of_not_mem _ _ fun hm => ?_
  obtain ⟨x, hx⟩ := LoadRect.exists_idx_of_mem _ hm
  have h1 : o + 1 * (x 1).val = e.val := congrArg Fin.val (congrFun hx 1)
  have h2 : (x 1).val < w := (x 1).isLt
  omega

/-- A point's share of the bias gradient. -/
def part (e : Fin 3072) : EReal := ∑ r : Fin 256, dgt (args m c) (row t r) e

theorem split (e : Fin 3072) : (∃ l, e = ga l) ∨ (∃ l, e = gb l) ∨ ∃ l, e = gc l := by
  by_cases h1 : e.val < 1024
  · exact .inl ⟨⟨e.val, h1⟩, Fin.ext (by simp only [ga]; try omega)⟩
  · by_cases h2 : e.val < 2048
    · exact .inr (.inl ⟨⟨e.val - 1024, by omega⟩, Fin.ext (by simp only [gb]; omega)⟩)
    · exact .inr (.inr ⟨⟨e.val - 2048, by omega⟩, Fin.ext (by simp only [gc]; omega)⟩)

theorem pA' (acc : FVec Ideal S1x1024 .f32) (l : Fin 1024) : k0_pay118 (k0_pay108 (ldg m c t) (iblk m c 7 t)) (k0_pay109 (iblk m c 2 t) (iblk m c 8 t)) (iblk m c 0 t) (iblk m c 11 t) acc (ix2 0 l)
    = acc (ix2 0 l) + part m c t (ga l) := by
  refine (Cert.Merge.dba_at ..).trans (congrArg (_ + ·) (Finset.sum_congr rfl fun r _ => ?_))
  rw [rD, rA, rG]
  exact (dgt_a _ _ _ l rfl).symm
theorem pB' (acc : FVec Ideal S1x1024 .f32) (l : Fin 1024) : k0_pay124 (k0_pay110 (vYb m c t) (iblk m c 9 t)) (k0_pay112 (iblk m c 0 t) (iblk m c 11 t)) (k0_pay119 (k0_pay108 (ldg m c t) (iblk m c 7 t))) acc (ix2 0 l)
    = acc (ix2 0 l) + part m c t (gb l) := by
  refine (Cert.Merge.dbb_at ..).trans (congrArg (_ + ·) (Finset.sum_congr rfl fun r _ => ?_))
  rw [rD, rB, rG]
  exact (dgt_b _ _ _ l rfl).symm
theorem pC' (acc : FVec Ideal S1x1024 .f32) (l : Fin 1024) : k0_pay130 (k0_pay108 (ldg m c t) (iblk m c 7 t)) (k0_pay111 (vYc m c t) (iblk m c 10 t)) (k0_pay112 (iblk m c 0 t) (iblk m c 11 t)) acc (ix2 0 l)
    = acc (ix2 0 l) + part m c t (gc l) := by
  refine (Cert.Merge.dbc_at ..).trans (congrArg (_ + ·) (Finset.sum_congr rfl fun r _ => ?_))
  rw [rD, rC, rG]
  exact (dgt_c _ _ _ l rfl).symm

/-- Where a box's column sits in the row. -/
theorem boxidx {n w : ℕ} (o : ℕ) (inb : ∀ a, (![0, o] : Fin 2 → ℕ) a + (![1, w] : Fin 2 → ℕ) a ≤ (⟨2, ![1, n]⟩ : Shape).size a) (l : Fin w) (e : Fin n) (q : e.val = o + l.val) :
    (Rect.unit (s := (⟨2, ![1, n]⟩ : Shape)) ![0, o] ![1, w] inb).toLoadRect.idx (ix2 0 l) = ix2 0 e := by
  funext a
  apply Fin.ext
  match a with
  | ⟨0, _⟩ => rfl
  | ⟨1, _⟩ => show o + 1 * l.val = e.val; omega

theorem ld_at {n w : ℕ} (X : (⟨2, ![1, n]⟩ : Shape).Idx → EReal) (o : ℕ) (inb : ∀ a, (![0, o] : Fin 2 → ℕ) a + (![1, w] : Fin 2 → ℕ) a ≤ (⟨2, ![1, n]⟩ : Shape).size a) (l : Fin w) (e : Fin n) (q : e.val = o + l.val) :
    View.ld (Val := Elt Ideal) (e' := .f32) X (Rect.unit (s := (⟨2, ![1, n]⟩ : Shape)) ![0, o] ![1, w] inb) (ix2 0 l) = X (ix2 0 e) :=
  congrArg X (boxidx o inb l e q)

theorem o20B (h : ¬ t.val % 32 = 0) (e : Fin 3072) : ((outsAt0 m c t.val t.isLt).2.2.2.2.2.2.2.2.1 : Vec Ideal S1x3072 .f32) (ix2 0 e)
    = ((outsAt0 m c (t.val - 1) (by have := t.isLt; omega)).2.2.2.2.2.2.2.2.1 : Vec Ideal S1x3072 .f32) (ix2 0 e) + part m c t e := by
  rw [outsAt0_B m c t h]
  frame_out
  obtain ⟨l, rfl⟩ | ⟨l, rfl⟩ | ⟨l, rfl⟩ := split e
  · refine (canon_off 2048 _ _ _ (ga l) (.inl (by simp only [ga]; omega))).trans ((canon_off 1024 _ _ _ (ga l) (.inl (by simp only [ga]; omega))).trans ((canon_at 0 _ _ _ (ga l) l (by simp only [ga]; omega)).trans ((pA' m c t _ l).trans (congrArg (· + part m c t (ga l)) ?_))))
    exact ld_at _ 0 _ l (ga l) (by simp only [ga]; omega)
  · refine (canon_off 2048 _ _ _ (gb l) (.inl (by simp only [gb]; omega))).trans ((canon_at 1024 _ _ _ (gb l) l (by simp only [gb])).trans ((pB' m c t _ l).trans (congrArg (· + part m c t (gb l)) ?_)))
    exact ld_at _ 1024 _ l (gb l) (by simp only [gb])
  · refine (canon_at 2048 _ _ _ (gc l) l (by simp only [gc])).trans ((pC' m c t _ l).trans (congrArg (· + part m c t (gc l)) ?_))
    exact ld_at _ 2048 _ l (gc l) (by simp only [gc])

theorem cov_at {κ : Kind} {sp : Space} {sg : RefSig} {n w : ℕ} (v : View sg κ sp (⟨2, ![1, n]⟩ : Shape) .f32) (L : List (View.Piece (Elt Ideal) (⟨2, ![1, n]⟩ : Shape) .f32)) (o : ℕ)
    (inb : ∀ a, (![0, o] : Fin 2 → ℕ) a + (![1, w] : Fin 2 → ℕ) a ≤ (⟨2, ![1, n]⟩ : Shape).size a) (l : Fin w) (e : Fin n) (q : e.val = o + l.val) :
    v.readCov L (Rect.unit (s := (⟨2, ![1, n]⟩ : Shape)) ![0, o] ![1, w] inb).toLoadRect (ix2 0 l) = View.canon L (ix2 0 e) :=
by
  rw [View.readCov_eq_canon']
  exact congrArg (View.canon L) (boxidx o inb l e q)

theorem o20A (h : t.val % 32 = 0) (e : Fin 3072) : ((outsAt0 m c t.val t.isLt).2.2.2.2.2.2.2.2.1 : Vec Ideal S1x3072 .f32) (ix2 0 e)
    = 0 + part m c t e := by
  rw [outsAt0_A m c t h]
  frame_out
  obtain ⟨l, rfl⟩ | ⟨l, rfl⟩ | ⟨l, rfl⟩ := split e
  · refine (canon_off 2048 _ _ _ (ga l) (.inl (by simp only [ga]; omega))).trans ((canon_off 1024 _ _ _ (ga l) (.inl (by simp only [ga]; omega))).trans ((canon_at 0 _ _ _ (ga l) l (by simp only [ga]; omega)).trans ((pA' m c t _ l).trans (congrArg (· + part m c t (ga l)) ?_))))
    refine (cov_at _ _ 0 _ l (ga l) (by simp only [ga]; omega)).trans ?_
    exact (canon_at 0 _ _ _ (ga l) (ga l) (by omega)).trans (Cert.Merge.zero3 _)
  · refine (canon_off 2048 _ _ _ (gb l) (.inl (by simp only [gb]; omega))).trans ((canon_at 1024 _ _ _ (gb l) l (by simp only [gb])).trans ((pB' m c t _ l).trans (congrArg (· + part m c t (gb l)) ?_)))
    refine (cov_at _ _ 1024 _ l (gb l) (by simp only [gb])).trans ?_
    refine (canon_off 0 _ _ _ (gb l) (.inr (by simp only [gb]; omega))).trans ?_
    exact (canon_at 0 _ _ _ (gb l) (gb l) (by omega)).trans (Cert.Merge.zero3 _)
  · refine (canon_at 2048 _ _ _ (gc l) l (by simp only [gc])).trans ((pC' m c t _ l).trans (congrArg (· + part m c t (gc l)) ?_))
    refine (cov_at _ _ 2048 _ l (gc l) (by simp only [gc])).trans ?_
    refine (canon_off 1024 _ _ _ (gc l) (.inr (by simp only [gc]; omega))).trans ?_
    refine (canon_off 0 _ _ _ (gc l) (.inr (by simp only [gc]; omega))).trans ?_
    exact (canon_at 0 _ _ _ (gc l) (gc l) (by omega)).trans (Cert.Merge.zero3 _)

theorem o21A (h : t.val % 32 = 0) (e : Fin 128) : ((outsAt0 m c t.val t.isLt).2.2.2.2.2.2.2.2.2.1 : Vec Ideal S1x128 .f32) (ix2 0 e)
    = 0 + ∑ r : Fin 256, ∑ i : Fin 4, gW (xB (args m c) (row t r)) (zB (args m c) (row t r)) (dyB (args m c) (row t r)) (hc (by decide) i) e := by
  rw [outsAt0_A m c t h]
  frame_out
  refine (Cert.Merge.kDhw_at (iblk m c 3 t) (ldb m c t) (vB m c t) (iblk m c 9 t) (k0_pay6 (F := Ideal)) e).trans ?_
  rw [Cert.Merge.zeroB]
  refine congrArg (0 + ·) (Finset.sum_congr rfl fun r _ => Finset.sum_congr rfl fun i _ => ?_)
  rw [rxB, rzB, ryB]
theorem o21B (h : ¬ t.val % 32 = 0) (e : Fin 128) : ((outsAt0 m c t.val t.isLt).2.2.2.2.2.2.2.2.2.1 : Vec Ideal S1x128 .f32) (ix2 0 e)
    = ((outsAt0 m c (t.val - 1) (by have := t.isLt; omega)).2.2.2.2.2.2.2.2.2.1 : Vec Ideal S1x128 .f32) (ix2 0 e) + ∑ r : Fin 256, ∑ i : Fin 4, gW (xB (args m c) (row t r)) (zB (args m c) (row t r)) (dyB (args m c) (row t r)) (hc (by decide) i) e := by
  rw [outsAt0_B m c t h]
  frame_out
  refine (Cert.Merge.kDhw_at (iblk m c 3 t) (ldb m c t) (vB m c t) (iblk m c 9 t) _ e).trans ?_
  refine congrArg (_ + ·) (Finset.sum_congr rfl fun r _ => Finset.sum_congr rfl fun i _ => ?_)
  rw [rxB, rzB, ryB]
theorem o22A (h : t.val % 32 = 0) (e : Fin 128) : ((outsAt0 m c t.val t.isLt).2.2.2.2.2.2.2.2.2.2 : Vec Ideal S1x128 .f32) (ix2 0 e)
    = 0 + ∑ r : Fin 256, ∑ i : Fin 8, gW (xC (args m c) (row t r)) (zC (args m c) (row t r)) (dyC (args m c) (row t r)) (hc (by decide) i) e := by
  rw [outsAt0_A m c t h]
  frame_out
  refine (Cert.Merge.kDgw_at (iblk m c 4 t) (ldc m c t) (vC m c t) (iblk m c 10 t) (k0_pay7 (F := Ideal)) e).trans ?_
  rw [Cert.Merge.zeroC]
  refine congrArg (0 + ·) (Finset.sum_congr rfl fun r _ => Finset.sum_congr rfl fun i _ => ?_)
  rw [rxC, rzC, ryC]
theorem o22B (h : ¬ t.val % 32 = 0) (e : Fin 128) : ((outsAt0 m c t.val t.isLt).2.2.2.2.2.2.2.2.2.2 : Vec Ideal S1x128 .f32) (ix2 0 e)
    = ((outsAt0 m c (t.val - 1) (by have := t.isLt; omega)).2.2.2.2.2.2.2.2.2.2 : Vec Ideal S1x128 .f32) (ix2 0 e) + ∑ r : Fin 256, ∑ i : Fin 8, gW (xC (args m c) (row t r)) (zC (args m c) (row t r)) (dyC (args m c) (row t r)) (hc (by decide) i) e := by
  rw [outsAt0_B m c t h]
  frame_out
  refine (Cert.Merge.kDgw_at (iblk m c 4 t) (ldc m c t) (vC m c t) (iblk m c 10 t) _ e).trans ?_
  refine congrArg (_ + ·) (Finset.sum_congr rfl fun r _ => Finset.sum_congr rfl fun i _ => ?_)
  rw [rxC, rzC, ryC]

end Cert.MrgB

end
-- ==== Proof.MrgF.lean ====
module

public import proofs.«01_k».proof.Proof.MrgE

@[expose] public section

noncomputable section

namespace Cert.MrgB
open Idealize.ShloMosaic Idealize.ShloMosaic.TcCoe Idealize.SL.Sem
open Cert.Kernel11Ideal Cert.Kernel11Ideal.Gen
open Cert.Merge (hc gW)

/-! The arrays that the call for the gradient of the merge leaves, and the run's results. -/

variable (m : (ℓ : Loc nD τ sig) → Buf (Elt Ideal) ℓ) (c : Dev nD)

/-- A value at two coordinates, read at the index that they are of. -/
theorem two {n k : ℕ} (f : Fin n → Fin k → EReal) (a : Fin n) (b : Fin k) (i : (⟨2, ![n, k]⟩ : Shape).Idx) (h : (ix2 a b : (⟨2, ![n, k]⟩ : Shape).Idx) = i) : f a b = f (i 0) (i 1) := by
  subst h
  rfl
theorem one {k : ℕ} (f : Fin k → EReal) (b : Fin k) (i : (⟨2, ![1, k]⟩ : Shape).Idx) (h : (ix2 0 b : (⟨2, ![1, k]⟩ : Shape).Idx) = i) : f b = f (i 1) := by
  subst h
  rfl

/-- The gradient of the projection, at the columns that are written. -/
def dpG (A : Args) (r : Fin 8192) (k : Fin 10752) : EReal := dpS A r ⟨(k.val - 4608) % 4608, Nat.mod_lt _ (by decide)⟩

theorem arr12 : (dats m 0 c).arrAt 12 (cfgs 0).N = (fun i => dyA (args m c) (i 0) (i 1) : FVec Ideal S8192x512 .f32) := by
  refine (dats m 0 c).arrAt_eq_of_covers 12 _ (by decide +kernel) fun t hf y => ?_
  blk_simp
  rw [after0_12]
  obtain ⟨r, d, rfl⟩ : ∃ (r : Fin 256) (d : Fin 512), y = (ix2 r d : S256x512.Idx) := ⟨y 0, y 1, by funext a; match a with | ⟨0, _⟩ => rfl | ⟨1, _⟩ => rfl⟩
  refine (o12 m c t r d).trans (two (dyA (args m c)) _ _ _ ?_)
  blk_ext [row, idx t]

theorem arr13 : (dats m 0 c).arrAt 13 (cfgs 0).N = (fun i => dob (args m c) (i 0) (i 1) : FVec Ideal S8192x512 .f32) := by
  refine (dats m 0 c).arrAt_eq_of_covers 13 _ (by decide +kernel) fun t hf y => ?_
  blk_simp
  rw [after0_13]
  obtain ⟨r, d, rfl⟩ : ∃ (r : Fin 256) (d : Fin 512), y = (ix2 r d : S256x512.Idx) := ⟨y 0, y 1, by funext a; match a with | ⟨0, _⟩ => rfl | ⟨1, _⟩ => rfl⟩
  refine (o13 m c t r d).trans (two (dob (args m c)) _ _ _ ?_)
  blk_ext [row, idx t]

theorem arr14 : (dats m 0 c).arrAt 14 (cfgs 0).N = (fun i => doc (args m c) (i 0) (i 1) : FVec Ideal S8192x1024 .f32) := by
  refine (dats m 0 c).arrAt_eq_of_covers 14 _ (by decide +kernel) fun t hf y => ?_
  blk_simp
  rw [after0_14]
  obtain ⟨r, d, rfl⟩ : ∃ (r : Fin 256) (d : Fin 1024), y = (ix2 r d : S256x1024.Idx) := ⟨y 0, y 1, by funext a; match a with | ⟨0, _⟩ => rfl | ⟨1, _⟩ => rfl⟩
  refine (o14 m c t r d).trans (two (doc (args m c)) _ _ _ ?_)
  blk_ext [row, idx t]

theorem arr16 : (dats m 0 c).arrAt 16 (cfgs 0).N = (fun i => mgS (args m c) (i 0) (i 1) : FVec Ideal S8192x1024 .bf16) := by
  refine (dats m 0 c).arrAt_eq_of_covers 16 _ (by decide +kernel) fun t hf y => ?_
  blk_simp
  rw [after0_16]
  obtain ⟨r, d, rfl⟩ : ∃ (r : Fin 256) (d : Fin 1024), y = (ix2 r d : S256x1024.Idx) := ⟨y 0, y 1, by funext a; match a with | ⟨0, _⟩ => rfl | ⟨1, _⟩ => rfl⟩
  refine (o16 m c t r d).trans (two (mgS (args m c)) _ _ _ ?_)
  blk_ext [row, idx t]

theorem arr17 : (dats m 0 c).arrAt 17 (cfgs 0).N = (fun i => dy3 (args m c) (i 0) (i 1) : FVec Ideal S8192x3072 .bf16) := by
  refine (dats m 0 c).arrAt_eq_of_covers 17 _ (by decide +kernel) fun t hf y => ?_
  blk_simp
  rw [after0_17]
  obtain ⟨r, d, rfl⟩ : ∃ (r : Fin 256) (d : Fin 3072), y = (ix2 r d : S256x3072.Idx) := ⟨y 0, y 1, by funext a; match a with | ⟨0, _⟩ => rfl | ⟨1, _⟩ => rfl⟩
  refine (o17 m c t r d).trans (two (dy3 (args m c)) _ _ _ ?_)
  blk_ext [row, idx t]

theorem arr18 : (dats m 0 c).arrAt 18 (cfgs 0).N = (fun i => ybS (args m c) (i 0) (i 1) : FVec Ideal S8192x512 .bf16) := by
  refine (dats m 0 c).arrAt_eq_of_covers 18 _ (by decide +kernel) fun t hf y => ?_
  blk_simp
  rw [after0_18]
  obtain ⟨r, d, rfl⟩ : ∃ (r : Fin 256) (d : Fin 512), y = (ix2 r d : S256x512.Idx) := ⟨y 0, y 1, by funext a; match a with | ⟨0, _⟩ => rfl | ⟨1, _⟩ => rfl⟩
  refine (o18 m c t r d).trans (two (ybS (args m c)) _ _ _ ?_)
  blk_ext [row, idx t]

theorem arr19 : (dats m 0 c).arrAt 19 (cfgs 0).N = (fun i => ycS (args m c) (i 0) (i 1) : FVec Ideal S8192x1024 .bf16) := by
  refine (dats m 0 c).arrAt_eq_of_covers 19 _ (by decide +kernel) fun t hf y => ?_
  blk_simp
  rw [after0_19]
  obtain ⟨r, d, rfl⟩ : ∃ (r : Fin 256) (d : Fin 1024), y = (ix2 r d : S256x1024.Idx) := ⟨y 0, y 1, by funext a; match a with | ⟨0, _⟩ => rfl | ⟨1, _⟩ => rfl⟩
  refine (o19 m c t r d).trans (two (ycS (args m c)) _ _ _ ?_)
  blk_ext [row, idx t]

theorem arr15 (r : Fin 8192) (j : Fin 4608) : ((dats m 0 c).arrAt 15 (cfgs 0).N : FVec Ideal S8192x10752 .bf16) (ix2 r ⟨4608 + j.val, by omega⟩) = dpS (args m c) r j := by
  refine ((dats m 0 c).arrAt_emb_eq_of_coversWhere 15 (fun i : S8192x10752.Idx => dpG (args m c) (i 0) (i 1)) (fun β => β (1 : Fin 2) = 1) (by decide +kernel)
    (fun t hf y => ?_) (ix2 r ⟨4608 + j.val, by omega⟩ : S8192x10752.Idx)).trans ?_
  · blk_simp
    rw [after0_15]
    have hz : ∀ z : S256x4608.Idx, (∀ a, (z a).val = (y a).val) → (outsAt0 m c t.val t.isLt).2.2.2.1 z = dpG (args m c) ((win0_15.blk t).view.emb y 0) ((win0_15.blk t).view.emb y 1) := by
      intro z hz
      obtain ⟨r, d, rfl⟩ : ∃ (r : Fin 256) (d : Fin 4608), z = (ix2 r d : S256x4608.Idx) := ⟨z 0, z 1, by funext a; match a with | ⟨0, _⟩ => rfl | ⟨1, _⟩ => rfl⟩
      have h0 : r.val = (y 0).val := hz 0
      have h1 : d.val = (y 1).val := hz 1
      refine (o15 m c t r d).trans (Eq.trans ?_ (two (dpG (args m c)) (row t r) ⟨4608 + d.val, by omega⟩ _ ?_))
      · exact congrArg (dpS (args m c) (row t r)) (Fin.ext (by show d.val = (4608 + d.val - 4608) % 4608; omega))
      · have i15 : win0_15.index t = ![t.val, 1] := by simp [idx t]
        have i0 : win0_15.index t 0 = t.val := congrFun i15 0
        have i1 : win0_15.index t 1 = 1 := congrFun i15 1
        funext a
        apply Fin.ext
        match a with
        | ⟨0, _⟩ => show 256 * t.val + r.val = win0_15.index t 0 * 256 + 1 * (y 0).val; rw [i0]; omega
        | ⟨1, _⟩ => show 4608 + d.val = win0_15.index t 1 * 4608 + 1 * (y 1).val; rw [i1]; omega
    exact hz _ fun a => rfl
  · rw [if_pos (by show (4608 + j.val) / 4608 = 1; omega)]
    exact congrArg (dpS (args m c) r) (Fin.ext (by show (4608 + j.val - 4608) % 4608 = j.val; omega))

theorem acc20 (t : Fin cfg0.N) (h : t.val % 32 = 31) (e : Fin 3072) : ((outsAt0 m c t.val t.isLt).2.2.2.2.2.2.2.2.1 : Vec Ideal S1x3072 .f32) (ix2 0 e) = dbg (args m c) e := by
  rw [Pipeline.eq_sum_fin_of_reset_step_apply_of_flush (fun n h => (fun e => ((outsAt0 m c n h).2.2.2.2.2.2.2.2.1 : Vec Ideal S1x3072 .f32) (ix2 0 e) : Fin 3072 → EReal)) 32 (fun _ => 0) _
    (fun t h j => o20A m c t h j) (fun t h j => o20B m c t h j) t h e, zero_add]
  unfold part dbg
  refine Fin.sum_mul_add_congr fun s k hl => ?_
  have q : row ⟨_, Pipeline.run_point_lt_of_flush t h s⟩ k = ⟨_, hl⟩ := Fin.ext (by have : t.val < 32 := lt_of_lt_of_eq t.isLt N_0; simp only [row]; omega)
  rw [q]

theorem arr20 : (dats m 0 c).arrAt 20 (cfgs 0).N = (fun i => dbg (args m c) (i 1) : FVec Ideal S1x3072 .f32) := by
  refine (dats m 0 c).arrAt_eq_of_covers 20 _ (by decide +kernel) fun t hf y => ?_
  blk_simp
  rw [after0_20]
  obtain ⟨d, rfl⟩ : ∃ d : Fin 3072, y = (ix2 0 d : S1x3072.Idx) := ⟨y 1, by funext a; match a with | ⟨0, _⟩ => exact Fin.ext (by have := (y 0).isLt; change (y 0).val < 1 at this; show (y 0).val = 0; omega) | ⟨1, _⟩ => rfl⟩
  refine (acc20 m c t ((flush0_20 t).mp hf) d).trans (one (dbg (args m c)) _ _ ?_)
  blk_ext [idx t]

theorem acc21 (t : Fin cfg0.N) (h : t.val % 32 = 31) (e : Fin 128) : ((outsAt0 m c t.val t.isLt).2.2.2.2.2.2.2.2.2.1 : Vec Ideal S1x128 .f32) (ix2 0 e) = dhw (args m c) e := by
  rw [Pipeline.eq_sum_fin_of_reset_step_apply_of_flush (fun n h => (fun e => ((outsAt0 m c n h).2.2.2.2.2.2.2.2.2.1 : Vec Ideal S1x128 .f32) (ix2 0 e) : Fin 128 → EReal)) 32 (fun _ => 0) _
    (fun t h j => o21A m c t h j) (fun t h j => o21B m c t h j) t h e, zero_add]
  unfold dhw
  refine Fin.sum_mul_add_congr fun s k hl => ?_
  have q : row ⟨_, Pipeline.run_point_lt_of_flush t h s⟩ k = ⟨_, hl⟩ := Fin.ext (by have : t.val < 32 := lt_of_lt_of_eq t.isLt N_0; simp only [row]; omega)
  rw [q]

theorem arr21 : (dats m 0 c).arrAt 21 (cfgs 0).N = (fun i => dhw (args m c) (i 1) : FVec Ideal S1x128 .f32) := by
  refine (dats m 0 c).arrAt_eq_of_covers 21 _ (by decide +kernel) fun t hf y => ?_
  blk_simp
  rw [after0_21]
  obtain ⟨d, rfl⟩ : ∃ d : Fin 128, y = (ix2 0 d : S1x128.Idx) := ⟨y 1, by funext a; match a with | ⟨0, _⟩ => exact Fin.ext (by have := (y 0).isLt; change (y 0).val < 1 at this; show (y 0).val = 0; omega) | ⟨1, _⟩ => rfl⟩
  refine (acc21 m c t ((flush0_21 t).mp hf) d).trans (one (dhw (args m c)) _ _ ?_)
  blk_ext [idx t]

theorem acc22 (t : Fin cfg0.N) (h : t.val % 32 = 31) (e : Fin 128) : ((outsAt0 m c t.val t.isLt).2.2.2.2.2.2.2.2.2.2 : Vec Ideal S1x128 .f32) (ix2 0 e) = dgw (args m c) e := by
  rw [Pipeline.eq_sum_fin_of_reset_step_apply_of_flush (fun n h => (fun e => ((outsAt0 m c n h).2.2.2.2.2.2.2.2.2.2 : Vec Ideal S1x128 .f32) (ix2 0 e) : Fin 128 → EReal)) 32 (fun _ => 0) _
    (fun t h j => o22A m c t h j) (fun t h j => o22B m c t h j) t h e, zero_add]
  unfold dgw
  refine Fin.sum_mul_add_congr fun s k hl => ?_
  have q : row ⟨_, Pipeline.run_point_lt_of_flush t h s⟩ k = ⟨_, hl⟩ := Fin.ext (by have : t.val < 32 := lt_of_lt_of_eq t.isLt N_0; simp only [row]; omega)
  rw [q]

theorem arr22 : (dats m 0 c).arrAt 22 (cfgs 0).N = (fun i => dgw (args m c) (i 1) : FVec Ideal S1x128 .f32) := by
  refine (dats m 0 c).arrAt_eq_of_covers 22 _ (by decide +kernel) fun t hf y => ?_
  blk_simp
  rw [after0_22]
  obtain ⟨d, rfl⟩ : ∃ d : Fin 128, y = (ix2 0 d : S1x128.Idx) := ⟨y 1, by funext a; match a with | ⟨0, _⟩ => exact Fin.ext (by have := (y 0).isLt; change (y 0).val < 1 at this; show (y 0).val = 0; omega) | ⟨1, _⟩ => rfl⟩
  refine (acc22 m c t ((flush0_22 t).mp hf) d).trans (one (dgw (args m c)) _ _ ?_)
  blk_ext [idx t]

end Cert.MrgB

end
-- ==== Proof.MrgI.lean ====
module

public import proofs.«01_k».proof.Proof.MrgF
public import proofs.«01_k».proof.Proof.Gen.Reference11Ideal.Run

@[expose] public section

noncomputable section

namespace Cert.MrgB.Ref
open Cert.Reference11Ideal Cert.Reference11Ideal.Gen Cert.Reference11Ideal.Value
open Idealize.ShloMosaic Idealize.ShloMosaic.TcCoe Idealize.SL.Sem Cert.Hgrn
open Cert.Merge (hcol hc gY gX gZ gW gG gOn gN ga gb gc rs128 ms128 dv128 zbcol zccol gcol)

/-! The reference's values at an index. -/

/-- A sum over the first two axes of a three-axis array. -/
theorem reduce01 {n0 n1 n2 : ℕ} (h : (⟨3, ![n0, n1, n2]⟩ : Shape).ReducesTo [0, 1] (⟨1, ![n2]⟩ : Shape)) (v : (⟨3, ![n0, n1, n2]⟩ : Shape).Idx → EReal) (init : EReal)
    (j : (⟨1, ![n2]⟩ : Shape).Idx) :
    Ideal.hostReduceAdd h v init j = init + ∑ k0 : Fin n0, ∑ k1 : Fin n1, v (ix3 k0 k1 (j 0)) := by
  refine congrArg (init + ·) ((Finset.sum_filter_eq_sum_of_fiber (fun i => h.drop i = j) (fun k : Fin n0 × Fin n1 => ix3 k.1 k.2 (j 0))
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- Two sums of products whose first factors agree. -/
theorem sumw {n : ℕ} (f g w : Fin n → EReal) (h : ∀ l, f l = g l) : ∑ l, f l * w l = ∑ l, g l * w l := Finset.sum_congr rfl fun l _ => congrArg (fun a : EReal => a * w l) (h l)

variable (V0 : Valuation τ sig (Elt Ideal))

/-- The arguments. -/
def argsV : Args :=
  ⟨V0 (Proc.devRef .tc main_arg0), V0 (Proc.devRef .tc main_arg1), V0 (Proc.devRef .tc main_arg2), V0 (Proc.devRef .tc main_arg3), V0 (Proc.devRef .tc main_arg4),
    V0 (Proc.devRef .tc main_arg5), V0 (Proc.devRef .tc main_arg6), V0 (Proc.devRef .tc main_arg7), V0 (Proc.devRef .tc main_arg8), V0 (Proc.devRef .tc main_arg9),
    V0 (Proc.devRef .tc main_arg10), V0 (Proc.devRef .tc main_arg11)⟩

theorem v81_at (r : Fin 8192) (k : Fin 1024) : (res_main_v81 V0 : FVec Ideal S8192x1024 .f32) (ix2 r k) = tD (argsV V0) r k := by
  unfold res_main_v81
  pointwise [res_main_v11]
  rfl
theorem v68_at (r : Fin 8192) (k : Fin 3072) : (res_main_v68 V0 : FVec Ideal S8192x3072 .f32) (ix2 r k) = gt (argsV V0) r k := by
  pointwise [res_main_v68, res_main_v13]
  rfl
theorem v36_at (r : Fin 8192) (j : Fin 512) : (res_main_v36 V0 : FVec Ideal S8192x512 .f32) (ix2 r j) = ybS (argsV V0) r j := by
  pointwise [res_main_v36, res_main_v34, res_main_v35_0, res_main_v35_2, res_main_v30, res_main_v31, res_main_v14, res_main_v13, res_main_v17, res_main_v25, res_main_v24]
  unfold ybS gY gOn
  rw [Cert.Merge.hcol_self]
  rfl
theorem v56_at (r : Fin 8192) (j : Fin 1024) : (res_main_v56 V0 : FVec Ideal S8192x1024 .f32) (ix2 r j) = ycS (argsV V0) r j := by
  pointwise [res_main_v56, res_main_v54, res_main_v55_0, res_main_v55_2, res_main_v50, res_main_v51, res_main_v16, res_main_v13, res_main_v37, res_main_v45, res_main_v44]
  unfold ycS gY gOn
  rw [Cert.Merge.hcol_self]
  rfl
theorem v58_at (r : Fin 8192) (k : Fin 1024) : (res_main_v58 V0 : FVec Ideal S8192x1024 .f32) (ix2 r k) = pA (argsV V0) r k := by
  pointwise [res_main_v58, res_main_v2]
  rfl
theorem v59_at (r : Fin 8192) (k : Fin 1024) : (res_main_v59 V0 : FVec Ideal S8192x1024 .f32) (ix2 r k) = pB (argsV V0) r k := by
  pointwise [res_main_v59, res_main_v5]
  exact sumw _ _ _ fun l => (v36_at V0 r l)
theorem v60_at (r : Fin 8192) (k : Fin 1024) : (res_main_v60 V0 : FVec Ideal S8192x1024 .f32) (ix2 r k) = pC (argsV V0) r k := by
  pointwise [res_main_v60, res_main_v8]
  exact sumw _ _ _ fun l => (v56_at V0 r l)
theorem v86_at (r : Fin 8192) (k : Fin 1024) : (res_main_v86 V0 : FVec Ideal S8192x1024 .f32) (ix2 r k) = dA (argsV V0) r k := by
  pointwise [res_main_v86, res_main_v72]
  exact (mul_comm _ _).trans (congrArg₂ (fun a b : EReal => a * b) (v81_at V0 r k) (v68_at V0 r (ga k)))
theorem v84_at (r : Fin 8192) (k : Fin 1024) : (res_main_v84 V0 : FVec Ideal S8192x1024 .f32) (ix2 r k) = dB (argsV V0) r k := by
  pointwise [res_main_v84, res_main_v73]
  exact (mul_comm _ _).trans (congrArg₂ (fun a b : EReal => a * b) (v81_at V0 r k) (v68_at V0 r (gb k)))
theorem v82_at (r : Fin 8192) (k : Fin 1024) : (res_main_v82 V0 : FVec Ideal S8192x1024 .f32) (ix2 r k) = dC (argsV V0) r k := by
  pointwise [res_main_v82, res_main_v74]
  exact (mul_comm _ _).trans (congrArg₂ (fun a b : EReal => a * b) (v81_at V0 r k) (v68_at V0 r (gc k)))
theorem v94_at (r : Fin 8192) (j : Fin 512) : (Host.dotGeneral (F := Ideal) (φ₁ := .f32) (φ₂ := .bf16) dot_S8192x1024_S512x1024_S8192x512_1_1_0_0_n_n none (res_main_v86 V0) (res_main_v2 V0) : FVec Ideal S8192x512 .f32) (ix2 r j) = dyA (argsV V0) r j := by
  pointwise [res_main_v2]
  exact sumw _ _ _ fun l => (v86_at V0 r l)
theorem v93_at (r : Fin 8192) (j : Fin 512) : (res_main_v93 V0 : FVec Ideal S8192x512 .f32) (ix2 r j) = dyB (argsV V0) r j := by
  pointwise [res_main_v93, res_main_v5]
  exact sumw _ _ _ fun l => (v84_at V0 r l)
theorem v92_at (r : Fin 8192) (j : Fin 1024) : (res_main_v92 V0 : FVec Ideal S8192x1024 .f32) (ix2 r j) = dyC (argsV V0) r j := by
  pointwise [res_main_v92, res_main_v8]
  exact sumw _ _ _ fun l => (v82_at V0 r l)
theorem v89_at (r : Fin 8192) (k : Fin 3072) : (res_main_v89 V0 : FVec Ideal S8192x3072 .f32) (ix2 r k) = dgt (argsV V0) r k := by
  pointwise [res_main_v89]
  have s := v68_at V0 r k
  unfold dgt gG
  by_cases h : k.val < 1024
  · rw [dif_pos h, dif_pos h]
    exact (congrArg₂ (fun a b : EReal => a * (b * (1 - b))) (congrArg₂ (fun a b : EReal => a * b) (v81_at V0 r _) (v58_at V0 r _)) s).trans (mul_assoc _ _ _).symm
  · rw [dif_neg h, dif_neg h]
    by_cases h' : k.val - 1024 < 1024
    · rw [dif_pos h', dif_pos h']
      exact (congrArg₂ (fun a b : EReal => a * (b * (1 - b))) (congrArg₂ (fun a b : EReal => a * b) (v81_at V0 r _) (v59_at V0 r _)) s).trans (mul_assoc _ _ _).symm
    · rw [dif_neg h', dif_neg h']
      exact (congrArg₂ (fun a b : EReal => a * (b * (1 - b))) (congrArg₂ (fun a b : EReal => a * b) (v81_at V0 r _) (v60_at V0 r _)) s).trans (mul_assoc _ _ _).symm
theorem v149_at (r : Fin 8192) (k : Fin 1024) : (truncf .bf16 (addf (addf (mulf (res_main_v72 V0) (res_main_v58 V0)) (mulf (res_main_v73 V0) (res_main_v59 V0))) (mulf (res_main_v74 V0) (res_main_v60 V0))) bitsLt_bf16_f32 : FVec Ideal S8192x1024 .bf16) (ix2 r k)
    = mgS (argsV V0) r k := by
  pointwise [res_main_v72, res_main_v73, res_main_v74]
  have e1 := v58_at V0 r k
  have e2 := v59_at V0 r k
  have e3 := v60_at V0 r k
  have f1 := v68_at V0 r (ga k)
  have f2 := v68_at V0 r (gb k)
  have f3 := v68_at V0 r (gc k)
  exact congrArg₂ (fun a b : EReal => a + b) (congrArg₂ (fun a b : EReal => a + b) (congrArg₂ (fun a b : EReal => a * b) f1 e1) (congrArg₂ (fun a b : EReal => a * b) f2 e2)) (congrArg₂ (fun a b : EReal => a * b) f3 e3)
theorem v105_at (e : Fin 128) : (broadcastInDim S1x128 ![1] bcast_S128_S1x128_1 (Host.reduceAdd (shapeCast _ (Host.reduceAdd (mulf (res_main_v30 V0) (res_main_v98 V0)) (constant S_ .f32 0x00000000#32) reducesTo_S8192x4x128_S128_d0_1 h_S_) shapeCasts_S128_S1x1x128) (constant S_ .f32 0x00000000#32) reducesTo_S1x1x128_S128_d0_1 h_S_) : FVec Ideal S1x128 .f32) (ix2 0 e)
    = dhw (argsV V0) e := by
  pointwise [reduce01, res_main_v98, res_main_v35_0, res_main_v35_2, res_main_v30, res_main_v14, res_main_v13, res_main_v17, res_main_v25, res_main_v24]
  rw [Fintype.sum_unique, Fintype.sum_unique]
  refine Finset.sum_congr rfl fun r _ => Finset.sum_congr rfl fun i _ => ?_
  exact (mul_comm _ _).trans (congrArg (fun a : EReal => a * _ * _) (v93_at V0 r (hc (by decide) i e)))
theorem v131_at (e : Fin 128) : (broadcastInDim S1x128 ![1] bcast_S128_S1x128_1 (Host.reduceAdd (shapeCast _ (Host.reduceAdd (mulf (res_main_v50 V0) (res_main_v124 V0)) (constant S_ .f32 0x00000000#32) reducesTo_S8192x8x128_S128_d0_1 h_S_) shapeCasts_S128_S1x1x128) (constant S_ .f32 0x00000000#32) reducesTo_S1x1x128_S128_d0_1 h_S_) : FVec Ideal S1x128 .f32) (ix2 0 e)
    = dgw (argsV V0) e := by
  pointwise [reduce01, res_main_v124, res_main_v55_0, res_main_v55_2, res_main_v50, res_main_v16, res_main_v13, res_main_v37, res_main_v45, res_main_v44]
  rw [Fintype.sum_unique, Fintype.sum_unique]
  refine Finset.sum_congr rfl fun r _ => Finset.sum_congr rfl fun i _ => ?_
  exact (mul_comm _ _).trans (congrArg (fun a : EReal => a * _ * _) (v92_at V0 r (hc (by decide) i e)))
theorem v91_at (k : Fin 3072) : (shapeCast _ (Host.reduceAdd (res_main_v89 V0) (constant S_ .f32 0x00000000#32) reducesTo_S8192x3072_S3072_d0 h_S_) shapeCasts_S3072_S1x3072 : FVec Ideal S1x3072 .f32) (ix2 0 k) = dbg (argsV V0) k := by
  pointwise []
  exact Finset.sum_congr rfl fun r _ => v89_at V0 r k
theorem v151_at (r : Fin 8192) (k : Fin 3072) : (truncf .bf16 ((concatenate S8192x3072 1 [⟨S8192x1024, ((res_main_v86 V0) : (⟨S8192x1024, .f32⟩ : BufTy).Contents (Elt Ideal))⟩, ⟨S8192x1024, ((res_main_v84 V0) : (⟨S8192x1024, .f32⟩ : BufTy).Contents (Elt Ideal))⟩, ⟨S8192x1024, ((res_main_v82 V0) : (⟨S8192x1024, .f32⟩ : BufTy).Contents (Elt Ideal))⟩] concatenates_S8192x1024_S8192x1024_S8192x1024_S8192x3072_d1 : (⟨S8192x3072, .f32⟩ : BufTy).Contents (Elt Ideal))) bitsLt_bf16_f32 : FVec Ideal S8192x3072 .bf16) (ix2 r k)
    = dy3 (argsV V0) r k := by
  pointwise []
  unfold dy3
  by_cases h : k.val < 1024
  · rw [dif_pos h, dif_pos h]
    exact v86_at V0 r _
  · rw [dif_neg h, dif_neg h]
    by_cases h' : k.val - 1024 < 1024
    · rw [dif_pos h', dif_pos h']
      exact v84_at V0 r _
    · rw [dif_neg h', dif_neg h']
      exact v82_at V0 r _

/-- The reciprocal root of a head of real numbers is a real number. -/
theorem rs_real {x : Fin 128 → EReal} (hx : ∀ k, Merge.Re (x k)) : Merge.Re (rs128 x) := by
  choose x' hx using hx
  obtain rfl : x = fun k => (x' k : EReal) := funext hx
  have hm : ms128 (fun k => (x' k : EReal)) = (((∑ k, x' k * x' k) / 128 + Cert.Rms.eps : ℝ) : EReal) := by
    unfold ms128
    rw [Merge.width128, Cert.Rms.eps_eq]
    simp only [← EReal.coe_mul]
    rw [← coe_sum, div_coe _ _ (by norm_num), ← EReal.coe_add]
  have hz : 0 < (∑ k, x' k * x' k) / 128 + Cert.Rms.eps := by
    have : 0 ≤ ∑ k, x' k * x' k := Finset.sum_nonneg fun k _ => mul_self_nonneg _
    have := Cert.Rms.eps_pos
    positivity
  refine ⟨(Real.sqrt ((∑ k, x' k * x' k) / 128 + Cert.Rms.eps))⁻¹, ?_⟩
  show Ideal.rsqrt (ms128 (fun k => (x' k : EReal))) = _
  rw [hm, Cert.Rms.rsqrt_coe _ hz]

/-- The gradient of a gate `c` whose logistic is `b`, from the gradient `a` of its silu. -/
def gz (a b c : EReal) : EReal := a * b + c * a * (b * (1 - b))

/-- The arguments hold real numbers where the gradients of the heads read them. -/
structure Reals (A : Args) : Prop where
  dx : ∀ r l, Merge.Re (A.dx (ix2 r l))
  zb : ∀ r j, Merge.Re (zB A r j)
  zc : ∀ r j, Merge.Re (zC A r j)
  xb : ∀ r j, Merge.Re (xB A r j)
  xc : ∀ r j, Merge.Re (xC A r j)
  wb : ∀ e, Merge.Re (wB A e)
  wc : ∀ e, Merge.Re (wC A e)
  kb : ∀ l k, Merge.Re (A.wb (ix3 0 l k))
  kc : ∀ l k, Merge.Re (A.wc (ix3 0 l k))
  ko : ∀ l k, Merge.Re (A.wo (ix3 0 l k))

section
variable {A : Args} (h : Reals A)
include h

theorem Reals.tD (r k) : Merge.Re (tD A r k) := Merge.Re.sum fun l => (h.dx r l).mul (h.ko k l)
theorem Reals.dyB (r j) : Merge.Re (dyB A r j) := Merge.Re.sum fun l => ((h.tD r l).mul (Merge.logistic_real _)).mul (h.kb j l)
theorem Reals.dyC (r j) : Merge.Re (dyC A r j) := Merge.Re.sum fun l => ((h.tD r l).mul (Merge.logistic_real _)).mul (h.kc j l)
theorem Reals.nB (r) (f : Fin 128 → Fin 512) (e) : Merge.Re (gN (zB A r) (wB A) (MrgB.dyB A r) f e) :=
  ((h.dyB r _).mul ((h.zb r _).mul (Merge.logistic_real _))).mul (h.wb e)
theorem Reals.nC (r) (f : Fin 128 → Fin 1024) (e) : Merge.Re (gN (zC A r) (wC A) (MrgB.dyC A r) f e) :=
  ((h.dyC r _).mul ((h.zc r _).mul (Merge.logistic_real _))).mul (h.wc e)
end

theorem v103_at (r : Fin 8192) (i : Fin 4) (e : Fin 128) : (res_main_v103 V0 : FVec Ideal S8192x4x128 .f32) (ix3 r i e) = gN (zB (argsV V0) r) (wB (argsV V0)) (dyB (argsV V0) r) (hc (by decide) i) e := by
  pointwise [res_main_v103, res_main_v98, res_main_v31, res_main_v35_0, res_main_v35_2, res_main_v14, res_main_v13]
  exact congrArg (fun a : EReal => a * _ * _) (v93_at V0 r (hc (by decide) i e))
theorem v115_at (r : Fin 8192) (i : Fin 4) (e : Fin 128) : (res_main_v115 V0 : FVec Ideal S8192x4x128 .f32) (ix3 r i e) = dv128 (fun k => xB (argsV V0) r (hc (by decide) i k)) (gN (zB (argsV V0) r) (wB (argsV V0)) (dyB (argsV V0) r) (hc (by decide) i)) := by
  rw [show gN (zB (argsV V0) r) (wB (argsV V0)) (dyB (argsV V0) r) (hc (by decide) i) = fun e => (res_main_v103 V0 : FVec Ideal S8192x4x128 .f32) (ix3 r i e) from funext fun e => (v103_at V0 r i e).symm]
  pointwise [res_main_v115, res_main_v17, res_main_v25, res_main_v24]
  rfl
theorem v120_at (hr : Reals (argsV V0)) (r : Fin 8192) (j : Fin 512) : (shapeCast _ (addf (addf (mulf (res_main_v103 V0) (broadcastInDim S8192x4x128 ![0, 1, 2] bcast_S8192x4x1_S8192x4x128_0_1_2 (res_main_v25 V0))) (mulf (res_main_v17 V0) (res_main_v115 V0))) (mulf (res_main_v115 V0) (res_main_v17 V0))) shapeCasts_S8192x4x128_S8192x512 : FVec Ideal S8192x512 .f32) (ix2 r j) = dob (argsV V0) r j := by
  pointwise [res_main_v17, res_main_v25, res_main_v24]
  have e1 := v103_at V0 r ⟨j.val / 128, by omega⟩ ⟨j.val % 128, Nat.mod_lt _ (by decide)⟩
  have e2 := v115_at V0 r ⟨j.val / 128, by omega⟩ ⟨j.val % 128, Nat.mod_lt _ (by decide)⟩
  rw [e1, e2]
  refine (Merge.norm_bwd (fun k => hr.xb r (hc (by decide) ⟨j.val / 128, by omega⟩ k)) (fun k => hr.nB r (hc (by decide) ⟨j.val / 128, by omega⟩) k) (hr.xb r j)
    (hr.nB r (hc (by decide) ⟨j.val / 128, by omega⟩) ⟨j.val % 128, Nat.mod_lt _ (by decide)⟩)).symm.trans ?_
  unfold dob gX gOn
  rw [Merge.hcol_self]
  rfl
theorem v129_at (r : Fin 8192) (i : Fin 8) (e : Fin 128) : (res_main_v129 V0 : FVec Ideal S8192x8x128 .f32) (ix3 r i e) = gN (zC (argsV V0) r) (wC (argsV V0)) (dyC (argsV V0) r) (hc (by decide) i) e := by
  pointwise [res_main_v129, res_main_v124, res_main_v51, res_main_v55_0, res_main_v55_2, res_main_v16, res_main_v13]
  exact congrArg (fun a : EReal => a * _ * _) (v92_at V0 r (hc (by decide) i e))
theorem v141_at (r : Fin 8192) (i : Fin 8) (e : Fin 128) : (res_main_v141 V0 : FVec Ideal S8192x8x128 .f32) (ix3 r i e) = dv128 (fun k => xC (argsV V0) r (hc (by decide) i k)) (gN (zC (argsV V0) r) (wC (argsV V0)) (dyC (argsV V0) r) (hc (by decide) i)) := by
  rw [show gN (zC (argsV V0) r) (wC (argsV V0)) (dyC (argsV V0) r) (hc (by decide) i) = fun e => (res_main_v129 V0 : FVec Ideal S8192x8x128 .f32) (ix3 r i e) from funext fun e => (v129_at V0 r i e).symm]
  pointwise [res_main_v141, res_main_v37, res_main_v45, res_main_v44]
  rfl
theorem v146_at (hr : Reals (argsV V0)) (r : Fin 8192) (j : Fin 1024) : (shapeCast _ (addf (addf (mulf (res_main_v129 V0) (broadcastInDim S8192x8x128 ![0, 1, 2] bcast_S8192x8x1_S8192x8x128_0_1_2 (res_main_v45 V0))) (mulf (res_main_v37 V0) (res_main_v141 V0))) (mulf (res_main_v141 V0) (res_main_v37 V0))) shapeCasts_S8192x8x128_S8192x1024 : FVec Ideal S8192x1024 .f32) (ix2 r j) = doc (argsV V0) r j := by
  pointwise [res_main_v37, res_main_v45, res_main_v44]
  have e1 := v129_at V0 r ⟨j.val / 128, by omega⟩ ⟨j.val % 128, Nat.mod_lt _ (by decide)⟩
  have e2 := v141_at V0 r ⟨j.val / 128, by omega⟩ ⟨j.val % 128, Nat.mod_lt _ (by decide)⟩
  rw [e1, e2]
  refine (Merge.norm_bwd (fun k => hr.xc r (hc (by decide) ⟨j.val / 128, by omega⟩ k)) (fun k => hr.nC r (hc (by decide) ⟨j.val / 128, by omega⟩) k) (hr.xc r j)
    (hr.nC r (hc (by decide) ⟨j.val / 128, by omega⟩) ⟨j.val % 128, Nat.mod_lt _ (by decide)⟩)).symm.trans ?_
  unfold doc gX gOn
  rw [Merge.hcol_self]
  rfl
theorem v95_at (r : Fin 8192) (j : Fin 512) : (res_main_v95 V0 : FVec Ideal S8192x512 .f32) (ix2 r j) = gOn (xB (argsV V0) r) (hcol (by decide) j) ⟨j.val % 128, Nat.mod_lt _ (by decide)⟩ * wB (argsV V0) ⟨j.val % 128, Nat.mod_lt _ (by decide)⟩ * dyB (argsV V0) r j := by
  pointwise [res_main_v95, res_main_v34, res_main_v30, res_main_v31, res_main_v17, res_main_v25, res_main_v24]
  unfold gOn
  rw [Merge.hcol_self]
  exact congrArg (fun a : EReal => _ * _ * a) (v93_at V0 r j)
theorem zb_at (hr : Reals (argsV V0)) (r : Fin 8192) (j : Fin 512) : gz ((res_main_v95 V0 : FVec Ideal S8192x512 .f32) (ix2 r j)) ((res_main_v35_2 V0 : FVec Ideal S8192x512 .f32) (ix2 r j)) ((res_main_v14 V0 : FVec Ideal S8192x512 .f32) (ix2 r j)) = dbz (argsV V0) r j := by
  have e1 : (res_main_v14 V0 : FVec Ideal S8192x512 .f32) (ix2 r j) = zB (argsV V0) r j := by
    pointwise [res_main_v14, res_main_v13]
    rfl
  have e2 : (res_main_v35_2 V0 : FVec Ideal S8192x512 .f32) (ix2 r j) = Ideal.logistic (zB (argsV V0) r j) := by
    pointwise [res_main_v35_2, res_main_v14, res_main_v13]
    rfl
  unfold gz
  rw [v95_at, e1, e2]
  refine (Merge.gate_bwd (((hr.xb r _).mul (rs_real fun k => hr.xb r _)).mul (hr.wb _)) (hr.dyB r j) (hr.zb r j)).symm.trans ?_
  unfold dbz gZ gOn
  rw [Merge.hcol_self]
  exact congrArg (fun a : EReal => a * _) (mul_assoc _ _ _).symm
theorem v121_at (r : Fin 8192) (j : Fin 1024) : (res_main_v121 V0 : FVec Ideal S8192x1024 .f32) (ix2 r j) = gOn (xC (argsV V0) r) (hcol (by decide) j) ⟨j.val % 128, Nat.mod_lt _ (by decide)⟩ * wC (argsV V0) ⟨j.val % 128, Nat.mod_lt _ (by decide)⟩ * dyC (argsV V0) r j := by
  pointwise [res_main_v121, res_main_v54, res_main_v50, res_main_v51, res_main_v37, res_main_v45, res_main_v44]
  unfold gOn
  rw [Merge.hcol_self]
  exact congrArg (fun a : EReal => _ * _ * a) (v92_at V0 r j)
theorem zc_at (hr : Reals (argsV V0)) (r : Fin 8192) (j : Fin 1024) : gz ((res_main_v121 V0 : FVec Ideal S8192x1024 .f32) (ix2 r j)) ((res_main_v55_2 V0 : FVec Ideal S8192x1024 .f32) (ix2 r j)) ((res_main_v16 V0 : FVec Ideal S8192x1024 .f32) (ix2 r j)) = dcz (argsV V0) r j := by
  have e1 : (res_main_v16 V0 : FVec Ideal S8192x1024 .f32) (ix2 r j) = zC (argsV V0) r j := by
    pointwise [res_main_v16, res_main_v13]
    rfl
  have e2 : (res_main_v55_2 V0 : FVec Ideal S8192x1024 .f32) (ix2 r j) = Ideal.logistic (zC (argsV V0) r j) := by
    pointwise [res_main_v55_2, res_main_v16, res_main_v13]
    rfl
  unfold gz
  rw [v121_at, e1, e2]
  refine (Merge.gate_bwd (((hr.xc r _).mul (rs_real fun k => hr.xc r _)).mul (hr.wc _)) (hr.dyC r j) (hr.zc r j)).symm.trans ?_
  unfold dcz gZ gOn
  rw [Merge.hcol_self]
  exact congrArg (fun a : EReal => a * _) (mul_assoc _ _ _).symm
theorem v148_at (hr : Reals (argsV V0)) (r : Fin 8192) (j : Fin 4608) : (truncf .bf16 (concatenate S8192x4608 1 [⟨S8192x512, (addf (mulf (res_main_v95 V0) (res_main_v35_2 V0)) (mulf (mulf (res_main_v14 V0) (res_main_v95 V0)) (mulf (res_main_v35_2 V0) (subf (broadcastInDim S8192x512 ![] bcast_S_S8192x512 (constant S_ .f32 0x3F800000#32)) (res_main_v35_2 V0)))) : FVec Ideal S8192x512 .f32)⟩, ⟨S8192x3072, (res_main_v89 V0 : FVec Ideal S8192x3072 .f32)⟩, ⟨S8192x1024, (addf (mulf (res_main_v121 V0) (res_main_v55_2 V0)) (mulf (mulf (res_main_v16 V0) (res_main_v121 V0)) (mulf (res_main_v55_2 V0) (subf (broadcastInDim S8192x1024 ![] bcast_S_S8192x1024 (constant S_ .f32 0x3F800000#32)) (res_main_v55_2 V0)))) : FVec Ideal S8192x1024 .f32)⟩] concatenates_S8192x512_S8192x3072_S8192x1024_S8192x4608_d1) bitsLt_bf16_f32 : FVec Ideal S8192x4608 .bf16) (ix2 r j)
    = dpS (argsV V0) r j := by
  pointwise []
  unfold dpS
  by_cases h : j.val < 512
  · rw [dif_pos h, dif_pos h]
    exact zb_at V0 hr r _
  · rw [dif_neg h, dif_neg h]
    by_cases h' : j.val - 512 < 3072
    · rw [dif_pos h', dif_pos h']
      exact v89_at V0 r _
    · rw [dif_neg h', dif_neg h']
      exact zc_at V0 hr r _
end Cert.MrgB.Ref

end
-- ==== Proof.MrgJ.lean ====
module

public import proofs.«01_k».proof.Defs
public import proofs.«01_k».proof.Proof.MrgI
public import proofs.«01_k».proof.Proof.PreB
public import Idealize.ShloMosaic.Lib.Claim

@[expose] public section

noncomputable section

namespace Cert.MrgB
open Idealize.ShloMosaic Idealize.ShloMosaic.TcCoe Idealize.SL.Sem

/-! The merge's backward call ends with its reference's results. -/

section
open Cert.Kernel11Ideal Cert.Kernel11Ideal.Gen
variable (m : (ℓ : Loc nD τ sig) → Buf (Elt Ideal) ℓ) (ρ : Dev nD → PrngReg)

/-- The columns of the projection's gradient that the call writes. -/
def dpArr (c : Dev nD) : FVec Ideal S8192x4608 .bf16 :=
  extractStridedSlice S8192x4608 ![0, 4608] ((dats m 0 c).arrAt 15 (cfgs 0).N : FVec Ideal S8192x10752 .bf16) slices_S8192x10752_S8192x4608_0_4608

/-- What the slice after the call leaves. -/
theorem tail_eq (c : Dev nD) : Pipeline.afterTail₀ cfgs (dats m) 0 (V0 m) [hostOps1] c main_v1 = dpArr m c := by
  show StableHlo.after hostOps1 _ (Proc.devRef .tc main_v1) = _
  unfold hostOps1
  rw [StableHlo.after_cons, StableHlo.after_nil, StableHlo.unary_result]
  exact congrArg (fun a : FVec Ideal S8192x10752 .bf16 => extractStridedSlice S8192x4608 ![0, 4608] a slices_S8192x10752_S8192x4608_0_4608)
    (Pipeline.withArrays_arr (cfgs 0).spec launch0.win.arr_inj c (V0 m c) (fun w => (dats m 0 c).arrAt w (cfgs 0).N) 15)

/-- The call ends with its arrays at what its blocks write, the sliced columns, and its arguments as they were. -/
theorem run_blocks : θ_run defs (onTc (τ := τ) (main (F := Ideal))) ⟨m, fun _ => 0, ρ⟩ (fun r => ∀ c : Dev nD,
    r.2.mem ((c.tc : Thread nD τ).loc main_v0_0) = (dats m 0 c).arrAt 12 (cfgs 0).N
    ∧ r.2.mem ((c.tc : Thread nD τ).loc main_v0_1) = (dats m 0 c).arrAt 13 (cfgs 0).N
    ∧ r.2.mem ((c.tc : Thread nD τ).loc main_v0_2) = (dats m 0 c).arrAt 14 (cfgs 0).N
    ∧ r.2.mem ((c.tc : Thread nD τ).loc main_v1) = dpArr m c
    ∧ r.2.mem ((c.tc : Thread nD τ).loc main_v0_4) = (dats m 0 c).arrAt 16 (cfgs 0).N
    ∧ r.2.mem ((c.tc : Thread nD τ).loc main_v0_5) = (dats m 0 c).arrAt 17 (cfgs 0).N
    ∧ r.2.mem ((c.tc : Thread nD τ).loc main_v0_6) = (dats m 0 c).arrAt 18 (cfgs 0).N
    ∧ r.2.mem ((c.tc : Thread nD τ).loc main_v0_7) = (dats m 0 c).arrAt 19 (cfgs 0).N
    ∧ r.2.mem ((c.tc : Thread nD τ).loc main_v0_8) = (dats m 0 c).arrAt 20 (cfgs 0).N
    ∧ r.2.mem ((c.tc : Thread nD τ).loc main_v0_9) = (dats m 0 c).arrAt 21 (cfgs 0).N
    ∧ r.2.mem ((c.tc : Thread nD τ).loc main_v0_10) = (dats m 0 c).arrAt 22 (cfgs 0).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run _ _ _).mono (fun r h c => ⟨(h.1 c).1 12, (h.1 c).1 13, (h.1 c).1 14, ((h.1 c).2 main_v1 (by decide)).trans (tail_eq m c), (h.1 c).1 16, (h.1 c).1 17, (h.1 c).1 18, (h.1 c).1 19, (h.1 c).1 20, (h.1 c).1 21, (h.1 c).1 22, h.2 c⟩)
    (θ_run_and (run_main m ρ) (unchanged m ρ))

end

/-- The side conditions that the precondition takes. -/
theorem preFacts : Cert.Pre_finite_heads.Facts where
  slices_S8192x10752_S8192x512_0_4608 := by decide
  slices_S8192x10752_S8192x1024_0_8192 := by decide
  bcast_S_S8192x1024 := by decide
  bitsLt_bf16_f32 := by decide
  bcast_S_S8192x512 := by decide
  bcast_S_S1x128 := by decide
  slices_S2x512x1024_S1x512x1024_0_0_0 := by decide
  shapeCasts_S1x512x1024_S512x1024 := by decide
  bcast_S_S512x1024 := by decide
  slices_S2x1024x1024_S1x1024x1024_0_0_0 := by decide
  shapeCasts_S1x1024x1024_S1024x1024 := by decide
  bcast_S_S1024x1024 := by decide

section
open Cert.Pre_finite_heads Cert.Hgrn

/-- What the precondition says: the arrays that the heads' gradients read hold real numbers. -/
theorem of_pre [Facts] (dx : FVec Ideal S8192x1024 .f32) (p : FVec Ideal S8192x10752 .bf16) (ya : FVec Ideal S8192x512 .bf16) (ob : FVec Ideal S8192x512 .f32)
    (oc : FVec Ideal S8192x1024 .f32) (hw gw : FVec Ideal S1x128 .f32) (bg : FVec Ideal S1x3072 .f32) (wa wb : FVec Ideal S2x512x1024 .bf16) (wc wo : FVec Ideal S2x1024x1024 .bf16)
    (e : (Cert.Pre_finite_heads.fn (F := Ideal) dx p ya ob oc hw gw bg wa wb wc wo).1 = (fun _ => 1#1)
      ∧ (Cert.Pre_finite_heads.fn (F := Ideal) dx p ya ob oc hw gw bg wa wb wc wo).2.1 = (fun _ => 1#1)
      ∧ (Cert.Pre_finite_heads.fn (F := Ideal) dx p ya ob oc hw gw bg wa wb wc wo).2.2.1 = (fun _ => 1#1)
      ∧ (Cert.Pre_finite_heads.fn (F := Ideal) dx p ya ob oc hw gw bg wa wb wc wo).2.2.2.1 = (fun _ => 1#1)
      ∧ (Cert.Pre_finite_heads.fn (F := Ideal) dx p ya ob oc hw gw bg wa wb wc wo).2.2.2.2.1 = (fun _ => 1#1)
      ∧ (Cert.Pre_finite_heads.fn (F := Ideal) dx p ya ob oc hw gw bg wa wb wc wo).2.2.2.2.2.1 = (fun _ => 1#1)
      ∧ (Cert.Pre_finite_heads.fn (F := Ideal) dx p ya ob oc hw gw bg wa wb wc wo).2.2.2.2.2.2.1 = (fun _ => 1#1)
      ∧ (Cert.Pre_finite_heads.fn (F := Ideal) dx p ya ob oc hw gw bg wa wb wc wo).2.2.2.2.2.2.2.1 = (fun _ => 1#1)
      ∧ (Cert.Pre_finite_heads.fn (F := Ideal) dx p ya ob oc hw gw bg wa wb wc wo).2.2.2.2.2.2.2.2.1 = (fun _ => 1#1)
      ∧ (Cert.Pre_finite_heads.fn (F := Ideal) dx p ya ob oc hw gw bg wa wb wc wo).2.2.2.2.2.2.2.2.2 = (fun _ => 1#1)) :
    Ref.Reals ⟨dx, p, ya, ob, oc, hw, gw, bg, wa, wb, wc, wo⟩ := by
  obtain ⟨e0, e1, e2, e3, e4, e5, e6, e7, e8, e9⟩ := e
  have r0 := Pre.real_of dx _ _ e0
  have r1 : ∀ i, Merge.Re ((extf .f32 (extractStridedSlice S8192x512 ![0, 4608] p Facts.slices_S8192x10752_S8192x512_0_4608) Facts.bitsLt_bf16_f32 : FVec Ideal S8192x512 .f32) i) := fun i => ⟨_, Pre.real_of _ _ _ e1 i⟩
  have r2 : ∀ i, Merge.Re ((extf .f32 (extractStridedSlice S8192x1024 ![0, 8192] p Facts.slices_S8192x10752_S8192x1024_0_8192) Facts.bitsLt_bf16_f32 : FVec Ideal S8192x1024 .f32) i) := fun i => ⟨_, Pre.real_of _ _ _ e2 i⟩
  have r3 := Pre.real_of ob _ _ e3
  have r4 := Pre.real_of oc _ _ e4
  have r5 := Pre.real_of hw _ _ e5
  have r6 := Pre.real_of gw _ _ e6
  have r7 : ∀ i, Merge.Re ((extf .f32 (shapeCast S512x1024 (extractStridedSlice S1x512x1024 ![0, 0, 0] wb Facts.slices_S2x512x1024_S1x512x1024_0_0_0) Facts.shapeCasts_S1x512x1024_S512x1024) Facts.bitsLt_bf16_f32 : FVec Ideal S512x1024 .f32) i) := fun i => ⟨_, Pre.real_of _ _ _ e7 i⟩
  have r8 : ∀ i, Merge.Re ((extf .f32 (shapeCast S1024x1024 (extractStridedSlice S1x1024x1024 ![0, 0, 0] wc Facts.slices_S2x1024x1024_S1x1024x1024_0_0_0) Facts.shapeCasts_S1x1024x1024_S1024x1024) Facts.bitsLt_bf16_f32 : FVec Ideal S1024x1024 .f32) i) := fun i => ⟨_, Pre.real_of _ _ _ e8 i⟩
  have r9 : ∀ i, Merge.Re ((extf .f32 (shapeCast S1024x1024 (extractStridedSlice S1x1024x1024 ![0, 0, 0] wo Facts.slices_S2x1024x1024_S1x1024x1024_0_0_0) Facts.shapeCasts_S1x1024x1024_S1024x1024) Facts.bitsLt_bf16_f32 : FVec Ideal S1024x1024 .f32) i) := fun i => ⟨_, Pre.real_of _ _ _ e9 i⟩
  refine ⟨fun r l => ⟨_, r0 _⟩, fun r j => ?_, fun r j => ?_, fun r j => ⟨_, r3 _⟩, fun r j => ⟨_, r4 _⟩, fun e => ⟨_, r5 _⟩, fun e => ⟨_, r6 _⟩, fun l k => ?_, fun l k => ?_, fun l k => ?_⟩
  · have q := r1 (ix2 r j)
    pointwise [] at q
    exact q
  · have q := r2 (ix2 r j)
    pointwise [] at q
    refine Eq.mp (congrArg (fun k => Merge.Re (p (ix2 r k))) (Fin.ext ?_ : _ = Merge.zccol j)) q
    show 8192 + j.val = 4608 + (3584 + j.val)
    omega
  · have q := r7 (ix2 l k)
    pointwise [] at q
    exact q
  · have q := r8 (ix2 l k)
    pointwise [] at q
    exact q
  · have q := r9 (ix2 l k)
    pointwise [] at q
    exact q

end

/-- Arguments that agree one by one. -/
theorem mk_congr {a a' : FVec Ideal Kernel11Ideal.S8192x1024 .f32} {b b' : FVec Ideal Kernel11Ideal.S8192x10752 .bf16} {c c' : FVec Ideal Kernel11Ideal.S8192x512 .bf16}
    {d d' : FVec Ideal Kernel11Ideal.S8192x512 .f32} {e e' : FVec Ideal Kernel11Ideal.S8192x1024 .f32} {f f' g g' : FVec Ideal Kernel11Ideal.S1x128 .f32}
    {h h' : FVec Ideal Kernel11Ideal.S1x3072 .f32} {i i' j j' : FVec Ideal Kernel11Ideal.S2x512x1024 .bf16} {k k' l l' : FVec Ideal Kernel11Ideal.S2x1024x1024 .bf16}
    (ha : a = a') (hb : b = b') (hc : c = c') (hd : d = d') (he : e = e') (hf : f = f') (hg : g = g') (hh : h = h') (hi : i = i') (hj : j = j') (hk : k = k') (hl : l = l') :
    Args.mk a b c d e f g h i j k l = Args.mk a' b' c' d' e' f' g' h' i' j' k' l' := by
  rw [ha, hb, hc, hd, he, hf, hg, hh, hi, hj, hk, hl]

/-- Two arrays that agree entry by entry. -/
theorem ext2 {n d : ℕ} {x y : (⟨2, ![n, d]⟩ : Shape).Idx → EReal} (h : ∀ (r : Fin n) (k : Fin d), x (ix2 r k) = y (ix2 r k)) : x = y := by
  funext j
  obtain ⟨r, k, rfl⟩ : ∃ (r : Fin n) (k : Fin d), j = ix2 r k := ⟨j 0, j 1, by funext a; match a with | ⟨0, _⟩ => rfl | ⟨1, _⟩ => rfl⟩
  exact h r k

/-- On arguments that agree and hold real numbers, the call and the reference end with the same gradients. -/
theorem algebraic : @Cert.algebraic_Kernel11Ideal_Reference11Ideal_pre_finite_heads Cert.Kernel11Ideal.Gen.facts Cert.Reference11Ideal.Gen.facts preFacts := by
  intro m g m' g' hpre hagree
  refine ⟨fun c => (Cert.Kernel11Ideal.Gen.dats m 0 c).arrAt 12 (Cert.Kernel11Ideal.cfgs 0).N, fun c => (Cert.Kernel11Ideal.Gen.dats m 0 c).arrAt 13 (Cert.Kernel11Ideal.cfgs 0).N, fun c => (Cert.Kernel11Ideal.Gen.dats m 0 c).arrAt 14 (Cert.Kernel11Ideal.cfgs 0).N, fun c => dpArr m c, fun c => (Cert.Kernel11Ideal.Gen.dats m 0 c).arrAt 16 (Cert.Kernel11Ideal.cfgs 0).N, fun c => (Cert.Kernel11Ideal.Gen.dats m 0 c).arrAt 17 (Cert.Kernel11Ideal.cfgs 0).N, fun c => (Cert.Kernel11Ideal.Gen.dats m 0 c).arrAt 18 (Cert.Kernel11Ideal.cfgs 0).N, fun c => (Cert.Kernel11Ideal.Gen.dats m 0 c).arrAt 19 (Cert.Kernel11Ideal.cfgs 0).N, fun c => (Cert.Kernel11Ideal.Gen.dats m 0 c).arrAt 20 (Cert.Kernel11Ideal.cfgs 0).N, fun c => (Cert.Kernel11Ideal.Gen.dats m 0 c).arrAt 21 (Cert.Kernel11Ideal.cfgs 0).N, fun c => (Cert.Kernel11Ideal.Gen.dats m 0 c).arrAt 22 (Cert.Kernel11Ideal.cfgs 0).N, run_blocks m g, ?_⟩
  refine (θ_run _ _ _).mono (fun r h c => ?_) (Cert.Reference11Ideal.Value.run m' g')
  haveI := preFacts
  have hr : Ref.Reals (args m c) := of_pre _ _ _ _ _ _ _ _ _ _ _ _ (hpre c)
  obtain ⟨k0, k1, k2, k3, k4, k5, k6, k7, k8, k9, k10, k11⟩ := h c
  obtain ⟨a0, a1, a2, a3, a4, a5, a6, a7, a8, a9, a10, a11⟩ := hagree c
  have hA : Ref.argsV (StableHlo.launchContents m' c) = args m c := mk_congr a0 a1 a2 a3 a4 a5 a6 a7 a8 a9 a10 a11
  have hr' : Ref.Reals (Ref.argsV (StableHlo.launchContents m' c)) := hA ▸ hr
  refine ⟨k0.trans ?_, k1.trans ?_, k2.trans ?_, k3.trans ?_, k4.trans ?_, k5.trans ?_, k6.trans ?_, k7.trans ?_, k8.trans ?_, k9.trans ?_, k10.trans ?_, k11⟩
  · exact Eq.trans (ext2 fun r k => (Ref.v94_at _ r k).trans (congrArg (fun A => dyA A r k) hA)) (arr12 m c).symm
  · exact Eq.trans (ext2 fun r k => (Ref.v120_at _ hr' r k).trans (congrArg (fun A => dob A r k) hA)) (arr13 m c).symm
  · exact Eq.trans (ext2 fun r k => (Ref.v146_at _ hr' r k).trans (congrArg (fun A => doc A r k) hA)) (arr14 m c).symm
  · refine ext2 fun r k => (Ref.v148_at _ hr' r k).trans ?_
    rw [hA]
    pointwise [dpArr]
    exact (arr15 m c r k).symm
  · exact Eq.trans (ext2 fun r k => (Ref.v149_at _ r k).trans (congrArg (fun A => mgS A r k) hA)) (arr16 m c).symm
  · exact Eq.trans (ext2 fun r k => (Ref.v151_at _ r k).trans (congrArg (fun A => dy3 A r k) hA)) (arr17 m c).symm
  · exact Eq.trans (ext2 fun r k => (Ref.v36_at _ r k).trans (congrArg (fun A => ybS A r k) hA)) (arr18 m c).symm
  · exact Eq.trans (ext2 fun r k => (Ref.v56_at _ r k).trans (congrArg (fun A => ycS A r k) hA)) (arr19 m c).symm
  · exact Eq.trans (ext2 fun r k => by rw [Fin.fin_one_eq_zero r]; exact (Ref.v91_at _ k).trans (congrArg (fun A => dbg A k) hA)) (arr20 m c).symm
  · exact Eq.trans (ext2 fun r k => by rw [Fin.fin_one_eq_zero r]; exact (Ref.v105_at _ k).trans (congrArg (fun A => dhw A k) hA)) (arr21 m c).symm
  · exact Eq.trans (ext2 fun r k => by rw [Fin.fin_one_eq_zero r]; exact (Ref.v131_at _ k).trans (congrArg (fun A => dgw A k) hA)) (arr22 m c).symm

end Cert.MrgB

end
-- ==== Proof.MatYa.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

noncomputable section

namespace Cert.Mat7
open Cert.Kernel7Ideal Cert.Kernel7Ideal.Gen Cert.Kernel7Ideal.Value Idealize.ShloMosaic Idealize.ShloMosaic.TcCoe Idealize.SL.Sem
open Idealize.ShloMosaic.Pipeline (Dat)

/-! The gradient of the weight of the first mixer's output projection. The call adds up, over four blocks of rows, the products of the columns, and at the last block it also
writes the sum in the narrower format; over the reals both results are the product summed over all the rows. -/

/-- The sum starts at zero. -/
theorem zero (j) : k0_pay1 (F := Ideal) j = 0 := by pointwise [k0_pay1]

/-- One step adds the products over its block of rows. -/
theorem step (acc : Vec Ideal S512x1024 .f32) (a : Vec Ideal S2048x512 .bf16) (b : Vec Ideal S2048x1024 .bf16) (j) :
    k0_pay2 acc a b j = acc j + ∑ k : Fin 2048, a (ix2 k (j 0)) * b (ix2 k (j 1)) := by pointwise [k0_pay2]

/-- The narrower copy holds the same numbers. -/
theorem copy (acc : Vec Ideal S512x1024 .f32) (j) : k0_pay3 acc j = acc j := by pointwise [k0_pay3]

/-- The column of the given array that a column of the call's part of it is. -/
def col (k : Fin 1024) : Fin 3072 := ⟨0 + k.val, by omega⟩

/-- The product over all the rows. -/
def prod (a : FVec Ideal S8192x512 .bf16) (b : FVec Ideal S8192x3072 .bf16) : S512x1024.Idx → EReal :=
  fun j => ∑ l : Fin 8192, a (ix2 l (j 0)) * b (ix2 l (col (j 1)))

/-- Where each window's block lies. -/
theorem idx : ∀ t : Fin cfg0.N, win0_0.index t = ![t.val % 4, 0] ∧ win0_1.index t = ![t.val % 4, 0] ∧ win0_2.index t = ![0, 0] ∧ win0_3.index t = ![0, 0] :=
  (by decide +kernel : ∀ t : Fin grid0.N, _)

/-- The sum after the last block. -/
theorem sum (m : (ℓ : Loc nD τ sig) → Buf (Elt Ideal) ℓ) (c : Dev nD) (t : Fin cfg0.N) (h3 : t.val % 4 = 3) (y : S512x1024.Idx) :
    (outsAt0 m c t.val t.isLt).1 y = prod (m ((c : Thread nD τ).loc main_arg0)) (m ((c : Thread nD τ).loc main_arg1)) y := by
  rw [Pipeline.eq_sum_fin_of_reset_step_apply_of_flush (fun n h => (outsAt0 m c n h).1) 4 (fun _ => 0) _
    (fun t h j => by rw [outsAt0_A m c t h (by omega)]; frame_out; rw [step, zero])
    (fun t h j => by
      by_cases h1 : t.val % 4 = 3
      · rw [outsAt0_C m c t h h1]; frame_out; rw [step]
      · rw [outsAt0_B m c t h h1]; frame_out; rw [step])
    t h3 _, zero_add]
  unfold prod
  refine Fin.sum_mul_add_congr fun s k hl => ?_
  refine congrArg₂ (fun a b : EReal => a * b) ?_ ?_
  · blk_ext [iblk, V, idx t, idx ⟨_, Pipeline.run_point_lt_of_flush t h3 s⟩]
  · blk_ext [iblk, V, idx t, idx ⟨_, Pipeline.run_point_lt_of_flush t h3 s⟩, col]

/-- The copy after the last block. -/
theorem sum_copy (m : (ℓ : Loc nD τ sig) → Buf (Elt Ideal) ℓ) (c : Dev nD) (t : Fin cfg0.N) (h3 : t.val % 4 = 3) (y : S512x1024.Idx) :
    (outsAt0 m c t.val t.isLt).2 y = prod (m ((c : Thread nD τ).loc main_arg0)) (m ((c : Thread nD τ).loc main_arg1)) y := by
  rw [← sum m c t h3 y, outsAt0_C m c t (by omega) h3]
  frame_out
  rw [copy]

/-- The call's results. -/
theorem arr2 (m : (ℓ : Loc nD τ sig) → Buf (Elt Ideal) ℓ) (c : Dev nD) :
    (dats m 0 c).arrAt 2 (cfgs 0).N = (prod (m ((c : Thread nD τ).loc main_arg0)) (m ((c : Thread nD τ).loc main_arg1)) : FVec Ideal S512x1024 .f32) := by
  refine (dats m 0 c).arrAt_eq_of_covers 2 _ (by decide +kernel) fun t hf y => ?_
  blk_simp
  rw [after0_2]
  refine (sum m c t ((flush0_2 t).mp hf) y).trans (congrArg (prod _ _) ?_)
  blk_ext [idx t]

theorem arr3 (m : (ℓ : Loc nD τ sig) → Buf (Elt Ideal) ℓ) (c : Dev nD) :
    (dats m 0 c).arrAt 3 (cfgs 0).N = (prod (m ((c : Thread nD τ).loc main_arg0)) (m ((c : Thread nD τ).loc main_arg1)) : FVec Ideal S512x1024 .bf16) := by
  refine (dats m 0 c).arrAt_eq_of_covers 3 _ (by decide +kernel) fun t hf y => ?_
  blk_simp
  rw [after0_3]
  refine (sum_copy m c t ((flush0_3 t).mp hf) y).trans (congrArg (prod _ _) ?_)
  blk_ext [idx t]

/-- The reference's result. -/
theorem ref (a : FVec Ideal S8192x512 .bf16) (b : FVec Ideal S8192x3072 .bf16) :
    (transpose Cert.Reference7Ideal.S512x1024 [1, 0] (Host.dotGeneral Cert.Reference7Ideal.dot_S8192x1024_S8192x512_S1024x512_0_0_1_1_n_n none (extf (F := Ideal) .f32 (extractStridedSlice Cert.Reference7Ideal.S8192x1024 ![0, 0] b Cert.Reference7Ideal.Gen.facts.toFacts₀.slices_S8192x3072_S8192x1024_0_0) Cert.Reference7Ideal.Gen.facts.toFacts₀.bitsLt_bf16_f32)
      (extf (F := Ideal) .f32 a Cert.Reference7Ideal.Gen.facts.toFacts₀.bitsLt_bf16_f32)) Cert.Reference7Ideal.Gen.facts.toFacts₀.transposes_S1024x512_S512x1024_1_0 : FVec Ideal S512x1024 .f32) = prod a b := by
  funext j
  pointwise [prod, col]
  exact Finset.sum_congr rfl fun k _ => mul_comm _ _

/-- On arguments that agree, the call and the reference end with the same gradient and the same copy of it. -/
theorem algebraic : @Cert.algebraic_Kernel7Ideal_Reference7Ideal Cert.Kernel7Ideal.Gen.facts Cert.Reference7Ideal.Gen.facts := by
  intro m g m' g' hpre hagree
  refine ⟨fun c => (dats m 0 c).arrAt 2 (cfgs 0).N, fun c => (dats m 0 c).arrAt 3 (cfgs 0).N, Cert.Kernel7Ideal.Value.run_blocks m g, ?_⟩
  refine (θ_run _ _ _).mono (fun r h c => ?_) (Cert.Reference7Ideal.Value.run m' g')
  obtain ⟨k0, k1, k2⟩ := h c
  obtain ⟨e0, e1⟩ := hagree c
  refine ⟨k0.trans ?_, k1.trans ?_, k2⟩
  · rw [e0, e1]
    exact (ref _ _).trans (arr2 m c).symm
  · rw [e0, e1]
    exact (ref _ _).trans (arr3 m c).symm

end Cert.Mat7

end
-- ==== Proof.MatYb.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

@[expose] public section

noncomputable section

namespace Cert.Mat8
open Cert.Kernel8Ideal Cert.Kernel8Ideal.Gen Cert.Kernel8Ideal.Value Idealize.ShloMosaic Idealize.ShloMosaic.TcCoe Idealize.SL.Sem
open Idealize.ShloMosaic.Pipeline (Dat)

/-! The gradient of the weight of the second mixer's output projection. The call adds up, over four blocks of rows, the products of the columns, and at the last block it also
writes the sum in the narrower format; over the reals both results are the product summed over all the rows. -/

/-- The sum starts at zero. -/
theorem zero (j) : k0_pay1 (F := Ideal) j = 0 := by pointwise [k0_pay1]

/-- One step adds the products over its block of rows. -/
theorem step (acc : Vec Ideal S512x1024 .f32) (a : Vec Ideal S2048x512 .bf16) (b : Vec Ideal S2048x1024 .bf16) (j) :
    k0_pay2 acc a b j = acc j + ∑ k : Fin 2048, a (ix2 k (j 0)) * b (ix2 k (j 1)) := by pointwise [k0_pay2]

/-- The narrower copy holds the same numbers. -/
theorem copy (acc : Vec Ideal S512x1024 .f32) (j) : k0_pay3 acc j = acc j := by pointwise [k0_pay3]

/-- The column of the given array that a column of the call's part of it is. -/
def col (k : Fin 1024) : Fin 3072 := ⟨1024 + k.val, by omega⟩

/-- The product over all the rows. -/
def prod (a : FVec Ideal S8192x512 .bf16) (b : FVec Ideal S8192x3072 .bf16) : S512x1024.Idx → EReal :=
  fun j => ∑ l : Fin 8192, a (ix2 l (j 0)) * b (ix2 l (col (j 1)))

/-- Where each window's block lies. -/
theorem idx : ∀ t : Fin cfg0.N, win0_0.index t = ![t.val % 4, 0] ∧ win0_1.index t = ![t.val % 4, 1] ∧ win0_2.index t = ![0, 0] ∧ win0_3.index t = ![0, 0] :=
  (by decide +kernel : ∀ t : Fin grid0.N, _)

/-- The sum after the last block. -/
theorem sum (m : (ℓ : Loc nD τ sig) → Buf (Elt Ideal) ℓ) (c : Dev nD) (t : Fin cfg0.N) (h3 : t.val % 4 = 3) (y : S512x1024.Idx) :
    (outsAt0 m c t.val t.isLt).1 y = prod (m ((c : Thread nD τ).loc main_arg0)) (m ((c : Thread nD τ).loc main_arg1)) y := by
  rw [Pipeline.eq_sum_fin_of_reset_step_apply_of_flush (fun n h => (outsAt0 m c n h).1) 4 (fun _ => 0) _
    (fun t h j => by rw [outsAt0_A m c t h (by omega)]; frame_out; rw [step, zero])
    (fun t h j => by
      by_cases h1 : t.val % 4 = 3
      · rw [outsAt0_C m c t h h1]; frame_out; rw [step]
      · rw [outsAt0_B m c t h h1]; frame_out; rw [step])
    t h3 _, zero_add]
  unfold prod
  refine Fin.sum_mul_add_congr fun s k hl => ?_
  refine congrArg₂ (fun a b : EReal => a * b) ?_ ?_
  · blk_ext [iblk, V, idx t, idx ⟨_, Pipeline.run_point_lt_of_flush t h3 s⟩]
  · blk_ext [iblk, V, idx t, idx ⟨_, Pipeline.run_point_lt_of_flush t h3 s⟩, col]

/-- The copy after the last block. -/
theorem sum_copy (m : (ℓ : Loc nD τ sig) → Buf (Elt Ideal) ℓ) (c : Dev nD) (t : Fin cfg0.N) (h3 : t.val % 4 = 3) (y : S512x1024.Idx) :
    (outsAt0 m c t.val t.isLt).2 y = prod (m ((c : Thread nD τ).loc main_arg0)) (m ((c : Thread nD τ).loc main_arg1)) y := by
  rw [← sum m c t h3 y, outsAt0_C m c t (by omega) h3]
  frame_out
  rw [copy]

/-- The call's results. -/
theorem arr2 (m : (ℓ : Loc nD τ sig) → Buf (Elt Ideal) ℓ) (c : Dev nD) :
    (dats m 0 c).arrAt 2 (cfgs 0).N = (prod (m ((c : Thread nD τ).loc main_arg0)) (m ((c : Thread nD τ).loc main_arg1)) : FVec Ideal S512x1024 .f32) := by
  refine (dats m 0 c).arrAt_eq_of_covers 2 _ (by decide +kernel) fun t hf y => ?_
  blk_simp
  rw [after0_2]
  refine (sum m c t ((flush0_2 t).mp hf) y).trans (congrArg (prod _ _) ?_)
  blk_ext [idx t]

theorem arr3 (m : (ℓ : Loc nD τ sig) → Buf (Elt Ideal) ℓ) (c : Dev nD) :
    (dats m 0 c).arrAt 3 (cfgs 0).N = (prod (m ((c : Thread nD τ).loc main_arg0)) (m ((c : Thread nD τ).loc main_arg1)) : FVec Ideal S512x1024 .bf16) := by
  refine (dats m 0 c).arrAt_eq_of_covers 3 _ (by decide +kernel) fun t hf y => ?_
  blk_simp
  rw [after0_3]
  refine (sum_copy m c t ((flush0_3 t).mp hf) y).trans (congrArg (prod _ _) ?_)
  blk_ext [idx t]

/-- The reference's result. -/
theorem ref (a : FVec Ideal S8192x512 .bf16) (b : FVec Ideal S8192x3072 .bf16) :
    (transpose Cert.Reference8Ideal.S512x1024 [1, 0] (Host.dotGeneral Cert.Reference8Ideal.dot_S8192x1024_S8192x512_S1024x512_0_0_1_1_n_n none (extf (F := Ideal) .f32 (extractStridedSlice Cert.Reference8Ideal.S8192x1024 ![0, 1024] b Cert.Reference8Ideal.Gen.facts.toFacts₀.slices_S8192x3072_S8192x1024_0_1024) Cert.Reference8Ideal.Gen.facts.toFacts₀.bitsLt_bf16_f32)
      (extf (F := Ideal) .f32 a Cert.Reference8Ideal.Gen.facts.toFacts₀.bitsLt_bf16_f32)) Cert.Reference8Ideal.Gen.facts.toFacts₀.transposes_S1024x512_S512x1024_1_0 : FVec Ideal S512x1024 .f32) = prod a b := by
  funext j
  pointwise [prod, col]
  exact Finset.sum_congr rfl fun k _ => mul_comm _ _

/-- On arguments that agree, the call and the reference end with the same gradient and the same copy of it. -/
theorem algebraic : @Cert.algebraic_Kernel8Ideal_Reference8Ideal Cert.Kernel8Ideal.Gen.facts Cert.Reference8Ideal.Gen.facts := by
  intro m g m' g' hpre hagree
  refine ⟨fun c => (dats m 0 c).arrAt 2 (cfgs 0).N, fun c => (dats m 0 c).arrAt 3 (cfgs 0).N, Cert.Kernel8Ideal.Value.run_blocks m g, ?_⟩
  refine (θ_run _ _ _).mono (fun r h c => ?_) (Cert.Reference8Ideal.Value.run m' g')
  obtain ⟨k0, k1, k2⟩ := h c
  obtain ⟨e0, e1⟩ := hagree c
  refine ⟨k0.trans ?_, k1.trans ?_, k2⟩
  · rw [e0, e1]
    exact (ref _ _).trans (arr2 m c).symm
  · rw [e0, e1]
    exact (ref _ _).trans (arr3 m c).symm

end Cert.Mat8

end
-- ==== Proof.MatYc.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public section

noncomputable section

namespace Cert.Mat9
open Cert.Kernel9Ideal Cert.Kernel9Ideal.Gen Cert.Kernel9Ideal.Value Idealize.ShloMosaic Idealize.ShloMosaic.TcCoe Idealize.SL.Sem
open Idealize.ShloMosaic.Pipeline (Dat)

/-! The gradient of the weight of the third mixer's output projection. The call adds up, over four blocks of rows, the products of the columns, and at the last block it also
writes the sum in the narrower format; over the reals both results are the product summed over all the rows. -/

/-- The sum starts at zero. -/
theorem zero (j) : k0_pay1 (F := Ideal) j = 0 := by pointwise [k0_pay1]

/-- One step adds the products over its block of rows. -/
theorem step (acc : Vec Ideal S1024x1024 .f32) (a : Vec Ideal S2048x1024 .bf16) (b : Vec Ideal S2048x1024 .bf16) (j) :
    k0_pay2 acc a b j = acc j + ∑ k : Fin 2048, a (ix2 k (j 0)) * b (ix2 k (j 1)) := by pointwise [k0_pay2]

/-- The narrower copy holds the same numbers. -/
theorem copy (acc : Vec Ideal S1024x1024 .f32) (j) : k0_pay3 acc j = acc j := by pointwise [k0_pay3]

/-- The column of the given array that a column of the call's part of it is. -/
def col (k : Fin 1024) : Fin 3072 := ⟨2048 + k.val, by omega⟩

/-- The product over all the rows. -/
def prod (a : FVec Ideal S8192x1024 .bf16) (b : FVec Ideal S8192x3072 .bf16) : S1024x1024.Idx → EReal :=
  fun j => ∑ l : Fin 8192, a (ix2 l (j 0)) * b (ix2 l (col (j 1)))

/-- Where each window's block lies. -/
theorem idx : ∀ t : Fin cfg0.N, win0_0.index t = ![t.val % 4, 0] ∧ win0_1.index t = ![t.val % 4, 2] ∧ win0_2.index t = ![0, 0] ∧ win0_3.index t = ![0, 0] :=
  (by decide +kernel : ∀ t : Fin grid0.N, _)

/-- The sum after the last block. -/
theorem sum (m : (ℓ : Loc nD τ sig) → Buf (Elt Ideal) ℓ) (c : Dev nD) (t : Fin cfg0.N) (h3 : t.val % 4 = 3) (y : S1024x1024.Idx) :
    (outsAt0 m c t.val t.isLt).1 y = prod (m ((c : Thread nD τ).loc main_arg0)) (m ((c : Thread nD τ).loc main_arg1)) y := by
  rw [Pipeline.eq_sum_fin_of_reset_step_apply_of_flush (fun n h => (outsAt0 m c n h).1) 4 (fun _ => 0) _
    (fun t h j => by rw [outsAt0_A m c t h (by omega)]; frame_out; rw [step, zero])
    (fun t h j => by
      by_cases h1 : t.val % 4 = 3
      · rw [outsAt0_C m c t h h1]; frame_out; rw [step]
      · rw [outsAt0_B m c t h h1]; frame_out; rw [step])
    t h3 _, zero_add]
  unfold prod
  refine Fin.sum_mul_add_congr fun s k hl => ?_
  refine congrArg₂ (fun a b : EReal => a * b) ?_ ?_
  · blk_ext [iblk, V, idx t, idx ⟨_, Pipeline.run_point_lt_of_flush t h3 s⟩]
  · blk_ext [iblk, V, idx t, idx ⟨_, Pipeline.run_point_lt_of_flush t h3 s⟩, col]

/-- The copy after the last block. -/
theorem sum_copy (m : (ℓ : Loc nD τ sig) → Buf (Elt Ideal) ℓ) (c : Dev nD) (t : Fin cfg0.N) (h3 : t.val % 4 = 3) (y : S1024x1024.Idx) :
    (outsAt0 m c t.val t.isLt).2 y = prod (m ((c : Thread nD τ).loc main_arg0)) (m ((c : Thread nD τ).loc main_arg1)) y := by
  rw [← sum m c t h3 y, outsAt0_C m c t (by omega) h3]
  frame_out
  rw [copy]

/-- The call's results. -/
theorem arr2 (m : (ℓ : Loc nD τ sig) → Buf (Elt Ideal) ℓ) (c : Dev nD) :
    (dats m 0 c).arrAt 2 (cfgs 0).N = (prod (m ((c : Thread nD τ).loc main_arg0)) (m ((c : Thread nD τ).loc main_arg1)) : FVec Ideal S1024x1024 .f32) := by
  refine (dats m 0 c).arrAt_eq_of_covers 2 _ (by decide +kernel) fun t hf y => ?_
  blk_simp
  rw [after0_2]
  refine (sum m c t ((flush0_2 t).mp hf) y).trans (congrArg (prod _ _) ?_)
  blk_ext [idx t]

theorem arr3 (m : (ℓ : Loc nD τ sig) → Buf (Elt Ideal) ℓ) (c : Dev nD) :
    (dats m 0 c).arrAt 3 (cfgs 0).N = (prod (m ((c : Thread nD τ).loc main_arg0)) (m ((c : Thread nD τ).loc main_arg1)) : FVec Ideal S1024x1024 .bf16) := by
  refine (dats m 0 c).arrAt_eq_of_covers 3 _ (by decide +kernel) fun t hf y => ?_
  blk_simp
  rw [after0_3]
  refine (sum_copy m c t ((flush0_3 t).mp hf) y).trans (congrArg (prod _ _) ?_)
  blk_ext [idx t]

/-- The reference's result. -/
theorem ref (a : FVec Ideal S8192x1024 .bf16) (b : FVec Ideal S8192x3072 .bf16) :
    (transpose Cert.Reference9Ideal.S1024x1024 [1, 0] (Host.dotGeneral Cert.Reference9Ideal.dot_S8192x1024_S8192x1024_S1024x1024_0_0_1_1_n_n none (extf (F := Ideal) .f32 (extractStridedSlice Cert.Reference9Ideal.S8192x1024 ![0, 2048] b Cert.Reference9Ideal.Gen.facts.toFacts₀.slices_S8192x3072_S8192x1024_0_2048) Cert.Reference9Ideal.Gen.facts.toFacts₀.bitsLt_bf16_f32)
      (extf (F := Ideal) .f32 a Cert.Reference9Ideal.Gen.facts.toFacts₀.bitsLt_bf16_f32)) Cert.Reference9Ideal.Gen.facts.toFacts₀.transposes_S1024x1024_S1024x1024_1_0 : FVec Ideal S1024x1024 .f32) = prod a b := by
  funext j
  pointwise [prod, col]
  exact Finset.sum_congr rfl fun k _ => mul_comm _ _

/-- On arguments that agree, the call and the reference end with the same gradient and the same copy of it. -/
theorem algebraic : @Cert.algebraic_Kernel9Ideal_Reference9Ideal Cert.Kernel9Ideal.Gen.facts Cert.Reference9Ideal.Gen.facts := by
  intro m g m' g' hpre hagree
  refine ⟨fun c => (dats m 0 c).arrAt 2 (cfgs 0).N, fun c => (dats m 0 c).arrAt 3 (cfgs 0).N, Cert.Kernel9Ideal.Value.run_blocks m g, ?_⟩
  refine (θ_run _ _ _).mono (fun r h c => ?_) (Cert.Reference9Ideal.Value.run m' g')
  obtain ⟨k0, k1, k2⟩ := h c
  obtain ⟨e0, e1⟩ := hagree c
  refine ⟨k0.trans ?_, k1.trans ?_, k2⟩
  · rw [e0, e1]
    exact (ref _ _).trans (arr2 m c).symm
  · rw [e0, e1]
    exact (ref _ _).trans (arr3 m c).symm

end Cert.Mat9

end
-- ==== Proof.lean ====
/- The claims: the two calls of the HGRN2 mixer, the forward and backward calls of the input projection and of the merge, and the merge's weight gradients run and leave their
   arguments as they were; all but the mixer's forward call end with the results of their references. -/
module

public import proofs.«01_k».proof.Defs
public import proofs.«01_k».proof.Proof.AlgB
public import proofs.«01_k».proof.Proof.MatB
public import proofs.«01_k».proof.Proof.InA
public import proofs.«01_k».proof.Proof.FwdB
public import proofs.«01_k».proof.Proof.FwdI
public import proofs.«01_k».proof.Proof.FwdV
public import proofs.«01_k».proof.Proof.MatO
public import proofs.«01_k».proof.Proof.MrgR
public import proofs.«01_k».proof.Proof.MrgJ
public import proofs.«01_k».proof.Proof.MatYa
public import proofs.«01_k».proof.Proof.MatYb
public import proofs.«01_k».proof.Proof.MatYc
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.ReferenceIdeal.Run
public import proofs.«01_k».proof.Proof.Gen.Reference2Ideal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The gradient's reference ends, leaves its arguments as they were, and has no semaphore. -/
theorem refFrame : Cert.quiescent_ReferenceIdeal := fun m ρ _ =>
  (θ_run _ _ _).mono (fun r h => ⟨fun c => (h c).2.2, sem_eq_zero_of_no_sems rfl r.2⟩)
    (Cert.ReferenceIdeal.Value.run m ρ)

/-- The forward reference ends, leaves its arguments as they were, and has no semaphore. -/
theorem refFrame2 : Cert.quiescent_Reference2Ideal := fun m ρ _ =>
  (θ_run _ _ _).mono (fun r h => ⟨fun c => (h c).2.2, sem_eq_zero_of_no_sems rfl r.2⟩)
    (Cert.Reference2Ideal.Value.run m ρ)

/-- The reference of the projection's weight gradient ends, leaves its arguments as they were, and has no semaphore. -/
theorem refFrame3 : Cert.quiescent_Reference3Ideal := fun m ρ _ =>
  (θ_run _ _ _).mono (fun r h => ⟨fun c => (h c).2, sem_eq_zero_of_no_sems rfl r.2⟩)
    (Cert.Reference3Ideal.Value.run m ρ)

/-- The reference of the gradient of the projection's input ends, leaves its arguments as they were, and has no semaphore. -/
theorem refFrame4 : Cert.quiescent_Reference4Ideal := fun m ρ _ =>
  (θ_run _ _ _).mono (fun r h => ⟨fun c => (h c).2.2, sem_eq_zero_of_no_sems rfl r.2⟩)
    (Cert.Reference4Ideal.Value.run m ρ)

/-- The reference of the input projection ends, leaves its arguments as they were, and has no semaphore. -/
theorem refFrame5 : Cert.quiescent_Reference5Ideal := fun m ρ _ =>
  (θ_run _ _ _).mono (fun r h => ⟨fun c => (h c).2.2, sem_eq_zero_of_no_sems rfl r.2⟩)
    (Cert.Reference5Ideal.Value.run m ρ)

/-- The reference of the output projection's weight gradient ends, leaves its arguments as they were, and has no semaphore. -/
theorem refFrame6 : Cert.quiescent_Reference6Ideal := fun m ρ _ =>
  (θ_run _ _ _).mono (fun r h => ⟨fun c => (h c).2.2, sem_eq_zero_of_no_sems rfl r.2⟩)
    (Cert.Reference6Ideal.Value.run m ρ)

/-- The reference of the first mixer's weight gradient ends, leaves its arguments as they were, and has no semaphore. -/
theorem refFrame7 : Cert.quiescent_Reference7Ideal := fun m ρ _ =>
  (θ_run _ _ _).mono (fun r h => ⟨fun c => (h c).2.2, sem_eq_zero_of_no_sems rfl r.2⟩)
    (Cert.Reference7Ideal.Value.run m ρ)

/-- The reference of the second mixer's weight gradient ends, leaves its arguments as they were, and has no semaphore. -/
theorem refFrame8 : Cert.quiescent_Reference8Ideal := fun m ρ _ =>
  (θ_run _ _ _).mono (fun r h => ⟨fun c => (h c).2.2, sem_eq_zero_of_no_sems rfl r.2⟩)
    (Cert.Reference8Ideal.Value.run m ρ)

/-- The reference of the third mixer's weight gradient ends, leaves its arguments as they were, and has no semaphore. -/
theorem refFrame9 : Cert.quiescent_Reference9Ideal := fun m ρ _ =>
  (θ_run _ _ _).mono (fun r h => ⟨fun c => (h c).2.2, sem_eq_zero_of_no_sems rfl r.2⟩)
    (Cert.Reference9Ideal.Value.run m ρ)

/-- The reference of the merge's forward call ends, leaves its arguments as they were, and has no semaphore. -/
theorem refFrame10 : Cert.quiescent_Reference10Ideal := fun m ρ _ =>
  (θ_run _ _ _).mono (fun r h => ⟨fun c => (h c).2, sem_eq_zero_of_no_sems rfl r.2⟩)
    (Cert.Reference10Ideal.Value.run m ρ)

/-- The reference of the merge's backward call ends, leaves its arguments as they were, and has no semaphore. -/
theorem refFrame11 : Cert.quiescent_Reference11Ideal := fun m ρ _ =>
  (θ_run _ _ _).mono (fun r h => ⟨fun c => (h c).2.2.2.2.2.2.2.2.2.2.2, sem_eq_zero_of_no_sems rfl r.2⟩)
    (Cert.Reference11Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Hgrn.Pre.facts, Cert.Mat4.preFacts, Cert.MrgB.preFacts, by
  exact ⟨fun m ρ _ => Cert.Kernel.Gen.frame m ρ, fun m ρ _ => Cert.KernelIdeal.Gen.frame m ρ, fun m ρ _ => Cert.KernelIdeal.Gen.frame m ρ,
    refFrame, fun m ρ _ => refFrame m ρ trivial,
    fun m ρ _ => Cert.Kernel2.Gen.frame m ρ, fun m ρ _ => Cert.Kernel2Ideal.Gen.frame m ρ, refFrame2,
    fun m ρ _ => Cert.Kernel3.Gen.frame m ρ, fun m ρ _ => Cert.Kernel3Ideal.Gen.frame m ρ, refFrame3,
    fun m ρ _ => Cert.Kernel4.Gen.frame m ρ, fun m ρ _ => Cert.Kernel4Ideal.Gen.frame m ρ, fun m ρ _ => Cert.Kernel4Ideal.Gen.frame m ρ, refFrame4, fun m ρ _ => refFrame4 m ρ trivial,
    fun m ρ _ => Cert.FwdB.frame m ρ, fun m ρ _ => Cert.FwdI.frame m ρ, refFrame5,
    fun m ρ _ => Cert.Kernel6.Gen.frame m ρ, fun m ρ _ => Cert.Kernel6Ideal.Gen.frame m ρ, refFrame6,
    fun m ρ _ => Cert.Kernel7.Gen.frame m ρ, fun m ρ _ => Cert.Kernel7Ideal.Gen.frame m ρ, refFrame7,
    fun m ρ _ => Cert.Kernel8.Gen.frame m ρ, fun m ρ _ => Cert.Kernel8Ideal.Gen.frame m ρ, refFrame8,
    fun m ρ _ => Cert.Kernel9.Gen.frame m ρ, fun m ρ _ => Cert.Kernel9Ideal.Gen.frame m ρ, refFrame9,
    fun m ρ _ => Cert.Kernel10.Gen.frame m ρ, fun m ρ _ => Cert.Kernel10Ideal.Gen.frame m ρ, refFrame10,
    fun m ρ _ => Cert.Kernel11.Gen.frame m ρ, fun m ρ _ => Cert.Kernel11Ideal.Gen.frame m ρ, fun m ρ _ => Cert.Kernel11Ideal.Gen.frame m ρ, refFrame11, fun m ρ _ => refFrame11 m ρ trivial,
    trivial, Cert.Hgrn.Alg.algebraic, trivial, trivial, Cert.Mat3.algebraic,
    trivial, Cert.Mat4.algebraic, trivial, Cert.FwdI.algebraic, trivial, Cert.Mat6.algebraic, trivial, Cert.Mat7.algebraic, trivial, Cert.Mat8.algebraic, trivial, Cert.Mat9.algebraic,
    trivial, Cert.Merge.algebraic, trivial, Cert.MrgB.algebraic⟩⟩

end Cert.Proof

end
